-- ==== Defs.lean ====
def Pre_HostGradX (m : (ℓ : Loc Cert.HostGradX.nD Cert.HostGradX.τ Cert.HostGradX.sig) → Buf (Elt Bits) ℓ) : Prop :=
  True

def Pre_HostGradXIdeal (m : (ℓ : Loc Cert.HostGradXIdeal.nD Cert.HostGradXIdeal.τ Cert.HostGradXIdeal.sig) → Buf (Elt Ideal) ℓ) : Prop :=
  True

def Pre_HostGradXRefIdeal (m : (ℓ : Loc Cert.HostGradXRefIdeal.nD Cert.HostGradXRefIdeal.τ Cert.HostGradXRefIdeal.sig) → Buf (Elt Ideal) ℓ) : Prop :=
  True

def Pre_HostProj (m : (ℓ : Loc Cert.HostProj.nD Cert.HostProj.τ Cert.HostProj.sig) → Buf (Elt Bits) ℓ) : Prop :=
  True

def Pre_HostProjIdeal (m : (ℓ : Loc Cert.HostProjIdeal.nD Cert.HostProjIdeal.τ Cert.HostProjIdeal.sig) → Buf (Elt Ideal) ℓ) : Prop :=
  True

def Pre_HostProjRefIdeal (m : (ℓ : Loc Cert.HostProjRefIdeal.nD Cert.HostProjRefIdeal.τ Cert.HostProjRefIdeal.sig) → Buf (Elt Ideal) ℓ) : Prop :=
  True

def Pre_HostFf2 (m : (ℓ : Loc Cert.HostFf2.nD Cert.HostFf2.τ Cert.HostFf2.sig) → Buf (Elt Bits) ℓ) : Prop :=
  True

def Pre_HostFf2Ideal (m : (ℓ : Loc Cert.HostFf2Ideal.nD Cert.HostFf2Ideal.τ Cert.HostFf2Ideal.sig) → Buf (Elt Ideal) ℓ) : Prop :=
  True

def Pre_HostFf2RefIdeal (m : (ℓ : Loc Cert.HostFf2RefIdeal.nD Cert.HostFf2RefIdeal.τ Cert.HostFf2RefIdeal.sig) → Buf (Elt Ideal) ℓ) : Prop :=
  True

def Pre_DffHidden (m : (ℓ : Loc Cert.DffHidden.nD Cert.DffHidden.τ Cert.DffHidden.sig) → Buf (Elt Bits) ℓ) : Prop :=
  True

def Pre_DffHiddenIdeal (m : (ℓ : Loc Cert.DffHiddenIdeal.nD Cert.DffHiddenIdeal.τ Cert.DffHiddenIdeal.sig) → Buf (Elt Ideal) ℓ) : Prop :=
  True

def Pre_DffHiddenRefIdeal (m : (ℓ : Loc Cert.DffHiddenRefIdeal.nD Cert.DffHiddenRefIdeal.τ Cert.DffHiddenRefIdeal.sig) → Buf (Elt Ideal) ℓ) : Prop :=
  True

def Pre_HostMix (m : (ℓ : Loc Cert.HostMix.nD Cert.HostMix.τ Cert.HostMix.sig) → Buf (Elt Bits) ℓ) : Prop :=
  True

def Pre_HostMixIdeal (m : (ℓ : Loc Cert.HostMixIdeal.nD Cert.HostMixIdeal.τ Cert.HostMixIdeal.sig) → Buf (Elt Ideal) ℓ) : Prop :=
  True

def Pre_HostMixRefIdeal (m : (ℓ : Loc Cert.HostMixRefIdeal.nD Cert.HostMixRefIdeal.τ Cert.HostMixRefIdeal.sig) → Buf (Elt Ideal) ℓ) : Prop :=
  True

def Pre_MixOutBwd (m : (ℓ : Loc Cert.MixOutBwd.nD Cert.MixOutBwd.τ Cert.MixOutBwd.sig) → Buf (Elt Bits) ℓ) : Prop :=
  True

def Pre_MixOutBwdIdeal (m : (ℓ : Loc Cert.MixOutBwdIdeal.nD Cert.MixOutBwdIdeal.τ Cert.MixOutBwdIdeal.sig) → Buf (Elt Ideal) ℓ) : Prop :=
  True

def Pre_MixOutBwdRefIdeal (m : (ℓ : Loc Cert.MixOutBwdRefIdeal.nD Cert.MixOutBwdRefIdeal.τ Cert.MixOutBwdRefIdeal.sig) → Buf (Elt Ideal) ℓ) : Prop :=
  True

def Pre_DwFf2 (m : (ℓ : Loc Cert.DwFf2.nD Cert.DwFf2.τ Cert.DwFf2.sig) → Buf (Elt Bits) ℓ) : Prop :=
  True

def Pre_DwFf2Ideal (m : (ℓ : Loc Cert.DwFf2Ideal.nD Cert.DwFf2Ideal.τ Cert.DwFf2Ideal.sig) → Buf (Elt Ideal) ℓ) : Prop :=
  True

def Pre_DwFf2RefIdeal (m : (ℓ : Loc Cert.DwFf2RefIdeal.nD Cert.DwFf2RefIdeal.τ Cert.DwFf2RefIdeal.sig) → Buf (Elt Ideal) ℓ) : Prop :=
  True

def Pre_DwFf1 (m : (ℓ : Loc Cert.DwFf1.nD Cert.DwFf1.τ Cert.DwFf1.sig) → Buf (Elt Bits) ℓ) : Prop :=
  True

def Pre_DwFf1Ideal (m : (ℓ : Loc Cert.DwFf1Ideal.nD Cert.DwFf1Ideal.τ Cert.DwFf1Ideal.sig) → Buf (Elt Ideal) ℓ) : Prop :=
  True

def Pre_DwFf1RefIdeal (m : (ℓ : Loc Cert.DwFf1RefIdeal.nD Cert.DwFf1RefIdeal.τ Cert.DwFf1RefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Ff1Bwd (m : (ℓ : Loc Cert.Ff1Bwd.nD Cert.Ff1Bwd.τ Cert.Ff1Bwd.sig) → Buf (Elt Bits) ℓ) : Prop :=
  True

def Pre_Ff1BwdIdeal (m : (ℓ : Loc Cert.Ff1BwdIdeal.nD Cert.Ff1BwdIdeal.τ Cert.Ff1BwdIdeal.sig) → Buf (Elt Ideal) ℓ) : Prop :=
  True

def Pre_Ff1BwdRefIdeal (m : (ℓ : Loc Cert.Ff1BwdRefIdeal.nD Cert.Ff1BwdRefIdeal.τ Cert.Ff1BwdRefIdeal.sig) → Buf (Elt Ideal) ℓ) : Prop :=
  True

def Pre_MixOut0 (m : (ℓ : Loc Cert.MixOut0.nD Cert.MixOut0.τ Cert.MixOut0.sig) → Buf (Elt Bits) ℓ) : Prop :=
  True

def Pre_MixOut0Ideal (m : (ℓ : Loc Cert.MixOut0Ideal.nD Cert.MixOut0Ideal.τ Cert.MixOut0Ideal.sig) → Buf (Elt Ideal) ℓ) : Prop :=
  True

def Pre_MixOut0RefIdeal (m : (ℓ : Loc Cert.MixOut0RefIdeal.nD Cert.MixOut0RefIdeal.τ Cert.MixOut0RefIdeal.sig) → Buf (Elt Ideal) ℓ) : Prop :=
  True

def Pre_MixOut1 (m : (ℓ : Loc Cert.MixOut1.nD Cert.MixOut1.τ Cert.MixOut1.sig) → Buf (Elt Bits) ℓ) : Prop :=
  True

def Pre_MixOut1Ideal (m : (ℓ : Loc Cert.MixOut1Ideal.nD Cert.MixOut1Ideal.τ Cert.MixOut1Ideal.sig) → Buf (Elt Ideal) ℓ) : Prop :=
  True

def Pre_MixOut1RefIdeal (m : (ℓ : Loc Cert.MixOut1RefIdeal.nD Cert.MixOut1RefIdeal.τ Cert.MixOut1RefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_Ln2 (m : (ℓ : Loc Cert.Ln2.nD Cert.Ln2.τ Cert.Ln2.sig) → Buf (Elt Bits) ℓ) : Prop :=
  True

def Pre_Ln2Ideal (m : (ℓ : Loc Cert.Ln2Ideal.nD Cert.Ln2Ideal.τ Cert.Ln2Ideal.sig) → Buf (Elt Ideal) ℓ) : Prop :=
  True

def Pre_Ln2RefIdeal (m : (ℓ : Loc Cert.Ln2RefIdeal.nD Cert.Ln2RefIdeal.τ Cert.Ln2RefIdeal.sig) → Buf (Elt Ideal) ℓ) : Prop :=
  True

def Pre_AdamwOut1 (m : (ℓ : Loc Cert.AdamwOut1.nD Cert.AdamwOut1.τ Cert.AdamwOut1.sig) → Buf (Elt Bits) ℓ) : Prop :=
  True

def Pre_AdamwOut1Ideal (m : (ℓ : Loc Cert.AdamwOut1Ideal.nD Cert.AdamwOut1Ideal.τ Cert.AdamwOut1Ideal.sig) → Buf (Elt Ideal) ℓ) : Prop :=
  True

def Pre_AdamwOut1RefIdeal (m : (ℓ : Loc Cert.AdamwOut1RefIdeal.nD Cert.AdamwOut1RefIdeal.τ Cert.AdamwOut1RefIdeal.sig) → Buf (Elt Ideal) ℓ) : Prop :=
  True

def Pre_AdamwOut0 (m : (ℓ : Loc Cert.AdamwOut0.nD Cert.AdamwOut0.τ Cert.AdamwOut0.sig) → Buf (Elt Bits) ℓ) : Prop :=
  True

def Pre_AdamwOut0Ideal (m : (ℓ : Loc Cert.AdamwOut0Ideal.nD Cert.AdamwOut0Ideal.τ Cert.AdamwOut0Ideal.sig) → Buf (Elt Ideal) ℓ) : Prop :=
  True

def Pre_AdamwOut0RefIdeal (m : (ℓ : Loc Cert.AdamwOut0RefIdeal.nD Cert.AdamwOut0RefIdeal.τ Cert.AdamwOut0RefIdeal.sig) → Buf (Elt Ideal) ℓ) : Prop :=
  True

def Pre_AdamwFf2 (m : (ℓ : Loc Cert.AdamwFf2.nD Cert.AdamwFf2.τ Cert.AdamwFf2.sig) → Buf (Elt Bits) ℓ) : Prop :=
  True

def Pre_AdamwFf2Ideal (m : (ℓ : Loc Cert.AdamwFf2Ideal.nD Cert.AdamwFf2Ideal.τ Cert.AdamwFf2Ideal.sig) → Buf (Elt Ideal) ℓ) : Prop :=
  True

def Pre_AdamwFf2RefIdeal (m : (ℓ : Loc Cert.AdamwFf2RefIdeal.nD Cert.AdamwFf2RefIdeal.τ Cert.AdamwFf2RefIdeal.sig) → Buf (Elt Ideal) ℓ) : Prop :=
  True

def Pre_AdamwIn0 (m : (ℓ : Loc Cert.AdamwIn0.nD Cert.AdamwIn0.τ Cert.AdamwIn0.sig) → Buf (Elt Bits) ℓ) : Prop :=
  True

def Pre_AdamwIn0Ideal (m : (ℓ : Loc Cert.AdamwIn0Ideal.nD Cert.AdamwIn0Ideal.τ Cert.AdamwIn0Ideal.sig) → Buf (Elt Ideal) ℓ) : Prop :=
  True

def Pre_AdamwIn0RefIdeal (m : (ℓ : Loc Cert.AdamwIn0RefIdeal.nD Cert.AdamwIn0RefIdeal.τ Cert.AdamwIn0RefIdeal.sig) → Buf (Elt Ideal) ℓ) : Prop :=
  True

def Pre_AdamwConv (m : (ℓ : Loc Cert.AdamwConv.nD Cert.AdamwConv.τ Cert.AdamwConv.sig) → Buf (Elt Bits) ℓ) : Prop :=
  True

def Pre_AdamwConvIdeal (m : (ℓ : Loc Cert.AdamwConvIdeal.nD Cert.AdamwConvIdeal.τ Cert.AdamwConvIdeal.sig) → Buf (Elt Ideal) ℓ) : Prop :=
  True

def Pre_AdamwConvRefIdeal (m : (ℓ : Loc Cert.AdamwConvRefIdeal.nD Cert.AdamwConvRefIdeal.τ Cert.AdamwConvRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_AdamwReplicated (m : (ℓ : Loc Cert.AdamwReplicated.nD Cert.AdamwReplicated.τ Cert.AdamwReplicated.sig) → Buf (Elt Bits) ℓ) : Prop :=
  True

def Pre_AdamwReplicatedIdeal (m : (ℓ : Loc Cert.AdamwReplicatedIdeal.nD Cert.AdamwReplicatedIdeal.τ Cert.AdamwReplicatedIdeal.sig) → Buf (Elt Ideal) ℓ) : Prop :=
  True

def Pre_AdamwReplicatedRefIdeal (m : (ℓ : Loc Cert.AdamwReplicatedRefIdeal.nD Cert.AdamwReplicatedRefIdeal.τ Cert.AdamwReplicatedRefIdeal.sig) → Buf (Elt Ideal) ℓ) : Prop :=
  True

def Pre_Ln1Bwd (m : (ℓ : Loc Cert.Ln1Bwd.nD Cert.Ln1Bwd.τ Cert.Ln1Bwd.sig) → Buf (Elt Bits) ℓ) : Prop :=
  True

def Pre_Ln1BwdIdeal (m : (ℓ : Loc Cert.Ln1BwdIdeal.nD Cert.Ln1BwdIdeal.τ Cert.Ln1BwdIdeal.sig) → Buf (Elt Ideal) ℓ) : Prop :=
  True

def Pre_Ln1BwdRefIdeal (m : (ℓ : Loc Cert.Ln1BwdRefIdeal.nD Cert.Ln1BwdRefIdeal.τ Cert.Ln1BwdRefIdeal.sig) → Buf (Elt Ideal) ℓ) : Prop :=
  True

def Pre_Ln2Last (m : (ℓ : Loc Cert.Ln2Last.nD Cert.Ln2Last.τ Cert.Ln2Last.sig) → Buf (Elt Bits) ℓ) : Prop :=
  True

def Pre_Ln2LastIdeal (m : (ℓ : Loc Cert.Ln2LastIdeal.nD Cert.Ln2LastIdeal.τ Cert.Ln2LastIdeal.sig) → Buf (Elt Ideal) ℓ) : Prop :=
  True

def Pre_Ln2LastRefIdeal (m : (ℓ : Loc Cert.Ln2LastRefIdeal.nD Cert.Ln2LastRefIdeal.τ Cert.Ln2LastRefIdeal.sig) → Buf (Elt Ideal) ℓ) : Prop :=
  True

def Pre_Ln2Bwd (m : (ℓ : Loc Cert.Ln2Bwd.nD Cert.Ln2Bwd.τ Cert.Ln2Bwd.sig) → Buf (Elt Bits) ℓ) : Prop :=
  True

def Pre_Ln2BwdIdeal (m : (ℓ : Loc Cert.Ln2BwdIdeal.nD Cert.Ln2BwdIdeal.τ Cert.Ln2BwdIdeal.sig) → Buf (Elt Ideal) ℓ) : Prop :=
  True

def Pre_Ln2BwdRefIdeal (m : (ℓ : Loc Cert.Ln2BwdRefIdeal.nD Cert.Ln2BwdRefIdeal.τ Cert.Ln2BwdRefIdeal.sig) → Buf (Elt Ideal) ℓ) : Prop :=
  True

def quiescent_HostGradX [hHostGradX : Cert.HostGradX.Facts] : Prop :=
  ∀ (m : (ℓ : Loc Cert.HostGradX.nD Cert.HostGradX.τ Cert.HostGradX.sig) → Buf (Elt Bits) ℓ) (g : Dev Cert.HostGradX.nD → PrngReg), Pre_HostGradX m →
    θ_run (Cert.HostGradX.defs (F := Bits)) (onTc (τ := Cert.HostGradX.τ) (Cert.HostGradX.main (F := Bits))) ⟨m, fun _ => 0, g⟩ (fun r => (∀ c : Dev Cert.HostGradX.nD,
      r.2.mem ((c.tc : Thread Cert.HostGradX.nD Cert.HostGradX.τ).loc Cert.HostGradX.main_arg0) = m ((c.tc : Thread Cert.HostGradX.nD Cert.HostGradX.τ).loc Cert.HostGradX.main_arg0)
      ∧ r.2.mem ((c.tc : Thread Cert.HostGradX.nD Cert.HostGradX.τ).loc Cert.HostGradX.main_arg1) = m ((c.tc : Thread Cert.HostGradX.nD Cert.HostGradX.τ).loc Cert.HostGradX.main_arg1)
      ∧ r.2.mem ((c.tc : Thread Cert.HostGradX.nD Cert.HostGradX.τ).loc Cert.HostGradX.main_arg2) = m ((c.tc : Thread Cert.HostGradX.nD Cert.HostGradX.τ).loc Cert.HostGradX.main_arg2)
      ∧ r.2.mem ((c.tc : Thread Cert.HostGradX.nD Cert.HostGradX.τ).loc Cert.HostGradX.main_arg3) = m ((c.tc : Thread Cert.HostGradX.nD Cert.HostGradX.τ).loc Cert.HostGradX.main_arg3)
      ∧ r.2.mem ((c.tc : Thread Cert.HostGradX.nD Cert.HostGradX.τ).loc Cert.HostGradX.main_arg4) = m ((c.tc : Thread Cert.HostGradX.nD Cert.HostGradX.τ).loc Cert.HostGradX.main_arg4)
      ∧ r.2.mem ((c.tc : Thread Cert.HostGradX.nD Cert.HostGradX.τ).loc Cert.HostGradX.main_arg5) = m ((c.tc : Thread Cert.HostGradX.nD Cert.HostGradX.τ).loc Cert.HostGradX.main_arg5)
      ∧ r.2.mem ((c.tc : Thread Cert.HostGradX.nD Cert.HostGradX.τ).loc Cert.HostGradX.main_arg6) = m ((c.tc : Thread Cert.HostGradX.nD Cert.HostGradX.τ).loc Cert.HostGradX.main_arg6)
      ∧ r.2.mem ((c.tc : Thread Cert.HostGradX.nD Cert.HostGradX.τ).loc Cert.HostGradX.main_arg7) = m ((c.tc : Thread Cert.HostGradX.nD Cert.HostGradX.τ).loc Cert.HostGradX.main_arg7)
      ∧ r.2.mem ((c.tc : Thread Cert.HostGradX.nD Cert.HostGradX.τ).loc Cert.HostGradX.main_arg8) = m ((c.tc : Thread Cert.HostGradX.nD Cert.HostGradX.τ).loc Cert.HostGradX.main_arg8)
      ∧ r.2.mem ((c.tc : Thread Cert.HostGradX.nD Cert.HostGradX.τ).loc Cert.HostGradX.main_arg9) = m ((c.tc : Thread Cert.HostGradX.nD Cert.HostGradX.τ).loc Cert.HostGradX.main_arg9)
      ∧ r.2.mem ((c.tc : Thread Cert.HostGradX.nD Cert.HostGradX.τ).loc Cert.HostGradX.main_arg10) = m ((c.tc : Thread Cert.HostGradX.nD Cert.HostGradX.τ).loc Cert.HostGradX.main_arg10)
      ∧ r.2.mem ((c.tc : Thread Cert.HostGradX.nD Cert.HostGradX.τ).loc Cert.HostGradX.main_arg11) = m ((c.tc : Thread Cert.HostGradX.nD Cert.HostGradX.τ).loc Cert.HostGradX.main_arg11)
      ∧ r.2.mem ((c.tc : Thread Cert.HostGradX.nD Cert.HostGradX.τ).loc Cert.HostGradX.main_arg12) = m ((c.tc : Thread Cert.HostGradX.nD Cert.HostGradX.τ).loc Cert.HostGradX.main_arg12))
      ∧ r.2.sem = fun _ => 0)

def quiescent_HostGradXIdeal [hHostGradXIdeal : Cert.HostGradXIdeal.Facts] : Prop :=
  ∀ (m : (ℓ : Loc Cert.HostGradXIdeal.nD Cert.HostGradXIdeal.τ Cert.HostGradXIdeal.sig) → Buf (Elt Ideal) ℓ) (g : Dev Cert.HostGradXIdeal.nD → PrngReg), Pre_HostGradXIdeal m →
    θ_run (Cert.HostGradXIdeal.defs (F := Ideal)) (onTc (τ := Cert.HostGradXIdeal.τ) (Cert.HostGradXIdeal.main (F := Ideal))) ⟨m, fun _ => 0, g⟩ (fun r => (∀ c : Dev Cert.HostGradXIdeal.nD,
      r.2.mem ((c.tc : Thread Cert.HostGradXIdeal.nD Cert.HostGradXIdeal.τ).loc Cert.HostGradXIdeal.main_arg0) = m ((c.tc : Thread Cert.HostGradXIdeal.nD Cert.HostGradXIdeal.τ).loc Cert.HostGradXIdeal.main_arg0)
      ∧ r.2.mem ((c.tc : Thread Cert.HostGradXIdeal.nD Cert.HostGradXIdeal.τ).loc Cert.HostGradXIdeal.main_arg1) = m ((c.tc : Thread Cert.HostGradXIdeal.nD Cert.HostGradXIdeal.τ).loc Cert.HostGradXIdeal.main_arg1)
      ∧ r.2.mem ((c.tc : Thread Cert.HostGradXIdeal.nD Cert.HostGradXIdeal.τ).loc Cert.HostGradXIdeal.main_arg2) = m ((c.tc : Thread Cert.HostGradXIdeal.nD Cert.HostGradXIdeal.τ).loc Cert.HostGradXIdeal.main_arg2)
      ∧ r.2.mem ((c.tc : Thread Cert.HostGradXIdeal.nD Cert.HostGradXIdeal.τ).loc Cert.HostGradXIdeal.main_arg3) = m ((c.tc : Thread Cert.HostGradXIdeal.nD Cert.HostGradXIdeal.τ).loc Cert.HostGradXIdeal.main_arg3)
      ∧ r.2.mem ((c.tc : Thread Cert.HostGradXIdeal.nD Cert.HostGradXIdeal.τ).loc Cert.HostGradXIdeal.main_arg4) = m ((c.tc : Thread Cert.HostGradXIdeal.nD Cert.HostGradXIdeal.τ).loc Cert.HostGradXIdeal.main_arg4)
      ∧ r.2.mem ((c.tc : Thread Cert.HostGradXIdeal.nD Cert.HostGradXIdeal.τ).loc Cert.HostGradXIdeal.main_arg5) = m ((c.tc : Thread Cert.HostGradXIdeal.nD Cert.HostGradXIdeal.τ).loc Cert.HostGradXIdeal.main_arg5)
      ∧ r.2.mem ((c.tc : Thread Cert.HostGradXIdeal.nD Cert.HostGradXIdeal.τ).loc Cert.HostGradXIdeal.main_arg6) = m ((c.tc : Thread Cert.HostGradXIdeal.nD Cert.HostGradXIdeal.τ).loc Cert.HostGradXIdeal.main_arg6)
      ∧ r.2.mem ((c.tc : Thread Cert.HostGradXIdeal.nD Cert.HostGradXIdeal.τ).loc Cert.HostGradXIdeal.main_arg7) = m ((c.tc : Thread Cert.HostGradXIdeal.nD Cert.HostGradXIdeal.τ).loc Cert.HostGradXIdeal.main_arg7)
      ∧ r.2.mem ((c.tc : Thread Cert.HostGradXIdeal.nD Cert.HostGradXIdeal.τ).loc Cert.HostGradXIdeal.main_arg8) = m ((c.tc : Thread Cert.HostGradXIdeal.nD Cert.HostGradXIdeal.τ).loc Cert.HostGradXIdeal.main_arg8)
      ∧ r.2.mem ((c.tc : Thread Cert.HostGradXIdeal.nD Cert.HostGradXIdeal.τ).loc Cert.HostGradXIdeal.main_arg9) = m ((c.tc : Thread Cert.HostGradXIdeal.nD Cert.HostGradXIdeal.τ).loc Cert.HostGradXIdeal.main_arg9)
      ∧ r.2.mem ((c.tc : Thread Cert.HostGradXIdeal.nD Cert.HostGradXIdeal.τ).loc Cert.HostGradXIdeal.main_arg10) = m ((c.tc : Thread Cert.HostGradXIdeal.nD Cert.HostGradXIdeal.τ).loc Cert.HostGradXIdeal.main_arg10)
      ∧ r.2.mem ((c.tc : Thread Cert.HostGradXIdeal.nD Cert.HostGradXIdeal.τ).loc Cert.HostGradXIdeal.main_arg11) = m ((c.tc : Thread Cert.HostGradXIdeal.nD Cert.HostGradXIdeal.τ).loc Cert.HostGradXIdeal.main_arg11)
      ∧ r.2.mem ((c.tc : Thread Cert.HostGradXIdeal.nD Cert.HostGradXIdeal.τ).loc Cert.HostGradXIdeal.main_arg12) = m ((c.tc : Thread Cert.HostGradXIdeal.nD Cert.HostGradXIdeal.τ).loc Cert.HostGradXIdeal.main_arg12))
      ∧ r.2.sem = fun _ => 0)

def quiescent_HostGradXRefIdeal [hHostGradXRefIdeal : Cert.HostGradXRefIdeal.Facts] : Prop :=
  ∀ (m : (ℓ : Loc Cert.HostGradXRefIdeal.nD Cert.HostGradXRefIdeal.τ Cert.HostGradXRefIdeal.sig) → Buf (Elt Ideal) ℓ) (g : Dev Cert.HostGradXRefIdeal.nD → PrngReg), Pre_HostGradXRefIdeal m →
    θ_run (Cert.HostGradXRefIdeal.defs (F := Ideal)) (onTc (τ := Cert.HostGradXRefIdeal.τ) (Cert.HostGradXRefIdeal.main (F := Ideal))) ⟨m, fun _ => 0, g⟩ (fun r => (∀ c : Dev Cert.HostGradXRefIdeal.nD,
      r.2.mem ((c.tc : Thread Cert.HostGradXRefIdeal.nD Cert.HostGradXRefIdeal.τ).loc Cert.HostGradXRefIdeal.main_arg0) = m ((c.tc : Thread Cert.HostGradXRefIdeal.nD Cert.HostGradXRefIdeal.τ).loc Cert.HostGradXRefIdeal.main_arg0)
      ∧ r.2.mem ((c.tc : Thread Cert.HostGradXRefIdeal.nD Cert.HostGradXRefIdeal.τ).loc Cert.HostGradXRefIdeal.main_arg1) = m ((c.tc : Thread Cert.HostGradXRefIdeal.nD Cert.HostGradXRefIdeal.τ).loc Cert.HostGradXRefIdeal.main_arg1)
      ∧ r.2.mem ((c.tc : Thread Cert.HostGradXRefIdeal.nD Cert.HostGradXRefIdeal.τ).loc Cert.HostGradXRefIdeal.main_arg2) = m ((c.tc : Thread Cert.HostGradXRefIdeal.nD Cert.HostGradXRefIdeal.τ).loc Cert.HostGradXRefIdeal.main_arg2)
      ∧ r.2.mem ((c.tc : Thread Cert.HostGradXRefIdeal.nD Cert.HostGradXRefIdeal.τ).loc Cert.HostGradXRefIdeal.main_arg3) = m ((c.tc : Thread Cert.HostGradXRefIdeal.nD Cert.HostGradXRefIdeal.τ).loc Cert.HostGradXRefIdeal.main_arg3)
      ∧ r.2.mem ((c.tc : Thread Cert.HostGradXRefIdeal.nD Cert.HostGradXRefIdeal.τ).loc Cert.HostGradXRefIdeal.main_arg4) = m ((c.tc : Thread Cert.HostGradXRefIdeal.nD Cert.HostGradXRefIdeal.τ).loc Cert.HostGradXRefIdeal.main_arg4)
      ∧ r.2.mem ((c.tc : Thread Cert.HostGradXRefIdeal.nD Cert.HostGradXRefIdeal.τ).loc Cert.HostGradXRefIdeal.main_arg5) = m ((c.tc : Thread Cert.HostGradXRefIdeal.nD Cert.HostGradXRefIdeal.τ).loc Cert.HostGradXRefIdeal.main_arg5)
      ∧ r.2.mem ((c.tc : Thread Cert.HostGradXRefIdeal.nD Cert.HostGradXRefIdeal.τ).loc Cert.HostGradXRefIdeal.main_arg6) = m ((c.tc : Thread Cert.HostGradXRefIdeal.nD Cert.HostGradXRefIdeal.τ).loc Cert.HostGradXRefIdeal.main_arg6)
      ∧ r.2.mem ((c.tc : Thread Cert.HostGradXRefIdeal.nD Cert.HostGradXRefIdeal.τ).loc Cert.HostGradXRefIdeal.main_arg7) = m ((c.tc : Thread Cert.HostGradXRefIdeal.nD Cert.HostGradXRefIdeal.τ).loc Cert.HostGradXRefIdeal.main_arg7)
      ∧ r.2.mem ((c.tc : Thread Cert.HostGradXRefIdeal.nD Cert.HostGradXRefIdeal.τ).loc Cert.HostGradXRefIdeal.main_arg8) = m ((c.tc : Thread Cert.HostGradXRefIdeal.nD Cert.HostGradXRefIdeal.τ).loc Cert.HostGradXRefIdeal.main_arg8)
      ∧ r.2.mem ((c.tc : Thread Cert.HostGradXRefIdeal.nD Cert.HostGradXRefIdeal.τ).loc Cert.HostGradXRefIdeal.main_arg9) = m ((c.tc : Thread Cert.HostGradXRefIdeal.nD Cert.HostGradXRefIdeal.τ).loc Cert.HostGradXRefIdeal.main_arg9)
      ∧ r.2.mem ((c.tc : Thread Cert.HostGradXRefIdeal.nD Cert.HostGradXRefIdeal.τ).loc Cert.HostGradXRefIdeal.main_arg10) = m ((c.tc : Thread Cert.HostGradXRefIdeal.nD Cert.HostGradXRefIdeal.τ).loc Cert.HostGradXRefIdeal.main_arg10)
      ∧ r.2.mem ((c.tc : Thread Cert.HostGradXRefIdeal.nD Cert.HostGradXRefIdeal.τ).loc Cert.HostGradXRefIdeal.main_arg11) = m ((c.tc : Thread Cert.HostGradXRefIdeal.nD Cert.HostGradXRefIdeal.τ).loc Cert.HostGradXRefIdeal.main_arg11)
      ∧ r.2.mem ((c.tc : Thread Cert.HostGradXRefIdeal.nD Cert.HostGradXRefIdeal.τ).loc Cert.HostGradXRefIdeal.main_arg12) = m ((c.tc : Thread Cert.HostGradXRefIdeal.nD Cert.HostGradXRefIdeal.τ).loc Cert.HostGradXRefIdeal.main_arg12))
      ∧ r.2.sem = fun _ => 0)

def quiescent_HostProj [hHostProj : Cert.HostProj.Facts] : Prop :=
  ∀ (m : (ℓ : Loc Cert.HostProj.nD Cert.HostProj.τ Cert.HostProj.sig) → Buf (Elt Bits) ℓ) (g : Dev Cert.HostProj.nD → PrngReg), Pre_HostProj m →
    θ_run (Cert.HostProj.defs (F := Bits)) (onTc (τ := Cert.HostProj.τ) (Cert.HostProj.main (F := Bits))) ⟨m, fun _ => 0, g⟩ (fun r => (∀ c : Dev Cert.HostProj.nD,
      r.2.mem ((c.tc : Thread Cert.HostProj.nD Cert.HostProj.τ).loc Cert.HostProj.main_arg0) = m ((c.tc : Thread Cert.HostProj.nD Cert.HostProj.τ).loc Cert.HostProj.main_arg0)
      ∧ r.2.mem ((c.tc : Thread Cert.HostProj.nD Cert.HostProj.τ).loc Cert.HostProj.main_arg1) = m ((c.tc : Thread Cert.HostProj.nD Cert.HostProj.τ).loc Cert.HostProj.main_arg1)
      ∧ r.2.mem ((c.tc : Thread Cert.HostProj.nD Cert.HostProj.τ).loc Cert.HostProj.main_arg2) = m ((c.tc : Thread Cert.HostProj.nD Cert.HostProj.τ).loc Cert.HostProj.main_arg2)
      ∧ r.2.mem ((c.tc : Thread Cert.HostProj.nD Cert.HostProj.τ).loc Cert.HostProj.main_arg3) = m ((c.tc : Thread Cert.HostProj.nD Cert.HostProj.τ).loc Cert.HostProj.main_arg3)
      ∧ r.2.mem ((c.tc : Thread Cert.HostProj.nD Cert.HostProj.τ).loc Cert.HostProj.main_arg4) = m ((c.tc : Thread Cert.HostProj.nD Cert.HostProj.τ).loc Cert.HostProj.main_arg4)
      ∧ r.2.mem ((c.tc : Thread Cert.HostProj.nD Cert.HostProj.τ).loc Cert.HostProj.main_arg5) = m ((c.tc : Thread Cert.HostProj.nD Cert.HostProj.τ).loc Cert.HostProj.main_arg5)
      ∧ r.2.mem ((c.tc : Thread Cert.HostProj.nD Cert.HostProj.τ).loc Cert.HostProj.main_arg6) = m ((c.tc : Thread Cert.HostProj.nD Cert.HostProj.τ).loc Cert.HostProj.main_arg6)
      ∧ r.2.mem ((c.tc : Thread Cert.HostProj.nD Cert.HostProj.τ).loc Cert.HostProj.main_arg7) = m ((c.tc : Thread Cert.HostProj.nD Cert.HostProj.τ).loc Cert.HostProj.main_arg7))
      ∧ r.2.sem = fun _ => 0)

def quiescent_HostProjIdeal [hHostProjIdeal : Cert.HostProjIdeal.Facts] : Prop :=
  ∀ (m : (ℓ : Loc Cert.HostProjIdeal.nD Cert.HostProjIdeal.τ Cert.HostProjIdeal.sig) → Buf (Elt Ideal) ℓ) (g : Dev Cert.HostProjIdeal.nD → PrngReg), Pre_HostProjIdeal m →
    θ_run (Cert.HostProjIdeal.defs (F := Ideal)) (onTc (τ := Cert.HostProjIdeal.τ) (Cert.HostProjIdeal.main (F := Ideal))) ⟨m, fun _ => 0, g⟩ (fun r => (∀ c : Dev Cert.HostProjIdeal.nD,
      r.2.mem ((c.tc : Thread Cert.HostProjIdeal.nD Cert.HostProjIdeal.τ).loc Cert.HostProjIdeal.main_arg0) = m ((c.tc : Thread Cert.HostProjIdeal.nD Cert.HostProjIdeal.τ).loc Cert.HostProjIdeal.main_arg0)
      ∧ r.2.mem ((c.tc : Thread Cert.HostProjIdeal.nD Cert.HostProjIdeal.τ).loc Cert.HostProjIdeal.main_arg1) = m ((c.tc : Thread Cert.HostProjIdeal.nD Cert.HostProjIdeal.τ).loc Cert.HostProjIdeal.main_arg1)
      ∧ r.2.mem ((c.tc : Thread Cert.HostProjIdeal.nD Cert.HostProjIdeal.τ).loc Cert.HostProjIdeal.main_arg2) = m ((c.tc : Thread Cert.HostProjIdeal.nD Cert.HostProjIdeal.τ).loc Cert.HostProjIdeal.main_arg2)
      ∧ r.2.mem ((c.tc : Thread Cert.HostProjIdeal.nD Cert.HostProjIdeal.τ).loc Cert.HostProjIdeal.main_arg3) = m ((c.tc : Thread Cert.HostProjIdeal.nD Cert.HostProjIdeal.τ).loc Cert.HostProjIdeal.main_arg3)
      ∧ r.2.mem ((c.tc : Thread Cert.HostProjIdeal.nD Cert.HostProjIdeal.τ).loc Cert.HostProjIdeal.main_arg4) = m ((c.tc : Thread Cert.HostProjIdeal.nD Cert.HostProjIdeal.τ).loc Cert.HostProjIdeal.main_arg4)
      ∧ r.2.mem ((c.tc : Thread Cert.HostProjIdeal.nD Cert.HostProjIdeal.τ).loc Cert.HostProjIdeal.main_arg5) = m ((c.tc : Thread Cert.HostProjIdeal.nD Cert.HostProjIdeal.τ).loc Cert.HostProjIdeal.main_arg5)
      ∧ r.2.mem ((c.tc : Thread Cert.HostProjIdeal.nD Cert.HostProjIdeal.τ).loc Cert.HostProjIdeal.main_arg6) = m ((c.tc : Thread Cert.HostProjIdeal.nD Cert.HostProjIdeal.τ).loc Cert.HostProjIdeal.main_arg6)
      ∧ r.2.mem ((c.tc : Thread Cert.HostProjIdeal.nD Cert.HostProjIdeal.τ).loc Cert.HostProjIdeal.main_arg7) = m ((c.tc : Thread Cert.HostProjIdeal.nD Cert.HostProjIdeal.τ).loc Cert.HostProjIdeal.main_arg7))
      ∧ r.2.sem = fun _ => 0)

def quiescent_HostProjRefIdeal [hHostProjRefIdeal : Cert.HostProjRefIdeal.Facts] : Prop :=
  ∀ (m : (ℓ : Loc Cert.HostProjRefIdeal.nD Cert.HostProjRefIdeal.τ Cert.HostProjRefIdeal.sig) → Buf (Elt Ideal) ℓ) (g : Dev Cert.HostProjRefIdeal.nD → PrngReg), Pre_HostProjRefIdeal m →
    θ_run (Cert.HostProjRefIdeal.defs (F := Ideal)) (onTc (τ := Cert.HostProjRefIdeal.τ) (Cert.HostProjRefIdeal.main (F := Ideal))) ⟨m, fun _ => 0, g⟩ (fun r => (∀ c : Dev Cert.HostProjRefIdeal.nD,
      r.2.mem ((c.tc : Thread Cert.HostProjRefIdeal.nD Cert.HostProjRefIdeal.τ).loc Cert.HostProjRefIdeal.main_arg0) = m ((c.tc : Thread Cert.HostProjRefIdeal.nD Cert.HostProjRefIdeal.τ).loc Cert.HostProjRefIdeal.main_arg0)
      ∧ r.2.mem ((c.tc : Thread Cert.HostProjRefIdeal.nD Cert.HostProjRefIdeal.τ).loc Cert.HostProjRefIdeal.main_arg1) = m ((c.tc : Thread Cert.HostProjRefIdeal.nD Cert.HostProjRefIdeal.τ).loc Cert.HostProjRefIdeal.main_arg1)
      ∧ r.2.mem ((c.tc : Thread Cert.HostProjRefIdeal.nD Cert.HostProjRefIdeal.τ).loc Cert.HostProjRefIdeal.main_arg2) = m ((c.tc : Thread Cert.HostProjRefIdeal.nD Cert.HostProjRefIdeal.τ).loc Cert.HostProjRefIdeal.main_arg2)
      ∧ r.2.mem ((c.tc : Thread Cert.HostProjRefIdeal.nD Cert.HostProjRefIdeal.τ).loc Cert.HostProjRefIdeal.main_arg3) = m ((c.tc : Thread Cert.HostProjRefIdeal.nD Cert.HostProjRefIdeal.τ).loc Cert.HostProjRefIdeal.main_arg3)
      ∧ r.2.mem ((c.tc : Thread Cert.HostProjRefIdeal.nD Cert.HostProjRefIdeal.τ).loc Cert.HostProjRefIdeal.main_arg4) = m ((c.tc : Thread Cert.HostProjRefIdeal.nD Cert.HostProjRefIdeal.τ).loc Cert.HostProjRefIdeal.main_arg4)
      ∧ r.2.mem ((c.tc : Thread Cert.HostProjRefIdeal.nD Cert.HostProjRefIdeal.τ).loc Cert.HostProjRefIdeal.main_arg5) = m ((c.tc : Thread Cert.HostProjRefIdeal.nD Cert.HostProjRefIdeal.τ).loc Cert.HostProjRefIdeal.main_arg5)
      ∧ r.2.mem ((c.tc : Thread Cert.HostProjRefIdeal.nD Cert.HostProjRefIdeal.τ).loc Cert.HostProjRefIdeal.main_arg6) = m ((c.tc : Thread Cert.HostProjRefIdeal.nD Cert.HostProjRefIdeal.τ).loc Cert.HostProjRefIdeal.main_arg6)
      ∧ r.2.mem ((c.tc : Thread Cert.HostProjRefIdeal.nD Cert.HostProjRefIdeal.τ).loc Cert.HostProjRefIdeal.main_arg7) = m ((c.tc : Thread Cert.HostProjRefIdeal.nD Cert.HostProjRefIdeal.τ).loc Cert.HostProjRefIdeal.main_arg7))
      ∧ r.2.sem = fun _ => 0)

def quiescent_HostFf2 [hHostFf2 : Cert.HostFf2.Facts] : Prop :=
  ∀ (m : (ℓ : Loc Cert.HostFf2.nD Cert.HostFf2.τ Cert.HostFf2.sig) → Buf (Elt Bits) ℓ) (g : Dev Cert.HostFf2.nD → PrngReg), Pre_HostFf2 m →
    θ_run (Cert.HostFf2.defs (F := Bits)) (onTc (τ := Cert.HostFf2.τ) (Cert.HostFf2.main (F := Bits))) ⟨m, fun _ => 0, g⟩ (fun r => (∀ c : Dev Cert.HostFf2.nD,
      r.2.mem ((c.tc : Thread Cert.HostFf2.nD Cert.HostFf2.τ).loc Cert.HostFf2.main_arg0) = m ((c.tc : Thread Cert.HostFf2.nD Cert.HostFf2.τ).loc Cert.HostFf2.main_arg0)
      ∧ r.2.mem ((c.tc : Thread Cert.HostFf2.nD Cert.HostFf2.τ).loc Cert.HostFf2.main_arg1) = m ((c.tc : Thread Cert.HostFf2.nD Cert.HostFf2.τ).loc Cert.HostFf2.main_arg1)
      ∧ r.2.mem ((c.tc : Thread Cert.HostFf2.nD Cert.HostFf2.τ).loc Cert.HostFf2.main_arg2) = m ((c.tc : Thread Cert.HostFf2.nD Cert.HostFf2.τ).loc Cert.HostFf2.main_arg2)
      ∧ r.2.mem ((c.tc : Thread Cert.HostFf2.nD Cert.HostFf2.τ).loc Cert.HostFf2.main_arg3) = m ((c.tc : Thread Cert.HostFf2.nD Cert.HostFf2.τ).loc Cert.HostFf2.main_arg3)
      ∧ r.2.mem ((c.tc : Thread Cert.HostFf2.nD Cert.HostFf2.τ).loc Cert.HostFf2.main_arg4) = m ((c.tc : Thread Cert.HostFf2.nD Cert.HostFf2.τ).loc Cert.HostFf2.main_arg4)
      ∧ r.2.mem ((c.tc : Thread Cert.HostFf2.nD Cert.HostFf2.τ).loc Cert.HostFf2.main_arg5) = m ((c.tc : Thread Cert.HostFf2.nD Cert.HostFf2.τ).loc Cert.HostFf2.main_arg5)
      ∧ r.2.mem ((c.tc : Thread Cert.HostFf2.nD Cert.HostFf2.τ).loc Cert.HostFf2.main_arg6) = m ((c.tc : Thread Cert.HostFf2.nD Cert.HostFf2.τ).loc Cert.HostFf2.main_arg6))
      ∧ r.2.sem = fun _ => 0)

def quiescent_HostFf2Ideal [hHostFf2Ideal : Cert.HostFf2Ideal.Facts] : Prop :=
  ∀ (m : (ℓ : Loc Cert.HostFf2Ideal.nD Cert.HostFf2Ideal.τ Cert.HostFf2Ideal.sig) → Buf (Elt Ideal) ℓ) (g : Dev Cert.HostFf2Ideal.nD → PrngReg), Pre_HostFf2Ideal m →
    θ_run (Cert.HostFf2Ideal.defs (F := Ideal)) (onTc (τ := Cert.HostFf2Ideal.τ) (Cert.HostFf2Ideal.main (F := Ideal))) ⟨m, fun _ => 0, g⟩ (fun r => (∀ c : Dev Cert.HostFf2Ideal.nD,
      r.2.mem ((c.tc : Thread Cert.HostFf2Ideal.nD Cert.HostFf2Ideal.τ).loc Cert.HostFf2Ideal.main_arg0) = m ((c.tc : Thread Cert.HostFf2Ideal.nD Cert.HostFf2Ideal.τ).loc Cert.HostFf2Ideal.main_arg0)
      ∧ r.2.mem ((c.tc : Thread Cert.HostFf2Ideal.nD Cert.HostFf2Ideal.τ).loc Cert.HostFf2Ideal.main_arg1) = m ((c.tc : Thread Cert.HostFf2Ideal.nD Cert.HostFf2Ideal.τ).loc Cert.HostFf2Ideal.main_arg1)
      ∧ r.2.mem ((c.tc : Thread Cert.HostFf2Ideal.nD Cert.HostFf2Ideal.τ).loc Cert.HostFf2Ideal.main_arg2) = m ((c.tc : Thread Cert.HostFf2Ideal.nD Cert.HostFf2Ideal.τ).loc Cert.HostFf2Ideal.main_arg2)
      ∧ r.2.mem ((c.tc : Thread Cert.HostFf2Ideal.nD Cert.HostFf2Ideal.τ).loc Cert.HostFf2Ideal.main_arg3) = m ((c.tc : Thread Cert.HostFf2Ideal.nD Cert.HostFf2Ideal.τ).loc Cert.HostFf2Ideal.main_arg3)
      ∧ r.2.mem ((c.tc : Thread Cert.HostFf2Ideal.nD Cert.HostFf2Ideal.τ).loc Cert.HostFf2Ideal.main_arg4) = m ((c.tc : Thread Cert.HostFf2Ideal.nD Cert.HostFf2Ideal.τ).loc Cert.HostFf2Ideal.main_arg4)
      ∧ r.2.mem ((c.tc : Thread Cert.HostFf2Ideal.nD Cert.HostFf2Ideal.τ).loc Cert.HostFf2Ideal.main_arg5) = m ((c.tc : Thread Cert.HostFf2Ideal.nD Cert.HostFf2Ideal.τ).loc Cert.HostFf2Ideal.main_arg5)
      ∧ r.2.mem ((c.tc : Thread Cert.HostFf2Ideal.nD Cert.HostFf2Ideal.τ).loc Cert.HostFf2Ideal.main_arg6) = m ((c.tc : Thread Cert.HostFf2Ideal.nD Cert.HostFf2Ideal.τ).loc Cert.HostFf2Ideal.main_arg6))
      ∧ r.2.sem = fun _ => 0)

def quiescent_HostFf2RefIdeal [hHostFf2RefIdeal : Cert.HostFf2RefIdeal.Facts] : Prop :=
  ∀ (m : (ℓ : Loc Cert.HostFf2RefIdeal.nD Cert.HostFf2RefIdeal.τ Cert.HostFf2RefIdeal.sig) → Buf (Elt Ideal) ℓ) (g : Dev Cert.HostFf2RefIdeal.nD → PrngReg), Pre_HostFf2RefIdeal m →
    θ_run (Cert.HostFf2RefIdeal.defs (F := Ideal)) (onTc (τ := Cert.HostFf2RefIdeal.τ) (Cert.HostFf2RefIdeal.main (F := Ideal))) ⟨m, fun _ => 0, g⟩ (fun r => (∀ c : Dev Cert.HostFf2RefIdeal.nD,
      r.2.mem ((c.tc : Thread Cert.HostFf2RefIdeal.nD Cert.HostFf2RefIdeal.τ).loc Cert.HostFf2RefIdeal.main_arg0) = m ((c.tc : Thread Cert.HostFf2RefIdeal.nD Cert.HostFf2RefIdeal.τ).loc Cert.HostFf2RefIdeal.main_arg0)
      ∧ r.2.mem ((c.tc : Thread Cert.HostFf2RefIdeal.nD Cert.HostFf2RefIdeal.τ).loc Cert.HostFf2RefIdeal.main_arg1) = m ((c.tc : Thread Cert.HostFf2RefIdeal.nD Cert.HostFf2RefIdeal.τ).loc Cert.HostFf2RefIdeal.main_arg1)
      ∧ r.2.mem ((c.tc : Thread Cert.HostFf2RefIdeal.nD Cert.HostFf2RefIdeal.τ).loc Cert.HostFf2RefIdeal.main_arg2) = m ((c.tc : Thread Cert.HostFf2RefIdeal.nD Cert.HostFf2RefIdeal.τ).loc Cert.HostFf2RefIdeal.main_arg2)
      ∧ r.2.mem ((c.tc : Thread Cert.HostFf2RefIdeal.nD Cert.HostFf2RefIdeal.τ).loc Cert.HostFf2RefIdeal.main_arg3) = m ((c.tc : Thread Cert.HostFf2RefIdeal.nD Cert.HostFf2RefIdeal.τ).loc Cert.HostFf2RefIdeal.main_arg3)
      ∧ r.2.mem ((c.tc : Thread Cert.HostFf2RefIdeal.nD Cert.HostFf2RefIdeal.τ).loc Cert.HostFf2RefIdeal.main_arg4) = m ((c.tc : Thread Cert.HostFf2RefIdeal.nD Cert.HostFf2RefIdeal.τ).loc Cert.HostFf2RefIdeal.main_arg4)
      ∧ r.2.mem ((c.tc : Thread Cert.HostFf2RefIdeal.nD Cert.HostFf2RefIdeal.τ).loc Cert.HostFf2RefIdeal.main_arg5) = m ((c.tc : Thread Cert.HostFf2RefIdeal.nD Cert.HostFf2RefIdeal.τ).loc Cert.HostFf2RefIdeal.main_arg5)
      ∧ r.2.mem ((c.tc : Thread Cert.HostFf2RefIdeal.nD Cert.HostFf2RefIdeal.τ).loc Cert.HostFf2RefIdeal.main_arg6) = m ((c.tc : Thread Cert.HostFf2RefIdeal.nD Cert.HostFf2RefIdeal.τ).loc Cert.HostFf2RefIdeal.main_arg6))
      ∧ r.2.sem = fun _ => 0)

def quiescent_DffHidden [hDffHidden : Cert.DffHidden.Facts] : Prop :=
  ∀ (m : (ℓ : Loc Cert.DffHidden.nD Cert.DffHidden.τ Cert.DffHidden.sig) → Buf (Elt Bits) ℓ) (g : Dev Cert.DffHidden.nD → PrngReg), Pre_DffHidden m →
    θ_run (Cert.DffHidden.defs (F := Bits)) (onTc (τ := Cert.DffHidden.τ) (Cert.DffHidden.main (F := Bits))) ⟨m, fun _ => 0, g⟩ (fun r => (∀ c : Dev Cert.DffHidden.nD,
      r.2.mem ((c.tc : Thread Cert.DffHidden.nD Cert.DffHidden.τ).loc Cert.DffHidden.main_arg0) = m ((c.tc : Thread Cert.DffHidden.nD Cert.DffHidden.τ).loc Cert.DffHidden.main_arg0)
      ∧ r.2.mem ((c.tc : Thread Cert.DffHidden.nD Cert.DffHidden.τ).loc Cert.DffHidden.main_arg1) = m ((c.tc : Thread Cert.DffHidden.nD Cert.DffHidden.τ).loc Cert.DffHidden.main_arg1)
      ∧ r.2.mem ((c.tc : Thread Cert.DffHidden.nD Cert.DffHidden.τ).loc Cert.DffHidden.main_arg2) = m ((c.tc : Thread Cert.DffHidden.nD Cert.DffHidden.τ).loc Cert.DffHidden.main_arg2))
      ∧ r.2.sem = fun _ => 0)

def quiescent_DffHiddenIdeal [hDffHiddenIdeal : Cert.DffHiddenIdeal.Facts] : Prop :=
  ∀ (m : (ℓ : Loc Cert.DffHiddenIdeal.nD Cert.DffHiddenIdeal.τ Cert.DffHiddenIdeal.sig) → Buf (Elt Ideal) ℓ) (g : Dev Cert.DffHiddenIdeal.nD → PrngReg), Pre_DffHiddenIdeal m →
    θ_run (Cert.DffHiddenIdeal.defs (F := Ideal)) (onTc (τ := Cert.DffHiddenIdeal.τ) (Cert.DffHiddenIdeal.main (F := Ideal))) ⟨m, fun _ => 0, g⟩ (fun r => (∀ c : Dev Cert.DffHiddenIdeal.nD,
      r.2.mem ((c.tc : Thread Cert.DffHiddenIdeal.nD Cert.DffHiddenIdeal.τ).loc Cert.DffHiddenIdeal.main_arg0) = m ((c.tc : Thread Cert.DffHiddenIdeal.nD Cert.DffHiddenIdeal.τ).loc Cert.DffHiddenIdeal.main_arg0)
      ∧ r.2.mem ((c.tc : Thread Cert.DffHiddenIdeal.nD Cert.DffHiddenIdeal.τ).loc Cert.DffHiddenIdeal.main_arg1) = m ((c.tc : Thread Cert.DffHiddenIdeal.nD Cert.DffHiddenIdeal.τ).loc Cert.DffHiddenIdeal.main_arg1)
      ∧ r.2.mem ((c.tc : Thread Cert.DffHiddenIdeal.nD Cert.DffHiddenIdeal.τ).loc Cert.DffHiddenIdeal.main_arg2) = m ((c.tc : Thread Cert.DffHiddenIdeal.nD Cert.DffHiddenIdeal.τ).loc Cert.DffHiddenIdeal.main_arg2))
      ∧ r.2.sem = fun _ => 0)

def quiescent_DffHiddenRefIdeal [hDffHiddenRefIdeal : Cert.DffHiddenRefIdeal.Facts] : Prop :=
  ∀ (m : (ℓ : Loc Cert.DffHiddenRefIdeal.nD Cert.DffHiddenRefIdeal.τ Cert.DffHiddenRefIdeal.sig) → Buf (Elt Ideal) ℓ) (g : Dev Cert.DffHiddenRefIdeal.nD → PrngReg), Pre_DffHiddenRefIdeal m →
    θ_run (Cert.DffHiddenRefIdeal.defs (F := Ideal)) (onTc (τ := Cert.DffHiddenRefIdeal.τ) (Cert.DffHiddenRefIdeal.main (F := Ideal))) ⟨m, fun _ => 0, g⟩ (fun r => (∀ c : Dev Cert.DffHiddenRefIdeal.nD,
      r.2.mem ((c.tc : Thread Cert.DffHiddenRefIdeal.nD Cert.DffHiddenRefIdeal.τ).loc Cert.DffHiddenRefIdeal.main_arg0) = m ((c.tc : Thread Cert.DffHiddenRefIdeal.nD Cert.DffHiddenRefIdeal.τ).loc Cert.DffHiddenRefIdeal.main_arg0)
      ∧ r.2.mem ((c.tc : Thread Cert.DffHiddenRefIdeal.nD Cert.DffHiddenRefIdeal.τ).loc Cert.DffHiddenRefIdeal.main_arg1) = m ((c.tc : Thread Cert.DffHiddenRefIdeal.nD Cert.DffHiddenRefIdeal.τ).loc Cert.DffHiddenRefIdeal.main_arg1)
      ∧ r.2.mem ((c.tc : Thread Cert.DffHiddenRefIdeal.nD Cert.DffHiddenRefIdeal.τ).loc Cert.DffHiddenRefIdeal.main_arg2) = m ((c.tc : Thread Cert.DffHiddenRefIdeal.nD Cert.DffHiddenRefIdeal.τ).loc Cert.DffHiddenRefIdeal.main_arg2))
      ∧ r.2.sem = fun _ => 0)

def quiescent_HostMix [hHostMix : Cert.HostMix.Facts] : Prop :=
  ∀ (m : (ℓ : Loc Cert.HostMix.nD Cert.HostMix.τ Cert.HostMix.sig) → Buf (Elt Bits) ℓ) (g : Dev Cert.HostMix.nD → PrngReg), Pre_HostMix m →
    θ_run (Cert.HostMix.defs (F := Bits)) (onTc (τ := Cert.HostMix.τ) (Cert.HostMix.main (F := Bits))) ⟨m, fun _ => 0, g⟩ (fun r => (∀ c : Dev Cert.HostMix.nD,
      r.2.mem ((c.tc : Thread Cert.HostMix.nD Cert.HostMix.τ).loc Cert.HostMix.main_arg0) = m ((c.tc : Thread Cert.HostMix.nD Cert.HostMix.τ).loc Cert.HostMix.main_arg0)
      ∧ r.2.mem ((c.tc : Thread Cert.HostMix.nD Cert.HostMix.τ).loc Cert.HostMix.main_arg1) = m ((c.tc : Thread Cert.HostMix.nD Cert.HostMix.τ).loc Cert.HostMix.main_arg1)
      ∧ r.2.mem ((c.tc : Thread Cert.HostMix.nD Cert.HostMix.τ).loc Cert.HostMix.main_arg2) = m ((c.tc : Thread Cert.HostMix.nD Cert.HostMix.τ).loc Cert.HostMix.main_arg2)
      ∧ r.2.mem ((c.tc : Thread Cert.HostMix.nD Cert.HostMix.τ).loc Cert.HostMix.main_arg3) = m ((c.tc : Thread Cert.HostMix.nD Cert.HostMix.τ).loc Cert.HostMix.main_arg3)
      ∧ r.2.mem ((c.tc : Thread Cert.HostMix.nD Cert.HostMix.τ).loc Cert.HostMix.main_arg4) = m ((c.tc : Thread Cert.HostMix.nD Cert.HostMix.τ).loc Cert.HostMix.main_arg4)
      ∧ r.2.mem ((c.tc : Thread Cert.HostMix.nD Cert.HostMix.τ).loc Cert.HostMix.main_arg5) = m ((c.tc : Thread Cert.HostMix.nD Cert.HostMix.τ).loc Cert.HostMix.main_arg5)
      ∧ r.2.mem ((c.tc : Thread Cert.HostMix.nD Cert.HostMix.τ).loc Cert.HostMix.main_arg6) = m ((c.tc : Thread Cert.HostMix.nD Cert.HostMix.τ).loc Cert.HostMix.main_arg6))
      ∧ r.2.sem = fun _ => 0)

def quiescent_HostMixIdeal [hHostMixIdeal : Cert.HostMixIdeal.Facts] : Prop :=
  ∀ (m : (ℓ : Loc Cert.HostMixIdeal.nD Cert.HostMixIdeal.τ Cert.HostMixIdeal.sig) → Buf (Elt Ideal) ℓ) (g : Dev Cert.HostMixIdeal.nD → PrngReg), Pre_HostMixIdeal m →
    θ_run (Cert.HostMixIdeal.defs (F := Ideal)) (onTc (τ := Cert.HostMixIdeal.τ) (Cert.HostMixIdeal.main (F := Ideal))) ⟨m, fun _ => 0, g⟩ (fun r => (∀ c : Dev Cert.HostMixIdeal.nD,
      r.2.mem ((c.tc : Thread Cert.HostMixIdeal.nD Cert.HostMixIdeal.τ).loc Cert.HostMixIdeal.main_arg0) = m ((c.tc : Thread Cert.HostMixIdeal.nD Cert.HostMixIdeal.τ).loc Cert.HostMixIdeal.main_arg0)
      ∧ r.2.mem ((c.tc : Thread Cert.HostMixIdeal.nD Cert.HostMixIdeal.τ).loc Cert.HostMixIdeal.main_arg1) = m ((c.tc : Thread Cert.HostMixIdeal.nD Cert.HostMixIdeal.τ).loc Cert.HostMixIdeal.main_arg1)
      ∧ r.2.mem ((c.tc : Thread Cert.HostMixIdeal.nD Cert.HostMixIdeal.τ).loc Cert.HostMixIdeal.main_arg2) = m ((c.tc : Thread Cert.HostMixIdeal.nD Cert.HostMixIdeal.τ).loc Cert.HostMixIdeal.main_arg2)
      ∧ r.2.mem ((c.tc : Thread Cert.HostMixIdeal.nD Cert.HostMixIdeal.τ).loc Cert.HostMixIdeal.main_arg3) = m ((c.tc : Thread Cert.HostMixIdeal.nD Cert.HostMixIdeal.τ).loc Cert.HostMixIdeal.main_arg3)
      ∧ r.2.mem ((c.tc : Thread Cert.HostMixIdeal.nD Cert.HostMixIdeal.τ).loc Cert.HostMixIdeal.main_arg4) = m ((c.tc : Thread Cert.HostMixIdeal.nD Cert.HostMixIdeal.τ).loc Cert.HostMixIdeal.main_arg4)
      ∧ r.2.mem ((c.tc : Thread Cert.HostMixIdeal.nD Cert.HostMixIdeal.τ).loc Cert.HostMixIdeal.main_arg5) = m ((c.tc : Thread Cert.HostMixIdeal.nD Cert.HostMixIdeal.τ).loc Cert.HostMixIdeal.main_arg5)
      ∧ r.2.mem ((c.tc : Thread Cert.HostMixIdeal.nD Cert.HostMixIdeal.τ).loc Cert.HostMixIdeal.main_arg6) = m ((c.tc : Thread Cert.HostMixIdeal.nD Cert.HostMixIdeal.τ).loc Cert.HostMixIdeal.main_arg6))
      ∧ r.2.sem = fun _ => 0)

def quiescent_HostMixRefIdeal [hHostMixRefIdeal : Cert.HostMixRefIdeal.Facts] : Prop :=
  ∀ (m : (ℓ : Loc Cert.HostMixRefIdeal.nD Cert.HostMixRefIdeal.τ Cert.HostMixRefIdeal.sig) → Buf (Elt Ideal) ℓ) (g : Dev Cert.HostMixRefIdeal.nD → PrngReg), Pre_HostMixRefIdeal m →
    θ_run (Cert.HostMixRefIdeal.defs (F := Ideal)) (onTc (τ := Cert.HostMixRefIdeal.τ) (Cert.HostMixRefIdeal.main (F := Ideal))) ⟨m, fun _ => 0, g⟩ (fun r => (∀ c : Dev Cert.HostMixRefIdeal.nD,
      r.2.mem ((c.tc : Thread Cert.HostMixRefIdeal.nD Cert.HostMixRefIdeal.τ).loc Cert.HostMixRefIdeal.main_arg0) = m ((c.tc : Thread Cert.HostMixRefIdeal.nD Cert.HostMixRefIdeal.τ).loc Cert.HostMixRefIdeal.main_arg0)
      ∧ r.2.mem ((c.tc : Thread Cert.HostMixRefIdeal.nD Cert.HostMixRefIdeal.τ).loc Cert.HostMixRefIdeal.main_arg1) = m ((c.tc : Thread Cert.HostMixRefIdeal.nD Cert.HostMixRefIdeal.τ).loc Cert.HostMixRefIdeal.main_arg1)
      ∧ r.2.mem ((c.tc : Thread Cert.HostMixRefIdeal.nD Cert.HostMixRefIdeal.τ).loc Cert.HostMixRefIdeal.main_arg2) = m ((c.tc : Thread Cert.HostMixRefIdeal.nD Cert.HostMixRefIdeal.τ).loc Cert.HostMixRefIdeal.main_arg2)
      ∧ r.2.mem ((c.tc : Thread Cert.HostMixRefIdeal.nD Cert.HostMixRefIdeal.τ).loc Cert.HostMixRefIdeal.main_arg3) = m ((c.tc : Thread Cert.HostMixRefIdeal.nD Cert.HostMixRefIdeal.τ).loc Cert.HostMixRefIdeal.main_arg3)
      ∧ r.2.mem ((c.tc : Thread Cert.HostMixRefIdeal.nD Cert.HostMixRefIdeal.τ).loc Cert.HostMixRefIdeal.main_arg4) = m ((c.tc : Thread Cert.HostMixRefIdeal.nD Cert.HostMixRefIdeal.τ).loc Cert.HostMixRefIdeal.main_arg4)
      ∧ r.2.mem ((c.tc : Thread Cert.HostMixRefIdeal.nD Cert.HostMixRefIdeal.τ).loc Cert.HostMixRefIdeal.main_arg5) = m ((c.tc : Thread Cert.HostMixRefIdeal.nD Cert.HostMixRefIdeal.τ).loc Cert.HostMixRefIdeal.main_arg5)
      ∧ r.2.mem ((c.tc : Thread Cert.HostMixRefIdeal.nD Cert.HostMixRefIdeal.τ).loc Cert.HostMixRefIdeal.main_arg6) = m ((c.tc : Thread Cert.HostMixRefIdeal.nD Cert.HostMixRefIdeal.τ).loc Cert.HostMixRefIdeal.main_arg6))
      ∧ r.2.sem = fun _ => 0)

def quiescent_MixOutBwd [hMixOutBwd : Cert.MixOutBwd.Facts] : Prop :=
  ∀ (m : (ℓ : Loc Cert.MixOutBwd.nD Cert.MixOutBwd.τ Cert.MixOutBwd.sig) → Buf (Elt Bits) ℓ) (g : Dev Cert.MixOutBwd.nD → PrngReg), Pre_MixOutBwd m →
    θ_run (Cert.MixOutBwd.defs (F := Bits)) (onTc (τ := Cert.MixOutBwd.τ) (Cert.MixOutBwd.main (F := Bits))) ⟨m, fun _ => 0, g⟩ (fun r => (∀ c : Dev Cert.MixOutBwd.nD,
      r.2.mem ((c.tc : Thread Cert.MixOutBwd.nD Cert.MixOutBwd.τ).loc Cert.MixOutBwd.main_arg0) = m ((c.tc : Thread Cert.MixOutBwd.nD Cert.MixOutBwd.τ).loc Cert.MixOutBwd.main_arg0)
      ∧ r.2.mem ((c.tc : Thread Cert.MixOutBwd.nD Cert.MixOutBwd.τ).loc Cert.MixOutBwd.main_arg1) = m ((c.tc : Thread Cert.MixOutBwd.nD Cert.MixOutBwd.τ).loc Cert.MixOutBwd.main_arg1)
      ∧ r.2.mem ((c.tc : Thread Cert.MixOutBwd.nD Cert.MixOutBwd.τ).loc Cert.MixOutBwd.main_arg2) = m ((c.tc : Thread Cert.MixOutBwd.nD Cert.MixOutBwd.τ).loc Cert.MixOutBwd.main_arg2))
      ∧ r.2.sem = fun _ => 0)

def quiescent_MixOutBwdIdeal [hMixOutBwdIdeal : Cert.MixOutBwdIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg), Pre_MixOutBwdIdeal m →
    θ_run (Cert.MixOutBwdIdeal.defs (F := Ideal)) (onTc (τ := Cert.MixOutBwdIdeal.τ) (Cert.MixOutBwdIdeal.main (F := Ideal))) ⟨m, fun _ => 0, g⟩ (fun r => (∀ c : Dev Cert.MixOutBwdIdeal.nD,
      r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
      ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
      ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2))
      ∧ r.2.sem = fun _ => 0)

def quiescent_MixOutBwdRefIdeal [hMixOutBwdRefIdeal : Cert.MixOutBwdRefIdeal.Facts] : Prop :=
  ∀ (m : (ℓ : Loc Cert.MixOutBwdRefIdeal.nD Cert.MixOutBwdRefIdeal.τ Cert.MixOutBwdRefIdeal.sig) → Buf (Elt Ideal) ℓ) (g : Dev Cert.MixOutBwdRefIdeal.nD → PrngReg), Pre_MixOutBwdRefIdeal m →
    θ_run (Cert.MixOutBwdRefIdeal.defs (F := Ideal)) (onTc (τ := Cert.MixOutBwdRefIdeal.τ) (Cert.MixOutBwdRefIdeal.main (F := Ideal))) ⟨m, fun _ => 0, g⟩ (fun r => (∀ c : Dev Cert.MixOutBwdRefIdeal.nD,
      r.2.mem ((c.tc : Thread Cert.MixOutBwdRefIdeal.nD Cert.MixOutBwdRefIdeal.τ).loc Cert.MixOutBwdRefIdeal.main_arg0) = m ((c.tc : Thread Cert.MixOutBwdRefIdeal.nD Cert.MixOutBwdRefIdeal.τ).loc Cert.MixOutBwdRefIdeal.main_arg0)
      ∧ r.2.mem ((c.tc : Thread Cert.MixOutBwdRefIdeal.nD Cert.MixOutBwdRefIdeal.τ).loc Cert.MixOutBwdRefIdeal.main_arg1) = m ((c.tc : Thread Cert.MixOutBwdRefIdeal.nD Cert.MixOutBwdRefIdeal.τ).loc Cert.MixOutBwdRefIdeal.main_arg1)
      ∧ r.2.mem ((c.tc : Thread Cert.MixOutBwdRefIdeal.nD Cert.MixOutBwdRefIdeal.τ).loc Cert.MixOutBwdRefIdeal.main_arg2) = m ((c.tc : Thread Cert.MixOutBwdRefIdeal.nD Cert.MixOutBwdRefIdeal.τ).loc Cert.MixOutBwdRefIdeal.main_arg2))
      ∧ r.2.sem = fun _ => 0)

def quiescent_DwFf2 [hDwFf2 : Cert.DwFf2.Facts] : Prop :=
  ∀ (m : (ℓ : Loc Cert.DwFf2.nD Cert.DwFf2.τ Cert.DwFf2.sig) → Buf (Elt Bits) ℓ) (g : Dev Cert.DwFf2.nD → PrngReg), Pre_DwFf2 m →
    θ_run (Cert.DwFf2.defs (F := Bits)) (onTc (τ := Cert.DwFf2.τ) (Cert.DwFf2.main (F := Bits))) ⟨m, fun _ => 0, g⟩ (fun r => (∀ c : Dev Cert.DwFf2.nD,
      r.2.mem ((c.tc : Thread Cert.DwFf2.nD Cert.DwFf2.τ).loc Cert.DwFf2.main_arg0) = m ((c.tc : Thread Cert.DwFf2.nD Cert.DwFf2.τ).loc Cert.DwFf2.main_arg0)
      ∧ r.2.mem ((c.tc : Thread Cert.DwFf2.nD Cert.DwFf2.τ).loc Cert.DwFf2.main_arg1) = m ((c.tc : Thread Cert.DwFf2.nD Cert.DwFf2.τ).loc Cert.DwFf2.main_arg1)
      ∧ r.2.mem ((c.tc : Thread Cert.DwFf2.nD Cert.DwFf2.τ).loc Cert.DwFf2.main_arg2) = m ((c.tc : Thread Cert.DwFf2.nD Cert.DwFf2.τ).loc Cert.DwFf2.main_arg2))
      ∧ r.2.sem = fun _ => 0)

def quiescent_DwFf2Ideal [hDwFf2Ideal : Cert.DwFf2Ideal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg), Pre_DwFf2Ideal m →
    θ_run (Cert.DwFf2Ideal.defs (F := Ideal)) (onTc (τ := Cert.DwFf2Ideal.τ) (Cert.DwFf2Ideal.main (F := Ideal))) ⟨m, fun _ => 0, g⟩ (fun r => (∀ c : Dev Cert.DwFf2Ideal.nD,
      r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
      ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1)
      ∧ r.2.mem ((c.tc : Thread Cert.DwFf2Ideal.nD Cert.DwFf2Ideal.τ).loc Cert.DwFf2Ideal.main_arg2) = m ((c.tc : Thread Cert.DwFf2Ideal.nD Cert.DwFf2Ideal.τ).loc Cert.DwFf2Ideal.main_arg2))
      ∧ r.2.sem = fun _ => 0)

def quiescent_DwFf2RefIdeal [hDwFf2RefIdeal : Cert.DwFf2RefIdeal.Facts] : Prop :=
  ∀ (m : (ℓ : Loc Cert.DwFf2RefIdeal.nD Cert.DwFf2RefIdeal.τ Cert.DwFf2RefIdeal.sig) → Buf (Elt Ideal) ℓ) (g : Dev Cert.DwFf2RefIdeal.nD → PrngReg), Pre_DwFf2RefIdeal m →
    θ_run (Cert.DwFf2RefIdeal.defs (F := Ideal)) (onTc (τ := Cert.DwFf2RefIdeal.τ) (Cert.DwFf2RefIdeal.main (F := Ideal))) ⟨m, fun _ => 0, g⟩ (fun r => (∀ c : Dev Cert.DwFf2RefIdeal.nD,
      r.2.mem ((c.tc : Thread Cert.DwFf2RefIdeal.nD Cert.DwFf2RefIdeal.τ).loc Cert.DwFf2RefIdeal.main_arg0) = m ((c.tc : Thread Cert.DwFf2RefIdeal.nD Cert.DwFf2RefIdeal.τ).loc Cert.DwFf2RefIdeal.main_arg0)
      ∧ r.2.mem ((c.tc : Thread Cert.DwFf2RefIdeal.nD Cert.DwFf2RefIdeal.τ).loc Cert.DwFf2RefIdeal.main_arg1) = m ((c.tc : Thread Cert.DwFf2RefIdeal.nD Cert.DwFf2RefIdeal.τ).loc Cert.DwFf2RefIdeal.main_arg1)
      ∧ r.2.mem ((c.tc : Thread Cert.DwFf2RefIdeal.nD Cert.DwFf2RefIdeal.τ).loc Cert.DwFf2RefIdeal.main_arg2) = m ((c.tc : Thread Cert.DwFf2RefIdeal.nD Cert.DwFf2RefIdeal.τ).loc Cert.DwFf2RefIdeal.main_arg2))
      ∧ r.2.sem = fun _ => 0)

def quiescent_DwFf1 [hDwFf1 : Cert.DwFf1.Facts] : Prop :=
  ∀ (m : (ℓ : Loc Cert.DwFf1.nD Cert.DwFf1.τ Cert.DwFf1.sig) → Buf (Elt Bits) ℓ) (g : Dev Cert.DwFf1.nD → PrngReg), Pre_DwFf1 m →
    θ_run (Cert.DwFf1.defs (F := Bits)) (onTc (τ := Cert.DwFf1.τ) (Cert.DwFf1.main (F := Bits))) ⟨m, fun _ => 0, g⟩ (fun r => (∀ c : Dev Cert.DwFf1.nD,
      r.2.mem ((c.tc : Thread Cert.DwFf1.nD Cert.DwFf1.τ).loc Cert.DwFf1.main_arg0) = m ((c.tc : Thread Cert.DwFf1.nD Cert.DwFf1.τ).loc Cert.DwFf1.main_arg0)
      ∧ r.2.mem ((c.tc : Thread Cert.DwFf1.nD Cert.DwFf1.τ).loc Cert.DwFf1.main_arg1) = m ((c.tc : Thread Cert.DwFf1.nD Cert.DwFf1.τ).loc Cert.DwFf1.main_arg1)
      ∧ r.2.mem ((c.tc : Thread Cert.DwFf1.nD Cert.DwFf1.τ).loc Cert.DwFf1.main_arg2) = m ((c.tc : Thread Cert.DwFf1.nD Cert.DwFf1.τ).loc Cert.DwFf1.main_arg2))
      ∧ r.2.sem = fun _ => 0)

def quiescent_DwFf1Ideal [hDwFf1Ideal : Cert.DwFf1Ideal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg), Pre_DwFf1Ideal m →
    θ_run (Cert.DwFf1Ideal.defs (F := Ideal)) (onTc (τ := Cert.DwFf1Ideal.τ) (Cert.DwFf1Ideal.main (F := Ideal))) ⟨m, fun _ => 0, g⟩ (fun r => (∀ c : Dev Cert.DwFf1Ideal.nD,
      r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
      ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1)
      ∧ r.2.mem ((c.tc : Thread Cert.DwFf1Ideal.nD Cert.DwFf1Ideal.τ).loc Cert.DwFf1Ideal.main_arg2) = m ((c.tc : Thread Cert.DwFf1Ideal.nD Cert.DwFf1Ideal.τ).loc Cert.DwFf1Ideal.main_arg2))
      ∧ r.2.sem = fun _ => 0)

def quiescent_DwFf1RefIdeal [hDwFf1RefIdeal : Cert.DwFf1RefIdeal.Facts] : Prop :=
  ∀ (m : (ℓ : Loc Cert.DwFf1RefIdeal.nD Cert.DwFf1RefIdeal.τ Cert.DwFf1RefIdeal.sig) → Buf (Elt Ideal) ℓ) (g : Dev Cert.DwFf1RefIdeal.nD → PrngReg), Pre_DwFf1RefIdeal m →
    θ_run (Cert.DwFf1RefIdeal.defs (F := Ideal)) (onTc (τ := Cert.DwFf1RefIdeal.τ) (Cert.DwFf1RefIdeal.main (F := Ideal))) ⟨m, fun _ => 0, g⟩ (fun r => (∀ c : Dev Cert.DwFf1RefIdeal.nD,
      r.2.mem ((c.tc : Thread Cert.DwFf1RefIdeal.nD Cert.DwFf1RefIdeal.τ).loc Cert.DwFf1RefIdeal.main_arg0) = m ((c.tc : Thread Cert.DwFf1RefIdeal.nD Cert.DwFf1RefIdeal.τ).loc Cert.DwFf1RefIdeal.main_arg0)
      ∧ r.2.mem ((c.tc : Thread Cert.DwFf1RefIdeal.nD Cert.DwFf1RefIdeal.τ).loc Cert.DwFf1RefIdeal.main_arg1) = m ((c.tc : Thread Cert.DwFf1RefIdeal.nD Cert.DwFf1RefIdeal.τ).loc Cert.DwFf1RefIdeal.main_arg1)
      ∧ r.2.mem ((c.tc : Thread Cert.DwFf1RefIdeal.nD Cert.DwFf1RefIdeal.τ).loc Cert.DwFf1RefIdeal.main_arg2) = m ((c.tc : Thread Cert.DwFf1RefIdeal.nD Cert.DwFf1RefIdeal.τ).loc Cert.DwFf1RefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2))
      ∧ r.2.sem = fun _ => 0)

def quiescent_Ff1Bwd [hFf1Bwd : Cert.Ff1Bwd.Facts] : Prop :=
  ∀ (m : (ℓ : Loc Cert.Ff1Bwd.nD Cert.Ff1Bwd.τ Cert.Ff1Bwd.sig) → Buf (Elt Bits) ℓ) (g : Dev Cert.Ff1Bwd.nD → PrngReg), Pre_Ff1Bwd m →
    θ_run (Cert.Ff1Bwd.defs (F := Bits)) (onTc (τ := Cert.Ff1Bwd.τ) (Cert.Ff1Bwd.main (F := Bits))) ⟨m, fun _ => 0, g⟩ (fun r => (∀ c : Dev Cert.Ff1Bwd.nD,
      r.2.mem ((c.tc : Thread Cert.Ff1Bwd.nD Cert.Ff1Bwd.τ).loc Cert.Ff1Bwd.main_arg0) = m ((c.tc : Thread Cert.Ff1Bwd.nD Cert.Ff1Bwd.τ).loc Cert.Ff1Bwd.main_arg0)
      ∧ r.2.mem ((c.tc : Thread Cert.Ff1Bwd.nD Cert.Ff1Bwd.τ).loc Cert.Ff1Bwd.main_arg1) = m ((c.tc : Thread Cert.Ff1Bwd.nD Cert.Ff1Bwd.τ).loc Cert.Ff1Bwd.main_arg1)
      ∧ r.2.mem ((c.tc : Thread Cert.Ff1Bwd.nD Cert.Ff1Bwd.τ).loc Cert.Ff1Bwd.main_arg2) = m ((c.tc : Thread Cert.Ff1Bwd.nD Cert.Ff1Bwd.τ).loc Cert.Ff1Bwd.main_arg2)
      ∧ r.2.mem ((c.tc : Thread Cert.Ff1Bwd.nD Cert.Ff1Bwd.τ).loc Cert.Ff1Bwd.main_arg3) = m ((c.tc : Thread Cert.Ff1Bwd.nD Cert.Ff1Bwd.τ).loc Cert.Ff1Bwd.main_arg3))
      ∧ r.2.sem = fun _ => 0)

def quiescent_Ff1BwdIdeal [hFf1BwdIdeal : Cert.Ff1BwdIdeal.Facts] : Prop :=
  ∀ (m : (ℓ : Loc Cert.Ff1BwdIdeal.nD Cert.Ff1BwdIdeal.τ Cert.Ff1BwdIdeal.sig) → Buf (Elt Ideal) ℓ) (g : Dev Cert.Ff1BwdIdeal.nD → PrngReg), Pre_Ff1BwdIdeal m →
    θ_run (Cert.Ff1BwdIdeal.defs (F := Ideal)) (onTc (τ := Cert.Ff1BwdIdeal.τ) (Cert.Ff1BwdIdeal.main (F := Ideal))) ⟨m, fun _ => 0, g⟩ (fun r => (∀ c : Dev Cert.Ff1BwdIdeal.nD,
      r.2.mem ((c.tc : Thread Cert.Ff1BwdIdeal.nD Cert.Ff1BwdIdeal.τ).loc Cert.Ff1BwdIdeal.main_arg0) = m ((c.tc : Thread Cert.Ff1BwdIdeal.nD Cert.Ff1BwdIdeal.τ).loc Cert.Ff1BwdIdeal.main_arg0)
      ∧ r.2.mem ((c.tc : Thread Cert.Ff1BwdIdeal.nD Cert.Ff1BwdIdeal.τ).loc Cert.Ff1BwdIdeal.main_arg1) = m ((c.tc : Thread Cert.Ff1BwdIdeal.nD Cert.Ff1BwdIdeal.τ).loc Cert.Ff1BwdIdeal.main_arg1)
      ∧ r.2.mem ((c.tc : Thread Cert.Ff1BwdIdeal.nD Cert.Ff1BwdIdeal.τ).loc Cert.Ff1BwdIdeal.main_arg2) = m ((c.tc : Thread Cert.Ff1BwdIdeal.nD Cert.Ff1BwdIdeal.τ).loc Cert.Ff1BwdIdeal.main_arg2)
      ∧ r.2.mem ((c.tc : Thread Cert.Ff1BwdIdeal.nD Cert.Ff1BwdIdeal.τ).loc Cert.Ff1BwdIdeal.main_arg3) = m ((c.tc : Thread Cert.Ff1BwdIdeal.nD Cert.Ff1BwdIdeal.τ).loc Cert.Ff1BwdIdeal.main_arg3))
      ∧ r.2.sem = fun _ => 0)

def quiescent_Ff1BwdRefIdeal [hFf1BwdRefIdeal : Cert.Ff1BwdRefIdeal.Facts] : Prop :=
  ∀ (m : (ℓ : Loc Cert.Ff1BwdRefIdeal.nD Cert.Ff1BwdRefIdeal.τ Cert.Ff1BwdRefIdeal.sig) → Buf (Elt Ideal) ℓ) (g : Dev Cert.Ff1BwdRefIdeal.nD → PrngReg), Pre_Ff1BwdRefIdeal m →
    θ_run (Cert.Ff1BwdRefIdeal.defs (F := Ideal)) (onTc (τ := Cert.Ff1BwdRefIdeal.τ) (Cert.Ff1BwdRefIdeal.main (F := Ideal))) ⟨m, fun _ => 0, g⟩ (fun r => (∀ c : Dev Cert.Ff1BwdRefIdeal.nD,
      r.2.mem ((c.tc : Thread Cert.Ff1BwdRefIdeal.nD Cert.Ff1BwdRefIdeal.τ).loc Cert.Ff1BwdRefIdeal.main_arg0) = m ((c.tc : Thread Cert.Ff1BwdRefIdeal.nD Cert.Ff1BwdRefIdeal.τ).loc Cert.Ff1BwdRefIdeal.main_arg0)
      ∧ r.2.mem ((c.tc : Thread Cert.Ff1BwdRefIdeal.nD Cert.Ff1BwdRefIdeal.τ).loc Cert.Ff1BwdRefIdeal.main_arg1) = m ((c.tc : Thread Cert.Ff1BwdRefIdeal.nD Cert.Ff1BwdRefIdeal.τ).loc Cert.Ff1BwdRefIdeal.main_arg1)
      ∧ r.2.mem ((c.tc : Thread Cert.Ff1BwdRefIdeal.nD Cert.Ff1BwdRefIdeal.τ).loc Cert.Ff1BwdRefIdeal.main_arg2) = m ((c.tc : Thread Cert.Ff1BwdRefIdeal.nD Cert.Ff1BwdRefIdeal.τ).loc Cert.Ff1BwdRefIdeal.main_arg2)
      ∧ r.2.mem ((c.tc : Thread Cert.Ff1BwdRefIdeal.nD Cert.Ff1BwdRefIdeal.τ).loc Cert.Ff1BwdRefIdeal.main_arg3) = m ((c.tc : Thread Cert.Ff1BwdRefIdeal.nD Cert.Ff1BwdRefIdeal.τ).loc Cert.Ff1BwdRefIdeal.main_arg3))
      ∧ r.2.sem = fun _ => 0)

def quiescent_MixOut0 [hMixOut0 : Cert.MixOut0.Facts] : Prop :=
  ∀ (m : (ℓ : Loc Cert.MixOut0.nD Cert.MixOut0.τ Cert.MixOut0.sig) → Buf (Elt Bits) ℓ) (g : Dev Cert.MixOut0.nD → PrngReg), Pre_MixOut0 m →
    θ_run (Cert.MixOut0.defs (F := Bits)) (onTc (τ := Cert.MixOut0.τ) (Cert.MixOut0.main (F := Bits))) ⟨m, fun _ => 0, g⟩ (fun r => (∀ c : Dev Cert.MixOut0.nD,
      r.2.mem ((c.tc : Thread Cert.MixOut0.nD Cert.MixOut0.τ).loc Cert.MixOut0.main_arg0) = m ((c.tc : Thread Cert.MixOut0.nD Cert.MixOut0.τ).loc Cert.MixOut0.main_arg0)
      ∧ r.2.mem ((c.tc : Thread Cert.MixOut0.nD Cert.MixOut0.τ).loc Cert.MixOut0.main_arg1) = m ((c.tc : Thread Cert.MixOut0.nD Cert.MixOut0.τ).loc Cert.MixOut0.main_arg1)
      ∧ r.2.mem ((c.tc : Thread Cert.MixOut0.nD Cert.MixOut0.τ).loc Cert.MixOut0.main_arg2) = m ((c.tc : Thread Cert.MixOut0.nD Cert.MixOut0.τ).loc Cert.MixOut0.main_arg2)
      ∧ r.2.mem ((c.tc : Thread Cert.MixOut0.nD Cert.MixOut0.τ).loc Cert.MixOut0.main_arg3) = m ((c.tc : Thread Cert.MixOut0.nD Cert.MixOut0.τ).loc Cert.MixOut0.main_arg3)
      ∧ r.2.mem ((c.tc : Thread Cert.MixOut0.nD Cert.MixOut0.τ).loc Cert.MixOut0.main_arg4) = m ((c.tc : Thread Cert.MixOut0.nD Cert.MixOut0.τ).loc Cert.MixOut0.main_arg4)
      ∧ r.2.mem ((c.tc : Thread Cert.MixOut0.nD Cert.MixOut0.τ).loc Cert.MixOut0.main_arg5) = m ((c.tc : Thread Cert.MixOut0.nD Cert.MixOut0.τ).loc Cert.MixOut0.main_arg5)
      ∧ r.2.mem ((c.tc : Thread Cert.MixOut0.nD Cert.MixOut0.τ).loc Cert.MixOut0.main_arg6) = m ((c.tc : Thread Cert.MixOut0.nD Cert.MixOut0.τ).loc Cert.MixOut0.main_arg6))
      ∧ r.2.sem = fun _ => 0)

def quiescent_MixOut0Ideal [hMixOut0Ideal : Cert.MixOut0Ideal.Facts] : Prop :=
  ∀ (m : (ℓ : Loc Cert.MixOut0Ideal.nD Cert.MixOut0Ideal.τ Cert.MixOut0Ideal.sig) → Buf (Elt Ideal) ℓ) (g : Dev Cert.MixOut0Ideal.nD → PrngReg), Pre_MixOut0Ideal m →
    θ_run (Cert.MixOut0Ideal.defs (F := Ideal)) (onTc (τ := Cert.MixOut0Ideal.τ) (Cert.MixOut0Ideal.main (F := Ideal))) ⟨m, fun _ => 0, g⟩ (fun r => (∀ c : Dev Cert.MixOut0Ideal.nD,
      r.2.mem ((c.tc : Thread Cert.MixOut0Ideal.nD Cert.MixOut0Ideal.τ).loc Cert.MixOut0Ideal.main_arg0) = m ((c.tc : Thread Cert.MixOut0Ideal.nD Cert.MixOut0Ideal.τ).loc Cert.MixOut0Ideal.main_arg0)
      ∧ r.2.mem ((c.tc : Thread Cert.MixOut0Ideal.nD Cert.MixOut0Ideal.τ).loc Cert.MixOut0Ideal.main_arg1) = m ((c.tc : Thread Cert.MixOut0Ideal.nD Cert.MixOut0Ideal.τ).loc Cert.MixOut0Ideal.main_arg1)
      ∧ r.2.mem ((c.tc : Thread Cert.MixOut0Ideal.nD Cert.MixOut0Ideal.τ).loc Cert.MixOut0Ideal.main_arg2) = m ((c.tc : Thread Cert.MixOut0Ideal.nD Cert.MixOut0Ideal.τ).loc Cert.MixOut0Ideal.main_arg2)
      ∧ r.2.mem ((c.tc : Thread Cert.MixOut0Ideal.nD Cert.MixOut0Ideal.τ).loc Cert.MixOut0Ideal.main_arg3) = m ((c.tc : Thread Cert.MixOut0Ideal.nD Cert.MixOut0Ideal.τ).loc Cert.MixOut0Ideal.main_arg3)
      ∧ r.2.mem ((c.tc : Thread Cert.MixOut0Ideal.nD Cert.MixOut0Ideal.τ).loc Cert.MixOut0Ideal.main_arg4) = m ((c.tc : Thread Cert.MixOut0Ideal.nD Cert.MixOut0Ideal.τ).loc Cert.MixOut0Ideal.main_arg4)
      ∧ r.2.mem ((c.tc : Thread Cert.MixOut0Ideal.nD Cert.MixOut0Ideal.τ).loc Cert.MixOut0Ideal.main_arg5) = m ((c.tc : Thread Cert.MixOut0Ideal.nD Cert.MixOut0Ideal.τ).loc Cert.MixOut0Ideal.main_arg5)
      ∧ r.2.mem ((c.tc : Thread Cert.MixOut0Ideal.nD Cert.MixOut0Ideal.τ).loc Cert.MixOut0Ideal.main_arg6) = m ((c.tc : Thread Cert.MixOut0Ideal.nD Cert.MixOut0Ideal.τ).loc Cert.MixOut0Ideal.main_arg6))
      ∧ r.2.sem = fun _ => 0)

def quiescent_MixOut0RefIdeal [hMixOut0RefIdeal : Cert.MixOut0RefIdeal.Facts] : Prop :=
  ∀ (m : (ℓ : Loc Cert.MixOut0RefIdeal.nD Cert.MixOut0RefIdeal.τ Cert.MixOut0RefIdeal.sig) → Buf (Elt Ideal) ℓ) (g : Dev Cert.MixOut0RefIdeal.nD → PrngReg), Pre_MixOut0RefIdeal m →
    θ_run (Cert.MixOut0RefIdeal.defs (F := Ideal)) (onTc (τ := Cert.MixOut0RefIdeal.τ) (Cert.MixOut0RefIdeal.main (F := Ideal))) ⟨m, fun _ => 0, g⟩ (fun r => (∀ c : Dev Cert.MixOut0RefIdeal.nD,
      r.2.mem ((c.tc : Thread Cert.MixOut0RefIdeal.nD Cert.MixOut0RefIdeal.τ).loc Cert.MixOut0RefIdeal.main_arg0) = m ((c.tc : Thread Cert.MixOut0RefIdeal.nD Cert.MixOut0RefIdeal.τ).loc Cert.MixOut0RefIdeal.main_arg0)
      ∧ r.2.mem ((c.tc : Thread Cert.MixOut0RefIdeal.nD Cert.MixOut0RefIdeal.τ).loc Cert.MixOut0RefIdeal.main_arg1) = m ((c.tc : Thread Cert.MixOut0RefIdeal.nD Cert.MixOut0RefIdeal.τ).loc Cert.MixOut0RefIdeal.main_arg1)
      ∧ r.2.mem ((c.tc : Thread Cert.MixOut0RefIdeal.nD Cert.MixOut0RefIdeal.τ).loc Cert.MixOut0RefIdeal.main_arg2) = m ((c.tc : Thread Cert.MixOut0RefIdeal.nD Cert.MixOut0RefIdeal.τ).loc Cert.MixOut0RefIdeal.main_arg2)
      ∧ r.2.mem ((c.tc : Thread Cert.MixOut0RefIdeal.nD Cert.MixOut0RefIdeal.τ).loc Cert.MixOut0RefIdeal.main_arg3) = m ((c.tc : Thread Cert.MixOut0RefIdeal.nD Cert.MixOut0RefIdeal.τ).loc Cert.MixOut0RefIdeal.main_arg3)
      ∧ r.2.mem ((c.tc : Thread Cert.MixOut0RefIdeal.nD Cert.MixOut0RefIdeal.τ).loc Cert.MixOut0RefIdeal.main_arg4) = m ((c.tc : Thread Cert.MixOut0RefIdeal.nD Cert.MixOut0RefIdeal.τ).loc Cert.MixOut0RefIdeal.main_arg4)
      ∧ r.2.mem ((c.tc : Thread Cert.MixOut0RefIdeal.nD Cert.MixOut0RefIdeal.τ).loc Cert.MixOut0RefIdeal.main_arg5) = m ((c.tc : Thread Cert.MixOut0RefIdeal.nD Cert.MixOut0RefIdeal.τ).loc Cert.MixOut0RefIdeal.main_arg5)
      ∧ r.2.mem ((c.tc : Thread Cert.MixOut0RefIdeal.nD Cert.MixOut0RefIdeal.τ).loc Cert.MixOut0RefIdeal.main_arg6) = m ((c.tc : Thread Cert.MixOut0RefIdeal.nD Cert.MixOut0RefIdeal.τ).loc Cert.MixOut0RefIdeal.main_arg6))
      ∧ r.2.sem = fun _ => 0)

def quiescent_MixOut1 [hMixOut1 : Cert.MixOut1.Facts] : Prop :=
  ∀ (m : (ℓ : Loc Cert.MixOut1.nD Cert.MixOut1.τ Cert.MixOut1.sig) → Buf (Elt Bits) ℓ) (g : Dev Cert.MixOut1.nD → PrngReg), Pre_MixOut1 m →
    θ_run (Cert.MixOut1.defs (F := Bits)) (onTc (τ := Cert.MixOut1.τ) (Cert.MixOut1.main (F := Bits))) ⟨m, fun _ => 0, g⟩ (fun r => (∀ c : Dev Cert.MixOut1.nD,
      r.2.mem ((c.tc : Thread Cert.MixOut1.nD Cert.MixOut1.τ).loc Cert.MixOut1.main_arg0) = m ((c.tc : Thread Cert.MixOut1.nD Cert.MixOut1.τ).loc Cert.MixOut1.main_arg0)
      ∧ r.2.mem ((c.tc : Thread Cert.MixOut1.nD Cert.MixOut1.τ).loc Cert.MixOut1.main_arg1) = m ((c.tc : Thread Cert.MixOut1.nD Cert.MixOut1.τ).loc Cert.MixOut1.main_arg1)
      ∧ r.2.mem ((c.tc : Thread Cert.MixOut1.nD Cert.MixOut1.τ).loc Cert.MixOut1.main_arg2) = m ((c.tc : Thread Cert.MixOut1.nD Cert.MixOut1.τ).loc Cert.MixOut1.main_arg2)
      ∧ r.2.mem ((c.tc : Thread Cert.MixOut1.nD Cert.MixOut1.τ).loc Cert.MixOut1.main_arg3) = m ((c.tc : Thread Cert.MixOut1.nD Cert.MixOut1.τ).loc Cert.MixOut1.main_arg3)
      ∧ r.2.mem ((c.tc : Thread Cert.MixOut1.nD Cert.MixOut1.τ).loc Cert.MixOut1.main_arg4) = m ((c.tc : Thread Cert.MixOut1.nD Cert.MixOut1.τ).loc Cert.MixOut1.main_arg4)
      ∧ r.2.mem ((c.tc : Thread Cert.MixOut1.nD Cert.MixOut1.τ).loc Cert.MixOut1.main_arg5) = m ((c.tc : Thread Cert.MixOut1.nD Cert.MixOut1.τ).loc Cert.MixOut1.main_arg5)
      ∧ r.2.mem ((c.tc : Thread Cert.MixOut1.nD Cert.MixOut1.τ).loc Cert.MixOut1.main_arg6) = m ((c.tc : Thread Cert.MixOut1.nD Cert.MixOut1.τ).loc Cert.MixOut1.main_arg6)
      ∧ r.2.mem ((c.tc : Thread Cert.MixOut1.nD Cert.MixOut1.τ).loc Cert.MixOut1.main_arg7) = m ((c.tc : Thread Cert.MixOut1.nD Cert.MixOut1.τ).loc Cert.MixOut1.main_arg7))
      ∧ r.2.sem = fun _ => 0)

def quiescent_MixOut1Ideal [hMixOut1Ideal : Cert.MixOut1Ideal.Facts] : Prop :=
  ∀ (m : (ℓ : Loc Cert.MixOut1Ideal.nD Cert.MixOut1Ideal.τ Cert.MixOut1Ideal.sig) → Buf (Elt Ideal) ℓ) (g : Dev Cert.MixOut1Ideal.nD → PrngReg), Pre_MixOut1Ideal m →
    θ_run (Cert.MixOut1Ideal.defs (F := Ideal)) (onTc (τ := Cert.MixOut1Ideal.τ) (Cert.MixOut1Ideal.main (F := Ideal))) ⟨m, fun _ => 0, g⟩ (fun r => (∀ c : Dev Cert.MixOut1Ideal.nD,
      r.2.mem ((c.tc : Thread Cert.MixOut1Ideal.nD Cert.MixOut1Ideal.τ).loc Cert.MixOut1Ideal.main_arg0) = m ((c.tc : Thread Cert.MixOut1Ideal.nD Cert.MixOut1Ideal.τ).loc Cert.MixOut1Ideal.main_arg0)
      ∧ r.2.mem ((c.tc : Thread Cert.MixOut1Ideal.nD Cert.MixOut1Ideal.τ).loc Cert.MixOut1Ideal.main_arg1) = m ((c.tc : Thread Cert.MixOut1Ideal.nD Cert.MixOut1Ideal.τ).loc Cert.MixOut1Ideal.main_arg1)
      ∧ r.2.mem ((c.tc : Thread Cert.MixOut1Ideal.nD Cert.MixOut1Ideal.τ).loc Cert.MixOut1Ideal.main_arg2) = m ((c.tc : Thread Cert.MixOut1Ideal.nD Cert.MixOut1Ideal.τ).loc Cert.MixOut1Ideal.main_arg2)
      ∧ r.2.mem ((c.tc : Thread Cert.MixOut1Ideal.nD Cert.MixOut1Ideal.τ).loc Cert.MixOut1Ideal.main_arg3) = m ((c.tc : Thread Cert.MixOut1Ideal.nD Cert.MixOut1Ideal.τ).loc Cert.MixOut1Ideal.main_arg3)
      ∧ r.2.mem ((c.tc : Thread Cert.MixOut1Ideal.nD Cert.MixOut1Ideal.τ).loc Cert.MixOut1Ideal.main_arg4) = m ((c.tc : Thread Cert.MixOut1Ideal.nD Cert.MixOut1Ideal.τ).loc Cert.MixOut1Ideal.main_arg4)
      ∧ r.2.mem ((c.tc : Thread Cert.MixOut1Ideal.nD Cert.MixOut1Ideal.τ).loc Cert.MixOut1Ideal.main_arg5) = m ((c.tc : Thread Cert.MixOut1Ideal.nD Cert.MixOut1Ideal.τ).loc Cert.MixOut1Ideal.main_arg5)
      ∧ r.2.mem ((c.tc : Thread Cert.MixOut1Ideal.nD Cert.MixOut1Ideal.τ).loc Cert.MixOut1Ideal.main_arg6) = m ((c.tc : Thread Cert.MixOut1Ideal.nD Cert.MixOut1Ideal.τ).loc Cert.MixOut1Ideal.main_arg6)
      ∧ r.2.mem ((c.tc : Thread Cert.MixOut1Ideal.nD Cert.MixOut1Ideal.τ).loc Cert.MixOut1Ideal.main_arg7) = m ((c.tc : Thread Cert.MixOut1Ideal.nD Cert.MixOut1Ideal.τ).loc Cert.MixOut1Ideal.main_arg7))
      ∧ r.2.sem = fun _ => 0)

def quiescent_MixOut1RefIdeal [hMixOut1RefIdeal : Cert.MixOut1RefIdeal.Facts] : Prop :=
  ∀ (m : (ℓ : Loc Cert.MixOut1RefIdeal.nD Cert.MixOut1RefIdeal.τ Cert.MixOut1RefIdeal.sig) → Buf (Elt Ideal) ℓ) (g : Dev Cert.MixOut1RefIdeal.nD → PrngReg), Pre_MixOut1RefIdeal m →
    θ_run (Cert.MixOut1RefIdeal.defs (F := Ideal)) (onTc (τ := Cert.MixOut1RefIdeal.τ) (Cert.MixOut1RefIdeal.main (F := Ideal))) ⟨m, fun _ => 0, g⟩ (fun r => (∀ c : Dev Cert.MixOut1RefIdeal.nD,
      r.2.mem ((c.tc : Thread Cert.MixOut1RefIdeal.nD Cert.MixOut1RefIdeal.τ).loc Cert.MixOut1RefIdeal.main_arg0) = m ((c.tc : Thread Cert.MixOut1RefIdeal.nD Cert.MixOut1RefIdeal.τ).loc Cert.MixOut1RefIdeal.main_arg0)
      ∧ r.2.mem ((c.tc : Thread Cert.MixOut1RefIdeal.nD Cert.MixOut1RefIdeal.τ).loc Cert.MixOut1RefIdeal.main_arg1) = m ((c.tc : Thread Cert.MixOut1RefIdeal.nD Cert.MixOut1RefIdeal.τ).loc Cert.MixOut1RefIdeal.main_arg1)
      ∧ r.2.mem ((c.tc : Thread Cert.MixOut1RefIdeal.nD Cert.MixOut1RefIdeal.τ).loc Cert.MixOut1RefIdeal.main_arg2) = m ((c.tc : Thread Cert.MixOut1RefIdeal.nD Cert.MixOut1RefIdeal.τ).loc Cert.MixOut1RefIdeal.main_arg2)
      ∧ r.2.mem ((c.tc : Thread Cert.MixOut1RefIdeal.nD Cert.MixOut1RefIdeal.τ).loc Cert.MixOut1RefIdeal.main_arg3) = m ((c.tc : Thread Cert.MixOut1RefIdeal.nD Cert.MixOut1RefIdeal.τ).loc Cert.MixOut1RefIdeal.main_arg3)
      ∧ r.2.mem ((c.tc : Thread Cert.MixOut1RefIdeal.nD Cert.MixOut1RefIdeal.τ).loc Cert.MixOut1RefIdeal.main_arg4) = m ((c.tc : Thread Cert.MixOut1RefIdeal.nD Cert.MixOut1RefIdeal.τ).loc Cert.MixOut1RefIdeal.main_arg4)
      ∧ r.2.mem ((c.tc : Thread Cert.MixOut1RefIdeal.nD Cert.MixOut1RefIdeal.τ).loc Cert.MixOut1RefIdeal.main_arg5) = m ((c.tc : Thread Cert.MixOut1RefIdeal.nD Cert.MixOut1RefIdeal.τ).loc Cert.MixOut1RefIdeal.main_arg5)
      ∧ r.2.mem ((c.tc : Thread Cert.MixOut1RefIdeal.nD Cert.MixOut1RefIdeal.τ).loc Cert.MixOut1RefIdeal.main_arg6) = m ((c.tc : Thread Cert.MixOut1RefIdeal.nD Cert.MixOut1RefIdeal.τ).loc Cert.MixOut1RefIdeal.main_arg6)
      ∧ r.2.mem ((c.tc : Thread Cert.MixOut1RefIdeal.nD Cert.MixOut1RefIdeal.τ).loc Cert.MixOut1RefIdeal.main_arg7) = m ((c.tc : Thread Cert.MixOut1RefIdeal.nD Cert.MixOut1RefIdeal.τ).loc Cert.MixOut1RefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1)
      ∧ r.2.mem ((c.tc : Thread Cert.Ff1.nD Cert.Ff1.τ).loc Cert.Ff1.main_arg2) = m ((c.tc : Thread Cert.Ff1.nD Cert.Ff1.τ).loc Cert.Ff1.main_arg2))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
      ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1)
      ∧ r.2.mem ((c.tc : Thread Cert.Ff1RefIdeal.nD Cert.Ff1RefIdeal.τ).loc Cert.Ff1RefIdeal.main_arg2) = m ((c.tc : Thread Cert.Ff1RefIdeal.nD Cert.Ff1RefIdeal.τ).loc Cert.Ff1RefIdeal.main_arg2))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1)
      ∧ r.2.mem ((c.tc : Thread Cert.Ff2RefIdeal.nD Cert.Ff2RefIdeal.τ).loc Cert.Ff2RefIdeal.main_arg2) = m ((c.tc : Thread Cert.Ff2RefIdeal.nD Cert.Ff2RefIdeal.τ).loc Cert.Ff2RefIdeal.main_arg2))
      ∧ r.2.sem = fun _ => 0)

def quiescent_Ln2 [hLn2 : Cert.Ln2.Facts] : Prop :=
  ∀ (m : (ℓ : Loc Cert.Ln2.nD Cert.Ln2.τ Cert.Ln2.sig) → Buf (Elt Bits) ℓ) (g : Dev Cert.Ln2.nD → PrngReg), Pre_Ln2 m →
    θ_run (Cert.Ln2.defs (F := Bits)) (onTc (τ := Cert.Ln2.τ) (Cert.Ln2.main (F := Bits))) ⟨m, fun _ => 0, g⟩ (fun r => (∀ c : Dev Cert.Ln2.nD,
      r.2.mem ((c.tc : Thread Cert.Ln2.nD Cert.Ln2.τ).loc Cert.Ln2.main_arg0) = m ((c.tc : Thread Cert.Ln2.nD Cert.Ln2.τ).loc Cert.Ln2.main_arg0)
      ∧ r.2.mem ((c.tc : Thread Cert.Ln2.nD Cert.Ln2.τ).loc Cert.Ln2.main_arg1) = m ((c.tc : Thread Cert.Ln2.nD Cert.Ln2.τ).loc Cert.Ln2.main_arg1)
      ∧ r.2.mem ((c.tc : Thread Cert.Ln2.nD Cert.Ln2.τ).loc Cert.Ln2.main_arg2) = m ((c.tc : Thread Cert.Ln2.nD Cert.Ln2.τ).loc Cert.Ln2.main_arg2)
      ∧ r.2.mem ((c.tc : Thread Cert.Ln2.nD Cert.Ln2.τ).loc Cert.Ln2.main_arg3) = m ((c.tc : Thread Cert.Ln2.nD Cert.Ln2.τ).loc Cert.Ln2.main_arg3)
      ∧ r.2.mem ((c.tc : Thread Cert.Ln2.nD Cert.Ln2.τ).loc Cert.Ln2.main_arg4) = m ((c.tc : Thread Cert.Ln2.nD Cert.Ln2.τ).loc Cert.Ln2.main_arg4)
      ∧ r.2.mem ((c.tc : Thread Cert.Ln2.nD Cert.Ln2.τ).loc Cert.Ln2.main_arg5) = m ((c.tc : Thread Cert.Ln2.nD Cert.Ln2.τ).loc Cert.Ln2.main_arg5)
      ∧ r.2.mem ((c.tc : Thread Cert.Ln2.nD Cert.Ln2.τ).loc Cert.Ln2.main_arg6) = m ((c.tc : Thread Cert.Ln2.nD Cert.Ln2.τ).loc Cert.Ln2.main_arg6))
      ∧ r.2.sem = fun _ => 0)

def quiescent_Ln2Ideal [hLn2Ideal : Cert.Ln2Ideal.Facts] : Prop :=
  ∀ (m : (ℓ : Loc Cert.Ln2Ideal.nD Cert.Ln2Ideal.τ Cert.Ln2Ideal.sig) → Buf (Elt Ideal) ℓ) (g : Dev Cert.Ln2Ideal.nD → PrngReg), Pre_Ln2Ideal m →
    θ_run (Cert.Ln2Ideal.defs (F := Ideal)) (onTc (τ := Cert.Ln2Ideal.τ) (Cert.Ln2Ideal.main (F := Ideal))) ⟨m, fun _ => 0, g⟩ (fun r => (∀ c : Dev Cert.Ln2Ideal.nD,
      r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
      ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
      ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
      ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3)
      ∧ r.2.mem ((c.tc : Thread Cert.Ln2Ideal.nD Cert.Ln2Ideal.τ).loc Cert.Ln2Ideal.main_arg4) = m ((c.tc : Thread Cert.Ln2Ideal.nD Cert.Ln2Ideal.τ).loc Cert.Ln2Ideal.main_arg4)
      ∧ r.2.mem ((c.tc : Thread Cert.Ln2Ideal.nD Cert.Ln2Ideal.τ).loc Cert.Ln2Ideal.main_arg5) = m ((c.tc : Thread Cert.Ln2Ideal.nD Cert.Ln2Ideal.τ).loc Cert.Ln2Ideal.main_arg5)
      ∧ r.2.mem ((c.tc : Thread Cert.Ln2Ideal.nD Cert.Ln2Ideal.τ).loc Cert.Ln2Ideal.main_arg6) = m ((c.tc : Thread Cert.Ln2Ideal.nD Cert.Ln2Ideal.τ).loc Cert.Ln2Ideal.main_arg6))
      ∧ r.2.sem = fun _ => 0)

def quiescent_Ln2RefIdeal [hLn2RefIdeal : Cert.Ln2RefIdeal.Facts] : Prop :=
  ∀ (m : (ℓ : Loc Cert.Ln2RefIdeal.nD Cert.Ln2RefIdeal.τ Cert.Ln2RefIdeal.sig) → Buf (Elt Ideal) ℓ) (g : Dev Cert.Ln2RefIdeal.nD → PrngReg), Pre_Ln2RefIdeal m →
    θ_run (Cert.Ln2RefIdeal.defs (F := Ideal)) (onTc (τ := Cert.Ln2RefIdeal.τ) (Cert.Ln2RefIdeal.main (F := Ideal))) ⟨m, fun _ => 0, g⟩ (fun r => (∀ c : Dev Cert.Ln2RefIdeal.nD,
      r.2.mem ((c.tc : Thread Cert.Ln2RefIdeal.nD Cert.Ln2RefIdeal.τ).loc Cert.Ln2RefIdeal.main_arg0) = m ((c.tc : Thread Cert.Ln2RefIdeal.nD Cert.Ln2RefIdeal.τ).loc Cert.Ln2RefIdeal.main_arg0)
      ∧ r.2.mem ((c.tc : Thread Cert.Ln2RefIdeal.nD Cert.Ln2RefIdeal.τ).loc Cert.Ln2RefIdeal.main_arg1) = m ((c.tc : Thread Cert.Ln2RefIdeal.nD Cert.Ln2RefIdeal.τ).loc Cert.Ln2RefIdeal.main_arg1)
      ∧ r.2.mem ((c.tc : Thread Cert.Ln2RefIdeal.nD Cert.Ln2RefIdeal.τ).loc Cert.Ln2RefIdeal.main_arg2) = m ((c.tc : Thread Cert.Ln2RefIdeal.nD Cert.Ln2RefIdeal.τ).loc Cert.Ln2RefIdeal.main_arg2)
      ∧ r.2.mem ((c.tc : Thread Cert.Ln2RefIdeal.nD Cert.Ln2RefIdeal.τ).loc Cert.Ln2RefIdeal.main_arg3) = m ((c.tc : Thread Cert.Ln2RefIdeal.nD Cert.Ln2RefIdeal.τ).loc Cert.Ln2RefIdeal.main_arg3)
      ∧ r.2.mem ((c.tc : Thread Cert.Ln2RefIdeal.nD Cert.Ln2RefIdeal.τ).loc Cert.Ln2RefIdeal.main_arg4) = m ((c.tc : Thread Cert.Ln2RefIdeal.nD Cert.Ln2RefIdeal.τ).loc Cert.Ln2RefIdeal.main_arg4)
      ∧ r.2.mem ((c.tc : Thread Cert.Ln2RefIdeal.nD Cert.Ln2RefIdeal.τ).loc Cert.Ln2RefIdeal.main_arg5) = m ((c.tc : Thread Cert.Ln2RefIdeal.nD Cert.Ln2RefIdeal.τ).loc Cert.Ln2RefIdeal.main_arg5)
      ∧ r.2.mem ((c.tc : Thread Cert.Ln2RefIdeal.nD Cert.Ln2RefIdeal.τ).loc Cert.Ln2RefIdeal.main_arg6) = m ((c.tc : Thread Cert.Ln2RefIdeal.nD Cert.Ln2RefIdeal.τ).loc Cert.Ln2RefIdeal.main_arg6))
      ∧ r.2.sem = fun _ => 0)

def quiescent_AdamwOut1 [hAdamwOut1 : Cert.AdamwOut1.Facts] : Prop :=
  ∀ (m : (ℓ : Loc Cert.AdamwOut1.nD Cert.AdamwOut1.τ Cert.AdamwOut1.sig) → Buf (Elt Bits) ℓ) (g : Dev Cert.AdamwOut1.nD → PrngReg), Pre_AdamwOut1 m →
    θ_run (Cert.AdamwOut1.defs (F := Bits)) (onTc (τ := Cert.AdamwOut1.τ) (Cert.AdamwOut1.main (F := Bits))) ⟨m, fun _ => 0, g⟩ (fun r => (∀ c : Dev Cert.AdamwOut1.nD,
      r.2.mem ((c.tc : Thread Cert.AdamwOut1.nD Cert.AdamwOut1.τ).loc Cert.AdamwOut1.main_arg0) = m ((c.tc : Thread Cert.AdamwOut1.nD Cert.AdamwOut1.τ).loc Cert.AdamwOut1.main_arg0)
      ∧ r.2.mem ((c.tc : Thread Cert.AdamwOut1.nD Cert.AdamwOut1.τ).loc Cert.AdamwOut1.main_arg1) = m ((c.tc : Thread Cert.AdamwOut1.nD Cert.AdamwOut1.τ).loc Cert.AdamwOut1.main_arg1)
      ∧ r.2.mem ((c.tc : Thread Cert.AdamwOut1.nD Cert.AdamwOut1.τ).loc Cert.AdamwOut1.main_arg2) = m ((c.tc : Thread Cert.AdamwOut1.nD Cert.AdamwOut1.τ).loc Cert.AdamwOut1.main_arg2)
      ∧ r.2.mem ((c.tc : Thread Cert.AdamwOut1.nD Cert.AdamwOut1.τ).loc Cert.AdamwOut1.main_arg3) = m ((c.tc : Thread Cert.AdamwOut1.nD Cert.AdamwOut1.τ).loc Cert.AdamwOut1.main_arg3))
      ∧ r.2.sem = fun _ => 0)

def quiescent_AdamwOut1Ideal [hAdamwOut1Ideal : Cert.AdamwOut1Ideal.Facts] : Prop :=
  ∀ (m : (ℓ : Loc Cert.AdamwOut1Ideal.nD Cert.AdamwOut1Ideal.τ Cert.AdamwOut1Ideal.sig) → Buf (Elt Ideal) ℓ) (g : Dev Cert.AdamwOut1Ideal.nD → PrngReg), Pre_AdamwOut1Ideal m →
    θ_run (Cert.AdamwOut1Ideal.defs (F := Ideal)) (onTc (τ := Cert.AdamwOut1Ideal.τ) (Cert.AdamwOut1Ideal.main (F := Ideal))) ⟨m, fun _ => 0, g⟩ (fun r => (∀ c : Dev Cert.AdamwOut1Ideal.nD,
      r.2.mem ((c.tc : Thread Cert.AdamwOut1Ideal.nD Cert.AdamwOut1Ideal.τ).loc Cert.AdamwOut1Ideal.main_arg0) = m ((c.tc : Thread Cert.AdamwOut1Ideal.nD Cert.AdamwOut1Ideal.τ).loc Cert.AdamwOut1Ideal.main_arg0)
      ∧ r.2.mem ((c.tc : Thread Cert.AdamwOut1Ideal.nD Cert.AdamwOut1Ideal.τ).loc Cert.AdamwOut1Ideal.main_arg1) = m ((c.tc : Thread Cert.AdamwOut1Ideal.nD Cert.AdamwOut1Ideal.τ).loc Cert.AdamwOut1Ideal.main_arg1)
      ∧ r.2.mem ((c.tc : Thread Cert.AdamwOut1Ideal.nD Cert.AdamwOut1Ideal.τ).loc Cert.AdamwOut1Ideal.main_arg2) = m ((c.tc : Thread Cert.AdamwOut1Ideal.nD Cert.AdamwOut1Ideal.τ).loc Cert.AdamwOut1Ideal.main_arg2)
      ∧ r.2.mem ((c.tc : Thread Cert.AdamwOut1Ideal.nD Cert.AdamwOut1Ideal.τ).loc Cert.AdamwOut1Ideal.main_arg3) = m ((c.tc : Thread Cert.AdamwOut1Ideal.nD Cert.AdamwOut1Ideal.τ).loc Cert.AdamwOut1Ideal.main_arg3))
      ∧ r.2.sem = fun _ => 0)

def quiescent_AdamwOut1RefIdeal [hAdamwOut1RefIdeal : Cert.AdamwOut1RefIdeal.Facts] : Prop :=
  ∀ (m : (ℓ : Loc Cert.AdamwOut1RefIdeal.nD Cert.AdamwOut1RefIdeal.τ Cert.AdamwOut1RefIdeal.sig) → Buf (Elt Ideal) ℓ) (g : Dev Cert.AdamwOut1RefIdeal.nD → PrngReg), Pre_AdamwOut1RefIdeal m →
    θ_run (Cert.AdamwOut1RefIdeal.defs (F := Ideal)) (onTc (τ := Cert.AdamwOut1RefIdeal.τ) (Cert.AdamwOut1RefIdeal.main (F := Ideal))) ⟨m, fun _ => 0, g⟩ (fun r => (∀ c : Dev Cert.AdamwOut1RefIdeal.nD,
      r.2.mem ((c.tc : Thread Cert.AdamwOut1RefIdeal.nD Cert.AdamwOut1RefIdeal.τ).loc Cert.AdamwOut1RefIdeal.main_arg0) = m ((c.tc : Thread Cert.AdamwOut1RefIdeal.nD Cert.AdamwOut1RefIdeal.τ).loc Cert.AdamwOut1RefIdeal.main_arg0)
      ∧ r.2.mem ((c.tc : Thread Cert.AdamwOut1RefIdeal.nD Cert.AdamwOut1RefIdeal.τ).loc Cert.AdamwOut1RefIdeal.main_arg1) = m ((c.tc : Thread Cert.AdamwOut1RefIdeal.nD Cert.AdamwOut1RefIdeal.τ).loc Cert.AdamwOut1RefIdeal.main_arg1)
      ∧ r.2.mem ((c.tc : Thread Cert.AdamwOut1RefIdeal.nD Cert.AdamwOut1RefIdeal.τ).loc Cert.AdamwOut1RefIdeal.main_arg2) = m ((c.tc : Thread Cert.AdamwOut1RefIdeal.nD Cert.AdamwOut1RefIdeal.τ).loc Cert.AdamwOut1RefIdeal.main_arg2)
      ∧ r.2.mem ((c.tc : Thread Cert.AdamwOut1RefIdeal.nD Cert.AdamwOut1RefIdeal.τ).loc Cert.AdamwOut1RefIdeal.main_arg3) = m ((c.tc : Thread Cert.AdamwOut1RefIdeal.nD Cert.AdamwOut1RefIdeal.τ).loc Cert.AdamwOut1RefIdeal.main_arg3))
      ∧ r.2.sem = fun _ => 0)

def quiescent_AdamwOut0 [hAdamwOut0 : Cert.AdamwOut0.Facts] : Prop :=
  ∀ (m : (ℓ : Loc Cert.AdamwOut0.nD Cert.AdamwOut0.τ Cert.AdamwOut0.sig) → Buf (Elt Bits) ℓ) (g : Dev Cert.AdamwOut0.nD → PrngReg), Pre_AdamwOut0 m →
    θ_run (Cert.AdamwOut0.defs (F := Bits)) (onTc (τ := Cert.AdamwOut0.τ) (Cert.AdamwOut0.main (F := Bits))) ⟨m, fun _ => 0, g⟩ (fun r => (∀ c : Dev Cert.AdamwOut0.nD,
      r.2.mem ((c.tc : Thread Cert.AdamwOut0.nD Cert.AdamwOut0.τ).loc Cert.AdamwOut0.main_arg0) = m ((c.tc : Thread Cert.AdamwOut0.nD Cert.AdamwOut0.τ).loc Cert.AdamwOut0.main_arg0)
      ∧ r.2.mem ((c.tc : Thread Cert.AdamwOut0.nD Cert.AdamwOut0.τ).loc Cert.AdamwOut0.main_arg1) = m ((c.tc : Thread Cert.AdamwOut0.nD Cert.AdamwOut0.τ).loc Cert.AdamwOut0.main_arg1)
      ∧ r.2.mem ((c.tc : Thread Cert.AdamwOut0.nD Cert.AdamwOut0.τ).loc Cert.AdamwOut0.main_arg2) = m ((c.tc : Thread Cert.AdamwOut0.nD Cert.AdamwOut0.τ).loc Cert.AdamwOut0.main_arg2)
      ∧ r.2.mem ((c.tc : Thread Cert.AdamwOut0.nD Cert.AdamwOut0.τ).loc Cert.AdamwOut0.main_arg3) = m ((c.tc : Thread Cert.AdamwOut0.nD Cert.AdamwOut0.τ).loc Cert.AdamwOut0.main_arg3)
      ∧ r.2.mem ((c.tc : Thread Cert.AdamwOut0.nD Cert.AdamwOut0.τ).loc Cert.AdamwOut0.main_arg4) = m ((c.tc : Thread Cert.AdamwOut0.nD Cert.AdamwOut0.τ).loc Cert.AdamwOut0.main_arg4)
      ∧ r.2.mem ((c.tc : Thread Cert.AdamwOut0.nD Cert.AdamwOut0.τ).loc Cert.AdamwOut0.main_arg5) = m ((c.tc : Thread Cert.AdamwOut0.nD Cert.AdamwOut0.τ).loc Cert.AdamwOut0.main_arg5)
      ∧ r.2.mem ((c.tc : Thread Cert.AdamwOut0.nD Cert.AdamwOut0.τ).loc Cert.AdamwOut0.main_arg6) = m ((c.tc : Thread Cert.AdamwOut0.nD Cert.AdamwOut0.τ).loc Cert.AdamwOut0.main_arg6)
      ∧ r.2.mem ((c.tc : Thread Cert.AdamwOut0.nD Cert.AdamwOut0.τ).loc Cert.AdamwOut0.main_arg7) = m ((c.tc : Thread Cert.AdamwOut0.nD Cert.AdamwOut0.τ).loc Cert.AdamwOut0.main_arg7))
      ∧ r.2.sem = fun _ => 0)

def quiescent_AdamwOut0Ideal [hAdamwOut0Ideal : Cert.AdamwOut0Ideal.Facts] : Prop :=
  ∀ (m : (ℓ : Loc Cert.AdamwOut0Ideal.nD Cert.AdamwOut0Ideal.τ Cert.AdamwOut0Ideal.sig) → Buf (Elt Ideal) ℓ) (g : Dev Cert.AdamwOut0Ideal.nD → PrngReg), Pre_AdamwOut0Ideal m →
    θ_run (Cert.AdamwOut0Ideal.defs (F := Ideal)) (onTc (τ := Cert.AdamwOut0Ideal.τ) (Cert.AdamwOut0Ideal.main (F := Ideal))) ⟨m, fun _ => 0, g⟩ (fun r => (∀ c : Dev Cert.AdamwOut0Ideal.nD,
      r.2.mem ((c.tc : Thread Cert.AdamwOut0Ideal.nD Cert.AdamwOut0Ideal.τ).loc Cert.AdamwOut0Ideal.main_arg0) = m ((c.tc : Thread Cert.AdamwOut0Ideal.nD Cert.AdamwOut0Ideal.τ).loc Cert.AdamwOut0Ideal.main_arg0)
      ∧ r.2.mem ((c.tc : Thread Cert.AdamwOut0Ideal.nD Cert.AdamwOut0Ideal.τ).loc Cert.AdamwOut0Ideal.main_arg1) = m ((c.tc : Thread Cert.AdamwOut0Ideal.nD Cert.AdamwOut0Ideal.τ).loc Cert.AdamwOut0Ideal.main_arg1)
      ∧ r.2.mem ((c.tc : Thread Cert.AdamwOut0Ideal.nD Cert.AdamwOut0Ideal.τ).loc Cert.AdamwOut0Ideal.main_arg2) = m ((c.tc : Thread Cert.AdamwOut0Ideal.nD Cert.AdamwOut0Ideal.τ).loc Cert.AdamwOut0Ideal.main_arg2)
      ∧ r.2.mem ((c.tc : Thread Cert.AdamwOut0Ideal.nD Cert.AdamwOut0Ideal.τ).loc Cert.AdamwOut0Ideal.main_arg3) = m ((c.tc : Thread Cert.AdamwOut0Ideal.nD Cert.AdamwOut0Ideal.τ).loc Cert.AdamwOut0Ideal.main_arg3)
      ∧ r.2.mem ((c.tc : Thread Cert.AdamwOut0Ideal.nD Cert.AdamwOut0Ideal.τ).loc Cert.AdamwOut0Ideal.main_arg4) = m ((c.tc : Thread Cert.AdamwOut0Ideal.nD Cert.AdamwOut0Ideal.τ).loc Cert.AdamwOut0Ideal.main_arg4)
      ∧ r.2.mem ((c.tc : Thread Cert.AdamwOut0Ideal.nD Cert.AdamwOut0Ideal.τ).loc Cert.AdamwOut0Ideal.main_arg5) = m ((c.tc : Thread Cert.AdamwOut0Ideal.nD Cert.AdamwOut0Ideal.τ).loc Cert.AdamwOut0Ideal.main_arg5)
      ∧ r.2.mem ((c.tc : Thread Cert.AdamwOut0Ideal.nD Cert.AdamwOut0Ideal.τ).loc Cert.AdamwOut0Ideal.main_arg6) = m ((c.tc : Thread Cert.AdamwOut0Ideal.nD Cert.AdamwOut0Ideal.τ).loc Cert.AdamwOut0Ideal.main_arg6)
      ∧ r.2.mem ((c.tc : Thread Cert.AdamwOut0Ideal.nD Cert.AdamwOut0Ideal.τ).loc Cert.AdamwOut0Ideal.main_arg7) = m ((c.tc : Thread Cert.AdamwOut0Ideal.nD Cert.AdamwOut0Ideal.τ).loc Cert.AdamwOut0Ideal.main_arg7))
      ∧ r.2.sem = fun _ => 0)

def quiescent_AdamwOut0RefIdeal [hAdamwOut0RefIdeal : Cert.AdamwOut0RefIdeal.Facts] : Prop :=
  ∀ (m : (ℓ : Loc Cert.AdamwOut0RefIdeal.nD Cert.AdamwOut0RefIdeal.τ Cert.AdamwOut0RefIdeal.sig) → Buf (Elt Ideal) ℓ) (g : Dev Cert.AdamwOut0RefIdeal.nD → PrngReg), Pre_AdamwOut0RefIdeal m →
    θ_run (Cert.AdamwOut0RefIdeal.defs (F := Ideal)) (onTc (τ := Cert.AdamwOut0RefIdeal.τ) (Cert.AdamwOut0RefIdeal.main (F := Ideal))) ⟨m, fun _ => 0, g⟩ (fun r => (∀ c : Dev Cert.AdamwOut0RefIdeal.nD,
      r.2.mem ((c.tc : Thread Cert.AdamwOut0RefIdeal.nD Cert.AdamwOut0RefIdeal.τ).loc Cert.AdamwOut0RefIdeal.main_arg0) = m ((c.tc : Thread Cert.AdamwOut0RefIdeal.nD Cert.AdamwOut0RefIdeal.τ).loc Cert.AdamwOut0RefIdeal.main_arg0)
      ∧ r.2.mem ((c.tc : Thread Cert.AdamwOut0RefIdeal.nD Cert.AdamwOut0RefIdeal.τ).loc Cert.AdamwOut0RefIdeal.main_arg1) = m ((c.tc : Thread Cert.AdamwOut0RefIdeal.nD Cert.AdamwOut0RefIdeal.τ).loc Cert.AdamwOut0RefIdeal.main_arg1)
      ∧ r.2.mem ((c.tc : Thread Cert.AdamwOut0RefIdeal.nD Cert.AdamwOut0RefIdeal.τ).loc Cert.AdamwOut0RefIdeal.main_arg2) = m ((c.tc : Thread Cert.AdamwOut0RefIdeal.nD Cert.AdamwOut0RefIdeal.τ).loc Cert.AdamwOut0RefIdeal.main_arg2)
      ∧ r.2.mem ((c.tc : Thread Cert.AdamwOut0RefIdeal.nD Cert.AdamwOut0RefIdeal.τ).loc Cert.AdamwOut0RefIdeal.main_arg3) = m ((c.tc : Thread Cert.AdamwOut0RefIdeal.nD Cert.AdamwOut0RefIdeal.τ).loc Cert.AdamwOut0RefIdeal.main_arg3)
      ∧ r.2.mem ((c.tc : Thread Cert.AdamwOut0RefIdeal.nD Cert.AdamwOut0RefIdeal.τ).loc Cert.AdamwOut0RefIdeal.main_arg4) = m ((c.tc : Thread Cert.AdamwOut0RefIdeal.nD Cert.AdamwOut0RefIdeal.τ).loc Cert.AdamwOut0RefIdeal.main_arg4)
      ∧ r.2.mem ((c.tc : Thread Cert.AdamwOut0RefIdeal.nD Cert.AdamwOut0RefIdeal.τ).loc Cert.AdamwOut0RefIdeal.main_arg5) = m ((c.tc : Thread Cert.AdamwOut0RefIdeal.nD Cert.AdamwOut0RefIdeal.τ).loc Cert.AdamwOut0RefIdeal.main_arg5)
      ∧ r.2.mem ((c.tc : Thread Cert.AdamwOut0RefIdeal.nD Cert.AdamwOut0RefIdeal.τ).loc Cert.AdamwOut0RefIdeal.main_arg6) = m ((c.tc : Thread Cert.AdamwOut0RefIdeal.nD Cert.AdamwOut0RefIdeal.τ).loc Cert.AdamwOut0RefIdeal.main_arg6)
      ∧ r.2.mem ((c.tc : Thread Cert.AdamwOut0RefIdeal.nD Cert.AdamwOut0RefIdeal.τ).loc Cert.AdamwOut0RefIdeal.main_arg7) = m ((c.tc : Thread Cert.AdamwOut0RefIdeal.nD Cert.AdamwOut0RefIdeal.τ).loc Cert.AdamwOut0RefIdeal.main_arg7))
      ∧ r.2.sem = fun _ => 0)

def quiescent_AdamwFf2 [hAdamwFf2 : Cert.AdamwFf2.Facts] : Prop :=
  ∀ (m : (ℓ : Loc Cert.AdamwFf2.nD Cert.AdamwFf2.τ Cert.AdamwFf2.sig) → Buf (Elt Bits) ℓ) (g : Dev Cert.AdamwFf2.nD → PrngReg), Pre_AdamwFf2 m →
    θ_run (Cert.AdamwFf2.defs (F := Bits)) (onTc (τ := Cert.AdamwFf2.τ) (Cert.AdamwFf2.main (F := Bits))) ⟨m, fun _ => 0, g⟩ (fun r => (∀ c : Dev Cert.AdamwFf2.nD,
      r.2.mem ((c.tc : Thread Cert.AdamwFf2.nD Cert.AdamwFf2.τ).loc Cert.AdamwFf2.main_arg0) = m ((c.tc : Thread Cert.AdamwFf2.nD Cert.AdamwFf2.τ).loc Cert.AdamwFf2.main_arg0)
      ∧ r.2.mem ((c.tc : Thread Cert.AdamwFf2.nD Cert.AdamwFf2.τ).loc Cert.AdamwFf2.main_arg1) = m ((c.tc : Thread Cert.AdamwFf2.nD Cert.AdamwFf2.τ).loc Cert.AdamwFf2.main_arg1)
      ∧ r.2.mem ((c.tc : Thread Cert.AdamwFf2.nD Cert.AdamwFf2.τ).loc Cert.AdamwFf2.main_arg2) = m ((c.tc : Thread Cert.AdamwFf2.nD Cert.AdamwFf2.τ).loc Cert.AdamwFf2.main_arg2)
      ∧ r.2.mem ((c.tc : Thread Cert.AdamwFf2.nD Cert.AdamwFf2.τ).loc Cert.AdamwFf2.main_arg3) = m ((c.tc : Thread Cert.AdamwFf2.nD Cert.AdamwFf2.τ).loc Cert.AdamwFf2.main_arg3)
      ∧ r.2.mem ((c.tc : Thread Cert.AdamwFf2.nD Cert.AdamwFf2.τ).loc Cert.AdamwFf2.main_arg4) = m ((c.tc : Thread Cert.AdamwFf2.nD Cert.AdamwFf2.τ).loc Cert.AdamwFf2.main_arg4)
      ∧ r.2.mem ((c.tc : Thread Cert.AdamwFf2.nD Cert.AdamwFf2.τ).loc Cert.AdamwFf2.main_arg5) = m ((c.tc : Thread Cert.AdamwFf2.nD Cert.AdamwFf2.τ).loc Cert.AdamwFf2.main_arg5)
      ∧ r.2.mem ((c.tc : Thread Cert.AdamwFf2.nD Cert.AdamwFf2.τ).loc Cert.AdamwFf2.main_arg6) = m ((c.tc : Thread Cert.AdamwFf2.nD Cert.AdamwFf2.τ).loc Cert.AdamwFf2.main_arg6)
      ∧ r.2.mem ((c.tc : Thread Cert.AdamwFf2.nD Cert.AdamwFf2.τ).loc Cert.AdamwFf2.main_arg7) = m ((c.tc : Thread Cert.AdamwFf2.nD Cert.AdamwFf2.τ).loc Cert.AdamwFf2.main_arg7))
      ∧ r.2.sem = fun _ => 0)

def quiescent_AdamwFf2Ideal [hAdamwFf2Ideal : Cert.AdamwFf2Ideal.Facts] : Prop :=
  ∀ (m : (ℓ : Loc Cert.AdamwFf2Ideal.nD Cert.AdamwFf2Ideal.τ Cert.AdamwFf2Ideal.sig) → Buf (Elt Ideal) ℓ) (g : Dev Cert.AdamwFf2Ideal.nD → PrngReg), Pre_AdamwFf2Ideal m →
    θ_run (Cert.AdamwFf2Ideal.defs (F := Ideal)) (onTc (τ := Cert.AdamwFf2Ideal.τ) (Cert.AdamwFf2Ideal.main (F := Ideal))) ⟨m, fun _ => 0, g⟩ (fun r => (∀ c : Dev Cert.AdamwFf2Ideal.nD,
      r.2.mem ((c.tc : Thread Cert.AdamwFf2Ideal.nD Cert.AdamwFf2Ideal.τ).loc Cert.AdamwFf2Ideal.main_arg0) = m ((c.tc : Thread Cert.AdamwFf2Ideal.nD Cert.AdamwFf2Ideal.τ).loc Cert.AdamwFf2Ideal.main_arg0)
      ∧ r.2.mem ((c.tc : Thread Cert.AdamwFf2Ideal.nD Cert.AdamwFf2Ideal.τ).loc Cert.AdamwFf2Ideal.main_arg1) = m ((c.tc : Thread Cert.AdamwFf2Ideal.nD Cert.AdamwFf2Ideal.τ).loc Cert.AdamwFf2Ideal.main_arg1)
      ∧ r.2.mem ((c.tc : Thread Cert.AdamwFf2Ideal.nD Cert.AdamwFf2Ideal.τ).loc Cert.AdamwFf2Ideal.main_arg2) = m ((c.tc : Thread Cert.AdamwFf2Ideal.nD Cert.AdamwFf2Ideal.τ).loc Cert.AdamwFf2Ideal.main_arg2)
      ∧ r.2.mem ((c.tc : Thread Cert.AdamwFf2Ideal.nD Cert.AdamwFf2Ideal.τ).loc Cert.AdamwFf2Ideal.main_arg3) = m ((c.tc : Thread Cert.AdamwFf2Ideal.nD Cert.AdamwFf2Ideal.τ).loc Cert.AdamwFf2Ideal.main_arg3)
      ∧ r.2.mem ((c.tc : Thread Cert.AdamwFf2Ideal.nD Cert.AdamwFf2Ideal.τ).loc Cert.AdamwFf2Ideal.main_arg4) = m ((c.tc : Thread Cert.AdamwFf2Ideal.nD Cert.AdamwFf2Ideal.τ).loc Cert.AdamwFf2Ideal.main_arg4)
      ∧ r.2.mem ((c.tc : Thread Cert.AdamwFf2Ideal.nD Cert.AdamwFf2Ideal.τ).loc Cert.AdamwFf2Ideal.main_arg5) = m ((c.tc : Thread Cert.AdamwFf2Ideal.nD Cert.AdamwFf2Ideal.τ).loc Cert.AdamwFf2Ideal.main_arg5)
      ∧ r.2.mem ((c.tc : Thread Cert.AdamwFf2Ideal.nD Cert.AdamwFf2Ideal.τ).loc Cert.AdamwFf2Ideal.main_arg6) = m ((c.tc : Thread Cert.AdamwFf2Ideal.nD Cert.AdamwFf2Ideal.τ).loc Cert.AdamwFf2Ideal.main_arg6)
      ∧ r.2.mem ((c.tc : Thread Cert.AdamwFf2Ideal.nD Cert.AdamwFf2Ideal.τ).loc Cert.AdamwFf2Ideal.main_arg7) = m ((c.tc : Thread Cert.AdamwFf2Ideal.nD Cert.AdamwFf2Ideal.τ).loc Cert.AdamwFf2Ideal.main_arg7))
      ∧ r.2.sem = fun _ => 0)

def quiescent_AdamwFf2RefIdeal [hAdamwFf2RefIdeal : Cert.AdamwFf2RefIdeal.Facts] : Prop :=
  ∀ (m : (ℓ : Loc Cert.AdamwFf2RefIdeal.nD Cert.AdamwFf2RefIdeal.τ Cert.AdamwFf2RefIdeal.sig) → Buf (Elt Ideal) ℓ) (g : Dev Cert.AdamwFf2RefIdeal.nD → PrngReg), Pre_AdamwFf2RefIdeal m →
    θ_run (Cert.AdamwFf2RefIdeal.defs (F := Ideal)) (onTc (τ := Cert.AdamwFf2RefIdeal.τ) (Cert.AdamwFf2RefIdeal.main (F := Ideal))) ⟨m, fun _ => 0, g⟩ (fun r => (∀ c : Dev Cert.AdamwFf2RefIdeal.nD,
      r.2.mem ((c.tc : Thread Cert.AdamwFf2RefIdeal.nD Cert.AdamwFf2RefIdeal.τ).loc Cert.AdamwFf2RefIdeal.main_arg0) = m ((c.tc : Thread Cert.AdamwFf2RefIdeal.nD Cert.AdamwFf2RefIdeal.τ).loc Cert.AdamwFf2RefIdeal.main_arg0)
      ∧ r.2.mem ((c.tc : Thread Cert.AdamwFf2RefIdeal.nD Cert.AdamwFf2RefIdeal.τ).loc Cert.AdamwFf2RefIdeal.main_arg1) = m ((c.tc : Thread Cert.AdamwFf2RefIdeal.nD Cert.AdamwFf2RefIdeal.τ).loc Cert.AdamwFf2RefIdeal.main_arg1)
      ∧ r.2.mem ((c.tc : Thread Cert.AdamwFf2RefIdeal.nD Cert.AdamwFf2RefIdeal.τ).loc Cert.AdamwFf2RefIdeal.main_arg2) = m ((c.tc : Thread Cert.AdamwFf2RefIdeal.nD Cert.AdamwFf2RefIdeal.τ).loc Cert.AdamwFf2RefIdeal.main_arg2)
      ∧ r.2.mem ((c.tc : Thread Cert.AdamwFf2RefIdeal.nD Cert.AdamwFf2RefIdeal.τ).loc Cert.AdamwFf2RefIdeal.main_arg3) = m ((c.tc : Thread Cert.AdamwFf2RefIdeal.nD Cert.AdamwFf2RefIdeal.τ).loc Cert.AdamwFf2RefIdeal.main_arg3)
      ∧ r.2.mem ((c.tc : Thread Cert.AdamwFf2RefIdeal.nD Cert.AdamwFf2RefIdeal.τ).loc Cert.AdamwFf2RefIdeal.main_arg4) = m ((c.tc : Thread Cert.AdamwFf2RefIdeal.nD Cert.AdamwFf2RefIdeal.τ).loc Cert.AdamwFf2RefIdeal.main_arg4)
      ∧ r.2.mem ((c.tc : Thread Cert.AdamwFf2RefIdeal.nD Cert.AdamwFf2RefIdeal.τ).loc Cert.AdamwFf2RefIdeal.main_arg5) = m ((c.tc : Thread Cert.AdamwFf2RefIdeal.nD Cert.AdamwFf2RefIdeal.τ).loc Cert.AdamwFf2RefIdeal.main_arg5)
      ∧ r.2.mem ((c.tc : Thread Cert.AdamwFf2RefIdeal.nD Cert.AdamwFf2RefIdeal.τ).loc Cert.AdamwFf2RefIdeal.main_arg6) = m ((c.tc : Thread Cert.AdamwFf2RefIdeal.nD Cert.AdamwFf2RefIdeal.τ).loc Cert.AdamwFf2RefIdeal.main_arg6)
      ∧ r.2.mem ((c.tc : Thread Cert.AdamwFf2RefIdeal.nD Cert.AdamwFf2RefIdeal.τ).loc Cert.AdamwFf2RefIdeal.main_arg7) = m ((c.tc : Thread Cert.AdamwFf2RefIdeal.nD Cert.AdamwFf2RefIdeal.τ).loc Cert.AdamwFf2RefIdeal.main_arg7))
      ∧ r.2.sem = fun _ => 0)

def quiescent_AdamwIn0 [hAdamwIn0 : Cert.AdamwIn0.Facts] : Prop :=
  ∀ (m : (ℓ : Loc Cert.AdamwIn0.nD Cert.AdamwIn0.τ Cert.AdamwIn0.sig) → Buf (Elt Bits) ℓ) (g : Dev Cert.AdamwIn0.nD → PrngReg), Pre_AdamwIn0 m →
    θ_run (Cert.AdamwIn0.defs (F := Bits)) (onTc (τ := Cert.AdamwIn0.τ) (Cert.AdamwIn0.main (F := Bits))) ⟨m, fun _ => 0, g⟩ (fun r => (∀ c : Dev Cert.AdamwIn0.nD,
      r.2.mem ((c.tc : Thread Cert.AdamwIn0.nD Cert.AdamwIn0.τ).loc Cert.AdamwIn0.main_arg0) = m ((c.tc : Thread Cert.AdamwIn0.nD Cert.AdamwIn0.τ).loc Cert.AdamwIn0.main_arg0)
      ∧ r.2.mem ((c.tc : Thread Cert.AdamwIn0.nD Cert.AdamwIn0.τ).loc Cert.AdamwIn0.main_arg1) = m ((c.tc : Thread Cert.AdamwIn0.nD Cert.AdamwIn0.τ).loc Cert.AdamwIn0.main_arg1)
      ∧ r.2.mem ((c.tc : Thread Cert.AdamwIn0.nD Cert.AdamwIn0.τ).loc Cert.AdamwIn0.main_arg2) = m ((c.tc : Thread Cert.AdamwIn0.nD Cert.AdamwIn0.τ).loc Cert.AdamwIn0.main_arg2)
      ∧ r.2.mem ((c.tc : Thread Cert.AdamwIn0.nD Cert.AdamwIn0.τ).loc Cert.AdamwIn0.main_arg3) = m ((c.tc : Thread Cert.AdamwIn0.nD Cert.AdamwIn0.τ).loc Cert.AdamwIn0.main_arg3)
      ∧ r.2.mem ((c.tc : Thread Cert.AdamwIn0.nD Cert.AdamwIn0.τ).loc Cert.AdamwIn0.main_arg4) = m ((c.tc : Thread Cert.AdamwIn0.nD Cert.AdamwIn0.τ).loc Cert.AdamwIn0.main_arg4)
      ∧ r.2.mem ((c.tc : Thread Cert.AdamwIn0.nD Cert.AdamwIn0.τ).loc Cert.AdamwIn0.main_arg5) = m ((c.tc : Thread Cert.AdamwIn0.nD Cert.AdamwIn0.τ).loc Cert.AdamwIn0.main_arg5)
      ∧ r.2.mem ((c.tc : Thread Cert.AdamwIn0.nD Cert.AdamwIn0.τ).loc Cert.AdamwIn0.main_arg6) = m ((c.tc : Thread Cert.AdamwIn0.nD Cert.AdamwIn0.τ).loc Cert.AdamwIn0.main_arg6)
      ∧ r.2.mem ((c.tc : Thread Cert.AdamwIn0.nD Cert.AdamwIn0.τ).loc Cert.AdamwIn0.main_arg7) = m ((c.tc : Thread Cert.AdamwIn0.nD Cert.AdamwIn0.τ).loc Cert.AdamwIn0.main_arg7))
      ∧ r.2.sem = fun _ => 0)

def quiescent_AdamwIn0Ideal [hAdamwIn0Ideal : Cert.AdamwIn0Ideal.Facts] : Prop :=
  ∀ (m : (ℓ : Loc Cert.AdamwIn0Ideal.nD Cert.AdamwIn0Ideal.τ Cert.AdamwIn0Ideal.sig) → Buf (Elt Ideal) ℓ) (g : Dev Cert.AdamwIn0Ideal.nD → PrngReg), Pre_AdamwIn0Ideal m →
    θ_run (Cert.AdamwIn0Ideal.defs (F := Ideal)) (onTc (τ := Cert.AdamwIn0Ideal.τ) (Cert.AdamwIn0Ideal.main (F := Ideal))) ⟨m, fun _ => 0, g⟩ (fun r => (∀ c : Dev Cert.AdamwIn0Ideal.nD,
      r.2.mem ((c.tc : Thread Cert.AdamwIn0Ideal.nD Cert.AdamwIn0Ideal.τ).loc Cert.AdamwIn0Ideal.main_arg0) = m ((c.tc : Thread Cert.AdamwIn0Ideal.nD Cert.AdamwIn0Ideal.τ).loc Cert.AdamwIn0Ideal.main_arg0)
      ∧ r.2.mem ((c.tc : Thread Cert.AdamwIn0Ideal.nD Cert.AdamwIn0Ideal.τ).loc Cert.AdamwIn0Ideal.main_arg1) = m ((c.tc : Thread Cert.AdamwIn0Ideal.nD Cert.AdamwIn0Ideal.τ).loc Cert.AdamwIn0Ideal.main_arg1)
      ∧ r.2.mem ((c.tc : Thread Cert.AdamwIn0Ideal.nD Cert.AdamwIn0Ideal.τ).loc Cert.AdamwIn0Ideal.main_arg2) = m ((c.tc : Thread Cert.AdamwIn0Ideal.nD Cert.AdamwIn0Ideal.τ).loc Cert.AdamwIn0Ideal.main_arg2)
      ∧ r.2.mem ((c.tc : Thread Cert.AdamwIn0Ideal.nD Cert.AdamwIn0Ideal.τ).loc Cert.AdamwIn0Ideal.main_arg3) = m ((c.tc : Thread Cert.AdamwIn0Ideal.nD Cert.AdamwIn0Ideal.τ).loc Cert.AdamwIn0Ideal.main_arg3)
      ∧ r.2.mem ((c.tc : Thread Cert.AdamwIn0Ideal.nD Cert.AdamwIn0Ideal.τ).loc Cert.AdamwIn0Ideal.main_arg4) = m ((c.tc : Thread Cert.AdamwIn0Ideal.nD Cert.AdamwIn0Ideal.τ).loc Cert.AdamwIn0Ideal.main_arg4)
      ∧ r.2.mem ((c.tc : Thread Cert.AdamwIn0Ideal.nD Cert.AdamwIn0Ideal.τ).loc Cert.AdamwIn0Ideal.main_arg5) = m ((c.tc : Thread Cert.AdamwIn0Ideal.nD Cert.AdamwIn0Ideal.τ).loc Cert.AdamwIn0Ideal.main_arg5)
      ∧ r.2.mem ((c.tc : Thread Cert.AdamwIn0Ideal.nD Cert.AdamwIn0Ideal.τ).loc Cert.AdamwIn0Ideal.main_arg6) = m ((c.tc : Thread Cert.AdamwIn0Ideal.nD Cert.AdamwIn0Ideal.τ).loc Cert.AdamwIn0Ideal.main_arg6)
      ∧ r.2.mem ((c.tc : Thread Cert.AdamwIn0Ideal.nD Cert.AdamwIn0Ideal.τ).loc Cert.AdamwIn0Ideal.main_arg7) = m ((c.tc : Thread Cert.AdamwIn0Ideal.nD Cert.AdamwIn0Ideal.τ).loc Cert.AdamwIn0Ideal.main_arg7))
      ∧ r.2.sem = fun _ => 0)

def quiescent_AdamwIn0RefIdeal [hAdamwIn0RefIdeal : Cert.AdamwIn0RefIdeal.Facts] : Prop :=
  ∀ (m : (ℓ : Loc Cert.AdamwIn0RefIdeal.nD Cert.AdamwIn0RefIdeal.τ Cert.AdamwIn0RefIdeal.sig) → Buf (Elt Ideal) ℓ) (g : Dev Cert.AdamwIn0RefIdeal.nD → PrngReg), Pre_AdamwIn0RefIdeal m →
    θ_run (Cert.AdamwIn0RefIdeal.defs (F := Ideal)) (onTc (τ := Cert.AdamwIn0RefIdeal.τ) (Cert.AdamwIn0RefIdeal.main (F := Ideal))) ⟨m, fun _ => 0, g⟩ (fun r => (∀ c : Dev Cert.AdamwIn0RefIdeal.nD,
      r.2.mem ((c.tc : Thread Cert.AdamwIn0RefIdeal.nD Cert.AdamwIn0RefIdeal.τ).loc Cert.AdamwIn0RefIdeal.main_arg0) = m ((c.tc : Thread Cert.AdamwIn0RefIdeal.nD Cert.AdamwIn0RefIdeal.τ).loc Cert.AdamwIn0RefIdeal.main_arg0)
      ∧ r.2.mem ((c.tc : Thread Cert.AdamwIn0RefIdeal.nD Cert.AdamwIn0RefIdeal.τ).loc Cert.AdamwIn0RefIdeal.main_arg1) = m ((c.tc : Thread Cert.AdamwIn0RefIdeal.nD Cert.AdamwIn0RefIdeal.τ).loc Cert.AdamwIn0RefIdeal.main_arg1)
      ∧ r.2.mem ((c.tc : Thread Cert.AdamwIn0RefIdeal.nD Cert.AdamwIn0RefIdeal.τ).loc Cert.AdamwIn0RefIdeal.main_arg2) = m ((c.tc : Thread Cert.AdamwIn0RefIdeal.nD Cert.AdamwIn0RefIdeal.τ).loc Cert.AdamwIn0RefIdeal.main_arg2)
      ∧ r.2.mem ((c.tc : Thread Cert.AdamwIn0RefIdeal.nD Cert.AdamwIn0RefIdeal.τ).loc Cert.AdamwIn0RefIdeal.main_arg3) = m ((c.tc : Thread Cert.AdamwIn0RefIdeal.nD Cert.AdamwIn0RefIdeal.τ).loc Cert.AdamwIn0RefIdeal.main_arg3)
      ∧ r.2.mem ((c.tc : Thread Cert.AdamwIn0RefIdeal.nD Cert.AdamwIn0RefIdeal.τ).loc Cert.AdamwIn0RefIdeal.main_arg4) = m ((c.tc : Thread Cert.AdamwIn0RefIdeal.nD Cert.AdamwIn0RefIdeal.τ).loc Cert.AdamwIn0RefIdeal.main_arg4)
      ∧ r.2.mem ((c.tc : Thread Cert.AdamwIn0RefIdeal.nD Cert.AdamwIn0RefIdeal.τ).loc Cert.AdamwIn0RefIdeal.main_arg5) = m ((c.tc : Thread Cert.AdamwIn0RefIdeal.nD Cert.AdamwIn0RefIdeal.τ).loc Cert.AdamwIn0RefIdeal.main_arg5)
      ∧ r.2.mem ((c.tc : Thread Cert.AdamwIn0RefIdeal.nD Cert.AdamwIn0RefIdeal.τ).loc Cert.AdamwIn0RefIdeal.main_arg6) = m ((c.tc : Thread Cert.AdamwIn0RefIdeal.nD Cert.AdamwIn0RefIdeal.τ).loc Cert.AdamwIn0RefIdeal.main_arg6)
      ∧ r.2.mem ((c.tc : Thread Cert.AdamwIn0RefIdeal.nD Cert.AdamwIn0RefIdeal.τ).loc Cert.AdamwIn0RefIdeal.main_arg7) = m ((c.tc : Thread Cert.AdamwIn0RefIdeal.nD Cert.AdamwIn0RefIdeal.τ).loc Cert.AdamwIn0RefIdeal.main_arg7))
      ∧ r.2.sem = fun _ => 0)

def quiescent_AdamwConv [hAdamwConv : Cert.AdamwConv.Facts] : Prop :=
  ∀ (m : (ℓ : Loc Cert.AdamwConv.nD Cert.AdamwConv.τ Cert.AdamwConv.sig) → Buf (Elt Bits) ℓ) (g : Dev Cert.AdamwConv.nD → PrngReg), Pre_AdamwConv m →
    θ_run (Cert.AdamwConv.defs (F := Bits)) (onTc (τ := Cert.AdamwConv.τ) (Cert.AdamwConv.main (F := Bits))) ⟨m, fun _ => 0, g⟩ (fun r => (∀ c : Dev Cert.AdamwConv.nD,
      r.2.mem ((c.tc : Thread Cert.AdamwConv.nD Cert.AdamwConv.τ).loc Cert.AdamwConv.main_arg0) = m ((c.tc : Thread Cert.AdamwConv.nD Cert.AdamwConv.τ).loc Cert.AdamwConv.main_arg0)
      ∧ r.2.mem ((c.tc : Thread Cert.AdamwConv.nD Cert.AdamwConv.τ).loc Cert.AdamwConv.main_arg1) = m ((c.tc : Thread Cert.AdamwConv.nD Cert.AdamwConv.τ).loc Cert.AdamwConv.main_arg1)
      ∧ r.2.mem ((c.tc : Thread Cert.AdamwConv.nD Cert.AdamwConv.τ).loc Cert.AdamwConv.main_arg2) = m ((c.tc : Thread Cert.AdamwConv.nD Cert.AdamwConv.τ).loc Cert.AdamwConv.main_arg2)
      ∧ r.2.mem ((c.tc : Thread Cert.AdamwConv.nD Cert.AdamwConv.τ).loc Cert.AdamwConv.main_arg3) = m ((c.tc : Thread Cert.AdamwConv.nD Cert.AdamwConv.τ).loc Cert.AdamwConv.main_arg3))
      ∧ r.2.sem = fun _ => 0)

def quiescent_AdamwConvIdeal [hAdamwConvIdeal : Cert.AdamwConvIdeal.Facts] : Prop :=
  ∀ (m : (ℓ : Loc Cert.AdamwConvIdeal.nD Cert.AdamwConvIdeal.τ Cert.AdamwConvIdeal.sig) → Buf (Elt Ideal) ℓ) (g : Dev Cert.AdamwConvIdeal.nD → PrngReg), Pre_AdamwConvIdeal m →
    θ_run (Cert.AdamwConvIdeal.defs (F := Ideal)) (onTc (τ := Cert.AdamwConvIdeal.τ) (Cert.AdamwConvIdeal.main (F := Ideal))) ⟨m, fun _ => 0, g⟩ (fun r => (∀ c : Dev Cert.AdamwConvIdeal.nD,
      r.2.mem ((c.tc : Thread Cert.AdamwConvIdeal.nD Cert.AdamwConvIdeal.τ).loc Cert.AdamwConvIdeal.main_arg0) = m ((c.tc : Thread Cert.AdamwConvIdeal.nD Cert.AdamwConvIdeal.τ).loc Cert.AdamwConvIdeal.main_arg0)
      ∧ r.2.mem ((c.tc : Thread Cert.AdamwConvIdeal.nD Cert.AdamwConvIdeal.τ).loc Cert.AdamwConvIdeal.main_arg1) = m ((c.tc : Thread Cert.AdamwConvIdeal.nD Cert.AdamwConvIdeal.τ).loc Cert.AdamwConvIdeal.main_arg1)
      ∧ r.2.mem ((c.tc : Thread Cert.AdamwConvIdeal.nD Cert.AdamwConvIdeal.τ).loc Cert.AdamwConvIdeal.main_arg2) = m ((c.tc : Thread Cert.AdamwConvIdeal.nD Cert.AdamwConvIdeal.τ).loc Cert.AdamwConvIdeal.main_arg2)
      ∧ r.2.mem ((c.tc : Thread Cert.AdamwConvIdeal.nD Cert.AdamwConvIdeal.τ).loc Cert.AdamwConvIdeal.main_arg3) = m ((c.tc : Thread Cert.AdamwConvIdeal.nD Cert.AdamwConvIdeal.τ).loc Cert.AdamwConvIdeal.main_arg3))
      ∧ r.2.sem = fun _ => 0)

def quiescent_AdamwConvRefIdeal [hAdamwConvRefIdeal : Cert.AdamwConvRefIdeal.Facts] : Prop :=
  ∀ (m : (ℓ : Loc Cert.AdamwConvRefIdeal.nD Cert.AdamwConvRefIdeal.τ Cert.AdamwConvRefIdeal.sig) → Buf (Elt Ideal) ℓ) (g : Dev Cert.AdamwConvRefIdeal.nD → PrngReg), Pre_AdamwConvRefIdeal m →
    θ_run (Cert.AdamwConvRefIdeal.defs (F := Ideal)) (onTc (τ := Cert.AdamwConvRefIdeal.τ) (Cert.AdamwConvRefIdeal.main (F := Ideal))) ⟨m, fun _ => 0, g⟩ (fun r => (∀ c : Dev Cert.AdamwConvRefIdeal.nD,
      r.2.mem ((c.tc : Thread Cert.AdamwConvRefIdeal.nD Cert.AdamwConvRefIdeal.τ).loc Cert.AdamwConvRefIdeal.main_arg0) = m ((c.tc : Thread Cert.AdamwConvRefIdeal.nD Cert.AdamwConvRefIdeal.τ).loc Cert.AdamwConvRefIdeal.main_arg0)
      ∧ r.2.mem ((c.tc : Thread Cert.AdamwConvRefIdeal.nD Cert.AdamwConvRefIdeal.τ).loc Cert.AdamwConvRefIdeal.main_arg1) = m ((c.tc : Thread Cert.AdamwConvRefIdeal.nD Cert.AdamwConvRefIdeal.τ).loc Cert.AdamwConvRefIdeal.main_arg1)
      ∧ r.2.mem ((c.tc : Thread Cert.AdamwConvRefIdeal.nD Cert.AdamwConvRefIdeal.τ).loc Cert.AdamwConvRefIdeal.main_arg2) = m ((c.tc : Thread Cert.AdamwConvRefIdeal.nD Cert.AdamwConvRefIdeal.τ).loc Cert.AdamwConvRefIdeal.main_arg2)
      ∧ r.2.mem ((c.tc : Thread Cert.AdamwConvRefIdeal.nD Cert.AdamwConvRefIdeal.τ).loc Cert.AdamwConvRefIdeal.main_arg3) = m ((c.tc : Thread Cert.AdamwConvRefIdeal.nD Cert.AdamwConvRefIdeal.τ).loc Cert.AdamwConvRefIdeal.main_arg3))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10))
      ∧ r.2.sem = fun _ => 0)

def quiescent_AdamwReplicated [hAdamwReplicated : Cert.AdamwReplicated.Facts] : Prop :=
  ∀ (m : (ℓ : Loc Cert.AdamwReplicated.nD Cert.AdamwReplicated.τ Cert.AdamwReplicated.sig) → Buf (Elt Bits) ℓ) (g : Dev Cert.AdamwReplicated.nD → PrngReg), Pre_AdamwReplicated m →
    θ_run (Cert.AdamwReplicated.defs (F := Bits)) (onTc (τ := Cert.AdamwReplicated.τ) (Cert.AdamwReplicated.main (F := Bits))) ⟨m, fun _ => 0, g⟩ (fun r => (∀ c : Dev Cert.AdamwReplicated.nD,
      r.2.mem ((c.tc : Thread Cert.AdamwReplicated.nD Cert.AdamwReplicated.τ).loc Cert.AdamwReplicated.main_arg0) = m ((c.tc : Thread Cert.AdamwReplicated.nD Cert.AdamwReplicated.τ).loc Cert.AdamwReplicated.main_arg0)
      ∧ r.2.mem ((c.tc : Thread Cert.AdamwReplicated.nD Cert.AdamwReplicated.τ).loc Cert.AdamwReplicated.main_arg1) = m ((c.tc : Thread Cert.AdamwReplicated.nD Cert.AdamwReplicated.τ).loc Cert.AdamwReplicated.main_arg1)
      ∧ r.2.mem ((c.tc : Thread Cert.AdamwReplicated.nD Cert.AdamwReplicated.τ).loc Cert.AdamwReplicated.main_arg2) = m ((c.tc : Thread Cert.AdamwReplicated.nD Cert.AdamwReplicated.τ).loc Cert.AdamwReplicated.main_arg2)
      ∧ r.2.mem ((c.tc : Thread Cert.AdamwReplicated.nD Cert.AdamwReplicated.τ).loc Cert.AdamwReplicated.main_arg3) = m ((c.tc : Thread Cert.AdamwReplicated.nD Cert.AdamwReplicated.τ).loc Cert.AdamwReplicated.main_arg3))
      ∧ r.2.sem = fun _ => 0)

def quiescent_AdamwReplicatedIdeal [hAdamwReplicatedIdeal : Cert.AdamwReplicatedIdeal.Facts] : Prop :=
  ∀ (m : (ℓ : Loc Cert.AdamwReplicatedIdeal.nD Cert.AdamwReplicatedIdeal.τ Cert.AdamwReplicatedIdeal.sig) → Buf (Elt Ideal) ℓ) (g : Dev Cert.AdamwReplicatedIdeal.nD → PrngReg), Pre_AdamwReplicatedIdeal m →
    θ_run (Cert.AdamwReplicatedIdeal.defs (F := Ideal)) (onTc (τ := Cert.AdamwReplicatedIdeal.τ) (Cert.AdamwReplicatedIdeal.main (F := Ideal))) ⟨m, fun _ => 0, g⟩ (fun r => (∀ c : Dev Cert.AdamwReplicatedIdeal.nD,
      r.2.mem ((c.tc : Thread Cert.AdamwReplicatedIdeal.nD Cert.AdamwReplicatedIdeal.τ).loc Cert.AdamwReplicatedIdeal.main_arg0) = m ((c.tc : Thread Cert.AdamwReplicatedIdeal.nD Cert.AdamwReplicatedIdeal.τ).loc Cert.AdamwReplicatedIdeal.main_arg0)
      ∧ r.2.mem ((c.tc : Thread Cert.AdamwReplicatedIdeal.nD Cert.AdamwReplicatedIdeal.τ).loc Cert.AdamwReplicatedIdeal.main_arg1) = m ((c.tc : Thread Cert.AdamwReplicatedIdeal.nD Cert.AdamwReplicatedIdeal.τ).loc Cert.AdamwReplicatedIdeal.main_arg1)
      ∧ r.2.mem ((c.tc : Thread Cert.AdamwReplicatedIdeal.nD Cert.AdamwReplicatedIdeal.τ).loc Cert.AdamwReplicatedIdeal.main_arg2) = m ((c.tc : Thread Cert.AdamwReplicatedIdeal.nD Cert.AdamwReplicatedIdeal.τ).loc Cert.AdamwReplicatedIdeal.main_arg2)
      ∧ r.2.mem ((c.tc : Thread Cert.AdamwReplicatedIdeal.nD Cert.AdamwReplicatedIdeal.τ).loc Cert.AdamwReplicatedIdeal.main_arg3) = m ((c.tc : Thread Cert.AdamwReplicatedIdeal.nD Cert.AdamwReplicatedIdeal.τ).loc Cert.AdamwReplicatedIdeal.main_arg3))
      ∧ r.2.sem = fun _ => 0)

def quiescent_AdamwReplicatedRefIdeal [hAdamwReplicatedRefIdeal : Cert.AdamwReplicatedRefIdeal.Facts] : Prop :=
  ∀ (m : (ℓ : Loc Cert.AdamwReplicatedRefIdeal.nD Cert.AdamwReplicatedRefIdeal.τ Cert.AdamwReplicatedRefIdeal.sig) → Buf (Elt Ideal) ℓ) (g : Dev Cert.AdamwReplicatedRefIdeal.nD → PrngReg), Pre_AdamwReplicatedRefIdeal m →
    θ_run (Cert.AdamwReplicatedRefIdeal.defs (F := Ideal)) (onTc (τ := Cert.AdamwReplicatedRefIdeal.τ) (Cert.AdamwReplicatedRefIdeal.main (F := Ideal))) ⟨m, fun _ => 0, g⟩ (fun r => (∀ c : Dev Cert.AdamwReplicatedRefIdeal.nD,
      r.2.mem ((c.tc : Thread Cert.AdamwReplicatedRefIdeal.nD Cert.AdamwReplicatedRefIdeal.τ).loc Cert.AdamwReplicatedRefIdeal.main_arg0) = m ((c.tc : Thread Cert.AdamwReplicatedRefIdeal.nD Cert.AdamwReplicatedRefIdeal.τ).loc Cert.AdamwReplicatedRefIdeal.main_arg0)
      ∧ r.2.mem ((c.tc : Thread Cert.AdamwReplicatedRefIdeal.nD Cert.AdamwReplicatedRefIdeal.τ).loc Cert.AdamwReplicatedRefIdeal.main_arg1) = m ((c.tc : Thread Cert.AdamwReplicatedRefIdeal.nD Cert.AdamwReplicatedRefIdeal.τ).loc Cert.AdamwReplicatedRefIdeal.main_arg1)
      ∧ r.2.mem ((c.tc : Thread Cert.AdamwReplicatedRefIdeal.nD Cert.AdamwReplicatedRefIdeal.τ).loc Cert.AdamwReplicatedRefIdeal.main_arg2) = m ((c.tc : Thread Cert.AdamwReplicatedRefIdeal.nD Cert.AdamwReplicatedRefIdeal.τ).loc Cert.AdamwReplicatedRefIdeal.main_arg2)
      ∧ r.2.mem ((c.tc : Thread Cert.AdamwReplicatedRefIdeal.nD Cert.AdamwReplicatedRefIdeal.τ).loc Cert.AdamwReplicatedRefIdeal.main_arg3) = m ((c.tc : Thread Cert.AdamwReplicatedRefIdeal.nD Cert.AdamwReplicatedRefIdeal.τ).loc Cert.AdamwReplicatedRefIdeal.main_arg3))
      ∧ r.2.sem = fun _ => 0)

def quiescent_Ln1Bwd [hLn1Bwd : Cert.Ln1Bwd.Facts] : Prop :=
  ∀ (m : (ℓ : Loc Cert.Ln1Bwd.nD Cert.Ln1Bwd.τ Cert.Ln1Bwd.sig) → Buf (Elt Bits) ℓ) (g : Dev Cert.Ln1Bwd.nD → PrngReg), Pre_Ln1Bwd m →
    θ_run (Cert.Ln1Bwd.defs (F := Bits)) (onTc (τ := Cert.Ln1Bwd.τ) (Cert.Ln1Bwd.main (F := Bits))) ⟨m, fun _ => 0, g⟩ (fun r => (∀ c : Dev Cert.Ln1Bwd.nD,
      r.2.mem ((c.tc : Thread Cert.Ln1Bwd.nD Cert.Ln1Bwd.τ).loc Cert.Ln1Bwd.main_arg0) = m ((c.tc : Thread Cert.Ln1Bwd.nD Cert.Ln1Bwd.τ).loc Cert.Ln1Bwd.main_arg0)
      ∧ r.2.mem ((c.tc : Thread Cert.Ln1Bwd.nD Cert.Ln1Bwd.τ).loc Cert.Ln1Bwd.main_arg1) = m ((c.tc : Thread Cert.Ln1Bwd.nD Cert.Ln1Bwd.τ).loc Cert.Ln1Bwd.main_arg1)
      ∧ r.2.mem ((c.tc : Thread Cert.Ln1Bwd.nD Cert.Ln1Bwd.τ).loc Cert.Ln1Bwd.main_arg2) = m ((c.tc : Thread Cert.Ln1Bwd.nD Cert.Ln1Bwd.τ).loc Cert.Ln1Bwd.main_arg2)
      ∧ r.2.mem ((c.tc : Thread Cert.Ln1Bwd.nD Cert.Ln1Bwd.τ).loc Cert.Ln1Bwd.main_arg3) = m ((c.tc : Thread Cert.Ln1Bwd.nD Cert.Ln1Bwd.τ).loc Cert.Ln1Bwd.main_arg3)
      ∧ r.2.mem ((c.tc : Thread Cert.Ln1Bwd.nD Cert.Ln1Bwd.τ).loc Cert.Ln1Bwd.main_arg4) = m ((c.tc : Thread Cert.Ln1Bwd.nD Cert.Ln1Bwd.τ).loc Cert.Ln1Bwd.main_arg4)
      ∧ r.2.mem ((c.tc : Thread Cert.Ln1Bwd.nD Cert.Ln1Bwd.τ).loc Cert.Ln1Bwd.main_arg5) = m ((c.tc : Thread Cert.Ln1Bwd.nD Cert.Ln1Bwd.τ).loc Cert.Ln1Bwd.main_arg5))
      ∧ r.2.sem = fun _ => 0)

def quiescent_Ln1BwdIdeal [hLn1BwdIdeal : Cert.Ln1BwdIdeal.Facts] : Prop :=
  ∀ (m : (ℓ : Loc Cert.Ln1BwdIdeal.nD Cert.Ln1BwdIdeal.τ Cert.Ln1BwdIdeal.sig) → Buf (Elt Ideal) ℓ) (g : Dev Cert.Ln1BwdIdeal.nD → PrngReg), Pre_Ln1BwdIdeal m →
    θ_run (Cert.Ln1BwdIdeal.defs (F := Ideal)) (onTc (τ := Cert.Ln1BwdIdeal.τ) (Cert.Ln1BwdIdeal.main (F := Ideal))) ⟨m, fun _ => 0, g⟩ (fun r => (∀ c : Dev Cert.Ln1BwdIdeal.nD,
      r.2.mem ((c.tc : Thread Cert.Ln1BwdIdeal.nD Cert.Ln1BwdIdeal.τ).loc Cert.Ln1BwdIdeal.main_arg0) = m ((c.tc : Thread Cert.Ln1BwdIdeal.nD Cert.Ln1BwdIdeal.τ).loc Cert.Ln1BwdIdeal.main_arg0)
      ∧ r.2.mem ((c.tc : Thread Cert.Ln1BwdIdeal.nD Cert.Ln1BwdIdeal.τ).loc Cert.Ln1BwdIdeal.main_arg1) = m ((c.tc : Thread Cert.Ln1BwdIdeal.nD Cert.Ln1BwdIdeal.τ).loc Cert.Ln1BwdIdeal.main_arg1)
      ∧ r.2.mem ((c.tc : Thread Cert.Ln1BwdIdeal.nD Cert.Ln1BwdIdeal.τ).loc Cert.Ln1BwdIdeal.main_arg2) = m ((c.tc : Thread Cert.Ln1BwdIdeal.nD Cert.Ln1BwdIdeal.τ).loc Cert.Ln1BwdIdeal.main_arg2)
      ∧ r.2.mem ((c.tc : Thread Cert.Ln1BwdIdeal.nD Cert.Ln1BwdIdeal.τ).loc Cert.Ln1BwdIdeal.main_arg3) = m ((c.tc : Thread Cert.Ln1BwdIdeal.nD Cert.Ln1BwdIdeal.τ).loc Cert.Ln1BwdIdeal.main_arg3)
      ∧ r.2.mem ((c.tc : Thread Cert.Ln1BwdIdeal.nD Cert.Ln1BwdIdeal.τ).loc Cert.Ln1BwdIdeal.main_arg4) = m ((c.tc : Thread Cert.Ln1BwdIdeal.nD Cert.Ln1BwdIdeal.τ).loc Cert.Ln1BwdIdeal.main_arg4)
      ∧ r.2.mem ((c.tc : Thread Cert.Ln1BwdIdeal.nD Cert.Ln1BwdIdeal.τ).loc Cert.Ln1BwdIdeal.main_arg5) = m ((c.tc : Thread Cert.Ln1BwdIdeal.nD Cert.Ln1BwdIdeal.τ).loc Cert.Ln1BwdIdeal.main_arg5))
      ∧ r.2.sem = fun _ => 0)

def quiescent_Ln1BwdRefIdeal [hLn1BwdRefIdeal : Cert.Ln1BwdRefIdeal.Facts] : Prop :=
  ∀ (m : (ℓ : Loc Cert.Ln1BwdRefIdeal.nD Cert.Ln1BwdRefIdeal.τ Cert.Ln1BwdRefIdeal.sig) → Buf (Elt Ideal) ℓ) (g : Dev Cert.Ln1BwdRefIdeal.nD → PrngReg), Pre_Ln1BwdRefIdeal m →
    θ_run (Cert.Ln1BwdRefIdeal.defs (F := Ideal)) (onTc (τ := Cert.Ln1BwdRefIdeal.τ) (Cert.Ln1BwdRefIdeal.main (F := Ideal))) ⟨m, fun _ => 0, g⟩ (fun r => (∀ c : Dev Cert.Ln1BwdRefIdeal.nD,
      r.2.mem ((c.tc : Thread Cert.Ln1BwdRefIdeal.nD Cert.Ln1BwdRefIdeal.τ).loc Cert.Ln1BwdRefIdeal.main_arg0) = m ((c.tc : Thread Cert.Ln1BwdRefIdeal.nD Cert.Ln1BwdRefIdeal.τ).loc Cert.Ln1BwdRefIdeal.main_arg0)
      ∧ r.2.mem ((c.tc : Thread Cert.Ln1BwdRefIdeal.nD Cert.Ln1BwdRefIdeal.τ).loc Cert.Ln1BwdRefIdeal.main_arg1) = m ((c.tc : Thread Cert.Ln1BwdRefIdeal.nD Cert.Ln1BwdRefIdeal.τ).loc Cert.Ln1BwdRefIdeal.main_arg1)
      ∧ r.2.mem ((c.tc : Thread Cert.Ln1BwdRefIdeal.nD Cert.Ln1BwdRefIdeal.τ).loc Cert.Ln1BwdRefIdeal.main_arg2) = m ((c.tc : Thread Cert.Ln1BwdRefIdeal.nD Cert.Ln1BwdRefIdeal.τ).loc Cert.Ln1BwdRefIdeal.main_arg2)
      ∧ r.2.mem ((c.tc : Thread Cert.Ln1BwdRefIdeal.nD Cert.Ln1BwdRefIdeal.τ).loc Cert.Ln1BwdRefIdeal.main_arg3) = m ((c.tc : Thread Cert.Ln1BwdRefIdeal.nD Cert.Ln1BwdRefIdeal.τ).loc Cert.Ln1BwdRefIdeal.main_arg3)
      ∧ r.2.mem ((c.tc : Thread Cert.Ln1BwdRefIdeal.nD Cert.Ln1BwdRefIdeal.τ).loc Cert.Ln1BwdRefIdeal.main_arg4) = m ((c.tc : Thread Cert.Ln1BwdRefIdeal.nD Cert.Ln1BwdRefIdeal.τ).loc Cert.Ln1BwdRefIdeal.main_arg4)
      ∧ r.2.mem ((c.tc : Thread Cert.Ln1BwdRefIdeal.nD Cert.Ln1BwdRefIdeal.τ).loc Cert.Ln1BwdRefIdeal.main_arg5) = m ((c.tc : Thread Cert.Ln1BwdRefIdeal.nD Cert.Ln1BwdRefIdeal.τ).loc Cert.Ln1BwdRefIdeal.main_arg5))
      ∧ r.2.sem = fun _ => 0)

def quiescent_Ln2Last [hLn2Last : Cert.Ln2Last.Facts] : Prop :=
  ∀ (m : (ℓ : Loc Cert.Ln2Last.nD Cert.Ln2Last.τ Cert.Ln2Last.sig) → Buf (Elt Bits) ℓ) (g : Dev Cert.Ln2Last.nD → PrngReg), Pre_Ln2Last m →
    θ_run (Cert.Ln2Last.defs (F := Bits)) (onTc (τ := Cert.Ln2Last.τ) (Cert.Ln2Last.main (F := Bits))) ⟨m, fun _ => 0, g⟩ (fun r => (∀ c : Dev Cert.Ln2Last.nD,
      r.2.mem ((c.tc : Thread Cert.Ln2Last.nD Cert.Ln2Last.τ).loc Cert.Ln2Last.main_arg0) = m ((c.tc : Thread Cert.Ln2Last.nD Cert.Ln2Last.τ).loc Cert.Ln2Last.main_arg0)
      ∧ r.2.mem ((c.tc : Thread Cert.Ln2Last.nD Cert.Ln2Last.τ).loc Cert.Ln2Last.main_arg1) = m ((c.tc : Thread Cert.Ln2Last.nD Cert.Ln2Last.τ).loc Cert.Ln2Last.main_arg1)
      ∧ r.2.mem ((c.tc : Thread Cert.Ln2Last.nD Cert.Ln2Last.τ).loc Cert.Ln2Last.main_arg2) = m ((c.tc : Thread Cert.Ln2Last.nD Cert.Ln2Last.τ).loc Cert.Ln2Last.main_arg2)
      ∧ r.2.mem ((c.tc : Thread Cert.Ln2Last.nD Cert.Ln2Last.τ).loc Cert.Ln2Last.main_arg3) = m ((c.tc : Thread Cert.Ln2Last.nD Cert.Ln2Last.τ).loc Cert.Ln2Last.main_arg3)
      ∧ r.2.mem ((c.tc : Thread Cert.Ln2Last.nD Cert.Ln2Last.τ).loc Cert.Ln2Last.main_arg4) = m ((c.tc : Thread Cert.Ln2Last.nD Cert.Ln2Last.τ).loc Cert.Ln2Last.main_arg4)
      ∧ r.2.mem ((c.tc : Thread Cert.Ln2Last.nD Cert.Ln2Last.τ).loc Cert.Ln2Last.main_arg5) = m ((c.tc : Thread Cert.Ln2Last.nD Cert.Ln2Last.τ).loc Cert.Ln2Last.main_arg5)
      ∧ r.2.mem ((c.tc : Thread Cert.Ln2Last.nD Cert.Ln2Last.τ).loc Cert.Ln2Last.main_arg6) = m ((c.tc : Thread Cert.Ln2Last.nD Cert.Ln2Last.τ).loc Cert.Ln2Last.main_arg6))
      ∧ r.2.sem = fun _ => 0)

def quiescent_Ln2LastIdeal [hLn2LastIdeal : Cert.Ln2LastIdeal.Facts] : Prop :=
  ∀ (m : (ℓ : Loc Cert.Ln2LastIdeal.nD Cert.Ln2LastIdeal.τ Cert.Ln2LastIdeal.sig) → Buf (Elt Ideal) ℓ) (g : Dev Cert.Ln2LastIdeal.nD → PrngReg), Pre_Ln2LastIdeal m →
    θ_run (Cert.Ln2LastIdeal.defs (F := Ideal)) (onTc (τ := Cert.Ln2LastIdeal.τ) (Cert.Ln2LastIdeal.main (F := Ideal))) ⟨m, fun _ => 0, g⟩ (fun r => (∀ c : Dev Cert.Ln2LastIdeal.nD,
      r.2.mem ((c.tc : Thread Cert.Ln2LastIdeal.nD Cert.Ln2LastIdeal.τ).loc Cert.Ln2LastIdeal.main_arg0) = m ((c.tc : Thread Cert.Ln2LastIdeal.nD Cert.Ln2LastIdeal.τ).loc Cert.Ln2LastIdeal.main_arg0)
      ∧ r.2.mem ((c.tc : Thread Cert.Ln2LastIdeal.nD Cert.Ln2LastIdeal.τ).loc Cert.Ln2LastIdeal.main_arg1) = m ((c.tc : Thread Cert.Ln2LastIdeal.nD Cert.Ln2LastIdeal.τ).loc Cert.Ln2LastIdeal.main_arg1)
      ∧ r.2.mem ((c.tc : Thread Cert.Ln2LastIdeal.nD Cert.Ln2LastIdeal.τ).loc Cert.Ln2LastIdeal.main_arg2) = m ((c.tc : Thread Cert.Ln2LastIdeal.nD Cert.Ln2LastIdeal.τ).loc Cert.Ln2LastIdeal.main_arg2)
      ∧ r.2.mem ((c.tc : Thread Cert.Ln2LastIdeal.nD Cert.Ln2LastIdeal.τ).loc Cert.Ln2LastIdeal.main_arg3) = m ((c.tc : Thread Cert.Ln2LastIdeal.nD Cert.Ln2LastIdeal.τ).loc Cert.Ln2LastIdeal.main_arg3)
      ∧ r.2.mem ((c.tc : Thread Cert.Ln2LastIdeal.nD Cert.Ln2LastIdeal.τ).loc Cert.Ln2LastIdeal.main_arg4) = m ((c.tc : Thread Cert.Ln2LastIdeal.nD Cert.Ln2LastIdeal.τ).loc Cert.Ln2LastIdeal.main_arg4)
      ∧ r.2.mem ((c.tc : Thread Cert.Ln2LastIdeal.nD Cert.Ln2LastIdeal.τ).loc Cert.Ln2LastIdeal.main_arg5) = m ((c.tc : Thread Cert.Ln2LastIdeal.nD Cert.Ln2LastIdeal.τ).loc Cert.Ln2LastIdeal.main_arg5)
      ∧ r.2.mem ((c.tc : Thread Cert.Ln2LastIdeal.nD Cert.Ln2LastIdeal.τ).loc Cert.Ln2LastIdeal.main_arg6) = m ((c.tc : Thread Cert.Ln2LastIdeal.nD Cert.Ln2LastIdeal.τ).loc Cert.Ln2LastIdeal.main_arg6))
      ∧ r.2.sem = fun _ => 0)

def quiescent_Ln2LastRefIdeal [hLn2LastRefIdeal : Cert.Ln2LastRefIdeal.Facts] : Prop :=
  ∀ (m : (ℓ : Loc Cert.Ln2LastRefIdeal.nD Cert.Ln2LastRefIdeal.τ Cert.Ln2LastRefIdeal.sig) → Buf (Elt Ideal) ℓ) (g : Dev Cert.Ln2LastRefIdeal.nD → PrngReg), Pre_Ln2LastRefIdeal m →
    θ_run (Cert.Ln2LastRefIdeal.defs (F := Ideal)) (onTc (τ := Cert.Ln2LastRefIdeal.τ) (Cert.Ln2LastRefIdeal.main (F := Ideal))) ⟨m, fun _ => 0, g⟩ (fun r => (∀ c : Dev Cert.Ln2LastRefIdeal.nD,
      r.2.mem ((c.tc : Thread Cert.Ln2LastRefIdeal.nD Cert.Ln2LastRefIdeal.τ).loc Cert.Ln2LastRefIdeal.main_arg0) = m ((c.tc : Thread Cert.Ln2LastRefIdeal.nD Cert.Ln2LastRefIdeal.τ).loc Cert.Ln2LastRefIdeal.main_arg0)
      ∧ r.2.mem ((c.tc : Thread Cert.Ln2LastRefIdeal.nD Cert.Ln2LastRefIdeal.τ).loc Cert.Ln2LastRefIdeal.main_arg1) = m ((c.tc : Thread Cert.Ln2LastRefIdeal.nD Cert.Ln2LastRefIdeal.τ).loc Cert.Ln2LastRefIdeal.main_arg1)
      ∧ r.2.mem ((c.tc : Thread Cert.Ln2LastRefIdeal.nD Cert.Ln2LastRefIdeal.τ).loc Cert.Ln2LastRefIdeal.main_arg2) = m ((c.tc : Thread Cert.Ln2LastRefIdeal.nD Cert.Ln2LastRefIdeal.τ).loc Cert.Ln2LastRefIdeal.main_arg2)
      ∧ r.2.mem ((c.tc : Thread Cert.Ln2LastRefIdeal.nD Cert.Ln2LastRefIdeal.τ).loc Cert.Ln2LastRefIdeal.main_arg3) = m ((c.tc : Thread Cert.Ln2LastRefIdeal.nD Cert.Ln2LastRefIdeal.τ).loc Cert.Ln2LastRefIdeal.main_arg3)
      ∧ r.2.mem ((c.tc : Thread Cert.Ln2LastRefIdeal.nD Cert.Ln2LastRefIdeal.τ).loc Cert.Ln2LastRefIdeal.main_arg4) = m ((c.tc : Thread Cert.Ln2LastRefIdeal.nD Cert.Ln2LastRefIdeal.τ).loc Cert.Ln2LastRefIdeal.main_arg4)
      ∧ r.2.mem ((c.tc : Thread Cert.Ln2LastRefIdeal.nD Cert.Ln2LastRefIdeal.τ).loc Cert.Ln2LastRefIdeal.main_arg5) = m ((c.tc : Thread Cert.Ln2LastRefIdeal.nD Cert.Ln2LastRefIdeal.τ).loc Cert.Ln2LastRefIdeal.main_arg5)
      ∧ r.2.mem ((c.tc : Thread Cert.Ln2LastRefIdeal.nD Cert.Ln2LastRefIdeal.τ).loc Cert.Ln2LastRefIdeal.main_arg6) = m ((c.tc : Thread Cert.Ln2LastRefIdeal.nD Cert.Ln2LastRefIdeal.τ).loc Cert.Ln2LastRefIdeal.main_arg6))
      ∧ r.2.sem = fun _ => 0)

def quiescent_Ln2Bwd [hLn2Bwd : Cert.Ln2Bwd.Facts] : Prop :=
  ∀ (m : (ℓ : Loc Cert.Ln2Bwd.nD Cert.Ln2Bwd.τ Cert.Ln2Bwd.sig) → Buf (Elt Bits) ℓ) (g : Dev Cert.Ln2Bwd.nD → PrngReg), Pre_Ln2Bwd m →
    θ_run (Cert.Ln2Bwd.defs (F := Bits)) (onTc (τ := Cert.Ln2Bwd.τ) (Cert.Ln2Bwd.main (F := Bits))) ⟨m, fun _ => 0, g⟩ (fun r => (∀ c : Dev Cert.Ln2Bwd.nD,
      r.2.mem ((c.tc : Thread Cert.Ln2Bwd.nD Cert.Ln2Bwd.τ).loc Cert.Ln2Bwd.main_arg0) = m ((c.tc : Thread Cert.Ln2Bwd.nD Cert.Ln2Bwd.τ).loc Cert.Ln2Bwd.main_arg0)
      ∧ r.2.mem ((c.tc : Thread Cert.Ln2Bwd.nD Cert.Ln2Bwd.τ).loc Cert.Ln2Bwd.main_arg1) = m ((c.tc : Thread Cert.Ln2Bwd.nD Cert.Ln2Bwd.τ).loc Cert.Ln2Bwd.main_arg1)
      ∧ r.2.mem ((c.tc : Thread Cert.Ln2Bwd.nD Cert.Ln2Bwd.τ).loc Cert.Ln2Bwd.main_arg2) = m ((c.tc : Thread Cert.Ln2Bwd.nD Cert.Ln2Bwd.τ).loc Cert.Ln2Bwd.main_arg2)
      ∧ r.2.mem ((c.tc : Thread Cert.Ln2Bwd.nD Cert.Ln2Bwd.τ).loc Cert.Ln2Bwd.main_arg3) = m ((c.tc : Thread Cert.Ln2Bwd.nD Cert.Ln2Bwd.τ).loc Cert.Ln2Bwd.main_arg3)
      ∧ r.2.mem ((c.tc : Thread Cert.Ln2Bwd.nD Cert.Ln2Bwd.τ).loc Cert.Ln2Bwd.main_arg4) = m ((c.tc : Thread Cert.Ln2Bwd.nD Cert.Ln2Bwd.τ).loc Cert.Ln2Bwd.main_arg4))
      ∧ r.2.sem = fun _ => 0)

def quiescent_Ln2BwdIdeal [hLn2BwdIdeal : Cert.Ln2BwdIdeal.Facts] : Prop :=
  ∀ (m : (ℓ : Loc Cert.Ln2BwdIdeal.nD Cert.Ln2BwdIdeal.τ Cert.Ln2BwdIdeal.sig) → Buf (Elt Ideal) ℓ) (g : Dev Cert.Ln2BwdIdeal.nD → PrngReg), Pre_Ln2BwdIdeal m →
    θ_run (Cert.Ln2BwdIdeal.defs (F := Ideal)) (onTc (τ := Cert.Ln2BwdIdeal.τ) (Cert.Ln2BwdIdeal.main (F := Ideal))) ⟨m, fun _ => 0, g⟩ (fun r => (∀ c : Dev Cert.Ln2BwdIdeal.nD,
      r.2.mem ((c.tc : Thread Cert.Ln2BwdIdeal.nD Cert.Ln2BwdIdeal.τ).loc Cert.Ln2BwdIdeal.main_arg0) = m ((c.tc : Thread Cert.Ln2BwdIdeal.nD Cert.Ln2BwdIdeal.τ).loc Cert.Ln2BwdIdeal.main_arg0)
      ∧ r.2.mem ((c.tc : Thread Cert.Ln2BwdIdeal.nD Cert.Ln2BwdIdeal.τ).loc Cert.Ln2BwdIdeal.main_arg1) = m ((c.tc : Thread Cert.Ln2BwdIdeal.nD Cert.Ln2BwdIdeal.τ).loc Cert.Ln2BwdIdeal.main_arg1)
      ∧ r.2.mem ((c.tc : Thread Cert.Ln2BwdIdeal.nD Cert.Ln2BwdIdeal.τ).loc Cert.Ln2BwdIdeal.main_arg2) = m ((c.tc : Thread Cert.Ln2BwdIdeal.nD Cert.Ln2BwdIdeal.τ).loc Cert.Ln2BwdIdeal.main_arg2)
      ∧ r.2.mem ((c.tc : Thread Cert.Ln2BwdIdeal.nD Cert.Ln2BwdIdeal.τ).loc Cert.Ln2BwdIdeal.main_arg3) = m ((c.tc : Thread Cert.Ln2BwdIdeal.nD Cert.Ln2BwdIdeal.τ).loc Cert.Ln2BwdIdeal.main_arg3)
      ∧ r.2.mem ((c.tc : Thread Cert.Ln2BwdIdeal.nD Cert.Ln2BwdIdeal.τ).loc Cert.Ln2BwdIdeal.main_arg4) = m ((c.tc : Thread Cert.Ln2BwdIdeal.nD Cert.Ln2BwdIdeal.τ).loc Cert.Ln2BwdIdeal.main_arg4))
      ∧ r.2.sem = fun _ => 0)

def quiescent_Ln2BwdRefIdeal [hLn2BwdRefIdeal : Cert.Ln2BwdRefIdeal.Facts] : Prop :=
  ∀ (m : (ℓ : Loc Cert.Ln2BwdRefIdeal.nD Cert.Ln2BwdRefIdeal.τ Cert.Ln2BwdRefIdeal.sig) → Buf (Elt Ideal) ℓ) (g : Dev Cert.Ln2BwdRefIdeal.nD → PrngReg), Pre_Ln2BwdRefIdeal m →
    θ_run (Cert.Ln2BwdRefIdeal.defs (F := Ideal)) (onTc (τ := Cert.Ln2BwdRefIdeal.τ) (Cert.Ln2BwdRefIdeal.main (F := Ideal))) ⟨m, fun _ => 0, g⟩ (fun r => (∀ c : Dev Cert.Ln2BwdRefIdeal.nD,
      r.2.mem ((c.tc : Thread Cert.Ln2BwdRefIdeal.nD Cert.Ln2BwdRefIdeal.τ).loc Cert.Ln2BwdRefIdeal.main_arg0) = m ((c.tc : Thread Cert.Ln2BwdRefIdeal.nD Cert.Ln2BwdRefIdeal.τ).loc Cert.Ln2BwdRefIdeal.main_arg0)
      ∧ r.2.mem ((c.tc : Thread Cert.Ln2BwdRefIdeal.nD Cert.Ln2BwdRefIdeal.τ).loc Cert.Ln2BwdRefIdeal.main_arg1) = m ((c.tc : Thread Cert.Ln2BwdRefIdeal.nD Cert.Ln2BwdRefIdeal.τ).loc Cert.Ln2BwdRefIdeal.main_arg1)
      ∧ r.2.mem ((c.tc : Thread Cert.Ln2BwdRefIdeal.nD Cert.Ln2BwdRefIdeal.τ).loc Cert.Ln2BwdRefIdeal.main_arg2) = m ((c.tc : Thread Cert.Ln2BwdRefIdeal.nD Cert.Ln2BwdRefIdeal.τ).loc Cert.Ln2BwdRefIdeal.main_arg2)
      ∧ r.2.mem ((c.tc : Thread Cert.Ln2BwdRefIdeal.nD Cert.Ln2BwdRefIdeal.τ).loc Cert.Ln2BwdRefIdeal.main_arg3) = m ((c.tc : Thread Cert.Ln2BwdRefIdeal.nD Cert.Ln2BwdRefIdeal.τ).loc Cert.Ln2BwdRefIdeal.main_arg3)
      ∧ r.2.mem ((c.tc : Thread Cert.Ln2BwdRefIdeal.nD Cert.Ln2BwdRefIdeal.τ).loc Cert.Ln2BwdRefIdeal.main_arg4) = m ((c.tc : Thread Cert.Ln2BwdRefIdeal.nD Cert.Ln2BwdRefIdeal.τ).loc Cert.Ln2BwdRefIdeal.main_arg4))
      ∧ r.2.sem = fun _ => 0)

def preserves_HostGradX_HostGradXIdeal : Prop :=
  True

def algebraic_HostGradXIdeal_HostGradXRefIdeal [hHostGradXIdeal : Cert.HostGradXIdeal.Facts] [hHostGradXRefIdeal : Cert.HostGradXRefIdeal.Facts] : Prop :=
  ∀ (m : (ℓ : Loc Cert.HostGradXIdeal.nD Cert.HostGradXIdeal.τ Cert.HostGradXIdeal.sig) → Buf (Elt Ideal) ℓ) (g : Dev Cert.HostGradXIdeal.nD → PrngReg)
    (m' : (ℓ : Loc Cert.HostGradXRefIdeal.nD Cert.HostGradXRefIdeal.τ Cert.HostGradXRefIdeal.sig) → Buf (Elt Ideal) ℓ) (g' : Dev Cert.HostGradXRefIdeal.nD → PrngReg), Pre_HostGradXIdeal m →
    (∀ c : Dev Cert.HostGradXIdeal.nD,
      m' ((c.tc : Thread Cert.HostGradXRefIdeal.nD Cert.HostGradXRefIdeal.τ).loc Cert.HostGradXRefIdeal.main_arg0) = m ((c.tc : Thread Cert.HostGradXIdeal.nD Cert.HostGradXIdeal.τ).loc Cert.HostGradXIdeal.main_arg0)
      ∧ m' ((c.tc : Thread Cert.HostGradXRefIdeal.nD Cert.HostGradXRefIdeal.τ).loc Cert.HostGradXRefIdeal.main_arg1) = m ((c.tc : Thread Cert.HostGradXIdeal.nD Cert.HostGradXIdeal.τ).loc Cert.HostGradXIdeal.main_arg1)
      ∧ m' ((c.tc : Thread Cert.HostGradXRefIdeal.nD Cert.HostGradXRefIdeal.τ).loc Cert.HostGradXRefIdeal.main_arg2) = m ((c.tc : Thread Cert.HostGradXIdeal.nD Cert.HostGradXIdeal.τ).loc Cert.HostGradXIdeal.main_arg2)
      ∧ m' ((c.tc : Thread Cert.HostGradXRefIdeal.nD Cert.HostGradXRefIdeal.τ).loc Cert.HostGradXRefIdeal.main_arg3) = m ((c.tc : Thread Cert.HostGradXIdeal.nD Cert.HostGradXIdeal.τ).loc Cert.HostGradXIdeal.main_arg3)
      ∧ m' ((c.tc : Thread Cert.HostGradXRefIdeal.nD Cert.HostGradXRefIdeal.τ).loc Cert.HostGradXRefIdeal.main_arg4) = m ((c.tc : Thread Cert.HostGradXIdeal.nD Cert.HostGradXIdeal.τ).loc Cert.HostGradXIdeal.main_arg4)
      ∧ m' ((c.tc : Thread Cert.HostGradXRefIdeal.nD Cert.HostGradXRefIdeal.τ).loc Cert.HostGradXRefIdeal.main_arg5) = m ((c.tc : Thread Cert.HostGradXIdeal.nD Cert.HostGradXIdeal.τ).loc Cert.HostGradXIdeal.main_arg5)
      ∧ m' ((c.tc : Thread Cert.HostGradXRefIdeal.nD Cert.HostGradXRefIdeal.τ).loc Cert.HostGradXRefIdeal.main_arg6) = m ((c.tc : Thread Cert.HostGradXIdeal.nD Cert.HostGradXIdeal.τ).loc Cert.HostGradXIdeal.main_arg6)
      ∧ m' ((c.tc : Thread Cert.HostGradXRefIdeal.nD Cert.HostGradXRefIdeal.τ).loc Cert.HostGradXRefIdeal.main_arg7) = m ((c.tc : Thread Cert.HostGradXIdeal.nD Cert.HostGradXIdeal.τ).loc Cert.HostGradXIdeal.main_arg7)
      ∧ m' ((c.tc : Thread Cert.HostGradXRefIdeal.nD Cert.HostGradXRefIdeal.τ).loc Cert.HostGradXRefIdeal.main_arg8) = m ((c.tc : Thread Cert.HostGradXIdeal.nD Cert.HostGradXIdeal.τ).loc Cert.HostGradXIdeal.main_arg8)
      ∧ m' ((c.tc : Thread Cert.HostGradXRefIdeal.nD Cert.HostGradXRefIdeal.τ).loc Cert.HostGradXRefIdeal.main_arg9) = m ((c.tc : Thread Cert.HostGradXIdeal.nD Cert.HostGradXIdeal.τ).loc Cert.HostGradXIdeal.main_arg9)
      ∧ m' ((c.tc : Thread Cert.HostGradXRefIdeal.nD Cert.HostGradXRefIdeal.τ).loc Cert.HostGradXRefIdeal.main_arg10) = m ((c.tc : Thread Cert.HostGradXIdeal.nD Cert.HostGradXIdeal.τ).loc Cert.HostGradXIdeal.main_arg10)
      ∧ m' ((c.tc : Thread Cert.HostGradXRefIdeal.nD Cert.HostGradXRefIdeal.τ).loc Cert.HostGradXRefIdeal.main_arg11) = m ((c.tc : Thread Cert.HostGradXIdeal.nD Cert.HostGradXIdeal.τ).loc Cert.HostGradXIdeal.main_arg11)
      ∧ m' ((c.tc : Thread Cert.HostGradXRefIdeal.nD Cert.HostGradXRefIdeal.τ).loc Cert.HostGradXRefIdeal.main_arg12) = m ((c.tc : Thread Cert.HostGradXIdeal.nD Cert.HostGradXIdeal.τ).loc Cert.HostGradXIdeal.main_arg12)) →
    ∃ (v0 : (c : Dev Cert.HostGradXIdeal.nD) → Buf (Elt Ideal) ((c.tc : Thread Cert.HostGradXIdeal.nD Cert.HostGradXIdeal.τ).loc Cert.HostGradXIdeal.main_v2_0)) (v1 : (c : Dev Cert.HostGradXIdeal.nD) → Buf (Elt Ideal) ((c.tc : Thread Cert.HostGradXIdeal.nD Cert.HostGradXIdeal.τ).loc Cert.HostGradXIdeal.main_v2_1)) (v2 : (c : Dev Cert.HostGradXIdeal.nD) → Buf (Elt Ideal) ((c.tc : Thread Cert.HostGradXIdeal.nD Cert.HostGradXIdeal.τ).loc Cert.HostGradXIdeal.main_v2_2)) (v3 : (c : Dev Cert.HostGradXIdeal.nD) → Buf (Elt Ideal) ((c.tc : Thread Cert.HostGradXIdeal.nD Cert.HostGradXIdeal.τ).loc Cert.HostGradXIdeal.main_v2_3)) (v4 : (c : Dev Cert.HostGradXIdeal.nD) → Buf (Elt Ideal) ((c.tc : Thread Cert.HostGradXIdeal.nD Cert.HostGradXIdeal.τ).loc Cert.HostGradXIdeal.main_v2_4)),
      θ_run (Cert.HostGradXIdeal.defs (F := Ideal)) (onTc (τ := Cert.HostGradXIdeal.τ) (Cert.HostGradXIdeal.main (F := Ideal))) ⟨m, fun _ => 0, g⟩ (fun r => ∀ c : Dev Cert.HostGradXIdeal.nD,
          r.2.mem ((c.tc : Thread Cert.HostGradXIdeal.nD Cert.HostGradXIdeal.τ).loc Cert.HostGradXIdeal.main_v2_0) = v0 c
          ∧ r.2.mem ((c.tc : Thread Cert.HostGradXIdeal.nD Cert.HostGradXIdeal.τ).loc Cert.HostGradXIdeal.main_v2_1) = v1 c
          ∧ r.2.mem ((c.tc : Thread Cert.HostGradXIdeal.nD Cert.HostGradXIdeal.τ).loc Cert.HostGradXIdeal.main_v2_2) = v2 c
          ∧ r.2.mem ((c.tc : Thread Cert.HostGradXIdeal.nD Cert.HostGradXIdeal.τ).loc Cert.HostGradXIdeal.main_v2_3) = v3 c
          ∧ r.2.mem ((c.tc : Thread Cert.HostGradXIdeal.nD Cert.HostGradXIdeal.τ).loc Cert.HostGradXIdeal.main_v2_4) = v4 c
          ∧ r.2.mem ((c.tc : Thread Cert.HostGradXIdeal.nD Cert.HostGradXIdeal.τ).loc Cert.HostGradXIdeal.main_arg0) = m ((c.tc : Thread Cert.HostGradXIdeal.nD Cert.HostGradXIdeal.τ).loc Cert.HostGradXIdeal.main_arg0)
          ∧ r.2.mem ((c.tc : Thread Cert.HostGradXIdeal.nD Cert.HostGradXIdeal.τ).loc Cert.HostGradXIdeal.main_arg1) = m ((c.tc : Thread Cert.HostGradXIdeal.nD Cert.HostGradXIdeal.τ).loc Cert.HostGradXIdeal.main_arg1)
          ∧ r.2.mem ((c.tc : Thread Cert.HostGradXIdeal.nD Cert.HostGradXIdeal.τ).loc Cert.HostGradXIdeal.main_arg2) = m ((c.tc : Thread Cert.HostGradXIdeal.nD Cert.HostGradXIdeal.τ).loc Cert.HostGradXIdeal.main_arg2)
          ∧ r.2.mem ((c.tc : Thread Cert.HostGradXIdeal.nD Cert.HostGradXIdeal.τ).loc Cert.HostGradXIdeal.main_arg3) = m ((c.tc : Thread Cert.HostGradXIdeal.nD Cert.HostGradXIdeal.τ).loc Cert.HostGradXIdeal.main_arg3)
          ∧ r.2.mem ((c.tc : Thread Cert.HostGradXIdeal.nD Cert.HostGradXIdeal.τ).loc Cert.HostGradXIdeal.main_arg4) = m ((c.tc : Thread Cert.HostGradXIdeal.nD Cert.HostGradXIdeal.τ).loc Cert.HostGradXIdeal.main_arg4)
          ∧ r.2.mem ((c.tc : Thread Cert.HostGradXIdeal.nD Cert.HostGradXIdeal.τ).loc Cert.HostGradXIdeal.main_arg5) = m ((c.tc : Thread Cert.HostGradXIdeal.nD Cert.HostGradXIdeal.τ).loc Cert.HostGradXIdeal.main_arg5)
          ∧ r.2.mem ((c.tc : Thread Cert.HostGradXIdeal.nD Cert.HostGradXIdeal.τ).loc Cert.HostGradXIdeal.main_arg6) = m ((c.tc : Thread Cert.HostGradXIdeal.nD Cert.HostGradXIdeal.τ).loc Cert.HostGradXIdeal.main_arg6)
          ∧ r.2.mem ((c.tc : Thread Cert.HostGradXIdeal.nD Cert.HostGradXIdeal.τ).loc Cert.HostGradXIdeal.main_arg7) = m ((c.tc : Thread Cert.HostGradXIdeal.nD Cert.HostGradXIdeal.τ).loc Cert.HostGradXIdeal.main_arg7)
          ∧ r.2.mem ((c.tc : Thread Cert.HostGradXIdeal.nD Cert.HostGradXIdeal.τ).loc Cert.HostGradXIdeal.main_arg8) = m ((c.tc : Thread Cert.HostGradXIdeal.nD Cert.HostGradXIdeal.τ).loc Cert.HostGradXIdeal.main_arg8)
          ∧ r.2.mem ((c.tc : Thread Cert.HostGradXIdeal.nD Cert.HostGradXIdeal.τ).loc Cert.HostGradXIdeal.main_arg9) = m ((c.tc : Thread Cert.HostGradXIdeal.nD Cert.HostGradXIdeal.τ).loc Cert.HostGradXIdeal.main_arg9)
          ∧ r.2.mem ((c.tc : Thread Cert.HostGradXIdeal.nD Cert.HostGradXIdeal.τ).loc Cert.HostGradXIdeal.main_arg10) = m ((c.tc : Thread Cert.HostGradXIdeal.nD Cert.HostGradXIdeal.τ).loc Cert.HostGradXIdeal.main_arg10)
          ∧ r.2.mem ((c.tc : Thread Cert.HostGradXIdeal.nD Cert.HostGradXIdeal.τ).loc Cert.HostGradXIdeal.main_arg11) = m ((c.tc : Thread Cert.HostGradXIdeal.nD Cert.HostGradXIdeal.τ).loc Cert.HostGradXIdeal.main_arg11)
          ∧ r.2.mem ((c.tc : Thread Cert.HostGradXIdeal.nD Cert.HostGradXIdeal.τ).loc Cert.HostGradXIdeal.main_arg12) = m ((c.tc : Thread Cert.HostGradXIdeal.nD Cert.HostGradXIdeal.τ).loc Cert.HostGradXIdeal.main_arg12))
      ∧ θ_run (Cert.HostGradXRefIdeal.defs (F := Ideal)) (onTc (τ := Cert.HostGradXRefIdeal.τ) (Cert.HostGradXRefIdeal.main (F := Ideal))) ⟨m', fun _ => 0, g'⟩ (fun r => ∀ c : Dev Cert.HostGradXRefIdeal.nD,
          r.2.mem ((c.tc : Thread Cert.HostGradXRefIdeal.nD Cert.HostGradXRefIdeal.τ).loc Cert.HostGradXRefIdeal.main_v8) = v0 c
          ∧ r.2.mem ((c.tc : Thread Cert.HostGradXRefIdeal.nD Cert.HostGradXRefIdeal.τ).loc Cert.HostGradXRefIdeal.main_v43) = v1 c
          ∧ r.2.mem ((c.tc : Thread Cert.HostGradXRefIdeal.nD Cert.HostGradXRefIdeal.τ).loc Cert.HostGradXRefIdeal.main_v48) = v2 c
          ∧ r.2.mem ((c.tc : Thread Cert.HostGradXRefIdeal.nD Cert.HostGradXRefIdeal.τ).loc Cert.HostGradXRefIdeal.main_v53) = v3 c
          ∧ r.2.mem ((c.tc : Thread Cert.HostGradXRefIdeal.nD Cert.HostGradXRefIdeal.τ).loc Cert.HostGradXRefIdeal.main_v58) = v4 c
          ∧ r.2.mem ((c.tc : Thread Cert.HostGradXRefIdeal.nD Cert.HostGradXRefIdeal.τ).loc Cert.HostGradXRefIdeal.main_arg0) = m' ((c.tc : Thread Cert.HostGradXRefIdeal.nD Cert.HostGradXRefIdeal.τ).loc Cert.HostGradXRefIdeal.main_arg0)
          ∧ r.2.mem ((c.tc : Thread Cert.HostGradXRefIdeal.nD Cert.HostGradXRefIdeal.τ).loc Cert.HostGradXRefIdeal.main_arg1) = m' ((c.tc : Thread Cert.HostGradXRefIdeal.nD Cert.HostGradXRefIdeal.τ).loc Cert.HostGradXRefIdeal.main_arg1)
          ∧ r.2.mem ((c.tc : Thread Cert.HostGradXRefIdeal.nD Cert.HostGradXRefIdeal.τ).loc Cert.HostGradXRefIdeal.main_arg2) = m' ((c.tc : Thread Cert.HostGradXRefIdeal.nD Cert.HostGradXRefIdeal.τ).loc Cert.HostGradXRefIdeal.main_arg2)
          ∧ r.2.mem ((c.tc : Thread Cert.HostGradXRefIdeal.nD Cert.HostGradXRefIdeal.τ).loc Cert.HostGradXRefIdeal.main_arg3) = m' ((c.tc : Thread Cert.HostGradXRefIdeal.nD Cert.HostGradXRefIdeal.τ).loc Cert.HostGradXRefIdeal.main_arg3)
          ∧ r.2.mem ((c.tc : Thread Cert.HostGradXRefIdeal.nD Cert.HostGradXRefIdeal.τ).loc Cert.HostGradXRefIdeal.main_arg4) = m' ((c.tc : Thread Cert.HostGradXRefIdeal.nD Cert.HostGradXRefIdeal.τ).loc Cert.HostGradXRefIdeal.main_arg4)
          ∧ r.2.mem ((c.tc : Thread Cert.HostGradXRefIdeal.nD Cert.HostGradXRefIdeal.τ).loc Cert.HostGradXRefIdeal.main_arg5) = m' ((c.tc : Thread Cert.HostGradXRefIdeal.nD Cert.HostGradXRefIdeal.τ).loc Cert.HostGradXRefIdeal.main_arg5)
          ∧ r.2.mem ((c.tc : Thread Cert.HostGradXRefIdeal.nD Cert.HostGradXRefIdeal.τ).loc Cert.HostGradXRefIdeal.main_arg6) = m' ((c.tc : Thread Cert.HostGradXRefIdeal.nD Cert.HostGradXRefIdeal.τ).loc Cert.HostGradXRefIdeal.main_arg6)
          ∧ r.2.mem ((c.tc : Thread Cert.HostGradXRefIdeal.nD Cert.HostGradXRefIdeal.τ).loc Cert.HostGradXRefIdeal.main_arg7) = m' ((c.tc : Thread Cert.HostGradXRefIdeal.nD Cert.HostGradXRefIdeal.τ).loc Cert.HostGradXRefIdeal.main_arg7)
          ∧ r.2.mem ((c.tc : Thread Cert.HostGradXRefIdeal.nD Cert.HostGradXRefIdeal.τ).loc Cert.HostGradXRefIdeal.main_arg8) = m' ((c.tc : Thread Cert.HostGradXRefIdeal.nD Cert.HostGradXRefIdeal.τ).loc Cert.HostGradXRefIdeal.main_arg8)
          ∧ r.2.mem ((c.tc : Thread Cert.HostGradXRefIdeal.nD Cert.HostGradXRefIdeal.τ).loc Cert.HostGradXRefIdeal.main_arg9) = m' ((c.tc : Thread Cert.HostGradXRefIdeal.nD Cert.HostGradXRefIdeal.τ).loc Cert.HostGradXRefIdeal.main_arg9)
          ∧ r.2.mem ((c.tc : Thread Cert.HostGradXRefIdeal.nD Cert.HostGradXRefIdeal.τ).loc Cert.HostGradXRefIdeal.main_arg10) = m' ((c.tc : Thread Cert.HostGradXRefIdeal.nD Cert.HostGradXRefIdeal.τ).loc Cert.HostGradXRefIdeal.main_arg10)
          ∧ r.2.mem ((c.tc : Thread Cert.HostGradXRefIdeal.nD Cert.HostGradXRefIdeal.τ).loc Cert.HostGradXRefIdeal.main_arg11) = m' ((c.tc : Thread Cert.HostGradXRefIdeal.nD Cert.HostGradXRefIdeal.τ).loc Cert.HostGradXRefIdeal.main_arg11)
          ∧ r.2.mem ((c.tc : Thread Cert.HostGradXRefIdeal.nD Cert.HostGradXRefIdeal.τ).loc Cert.HostGradXRefIdeal.main_arg12) = m' ((c.tc : Thread Cert.HostGradXRefIdeal.nD Cert.HostGradXRefIdeal.τ).loc Cert.HostGradXRefIdeal.main_arg12))

def preserves_HostProj_HostProjIdeal : Prop :=
  True

def algebraic_HostProjIdeal_HostProjRefIdeal_on_host_proj_last [hHostProjIdeal : Cert.HostProjIdeal.Facts] [hHostProjRefIdeal : Cert.HostProjRefIdeal.Facts] [hOn_host_proj_last : Cert.On_host_proj_last.Facts] : Prop :=
  ∀ (m : (ℓ : Loc Cert.HostProjIdeal.nD Cert.HostProjIdeal.τ Cert.HostProjIdeal.sig) → Buf (Elt Ideal) ℓ) (g : Dev Cert.HostProjIdeal.nD → PrngReg)
    (m' : (ℓ : Loc Cert.HostProjRefIdeal.nD Cert.HostProjRefIdeal.τ Cert.HostProjRefIdeal.sig) → Buf (Elt Ideal) ℓ) (g' : Dev Cert.HostProjRefIdeal.nD → PrngReg), Pre_HostProjIdeal m →
    (∀ c : Dev Cert.HostProjIdeal.nD,
      m' ((c.tc : Thread Cert.HostProjRefIdeal.nD Cert.HostProjRefIdeal.τ).loc Cert.HostProjRefIdeal.main_arg0) = m ((c.tc : Thread Cert.HostProjIdeal.nD Cert.HostProjIdeal.τ).loc Cert.HostProjIdeal.main_arg0)
      ∧ m' ((c.tc : Thread Cert.HostProjRefIdeal.nD Cert.HostProjRefIdeal.τ).loc Cert.HostProjRefIdeal.main_arg1) = m ((c.tc : Thread Cert.HostProjIdeal.nD Cert.HostProjIdeal.τ).loc Cert.HostProjIdeal.main_arg1)
      ∧ m' ((c.tc : Thread Cert.HostProjRefIdeal.nD Cert.HostProjRefIdeal.τ).loc Cert.HostProjRefIdeal.main_arg2) = m ((c.tc : Thread Cert.HostProjIdeal.nD Cert.HostProjIdeal.τ).loc Cert.HostProjIdeal.main_arg2)
      ∧ m' ((c.tc : Thread Cert.HostProjRefIdeal.nD Cert.HostProjRefIdeal.τ).loc Cert.HostProjRefIdeal.main_arg3) = m ((c.tc : Thread Cert.HostProjIdeal.nD Cert.HostProjIdeal.τ).loc Cert.HostProjIdeal.main_arg3)
      ∧ m' ((c.tc : Thread Cert.HostProjRefIdeal.nD Cert.HostProjRefIdeal.τ).loc Cert.HostProjRefIdeal.main_arg4) = m ((c.tc : Thread Cert.HostProjIdeal.nD Cert.HostProjIdeal.τ).loc Cert.HostProjIdeal.main_arg4)
      ∧ m' ((c.tc : Thread Cert.HostProjRefIdeal.nD Cert.HostProjRefIdeal.τ).loc Cert.HostProjRefIdeal.main_arg5) = m ((c.tc : Thread Cert.HostProjIdeal.nD Cert.HostProjIdeal.τ).loc Cert.HostProjIdeal.main_arg5)
      ∧ m' ((c.tc : Thread Cert.HostProjRefIdeal.nD Cert.HostProjRefIdeal.τ).loc Cert.HostProjRefIdeal.main_arg6) = m ((c.tc : Thread Cert.HostProjIdeal.nD Cert.HostProjIdeal.τ).loc Cert.HostProjIdeal.main_arg6)
      ∧ m' ((c.tc : Thread Cert.HostProjRefIdeal.nD Cert.HostProjRefIdeal.τ).loc Cert.HostProjRefIdeal.main_arg7) = m ((c.tc : Thread Cert.HostProjIdeal.nD Cert.HostProjIdeal.τ).loc Cert.HostProjIdeal.main_arg7)) →
    ∃ (v0 : (c : Dev Cert.HostProjIdeal.nD) → Buf (Elt Ideal) ((c.tc : Thread Cert.HostProjIdeal.nD Cert.HostProjIdeal.τ).loc Cert.HostProjIdeal.main_v2_0)) (v1 : (c : Dev Cert.HostProjIdeal.nD) → Buf (Elt Ideal) ((c.tc : Thread Cert.HostProjIdeal.nD Cert.HostProjIdeal.τ).loc Cert.HostProjIdeal.main_v2_1)) (v2 : (c : Dev Cert.HostProjIdeal.nD) → Buf (Elt Ideal) ((c.tc : Thread Cert.HostProjIdeal.nD Cert.HostProjIdeal.τ).loc Cert.HostProjIdeal.main_v2_2)) (v3 : (c : Dev Cert.HostProjIdeal.nD) → Buf (Elt Ideal) ((c.tc : Thread Cert.HostProjIdeal.nD Cert.HostProjIdeal.τ).loc Cert.HostProjIdeal.main_v2_3)) (v4 : (c : Dev Cert.HostProjIdeal.nD) → Buf (Elt Ideal) ((c.tc : Thread Cert.HostProjIdeal.nD Cert.HostProjIdeal.τ).loc Cert.HostProjIdeal.main_v2_4)),
      θ_run (Cert.HostProjIdeal.defs (F := Ideal)) (onTc (τ := Cert.HostProjIdeal.τ) (Cert.HostProjIdeal.main (F := Ideal))) ⟨m, fun _ => 0, g⟩ (fun r => ∀ c : Dev Cert.HostProjIdeal.nD,
          (∀ i : (⟨2, ![8192, 2048]⟩ : Shape).Idx, (Cert.On_host_proj_last.fn (F := Ideal) (m ((c.tc : Thread Cert.HostProjIdeal.nD Cert.HostProjIdeal.τ).loc Cert.HostProjIdeal.main_arg0)) (m ((c.tc : Thread Cert.HostProjIdeal.nD Cert.HostProjIdeal.τ).loc Cert.HostProjIdeal.main_arg1)) (m ((c.tc : Thread Cert.HostProjIdeal.nD Cert.HostProjIdeal.τ).loc Cert.HostProjIdeal.main_arg2)) (m ((c.tc : Thread Cert.HostProjIdeal.nD Cert.HostProjIdeal.τ).loc Cert.HostProjIdeal.main_arg3)) (m ((c.tc : Thread Cert.HostProjIdeal.nD Cert.HostProjIdeal.τ).loc Cert.HostProjIdeal.main_arg4)) (m ((c.tc : Thread Cert.HostProjIdeal.nD Cert.HostProjIdeal.τ).loc Cert.HostProjIdeal.main_arg5)) (m ((c.tc : Thread Cert.HostProjIdeal.nD Cert.HostProjIdeal.τ).loc Cert.HostProjIdeal.main_arg6)) (m ((c.tc : Thread Cert.HostProjIdeal.nD Cert.HostProjIdeal.τ).loc Cert.HostProjIdeal.main_arg7))).1 i = 1#1 → r.2.mem ((c.tc : Thread Cert.HostProjIdeal.nD Cert.HostProjIdeal.τ).loc Cert.HostProjIdeal.main_v2_0) i = v0 c i)
          ∧ (∀ i : (⟨3, ![2, 2048, 2048]⟩ : Shape).Idx, (Cert.On_host_proj_last.fn (F := Ideal) (m ((c.tc : Thread Cert.HostProjIdeal.nD Cert.HostProjIdeal.τ).loc Cert.HostProjIdeal.main_arg0)) (m ((c.tc : Thread Cert.HostProjIdeal.nD Cert.HostProjIdeal.τ).loc Cert.HostProjIdeal.main_arg1)) (m ((c.tc : Thread Cert.HostProjIdeal.nD Cert.HostProjIdeal.τ).loc Cert.HostProjIdeal.main_arg2)) (m ((c.tc : Thread Cert.HostProjIdeal.nD Cert.HostProjIdeal.τ).loc Cert.HostProjIdeal.main_arg3)) (m ((c.tc : Thread Cert.HostProjIdeal.nD Cert.HostProjIdeal.τ).loc Cert.HostProjIdeal.main_arg4)) (m ((c.tc : Thread Cert.HostProjIdeal.nD Cert.HostProjIdeal.τ).loc Cert.HostProjIdeal.main_arg5)) (m ((c.tc : Thread Cert.HostProjIdeal.nD Cert.HostProjIdeal.τ).loc Cert.HostProjIdeal.main_arg6)) (m ((c.tc : Thread Cert.HostProjIdeal.nD Cert.HostProjIdeal.τ).loc Cert.HostProjIdeal.main_arg7))).2.1 i = 1#1 → r.2.mem ((c.tc : Thread Cert.HostProjIdeal.nD Cert.HostProjIdeal.τ).loc Cert.HostProjIdeal.main_v2_1) i = v1 c i)
          ∧ (∀ i : (⟨3, ![2, 2048, 2048]⟩ : Shape).Idx, (Cert.On_host_proj_last.fn (F := Ideal) (m ((c.tc : Thread Cert.HostProjIdeal.nD Cert.HostProjIdeal.τ).loc Cert.HostProjIdeal.main_arg0)) (m ((c.tc : Thread Cert.HostProjIdeal.nD Cert.HostProjIdeal.τ).loc Cert.HostProjIdeal.main_arg1)) (m ((c.tc : Thread Cert.HostProjIdeal.nD Cert.HostProjIdeal.τ).loc Cert.HostProjIdeal.main_arg2)) (m ((c.tc : Thread Cert.HostProjIdeal.nD Cert.HostProjIdeal.τ).loc Cert.HostProjIdeal.main_arg3)) (m ((c.tc : Thread Cert.HostProjIdeal.nD Cert.HostProjIdeal.τ).loc Cert.HostProjIdeal.main_arg4)) (m ((c.tc : Thread Cert.HostProjIdeal.nD Cert.HostProjIdeal.τ).loc Cert.HostProjIdeal.main_arg5)) (m ((c.tc : Thread Cert.HostProjIdeal.nD Cert.HostProjIdeal.τ).loc Cert.HostProjIdeal.main_arg6)) (m ((c.tc : Thread Cert.HostProjIdeal.nD Cert.HostProjIdeal.τ).loc Cert.HostProjIdeal.main_arg7))).2.2.1 i = 1#1 → r.2.mem ((c.tc : Thread Cert.HostProjIdeal.nD Cert.HostProjIdeal.τ).loc Cert.HostProjIdeal.main_v2_2) i = v2 c i)
          ∧ (∀ i : (⟨3, ![2, 2048, 2048]⟩ : Shape).Idx, (Cert.On_host_proj_last.fn (F := Ideal) (m ((c.tc : Thread Cert.HostProjIdeal.nD Cert.HostProjIdeal.τ).loc Cert.HostProjIdeal.main_arg0)) (m ((c.tc : Thread Cert.HostProjIdeal.nD Cert.HostProjIdeal.τ).loc Cert.HostProjIdeal.main_arg1)) (m ((c.tc : Thread Cert.HostProjIdeal.nD Cert.HostProjIdeal.τ).loc Cert.HostProjIdeal.main_arg2)) (m ((c.tc : Thread Cert.HostProjIdeal.nD Cert.HostProjIdeal.τ).loc Cert.HostProjIdeal.main_arg3)) (m ((c.tc : Thread Cert.HostProjIdeal.nD Cert.HostProjIdeal.τ).loc Cert.HostProjIdeal.main_arg4)) (m ((c.tc : Thread Cert.HostProjIdeal.nD Cert.HostProjIdeal.τ).loc Cert.HostProjIdeal.main_arg5)) (m ((c.tc : Thread Cert.HostProjIdeal.nD Cert.HostProjIdeal.τ).loc Cert.HostProjIdeal.main_arg6)) (m ((c.tc : Thread Cert.HostProjIdeal.nD Cert.HostProjIdeal.τ).loc Cert.HostProjIdeal.main_arg7))).2.2.2.1 i = 1#1 → r.2.mem ((c.tc : Thread Cert.HostProjIdeal.nD Cert.HostProjIdeal.τ).loc Cert.HostProjIdeal.main_v2_3) i = v3 c i)
          ∧ (∀ i : (⟨3, ![2, 2048, 2048]⟩ : Shape).Idx, (Cert.On_host_proj_last.fn (F := Ideal) (m ((c.tc : Thread Cert.HostProjIdeal.nD Cert.HostProjIdeal.τ).loc Cert.HostProjIdeal.main_arg0)) (m ((c.tc : Thread Cert.HostProjIdeal.nD Cert.HostProjIdeal.τ).loc Cert.HostProjIdeal.main_arg1)) (m ((c.tc : Thread Cert.HostProjIdeal.nD Cert.HostProjIdeal.τ).loc Cert.HostProjIdeal.main_arg2)) (m ((c.tc : Thread Cert.HostProjIdeal.nD Cert.HostProjIdeal.τ).loc Cert.HostProjIdeal.main_arg3)) (m ((c.tc : Thread Cert.HostProjIdeal.nD Cert.HostProjIdeal.τ).loc Cert.HostProjIdeal.main_arg4)) (m ((c.tc : Thread Cert.HostProjIdeal.nD Cert.HostProjIdeal.τ).loc Cert.HostProjIdeal.main_arg5)) (m ((c.tc : Thread Cert.HostProjIdeal.nD Cert.HostProjIdeal.τ).loc Cert.HostProjIdeal.main_arg6)) (m ((c.tc : Thread Cert.HostProjIdeal.nD Cert.HostProjIdeal.τ).loc Cert.HostProjIdeal.main_arg7))).2.2.2.2 i = 1#1 → r.2.mem ((c.tc : Thread Cert.HostProjIdeal.nD Cert.HostProjIdeal.τ).loc Cert.HostProjIdeal.main_v2_4) i = v4 c i)
          ∧ r.2.mem ((c.tc : Thread Cert.HostProjIdeal.nD Cert.HostProjIdeal.τ).loc Cert.HostProjIdeal.main_arg0) = m ((c.tc : Thread Cert.HostProjIdeal.nD Cert.HostProjIdeal.τ).loc Cert.HostProjIdeal.main_arg0)
          ∧ r.2.mem ((c.tc : Thread Cert.HostProjIdeal.nD Cert.HostProjIdeal.τ).loc Cert.HostProjIdeal.main_arg1) = m ((c.tc : Thread Cert.HostProjIdeal.nD Cert.HostProjIdeal.τ).loc Cert.HostProjIdeal.main_arg1)
          ∧ r.2.mem ((c.tc : Thread Cert.HostProjIdeal.nD Cert.HostProjIdeal.τ).loc Cert.HostProjIdeal.main_arg2) = m ((c.tc : Thread Cert.HostProjIdeal.nD Cert.HostProjIdeal.τ).loc Cert.HostProjIdeal.main_arg2)
          ∧ r.2.mem ((c.tc : Thread Cert.HostProjIdeal.nD Cert.HostProjIdeal.τ).loc Cert.HostProjIdeal.main_arg3) = m ((c.tc : Thread Cert.HostProjIdeal.nD Cert.HostProjIdeal.τ).loc Cert.HostProjIdeal.main_arg3)
          ∧ r.2.mem ((c.tc : Thread Cert.HostProjIdeal.nD Cert.HostProjIdeal.τ).loc Cert.HostProjIdeal.main_arg4) = m ((c.tc : Thread Cert.HostProjIdeal.nD Cert.HostProjIdeal.τ).loc Cert.HostProjIdeal.main_arg4)
          ∧ r.2.mem ((c.tc : Thread Cert.HostProjIdeal.nD Cert.HostProjIdeal.τ).loc Cert.HostProjIdeal.main_arg5) = m ((c.tc : Thread Cert.HostProjIdeal.nD Cert.HostProjIdeal.τ).loc Cert.HostProjIdeal.main_arg5)
          ∧ r.2.mem ((c.tc : Thread Cert.HostProjIdeal.nD Cert.HostProjIdeal.τ).loc Cert.HostProjIdeal.main_arg6) = m ((c.tc : Thread Cert.HostProjIdeal.nD Cert.HostProjIdeal.τ).loc Cert.HostProjIdeal.main_arg6)
          ∧ r.2.mem ((c.tc : Thread Cert.HostProjIdeal.nD Cert.HostProjIdeal.τ).loc Cert.HostProjIdeal.main_arg7) = m ((c.tc : Thread Cert.HostProjIdeal.nD Cert.HostProjIdeal.τ).loc Cert.HostProjIdeal.main_arg7))
      ∧ θ_run (Cert.HostProjRefIdeal.defs (F := Ideal)) (onTc (τ := Cert.HostProjRefIdeal.τ) (Cert.HostProjRefIdeal.main (F := Ideal))) ⟨m', fun _ => 0, g'⟩ (fun r => ∀ c : Dev Cert.HostProjRefIdeal.nD,
          (∀ i : (⟨2, ![8192, 2048]⟩ : Shape).Idx, (Cert.On_host_proj_last.fn (F := Ideal) (m ((c.tc : Thread Cert.HostProjIdeal.nD Cert.HostProjIdeal.τ).loc Cert.HostProjIdeal.main_arg0)) (m ((c.tc : Thread Cert.HostProjIdeal.nD Cert.HostProjIdeal.τ).loc Cert.HostProjIdeal.main_arg1)) (m ((c.tc : Thread Cert.HostProjIdeal.nD Cert.HostProjIdeal.τ).loc Cert.HostProjIdeal.main_arg2)) (m ((c.tc : Thread Cert.HostProjIdeal.nD Cert.HostProjIdeal.τ).loc Cert.HostProjIdeal.main_arg3)) (m ((c.tc : Thread Cert.HostProjIdeal.nD Cert.HostProjIdeal.τ).loc Cert.HostProjIdeal.main_arg4)) (m ((c.tc : Thread Cert.HostProjIdeal.nD Cert.HostProjIdeal.τ).loc Cert.HostProjIdeal.main_arg5)) (m ((c.tc : Thread Cert.HostProjIdeal.nD Cert.HostProjIdeal.τ).loc Cert.HostProjIdeal.main_arg6)) (m ((c.tc : Thread Cert.HostProjIdeal.nD Cert.HostProjIdeal.τ).loc Cert.HostProjIdeal.main_arg7))).1 i = 1#1 → r.2.mem ((c.tc : Thread Cert.HostProjRefIdeal.nD Cert.HostProjRefIdeal.τ).loc Cert.HostProjRefIdeal.main_v3) i = v0 c i)
          ∧ (∀ i : (⟨3, ![2, 2048, 2048]⟩ : Shape).Idx, (Cert.On_host_proj_last.fn (F := Ideal) (m ((c.tc : Thread Cert.HostProjIdeal.nD Cert.HostProjIdeal.τ).loc Cert.HostProjIdeal.main_arg0)) (m ((c.tc : Thread Cert.HostProjIdeal.nD Cert.HostProjIdeal.τ).loc Cert.HostProjIdeal.main_arg1)) (m ((c.tc : Thread Cert.HostProjIdeal.nD Cert.HostProjIdeal.τ).loc Cert.HostProjIdeal.main_arg2)) (m ((c.tc : Thread Cert.HostProjIdeal.nD Cert.HostProjIdeal.τ).loc Cert.HostProjIdeal.main_arg3)) (m ((c.tc : Thread Cert.HostProjIdeal.nD Cert.HostProjIdeal.τ).loc Cert.HostProjIdeal.main_arg4)) (m ((c.tc : Thread Cert.HostProjIdeal.nD Cert.HostProjIdeal.τ).loc Cert.HostProjIdeal.main_arg5)) (m ((c.tc : Thread Cert.HostProjIdeal.nD Cert.HostProjIdeal.τ).loc Cert.HostProjIdeal.main_arg6)) (m ((c.tc : Thread Cert.HostProjIdeal.nD Cert.HostProjIdeal.τ).loc Cert.HostProjIdeal.main_arg7))).2.1 i = 1#1 → r.2.mem ((c.tc : Thread Cert.HostProjRefIdeal.nD Cert.HostProjRefIdeal.τ).loc Cert.HostProjRefIdeal.main_v34) i = v1 c i)
          ∧ (∀ i : (⟨3, ![2, 2048, 2048]⟩ : Shape).Idx, (Cert.On_host_proj_last.fn (F := Ideal) (m ((c.tc : Thread Cert.HostProjIdeal.nD Cert.HostProjIdeal.τ).loc Cert.HostProjIdeal.main_arg0)) (m ((c.tc : Thread Cert.HostProjIdeal.nD Cert.HostProjIdeal.τ).loc Cert.HostProjIdeal.main_arg1)) (m ((c.tc : Thread Cert.HostProjIdeal.nD Cert.HostProjIdeal.τ).loc Cert.HostProjIdeal.main_arg2)) (m ((c.tc : Thread Cert.HostProjIdeal.nD Cert.HostProjIdeal.τ).loc Cert.HostProjIdeal.main_arg3)) (m ((c.tc : Thread Cert.HostProjIdeal.nD Cert.HostProjIdeal.τ).loc Cert.HostProjIdeal.main_arg4)) (m ((c.tc : Thread Cert.HostProjIdeal.nD Cert.HostProjIdeal.τ).loc Cert.HostProjIdeal.main_arg5)) (m ((c.tc : Thread Cert.HostProjIdeal.nD Cert.HostProjIdeal.τ).loc Cert.HostProjIdeal.main_arg6)) (m ((c.tc : Thread Cert.HostProjIdeal.nD Cert.HostProjIdeal.τ).loc Cert.HostProjIdeal.main_arg7))).2.2.1 i = 1#1 → r.2.mem ((c.tc : Thread Cert.HostProjRefIdeal.nD Cert.HostProjRefIdeal.τ).loc Cert.HostProjRefIdeal.main_v35) i = v2 c i)
          ∧ (∀ i : (⟨3, ![2, 2048, 2048]⟩ : Shape).Idx, (Cert.On_host_proj_last.fn (F := Ideal) (m ((c.tc : Thread Cert.HostProjIdeal.nD Cert.HostProjIdeal.τ).loc Cert.HostProjIdeal.main_arg0)) (m ((c.tc : Thread Cert.HostProjIdeal.nD Cert.HostProjIdeal.τ).loc Cert.HostProjIdeal.main_arg1)) (m ((c.tc : Thread Cert.HostProjIdeal.nD Cert.HostProjIdeal.τ).loc Cert.HostProjIdeal.main_arg2)) (m ((c.tc : Thread Cert.HostProjIdeal.nD Cert.HostProjIdeal.τ).loc Cert.HostProjIdeal.main_arg3)) (m ((c.tc : Thread Cert.HostProjIdeal.nD Cert.HostProjIdeal.τ).loc Cert.HostProjIdeal.main_arg4)) (m ((c.tc : Thread Cert.HostProjIdeal.nD Cert.HostProjIdeal.τ).loc Cert.HostProjIdeal.main_arg5)) (m ((c.tc : Thread Cert.HostProjIdeal.nD Cert.HostProjIdeal.τ).loc Cert.HostProjIdeal.main_arg6)) (m ((c.tc : Thread Cert.HostProjIdeal.nD Cert.HostProjIdeal.τ).loc Cert.HostProjIdeal.main_arg7))).2.2.2.1 i = 1#1 → r.2.mem ((c.tc : Thread Cert.HostProjRefIdeal.nD Cert.HostProjRefIdeal.τ).loc Cert.HostProjRefIdeal.main_v36) i = v3 c i)
          ∧ (∀ i : (⟨3, ![2, 2048, 2048]⟩ : Shape).Idx, (Cert.On_host_proj_last.fn (F := Ideal) (m ((c.tc : Thread Cert.HostProjIdeal.nD Cert.HostProjIdeal.τ).loc Cert.HostProjIdeal.main_arg0)) (m ((c.tc : Thread Cert.HostProjIdeal.nD Cert.HostProjIdeal.τ).loc Cert.HostProjIdeal.main_arg1)) (m ((c.tc : Thread Cert.HostProjIdeal.nD Cert.HostProjIdeal.τ).loc Cert.HostProjIdeal.main_arg2)) (m ((c.tc : Thread Cert.HostProjIdeal.nD Cert.HostProjIdeal.τ).loc Cert.HostProjIdeal.main_arg3)) (m ((c.tc : Thread Cert.HostProjIdeal.nD Cert.HostProjIdeal.τ).loc Cert.HostProjIdeal.main_arg4)) (m ((c.tc : Thread Cert.HostProjIdeal.nD Cert.HostProjIdeal.τ).loc Cert.HostProjIdeal.main_arg5)) (m ((c.tc : Thread Cert.HostProjIdeal.nD Cert.HostProjIdeal.τ).loc Cert.HostProjIdeal.main_arg6)) (m ((c.tc : Thread Cert.HostProjIdeal.nD Cert.HostProjIdeal.τ).loc Cert.HostProjIdeal.main_arg7))).2.2.2.2 i = 1#1 → r.2.mem ((c.tc : Thread Cert.HostProjRefIdeal.nD Cert.HostProjRefIdeal.τ).loc Cert.HostProjRefIdeal.main_v37) i = v4 c i)
          ∧ r.2.mem ((c.tc : Thread Cert.HostProjRefIdeal.nD Cert.HostProjRefIdeal.τ).loc Cert.HostProjRefIdeal.main_arg0) = m' ((c.tc : Thread Cert.HostProjRefIdeal.nD Cert.HostProjRefIdeal.τ).loc Cert.HostProjRefIdeal.main_arg0)
          ∧ r.2.mem ((c.tc : Thread Cert.HostProjRefIdeal.nD Cert.HostProjRefIdeal.τ).loc Cert.HostProjRefIdeal.main_arg1) = m' ((c.tc : Thread Cert.HostProjRefIdeal.nD Cert.HostProjRefIdeal.τ).loc Cert.HostProjRefIdeal.main_arg1)
          ∧ r.2.mem ((c.tc : Thread Cert.HostProjRefIdeal.nD Cert.HostProjRefIdeal.τ).loc Cert.HostProjRefIdeal.main_arg2) = m' ((c.tc : Thread Cert.HostProjRefIdeal.nD Cert.HostProjRefIdeal.τ).loc Cert.HostProjRefIdeal.main_arg2)
          ∧ r.2.mem ((c.tc : Thread Cert.HostProjRefIdeal.nD Cert.HostProjRefIdeal.τ).loc Cert.HostProjRefIdeal.main_arg3) = m' ((c.tc : Thread Cert.HostProjRefIdeal.nD Cert.HostProjRefIdeal.τ).loc Cert.HostProjRefIdeal.main_arg3)
          ∧ r.2.mem ((c.tc : Thread Cert.HostProjRefIdeal.nD Cert.HostProjRefIdeal.τ).loc Cert.HostProjRefIdeal.main_arg4) = m' ((c.tc : Thread Cert.HostProjRefIdeal.nD Cert.HostProjRefIdeal.τ).loc Cert.HostProjRefIdeal.main_arg4)
          ∧ r.2.mem ((c.tc : Thread Cert.HostProjRefIdeal.nD Cert.HostProjRefIdeal.τ).loc Cert.HostProjRefIdeal.main_arg5) = m' ((c.tc : Thread Cert.HostProjRefIdeal.nD Cert.HostProjRefIdeal.τ).loc Cert.HostProjRefIdeal.main_arg5)
          ∧ r.2.mem ((c.tc : Thread Cert.HostProjRefIdeal.nD Cert.HostProjRefIdeal.τ).loc Cert.HostProjRefIdeal.main_arg6) = m' ((c.tc : Thread Cert.HostProjRefIdeal.nD Cert.HostProjRefIdeal.τ).loc Cert.HostProjRefIdeal.main_arg6)
          ∧ r.2.mem ((c.tc : Thread Cert.HostProjRefIdeal.nD Cert.HostProjRefIdeal.τ).loc Cert.HostProjRefIdeal.main_arg7) = m' ((c.tc : Thread Cert.HostProjRefIdeal.nD Cert.HostProjRefIdeal.τ).loc Cert.HostProjRefIdeal.main_arg7))

def preserves_HostFf2_HostFf2Ideal : Prop :=
  True

def algebraic_HostFf2Ideal_HostFf2RefIdeal_on_host_ff2_last [hHostFf2Ideal : Cert.HostFf2Ideal.Facts] [hHostFf2RefIdeal : Cert.HostFf2RefIdeal.Facts] [hOn_host_ff2_last : Cert.On_host_ff2_last.Facts] : Prop :=
  ∀ (m : (ℓ : Loc Cert.HostFf2Ideal.nD Cert.HostFf2Ideal.τ Cert.HostFf2Ideal.sig) → Buf (Elt Ideal) ℓ) (g : Dev Cert.HostFf2Ideal.nD → PrngReg)
    (m' : (ℓ : Loc Cert.HostFf2RefIdeal.nD Cert.HostFf2RefIdeal.τ Cert.HostFf2RefIdeal.sig) → Buf (Elt Ideal) ℓ) (g' : Dev Cert.HostFf2RefIdeal.nD → PrngReg), Pre_HostFf2Ideal m →
    (∀ c : Dev Cert.HostFf2Ideal.nD,
      m' ((c.tc : Thread Cert.HostFf2RefIdeal.nD Cert.HostFf2RefIdeal.τ).loc Cert.HostFf2RefIdeal.main_arg0) = m ((c.tc : Thread Cert.HostFf2Ideal.nD Cert.HostFf2Ideal.τ).loc Cert.HostFf2Ideal.main_arg0)
      ∧ m' ((c.tc : Thread Cert.HostFf2RefIdeal.nD Cert.HostFf2RefIdeal.τ).loc Cert.HostFf2RefIdeal.main_arg1) = m ((c.tc : Thread Cert.HostFf2Ideal.nD Cert.HostFf2Ideal.τ).loc Cert.HostFf2Ideal.main_arg1)
      ∧ m' ((c.tc : Thread Cert.HostFf2RefIdeal.nD Cert.HostFf2RefIdeal.τ).loc Cert.HostFf2RefIdeal.main_arg2) = m ((c.tc : Thread Cert.HostFf2Ideal.nD Cert.HostFf2Ideal.τ).loc Cert.HostFf2Ideal.main_arg2)
      ∧ m' ((c.tc : Thread Cert.HostFf2RefIdeal.nD Cert.HostFf2RefIdeal.τ).loc Cert.HostFf2RefIdeal.main_arg3) = m ((c.tc : Thread Cert.HostFf2Ideal.nD Cert.HostFf2Ideal.τ).loc Cert.HostFf2Ideal.main_arg3)
      ∧ m' ((c.tc : Thread Cert.HostFf2RefIdeal.nD Cert.HostFf2RefIdeal.τ).loc Cert.HostFf2RefIdeal.main_arg4) = m ((c.tc : Thread Cert.HostFf2Ideal.nD Cert.HostFf2Ideal.τ).loc Cert.HostFf2Ideal.main_arg4)
      ∧ m' ((c.tc : Thread Cert.HostFf2RefIdeal.nD Cert.HostFf2RefIdeal.τ).loc Cert.HostFf2RefIdeal.main_arg5) = m ((c.tc : Thread Cert.HostFf2Ideal.nD Cert.HostFf2Ideal.τ).loc Cert.HostFf2Ideal.main_arg5)
      ∧ m' ((c.tc : Thread Cert.HostFf2RefIdeal.nD Cert.HostFf2RefIdeal.τ).loc Cert.HostFf2RefIdeal.main_arg6) = m ((c.tc : Thread Cert.HostFf2Ideal.nD Cert.HostFf2Ideal.τ).loc Cert.HostFf2Ideal.main_arg6)) →
    ∃ (v0 : (c : Dev Cert.HostFf2Ideal.nD) → Buf (Elt Ideal) ((c.tc : Thread Cert.HostFf2Ideal.nD Cert.HostFf2Ideal.τ).loc Cert.HostFf2Ideal.main_v2_0)) (v1 : (c : Dev Cert.HostFf2Ideal.nD) → Buf (Elt Ideal) ((c.tc : Thread Cert.HostFf2Ideal.nD Cert.HostFf2Ideal.τ).loc Cert.HostFf2Ideal.main_v2_1)) (v2 : (c : Dev Cert.HostFf2Ideal.nD) → Buf (Elt Ideal) ((c.tc : Thread Cert.HostFf2Ideal.nD Cert.HostFf2Ideal.τ).loc Cert.HostFf2Ideal.main_v2_2)) (v3 : (c : Dev Cert.HostFf2Ideal.nD) → Buf (Elt Ideal) ((c.tc : Thread Cert.HostFf2Ideal.nD Cert.HostFf2Ideal.τ).loc Cert.HostFf2Ideal.main_v2_3)) (v4 : (c : Dev Cert.HostFf2Ideal.nD) → Buf (Elt Ideal) ((c.tc : Thread Cert.HostFf2Ideal.nD Cert.HostFf2Ideal.τ).loc Cert.HostFf2Ideal.main_v2_4)) (v5 : (c : Dev Cert.HostFf2Ideal.nD) → Buf (Elt Ideal) ((c.tc : Thread Cert.HostFf2Ideal.nD Cert.HostFf2Ideal.τ).loc Cert.HostFf2Ideal.main_v2_5)),
      θ_run (Cert.HostFf2Ideal.defs (F := Ideal)) (onTc (τ := Cert.HostFf2Ideal.τ) (Cert.HostFf2Ideal.main (F := Ideal))) ⟨m, fun _ => 0, g⟩ (fun r => ∀ c : Dev Cert.HostFf2Ideal.nD,
          (∀ i : (⟨2, ![8192, 8192]⟩ : Shape).Idx, (Cert.On_host_ff2_last.fn (F := Ideal) (m ((c.tc : Thread Cert.HostFf2Ideal.nD Cert.HostFf2Ideal.τ).loc Cert.HostFf2Ideal.main_arg0)) (m ((c.tc : Thread Cert.HostFf2Ideal.nD Cert.HostFf2Ideal.τ).loc Cert.HostFf2Ideal.main_arg1)) (m ((c.tc : Thread Cert.HostFf2Ideal.nD Cert.HostFf2Ideal.τ).loc Cert.HostFf2Ideal.main_arg2)) (m ((c.tc : Thread Cert.HostFf2Ideal.nD Cert.HostFf2Ideal.τ).loc Cert.HostFf2Ideal.main_arg3)) (m ((c.tc : Thread Cert.HostFf2Ideal.nD Cert.HostFf2Ideal.τ).loc Cert.HostFf2Ideal.main_arg4)) (m ((c.tc : Thread Cert.HostFf2Ideal.nD Cert.HostFf2Ideal.τ).loc Cert.HostFf2Ideal.main_arg5)) (m ((c.tc : Thread Cert.HostFf2Ideal.nD Cert.HostFf2Ideal.τ).loc Cert.HostFf2Ideal.main_arg6))).1 i = 1#1 → r.2.mem ((c.tc : Thread Cert.HostFf2Ideal.nD Cert.HostFf2Ideal.τ).loc Cert.HostFf2Ideal.main_v2_0) i = v0 c i)
          ∧ (∀ i : (⟨2, ![1, 8192]⟩ : Shape).Idx, (Cert.On_host_ff2_last.fn (F := Ideal) (m ((c.tc : Thread Cert.HostFf2Ideal.nD Cert.HostFf2Ideal.τ).loc Cert.HostFf2Ideal.main_arg0)) (m ((c.tc : Thread Cert.HostFf2Ideal.nD Cert.HostFf2Ideal.τ).loc Cert.HostFf2Ideal.main_arg1)) (m ((c.tc : Thread Cert.HostFf2Ideal.nD Cert.HostFf2Ideal.τ).loc Cert.HostFf2Ideal.main_arg2)) (m ((c.tc : Thread Cert.HostFf2Ideal.nD Cert.HostFf2Ideal.τ).loc Cert.HostFf2Ideal.main_arg3)) (m ((c.tc : Thread Cert.HostFf2Ideal.nD Cert.HostFf2Ideal.τ).loc Cert.HostFf2Ideal.main_arg4)) (m ((c.tc : Thread Cert.HostFf2Ideal.nD Cert.HostFf2Ideal.τ).loc Cert.HostFf2Ideal.main_arg5)) (m ((c.tc : Thread Cert.HostFf2Ideal.nD Cert.HostFf2Ideal.τ).loc Cert.HostFf2Ideal.main_arg6))).2.1 i = 1#1 → r.2.mem ((c.tc : Thread Cert.HostFf2Ideal.nD Cert.HostFf2Ideal.τ).loc Cert.HostFf2Ideal.main_v2_1) i = v1 c i)
          ∧ (∀ i : (⟨3, ![2, 2048, 2048]⟩ : Shape).Idx, (Cert.On_host_ff2_last.fn (F := Ideal) (m ((c.tc : Thread Cert.HostFf2Ideal.nD Cert.HostFf2Ideal.τ).loc Cert.HostFf2Ideal.main_arg0)) (m ((c.tc : Thread Cert.HostFf2Ideal.nD Cert.HostFf2Ideal.τ).loc Cert.HostFf2Ideal.main_arg1)) (m ((c.tc : Thread Cert.HostFf2Ideal.nD Cert.HostFf2Ideal.τ).loc Cert.HostFf2Ideal.main_arg2)) (m ((c.tc : Thread Cert.HostFf2Ideal.nD Cert.HostFf2Ideal.τ).loc Cert.HostFf2Ideal.main_arg3)) (m ((c.tc : Thread Cert.HostFf2Ideal.nD Cert.HostFf2Ideal.τ).loc Cert.HostFf2Ideal.main_arg4)) (m ((c.tc : Thread Cert.HostFf2Ideal.nD Cert.HostFf2Ideal.τ).loc Cert.HostFf2Ideal.main_arg5)) (m ((c.tc : Thread Cert.HostFf2Ideal.nD Cert.HostFf2Ideal.τ).loc Cert.HostFf2Ideal.main_arg6))).2.2.1 i = 1#1 → r.2.mem ((c.tc : Thread Cert.HostFf2Ideal.nD Cert.HostFf2Ideal.τ).loc Cert.HostFf2Ideal.main_v2_2) i = v2 c i)
          ∧ (∀ i : (⟨3, ![2, 2048, 2048]⟩ : Shape).Idx, (Cert.On_host_ff2_last.fn (F := Ideal) (m ((c.tc : Thread Cert.HostFf2Ideal.nD Cert.HostFf2Ideal.τ).loc Cert.HostFf2Ideal.main_arg0)) (m ((c.tc : Thread Cert.HostFf2Ideal.nD Cert.HostFf2Ideal.τ).loc Cert.HostFf2Ideal.main_arg1)) (m ((c.tc : Thread Cert.HostFf2Ideal.nD Cert.HostFf2Ideal.τ).loc Cert.HostFf2Ideal.main_arg2)) (m ((c.tc : Thread Cert.HostFf2Ideal.nD Cert.HostFf2Ideal.τ).loc Cert.HostFf2Ideal.main_arg3)) (m ((c.tc : Thread Cert.HostFf2Ideal.nD Cert.HostFf2Ideal.τ).loc Cert.HostFf2Ideal.main_arg4)) (m ((c.tc : Thread Cert.HostFf2Ideal.nD Cert.HostFf2Ideal.τ).loc Cert.HostFf2Ideal.main_arg5)) (m ((c.tc : Thread Cert.HostFf2Ideal.nD Cert.HostFf2Ideal.τ).loc Cert.HostFf2Ideal.main_arg6))).2.2.2.1 i = 1#1 → r.2.mem ((c.tc : Thread Cert.HostFf2Ideal.nD Cert.HostFf2Ideal.τ).loc Cert.HostFf2Ideal.main_v2_3) i = v3 c i)
          ∧ (∀ i : (⟨3, ![2, 2048, 2048]⟩ : Shape).Idx, (Cert.On_host_ff2_last.fn (F := Ideal) (m ((c.tc : Thread Cert.HostFf2Ideal.nD Cert.HostFf2Ideal.τ).loc Cert.HostFf2Ideal.main_arg0)) (m ((c.tc : Thread Cert.HostFf2Ideal.nD Cert.HostFf2Ideal.τ).loc Cert.HostFf2Ideal.main_arg1)) (m ((c.tc : Thread Cert.HostFf2Ideal.nD Cert.HostFf2Ideal.τ).loc Cert.HostFf2Ideal.main_arg2)) (m ((c.tc : Thread Cert.HostFf2Ideal.nD Cert.HostFf2Ideal.τ).loc Cert.HostFf2Ideal.main_arg3)) (m ((c.tc : Thread Cert.HostFf2Ideal.nD Cert.HostFf2Ideal.τ).loc Cert.HostFf2Ideal.main_arg4)) (m ((c.tc : Thread Cert.HostFf2Ideal.nD Cert.HostFf2Ideal.τ).loc Cert.HostFf2Ideal.main_arg5)) (m ((c.tc : Thread Cert.HostFf2Ideal.nD Cert.HostFf2Ideal.τ).loc Cert.HostFf2Ideal.main_arg6))).2.2.2.2.1 i = 1#1 → r.2.mem ((c.tc : Thread Cert.HostFf2Ideal.nD Cert.HostFf2Ideal.τ).loc Cert.HostFf2Ideal.main_v2_4) i = v4 c i)
          ∧ (∀ i : (⟨3, ![2, 2048, 2048]⟩ : Shape).Idx, (Cert.On_host_ff2_last.fn (F := Ideal) (m ((c.tc : Thread Cert.HostFf2Ideal.nD Cert.HostFf2Ideal.τ).loc Cert.HostFf2Ideal.main_arg0)) (m ((c.tc : Thread Cert.HostFf2Ideal.nD Cert.HostFf2Ideal.τ).loc Cert.HostFf2Ideal.main_arg1)) (m ((c.tc : Thread Cert.HostFf2Ideal.nD Cert.HostFf2Ideal.τ).loc Cert.HostFf2Ideal.main_arg2)) (m ((c.tc : Thread Cert.HostFf2Ideal.nD Cert.HostFf2Ideal.τ).loc Cert.HostFf2Ideal.main_arg3)) (m ((c.tc : Thread Cert.HostFf2Ideal.nD Cert.HostFf2Ideal.τ).loc Cert.HostFf2Ideal.main_arg4)) (m ((c.tc : Thread Cert.HostFf2Ideal.nD Cert.HostFf2Ideal.τ).loc Cert.HostFf2Ideal.main_arg5)) (m ((c.tc : Thread Cert.HostFf2Ideal.nD Cert.HostFf2Ideal.τ).loc Cert.HostFf2Ideal.main_arg6))).2.2.2.2.2 i = 1#1 → r.2.mem ((c.tc : Thread Cert.HostFf2Ideal.nD Cert.HostFf2Ideal.τ).loc Cert.HostFf2Ideal.main_v2_5) i = v5 c i)
          ∧ r.2.mem ((c.tc : Thread Cert.HostFf2Ideal.nD Cert.HostFf2Ideal.τ).loc Cert.HostFf2Ideal.main_arg0) = m ((c.tc : Thread Cert.HostFf2Ideal.nD Cert.HostFf2Ideal.τ).loc Cert.HostFf2Ideal.main_arg0)
          ∧ r.2.mem ((c.tc : Thread Cert.HostFf2Ideal.nD Cert.HostFf2Ideal.τ).loc Cert.HostFf2Ideal.main_arg1) = m ((c.tc : Thread Cert.HostFf2Ideal.nD Cert.HostFf2Ideal.τ).loc Cert.HostFf2Ideal.main_arg1)
          ∧ r.2.mem ((c.tc : Thread Cert.HostFf2Ideal.nD Cert.HostFf2Ideal.τ).loc Cert.HostFf2Ideal.main_arg2) = m ((c.tc : Thread Cert.HostFf2Ideal.nD Cert.HostFf2Ideal.τ).loc Cert.HostFf2Ideal.main_arg2)
          ∧ r.2.mem ((c.tc : Thread Cert.HostFf2Ideal.nD Cert.HostFf2Ideal.τ).loc Cert.HostFf2Ideal.main_arg3) = m ((c.tc : Thread Cert.HostFf2Ideal.nD Cert.HostFf2Ideal.τ).loc Cert.HostFf2Ideal.main_arg3)
          ∧ r.2.mem ((c.tc : Thread Cert.HostFf2Ideal.nD Cert.HostFf2Ideal.τ).loc Cert.HostFf2Ideal.main_arg4) = m ((c.tc : Thread Cert.HostFf2Ideal.nD Cert.HostFf2Ideal.τ).loc Cert.HostFf2Ideal.main_arg4)
          ∧ r.2.mem ((c.tc : Thread Cert.HostFf2Ideal.nD Cert.HostFf2Ideal.τ).loc Cert.HostFf2Ideal.main_arg5) = m ((c.tc : Thread Cert.HostFf2Ideal.nD Cert.HostFf2Ideal.τ).loc Cert.HostFf2Ideal.main_arg5)
          ∧ r.2.mem ((c.tc : Thread Cert.HostFf2Ideal.nD Cert.HostFf2Ideal.τ).loc Cert.HostFf2Ideal.main_arg6) = m ((c.tc : Thread Cert.HostFf2Ideal.nD Cert.HostFf2Ideal.τ).loc Cert.HostFf2Ideal.main_arg6))
      ∧ θ_run (Cert.HostFf2RefIdeal.defs (F := Ideal)) (onTc (τ := Cert.HostFf2RefIdeal.τ) (Cert.HostFf2RefIdeal.main (F := Ideal))) ⟨m', fun _ => 0, g'⟩ (fun r => ∀ c : Dev Cert.HostFf2RefIdeal.nD,
          (∀ i : (⟨2, ![8192, 8192]⟩ : Shape).Idx, (Cert.On_host_ff2_last.fn (F := Ideal) (m ((c.tc : Thread Cert.HostFf2Ideal.nD Cert.HostFf2Ideal.τ).loc Cert.HostFf2Ideal.main_arg0)) (m ((c.tc : Thread Cert.HostFf2Ideal.nD Cert.HostFf2Ideal.τ).loc Cert.HostFf2Ideal.main_arg1)) (m ((c.tc : Thread Cert.HostFf2Ideal.nD Cert.HostFf2Ideal.τ).loc Cert.HostFf2Ideal.main_arg2)) (m ((c.tc : Thread Cert.HostFf2Ideal.nD Cert.HostFf2Ideal.τ).loc Cert.HostFf2Ideal.main_arg3)) (m ((c.tc : Thread Cert.HostFf2Ideal.nD Cert.HostFf2Ideal.τ).loc Cert.HostFf2Ideal.main_arg4)) (m ((c.tc : Thread Cert.HostFf2Ideal.nD Cert.HostFf2Ideal.τ).loc Cert.HostFf2Ideal.main_arg5)) (m ((c.tc : Thread Cert.HostFf2Ideal.nD Cert.HostFf2Ideal.τ).loc Cert.HostFf2Ideal.main_arg6))).1 i = 1#1 → r.2.mem ((c.tc : Thread Cert.HostFf2RefIdeal.nD Cert.HostFf2RefIdeal.τ).loc Cert.HostFf2RefIdeal.main_v33) i = v0 c i)
          ∧ (∀ i : (⟨2, ![1, 8192]⟩ : Shape).Idx, (Cert.On_host_ff2_last.fn (F := Ideal) (m ((c.tc : Thread Cert.HostFf2Ideal.nD Cert.HostFf2Ideal.τ).loc Cert.HostFf2Ideal.main_arg0)) (m ((c.tc : Thread Cert.HostFf2Ideal.nD Cert.HostFf2Ideal.τ).loc Cert.HostFf2Ideal.main_arg1)) (m ((c.tc : Thread Cert.HostFf2Ideal.nD Cert.HostFf2Ideal.τ).loc Cert.HostFf2Ideal.main_arg2)) (m ((c.tc : Thread Cert.HostFf2Ideal.nD Cert.HostFf2Ideal.τ).loc Cert.HostFf2Ideal.main_arg3)) (m ((c.tc : Thread Cert.HostFf2Ideal.nD Cert.HostFf2Ideal.τ).loc Cert.HostFf2Ideal.main_arg4)) (m ((c.tc : Thread Cert.HostFf2Ideal.nD Cert.HostFf2Ideal.τ).loc Cert.HostFf2Ideal.main_arg5)) (m ((c.tc : Thread Cert.HostFf2Ideal.nD Cert.HostFf2Ideal.τ).loc Cert.HostFf2Ideal.main_arg6))).2.1 i = 1#1 → r.2.mem ((c.tc : Thread Cert.HostFf2RefIdeal.nD Cert.HostFf2RefIdeal.τ).loc Cert.HostFf2RefIdeal.main_v32) i = v1 c i)
          ∧ (∀ i : (⟨3, ![2, 2048, 2048]⟩ : Shape).Idx, (Cert.On_host_ff2_last.fn (F := Ideal) (m ((c.tc : Thread Cert.HostFf2Ideal.nD Cert.HostFf2Ideal.τ).loc Cert.HostFf2Ideal.main_arg0)) (m ((c.tc : Thread Cert.HostFf2Ideal.nD Cert.HostFf2Ideal.τ).loc Cert.HostFf2Ideal.main_arg1)) (m ((c.tc : Thread Cert.HostFf2Ideal.nD Cert.HostFf2Ideal.τ).loc Cert.HostFf2Ideal.main_arg2)) (m ((c.tc : Thread Cert.HostFf2Ideal.nD Cert.HostFf2Ideal.τ).loc Cert.HostFf2Ideal.main_arg3)) (m ((c.tc : Thread Cert.HostFf2Ideal.nD Cert.HostFf2Ideal.τ).loc Cert.HostFf2Ideal.main_arg4)) (m ((c.tc : Thread Cert.HostFf2Ideal.nD Cert.HostFf2Ideal.τ).loc Cert.HostFf2Ideal.main_arg5)) (m ((c.tc : Thread Cert.HostFf2Ideal.nD Cert.HostFf2Ideal.τ).loc Cert.HostFf2Ideal.main_arg6))).2.2.1 i = 1#1 → r.2.mem ((c.tc : Thread Cert.HostFf2RefIdeal.nD Cert.HostFf2RefIdeal.τ).loc Cert.HostFf2RefIdeal.main_v64) i = v2 c i)
          ∧ (∀ i : (⟨3, ![2, 2048, 2048]⟩ : Shape).Idx, (Cert.On_host_ff2_last.fn (F := Ideal) (m ((c.tc : Thread Cert.HostFf2Ideal.nD Cert.HostFf2Ideal.τ).loc Cert.HostFf2Ideal.main_arg0)) (m ((c.tc : Thread Cert.HostFf2Ideal.nD Cert.HostFf2Ideal.τ).loc Cert.HostFf2Ideal.main_arg1)) (m ((c.tc : Thread Cert.HostFf2Ideal.nD Cert.HostFf2Ideal.τ).loc Cert.HostFf2Ideal.main_arg2)) (m ((c.tc : Thread Cert.HostFf2Ideal.nD Cert.HostFf2Ideal.τ).loc Cert.HostFf2Ideal.main_arg3)) (m ((c.tc : Thread Cert.HostFf2Ideal.nD Cert.HostFf2Ideal.τ).loc Cert.HostFf2Ideal.main_arg4)) (m ((c.tc : Thread Cert.HostFf2Ideal.nD Cert.HostFf2Ideal.τ).loc Cert.HostFf2Ideal.main_arg5)) (m ((c.tc : Thread Cert.HostFf2Ideal.nD Cert.HostFf2Ideal.τ).loc Cert.HostFf2Ideal.main_arg6))).2.2.2.1 i = 1#1 → r.2.mem ((c.tc : Thread Cert.HostFf2RefIdeal.nD Cert.HostFf2RefIdeal.τ).loc Cert.HostFf2RefIdeal.main_v65) i = v3 c i)
          ∧ (∀ i : (⟨3, ![2, 2048, 2048]⟩ : Shape).Idx, (Cert.On_host_ff2_last.fn (F := Ideal) (m ((c.tc : Thread Cert.HostFf2Ideal.nD Cert.HostFf2Ideal.τ).loc Cert.HostFf2Ideal.main_arg0)) (m ((c.tc : Thread Cert.HostFf2Ideal.nD Cert.HostFf2Ideal.τ).loc Cert.HostFf2Ideal.main_arg1)) (m ((c.tc : Thread Cert.HostFf2Ideal.nD Cert.HostFf2Ideal.τ).loc Cert.HostFf2Ideal.main_arg2)) (m ((c.tc : Thread Cert.HostFf2Ideal.nD Cert.HostFf2Ideal.τ).loc Cert.HostFf2Ideal.main_arg3)) (m ((c.tc : Thread Cert.HostFf2Ideal.nD Cert.HostFf2Ideal.τ).loc Cert.HostFf2Ideal.main_arg4)) (m ((c.tc : Thread Cert.HostFf2Ideal.nD Cert.HostFf2Ideal.τ).loc Cert.HostFf2Ideal.main_arg5)) (m ((c.tc : Thread Cert.HostFf2Ideal.nD Cert.HostFf2Ideal.τ).loc Cert.HostFf2Ideal.main_arg6))).2.2.2.2.1 i = 1#1 → r.2.mem ((c.tc : Thread Cert.HostFf2RefIdeal.nD Cert.HostFf2RefIdeal.τ).loc Cert.HostFf2RefIdeal.main_v66) i = v4 c i)
          ∧ (∀ i : (⟨3, ![2, 2048, 2048]⟩ : Shape).Idx, (Cert.On_host_ff2_last.fn (F := Ideal) (m ((c.tc : Thread Cert.HostFf2Ideal.nD Cert.HostFf2Ideal.τ).loc Cert.HostFf2Ideal.main_arg0)) (m ((c.tc : Thread Cert.HostFf2Ideal.nD Cert.HostFf2Ideal.τ).loc Cert.HostFf2Ideal.main_arg1)) (m ((c.tc : Thread Cert.HostFf2Ideal.nD Cert.HostFf2Ideal.τ).loc Cert.HostFf2Ideal.main_arg2)) (m ((c.tc : Thread Cert.HostFf2Ideal.nD Cert.HostFf2Ideal.τ).loc Cert.HostFf2Ideal.main_arg3)) (m ((c.tc : Thread Cert.HostFf2Ideal.nD Cert.HostFf2Ideal.τ).loc Cert.HostFf2Ideal.main_arg4)) (m ((c.tc : Thread Cert.HostFf2Ideal.nD Cert.HostFf2Ideal.τ).loc Cert.HostFf2Ideal.main_arg5)) (m ((c.tc : Thread Cert.HostFf2Ideal.nD Cert.HostFf2Ideal.τ).loc Cert.HostFf2Ideal.main_arg6))).2.2.2.2.2 i = 1#1 → r.2.mem ((c.tc : Thread Cert.HostFf2RefIdeal.nD Cert.HostFf2RefIdeal.τ).loc Cert.HostFf2RefIdeal.main_v67) i = v5 c i)
          ∧ r.2.mem ((c.tc : Thread Cert.HostFf2RefIdeal.nD Cert.HostFf2RefIdeal.τ).loc Cert.HostFf2RefIdeal.main_arg0) = m' ((c.tc : Thread Cert.HostFf2RefIdeal.nD Cert.HostFf2RefIdeal.τ).loc Cert.HostFf2RefIdeal.main_arg0)
          ∧ r.2.mem ((c.tc : Thread Cert.HostFf2RefIdeal.nD Cert.HostFf2RefIdeal.τ).loc Cert.HostFf2RefIdeal.main_arg1) = m' ((c.tc : Thread Cert.HostFf2RefIdeal.nD Cert.HostFf2RefIdeal.τ).loc Cert.HostFf2RefIdeal.main_arg1)
          ∧ r.2.mem ((c.tc : Thread Cert.HostFf2RefIdeal.nD Cert.HostFf2RefIdeal.τ).loc Cert.HostFf2RefIdeal.main_arg2) = m' ((c.tc : Thread Cert.HostFf2RefIdeal.nD Cert.HostFf2RefIdeal.τ).loc Cert.HostFf2RefIdeal.main_arg2)
          ∧ r.2.mem ((c.tc : Thread Cert.HostFf2RefIdeal.nD Cert.HostFf2RefIdeal.τ).loc Cert.HostFf2RefIdeal.main_arg3) = m' ((c.tc : Thread Cert.HostFf2RefIdeal.nD Cert.HostFf2RefIdeal.τ).loc Cert.HostFf2RefIdeal.main_arg3)
          ∧ r.2.mem ((c.tc : Thread Cert.HostFf2RefIdeal.nD Cert.HostFf2RefIdeal.τ).loc Cert.HostFf2RefIdeal.main_arg4) = m' ((c.tc : Thread Cert.HostFf2RefIdeal.nD Cert.HostFf2RefIdeal.τ).loc Cert.HostFf2RefIdeal.main_arg4)
          ∧ r.2.mem ((c.tc : Thread Cert.HostFf2RefIdeal.nD Cert.HostFf2RefIdeal.τ).loc Cert.HostFf2RefIdeal.main_arg5) = m' ((c.tc : Thread Cert.HostFf2RefIdeal.nD Cert.HostFf2RefIdeal.τ).loc Cert.HostFf2RefIdeal.main_arg5)
          ∧ r.2.mem ((c.tc : Thread Cert.HostFf2RefIdeal.nD Cert.HostFf2RefIdeal.τ).loc Cert.HostFf2RefIdeal.main_arg6) = m' ((c.tc : Thread Cert.HostFf2RefIdeal.nD Cert.HostFf2RefIdeal.τ).loc Cert.HostFf2RefIdeal.main_arg6))

def preserves_DffHidden_DffHiddenIdeal : Prop :=
  True

def algebraic_DffHiddenIdeal_DffHiddenRefIdeal [hDffHiddenIdeal : Cert.DffHiddenIdeal.Facts] [hDffHiddenRefIdeal : Cert.DffHiddenRefIdeal.Facts] : Prop :=
  ∀ (m : (ℓ : Loc Cert.DffHiddenIdeal.nD Cert.DffHiddenIdeal.τ Cert.DffHiddenIdeal.sig) → Buf (Elt Ideal) ℓ) (g : Dev Cert.DffHiddenIdeal.nD → PrngReg)
    (m' : (ℓ : Loc Cert.DffHiddenRefIdeal.nD Cert.DffHiddenRefIdeal.τ Cert.DffHiddenRefIdeal.sig) → Buf (Elt Ideal) ℓ) (g' : Dev Cert.DffHiddenRefIdeal.nD → PrngReg), Pre_DffHiddenIdeal m →
    (∀ c : Dev Cert.DffHiddenIdeal.nD,
      m' ((c.tc : Thread Cert.DffHiddenRefIdeal.nD Cert.DffHiddenRefIdeal.τ).loc Cert.DffHiddenRefIdeal.main_arg0) = m ((c.tc : Thread Cert.DffHiddenIdeal.nD Cert.DffHiddenIdeal.τ).loc Cert.DffHiddenIdeal.main_arg0)
      ∧ m' ((c.tc : Thread Cert.DffHiddenRefIdeal.nD Cert.DffHiddenRefIdeal.τ).loc Cert.DffHiddenRefIdeal.main_arg1) = m ((c.tc : Thread Cert.DffHiddenIdeal.nD Cert.DffHiddenIdeal.τ).loc Cert.DffHiddenIdeal.main_arg1)
      ∧ m' ((c.tc : Thread Cert.DffHiddenRefIdeal.nD Cert.DffHiddenRefIdeal.τ).loc Cert.DffHiddenRefIdeal.main_arg2) = m ((c.tc : Thread Cert.DffHiddenIdeal.nD Cert.DffHiddenIdeal.τ).loc Cert.DffHiddenIdeal.main_arg2)) →
    ∃ (v0 : (c : Dev Cert.DffHiddenIdeal.nD) → Buf (Elt Ideal) ((c.tc : Thread Cert.DffHiddenIdeal.nD Cert.DffHiddenIdeal.τ).loc Cert.DffHiddenIdeal.main_v2_0)) (v1 : (c : Dev Cert.DffHiddenIdeal.nD) → Buf (Elt Ideal) ((c.tc : Thread Cert.DffHiddenIdeal.nD Cert.DffHiddenIdeal.τ).loc Cert.DffHiddenIdeal.main_v2_1)),
      θ_run (Cert.DffHiddenIdeal.defs (F := Ideal)) (onTc (τ := Cert.DffHiddenIdeal.τ) (Cert.DffHiddenIdeal.main (F := Ideal))) ⟨m, fun _ => 0, g⟩ (fun r => ∀ c : Dev Cert.DffHiddenIdeal.nD,
          r.2.mem ((c.tc : Thread Cert.DffHiddenIdeal.nD Cert.DffHiddenIdeal.τ).loc Cert.DffHiddenIdeal.main_v2_0) = v0 c
          ∧ r.2.mem ((c.tc : Thread Cert.DffHiddenIdeal.nD Cert.DffHiddenIdeal.τ).loc Cert.DffHiddenIdeal.main_v2_1) = v1 c
          ∧ r.2.mem ((c.tc : Thread Cert.DffHiddenIdeal.nD Cert.DffHiddenIdeal.τ).loc Cert.DffHiddenIdeal.main_arg0) = m ((c.tc : Thread Cert.DffHiddenIdeal.nD Cert.DffHiddenIdeal.τ).loc Cert.DffHiddenIdeal.main_arg0)
          ∧ r.2.mem ((c.tc : Thread Cert.DffHiddenIdeal.nD Cert.DffHiddenIdeal.τ).loc Cert.DffHiddenIdeal.main_arg1) = m ((c.tc : Thread Cert.DffHiddenIdeal.nD Cert.DffHiddenIdeal.τ).loc Cert.DffHiddenIdeal.main_arg1)
          ∧ r.2.mem ((c.tc : Thread Cert.DffHiddenIdeal.nD Cert.DffHiddenIdeal.τ).loc Cert.DffHiddenIdeal.main_arg2) = m ((c.tc : Thread Cert.DffHiddenIdeal.nD Cert.DffHiddenIdeal.τ).loc Cert.DffHiddenIdeal.main_arg2))
      ∧ θ_run (Cert.DffHiddenRefIdeal.defs (F := Ideal)) (onTc (τ := Cert.DffHiddenRefIdeal.τ) (Cert.DffHiddenRefIdeal.main (F := Ideal))) ⟨m', fun _ => 0, g'⟩ (fun r => ∀ c : Dev Cert.DffHiddenRefIdeal.nD,
          r.2.mem ((c.tc : Thread Cert.DffHiddenRefIdeal.nD Cert.DffHiddenRefIdeal.τ).loc Cert.DffHiddenRefIdeal.main_v33) = v0 c
          ∧ r.2.mem ((c.tc : Thread Cert.DffHiddenRefIdeal.nD Cert.DffHiddenRefIdeal.τ).loc Cert.DffHiddenRefIdeal.main_v32) = v1 c
          ∧ r.2.mem ((c.tc : Thread Cert.DffHiddenRefIdeal.nD Cert.DffHiddenRefIdeal.τ).loc Cert.DffHiddenRefIdeal.main_arg0) = m' ((c.tc : Thread Cert.DffHiddenRefIdeal.nD Cert.DffHiddenRefIdeal.τ).loc Cert.DffHiddenRefIdeal.main_arg0)
          ∧ r.2.mem ((c.tc : Thread Cert.DffHiddenRefIdeal.nD Cert.DffHiddenRefIdeal.τ).loc Cert.DffHiddenRefIdeal.main_arg1) = m' ((c.tc : Thread Cert.DffHiddenRefIdeal.nD Cert.DffHiddenRefIdeal.τ).loc Cert.DffHiddenRefIdeal.main_arg1)
          ∧ r.2.mem ((c.tc : Thread Cert.DffHiddenRefIdeal.nD Cert.DffHiddenRefIdeal.τ).loc Cert.DffHiddenRefIdeal.main_arg2) = m' ((c.tc : Thread Cert.DffHiddenRefIdeal.nD Cert.DffHiddenRefIdeal.τ).loc Cert.DffHiddenRefIdeal.main_arg2))

def preserves_HostMix_HostMixIdeal : Prop :=
  True

def algebraic_HostMixIdeal_HostMixRefIdeal_on_host_mix_last [hHostMixIdeal : Cert.HostMixIdeal.Facts] [hHostMixRefIdeal : Cert.HostMixRefIdeal.Facts] [hOn_host_mix_last : Cert.On_host_mix_last.Facts] : Prop :=
  ∀ (m : (ℓ : Loc Cert.HostMixIdeal.nD Cert.HostMixIdeal.τ Cert.HostMixIdeal.sig) → Buf (Elt Ideal) ℓ) (g : Dev Cert.HostMixIdeal.nD → PrngReg)
    (m' : (ℓ : Loc Cert.HostMixRefIdeal.nD Cert.HostMixRefIdeal.τ Cert.HostMixRefIdeal.sig) → Buf (Elt Ideal) ℓ) (g' : Dev Cert.HostMixRefIdeal.nD → PrngReg), Pre_HostMixIdeal m →
    (∀ c : Dev Cert.HostMixIdeal.nD,
      m' ((c.tc : Thread Cert.HostMixRefIdeal.nD Cert.HostMixRefIdeal.τ).loc Cert.HostMixRefIdeal.main_arg0) = m ((c.tc : Thread Cert.HostMixIdeal.nD Cert.HostMixIdeal.τ).loc Cert.HostMixIdeal.main_arg0)
      ∧ m' ((c.tc : Thread Cert.HostMixRefIdeal.nD Cert.HostMixRefIdeal.τ).loc Cert.HostMixRefIdeal.main_arg1) = m ((c.tc : Thread Cert.HostMixIdeal.nD Cert.HostMixIdeal.τ).loc Cert.HostMixIdeal.main_arg1)
      ∧ m' ((c.tc : Thread Cert.HostMixRefIdeal.nD Cert.HostMixRefIdeal.τ).loc Cert.HostMixRefIdeal.main_arg2) = m ((c.tc : Thread Cert.HostMixIdeal.nD Cert.HostMixIdeal.τ).loc Cert.HostMixIdeal.main_arg2)
      ∧ m' ((c.tc : Thread Cert.HostMixRefIdeal.nD Cert.HostMixRefIdeal.τ).loc Cert.HostMixRefIdeal.main_arg3) = m ((c.tc : Thread Cert.HostMixIdeal.nD Cert.HostMixIdeal.τ).loc Cert.HostMixIdeal.main_arg3)
      ∧ m' ((c.tc : Thread Cert.HostMixRefIdeal.nD Cert.HostMixRefIdeal.τ).loc Cert.HostMixRefIdeal.main_arg4) = m ((c.tc : Thread Cert.HostMixIdeal.nD Cert.HostMixIdeal.τ).loc Cert.HostMixIdeal.main_arg4)
      ∧ m' ((c.tc : Thread Cert.HostMixRefIdeal.nD Cert.HostMixRefIdeal.τ).loc Cert.HostMixRefIdeal.main_arg5) = m ((c.tc : Thread Cert.HostMixIdeal.nD Cert.HostMixIdeal.τ).loc Cert.HostMixIdeal.main_arg5)
      ∧ m' ((c.tc : Thread Cert.HostMixRefIdeal.nD Cert.HostMixRefIdeal.τ).loc Cert.HostMixRefIdeal.main_arg6) = m ((c.tc : Thread Cert.HostMixIdeal.nD Cert.HostMixIdeal.τ).loc Cert.HostMixIdeal.main_arg6)) →
    ∃ (v0 : (c : Dev Cert.HostMixIdeal.nD) → Buf (Elt Ideal) ((c.tc : Thread Cert.HostMixIdeal.nD Cert.HostMixIdeal.τ).loc Cert.HostMixIdeal.main_v0_0)) (v1 : (c : Dev Cert.HostMixIdeal.nD) → Buf (Elt Ideal) ((c.tc : Thread Cert.HostMixIdeal.nD Cert.HostMixIdeal.τ).loc Cert.HostMixIdeal.main_v0_1)) (v2 : (c : Dev Cert.HostMixIdeal.nD) → Buf (Elt Ideal) ((c.tc : Thread Cert.HostMixIdeal.nD Cert.HostMixIdeal.τ).loc Cert.HostMixIdeal.main_v0_2)) (v3 : (c : Dev Cert.HostMixIdeal.nD) → Buf (Elt Ideal) ((c.tc : Thread Cert.HostMixIdeal.nD Cert.HostMixIdeal.τ).loc Cert.HostMixIdeal.main_v0_3)) (v4 : (c : Dev Cert.HostMixIdeal.nD) → Buf (Elt Ideal) ((c.tc : Thread Cert.HostMixIdeal.nD Cert.HostMixIdeal.τ).loc Cert.HostMixIdeal.main_v0_4)),
      θ_run (Cert.HostMixIdeal.defs (F := Ideal)) (onTc (τ := Cert.HostMixIdeal.τ) (Cert.HostMixIdeal.main (F := Ideal))) ⟨m, fun _ => 0, g⟩ (fun r => ∀ c : Dev Cert.HostMixIdeal.nD,
          (∀ i : (⟨2, ![8192, 2048]⟩ : Shape).Idx, (Cert.On_host_mix_last.fn (F := Ideal) (m ((c.tc : Thread Cert.HostMixIdeal.nD Cert.HostMixIdeal.τ).loc Cert.HostMixIdeal.main_arg0)) (m ((c.tc : Thread Cert.HostMixIdeal.nD Cert.HostMixIdeal.τ).loc Cert.HostMixIdeal.main_arg1)) (m ((c.tc : Thread Cert.HostMixIdeal.nD Cert.HostMixIdeal.τ).loc Cert.HostMixIdeal.main_arg2)) (m ((c.tc : Thread Cert.HostMixIdeal.nD Cert.HostMixIdeal.τ).loc Cert.HostMixIdeal.main_arg3)) (m ((c.tc : Thread Cert.HostMixIdeal.nD Cert.HostMixIdeal.τ).loc Cert.HostMixIdeal.main_arg4)) (m ((c.tc : Thread Cert.HostMixIdeal.nD Cert.HostMixIdeal.τ).loc Cert.HostMixIdeal.main_arg5)) (m ((c.tc : Thread Cert.HostMixIdeal.nD Cert.HostMixIdeal.τ).loc Cert.HostMixIdeal.main_arg6))).1 i = 1#1 → r.2.mem ((c.tc : Thread Cert.HostMixIdeal.nD Cert.HostMixIdeal.τ).loc Cert.HostMixIdeal.main_v0_0) i = v0 c i)
          ∧ (∀ i : (⟨3, ![2, 2048, 896]⟩ : Shape).Idx, (Cert.On_host_mix_last.fn (F := Ideal) (m ((c.tc : Thread Cert.HostMixIdeal.nD Cert.HostMixIdeal.τ).loc Cert.HostMixIdeal.main_arg0)) (m ((c.tc : Thread Cert.HostMixIdeal.nD Cert.HostMixIdeal.τ).loc Cert.HostMixIdeal.main_arg1)) (m ((c.tc : Thread Cert.HostMixIdeal.nD Cert.HostMixIdeal.τ).loc Cert.HostMixIdeal.main_arg2)) (m ((c.tc : Thread Cert.HostMixIdeal.nD Cert.HostMixIdeal.τ).loc Cert.HostMixIdeal.main_arg3)) (m ((c.tc : Thread Cert.HostMixIdeal.nD Cert.HostMixIdeal.τ).loc Cert.HostMixIdeal.main_arg4)) (m ((c.tc : Thread Cert.HostMixIdeal.nD Cert.HostMixIdeal.τ).loc Cert.HostMixIdeal.main_arg5)) (m ((c.tc : Thread Cert.HostMixIdeal.nD Cert.HostMixIdeal.τ).loc Cert.HostMixIdeal.main_arg6))).2.1 i = 1#1 → r.2.mem ((c.tc : Thread Cert.HostMixIdeal.nD Cert.HostMixIdeal.τ).loc Cert.HostMixIdeal.main_v0_1) i = v1 c i)
          ∧ (∀ i : (⟨3, ![2, 2048, 896]⟩ : Shape).Idx, (Cert.On_host_mix_last.fn (F := Ideal) (m ((c.tc : Thread Cert.HostMixIdeal.nD Cert.HostMixIdeal.τ).loc Cert.HostMixIdeal.main_arg0)) (m ((c.tc : Thread Cert.HostMixIdeal.nD Cert.HostMixIdeal.τ).loc Cert.HostMixIdeal.main_arg1)) (m ((c.tc : Thread Cert.HostMixIdeal.nD Cert.HostMixIdeal.τ).loc Cert.HostMixIdeal.main_arg2)) (m ((c.tc : Thread Cert.HostMixIdeal.nD Cert.HostMixIdeal.τ).loc Cert.HostMixIdeal.main_arg3)) (m ((c.tc : Thread Cert.HostMixIdeal.nD Cert.HostMixIdeal.τ).loc Cert.HostMixIdeal.main_arg4)) (m ((c.tc : Thread Cert.HostMixIdeal.nD Cert.HostMixIdeal.τ).loc Cert.HostMixIdeal.main_arg5)) (m ((c.tc : Thread Cert.HostMixIdeal.nD Cert.HostMixIdeal.τ).loc Cert.HostMixIdeal.main_arg6))).2.2.1 i = 1#1 → r.2.mem ((c.tc : Thread Cert.HostMixIdeal.nD Cert.HostMixIdeal.τ).loc Cert.HostMixIdeal.main_v0_2) i = v2 c i)
          ∧ (∀ i : (⟨3, ![2, 2048, 896]⟩ : Shape).Idx, (Cert.On_host_mix_last.fn (F := Ideal) (m ((c.tc : Thread Cert.HostMixIdeal.nD Cert.HostMixIdeal.τ).loc Cert.HostMixIdeal.main_arg0)) (m ((c.tc : Thread Cert.HostMixIdeal.nD Cert.HostMixIdeal.τ).loc Cert.HostMixIdeal.main_arg1)) (m ((c.tc : Thread Cert.HostMixIdeal.nD Cert.HostMixIdeal.τ).loc Cert.HostMixIdeal.main_arg2)) (m ((c.tc : Thread Cert.HostMixIdeal.nD Cert.HostMixIdeal.τ).loc Cert.HostMixIdeal.main_arg3)) (m ((c.tc : Thread Cert.HostMixIdeal.nD Cert.HostMixIdeal.τ).loc Cert.HostMixIdeal.main_arg4)) (m ((c.tc : Thread Cert.HostMixIdeal.nD Cert.HostMixIdeal.τ).loc Cert.HostMixIdeal.main_arg5)) (m ((c.tc : Thread Cert.HostMixIdeal.nD Cert.HostMixIdeal.τ).loc Cert.HostMixIdeal.main_arg6))).2.2.2.1 i = 1#1 → r.2.mem ((c.tc : Thread Cert.HostMixIdeal.nD Cert.HostMixIdeal.τ).loc Cert.HostMixIdeal.main_v0_3) i = v3 c i)
          ∧ (∀ i : (⟨3, ![2, 2048, 896]⟩ : Shape).Idx, (Cert.On_host_mix_last.fn (F := Ideal) (m ((c.tc : Thread Cert.HostMixIdeal.nD Cert.HostMixIdeal.τ).loc Cert.HostMixIdeal.main_arg0)) (m ((c.tc : Thread Cert.HostMixIdeal.nD Cert.HostMixIdeal.τ).loc Cert.HostMixIdeal.main_arg1)) (m ((c.tc : Thread Cert.HostMixIdeal.nD Cert.HostMixIdeal.τ).loc Cert.HostMixIdeal.main_arg2)) (m ((c.tc : Thread Cert.HostMixIdeal.nD Cert.HostMixIdeal.τ).loc Cert.HostMixIdeal.main_arg3)) (m ((c.tc : Thread Cert.HostMixIdeal.nD Cert.HostMixIdeal.τ).loc Cert.HostMixIdeal.main_arg4)) (m ((c.tc : Thread Cert.HostMixIdeal.nD Cert.HostMixIdeal.τ).loc Cert.HostMixIdeal.main_arg5)) (m ((c.tc : Thread Cert.HostMixIdeal.nD Cert.HostMixIdeal.τ).loc Cert.HostMixIdeal.main_arg6))).2.2.2.2 i = 1#1 → r.2.mem ((c.tc : Thread Cert.HostMixIdeal.nD Cert.HostMixIdeal.τ).loc Cert.HostMixIdeal.main_v0_4) i = v4 c i)
          ∧ r.2.mem ((c.tc : Thread Cert.HostMixIdeal.nD Cert.HostMixIdeal.τ).loc Cert.HostMixIdeal.main_arg0) = m ((c.tc : Thread Cert.HostMixIdeal.nD Cert.HostMixIdeal.τ).loc Cert.HostMixIdeal.main_arg0)
          ∧ r.2.mem ((c.tc : Thread Cert.HostMixIdeal.nD Cert.HostMixIdeal.τ).loc Cert.HostMixIdeal.main_arg1) = m ((c.tc : Thread Cert.HostMixIdeal.nD Cert.HostMixIdeal.τ).loc Cert.HostMixIdeal.main_arg1)
          ∧ r.2.mem ((c.tc : Thread Cert.HostMixIdeal.nD Cert.HostMixIdeal.τ).loc Cert.HostMixIdeal.main_arg2) = m ((c.tc : Thread Cert.HostMixIdeal.nD Cert.HostMixIdeal.τ).loc Cert.HostMixIdeal.main_arg2)
          ∧ r.2.mem ((c.tc : Thread Cert.HostMixIdeal.nD Cert.HostMixIdeal.τ).loc Cert.HostMixIdeal.main_arg3) = m ((c.tc : Thread Cert.HostMixIdeal.nD Cert.HostMixIdeal.τ).loc Cert.HostMixIdeal.main_arg3)
          ∧ r.2.mem ((c.tc : Thread Cert.HostMixIdeal.nD Cert.HostMixIdeal.τ).loc Cert.HostMixIdeal.main_arg4) = m ((c.tc : Thread Cert.HostMixIdeal.nD Cert.HostMixIdeal.τ).loc Cert.HostMixIdeal.main_arg4)
          ∧ r.2.mem ((c.tc : Thread Cert.HostMixIdeal.nD Cert.HostMixIdeal.τ).loc Cert.HostMixIdeal.main_arg5) = m ((c.tc : Thread Cert.HostMixIdeal.nD Cert.HostMixIdeal.τ).loc Cert.HostMixIdeal.main_arg5)
          ∧ r.2.mem ((c.tc : Thread Cert.HostMixIdeal.nD Cert.HostMixIdeal.τ).loc Cert.HostMixIdeal.main_arg6) = m ((c.tc : Thread Cert.HostMixIdeal.nD Cert.HostMixIdeal.τ).loc Cert.HostMixIdeal.main_arg6))
      ∧ θ_run (Cert.HostMixRefIdeal.defs (F := Ideal)) (onTc (τ := Cert.HostMixRefIdeal.τ) (Cert.HostMixRefIdeal.main (F := Ideal))) ⟨m', fun _ => 0, g'⟩ (fun r => ∀ c : Dev Cert.HostMixRefIdeal.nD,
          (∀ i : (⟨2, ![8192, 2048]⟩ : Shape).Idx, (Cert.On_host_mix_last.fn (F := Ideal) (m ((c.tc : Thread Cert.HostMixIdeal.nD Cert.HostMixIdeal.τ).loc Cert.HostMixIdeal.main_arg0)) (m ((c.tc : Thread Cert.HostMixIdeal.nD Cert.HostMixIdeal.τ).loc Cert.HostMixIdeal.main_arg1)) (m ((c.tc : Thread Cert.HostMixIdeal.nD Cert.HostMixIdeal.τ).loc Cert.HostMixIdeal.main_arg2)) (m ((c.tc : Thread Cert.HostMixIdeal.nD Cert.HostMixIdeal.τ).loc Cert.HostMixIdeal.main_arg3)) (m ((c.tc : Thread Cert.HostMixIdeal.nD Cert.HostMixIdeal.τ).loc Cert.HostMixIdeal.main_arg4)) (m ((c.tc : Thread Cert.HostMixIdeal.nD Cert.HostMixIdeal.τ).loc Cert.HostMixIdeal.main_arg5)) (m ((c.tc : Thread Cert.HostMixIdeal.nD Cert.HostMixIdeal.τ).loc Cert.HostMixIdeal.main_arg6))).1 i = 1#1 → r.2.mem ((c.tc : Thread Cert.HostMixRefIdeal.nD Cert.HostMixRefIdeal.τ).loc Cert.HostMixRefIdeal.main_v3) i = v0 c i)
          ∧ (∀ i : (⟨3, ![2, 2048, 896]⟩ : Shape).Idx, (Cert.On_host_mix_last.fn (F := Ideal) (m ((c.tc : Thread Cert.HostMixIdeal.nD Cert.HostMixIdeal.τ).loc Cert.HostMixIdeal.main_arg0)) (m ((c.tc : Thread Cert.HostMixIdeal.nD Cert.HostMixIdeal.τ).loc Cert.HostMixIdeal.main_arg1)) (m ((c.tc : Thread Cert.HostMixIdeal.nD Cert.HostMixIdeal.τ).loc Cert.HostMixIdeal.main_arg2)) (m ((c.tc : Thread Cert.HostMixIdeal.nD Cert.HostMixIdeal.τ).loc Cert.HostMixIdeal.main_arg3)) (m ((c.tc : Thread Cert.HostMixIdeal.nD Cert.HostMixIdeal.τ).loc Cert.HostMixIdeal.main_arg4)) (m ((c.tc : Thread Cert.HostMixIdeal.nD Cert.HostMixIdeal.τ).loc Cert.HostMixIdeal.main_arg5)) (m ((c.tc : Thread Cert.HostMixIdeal.nD Cert.HostMixIdeal.τ).loc Cert.HostMixIdeal.main_arg6))).2.1 i = 1#1 → r.2.mem ((c.tc : Thread Cert.HostMixRefIdeal.nD Cert.HostMixRefIdeal.τ).loc Cert.HostMixRefIdeal.main_v34) i = v1 c i)
          ∧ (∀ i : (⟨3, ![2, 2048, 896]⟩ : Shape).Idx, (Cert.On_host_mix_last.fn (F := Ideal) (m ((c.tc : Thread Cert.HostMixIdeal.nD Cert.HostMixIdeal.τ).loc Cert.HostMixIdeal.main_arg0)) (m ((c.tc : Thread Cert.HostMixIdeal.nD Cert.HostMixIdeal.τ).loc Cert.HostMixIdeal.main_arg1)) (m ((c.tc : Thread Cert.HostMixIdeal.nD Cert.HostMixIdeal.τ).loc Cert.HostMixIdeal.main_arg2)) (m ((c.tc : Thread Cert.HostMixIdeal.nD Cert.HostMixIdeal.τ).loc Cert.HostMixIdeal.main_arg3)) (m ((c.tc : Thread Cert.HostMixIdeal.nD Cert.HostMixIdeal.τ).loc Cert.HostMixIdeal.main_arg4)) (m ((c.tc : Thread Cert.HostMixIdeal.nD Cert.HostMixIdeal.τ).loc Cert.HostMixIdeal.main_arg5)) (m ((c.tc : Thread Cert.HostMixIdeal.nD Cert.HostMixIdeal.τ).loc Cert.HostMixIdeal.main_arg6))).2.2.1 i = 1#1 → r.2.mem ((c.tc : Thread Cert.HostMixRefIdeal.nD Cert.HostMixRefIdeal.τ).loc Cert.HostMixRefIdeal.main_v35) i = v2 c i)
          ∧ (∀ i : (⟨3, ![2, 2048, 896]⟩ : Shape).Idx, (Cert.On_host_mix_last.fn (F := Ideal) (m ((c.tc : Thread Cert.HostMixIdeal.nD Cert.HostMixIdeal.τ).loc Cert.HostMixIdeal.main_arg0)) (m ((c.tc : Thread Cert.HostMixIdeal.nD Cert.HostMixIdeal.τ).loc Cert.HostMixIdeal.main_arg1)) (m ((c.tc : Thread Cert.HostMixIdeal.nD Cert.HostMixIdeal.τ).loc Cert.HostMixIdeal.main_arg2)) (m ((c.tc : Thread Cert.HostMixIdeal.nD Cert.HostMixIdeal.τ).loc Cert.HostMixIdeal.main_arg3)) (m ((c.tc : Thread Cert.HostMixIdeal.nD Cert.HostMixIdeal.τ).loc Cert.HostMixIdeal.main_arg4)) (m ((c.tc : Thread Cert.HostMixIdeal.nD Cert.HostMixIdeal.τ).loc Cert.HostMixIdeal.main_arg5)) (m ((c.tc : Thread Cert.HostMixIdeal.nD Cert.HostMixIdeal.τ).loc Cert.HostMixIdeal.main_arg6))).2.2.2.1 i = 1#1 → r.2.mem ((c.tc : Thread Cert.HostMixRefIdeal.nD Cert.HostMixRefIdeal.τ).loc Cert.HostMixRefIdeal.main_v36) i = v3 c i)
          ∧ (∀ i : (⟨3, ![2, 2048, 896]⟩ : Shape).Idx, (Cert.On_host_mix_last.fn (F := Ideal) (m ((c.tc : Thread Cert.HostMixIdeal.nD Cert.HostMixIdeal.τ).loc Cert.HostMixIdeal.main_arg0)) (m ((c.tc : Thread Cert.HostMixIdeal.nD Cert.HostMixIdeal.τ).loc Cert.HostMixIdeal.main_arg1)) (m ((c.tc : Thread Cert.HostMixIdeal.nD Cert.HostMixIdeal.τ).loc Cert.HostMixIdeal.main_arg2)) (m ((c.tc : Thread Cert.HostMixIdeal.nD Cert.HostMixIdeal.τ).loc Cert.HostMixIdeal.main_arg3)) (m ((c.tc : Thread Cert.HostMixIdeal.nD Cert.HostMixIdeal.τ).loc Cert.HostMixIdeal.main_arg4)) (m ((c.tc : Thread Cert.HostMixIdeal.nD Cert.HostMixIdeal.τ).loc Cert.HostMixIdeal.main_arg5)) (m ((c.tc : Thread Cert.HostMixIdeal.nD Cert.HostMixIdeal.τ).loc Cert.HostMixIdeal.main_arg6))).2.2.2.2 i = 1#1 → r.2.mem ((c.tc : Thread Cert.HostMixRefIdeal.nD Cert.HostMixRefIdeal.τ).loc Cert.HostMixRefIdeal.main_v37) i = v4 c i)
          ∧ r.2.mem ((c.tc : Thread Cert.HostMixRefIdeal.nD Cert.HostMixRefIdeal.τ).loc Cert.HostMixRefIdeal.main_arg0) = m' ((c.tc : Thread Cert.HostMixRefIdeal.nD Cert.HostMixRefIdeal.τ).loc Cert.HostMixRefIdeal.main_arg0)
          ∧ r.2.mem ((c.tc : Thread Cert.HostMixRefIdeal.nD Cert.HostMixRefIdeal.τ).loc Cert.HostMixRefIdeal.main_arg1) = m' ((c.tc : Thread Cert.HostMixRefIdeal.nD Cert.HostMixRefIdeal.τ).loc Cert.HostMixRefIdeal.main_arg1)
          ∧ r.2.mem ((c.tc : Thread Cert.HostMixRefIdeal.nD Cert.HostMixRefIdeal.τ).loc Cert.HostMixRefIdeal.main_arg2) = m' ((c.tc : Thread Cert.HostMixRefIdeal.nD Cert.HostMixRefIdeal.τ).loc Cert.HostMixRefIdeal.main_arg2)
          ∧ r.2.mem ((c.tc : Thread Cert.HostMixRefIdeal.nD Cert.HostMixRefIdeal.τ).loc Cert.HostMixRefIdeal.main_arg3) = m' ((c.tc : Thread Cert.HostMixRefIdeal.nD Cert.HostMixRefIdeal.τ).loc Cert.HostMixRefIdeal.main_arg3)
          ∧ r.2.mem ((c.tc : Thread Cert.HostMixRefIdeal.nD Cert.HostMixRefIdeal.τ).loc Cert.HostMixRefIdeal.main_arg4) = m' ((c.tc : Thread Cert.HostMixRefIdeal.nD Cert.HostMixRefIdeal.τ).loc Cert.HostMixRefIdeal.main_arg4)
          ∧ r.2.mem ((c.tc : Thread Cert.HostMixRefIdeal.nD Cert.HostMixRefIdeal.τ).loc Cert.HostMixRefIdeal.main_arg5) = m' ((c.tc : Thread Cert.HostMixRefIdeal.nD Cert.HostMixRefIdeal.τ).loc Cert.HostMixRefIdeal.main_arg5)
          ∧ r.2.mem ((c.tc : Thread Cert.HostMixRefIdeal.nD Cert.HostMixRefIdeal.τ).loc Cert.HostMixRefIdeal.main_arg6) = m' ((c.tc : Thread Cert.HostMixRefIdeal.nD Cert.HostMixRefIdeal.τ).loc Cert.HostMixRefIdeal.main_arg6))

def preserves_MixOutBwd_MixOutBwdIdeal : Prop :=
  True

def algebraic_MixOutBwdIdeal_MixOutBwdRefIdeal [hMixOutBwdIdeal : Cert.MixOutBwdIdeal.Facts] [hMixOutBwdRefIdeal : Cert.MixOutBwdRefIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg)
    (m' : (ℓ : Loc Cert.MixOutBwdRefIdeal.nD Cert.MixOutBwdRefIdeal.τ Cert.MixOutBwdRefIdeal.sig) → Buf (Elt Ideal) ℓ) (g' : Dev Cert.MixOutBwdRefIdeal.nD → PrngReg), Pre_MixOutBwdIdeal m →
    (∀ c : Dev Cert.MixOutBwdIdeal.nD,
      m' ((c.tc : Thread Cert.MixOutBwdRefIdeal.nD Cert.MixOutBwdRefIdeal.τ).loc Cert.MixOutBwdRefIdeal.main_arg0) = m ((c.tc : Thread Cert.MixOutBwdIdeal.nD Cert.MixOutBwdIdeal.τ).loc Cert.MixOutBwdIdeal.main_arg0)
      ∧ m' ((c.tc : Thread Cert.MixOutBwdRefIdeal.nD Cert.MixOutBwdRefIdeal.τ).loc Cert.MixOutBwdRefIdeal.main_arg1) = m ((c.tc : Thread Cert.MixOutBwdIdeal.nD Cert.MixOutBwdIdeal.τ).loc Cert.MixOutBwdIdeal.main_arg1)
      ∧ m' ((c.tc : Thread Cert.MixOutBwdRefIdeal.nD Cert.MixOutBwdRefIdeal.τ).loc Cert.MixOutBwdRefIdeal.main_arg2) = m ((c.tc : Thread Cert.MixOutBwdIdeal.nD Cert.MixOutBwdIdeal.τ).loc Cert.MixOutBwdIdeal.main_arg2)) →
    ∃ (v0 : (c : Dev Cert.MixOutBwdIdeal.nD) → Buf (Elt Ideal) ((c.tc : Thread Cert.MixOutBwdIdeal.nD Cert.MixOutBwdIdeal.τ).loc Cert.MixOutBwdIdeal.main_v0)),
      θ_run (Cert.MixOutBwdIdeal.defs (F := Ideal)) (onTc (τ := Cert.MixOutBwdIdeal.τ) (Cert.MixOutBwdIdeal.main (F := Ideal))) ⟨m, fun _ => 0, g⟩ (fun r => ∀ c : Dev Cert.MixOutBwdIdeal.nD,
          r.2.mem ((c.tc : Thread Cert.MixOutBwdIdeal.nD Cert.MixOutBwdIdeal.τ).loc Cert.MixOutBwdIdeal.main_v0) = v0 c
          ∧ r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
          ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
          ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2))
      ∧ θ_run (Cert.MixOutBwdRefIdeal.defs (F := Ideal)) (onTc (τ := Cert.MixOutBwdRefIdeal.τ) (Cert.MixOutBwdRefIdeal.main (F := Ideal))) ⟨m', fun _ => 0, g'⟩ (fun r => ∀ c : Dev Cert.MixOutBwdRefIdeal.nD,
          r.2.mem ((c.tc : Thread Cert.MixOutBwdRefIdeal.nD Cert.MixOutBwdRefIdeal.τ).loc Cert.MixOutBwdRefIdeal.main_v3) = v0 c
          ∧ r.2.mem ((c.tc : Thread Cert.MixOutBwdRefIdeal.nD Cert.MixOutBwdRefIdeal.τ).loc Cert.MixOutBwdRefIdeal.main_arg0) = m' ((c.tc : Thread Cert.MixOutBwdRefIdeal.nD Cert.MixOutBwdRefIdeal.τ).loc Cert.MixOutBwdRefIdeal.main_arg0)
          ∧ r.2.mem ((c.tc : Thread Cert.MixOutBwdRefIdeal.nD Cert.MixOutBwdRefIdeal.τ).loc Cert.MixOutBwdRefIdeal.main_arg1) = m' ((c.tc : Thread Cert.MixOutBwdRefIdeal.nD Cert.MixOutBwdRefIdeal.τ).loc Cert.MixOutBwdRefIdeal.main_arg1)
          ∧ r.2.mem ((c.tc : Thread Cert.MixOutBwdRefIdeal.nD Cert.MixOutBwdRefIdeal.τ).loc Cert.MixOutBwdRefIdeal.main_arg2) = m' ((c.tc : Thread Cert.MixOutBwdRefIdeal.nD Cert.MixOutBwdRefIdeal.τ).loc Cert.MixOutBwdRefIdeal.main_arg2))

def preserves_DwFf2_DwFf2Ideal : Prop :=
  True

def algebraic_DwFf2Ideal_DwFf2RefIdeal [hDwFf2Ideal : Cert.DwFf2Ideal.Facts] [hDwFf2RefIdeal : Cert.DwFf2RefIdeal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg)
    (m' : (ℓ : Loc Cert.DwFf2RefIdeal.nD Cert.DwFf2RefIdeal.τ Cert.DwFf2RefIdeal.sig) → Buf (Elt Ideal) ℓ) (g' : Dev Cert.DwFf2RefIdeal.nD → PrngReg), Pre_DwFf2Ideal m →
    (∀ c : Dev Cert.DwFf2Ideal.nD,
      m' ((c.tc : Thread Cert.DwFf2RefIdeal.nD Cert.DwFf2RefIdeal.τ).loc Cert.DwFf2RefIdeal.main_arg0) = m ((c.tc : Thread Cert.DwFf2Ideal.nD Cert.DwFf2Ideal.τ).loc Cert.DwFf2Ideal.main_arg0)
      ∧ m' ((c.tc : Thread Cert.DwFf2RefIdeal.nD Cert.DwFf2RefIdeal.τ).loc Cert.DwFf2RefIdeal.main_arg1) = m ((c.tc : Thread Cert.DwFf2Ideal.nD Cert.DwFf2Ideal.τ).loc Cert.DwFf2Ideal.main_arg1)
      ∧ m' ((c.tc : Thread Cert.DwFf2RefIdeal.nD Cert.DwFf2RefIdeal.τ).loc Cert.DwFf2RefIdeal.main_arg2) = m ((c.tc : Thread Cert.DwFf2Ideal.nD Cert.DwFf2Ideal.τ).loc Cert.DwFf2Ideal.main_arg2)) →
    ∃ (v0 : (c : Dev Cert.DwFf2Ideal.nD) → Buf (Elt Ideal) ((c.tc : Thread Cert.DwFf2Ideal.nD Cert.DwFf2Ideal.τ).loc Cert.DwFf2Ideal.main_v3)),
      θ_run (Cert.DwFf2Ideal.defs (F := Ideal)) (onTc (τ := Cert.DwFf2Ideal.τ) (Cert.DwFf2Ideal.main (F := Ideal))) ⟨m, fun _ => 0, g⟩ (fun r => ∀ c : Dev Cert.DwFf2Ideal.nD,
          r.2.mem ((c.tc : Thread Cert.DwFf2Ideal.nD Cert.DwFf2Ideal.τ).loc Cert.DwFf2Ideal.main_v3) = v0 c
          ∧ r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
          ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1)
          ∧ r.2.mem ((c.tc : Thread Cert.DwFf2Ideal.nD Cert.DwFf2Ideal.τ).loc Cert.DwFf2Ideal.main_arg2) = m ((c.tc : Thread Cert.DwFf2Ideal.nD Cert.DwFf2Ideal.τ).loc Cert.DwFf2Ideal.main_arg2))
      ∧ θ_run (Cert.DwFf2RefIdeal.defs (F := Ideal)) (onTc (τ := Cert.DwFf2RefIdeal.τ) (Cert.DwFf2RefIdeal.main (F := Ideal))) ⟨m', fun _ => 0, g'⟩ (fun r => ∀ c : Dev Cert.DwFf2RefIdeal.nD,
          r.2.mem ((c.tc : Thread Cert.DwFf2RefIdeal.nD Cert.DwFf2RefIdeal.τ).loc Cert.DwFf2RefIdeal.main_v6) = v0 c
          ∧ r.2.mem ((c.tc : Thread Cert.DwFf2RefIdeal.nD Cert.DwFf2RefIdeal.τ).loc Cert.DwFf2RefIdeal.main_arg0) = m' ((c.tc : Thread Cert.DwFf2RefIdeal.nD Cert.DwFf2RefIdeal.τ).loc Cert.DwFf2RefIdeal.main_arg0)
          ∧ r.2.mem ((c.tc : Thread Cert.DwFf2RefIdeal.nD Cert.DwFf2RefIdeal.τ).loc Cert.DwFf2RefIdeal.main_arg1) = m' ((c.tc : Thread Cert.DwFf2RefIdeal.nD Cert.DwFf2RefIdeal.τ).loc Cert.DwFf2RefIdeal.main_arg1)
          ∧ r.2.mem ((c.tc : Thread Cert.DwFf2RefIdeal.nD Cert.DwFf2RefIdeal.τ).loc Cert.DwFf2RefIdeal.main_arg2) = m' ((c.tc : Thread Cert.DwFf2RefIdeal.nD Cert.DwFf2RefIdeal.τ).loc Cert.DwFf2RefIdeal.main_arg2))

def preserves_DwFf1_DwFf1Ideal : Prop :=
  True

def algebraic_DwFf1Ideal_DwFf1RefIdeal [hDwFf1Ideal : Cert.DwFf1Ideal.Facts] [hDwFf1RefIdeal : Cert.DwFf1RefIdeal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg)
    (m' : (ℓ : Loc Cert.DwFf1RefIdeal.nD Cert.DwFf1RefIdeal.τ Cert.DwFf1RefIdeal.sig) → Buf (Elt Ideal) ℓ) (g' : Dev Cert.DwFf1RefIdeal.nD → PrngReg), Pre_DwFf1Ideal m →
    (∀ c : Dev Cert.DwFf1Ideal.nD,
      m' ((c.tc : Thread Cert.DwFf1RefIdeal.nD Cert.DwFf1RefIdeal.τ).loc Cert.DwFf1RefIdeal.main_arg0) = m ((c.tc : Thread Cert.DwFf1Ideal.nD Cert.DwFf1Ideal.τ).loc Cert.DwFf1Ideal.main_arg0)
      ∧ m' ((c.tc : Thread Cert.DwFf1RefIdeal.nD Cert.DwFf1RefIdeal.τ).loc Cert.DwFf1RefIdeal.main_arg1) = m ((c.tc : Thread Cert.DwFf1Ideal.nD Cert.DwFf1Ideal.τ).loc Cert.DwFf1Ideal.main_arg1)
      ∧ m' ((c.tc : Thread Cert.DwFf1RefIdeal.nD Cert.DwFf1RefIdeal.τ).loc Cert.DwFf1RefIdeal.main_arg2) = m ((c.tc : Thread Cert.DwFf1Ideal.nD Cert.DwFf1Ideal.τ).loc Cert.DwFf1Ideal.main_arg2)) →
    ∃ (v0 : (c : Dev Cert.DwFf1Ideal.nD) → Buf (Elt Ideal) ((c.tc : Thread Cert.DwFf1Ideal.nD Cert.DwFf1Ideal.τ).loc Cert.DwFf1Ideal.main_v0)),
      θ_run (Cert.DwFf1Ideal.defs (F := Ideal)) (onTc (τ := Cert.DwFf1Ideal.τ) (Cert.DwFf1Ideal.main (F := Ideal))) ⟨m, fun _ => 0, g⟩ (fun r => ∀ c : Dev Cert.DwFf1Ideal.nD,
          r.2.mem ((c.tc : Thread Cert.DwFf1Ideal.nD Cert.DwFf1Ideal.τ).loc Cert.DwFf1Ideal.main_v0) = v0 c
          ∧ r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
          ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1)
          ∧ r.2.mem ((c.tc : Thread Cert.DwFf1Ideal.nD Cert.DwFf1Ideal.τ).loc Cert.DwFf1Ideal.main_arg2) = m ((c.tc : Thread Cert.DwFf1Ideal.nD Cert.DwFf1Ideal.τ).loc Cert.DwFf1Ideal.main_arg2))
      ∧ θ_run (Cert.DwFf1RefIdeal.defs (F := Ideal)) (onTc (τ := Cert.DwFf1RefIdeal.τ) (Cert.DwFf1RefIdeal.main (F := Ideal))) ⟨m', fun _ => 0, g'⟩ (fun r => ∀ c : Dev Cert.DwFf1RefIdeal.nD,
          r.2.mem ((c.tc : Thread Cert.DwFf1RefIdeal.nD Cert.DwFf1RefIdeal.τ).loc Cert.DwFf1RefIdeal.main_v6) = v0 c
          ∧ r.2.mem ((c.tc : Thread Cert.DwFf1RefIdeal.nD Cert.DwFf1RefIdeal.τ).loc Cert.DwFf1RefIdeal.main_arg0) = m' ((c.tc : Thread Cert.DwFf1RefIdeal.nD Cert.DwFf1RefIdeal.τ).loc Cert.DwFf1RefIdeal.main_arg0)
          ∧ r.2.mem ((c.tc : Thread Cert.DwFf1RefIdeal.nD Cert.DwFf1RefIdeal.τ).loc Cert.DwFf1RefIdeal.main_arg1) = m' ((c.tc : Thread Cert.DwFf1RefIdeal.nD Cert.DwFf1RefIdeal.τ).loc Cert.DwFf1RefIdeal.main_arg1)
          ∧ r.2.mem ((c.tc : Thread Cert.DwFf1RefIdeal.nD Cert.DwFf1RefIdeal.τ).loc Cert.DwFf1RefIdeal.main_arg2) = m' ((c.tc : Thread Cert.DwFf1RefIdeal.nD Cert.DwFf1RefIdeal.τ).loc Cert.DwFf1RefIdeal.main_arg2))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v5) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v6) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2))

def preserves_Ff1Bwd_Ff1BwdIdeal : Prop :=
  True

def algebraic_Ff1BwdIdeal_Ff1BwdRefIdeal [hFf1BwdIdeal : Cert.Ff1BwdIdeal.Facts] [hFf1BwdRefIdeal : Cert.Ff1BwdRefIdeal.Facts] : Prop :=
  ∀ (m : (ℓ : Loc Cert.Ff1BwdIdeal.nD Cert.Ff1BwdIdeal.τ Cert.Ff1BwdIdeal.sig) → Buf (Elt Ideal) ℓ) (g : Dev Cert.Ff1BwdIdeal.nD → PrngReg)
    (m' : (ℓ : Loc Cert.Ff1BwdRefIdeal.nD Cert.Ff1BwdRefIdeal.τ Cert.Ff1BwdRefIdeal.sig) → Buf (Elt Ideal) ℓ) (g' : Dev Cert.Ff1BwdRefIdeal.nD → PrngReg), Pre_Ff1BwdIdeal m →
    (∀ c : Dev Cert.Ff1BwdIdeal.nD,
      m' ((c.tc : Thread Cert.Ff1BwdRefIdeal.nD Cert.Ff1BwdRefIdeal.τ).loc Cert.Ff1BwdRefIdeal.main_arg0) = m ((c.tc : Thread Cert.Ff1BwdIdeal.nD Cert.Ff1BwdIdeal.τ).loc Cert.Ff1BwdIdeal.main_arg0)
      ∧ m' ((c.tc : Thread Cert.Ff1BwdRefIdeal.nD Cert.Ff1BwdRefIdeal.τ).loc Cert.Ff1BwdRefIdeal.main_arg1) = m ((c.tc : Thread Cert.Ff1BwdIdeal.nD Cert.Ff1BwdIdeal.τ).loc Cert.Ff1BwdIdeal.main_arg1)
      ∧ m' ((c.tc : Thread Cert.Ff1BwdRefIdeal.nD Cert.Ff1BwdRefIdeal.τ).loc Cert.Ff1BwdRefIdeal.main_arg2) = m ((c.tc : Thread Cert.Ff1BwdIdeal.nD Cert.Ff1BwdIdeal.τ).loc Cert.Ff1BwdIdeal.main_arg2)
      ∧ m' ((c.tc : Thread Cert.Ff1BwdRefIdeal.nD Cert.Ff1BwdRefIdeal.τ).loc Cert.Ff1BwdRefIdeal.main_arg3) = m ((c.tc : Thread Cert.Ff1BwdIdeal.nD Cert.Ff1BwdIdeal.τ).loc Cert.Ff1BwdIdeal.main_arg3)) →
    ∃ (v0 : (c : Dev Cert.Ff1BwdIdeal.nD) → Buf (Elt Ideal) ((c.tc : Thread Cert.Ff1BwdIdeal.nD Cert.Ff1BwdIdeal.τ).loc Cert.Ff1BwdIdeal.main_v2)),
      θ_run (Cert.Ff1BwdIdeal.defs (F := Ideal)) (onTc (τ := Cert.Ff1BwdIdeal.τ) (Cert.Ff1BwdIdeal.main (F := Ideal))) ⟨m, fun _ => 0, g⟩ (fun r => ∀ c : Dev Cert.Ff1BwdIdeal.nD,
          r.2.mem ((c.tc : Thread Cert.Ff1BwdIdeal.nD Cert.Ff1BwdIdeal.τ).loc Cert.Ff1BwdIdeal.main_v2) = v0 c
          ∧ r.2.mem ((c.tc : Thread Cert.Ff1BwdIdeal.nD Cert.Ff1BwdIdeal.τ).loc Cert.Ff1BwdIdeal.main_arg0) = m ((c.tc : Thread Cert.Ff1BwdIdeal.nD Cert.Ff1BwdIdeal.τ).loc Cert.Ff1BwdIdeal.main_arg0)
          ∧ r.2.mem ((c.tc : Thread Cert.Ff1BwdIdeal.nD Cert.Ff1BwdIdeal.τ).loc Cert.Ff1BwdIdeal.main_arg1) = m ((c.tc : Thread Cert.Ff1BwdIdeal.nD Cert.Ff1BwdIdeal.τ).loc Cert.Ff1BwdIdeal.main_arg1)
          ∧ r.2.mem ((c.tc : Thread Cert.Ff1BwdIdeal.nD Cert.Ff1BwdIdeal.τ).loc Cert.Ff1BwdIdeal.main_arg2) = m ((c.tc : Thread Cert.Ff1BwdIdeal.nD Cert.Ff1BwdIdeal.τ).loc Cert.Ff1BwdIdeal.main_arg2)
          ∧ r.2.mem ((c.tc : Thread Cert.Ff1BwdIdeal.nD Cert.Ff1BwdIdeal.τ).loc Cert.Ff1BwdIdeal.main_arg3) = m ((c.tc : Thread Cert.Ff1BwdIdeal.nD Cert.Ff1BwdIdeal.τ).loc Cert.Ff1BwdIdeal.main_arg3))
      ∧ θ_run (Cert.Ff1BwdRefIdeal.defs (F := Ideal)) (onTc (τ := Cert.Ff1BwdRefIdeal.τ) (Cert.Ff1BwdRefIdeal.main (F := Ideal))) ⟨m', fun _ => 0, g'⟩ (fun r => ∀ c : Dev Cert.Ff1BwdRefIdeal.nD,
          r.2.mem ((c.tc : Thread Cert.Ff1BwdRefIdeal.nD Cert.Ff1BwdRefIdeal.τ).loc Cert.Ff1BwdRefIdeal.main_v3) = v0 c
          ∧ r.2.mem ((c.tc : Thread Cert.Ff1BwdRefIdeal.nD Cert.Ff1BwdRefIdeal.τ).loc Cert.Ff1BwdRefIdeal.main_arg0) = m' ((c.tc : Thread Cert.Ff1BwdRefIdeal.nD Cert.Ff1BwdRefIdeal.τ).loc Cert.Ff1BwdRefIdeal.main_arg0)
          ∧ r.2.mem ((c.tc : Thread Cert.Ff1BwdRefIdeal.nD Cert.Ff1BwdRefIdeal.τ).loc Cert.Ff1BwdRefIdeal.main_arg1) = m' ((c.tc : Thread Cert.Ff1BwdRefIdeal.nD Cert.Ff1BwdRefIdeal.τ).loc Cert.Ff1BwdRefIdeal.main_arg1)
          ∧ r.2.mem ((c.tc : Thread Cert.Ff1BwdRefIdeal.nD Cert.Ff1BwdRefIdeal.τ).loc Cert.Ff1BwdRefIdeal.main_arg2) = m' ((c.tc : Thread Cert.Ff1BwdRefIdeal.nD Cert.Ff1BwdRefIdeal.τ).loc Cert.Ff1BwdRefIdeal.main_arg2)
          ∧ r.2.mem ((c.tc : Thread Cert.Ff1BwdRefIdeal.nD Cert.Ff1BwdRefIdeal.τ).loc Cert.Ff1BwdRefIdeal.main_arg3) = m' ((c.tc : Thread Cert.Ff1BwdRefIdeal.nD Cert.Ff1BwdRefIdeal.τ).loc Cert.Ff1BwdRefIdeal.main_arg3))

def preserves_MixOut0_MixOut0Ideal : Prop :=
  True

def algebraic_MixOut0Ideal_MixOut0RefIdeal [hMixOut0Ideal : Cert.MixOut0Ideal.Facts] [hMixOut0RefIdeal : Cert.MixOut0RefIdeal.Facts] : Prop :=
  ∀ (m : (ℓ : Loc Cert.MixOut0Ideal.nD Cert.MixOut0Ideal.τ Cert.MixOut0Ideal.sig) → Buf (Elt Ideal) ℓ) (g : Dev Cert.MixOut0Ideal.nD → PrngReg)
    (m' : (ℓ : Loc Cert.MixOut0RefIdeal.nD Cert.MixOut0RefIdeal.τ Cert.MixOut0RefIdeal.sig) → Buf (Elt Ideal) ℓ) (g' : Dev Cert.MixOut0RefIdeal.nD → PrngReg), Pre_MixOut0Ideal m →
    (∀ c : Dev Cert.MixOut0Ideal.nD,
      m' ((c.tc : Thread Cert.MixOut0RefIdeal.nD Cert.MixOut0RefIdeal.τ).loc Cert.MixOut0RefIdeal.main_arg0) = m ((c.tc : Thread Cert.MixOut0Ideal.nD Cert.MixOut0Ideal.τ).loc Cert.MixOut0Ideal.main_arg0)
      ∧ m' ((c.tc : Thread Cert.MixOut0RefIdeal.nD Cert.MixOut0RefIdeal.τ).loc Cert.MixOut0RefIdeal.main_arg1) = m ((c.tc : Thread Cert.MixOut0Ideal.nD Cert.MixOut0Ideal.τ).loc Cert.MixOut0Ideal.main_arg1)
      ∧ m' ((c.tc : Thread Cert.MixOut0RefIdeal.nD Cert.MixOut0RefIdeal.τ).loc Cert.MixOut0RefIdeal.main_arg2) = m ((c.tc : Thread Cert.MixOut0Ideal.nD Cert.MixOut0Ideal.τ).loc Cert.MixOut0Ideal.main_arg2)
      ∧ m' ((c.tc : Thread Cert.MixOut0RefIdeal.nD Cert.MixOut0RefIdeal.τ).loc Cert.MixOut0RefIdeal.main_arg3) = m ((c.tc : Thread Cert.MixOut0Ideal.nD Cert.MixOut0Ideal.τ).loc Cert.MixOut0Ideal.main_arg3)
      ∧ m' ((c.tc : Thread Cert.MixOut0RefIdeal.nD Cert.MixOut0RefIdeal.τ).loc Cert.MixOut0RefIdeal.main_arg4) = m ((c.tc : Thread Cert.MixOut0Ideal.nD Cert.MixOut0Ideal.τ).loc Cert.MixOut0Ideal.main_arg4)
      ∧ m' ((c.tc : Thread Cert.MixOut0RefIdeal.nD Cert.MixOut0RefIdeal.τ).loc Cert.MixOut0RefIdeal.main_arg5) = m ((c.tc : Thread Cert.MixOut0Ideal.nD Cert.MixOut0Ideal.τ).loc Cert.MixOut0Ideal.main_arg5)
      ∧ m' ((c.tc : Thread Cert.MixOut0RefIdeal.nD Cert.MixOut0RefIdeal.τ).loc Cert.MixOut0RefIdeal.main_arg6) = m ((c.tc : Thread Cert.MixOut0Ideal.nD Cert.MixOut0Ideal.τ).loc Cert.MixOut0Ideal.main_arg6)) →
    ∃ (v0 : (c : Dev Cert.MixOut0Ideal.nD) → Buf (Elt Ideal) ((c.tc : Thread Cert.MixOut0Ideal.nD Cert.MixOut0Ideal.τ).loc Cert.MixOut0Ideal.main_v4_0)) (v1 : (c : Dev Cert.MixOut0Ideal.nD) → Buf (Elt Ideal) ((c.tc : Thread Cert.MixOut0Ideal.nD Cert.MixOut0Ideal.τ).loc Cert.MixOut0Ideal.main_v4_1)),
      θ_run (Cert.MixOut0Ideal.defs (F := Ideal)) (onTc (τ := Cert.MixOut0Ideal.τ) (Cert.MixOut0Ideal.main (F := Ideal))) ⟨m, fun _ => 0, g⟩ (fun r => ∀ c : Dev Cert.MixOut0Ideal.nD,
          r.2.mem ((c.tc : Thread Cert.MixOut0Ideal.nD Cert.MixOut0Ideal.τ).loc Cert.MixOut0Ideal.main_v4_0) = v0 c
          ∧ r.2.mem ((c.tc : Thread Cert.MixOut0Ideal.nD Cert.MixOut0Ideal.τ).loc Cert.MixOut0Ideal.main_v4_1) = v1 c
          ∧ r.2.mem ((c.tc : Thread Cert.MixOut0Ideal.nD Cert.MixOut0Ideal.τ).loc Cert.MixOut0Ideal.main_arg0) = m ((c.tc : Thread Cert.MixOut0Ideal.nD Cert.MixOut0Ideal.τ).loc Cert.MixOut0Ideal.main_arg0)
          ∧ r.2.mem ((c.tc : Thread Cert.MixOut0Ideal.nD Cert.MixOut0Ideal.τ).loc Cert.MixOut0Ideal.main_arg1) = m ((c.tc : Thread Cert.MixOut0Ideal.nD Cert.MixOut0Ideal.τ).loc Cert.MixOut0Ideal.main_arg1)
          ∧ r.2.mem ((c.tc : Thread Cert.MixOut0Ideal.nD Cert.MixOut0Ideal.τ).loc Cert.MixOut0Ideal.main_arg2) = m ((c.tc : Thread Cert.MixOut0Ideal.nD Cert.MixOut0Ideal.τ).loc Cert.MixOut0Ideal.main_arg2)
          ∧ r.2.mem ((c.tc : Thread Cert.MixOut0Ideal.nD Cert.MixOut0Ideal.τ).loc Cert.MixOut0Ideal.main_arg3) = m ((c.tc : Thread Cert.MixOut0Ideal.nD Cert.MixOut0Ideal.τ).loc Cert.MixOut0Ideal.main_arg3)
          ∧ r.2.mem ((c.tc : Thread Cert.MixOut0Ideal.nD Cert.MixOut0Ideal.τ).loc Cert.MixOut0Ideal.main_arg4) = m ((c.tc : Thread Cert.MixOut0Ideal.nD Cert.MixOut0Ideal.τ).loc Cert.MixOut0Ideal.main_arg4)
          ∧ r.2.mem ((c.tc : Thread Cert.MixOut0Ideal.nD Cert.MixOut0Ideal.τ).loc Cert.MixOut0Ideal.main_arg5) = m ((c.tc : Thread Cert.MixOut0Ideal.nD Cert.MixOut0Ideal.τ).loc Cert.MixOut0Ideal.main_arg5)
          ∧ r.2.mem ((c.tc : Thread Cert.MixOut0Ideal.nD Cert.MixOut0Ideal.τ).loc Cert.MixOut0Ideal.main_arg6) = m ((c.tc : Thread Cert.MixOut0Ideal.nD Cert.MixOut0Ideal.τ).loc Cert.MixOut0Ideal.main_arg6))
      ∧ θ_run (Cert.MixOut0RefIdeal.defs (F := Ideal)) (onTc (τ := Cert.MixOut0RefIdeal.τ) (Cert.MixOut0RefIdeal.main (F := Ideal))) ⟨m', fun _ => 0, g'⟩ (fun r => ∀ c : Dev Cert.MixOut0RefIdeal.nD,
          r.2.mem ((c.tc : Thread Cert.MixOut0RefIdeal.nD Cert.MixOut0RefIdeal.τ).loc Cert.MixOut0RefIdeal.main_v7) = v0 c
          ∧ r.2.mem ((c.tc : Thread Cert.MixOut0RefIdeal.nD Cert.MixOut0RefIdeal.τ).loc Cert.MixOut0RefIdeal.main_v30) = v1 c
          ∧ r.2.mem ((c.tc : Thread Cert.MixOut0RefIdeal.nD Cert.MixOut0RefIdeal.τ).loc Cert.MixOut0RefIdeal.main_arg0) = m' ((c.tc : Thread Cert.MixOut0RefIdeal.nD Cert.MixOut0RefIdeal.τ).loc Cert.MixOut0RefIdeal.main_arg0)
          ∧ r.2.mem ((c.tc : Thread Cert.MixOut0RefIdeal.nD Cert.MixOut0RefIdeal.τ).loc Cert.MixOut0RefIdeal.main_arg1) = m' ((c.tc : Thread Cert.MixOut0RefIdeal.nD Cert.MixOut0RefIdeal.τ).loc Cert.MixOut0RefIdeal.main_arg1)
          ∧ r.2.mem ((c.tc : Thread Cert.MixOut0RefIdeal.nD Cert.MixOut0RefIdeal.τ).loc Cert.MixOut0RefIdeal.main_arg2) = m' ((c.tc : Thread Cert.MixOut0RefIdeal.nD Cert.MixOut0RefIdeal.τ).loc Cert.MixOut0RefIdeal.main_arg2)
          ∧ r.2.mem ((c.tc : Thread Cert.MixOut0RefIdeal.nD Cert.MixOut0RefIdeal.τ).loc Cert.MixOut0RefIdeal.main_arg3) = m' ((c.tc : Thread Cert.MixOut0RefIdeal.nD Cert.MixOut0RefIdeal.τ).loc Cert.MixOut0RefIdeal.main_arg3)
          ∧ r.2.mem ((c.tc : Thread Cert.MixOut0RefIdeal.nD Cert.MixOut0RefIdeal.τ).loc Cert.MixOut0RefIdeal.main_arg4) = m' ((c.tc : Thread Cert.MixOut0RefIdeal.nD Cert.MixOut0RefIdeal.τ).loc Cert.MixOut0RefIdeal.main_arg4)
          ∧ r.2.mem ((c.tc : Thread Cert.MixOut0RefIdeal.nD Cert.MixOut0RefIdeal.τ).loc Cert.MixOut0RefIdeal.main_arg5) = m' ((c.tc : Thread Cert.MixOut0RefIdeal.nD Cert.MixOut0RefIdeal.τ).loc Cert.MixOut0RefIdeal.main_arg5)
          ∧ r.2.mem ((c.tc : Thread Cert.MixOut0RefIdeal.nD Cert.MixOut0RefIdeal.τ).loc Cert.MixOut0RefIdeal.main_arg6) = m' ((c.tc : Thread Cert.MixOut0RefIdeal.nD Cert.MixOut0RefIdeal.τ).loc Cert.MixOut0RefIdeal.main_arg6))

def preserves_MixOut1_MixOut1Ideal : Prop :=
  True

def algebraic_MixOut1Ideal_MixOut1RefIdeal [hMixOut1Ideal : Cert.MixOut1Ideal.Facts] [hMixOut1RefIdeal : Cert.MixOut1RefIdeal.Facts] : Prop :=
  ∀ (m : (ℓ : Loc Cert.MixOut1Ideal.nD Cert.MixOut1Ideal.τ Cert.MixOut1Ideal.sig) → Buf (Elt Ideal) ℓ) (g : Dev Cert.MixOut1Ideal.nD → PrngReg)
    (m' : (ℓ : Loc Cert.MixOut1RefIdeal.nD Cert.MixOut1RefIdeal.τ Cert.MixOut1RefIdeal.sig) → Buf (Elt Ideal) ℓ) (g' : Dev Cert.MixOut1RefIdeal.nD → PrngReg), Pre_MixOut1Ideal m →
    (∀ c : Dev Cert.MixOut1Ideal.nD,
      m' ((c.tc : Thread Cert.MixOut1RefIdeal.nD Cert.MixOut1RefIdeal.τ).loc Cert.MixOut1RefIdeal.main_arg0) = m ((c.tc : Thread Cert.MixOut1Ideal.nD Cert.MixOut1Ideal.τ).loc Cert.MixOut1Ideal.main_arg0)
      ∧ m' ((c.tc : Thread Cert.MixOut1RefIdeal.nD Cert.MixOut1RefIdeal.τ).loc Cert.MixOut1RefIdeal.main_arg1) = m ((c.tc : Thread Cert.MixOut1Ideal.nD Cert.MixOut1Ideal.τ).loc Cert.MixOut1Ideal.main_arg1)
      ∧ m' ((c.tc : Thread Cert.MixOut1RefIdeal.nD Cert.MixOut1RefIdeal.τ).loc Cert.MixOut1RefIdeal.main_arg2) = m ((c.tc : Thread Cert.MixOut1Ideal.nD Cert.MixOut1Ideal.τ).loc Cert.MixOut1Ideal.main_arg2)
      ∧ m' ((c.tc : Thread Cert.MixOut1RefIdeal.nD Cert.MixOut1RefIdeal.τ).loc Cert.MixOut1RefIdeal.main_arg3) = m ((c.tc : Thread Cert.MixOut1Ideal.nD Cert.MixOut1Ideal.τ).loc Cert.MixOut1Ideal.main_arg3)
      ∧ m' ((c.tc : Thread Cert.MixOut1RefIdeal.nD Cert.MixOut1RefIdeal.τ).loc Cert.MixOut1RefIdeal.main_arg4) = m ((c.tc : Thread Cert.MixOut1Ideal.nD Cert.MixOut1Ideal.τ).loc Cert.MixOut1Ideal.main_arg4)
      ∧ m' ((c.tc : Thread Cert.MixOut1RefIdeal.nD Cert.MixOut1RefIdeal.τ).loc Cert.MixOut1RefIdeal.main_arg5) = m ((c.tc : Thread Cert.MixOut1Ideal.nD Cert.MixOut1Ideal.τ).loc Cert.MixOut1Ideal.main_arg5)
      ∧ m' ((c.tc : Thread Cert.MixOut1RefIdeal.nD Cert.MixOut1RefIdeal.τ).loc Cert.MixOut1RefIdeal.main_arg6) = m ((c.tc : Thread Cert.MixOut1Ideal.nD Cert.MixOut1Ideal.τ).loc Cert.MixOut1Ideal.main_arg6)
      ∧ m' ((c.tc : Thread Cert.MixOut1RefIdeal.nD Cert.MixOut1RefIdeal.τ).loc Cert.MixOut1RefIdeal.main_arg7) = m ((c.tc : Thread Cert.MixOut1Ideal.nD Cert.MixOut1Ideal.τ).loc Cert.MixOut1Ideal.main_arg7)) →
    ∃ (v0 : (c : Dev Cert.MixOut1Ideal.nD) → Buf (Elt Ideal) ((c.tc : Thread Cert.MixOut1Ideal.nD Cert.MixOut1Ideal.τ).loc Cert.MixOut1Ideal.main_v6_0)) (v1 : (c : Dev Cert.MixOut1Ideal.nD) → Buf (Elt Ideal) ((c.tc : Thread Cert.MixOut1Ideal.nD Cert.MixOut1Ideal.τ).loc Cert.MixOut1Ideal.main_v6_1)),
      θ_run (Cert.MixOut1Ideal.defs (F := Ideal)) (onTc (τ := Cert.MixOut1Ideal.τ) (Cert.MixOut1Ideal.main (F := Ideal))) ⟨m, fun _ => 0, g⟩ (fun r => ∀ c : Dev Cert.MixOut1Ideal.nD,
          r.2.mem ((c.tc : Thread Cert.MixOut1Ideal.nD Cert.MixOut1Ideal.τ).loc Cert.MixOut1Ideal.main_v6_0) = v0 c
          ∧ r.2.mem ((c.tc : Thread Cert.MixOut1Ideal.nD Cert.MixOut1Ideal.τ).loc Cert.MixOut1Ideal.main_v6_1) = v1 c
          ∧ r.2.mem ((c.tc : Thread Cert.MixOut1Ideal.nD Cert.MixOut1Ideal.τ).loc Cert.MixOut1Ideal.main_arg0) = m ((c.tc : Thread Cert.MixOut1Ideal.nD Cert.MixOut1Ideal.τ).loc Cert.MixOut1Ideal.main_arg0)
          ∧ r.2.mem ((c.tc : Thread Cert.MixOut1Ideal.nD Cert.MixOut1Ideal.τ).loc Cert.MixOut1Ideal.main_arg1) = m ((c.tc : Thread Cert.MixOut1Ideal.nD Cert.MixOut1Ideal.τ).loc Cert.MixOut1Ideal.main_arg1)
          ∧ r.2.mem ((c.tc : Thread Cert.MixOut1Ideal.nD Cert.MixOut1Ideal.τ).loc Cert.MixOut1Ideal.main_arg2) = m ((c.tc : Thread Cert.MixOut1Ideal.nD Cert.MixOut1Ideal.τ).loc Cert.MixOut1Ideal.main_arg2)
          ∧ r.2.mem ((c.tc : Thread Cert.MixOut1Ideal.nD Cert.MixOut1Ideal.τ).loc Cert.MixOut1Ideal.main_arg3) = m ((c.tc : Thread Cert.MixOut1Ideal.nD Cert.MixOut1Ideal.τ).loc Cert.MixOut1Ideal.main_arg3)
          ∧ r.2.mem ((c.tc : Thread Cert.MixOut1Ideal.nD Cert.MixOut1Ideal.τ).loc Cert.MixOut1Ideal.main_arg4) = m ((c.tc : Thread Cert.MixOut1Ideal.nD Cert.MixOut1Ideal.τ).loc Cert.MixOut1Ideal.main_arg4)
          ∧ r.2.mem ((c.tc : Thread Cert.MixOut1Ideal.nD Cert.MixOut1Ideal.τ).loc Cert.MixOut1Ideal.main_arg5) = m ((c.tc : Thread Cert.MixOut1Ideal.nD Cert.MixOut1Ideal.τ).loc Cert.MixOut1Ideal.main_arg5)
          ∧ r.2.mem ((c.tc : Thread Cert.MixOut1Ideal.nD Cert.MixOut1Ideal.τ).loc Cert.MixOut1Ideal.main_arg6) = m ((c.tc : Thread Cert.MixOut1Ideal.nD Cert.MixOut1Ideal.τ).loc Cert.MixOut1Ideal.main_arg6)
          ∧ r.2.mem ((c.tc : Thread Cert.MixOut1Ideal.nD Cert.MixOut1Ideal.τ).loc Cert.MixOut1Ideal.main_arg7) = m ((c.tc : Thread Cert.MixOut1Ideal.nD Cert.MixOut1Ideal.τ).loc Cert.MixOut1Ideal.main_arg7))
      ∧ θ_run (Cert.MixOut1RefIdeal.defs (F := Ideal)) (onTc (τ := Cert.MixOut1RefIdeal.τ) (Cert.MixOut1RefIdeal.main (F := Ideal))) ⟨m', fun _ => 0, g'⟩ (fun r => ∀ c : Dev Cert.MixOut1RefIdeal.nD,
          r.2.mem ((c.tc : Thread Cert.MixOut1RefIdeal.nD Cert.MixOut1RefIdeal.τ).loc Cert.MixOut1RefIdeal.main_v29) = v0 c
          ∧ r.2.mem ((c.tc : Thread Cert.MixOut1RefIdeal.nD Cert.MixOut1RefIdeal.τ).loc Cert.MixOut1RefIdeal.main_v52) = v1 c
          ∧ r.2.mem ((c.tc : Thread Cert.MixOut1RefIdeal.nD Cert.MixOut1RefIdeal.τ).loc Cert.MixOut1RefIdeal.main_arg0) = m' ((c.tc : Thread Cert.MixOut1RefIdeal.nD Cert.MixOut1RefIdeal.τ).loc Cert.MixOut1RefIdeal.main_arg0)
          ∧ r.2.mem ((c.tc : Thread Cert.MixOut1RefIdeal.nD Cert.MixOut1RefIdeal.τ).loc Cert.MixOut1RefIdeal.main_arg1) = m' ((c.tc : Thread Cert.MixOut1RefIdeal.nD Cert.MixOut1RefIdeal.τ).loc Cert.MixOut1RefIdeal.main_arg1)
          ∧ r.2.mem ((c.tc : Thread Cert.MixOut1RefIdeal.nD Cert.MixOut1RefIdeal.τ).loc Cert.MixOut1RefIdeal.main_arg2) = m' ((c.tc : Thread Cert.MixOut1RefIdeal.nD Cert.MixOut1RefIdeal.τ).loc Cert.MixOut1RefIdeal.main_arg2)
          ∧ r.2.mem ((c.tc : Thread Cert.MixOut1RefIdeal.nD Cert.MixOut1RefIdeal.τ).loc Cert.MixOut1RefIdeal.main_arg3) = m' ((c.tc : Thread Cert.MixOut1RefIdeal.nD Cert.MixOut1RefIdeal.τ).loc Cert.MixOut1RefIdeal.main_arg3)
          ∧ r.2.mem ((c.tc : Thread Cert.MixOut1RefIdeal.nD Cert.MixOut1RefIdeal.τ).loc Cert.MixOut1RefIdeal.main_arg4) = m' ((c.tc : Thread Cert.MixOut1RefIdeal.nD Cert.MixOut1RefIdeal.τ).loc Cert.MixOut1RefIdeal.main_arg4)
          ∧ r.2.mem ((c.tc : Thread Cert.MixOut1RefIdeal.nD Cert.MixOut1RefIdeal.τ).loc Cert.MixOut1RefIdeal.main_arg5) = m' ((c.tc : Thread Cert.MixOut1RefIdeal.nD Cert.MixOut1RefIdeal.τ).loc Cert.MixOut1RefIdeal.main_arg5)
          ∧ r.2.mem ((c.tc : Thread Cert.MixOut1RefIdeal.nD Cert.MixOut1RefIdeal.τ).loc Cert.MixOut1RefIdeal.main_arg6) = m' ((c.tc : Thread Cert.MixOut1RefIdeal.nD Cert.MixOut1RefIdeal.τ).loc Cert.MixOut1RefIdeal.main_arg6)
          ∧ r.2.mem ((c.tc : Thread Cert.MixOut1RefIdeal.nD Cert.MixOut1RefIdeal.τ).loc Cert.MixOut1RefIdeal.main_arg7) = m' ((c.tc : Thread Cert.MixOut1RefIdeal.nD Cert.MixOut1RefIdeal.τ).loc Cert.MixOut1RefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)
      ∧ m' ((c.tc : Thread Cert.Ff1RefIdeal.nD Cert.Ff1RefIdeal.τ).loc Cert.Ff1RefIdeal.main_arg2) = m ((c.tc : Thread Cert.Ff1Ideal.nD Cert.Ff1Ideal.τ).loc Cert.Ff1Ideal.main_arg2)) →
    ∃ (v0 : (c : Dev Cert.Ff1Ideal.nD) → Buf (Elt Ideal) ((c.tc : Thread Cert.Ff1Ideal.nD Cert.Ff1Ideal.τ).loc Cert.Ff1Ideal.main_v4_0)) (v1 : (c : Dev Cert.Ff1Ideal.nD) → Buf (Elt Ideal) ((c.tc : Thread Cert.Ff1Ideal.nD Cert.Ff1Ideal.τ).loc Cert.Ff1Ideal.main_v4_1)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v4_0) = v0 c
          ∧ r.2.mem ((c.tc : Thread Cert.Ff1Ideal.nD Cert.Ff1Ideal.τ).loc Cert.Ff1Ideal.main_v4_1) = v1 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
          ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v7) = v0 c
          ∧ r.2.mem ((c.tc : Thread Cert.Ff1RefIdeal.nD Cert.Ff1RefIdeal.τ).loc Cert.Ff1RefIdeal.main_v8) = v1 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1)
          ∧ r.2.mem ((c.tc : Thread Cert.Ff1RefIdeal.nD Cert.Ff1RefIdeal.τ).loc Cert.Ff1RefIdeal.main_arg2) = m' ((c.tc : Thread Cert.Ff1RefIdeal.nD Cert.Ff1RefIdeal.τ).loc Cert.Ff1RefIdeal.main_arg2))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)
      ∧ m' ((c.tc : Thread Cert.Ff2RefIdeal.nD Cert.Ff2RefIdeal.τ).loc Cert.Ff2RefIdeal.main_arg2) = m ((c.tc : Thread Cert.Ff2Ideal.nD Cert.Ff2Ideal.τ).loc Cert.Ff2Ideal.main_arg2)) →
    ∃ (v0 : (c : Dev Cert.Ff2Ideal.nD) → Buf (Elt Ideal) ((c.tc : Thread Cert.Ff2Ideal.nD Cert.Ff2Ideal.τ).loc Cert.Ff2Ideal.main_v2)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v2) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v4) = v0 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1)
          ∧ r.2.mem ((c.tc : Thread Cert.Ff2RefIdeal.nD Cert.Ff2RefIdeal.τ).loc Cert.Ff2RefIdeal.main_arg2) = m' ((c.tc : Thread Cert.Ff2RefIdeal.nD Cert.Ff2RefIdeal.τ).loc Cert.Ff2RefIdeal.main_arg2))

def preserves_Ln2_Ln2Ideal : Prop :=
  True

def algebraic_Ln2Ideal_Ln2RefIdeal [hLn2Ideal : Cert.Ln2Ideal.Facts] [hLn2RefIdeal : Cert.Ln2RefIdeal.Facts] : Prop :=
  ∀ (m : (ℓ : Loc Cert.Ln2Ideal.nD Cert.Ln2Ideal.τ Cert.Ln2Ideal.sig) → Buf (Elt Ideal) ℓ) (g : Dev Cert.Ln2Ideal.nD → PrngReg)
    (m' : (ℓ : Loc Cert.Ln2RefIdeal.nD Cert.Ln2RefIdeal.τ Cert.Ln2RefIdeal.sig) → Buf (Elt Ideal) ℓ) (g' : Dev Cert.Ln2RefIdeal.nD → PrngReg), Pre_Ln2Ideal m →
    (∀ c : Dev Cert.Ln2Ideal.nD,
      m' ((c.tc : Thread Cert.Ln2RefIdeal.nD Cert.Ln2RefIdeal.τ).loc Cert.Ln2RefIdeal.main_arg0) = m ((c.tc : Thread Cert.Ln2Ideal.nD Cert.Ln2Ideal.τ).loc Cert.Ln2Ideal.main_arg0)
      ∧ m' ((c.tc : Thread Cert.Ln2RefIdeal.nD Cert.Ln2RefIdeal.τ).loc Cert.Ln2RefIdeal.main_arg1) = m ((c.tc : Thread Cert.Ln2Ideal.nD Cert.Ln2Ideal.τ).loc Cert.Ln2Ideal.main_arg1)
      ∧ m' ((c.tc : Thread Cert.Ln2RefIdeal.nD Cert.Ln2RefIdeal.τ).loc Cert.Ln2RefIdeal.main_arg2) = m ((c.tc : Thread Cert.Ln2Ideal.nD Cert.Ln2Ideal.τ).loc Cert.Ln2Ideal.main_arg2)
      ∧ m' ((c.tc : Thread Cert.Ln2RefIdeal.nD Cert.Ln2RefIdeal.τ).loc Cert.Ln2RefIdeal.main_arg3) = m ((c.tc : Thread Cert.Ln2Ideal.nD Cert.Ln2Ideal.τ).loc Cert.Ln2Ideal.main_arg3)
      ∧ m' ((c.tc : Thread Cert.Ln2RefIdeal.nD Cert.Ln2RefIdeal.τ).loc Cert.Ln2RefIdeal.main_arg4) = m ((c.tc : Thread Cert.Ln2Ideal.nD Cert.Ln2Ideal.τ).loc Cert.Ln2Ideal.main_arg4)
      ∧ m' ((c.tc : Thread Cert.Ln2RefIdeal.nD Cert.Ln2RefIdeal.τ).loc Cert.Ln2RefIdeal.main_arg5) = m ((c.tc : Thread Cert.Ln2Ideal.nD Cert.Ln2Ideal.τ).loc Cert.Ln2Ideal.main_arg5)
      ∧ m' ((c.tc : Thread Cert.Ln2RefIdeal.nD Cert.Ln2RefIdeal.τ).loc Cert.Ln2RefIdeal.main_arg6) = m ((c.tc : Thread Cert.Ln2Ideal.nD Cert.Ln2Ideal.τ).loc Cert.Ln2Ideal.main_arg6)) →
    ∃ (v0 : (c : Dev Cert.Ln2Ideal.nD) → Buf (Elt Ideal) ((c.tc : Thread Cert.Ln2Ideal.nD Cert.Ln2Ideal.τ).loc Cert.Ln2Ideal.main_v4_0)) (v1 : (c : Dev Cert.Ln2Ideal.nD) → Buf (Elt Ideal) ((c.tc : Thread Cert.Ln2Ideal.nD Cert.Ln2Ideal.τ).loc Cert.Ln2Ideal.main_v4_1)),
      θ_run (Cert.Ln2Ideal.defs (F := Ideal)) (onTc (τ := Cert.Ln2Ideal.τ) (Cert.Ln2Ideal.main (F := Ideal))) ⟨m, fun _ => 0, g⟩ (fun r => ∀ c : Dev Cert.Ln2Ideal.nD,
          r.2.mem ((c.tc : Thread Cert.Ln2Ideal.nD Cert.Ln2Ideal.τ).loc Cert.Ln2Ideal.main_v4_0) = v0 c
          ∧ r.2.mem ((c.tc : Thread Cert.Ln2Ideal.nD Cert.Ln2Ideal.τ).loc Cert.Ln2Ideal.main_v4_1) = v1 c
          ∧ r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
          ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
          ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
          ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3)
          ∧ r.2.mem ((c.tc : Thread Cert.Ln2Ideal.nD Cert.Ln2Ideal.τ).loc Cert.Ln2Ideal.main_arg4) = m ((c.tc : Thread Cert.Ln2Ideal.nD Cert.Ln2Ideal.τ).loc Cert.Ln2Ideal.main_arg4)
          ∧ r.2.mem ((c.tc : Thread Cert.Ln2Ideal.nD Cert.Ln2Ideal.τ).loc Cert.Ln2Ideal.main_arg5) = m ((c.tc : Thread Cert.Ln2Ideal.nD Cert.Ln2Ideal.τ).loc Cert.Ln2Ideal.main_arg5)
          ∧ r.2.mem ((c.tc : Thread Cert.Ln2Ideal.nD Cert.Ln2Ideal.τ).loc Cert.Ln2Ideal.main_arg6) = m ((c.tc : Thread Cert.Ln2Ideal.nD Cert.Ln2Ideal.τ).loc Cert.Ln2Ideal.main_arg6))
      ∧ θ_run (Cert.Ln2RefIdeal.defs (F := Ideal)) (onTc (τ := Cert.Ln2RefIdeal.τ) (Cert.Ln2RefIdeal.main (F := Ideal))) ⟨m', fun _ => 0, g'⟩ (fun r => ∀ c : Dev Cert.Ln2RefIdeal.nD,
          r.2.mem ((c.tc : Thread Cert.Ln2RefIdeal.nD Cert.Ln2RefIdeal.τ).loc Cert.Ln2RefIdeal.main_v24) = v0 c
          ∧ r.2.mem ((c.tc : Thread Cert.Ln2RefIdeal.nD Cert.Ln2RefIdeal.τ).loc Cert.Ln2RefIdeal.main_v47) = v1 c
          ∧ r.2.mem ((c.tc : Thread Cert.Ln2RefIdeal.nD Cert.Ln2RefIdeal.τ).loc Cert.Ln2RefIdeal.main_arg0) = m' ((c.tc : Thread Cert.Ln2RefIdeal.nD Cert.Ln2RefIdeal.τ).loc Cert.Ln2RefIdeal.main_arg0)
          ∧ r.2.mem ((c.tc : Thread Cert.Ln2RefIdeal.nD Cert.Ln2RefIdeal.τ).loc Cert.Ln2RefIdeal.main_arg1) = m' ((c.tc : Thread Cert.Ln2RefIdeal.nD Cert.Ln2RefIdeal.τ).loc Cert.Ln2RefIdeal.main_arg1)
          ∧ r.2.mem ((c.tc : Thread Cert.Ln2RefIdeal.nD Cert.Ln2RefIdeal.τ).loc Cert.Ln2RefIdeal.main_arg2) = m' ((c.tc : Thread Cert.Ln2RefIdeal.nD Cert.Ln2RefIdeal.τ).loc Cert.Ln2RefIdeal.main_arg2)
          ∧ r.2.mem ((c.tc : Thread Cert.Ln2RefIdeal.nD Cert.Ln2RefIdeal.τ).loc Cert.Ln2RefIdeal.main_arg3) = m' ((c.tc : Thread Cert.Ln2RefIdeal.nD Cert.Ln2RefIdeal.τ).loc Cert.Ln2RefIdeal.main_arg3)
          ∧ r.2.mem ((c.tc : Thread Cert.Ln2RefIdeal.nD Cert.Ln2RefIdeal.τ).loc Cert.Ln2RefIdeal.main_arg4) = m' ((c.tc : Thread Cert.Ln2RefIdeal.nD Cert.Ln2RefIdeal.τ).loc Cert.Ln2RefIdeal.main_arg4)
          ∧ r.2.mem ((c.tc : Thread Cert.Ln2RefIdeal.nD Cert.Ln2RefIdeal.τ).loc Cert.Ln2RefIdeal.main_arg5) = m' ((c.tc : Thread Cert.Ln2RefIdeal.nD Cert.Ln2RefIdeal.τ).loc Cert.Ln2RefIdeal.main_arg5)
          ∧ r.2.mem ((c.tc : Thread Cert.Ln2RefIdeal.nD Cert.Ln2RefIdeal.τ).loc Cert.Ln2RefIdeal.main_arg6) = m' ((c.tc : Thread Cert.Ln2RefIdeal.nD Cert.Ln2RefIdeal.τ).loc Cert.Ln2RefIdeal.main_arg6))

def preserves_AdamwOut1_AdamwOut1Ideal : Prop :=
  True

def algebraic_AdamwOut1Ideal_AdamwOut1RefIdeal_on_adamw_out1_last [hAdamwOut1Ideal : Cert.AdamwOut1Ideal.Facts] [hAdamwOut1RefIdeal : Cert.AdamwOut1RefIdeal.Facts] [hOn_adamw_out1_last : Cert.On_adamw_out1_last.Facts] : Prop :=
  ∀ (m : (ℓ : Loc Cert.AdamwOut1Ideal.nD Cert.AdamwOut1Ideal.τ Cert.AdamwOut1Ideal.sig) → Buf (Elt Ideal) ℓ) (g : Dev Cert.AdamwOut1Ideal.nD → PrngReg)
    (m' : (ℓ : Loc Cert.AdamwOut1RefIdeal.nD Cert.AdamwOut1RefIdeal.τ Cert.AdamwOut1RefIdeal.sig) → Buf (Elt Ideal) ℓ) (g' : Dev Cert.AdamwOut1RefIdeal.nD → PrngReg), Pre_AdamwOut1Ideal m →
    (∀ c : Dev Cert.AdamwOut1Ideal.nD,
      m' ((c.tc : Thread Cert.AdamwOut1RefIdeal.nD Cert.AdamwOut1RefIdeal.τ).loc Cert.AdamwOut1RefIdeal.main_arg0) = m ((c.tc : Thread Cert.AdamwOut1Ideal.nD Cert.AdamwOut1Ideal.τ).loc Cert.AdamwOut1Ideal.main_arg0)
      ∧ m' ((c.tc : Thread Cert.AdamwOut1RefIdeal.nD Cert.AdamwOut1RefIdeal.τ).loc Cert.AdamwOut1RefIdeal.main_arg1) = m ((c.tc : Thread Cert.AdamwOut1Ideal.nD Cert.AdamwOut1Ideal.τ).loc Cert.AdamwOut1Ideal.main_arg1)
      ∧ m' ((c.tc : Thread Cert.AdamwOut1RefIdeal.nD Cert.AdamwOut1RefIdeal.τ).loc Cert.AdamwOut1RefIdeal.main_arg2) = m ((c.tc : Thread Cert.AdamwOut1Ideal.nD Cert.AdamwOut1Ideal.τ).loc Cert.AdamwOut1Ideal.main_arg2)
      ∧ m' ((c.tc : Thread Cert.AdamwOut1RefIdeal.nD Cert.AdamwOut1RefIdeal.τ).loc Cert.AdamwOut1RefIdeal.main_arg3) = m ((c.tc : Thread Cert.AdamwOut1Ideal.nD Cert.AdamwOut1Ideal.τ).loc Cert.AdamwOut1Ideal.main_arg3)) →
    ∃ (v0 : (c : Dev Cert.AdamwOut1Ideal.nD) → Buf (Elt Ideal) ((c.tc : Thread Cert.AdamwOut1Ideal.nD Cert.AdamwOut1Ideal.τ).loc Cert.AdamwOut1Ideal.main_v0_0)) (v1 : (c : Dev Cert.AdamwOut1Ideal.nD) → Buf (Elt Ideal) ((c.tc : Thread Cert.AdamwOut1Ideal.nD Cert.AdamwOut1Ideal.τ).loc Cert.AdamwOut1Ideal.main_v0_1)) (v2 : (c : Dev Cert.AdamwOut1Ideal.nD) → Buf (Elt Ideal) ((c.tc : Thread Cert.AdamwOut1Ideal.nD Cert.AdamwOut1Ideal.τ).loc Cert.AdamwOut1Ideal.main_v0_2)) (v3 : (c : Dev Cert.AdamwOut1Ideal.nD) → Buf (Elt Ideal) ((c.tc : Thread Cert.AdamwOut1Ideal.nD Cert.AdamwOut1Ideal.τ).loc Cert.AdamwOut1Ideal.main_v0_3)),
      θ_run (Cert.AdamwOut1Ideal.defs (F := Ideal)) (onTc (τ := Cert.AdamwOut1Ideal.τ) (Cert.AdamwOut1Ideal.main (F := Ideal))) ⟨m, fun _ => 0, g⟩ (fun r => ∀ c : Dev Cert.AdamwOut1Ideal.nD,
          (∀ i : (⟨3, ![2, 512, 2048]⟩ : Shape).Idx, (Cert.On_adamw_out1_last.fn (F := Ideal) (m ((c.tc : Thread Cert.AdamwOut1Ideal.nD Cert.AdamwOut1Ideal.τ).loc Cert.AdamwOut1Ideal.main_arg0)) (m ((c.tc : Thread Cert.AdamwOut1Ideal.nD Cert.AdamwOut1Ideal.τ).loc Cert.AdamwOut1Ideal.main_arg1)) (m ((c.tc : Thread Cert.AdamwOut1Ideal.nD Cert.AdamwOut1Ideal.τ).loc Cert.AdamwOut1Ideal.main_arg2)) (m ((c.tc : Thread Cert.AdamwOut1Ideal.nD Cert.AdamwOut1Ideal.τ).loc Cert.AdamwOut1Ideal.main_arg3))).1 i = 1#1 → r.2.mem ((c.tc : Thread Cert.AdamwOut1Ideal.nD Cert.AdamwOut1Ideal.τ).loc Cert.AdamwOut1Ideal.main_v0_0) i = v0 c i)
          ∧ (∀ i : (⟨3, ![2, 512, 2048]⟩ : Shape).Idx, (Cert.On_adamw_out1_last.fn (F := Ideal) (m ((c.tc : Thread Cert.AdamwOut1Ideal.nD Cert.AdamwOut1Ideal.τ).loc Cert.AdamwOut1Ideal.main_arg0)) (m ((c.tc : Thread Cert.AdamwOut1Ideal.nD Cert.AdamwOut1Ideal.τ).loc Cert.AdamwOut1Ideal.main_arg1)) (m ((c.tc : Thread Cert.AdamwOut1Ideal.nD Cert.AdamwOut1Ideal.τ).loc Cert.AdamwOut1Ideal.main_arg2)) (m ((c.tc : Thread Cert.AdamwOut1Ideal.nD Cert.AdamwOut1Ideal.τ).loc Cert.AdamwOut1Ideal.main_arg3))).2.1 i = 1#1 → r.2.mem ((c.tc : Thread Cert.AdamwOut1Ideal.nD Cert.AdamwOut1Ideal.τ).loc Cert.AdamwOut1Ideal.main_v0_1) i = v1 c i)
          ∧ (∀ i : (⟨3, ![2, 512, 2048]⟩ : Shape).Idx, (Cert.On_adamw_out1_last.fn (F := Ideal) (m ((c.tc : Thread Cert.AdamwOut1Ideal.nD Cert.AdamwOut1Ideal.τ).loc Cert.AdamwOut1Ideal.main_arg0)) (m ((c.tc : Thread Cert.AdamwOut1Ideal.nD Cert.AdamwOut1Ideal.τ).loc Cert.AdamwOut1Ideal.main_arg1)) (m ((c.tc : Thread Cert.AdamwOut1Ideal.nD Cert.AdamwOut1Ideal.τ).loc Cert.AdamwOut1Ideal.main_arg2)) (m ((c.tc : Thread Cert.AdamwOut1Ideal.nD Cert.AdamwOut1Ideal.τ).loc Cert.AdamwOut1Ideal.main_arg3))).2.2.1 i = 1#1 → r.2.mem ((c.tc : Thread Cert.AdamwOut1Ideal.nD Cert.AdamwOut1Ideal.τ).loc Cert.AdamwOut1Ideal.main_v0_2) i = v2 c i)
          ∧ (∀ i : (⟨3, ![2, 512, 2048]⟩ : Shape).Idx, (Cert.On_adamw_out1_last.fn (F := Ideal) (m ((c.tc : Thread Cert.AdamwOut1Ideal.nD Cert.AdamwOut1Ideal.τ).loc Cert.AdamwOut1Ideal.main_arg0)) (m ((c.tc : Thread Cert.AdamwOut1Ideal.nD Cert.AdamwOut1Ideal.τ).loc Cert.AdamwOut1Ideal.main_arg1)) (m ((c.tc : Thread Cert.AdamwOut1Ideal.nD Cert.AdamwOut1Ideal.τ).loc Cert.AdamwOut1Ideal.main_arg2)) (m ((c.tc : Thread Cert.AdamwOut1Ideal.nD Cert.AdamwOut1Ideal.τ).loc Cert.AdamwOut1Ideal.main_arg3))).2.2.2 i = 1#1 → r.2.mem ((c.tc : Thread Cert.AdamwOut1Ideal.nD Cert.AdamwOut1Ideal.τ).loc Cert.AdamwOut1Ideal.main_v0_3) i = v3 c i)
          ∧ r.2.mem ((c.tc : Thread Cert.AdamwOut1Ideal.nD Cert.AdamwOut1Ideal.τ).loc Cert.AdamwOut1Ideal.main_arg0) = m ((c.tc : Thread Cert.AdamwOut1Ideal.nD Cert.AdamwOut1Ideal.τ).loc Cert.AdamwOut1Ideal.main_arg0)
          ∧ r.2.mem ((c.tc : Thread Cert.AdamwOut1Ideal.nD Cert.AdamwOut1Ideal.τ).loc Cert.AdamwOut1Ideal.main_arg1) = m ((c.tc : Thread Cert.AdamwOut1Ideal.nD Cert.AdamwOut1Ideal.τ).loc Cert.AdamwOut1Ideal.main_arg1)
          ∧ r.2.mem ((c.tc : Thread Cert.AdamwOut1Ideal.nD Cert.AdamwOut1Ideal.τ).loc Cert.AdamwOut1Ideal.main_arg2) = m ((c.tc : Thread Cert.AdamwOut1Ideal.nD Cert.AdamwOut1Ideal.τ).loc Cert.AdamwOut1Ideal.main_arg2)
          ∧ r.2.mem ((c.tc : Thread Cert.AdamwOut1Ideal.nD Cert.AdamwOut1Ideal.τ).loc Cert.AdamwOut1Ideal.main_arg3) = m ((c.tc : Thread Cert.AdamwOut1Ideal.nD Cert.AdamwOut1Ideal.τ).loc Cert.AdamwOut1Ideal.main_arg3))
      ∧ θ_run (Cert.AdamwOut1RefIdeal.defs (F := Ideal)) (onTc (τ := Cert.AdamwOut1RefIdeal.τ) (Cert.AdamwOut1RefIdeal.main (F := Ideal))) ⟨m', fun _ => 0, g'⟩ (fun r => ∀ c : Dev Cert.AdamwOut1RefIdeal.nD,
          (∀ i : (⟨3, ![2, 512, 2048]⟩ : Shape).Idx, (Cert.On_adamw_out1_last.fn (F := Ideal) (m ((c.tc : Thread Cert.AdamwOut1Ideal.nD Cert.AdamwOut1Ideal.τ).loc Cert.AdamwOut1Ideal.main_arg0)) (m ((c.tc : Thread Cert.AdamwOut1Ideal.nD Cert.AdamwOut1Ideal.τ).loc Cert.AdamwOut1Ideal.main_arg1)) (m ((c.tc : Thread Cert.AdamwOut1Ideal.nD Cert.AdamwOut1Ideal.τ).loc Cert.AdamwOut1Ideal.main_arg2)) (m ((c.tc : Thread Cert.AdamwOut1Ideal.nD Cert.AdamwOut1Ideal.τ).loc Cert.AdamwOut1Ideal.main_arg3))).1 i = 1#1 → r.2.mem ((c.tc : Thread Cert.AdamwOut1RefIdeal.nD Cert.AdamwOut1RefIdeal.τ).loc Cert.AdamwOut1RefIdeal.main_v30) i = v0 c i)
          ∧ (∀ i : (⟨3, ![2, 512, 2048]⟩ : Shape).Idx, (Cert.On_adamw_out1_last.fn (F := Ideal) (m ((c.tc : Thread Cert.AdamwOut1Ideal.nD Cert.AdamwOut1Ideal.τ).loc Cert.AdamwOut1Ideal.main_arg0)) (m ((c.tc : Thread Cert.AdamwOut1Ideal.nD Cert.AdamwOut1Ideal.τ).loc Cert.AdamwOut1Ideal.main_arg1)) (m ((c.tc : Thread Cert.AdamwOut1Ideal.nD Cert.AdamwOut1Ideal.τ).loc Cert.AdamwOut1Ideal.main_arg2)) (m ((c.tc : Thread Cert.AdamwOut1Ideal.nD Cert.AdamwOut1Ideal.τ).loc Cert.AdamwOut1Ideal.main_arg3))).2.1 i = 1#1 → r.2.mem ((c.tc : Thread Cert.AdamwOut1RefIdeal.nD Cert.AdamwOut1RefIdeal.τ).loc Cert.AdamwOut1RefIdeal.main_v31) i = v1 c i)
          ∧ (∀ i : (⟨3, ![2, 512, 2048]⟩ : Shape).Idx, (Cert.On_adamw_out1_last.fn (F := Ideal) (m ((c.tc : Thread Cert.AdamwOut1Ideal.nD Cert.AdamwOut1Ideal.τ).loc Cert.AdamwOut1Ideal.main_arg0)) (m ((c.tc : Thread Cert.AdamwOut1Ideal.nD Cert.AdamwOut1Ideal.τ).loc Cert.AdamwOut1Ideal.main_arg1)) (m ((c.tc : Thread Cert.AdamwOut1Ideal.nD Cert.AdamwOut1Ideal.τ).loc Cert.AdamwOut1Ideal.main_arg2)) (m ((c.tc : Thread Cert.AdamwOut1Ideal.nD Cert.AdamwOut1Ideal.τ).loc Cert.AdamwOut1Ideal.main_arg3))).2.2.1 i = 1#1 → r.2.mem ((c.tc : Thread Cert.AdamwOut1RefIdeal.nD Cert.AdamwOut1RefIdeal.τ).loc Cert.AdamwOut1RefIdeal.main_v32) i = v2 c i)
          ∧ (∀ i : (⟨3, ![2, 512, 2048]⟩ : Shape).Idx, (Cert.On_adamw_out1_last.fn (F := Ideal) (m ((c.tc : Thread Cert.AdamwOut1Ideal.nD Cert.AdamwOut1Ideal.τ).loc Cert.AdamwOut1Ideal.main_arg0)) (m ((c.tc : Thread Cert.AdamwOut1Ideal.nD Cert.AdamwOut1Ideal.τ).loc Cert.AdamwOut1Ideal.main_arg1)) (m ((c.tc : Thread Cert.AdamwOut1Ideal.nD Cert.AdamwOut1Ideal.τ).loc Cert.AdamwOut1Ideal.main_arg2)) (m ((c.tc : Thread Cert.AdamwOut1Ideal.nD Cert.AdamwOut1Ideal.τ).loc Cert.AdamwOut1Ideal.main_arg3))).2.2.2 i = 1#1 → r.2.mem ((c.tc : Thread Cert.AdamwOut1RefIdeal.nD Cert.AdamwOut1RefIdeal.τ).loc Cert.AdamwOut1RefIdeal.main_v33) i = v3 c i)
          ∧ r.2.mem ((c.tc : Thread Cert.AdamwOut1RefIdeal.nD Cert.AdamwOut1RefIdeal.τ).loc Cert.AdamwOut1RefIdeal.main_arg0) = m' ((c.tc : Thread Cert.AdamwOut1RefIdeal.nD Cert.AdamwOut1RefIdeal.τ).loc Cert.AdamwOut1RefIdeal.main_arg0)
          ∧ r.2.mem ((c.tc : Thread Cert.AdamwOut1RefIdeal.nD Cert.AdamwOut1RefIdeal.τ).loc Cert.AdamwOut1RefIdeal.main_arg1) = m' ((c.tc : Thread Cert.AdamwOut1RefIdeal.nD Cert.AdamwOut1RefIdeal.τ).loc Cert.AdamwOut1RefIdeal.main_arg1)
          ∧ r.2.mem ((c.tc : Thread Cert.AdamwOut1RefIdeal.nD Cert.AdamwOut1RefIdeal.τ).loc Cert.AdamwOut1RefIdeal.main_arg2) = m' ((c.tc : Thread Cert.AdamwOut1RefIdeal.nD Cert.AdamwOut1RefIdeal.τ).loc Cert.AdamwOut1RefIdeal.main_arg2)
          ∧ r.2.mem ((c.tc : Thread Cert.AdamwOut1RefIdeal.nD Cert.AdamwOut1RefIdeal.τ).loc Cert.AdamwOut1RefIdeal.main_arg3) = m' ((c.tc : Thread Cert.AdamwOut1RefIdeal.nD Cert.AdamwOut1RefIdeal.τ).loc Cert.AdamwOut1RefIdeal.main_arg3))

def preserves_AdamwOut0_AdamwOut0Ideal : Prop :=
  True

def algebraic_AdamwOut0Ideal_AdamwOut0RefIdeal [hAdamwOut0Ideal : Cert.AdamwOut0Ideal.Facts] [hAdamwOut0RefIdeal : Cert.AdamwOut0RefIdeal.Facts] : Prop :=
  ∀ (m : (ℓ : Loc Cert.AdamwOut0Ideal.nD Cert.AdamwOut0Ideal.τ Cert.AdamwOut0Ideal.sig) → Buf (Elt Ideal) ℓ) (g : Dev Cert.AdamwOut0Ideal.nD → PrngReg)
    (m' : (ℓ : Loc Cert.AdamwOut0RefIdeal.nD Cert.AdamwOut0RefIdeal.τ Cert.AdamwOut0RefIdeal.sig) → Buf (Elt Ideal) ℓ) (g' : Dev Cert.AdamwOut0RefIdeal.nD → PrngReg), Pre_AdamwOut0Ideal m →
    (∀ c : Dev Cert.AdamwOut0Ideal.nD,
      m' ((c.tc : Thread Cert.AdamwOut0RefIdeal.nD Cert.AdamwOut0RefIdeal.τ).loc Cert.AdamwOut0RefIdeal.main_arg0) = m ((c.tc : Thread Cert.AdamwOut0Ideal.nD Cert.AdamwOut0Ideal.τ).loc Cert.AdamwOut0Ideal.main_arg0)
      ∧ m' ((c.tc : Thread Cert.AdamwOut0RefIdeal.nD Cert.AdamwOut0RefIdeal.τ).loc Cert.AdamwOut0RefIdeal.main_arg1) = m ((c.tc : Thread Cert.AdamwOut0Ideal.nD Cert.AdamwOut0Ideal.τ).loc Cert.AdamwOut0Ideal.main_arg1)
      ∧ m' ((c.tc : Thread Cert.AdamwOut0RefIdeal.nD Cert.AdamwOut0RefIdeal.τ).loc Cert.AdamwOut0RefIdeal.main_arg2) = m ((c.tc : Thread Cert.AdamwOut0Ideal.nD Cert.AdamwOut0Ideal.τ).loc Cert.AdamwOut0Ideal.main_arg2)
      ∧ m' ((c.tc : Thread Cert.AdamwOut0RefIdeal.nD Cert.AdamwOut0RefIdeal.τ).loc Cert.AdamwOut0RefIdeal.main_arg3) = m ((c.tc : Thread Cert.AdamwOut0Ideal.nD Cert.AdamwOut0Ideal.τ).loc Cert.AdamwOut0Ideal.main_arg3)
      ∧ m' ((c.tc : Thread Cert.AdamwOut0RefIdeal.nD Cert.AdamwOut0RefIdeal.τ).loc Cert.AdamwOut0RefIdeal.main_arg4) = m ((c.tc : Thread Cert.AdamwOut0Ideal.nD Cert.AdamwOut0Ideal.τ).loc Cert.AdamwOut0Ideal.main_arg4)
      ∧ m' ((c.tc : Thread Cert.AdamwOut0RefIdeal.nD Cert.AdamwOut0RefIdeal.τ).loc Cert.AdamwOut0RefIdeal.main_arg5) = m ((c.tc : Thread Cert.AdamwOut0Ideal.nD Cert.AdamwOut0Ideal.τ).loc Cert.AdamwOut0Ideal.main_arg5)
      ∧ m' ((c.tc : Thread Cert.AdamwOut0RefIdeal.nD Cert.AdamwOut0RefIdeal.τ).loc Cert.AdamwOut0RefIdeal.main_arg6) = m ((c.tc : Thread Cert.AdamwOut0Ideal.nD Cert.AdamwOut0Ideal.τ).loc Cert.AdamwOut0Ideal.main_arg6)
      ∧ m' ((c.tc : Thread Cert.AdamwOut0RefIdeal.nD Cert.AdamwOut0RefIdeal.τ).loc Cert.AdamwOut0RefIdeal.main_arg7) = m ((c.tc : Thread Cert.AdamwOut0Ideal.nD Cert.AdamwOut0Ideal.τ).loc Cert.AdamwOut0Ideal.main_arg7)) →
    ∃ (v0 : (c : Dev Cert.AdamwOut0Ideal.nD) → Buf (Elt Ideal) ((c.tc : Thread Cert.AdamwOut0Ideal.nD Cert.AdamwOut0Ideal.τ).loc Cert.AdamwOut0Ideal.main_v0_0)) (v1 : (c : Dev Cert.AdamwOut0Ideal.nD) → Buf (Elt Ideal) ((c.tc : Thread Cert.AdamwOut0Ideal.nD Cert.AdamwOut0Ideal.τ).loc Cert.AdamwOut0Ideal.main_v0_1)) (v2 : (c : Dev Cert.AdamwOut0Ideal.nD) → Buf (Elt Ideal) ((c.tc : Thread Cert.AdamwOut0Ideal.nD Cert.AdamwOut0Ideal.τ).loc Cert.AdamwOut0Ideal.main_v0_2)) (v3 : (c : Dev Cert.AdamwOut0Ideal.nD) → Buf (Elt Ideal) ((c.tc : Thread Cert.AdamwOut0Ideal.nD Cert.AdamwOut0Ideal.τ).loc Cert.AdamwOut0Ideal.main_v0_3)),
      θ_run (Cert.AdamwOut0Ideal.defs (F := Ideal)) (onTc (τ := Cert.AdamwOut0Ideal.τ) (Cert.AdamwOut0Ideal.main (F := Ideal))) ⟨m, fun _ => 0, g⟩ (fun r => ∀ c : Dev Cert.AdamwOut0Ideal.nD,
          r.2.mem ((c.tc : Thread Cert.AdamwOut0Ideal.nD Cert.AdamwOut0Ideal.τ).loc Cert.AdamwOut0Ideal.main_v0_0) = v0 c
          ∧ r.2.mem ((c.tc : Thread Cert.AdamwOut0Ideal.nD Cert.AdamwOut0Ideal.τ).loc Cert.AdamwOut0Ideal.main_v0_1) = v1 c
          ∧ r.2.mem ((c.tc : Thread Cert.AdamwOut0Ideal.nD Cert.AdamwOut0Ideal.τ).loc Cert.AdamwOut0Ideal.main_v0_2) = v2 c
          ∧ r.2.mem ((c.tc : Thread Cert.AdamwOut0Ideal.nD Cert.AdamwOut0Ideal.τ).loc Cert.AdamwOut0Ideal.main_v0_3) = v3 c
          ∧ r.2.mem ((c.tc : Thread Cert.AdamwOut0Ideal.nD Cert.AdamwOut0Ideal.τ).loc Cert.AdamwOut0Ideal.main_arg0) = m ((c.tc : Thread Cert.AdamwOut0Ideal.nD Cert.AdamwOut0Ideal.τ).loc Cert.AdamwOut0Ideal.main_arg0)
          ∧ r.2.mem ((c.tc : Thread Cert.AdamwOut0Ideal.nD Cert.AdamwOut0Ideal.τ).loc Cert.AdamwOut0Ideal.main_arg1) = m ((c.tc : Thread Cert.AdamwOut0Ideal.nD Cert.AdamwOut0Ideal.τ).loc Cert.AdamwOut0Ideal.main_arg1)
          ∧ r.2.mem ((c.tc : Thread Cert.AdamwOut0Ideal.nD Cert.AdamwOut0Ideal.τ).loc Cert.AdamwOut0Ideal.main_arg2) = m ((c.tc : Thread Cert.AdamwOut0Ideal.nD Cert.AdamwOut0Ideal.τ).loc Cert.AdamwOut0Ideal.main_arg2)
          ∧ r.2.mem ((c.tc : Thread Cert.AdamwOut0Ideal.nD Cert.AdamwOut0Ideal.τ).loc Cert.AdamwOut0Ideal.main_arg3) = m ((c.tc : Thread Cert.AdamwOut0Ideal.nD Cert.AdamwOut0Ideal.τ).loc Cert.AdamwOut0Ideal.main_arg3)
          ∧ r.2.mem ((c.tc : Thread Cert.AdamwOut0Ideal.nD Cert.AdamwOut0Ideal.τ).loc Cert.AdamwOut0Ideal.main_arg4) = m ((c.tc : Thread Cert.AdamwOut0Ideal.nD Cert.AdamwOut0Ideal.τ).loc Cert.AdamwOut0Ideal.main_arg4)
          ∧ r.2.mem ((c.tc : Thread Cert.AdamwOut0Ideal.nD Cert.AdamwOut0Ideal.τ).loc Cert.AdamwOut0Ideal.main_arg5) = m ((c.tc : Thread Cert.AdamwOut0Ideal.nD Cert.AdamwOut0Ideal.τ).loc Cert.AdamwOut0Ideal.main_arg5)
          ∧ r.2.mem ((c.tc : Thread Cert.AdamwOut0Ideal.nD Cert.AdamwOut0Ideal.τ).loc Cert.AdamwOut0Ideal.main_arg6) = m ((c.tc : Thread Cert.AdamwOut0Ideal.nD Cert.AdamwOut0Ideal.τ).loc Cert.AdamwOut0Ideal.main_arg6)
          ∧ r.2.mem ((c.tc : Thread Cert.AdamwOut0Ideal.nD Cert.AdamwOut0Ideal.τ).loc Cert.AdamwOut0Ideal.main_arg7) = m ((c.tc : Thread Cert.AdamwOut0Ideal.nD Cert.AdamwOut0Ideal.τ).loc Cert.AdamwOut0Ideal.main_arg7))
      ∧ θ_run (Cert.AdamwOut0RefIdeal.defs (F := Ideal)) (onTc (τ := Cert.AdamwOut0RefIdeal.τ) (Cert.AdamwOut0RefIdeal.main (F := Ideal))) ⟨m', fun _ => 0, g'⟩ (fun r => ∀ c : Dev Cert.AdamwOut0RefIdeal.nD,
          r.2.mem ((c.tc : Thread Cert.AdamwOut0RefIdeal.nD Cert.AdamwOut0RefIdeal.τ).loc Cert.AdamwOut0RefIdeal.main_v34) = v0 c
          ∧ r.2.mem ((c.tc : Thread Cert.AdamwOut0RefIdeal.nD Cert.AdamwOut0RefIdeal.τ).loc Cert.AdamwOut0RefIdeal.main_v39) = v1 c
          ∧ r.2.mem ((c.tc : Thread Cert.AdamwOut0RefIdeal.nD Cert.AdamwOut0RefIdeal.τ).loc Cert.AdamwOut0RefIdeal.main_v44) = v2 c
          ∧ r.2.mem ((c.tc : Thread Cert.AdamwOut0RefIdeal.nD Cert.AdamwOut0RefIdeal.τ).loc Cert.AdamwOut0RefIdeal.main_v49) = v3 c
          ∧ r.2.mem ((c.tc : Thread Cert.AdamwOut0RefIdeal.nD Cert.AdamwOut0RefIdeal.τ).loc Cert.AdamwOut0RefIdeal.main_arg0) = m' ((c.tc : Thread Cert.AdamwOut0RefIdeal.nD Cert.AdamwOut0RefIdeal.τ).loc Cert.AdamwOut0RefIdeal.main_arg0)
          ∧ r.2.mem ((c.tc : Thread Cert.AdamwOut0RefIdeal.nD Cert.AdamwOut0RefIdeal.τ).loc Cert.AdamwOut0RefIdeal.main_arg1) = m' ((c.tc : Thread Cert.AdamwOut0RefIdeal.nD Cert.AdamwOut0RefIdeal.τ).loc Cert.AdamwOut0RefIdeal.main_arg1)
          ∧ r.2.mem ((c.tc : Thread Cert.AdamwOut0RefIdeal.nD Cert.AdamwOut0RefIdeal.τ).loc Cert.AdamwOut0RefIdeal.main_arg2) = m' ((c.tc : Thread Cert.AdamwOut0RefIdeal.nD Cert.AdamwOut0RefIdeal.τ).loc Cert.AdamwOut0RefIdeal.main_arg2)
          ∧ r.2.mem ((c.tc : Thread Cert.AdamwOut0RefIdeal.nD Cert.AdamwOut0RefIdeal.τ).loc Cert.AdamwOut0RefIdeal.main_arg3) = m' ((c.tc : Thread Cert.AdamwOut0RefIdeal.nD Cert.AdamwOut0RefIdeal.τ).loc Cert.AdamwOut0RefIdeal.main_arg3)
          ∧ r.2.mem ((c.tc : Thread Cert.AdamwOut0RefIdeal.nD Cert.AdamwOut0RefIdeal.τ).loc Cert.AdamwOut0RefIdeal.main_arg4) = m' ((c.tc : Thread Cert.AdamwOut0RefIdeal.nD Cert.AdamwOut0RefIdeal.τ).loc Cert.AdamwOut0RefIdeal.main_arg4)
          ∧ r.2.mem ((c.tc : Thread Cert.AdamwOut0RefIdeal.nD Cert.AdamwOut0RefIdeal.τ).loc Cert.AdamwOut0RefIdeal.main_arg5) = m' ((c.tc : Thread Cert.AdamwOut0RefIdeal.nD Cert.AdamwOut0RefIdeal.τ).loc Cert.AdamwOut0RefIdeal.main_arg5)
          ∧ r.2.mem ((c.tc : Thread Cert.AdamwOut0RefIdeal.nD Cert.AdamwOut0RefIdeal.τ).loc Cert.AdamwOut0RefIdeal.main_arg6) = m' ((c.tc : Thread Cert.AdamwOut0RefIdeal.nD Cert.AdamwOut0RefIdeal.τ).loc Cert.AdamwOut0RefIdeal.main_arg6)
          ∧ r.2.mem ((c.tc : Thread Cert.AdamwOut0RefIdeal.nD Cert.AdamwOut0RefIdeal.τ).loc Cert.AdamwOut0RefIdeal.main_arg7) = m' ((c.tc : Thread Cert.AdamwOut0RefIdeal.nD Cert.AdamwOut0RefIdeal.τ).loc Cert.AdamwOut0RefIdeal.main_arg7))

def preserves_AdamwFf2_AdamwFf2Ideal : Prop :=
  True

def algebraic_AdamwFf2Ideal_AdamwFf2RefIdeal [hAdamwFf2Ideal : Cert.AdamwFf2Ideal.Facts] [hAdamwFf2RefIdeal : Cert.AdamwFf2RefIdeal.Facts] : Prop :=
  ∀ (m : (ℓ : Loc Cert.AdamwFf2Ideal.nD Cert.AdamwFf2Ideal.τ Cert.AdamwFf2Ideal.sig) → Buf (Elt Ideal) ℓ) (g : Dev Cert.AdamwFf2Ideal.nD → PrngReg)
    (m' : (ℓ : Loc Cert.AdamwFf2RefIdeal.nD Cert.AdamwFf2RefIdeal.τ Cert.AdamwFf2RefIdeal.sig) → Buf (Elt Ideal) ℓ) (g' : Dev Cert.AdamwFf2RefIdeal.nD → PrngReg), Pre_AdamwFf2Ideal m →
    (∀ c : Dev Cert.AdamwFf2Ideal.nD,
      m' ((c.tc : Thread Cert.AdamwFf2RefIdeal.nD Cert.AdamwFf2RefIdeal.τ).loc Cert.AdamwFf2RefIdeal.main_arg0) = m ((c.tc : Thread Cert.AdamwFf2Ideal.nD Cert.AdamwFf2Ideal.τ).loc Cert.AdamwFf2Ideal.main_arg0)
      ∧ m' ((c.tc : Thread Cert.AdamwFf2RefIdeal.nD Cert.AdamwFf2RefIdeal.τ).loc Cert.AdamwFf2RefIdeal.main_arg1) = m ((c.tc : Thread Cert.AdamwFf2Ideal.nD Cert.AdamwFf2Ideal.τ).loc Cert.AdamwFf2Ideal.main_arg1)
      ∧ m' ((c.tc : Thread Cert.AdamwFf2RefIdeal.nD Cert.AdamwFf2RefIdeal.τ).loc Cert.AdamwFf2RefIdeal.main_arg2) = m ((c.tc : Thread Cert.AdamwFf2Ideal.nD Cert.AdamwFf2Ideal.τ).loc Cert.AdamwFf2Ideal.main_arg2)
      ∧ m' ((c.tc : Thread Cert.AdamwFf2RefIdeal.nD Cert.AdamwFf2RefIdeal.τ).loc Cert.AdamwFf2RefIdeal.main_arg3) = m ((c.tc : Thread Cert.AdamwFf2Ideal.nD Cert.AdamwFf2Ideal.τ).loc Cert.AdamwFf2Ideal.main_arg3)
      ∧ m' ((c.tc : Thread Cert.AdamwFf2RefIdeal.nD Cert.AdamwFf2RefIdeal.τ).loc Cert.AdamwFf2RefIdeal.main_arg4) = m ((c.tc : Thread Cert.AdamwFf2Ideal.nD Cert.AdamwFf2Ideal.τ).loc Cert.AdamwFf2Ideal.main_arg4)
      ∧ m' ((c.tc : Thread Cert.AdamwFf2RefIdeal.nD Cert.AdamwFf2RefIdeal.τ).loc Cert.AdamwFf2RefIdeal.main_arg5) = m ((c.tc : Thread Cert.AdamwFf2Ideal.nD Cert.AdamwFf2Ideal.τ).loc Cert.AdamwFf2Ideal.main_arg5)
      ∧ m' ((c.tc : Thread Cert.AdamwFf2RefIdeal.nD Cert.AdamwFf2RefIdeal.τ).loc Cert.AdamwFf2RefIdeal.main_arg6) = m ((c.tc : Thread Cert.AdamwFf2Ideal.nD Cert.AdamwFf2Ideal.τ).loc Cert.AdamwFf2Ideal.main_arg6)
      ∧ m' ((c.tc : Thread Cert.AdamwFf2RefIdeal.nD Cert.AdamwFf2RefIdeal.τ).loc Cert.AdamwFf2RefIdeal.main_arg7) = m ((c.tc : Thread Cert.AdamwFf2Ideal.nD Cert.AdamwFf2Ideal.τ).loc Cert.AdamwFf2Ideal.main_arg7)) →
    ∃ (v0 : (c : Dev Cert.AdamwFf2Ideal.nD) → Buf (Elt Ideal) ((c.tc : Thread Cert.AdamwFf2Ideal.nD Cert.AdamwFf2Ideal.τ).loc Cert.AdamwFf2Ideal.main_v0_0)) (v1 : (c : Dev Cert.AdamwFf2Ideal.nD) → Buf (Elt Ideal) ((c.tc : Thread Cert.AdamwFf2Ideal.nD Cert.AdamwFf2Ideal.τ).loc Cert.AdamwFf2Ideal.main_v0_1)) (v2 : (c : Dev Cert.AdamwFf2Ideal.nD) → Buf (Elt Ideal) ((c.tc : Thread Cert.AdamwFf2Ideal.nD Cert.AdamwFf2Ideal.τ).loc Cert.AdamwFf2Ideal.main_v0_2)) (v3 : (c : Dev Cert.AdamwFf2Ideal.nD) → Buf (Elt Ideal) ((c.tc : Thread Cert.AdamwFf2Ideal.nD Cert.AdamwFf2Ideal.τ).loc Cert.AdamwFf2Ideal.main_v0_3)),
      θ_run (Cert.AdamwFf2Ideal.defs (F := Ideal)) (onTc (τ := Cert.AdamwFf2Ideal.τ) (Cert.AdamwFf2Ideal.main (F := Ideal))) ⟨m, fun _ => 0, g⟩ (fun r => ∀ c : Dev Cert.AdamwFf2Ideal.nD,
          r.2.mem ((c.tc : Thread Cert.AdamwFf2Ideal.nD Cert.AdamwFf2Ideal.τ).loc Cert.AdamwFf2Ideal.main_v0_0) = v0 c
          ∧ r.2.mem ((c.tc : Thread Cert.AdamwFf2Ideal.nD Cert.AdamwFf2Ideal.τ).loc Cert.AdamwFf2Ideal.main_v0_1) = v1 c
          ∧ r.2.mem ((c.tc : Thread Cert.AdamwFf2Ideal.nD Cert.AdamwFf2Ideal.τ).loc Cert.AdamwFf2Ideal.main_v0_2) = v2 c
          ∧ r.2.mem ((c.tc : Thread Cert.AdamwFf2Ideal.nD Cert.AdamwFf2Ideal.τ).loc Cert.AdamwFf2Ideal.main_v0_3) = v3 c
          ∧ r.2.mem ((c.tc : Thread Cert.AdamwFf2Ideal.nD Cert.AdamwFf2Ideal.τ).loc Cert.AdamwFf2Ideal.main_arg0) = m ((c.tc : Thread Cert.AdamwFf2Ideal.nD Cert.AdamwFf2Ideal.τ).loc Cert.AdamwFf2Ideal.main_arg0)
          ∧ r.2.mem ((c.tc : Thread Cert.AdamwFf2Ideal.nD Cert.AdamwFf2Ideal.τ).loc Cert.AdamwFf2Ideal.main_arg1) = m ((c.tc : Thread Cert.AdamwFf2Ideal.nD Cert.AdamwFf2Ideal.τ).loc Cert.AdamwFf2Ideal.main_arg1)
          ∧ r.2.mem ((c.tc : Thread Cert.AdamwFf2Ideal.nD Cert.AdamwFf2Ideal.τ).loc Cert.AdamwFf2Ideal.main_arg2) = m ((c.tc : Thread Cert.AdamwFf2Ideal.nD Cert.AdamwFf2Ideal.τ).loc Cert.AdamwFf2Ideal.main_arg2)
          ∧ r.2.mem ((c.tc : Thread Cert.AdamwFf2Ideal.nD Cert.AdamwFf2Ideal.τ).loc Cert.AdamwFf2Ideal.main_arg3) = m ((c.tc : Thread Cert.AdamwFf2Ideal.nD Cert.AdamwFf2Ideal.τ).loc Cert.AdamwFf2Ideal.main_arg3)
          ∧ r.2.mem ((c.tc : Thread Cert.AdamwFf2Ideal.nD Cert.AdamwFf2Ideal.τ).loc Cert.AdamwFf2Ideal.main_arg4) = m ((c.tc : Thread Cert.AdamwFf2Ideal.nD Cert.AdamwFf2Ideal.τ).loc Cert.AdamwFf2Ideal.main_arg4)
          ∧ r.2.mem ((c.tc : Thread Cert.AdamwFf2Ideal.nD Cert.AdamwFf2Ideal.τ).loc Cert.AdamwFf2Ideal.main_arg5) = m ((c.tc : Thread Cert.AdamwFf2Ideal.nD Cert.AdamwFf2Ideal.τ).loc Cert.AdamwFf2Ideal.main_arg5)
          ∧ r.2.mem ((c.tc : Thread Cert.AdamwFf2Ideal.nD Cert.AdamwFf2Ideal.τ).loc Cert.AdamwFf2Ideal.main_arg6) = m ((c.tc : Thread Cert.AdamwFf2Ideal.nD Cert.AdamwFf2Ideal.τ).loc Cert.AdamwFf2Ideal.main_arg6)
          ∧ r.2.mem ((c.tc : Thread Cert.AdamwFf2Ideal.nD Cert.AdamwFf2Ideal.τ).loc Cert.AdamwFf2Ideal.main_arg7) = m ((c.tc : Thread Cert.AdamwFf2Ideal.nD Cert.AdamwFf2Ideal.τ).loc Cert.AdamwFf2Ideal.main_arg7))
      ∧ θ_run (Cert.AdamwFf2RefIdeal.defs (F := Ideal)) (onTc (τ := Cert.AdamwFf2RefIdeal.τ) (Cert.AdamwFf2RefIdeal.main (F := Ideal))) ⟨m', fun _ => 0, g'⟩ (fun r => ∀ c : Dev Cert.AdamwFf2RefIdeal.nD,
          r.2.mem ((c.tc : Thread Cert.AdamwFf2RefIdeal.nD Cert.AdamwFf2RefIdeal.τ).loc Cert.AdamwFf2RefIdeal.main_v34) = v0 c
          ∧ r.2.mem ((c.tc : Thread Cert.AdamwFf2RefIdeal.nD Cert.AdamwFf2RefIdeal.τ).loc Cert.AdamwFf2RefIdeal.main_v39) = v1 c
          ∧ r.2.mem ((c.tc : Thread Cert.AdamwFf2RefIdeal.nD Cert.AdamwFf2RefIdeal.τ).loc Cert.AdamwFf2RefIdeal.main_v44) = v2 c
          ∧ r.2.mem ((c.tc : Thread Cert.AdamwFf2RefIdeal.nD Cert.AdamwFf2RefIdeal.τ).loc Cert.AdamwFf2RefIdeal.main_v49) = v3 c
          ∧ r.2.mem ((c.tc : Thread Cert.AdamwFf2RefIdeal.nD Cert.AdamwFf2RefIdeal.τ).loc Cert.AdamwFf2RefIdeal.main_arg0) = m' ((c.tc : Thread Cert.AdamwFf2RefIdeal.nD Cert.AdamwFf2RefIdeal.τ).loc Cert.AdamwFf2RefIdeal.main_arg0)
          ∧ r.2.mem ((c.tc : Thread Cert.AdamwFf2RefIdeal.nD Cert.AdamwFf2RefIdeal.τ).loc Cert.AdamwFf2RefIdeal.main_arg1) = m' ((c.tc : Thread Cert.AdamwFf2RefIdeal.nD Cert.AdamwFf2RefIdeal.τ).loc Cert.AdamwFf2RefIdeal.main_arg1)
          ∧ r.2.mem ((c.tc : Thread Cert.AdamwFf2RefIdeal.nD Cert.AdamwFf2RefIdeal.τ).loc Cert.AdamwFf2RefIdeal.main_arg2) = m' ((c.tc : Thread Cert.AdamwFf2RefIdeal.nD Cert.AdamwFf2RefIdeal.τ).loc Cert.AdamwFf2RefIdeal.main_arg2)
          ∧ r.2.mem ((c.tc : Thread Cert.AdamwFf2RefIdeal.nD Cert.AdamwFf2RefIdeal.τ).loc Cert.AdamwFf2RefIdeal.main_arg3) = m' ((c.tc : Thread Cert.AdamwFf2RefIdeal.nD Cert.AdamwFf2RefIdeal.τ).loc Cert.AdamwFf2RefIdeal.main_arg3)
          ∧ r.2.mem ((c.tc : Thread Cert.AdamwFf2RefIdeal.nD Cert.AdamwFf2RefIdeal.τ).loc Cert.AdamwFf2RefIdeal.main_arg4) = m' ((c.tc : Thread Cert.AdamwFf2RefIdeal.nD Cert.AdamwFf2RefIdeal.τ).loc Cert.AdamwFf2RefIdeal.main_arg4)
          ∧ r.2.mem ((c.tc : Thread Cert.AdamwFf2RefIdeal.nD Cert.AdamwFf2RefIdeal.τ).loc Cert.AdamwFf2RefIdeal.main_arg5) = m' ((c.tc : Thread Cert.AdamwFf2RefIdeal.nD Cert.AdamwFf2RefIdeal.τ).loc Cert.AdamwFf2RefIdeal.main_arg5)
          ∧ r.2.mem ((c.tc : Thread Cert.AdamwFf2RefIdeal.nD Cert.AdamwFf2RefIdeal.τ).loc Cert.AdamwFf2RefIdeal.main_arg6) = m' ((c.tc : Thread Cert.AdamwFf2RefIdeal.nD Cert.AdamwFf2RefIdeal.τ).loc Cert.AdamwFf2RefIdeal.main_arg6)
          ∧ r.2.mem ((c.tc : Thread Cert.AdamwFf2RefIdeal.nD Cert.AdamwFf2RefIdeal.τ).loc Cert.AdamwFf2RefIdeal.main_arg7) = m' ((c.tc : Thread Cert.AdamwFf2RefIdeal.nD Cert.AdamwFf2RefIdeal.τ).loc Cert.AdamwFf2RefIdeal.main_arg7))

def preserves_AdamwIn0_AdamwIn0Ideal : Prop :=
  True

def algebraic_AdamwIn0Ideal_AdamwIn0RefIdeal [hAdamwIn0Ideal : Cert.AdamwIn0Ideal.Facts] [hAdamwIn0RefIdeal : Cert.AdamwIn0RefIdeal.Facts] : Prop :=
  ∀ (m : (ℓ : Loc Cert.AdamwIn0Ideal.nD Cert.AdamwIn0Ideal.τ Cert.AdamwIn0Ideal.sig) → Buf (Elt Ideal) ℓ) (g : Dev Cert.AdamwIn0Ideal.nD → PrngReg)
    (m' : (ℓ : Loc Cert.AdamwIn0RefIdeal.nD Cert.AdamwIn0RefIdeal.τ Cert.AdamwIn0RefIdeal.sig) → Buf (Elt Ideal) ℓ) (g' : Dev Cert.AdamwIn0RefIdeal.nD → PrngReg), Pre_AdamwIn0Ideal m →
    (∀ c : Dev Cert.AdamwIn0Ideal.nD,
      m' ((c.tc : Thread Cert.AdamwIn0RefIdeal.nD Cert.AdamwIn0RefIdeal.τ).loc Cert.AdamwIn0RefIdeal.main_arg0) = m ((c.tc : Thread Cert.AdamwIn0Ideal.nD Cert.AdamwIn0Ideal.τ).loc Cert.AdamwIn0Ideal.main_arg0)
      ∧ m' ((c.tc : Thread Cert.AdamwIn0RefIdeal.nD Cert.AdamwIn0RefIdeal.τ).loc Cert.AdamwIn0RefIdeal.main_arg1) = m ((c.tc : Thread Cert.AdamwIn0Ideal.nD Cert.AdamwIn0Ideal.τ).loc Cert.AdamwIn0Ideal.main_arg1)
      ∧ m' ((c.tc : Thread Cert.AdamwIn0RefIdeal.nD Cert.AdamwIn0RefIdeal.τ).loc Cert.AdamwIn0RefIdeal.main_arg2) = m ((c.tc : Thread Cert.AdamwIn0Ideal.nD Cert.AdamwIn0Ideal.τ).loc Cert.AdamwIn0Ideal.main_arg2)
      ∧ m' ((c.tc : Thread Cert.AdamwIn0RefIdeal.nD Cert.AdamwIn0RefIdeal.τ).loc Cert.AdamwIn0RefIdeal.main_arg3) = m ((c.tc : Thread Cert.AdamwIn0Ideal.nD Cert.AdamwIn0Ideal.τ).loc Cert.AdamwIn0Ideal.main_arg3)
      ∧ m' ((c.tc : Thread Cert.AdamwIn0RefIdeal.nD Cert.AdamwIn0RefIdeal.τ).loc Cert.AdamwIn0RefIdeal.main_arg4) = m ((c.tc : Thread Cert.AdamwIn0Ideal.nD Cert.AdamwIn0Ideal.τ).loc Cert.AdamwIn0Ideal.main_arg4)
      ∧ m' ((c.tc : Thread Cert.AdamwIn0RefIdeal.nD Cert.AdamwIn0RefIdeal.τ).loc Cert.AdamwIn0RefIdeal.main_arg5) = m ((c.tc : Thread Cert.AdamwIn0Ideal.nD Cert.AdamwIn0Ideal.τ).loc Cert.AdamwIn0Ideal.main_arg5)
      ∧ m' ((c.tc : Thread Cert.AdamwIn0RefIdeal.nD Cert.AdamwIn0RefIdeal.τ).loc Cert.AdamwIn0RefIdeal.main_arg6) = m ((c.tc : Thread Cert.AdamwIn0Ideal.nD Cert.AdamwIn0Ideal.τ).loc Cert.AdamwIn0Ideal.main_arg6)
      ∧ m' ((c.tc : Thread Cert.AdamwIn0RefIdeal.nD Cert.AdamwIn0RefIdeal.τ).loc Cert.AdamwIn0RefIdeal.main_arg7) = m ((c.tc : Thread Cert.AdamwIn0Ideal.nD Cert.AdamwIn0Ideal.τ).loc Cert.AdamwIn0Ideal.main_arg7)) →
    ∃ (v0 : (c : Dev Cert.AdamwIn0Ideal.nD) → Buf (Elt Ideal) ((c.tc : Thread Cert.AdamwIn0Ideal.nD Cert.AdamwIn0Ideal.τ).loc Cert.AdamwIn0Ideal.main_v0_0)) (v1 : (c : Dev Cert.AdamwIn0Ideal.nD) → Buf (Elt Ideal) ((c.tc : Thread Cert.AdamwIn0Ideal.nD Cert.AdamwIn0Ideal.τ).loc Cert.AdamwIn0Ideal.main_v0_1)) (v2 : (c : Dev Cert.AdamwIn0Ideal.nD) → Buf (Elt Ideal) ((c.tc : Thread Cert.AdamwIn0Ideal.nD Cert.AdamwIn0Ideal.τ).loc Cert.AdamwIn0Ideal.main_v0_2)) (v3 : (c : Dev Cert.AdamwIn0Ideal.nD) → Buf (Elt Ideal) ((c.tc : Thread Cert.AdamwIn0Ideal.nD Cert.AdamwIn0Ideal.τ).loc Cert.AdamwIn0Ideal.main_v0_3)),
      θ_run (Cert.AdamwIn0Ideal.defs (F := Ideal)) (onTc (τ := Cert.AdamwIn0Ideal.τ) (Cert.AdamwIn0Ideal.main (F := Ideal))) ⟨m, fun _ => 0, g⟩ (fun r => ∀ c : Dev Cert.AdamwIn0Ideal.nD,
          r.2.mem ((c.tc : Thread Cert.AdamwIn0Ideal.nD Cert.AdamwIn0Ideal.τ).loc Cert.AdamwIn0Ideal.main_v0_0) = v0 c
          ∧ r.2.mem ((c.tc : Thread Cert.AdamwIn0Ideal.nD Cert.AdamwIn0Ideal.τ).loc Cert.AdamwIn0Ideal.main_v0_1) = v1 c
          ∧ r.2.mem ((c.tc : Thread Cert.AdamwIn0Ideal.nD Cert.AdamwIn0Ideal.τ).loc Cert.AdamwIn0Ideal.main_v0_2) = v2 c
          ∧ r.2.mem ((c.tc : Thread Cert.AdamwIn0Ideal.nD Cert.AdamwIn0Ideal.τ).loc Cert.AdamwIn0Ideal.main_v0_3) = v3 c
          ∧ r.2.mem ((c.tc : Thread Cert.AdamwIn0Ideal.nD Cert.AdamwIn0Ideal.τ).loc Cert.AdamwIn0Ideal.main_arg0) = m ((c.tc : Thread Cert.AdamwIn0Ideal.nD Cert.AdamwIn0Ideal.τ).loc Cert.AdamwIn0Ideal.main_arg0)
          ∧ r.2.mem ((c.tc : Thread Cert.AdamwIn0Ideal.nD Cert.AdamwIn0Ideal.τ).loc Cert.AdamwIn0Ideal.main_arg1) = m ((c.tc : Thread Cert.AdamwIn0Ideal.nD Cert.AdamwIn0Ideal.τ).loc Cert.AdamwIn0Ideal.main_arg1)
          ∧ r.2.mem ((c.tc : Thread Cert.AdamwIn0Ideal.nD Cert.AdamwIn0Ideal.τ).loc Cert.AdamwIn0Ideal.main_arg2) = m ((c.tc : Thread Cert.AdamwIn0Ideal.nD Cert.AdamwIn0Ideal.τ).loc Cert.AdamwIn0Ideal.main_arg2)
          ∧ r.2.mem ((c.tc : Thread Cert.AdamwIn0Ideal.nD Cert.AdamwIn0Ideal.τ).loc Cert.AdamwIn0Ideal.main_arg3) = m ((c.tc : Thread Cert.AdamwIn0Ideal.nD Cert.AdamwIn0Ideal.τ).loc Cert.AdamwIn0Ideal.main_arg3)
          ∧ r.2.mem ((c.tc : Thread Cert.AdamwIn0Ideal.nD Cert.AdamwIn0Ideal.τ).loc Cert.AdamwIn0Ideal.main_arg4) = m ((c.tc : Thread Cert.AdamwIn0Ideal.nD Cert.AdamwIn0Ideal.τ).loc Cert.AdamwIn0Ideal.main_arg4)
          ∧ r.2.mem ((c.tc : Thread Cert.AdamwIn0Ideal.nD Cert.AdamwIn0Ideal.τ).loc Cert.AdamwIn0Ideal.main_arg5) = m ((c.tc : Thread Cert.AdamwIn0Ideal.nD Cert.AdamwIn0Ideal.τ).loc Cert.AdamwIn0Ideal.main_arg5)
          ∧ r.2.mem ((c.tc : Thread Cert.AdamwIn0Ideal.nD Cert.AdamwIn0Ideal.τ).loc Cert.AdamwIn0Ideal.main_arg6) = m ((c.tc : Thread Cert.AdamwIn0Ideal.nD Cert.AdamwIn0Ideal.τ).loc Cert.AdamwIn0Ideal.main_arg6)
          ∧ r.2.mem ((c.tc : Thread Cert.AdamwIn0Ideal.nD Cert.AdamwIn0Ideal.τ).loc Cert.AdamwIn0Ideal.main_arg7) = m ((c.tc : Thread Cert.AdamwIn0Ideal.nD Cert.AdamwIn0Ideal.τ).loc Cert.AdamwIn0Ideal.main_arg7))
      ∧ θ_run (Cert.AdamwIn0RefIdeal.defs (F := Ideal)) (onTc (τ := Cert.AdamwIn0RefIdeal.τ) (Cert.AdamwIn0RefIdeal.main (F := Ideal))) ⟨m', fun _ => 0, g'⟩ (fun r => ∀ c : Dev Cert.AdamwIn0RefIdeal.nD,
          r.2.mem ((c.tc : Thread Cert.AdamwIn0RefIdeal.nD Cert.AdamwIn0RefIdeal.τ).loc Cert.AdamwIn0RefIdeal.main_v34) = v0 c
          ∧ r.2.mem ((c.tc : Thread Cert.AdamwIn0RefIdeal.nD Cert.AdamwIn0RefIdeal.τ).loc Cert.AdamwIn0RefIdeal.main_v39) = v1 c
          ∧ r.2.mem ((c.tc : Thread Cert.AdamwIn0RefIdeal.nD Cert.AdamwIn0RefIdeal.τ).loc Cert.AdamwIn0RefIdeal.main_v44) = v2 c
          ∧ r.2.mem ((c.tc : Thread Cert.AdamwIn0RefIdeal.nD Cert.AdamwIn0RefIdeal.τ).loc Cert.AdamwIn0RefIdeal.main_v49) = v3 c
          ∧ r.2.mem ((c.tc : Thread Cert.AdamwIn0RefIdeal.nD Cert.AdamwIn0RefIdeal.τ).loc Cert.AdamwIn0RefIdeal.main_arg0) = m' ((c.tc : Thread Cert.AdamwIn0RefIdeal.nD Cert.AdamwIn0RefIdeal.τ).loc Cert.AdamwIn0RefIdeal.main_arg0)
          ∧ r.2.mem ((c.tc : Thread Cert.AdamwIn0RefIdeal.nD Cert.AdamwIn0RefIdeal.τ).loc Cert.AdamwIn0RefIdeal.main_arg1) = m' ((c.tc : Thread Cert.AdamwIn0RefIdeal.nD Cert.AdamwIn0RefIdeal.τ).loc Cert.AdamwIn0RefIdeal.main_arg1)
          ∧ r.2.mem ((c.tc : Thread Cert.AdamwIn0RefIdeal.nD Cert.AdamwIn0RefIdeal.τ).loc Cert.AdamwIn0RefIdeal.main_arg2) = m' ((c.tc : Thread Cert.AdamwIn0RefIdeal.nD Cert.AdamwIn0RefIdeal.τ).loc Cert.AdamwIn0RefIdeal.main_arg2)
          ∧ r.2.mem ((c.tc : Thread Cert.AdamwIn0RefIdeal.nD Cert.AdamwIn0RefIdeal.τ).loc Cert.AdamwIn0RefIdeal.main_arg3) = m' ((c.tc : Thread Cert.AdamwIn0RefIdeal.nD Cert.AdamwIn0RefIdeal.τ).loc Cert.AdamwIn0RefIdeal.main_arg3)
          ∧ r.2.mem ((c.tc : Thread Cert.AdamwIn0RefIdeal.nD Cert.AdamwIn0RefIdeal.τ).loc Cert.AdamwIn0RefIdeal.main_arg4) = m' ((c.tc : Thread Cert.AdamwIn0RefIdeal.nD Cert.AdamwIn0RefIdeal.τ).loc Cert.AdamwIn0RefIdeal.main_arg4)
          ∧ r.2.mem ((c.tc : Thread Cert.AdamwIn0RefIdeal.nD Cert.AdamwIn0RefIdeal.τ).loc Cert.AdamwIn0RefIdeal.main_arg5) = m' ((c.tc : Thread Cert.AdamwIn0RefIdeal.nD Cert.AdamwIn0RefIdeal.τ).loc Cert.AdamwIn0RefIdeal.main_arg5)
          ∧ r.2.mem ((c.tc : Thread Cert.AdamwIn0RefIdeal.nD Cert.AdamwIn0RefIdeal.τ).loc Cert.AdamwIn0RefIdeal.main_arg6) = m' ((c.tc : Thread Cert.AdamwIn0RefIdeal.nD Cert.AdamwIn0RefIdeal.τ).loc Cert.AdamwIn0RefIdeal.main_arg6)
          ∧ r.2.mem ((c.tc : Thread Cert.AdamwIn0RefIdeal.nD Cert.AdamwIn0RefIdeal.τ).loc Cert.AdamwIn0RefIdeal.main_arg7) = m' ((c.tc : Thread Cert.AdamwIn0RefIdeal.nD Cert.AdamwIn0RefIdeal.τ).loc Cert.AdamwIn0RefIdeal.main_arg7))

def preserves_AdamwConv_AdamwConvIdeal : Prop :=
  True

def algebraic_AdamwConvIdeal_AdamwConvRefIdeal [hAdamwConvIdeal : Cert.AdamwConvIdeal.Facts] [hAdamwConvRefIdeal : Cert.AdamwConvRefIdeal.Facts] : Prop :=
  ∀ (m : (ℓ : Loc Cert.AdamwConvIdeal.nD Cert.AdamwConvIdeal.τ Cert.AdamwConvIdeal.sig) → Buf (Elt Ideal) ℓ) (g : Dev Cert.AdamwConvIdeal.nD → PrngReg)
    (m' : (ℓ : Loc Cert.AdamwConvRefIdeal.nD Cert.AdamwConvRefIdeal.τ Cert.AdamwConvRefIdeal.sig) → Buf (Elt Ideal) ℓ) (g' : Dev Cert.AdamwConvRefIdeal.nD → PrngReg), Pre_AdamwConvIdeal m →
    (∀ c : Dev Cert.AdamwConvIdeal.nD,
      m' ((c.tc : Thread Cert.AdamwConvRefIdeal.nD Cert.AdamwConvRefIdeal.τ).loc Cert.AdamwConvRefIdeal.main_arg0) = m ((c.tc : Thread Cert.AdamwConvIdeal.nD Cert.AdamwConvIdeal.τ).loc Cert.AdamwConvIdeal.main_arg0)
      ∧ m' ((c.tc : Thread Cert.AdamwConvRefIdeal.nD Cert.AdamwConvRefIdeal.τ).loc Cert.AdamwConvRefIdeal.main_arg1) = m ((c.tc : Thread Cert.AdamwConvIdeal.nD Cert.AdamwConvIdeal.τ).loc Cert.AdamwConvIdeal.main_arg1)
      ∧ m' ((c.tc : Thread Cert.AdamwConvRefIdeal.nD Cert.AdamwConvRefIdeal.τ).loc Cert.AdamwConvRefIdeal.main_arg2) = m ((c.tc : Thread Cert.AdamwConvIdeal.nD Cert.AdamwConvIdeal.τ).loc Cert.AdamwConvIdeal.main_arg2)
      ∧ m' ((c.tc : Thread Cert.AdamwConvRefIdeal.nD Cert.AdamwConvRefIdeal.τ).loc Cert.AdamwConvRefIdeal.main_arg3) = m ((c.tc : Thread Cert.AdamwConvIdeal.nD Cert.AdamwConvIdeal.τ).loc Cert.AdamwConvIdeal.main_arg3)) →
    ∃ (v0 : (c : Dev Cert.AdamwConvIdeal.nD) → Buf (Elt Ideal) ((c.tc : Thread Cert.AdamwConvIdeal.nD Cert.AdamwConvIdeal.τ).loc Cert.AdamwConvIdeal.main_v4_0)) (v1 : (c : Dev Cert.AdamwConvIdeal.nD) → Buf (Elt Ideal) ((c.tc : Thread Cert.AdamwConvIdeal.nD Cert.AdamwConvIdeal.τ).loc Cert.AdamwConvIdeal.main_v4_1)) (v2 : (c : Dev Cert.AdamwConvIdeal.nD) → Buf (Elt Ideal) ((c.tc : Thread Cert.AdamwConvIdeal.nD Cert.AdamwConvIdeal.τ).loc Cert.AdamwConvIdeal.main_v4_2)),
      θ_run (Cert.AdamwConvIdeal.defs (F := Ideal)) (onTc (τ := Cert.AdamwConvIdeal.τ) (Cert.AdamwConvIdeal.main (F := Ideal))) ⟨m, fun _ => 0, g⟩ (fun r => ∀ c : Dev Cert.AdamwConvIdeal.nD,
          r.2.mem ((c.tc : Thread Cert.AdamwConvIdeal.nD Cert.AdamwConvIdeal.τ).loc Cert.AdamwConvIdeal.main_v4_0) = v0 c
          ∧ r.2.mem ((c.tc : Thread Cert.AdamwConvIdeal.nD Cert.AdamwConvIdeal.τ).loc Cert.AdamwConvIdeal.main_v4_1) = v1 c
          ∧ r.2.mem ((c.tc : Thread Cert.AdamwConvIdeal.nD Cert.AdamwConvIdeal.τ).loc Cert.AdamwConvIdeal.main_v4_2) = v2 c
          ∧ r.2.mem ((c.tc : Thread Cert.AdamwConvIdeal.nD Cert.AdamwConvIdeal.τ).loc Cert.AdamwConvIdeal.main_arg0) = m ((c.tc : Thread Cert.AdamwConvIdeal.nD Cert.AdamwConvIdeal.τ).loc Cert.AdamwConvIdeal.main_arg0)
          ∧ r.2.mem ((c.tc : Thread Cert.AdamwConvIdeal.nD Cert.AdamwConvIdeal.τ).loc Cert.AdamwConvIdeal.main_arg1) = m ((c.tc : Thread Cert.AdamwConvIdeal.nD Cert.AdamwConvIdeal.τ).loc Cert.AdamwConvIdeal.main_arg1)
          ∧ r.2.mem ((c.tc : Thread Cert.AdamwConvIdeal.nD Cert.AdamwConvIdeal.τ).loc Cert.AdamwConvIdeal.main_arg2) = m ((c.tc : Thread Cert.AdamwConvIdeal.nD Cert.AdamwConvIdeal.τ).loc Cert.AdamwConvIdeal.main_arg2)
          ∧ r.2.mem ((c.tc : Thread Cert.AdamwConvIdeal.nD Cert.AdamwConvIdeal.τ).loc Cert.AdamwConvIdeal.main_arg3) = m ((c.tc : Thread Cert.AdamwConvIdeal.nD Cert.AdamwConvIdeal.τ).loc Cert.AdamwConvIdeal.main_arg3))
      ∧ θ_run (Cert.AdamwConvRefIdeal.defs (F := Ideal)) (onTc (τ := Cert.AdamwConvRefIdeal.τ) (Cert.AdamwConvRefIdeal.main (F := Ideal))) ⟨m', fun _ => 0, g'⟩ (fun r => ∀ c : Dev Cert.AdamwConvRefIdeal.nD,
          r.2.mem ((c.tc : Thread Cert.AdamwConvRefIdeal.nD Cert.AdamwConvRefIdeal.τ).loc Cert.AdamwConvRefIdeal.main_v24) = v0 c
          ∧ r.2.mem ((c.tc : Thread Cert.AdamwConvRefIdeal.nD Cert.AdamwConvRefIdeal.τ).loc Cert.AdamwConvRefIdeal.main_v25) = v1 c
          ∧ r.2.mem ((c.tc : Thread Cert.AdamwConvRefIdeal.nD Cert.AdamwConvRefIdeal.τ).loc Cert.AdamwConvRefIdeal.main_v26) = v2 c
          ∧ r.2.mem ((c.tc : Thread Cert.AdamwConvRefIdeal.nD Cert.AdamwConvRefIdeal.τ).loc Cert.AdamwConvRefIdeal.main_arg0) = m' ((c.tc : Thread Cert.AdamwConvRefIdeal.nD Cert.AdamwConvRefIdeal.τ).loc Cert.AdamwConvRefIdeal.main_arg0)
          ∧ r.2.mem ((c.tc : Thread Cert.AdamwConvRefIdeal.nD Cert.AdamwConvRefIdeal.τ).loc Cert.AdamwConvRefIdeal.main_arg1) = m' ((c.tc : Thread Cert.AdamwConvRefIdeal.nD Cert.AdamwConvRefIdeal.τ).loc Cert.AdamwConvRefIdeal.main_arg1)
          ∧ r.2.mem ((c.tc : Thread Cert.AdamwConvRefIdeal.nD Cert.AdamwConvRefIdeal.τ).loc Cert.AdamwConvRefIdeal.main_arg2) = m' ((c.tc : Thread Cert.AdamwConvRefIdeal.nD Cert.AdamwConvRefIdeal.τ).loc Cert.AdamwConvRefIdeal.main_arg2)
          ∧ r.2.mem ((c.tc : Thread Cert.AdamwConvRefIdeal.nD Cert.AdamwConvRefIdeal.τ).loc Cert.AdamwConvRefIdeal.main_arg3) = m' ((c.tc : Thread Cert.AdamwConvRefIdeal.nD Cert.AdamwConvRefIdeal.τ).loc Cert.AdamwConvRefIdeal.main_arg3))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)
      ∧ m' ((c.tc : Thread Cert.MixFwdRefIdeal.nD Cert.MixFwdRefIdeal.τ).loc Cert.MixFwdRefIdeal.main_arg10) = m ((c.tc : Thread Cert.MixFwdIdeal.nD Cert.MixFwdIdeal.τ).loc Cert.MixFwdIdeal.main_arg10)) →
    ∃ (v0 : (c : Dev Cert.MixFwdIdeal.nD) → Buf (Elt Ideal) ((c.tc : Thread Cert.MixFwdIdeal.nD Cert.MixFwdIdeal.τ).loc Cert.MixFwdIdeal.main_v9_0)) (v1 : (c : Dev Cert.MixFwdIdeal.nD) → Buf (Elt Ideal) ((c.tc : Thread Cert.MixFwdIdeal.nD Cert.MixFwdIdeal.τ).loc Cert.MixFwdIdeal.main_v9_1)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v9_0) = v0 c
          ∧ r.2.mem ((c.tc : Thread Cert.MixFwdIdeal.nD Cert.MixFwdIdeal.τ).loc Cert.MixFwdIdeal.main_v9_1) = v1 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v423) = v0 c
          ∧ r.2.mem ((c.tc : Thread Cert.MixFwdRefIdeal.nD Cert.MixFwdRefIdeal.τ).loc Cert.MixFwdRefIdeal.main_v424) = v1 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9)
          ∧ r.2.mem ((c.tc : Thread Cert.MixFwdRefIdeal.nD Cert.MixFwdRefIdeal.τ).loc Cert.MixFwdRefIdeal.main_arg10) = m' ((c.tc : Thread Cert.MixFwdRefIdeal.nD Cert.MixFwdRefIdeal.τ).loc Cert.MixFwdRefIdeal.main_arg10))

def preserves_AdamwReplicated_AdamwReplicatedIdeal : Prop :=
  True

def algebraic_AdamwReplicatedIdeal_AdamwReplicatedRefIdeal [hAdamwReplicatedIdeal : Cert.AdamwReplicatedIdeal.Facts] [hAdamwReplicatedRefIdeal : Cert.AdamwReplicatedRefIdeal.Facts] : Prop :=
  ∀ (m : (ℓ : Loc Cert.AdamwReplicatedIdeal.nD Cert.AdamwReplicatedIdeal.τ Cert.AdamwReplicatedIdeal.sig) → Buf (Elt Ideal) ℓ) (g : Dev Cert.AdamwReplicatedIdeal.nD → PrngReg)
    (m' : (ℓ : Loc Cert.AdamwReplicatedRefIdeal.nD Cert.AdamwReplicatedRefIdeal.τ Cert.AdamwReplicatedRefIdeal.sig) → Buf (Elt Ideal) ℓ) (g' : Dev Cert.AdamwReplicatedRefIdeal.nD → PrngReg), Pre_AdamwReplicatedIdeal m →
    (∀ c : Dev Cert.AdamwReplicatedIdeal.nD,
      m' ((c.tc : Thread Cert.AdamwReplicatedRefIdeal.nD Cert.AdamwReplicatedRefIdeal.τ).loc Cert.AdamwReplicatedRefIdeal.main_arg0) = m ((c.tc : Thread Cert.AdamwReplicatedIdeal.nD Cert.AdamwReplicatedIdeal.τ).loc Cert.AdamwReplicatedIdeal.main_arg0)
      ∧ m' ((c.tc : Thread Cert.AdamwReplicatedRefIdeal.nD Cert.AdamwReplicatedRefIdeal.τ).loc Cert.AdamwReplicatedRefIdeal.main_arg1) = m ((c.tc : Thread Cert.AdamwReplicatedIdeal.nD Cert.AdamwReplicatedIdeal.τ).loc Cert.AdamwReplicatedIdeal.main_arg1)
      ∧ m' ((c.tc : Thread Cert.AdamwReplicatedRefIdeal.nD Cert.AdamwReplicatedRefIdeal.τ).loc Cert.AdamwReplicatedRefIdeal.main_arg2) = m ((c.tc : Thread Cert.AdamwReplicatedIdeal.nD Cert.AdamwReplicatedIdeal.τ).loc Cert.AdamwReplicatedIdeal.main_arg2)
      ∧ m' ((c.tc : Thread Cert.AdamwReplicatedRefIdeal.nD Cert.AdamwReplicatedRefIdeal.τ).loc Cert.AdamwReplicatedRefIdeal.main_arg3) = m ((c.tc : Thread Cert.AdamwReplicatedIdeal.nD Cert.AdamwReplicatedIdeal.τ).loc Cert.AdamwReplicatedIdeal.main_arg3)) →
    ∃ (v0 : (c : Dev Cert.AdamwReplicatedIdeal.nD) → Buf (Elt Ideal) ((c.tc : Thread Cert.AdamwReplicatedIdeal.nD Cert.AdamwReplicatedIdeal.τ).loc Cert.AdamwReplicatedIdeal.main_v0_0)) (v1 : (c : Dev Cert.AdamwReplicatedIdeal.nD) → Buf (Elt Ideal) ((c.tc : Thread Cert.AdamwReplicatedIdeal.nD Cert.AdamwReplicatedIdeal.τ).loc Cert.AdamwReplicatedIdeal.main_v0_1)) (v2 : (c : Dev Cert.AdamwReplicatedIdeal.nD) → Buf (Elt Ideal) ((c.tc : Thread Cert.AdamwReplicatedIdeal.nD Cert.AdamwReplicatedIdeal.τ).loc Cert.AdamwReplicatedIdeal.main_v0_2)),
      θ_run (Cert.AdamwReplicatedIdeal.defs (F := Ideal)) (onTc (τ := Cert.AdamwReplicatedIdeal.τ) (Cert.AdamwReplicatedIdeal.main (F := Ideal))) ⟨m, fun _ => 0, g⟩ (fun r => ∀ c : Dev Cert.AdamwReplicatedIdeal.nD,
          r.2.mem ((c.tc : Thread Cert.AdamwReplicatedIdeal.nD Cert.AdamwReplicatedIdeal.τ).loc Cert.AdamwReplicatedIdeal.main_v0_0) = v0 c
          ∧ r.2.mem ((c.tc : Thread Cert.AdamwReplicatedIdeal.nD Cert.AdamwReplicatedIdeal.τ).loc Cert.AdamwReplicatedIdeal.main_v0_1) = v1 c
          ∧ r.2.mem ((c.tc : Thread Cert.AdamwReplicatedIdeal.nD Cert.AdamwReplicatedIdeal.τ).loc Cert.AdamwReplicatedIdeal.main_v0_2) = v2 c
          ∧ r.2.mem ((c.tc : Thread Cert.AdamwReplicatedIdeal.nD Cert.AdamwReplicatedIdeal.τ).loc Cert.AdamwReplicatedIdeal.main_arg0) = m ((c.tc : Thread Cert.AdamwReplicatedIdeal.nD Cert.AdamwReplicatedIdeal.τ).loc Cert.AdamwReplicatedIdeal.main_arg0)
          ∧ r.2.mem ((c.tc : Thread Cert.AdamwReplicatedIdeal.nD Cert.AdamwReplicatedIdeal.τ).loc Cert.AdamwReplicatedIdeal.main_arg1) = m ((c.tc : Thread Cert.AdamwReplicatedIdeal.nD Cert.AdamwReplicatedIdeal.τ).loc Cert.AdamwReplicatedIdeal.main_arg1)
          ∧ r.2.mem ((c.tc : Thread Cert.AdamwReplicatedIdeal.nD Cert.AdamwReplicatedIdeal.τ).loc Cert.AdamwReplicatedIdeal.main_arg2) = m ((c.tc : Thread Cert.AdamwReplicatedIdeal.nD Cert.AdamwReplicatedIdeal.τ).loc Cert.AdamwReplicatedIdeal.main_arg2)
          ∧ r.2.mem ((c.tc : Thread Cert.AdamwReplicatedIdeal.nD Cert.AdamwReplicatedIdeal.τ).loc Cert.AdamwReplicatedIdeal.main_arg3) = m ((c.tc : Thread Cert.AdamwReplicatedIdeal.nD Cert.AdamwReplicatedIdeal.τ).loc Cert.AdamwReplicatedIdeal.main_arg3))
      ∧ θ_run (Cert.AdamwReplicatedRefIdeal.defs (F := Ideal)) (onTc (τ := Cert.AdamwReplicatedRefIdeal.τ) (Cert.AdamwReplicatedRefIdeal.main (F := Ideal))) ⟨m', fun _ => 0, g'⟩ (fun r => ∀ c : Dev Cert.AdamwReplicatedRefIdeal.nD,
          r.2.mem ((c.tc : Thread Cert.AdamwReplicatedRefIdeal.nD Cert.AdamwReplicatedRefIdeal.τ).loc Cert.AdamwReplicatedRefIdeal.main_v23) = v0 c
          ∧ r.2.mem ((c.tc : Thread Cert.AdamwReplicatedRefIdeal.nD Cert.AdamwReplicatedRefIdeal.τ).loc Cert.AdamwReplicatedRefIdeal.main_v4) = v1 c
          ∧ r.2.mem ((c.tc : Thread Cert.AdamwReplicatedRefIdeal.nD Cert.AdamwReplicatedRefIdeal.τ).loc Cert.AdamwReplicatedRefIdeal.main_v10) = v2 c
          ∧ r.2.mem ((c.tc : Thread Cert.AdamwReplicatedRefIdeal.nD Cert.AdamwReplicatedRefIdeal.τ).loc Cert.AdamwReplicatedRefIdeal.main_arg0) = m' ((c.tc : Thread Cert.AdamwReplicatedRefIdeal.nD Cert.AdamwReplicatedRefIdeal.τ).loc Cert.AdamwReplicatedRefIdeal.main_arg0)
          ∧ r.2.mem ((c.tc : Thread Cert.AdamwReplicatedRefIdeal.nD Cert.AdamwReplicatedRefIdeal.τ).loc Cert.AdamwReplicatedRefIdeal.main_arg1) = m' ((c.tc : Thread Cert.AdamwReplicatedRefIdeal.nD Cert.AdamwReplicatedRefIdeal.τ).loc Cert.AdamwReplicatedRefIdeal.main_arg1)
          ∧ r.2.mem ((c.tc : Thread Cert.AdamwReplicatedRefIdeal.nD Cert.AdamwReplicatedRefIdeal.τ).loc Cert.AdamwReplicatedRefIdeal.main_arg2) = m' ((c.tc : Thread Cert.AdamwReplicatedRefIdeal.nD Cert.AdamwReplicatedRefIdeal.τ).loc Cert.AdamwReplicatedRefIdeal.main_arg2)
          ∧ r.2.mem ((c.tc : Thread Cert.AdamwReplicatedRefIdeal.nD Cert.AdamwReplicatedRefIdeal.τ).loc Cert.AdamwReplicatedRefIdeal.main_arg3) = m' ((c.tc : Thread Cert.AdamwReplicatedRefIdeal.nD Cert.AdamwReplicatedRefIdeal.τ).loc Cert.AdamwReplicatedRefIdeal.main_arg3))

def preserves_Ln1Bwd_Ln1BwdIdeal : Prop :=
  True

def algebraic_Ln1BwdIdeal_Ln1BwdRefIdeal_on_ln1_bwd_sums [hLn1BwdIdeal : Cert.Ln1BwdIdeal.Facts] [hLn1BwdRefIdeal : Cert.Ln1BwdRefIdeal.Facts] [hOn_ln1_bwd_sums : Cert.On_ln1_bwd_sums.Facts] : Prop :=
  ∀ (m : (ℓ : Loc Cert.Ln1BwdIdeal.nD Cert.Ln1BwdIdeal.τ Cert.Ln1BwdIdeal.sig) → Buf (Elt Ideal) ℓ) (g : Dev Cert.Ln1BwdIdeal.nD → PrngReg)
    (m' : (ℓ : Loc Cert.Ln1BwdRefIdeal.nD Cert.Ln1BwdRefIdeal.τ Cert.Ln1BwdRefIdeal.sig) → Buf (Elt Ideal) ℓ) (g' : Dev Cert.Ln1BwdRefIdeal.nD → PrngReg), Pre_Ln1BwdIdeal m →
    (∀ c : Dev Cert.Ln1BwdIdeal.nD,
      m' ((c.tc : Thread Cert.Ln1BwdRefIdeal.nD Cert.Ln1BwdRefIdeal.τ).loc Cert.Ln1BwdRefIdeal.main_arg0) = m ((c.tc : Thread Cert.Ln1BwdIdeal.nD Cert.Ln1BwdIdeal.τ).loc Cert.Ln1BwdIdeal.main_arg0)
      ∧ m' ((c.tc : Thread Cert.Ln1BwdRefIdeal.nD Cert.Ln1BwdRefIdeal.τ).loc Cert.Ln1BwdRefIdeal.main_arg1) = m ((c.tc : Thread Cert.Ln1BwdIdeal.nD Cert.Ln1BwdIdeal.τ).loc Cert.Ln1BwdIdeal.main_arg1)
      ∧ m' ((c.tc : Thread Cert.Ln1BwdRefIdeal.nD Cert.Ln1BwdRefIdeal.τ).loc Cert.Ln1BwdRefIdeal.main_arg2) = m ((c.tc : Thread Cert.Ln1BwdIdeal.nD Cert.Ln1BwdIdeal.τ).loc Cert.Ln1BwdIdeal.main_arg2)
      ∧ m' ((c.tc : Thread Cert.Ln1BwdRefIdeal.nD Cert.Ln1BwdRefIdeal.τ).loc Cert.Ln1BwdRefIdeal.main_arg3) = m ((c.tc : Thread Cert.Ln1BwdIdeal.nD Cert.Ln1BwdIdeal.τ).loc Cert.Ln1BwdIdeal.main_arg3)
      ∧ m' ((c.tc : Thread Cert.Ln1BwdRefIdeal.nD Cert.Ln1BwdRefIdeal.τ).loc Cert.Ln1BwdRefIdeal.main_arg4) = m ((c.tc : Thread Cert.Ln1BwdIdeal.nD Cert.Ln1BwdIdeal.τ).loc Cert.Ln1BwdIdeal.main_arg4)
      ∧ m' ((c.tc : Thread Cert.Ln1BwdRefIdeal.nD Cert.Ln1BwdRefIdeal.τ).loc Cert.Ln1BwdRefIdeal.main_arg5) = m ((c.tc : Thread Cert.Ln1BwdIdeal.nD Cert.Ln1BwdIdeal.τ).loc Cert.Ln1BwdIdeal.main_arg5)) →
    ∃ (v0 : (c : Dev Cert.Ln1BwdIdeal.nD) → Buf (Elt Ideal) ((c.tc : Thread Cert.Ln1BwdIdeal.nD Cert.Ln1BwdIdeal.τ).loc Cert.Ln1BwdIdeal.main_v1_0)) (v1 : (c : Dev Cert.Ln1BwdIdeal.nD) → Buf (Elt Ideal) ((c.tc : Thread Cert.Ln1BwdIdeal.nD Cert.Ln1BwdIdeal.τ).loc Cert.Ln1BwdIdeal.main_v1_1)) (v2 : (c : Dev Cert.Ln1BwdIdeal.nD) → Buf (Elt Ideal) ((c.tc : Thread Cert.Ln1BwdIdeal.nD Cert.Ln1BwdIdeal.τ).loc Cert.Ln1BwdIdeal.main_v1_2)) (v3 : (c : Dev Cert.Ln1BwdIdeal.nD) → Buf (Elt Ideal) ((c.tc : Thread Cert.Ln1BwdIdeal.nD Cert.Ln1BwdIdeal.τ).loc Cert.Ln1BwdIdeal.main_v1_3)) (v4 : (c : Dev Cert.Ln1BwdIdeal.nD) → Buf (Elt Ideal) ((c.tc : Thread Cert.Ln1BwdIdeal.nD Cert.Ln1BwdIdeal.τ).loc Cert.Ln1BwdIdeal.main_v1_4)),
      θ_run (Cert.Ln1BwdIdeal.defs (F := Ideal)) (onTc (τ := Cert.Ln1BwdIdeal.τ) (Cert.Ln1BwdIdeal.main (F := Ideal))) ⟨m, fun _ => 0, g⟩ (fun r => ∀ c : Dev Cert.Ln1BwdIdeal.nD,
          (∀ i : (⟨2, ![8192, 2048]⟩ : Shape).Idx, (Cert.On_ln1_bwd_sums.fn (F := Ideal) (m ((c.tc : Thread Cert.Ln1BwdIdeal.nD Cert.Ln1BwdIdeal.τ).loc Cert.Ln1BwdIdeal.main_arg0)) (m ((c.tc : Thread Cert.Ln1BwdIdeal.nD Cert.Ln1BwdIdeal.τ).loc Cert.Ln1BwdIdeal.main_arg1)) (m ((c.tc : Thread Cert.Ln1BwdIdeal.nD Cert.Ln1BwdIdeal.τ).loc Cert.Ln1BwdIdeal.main_arg2)) (m ((c.tc : Thread Cert.Ln1BwdIdeal.nD Cert.Ln1BwdIdeal.τ).loc Cert.Ln1BwdIdeal.main_arg3)) (m ((c.tc : Thread Cert.Ln1BwdIdeal.nD Cert.Ln1BwdIdeal.τ).loc Cert.Ln1BwdIdeal.main_arg4)) (m ((c.tc : Thread Cert.Ln1BwdIdeal.nD Cert.Ln1BwdIdeal.τ).loc Cert.Ln1BwdIdeal.main_arg5))).1 i = 1#1 → r.2.mem ((c.tc : Thread Cert.Ln1BwdIdeal.nD Cert.Ln1BwdIdeal.τ).loc Cert.Ln1BwdIdeal.main_v1_0) i = v0 c i)
          ∧ (∀ i : (⟨2, ![8192, 2048]⟩ : Shape).Idx, (Cert.On_ln1_bwd_sums.fn (F := Ideal) (m ((c.tc : Thread Cert.Ln1BwdIdeal.nD Cert.Ln1BwdIdeal.τ).loc Cert.Ln1BwdIdeal.main_arg0)) (m ((c.tc : Thread Cert.Ln1BwdIdeal.nD Cert.Ln1BwdIdeal.τ).loc Cert.Ln1BwdIdeal.main_arg1)) (m ((c.tc : Thread Cert.Ln1BwdIdeal.nD Cert.Ln1BwdIdeal.τ).loc Cert.Ln1BwdIdeal.main_arg2)) (m ((c.tc : Thread Cert.Ln1BwdIdeal.nD Cert.Ln1BwdIdeal.τ).loc Cert.Ln1BwdIdeal.main_arg3)) (m ((c.tc : Thread Cert.Ln1BwdIdeal.nD Cert.Ln1BwdIdeal.τ).loc Cert.Ln1BwdIdeal.main_arg4)) (m ((c.tc : Thread Cert.Ln1BwdIdeal.nD Cert.Ln1BwdIdeal.τ).loc Cert.Ln1BwdIdeal.main_arg5))).2.1 i = 1#1 → r.2.mem ((c.tc : Thread Cert.Ln1BwdIdeal.nD Cert.Ln1BwdIdeal.τ).loc Cert.Ln1BwdIdeal.main_v1_1) i = v1 c i)
          ∧ (∀ i : (⟨2, ![1, 2048]⟩ : Shape).Idx, (Cert.On_ln1_bwd_sums.fn (F := Ideal) (m ((c.tc : Thread Cert.Ln1BwdIdeal.nD Cert.Ln1BwdIdeal.τ).loc Cert.Ln1BwdIdeal.main_arg0)) (m ((c.tc : Thread Cert.Ln1BwdIdeal.nD Cert.Ln1BwdIdeal.τ).loc Cert.Ln1BwdIdeal.main_arg1)) (m ((c.tc : Thread Cert.Ln1BwdIdeal.nD Cert.Ln1BwdIdeal.τ).loc Cert.Ln1BwdIdeal.main_arg2)) (m ((c.tc : Thread Cert.Ln1BwdIdeal.nD Cert.Ln1BwdIdeal.τ).loc Cert.Ln1BwdIdeal.main_arg3)) (m ((c.tc : Thread Cert.Ln1BwdIdeal.nD Cert.Ln1BwdIdeal.τ).loc Cert.Ln1BwdIdeal.main_arg4)) (m ((c.tc : Thread Cert.Ln1BwdIdeal.nD Cert.Ln1BwdIdeal.τ).loc Cert.Ln1BwdIdeal.main_arg5))).2.2.1 i = 1#1 → r.2.mem ((c.tc : Thread Cert.Ln1BwdIdeal.nD Cert.Ln1BwdIdeal.τ).loc Cert.Ln1BwdIdeal.main_v1_2) i = v2 c i)
          ∧ (∀ i : (⟨2, ![1, 2048]⟩ : Shape).Idx, (Cert.On_ln1_bwd_sums.fn (F := Ideal) (m ((c.tc : Thread Cert.Ln1BwdIdeal.nD Cert.Ln1BwdIdeal.τ).loc Cert.Ln1BwdIdeal.main_arg0)) (m ((c.tc : Thread Cert.Ln1BwdIdeal.nD Cert.Ln1BwdIdeal.τ).loc Cert.Ln1BwdIdeal.main_arg1)) (m ((c.tc : Thread Cert.Ln1BwdIdeal.nD Cert.Ln1BwdIdeal.τ).loc Cert.Ln1BwdIdeal.main_arg2)) (m ((c.tc : Thread Cert.Ln1BwdIdeal.nD Cert.Ln1BwdIdeal.τ).loc Cert.Ln1BwdIdeal.main_arg3)) (m ((c.tc : Thread Cert.Ln1BwdIdeal.nD Cert.Ln1BwdIdeal.τ).loc Cert.Ln1BwdIdeal.main_arg4)) (m ((c.tc : Thread Cert.Ln1BwdIdeal.nD Cert.Ln1BwdIdeal.τ).loc Cert.Ln1BwdIdeal.main_arg5))).2.2.2.1 i = 1#1 → r.2.mem ((c.tc : Thread Cert.Ln1BwdIdeal.nD Cert.Ln1BwdIdeal.τ).loc Cert.Ln1BwdIdeal.main_v1_3) i = v3 c i)
          ∧ (∀ i : (⟨2, ![1, 2048]⟩ : Shape).Idx, (Cert.On_ln1_bwd_sums.fn (F := Ideal) (m ((c.tc : Thread Cert.Ln1BwdIdeal.nD Cert.Ln1BwdIdeal.τ).loc Cert.Ln1BwdIdeal.main_arg0)) (m ((c.tc : Thread Cert.Ln1BwdIdeal.nD Cert.Ln1BwdIdeal.τ).loc Cert.Ln1BwdIdeal.main_arg1)) (m ((c.tc : Thread Cert.Ln1BwdIdeal.nD Cert.Ln1BwdIdeal.τ).loc Cert.Ln1BwdIdeal.main_arg2)) (m ((c.tc : Thread Cert.Ln1BwdIdeal.nD Cert.Ln1BwdIdeal.τ).loc Cert.Ln1BwdIdeal.main_arg3)) (m ((c.tc : Thread Cert.Ln1BwdIdeal.nD Cert.Ln1BwdIdeal.τ).loc Cert.Ln1BwdIdeal.main_arg4)) (m ((c.tc : Thread Cert.Ln1BwdIdeal.nD Cert.Ln1BwdIdeal.τ).loc Cert.Ln1BwdIdeal.main_arg5))).2.2.2.2 i = 1#1 → r.2.mem ((c.tc : Thread Cert.Ln1BwdIdeal.nD Cert.Ln1BwdIdeal.τ).loc Cert.Ln1BwdIdeal.main_v1_4) i = v4 c i)
          ∧ r.2.mem ((c.tc : Thread Cert.Ln1BwdIdeal.nD Cert.Ln1BwdIdeal.τ).loc Cert.Ln1BwdIdeal.main_arg0) = m ((c.tc : Thread Cert.Ln1BwdIdeal.nD Cert.Ln1BwdIdeal.τ).loc Cert.Ln1BwdIdeal.main_arg0)
          ∧ r.2.mem ((c.tc : Thread Cert.Ln1BwdIdeal.nD Cert.Ln1BwdIdeal.τ).loc Cert.Ln1BwdIdeal.main_arg1) = m ((c.tc : Thread Cert.Ln1BwdIdeal.nD Cert.Ln1BwdIdeal.τ).loc Cert.Ln1BwdIdeal.main_arg1)
          ∧ r.2.mem ((c.tc : Thread Cert.Ln1BwdIdeal.nD Cert.Ln1BwdIdeal.τ).loc Cert.Ln1BwdIdeal.main_arg2) = m ((c.tc : Thread Cert.Ln1BwdIdeal.nD Cert.Ln1BwdIdeal.τ).loc Cert.Ln1BwdIdeal.main_arg2)
          ∧ r.2.mem ((c.tc : Thread Cert.Ln1BwdIdeal.nD Cert.Ln1BwdIdeal.τ).loc Cert.Ln1BwdIdeal.main_arg3) = m ((c.tc : Thread Cert.Ln1BwdIdeal.nD Cert.Ln1BwdIdeal.τ).loc Cert.Ln1BwdIdeal.main_arg3)
          ∧ r.2.mem ((c.tc : Thread Cert.Ln1BwdIdeal.nD Cert.Ln1BwdIdeal.τ).loc Cert.Ln1BwdIdeal.main_arg4) = m ((c.tc : Thread Cert.Ln1BwdIdeal.nD Cert.Ln1BwdIdeal.τ).loc Cert.Ln1BwdIdeal.main_arg4)
          ∧ r.2.mem ((c.tc : Thread Cert.Ln1BwdIdeal.nD Cert.Ln1BwdIdeal.τ).loc Cert.Ln1BwdIdeal.main_arg5) = m ((c.tc : Thread Cert.Ln1BwdIdeal.nD Cert.Ln1BwdIdeal.τ).loc Cert.Ln1BwdIdeal.main_arg5))
      ∧ θ_run (Cert.Ln1BwdRefIdeal.defs (F := Ideal)) (onTc (τ := Cert.Ln1BwdRefIdeal.τ) (Cert.Ln1BwdRefIdeal.main (F := Ideal))) ⟨m', fun _ => 0, g'⟩ (fun r => ∀ c : Dev Cert.Ln1BwdRefIdeal.nD,
          (∀ i : (⟨2, ![8192, 2048]⟩ : Shape).Idx, (Cert.On_ln1_bwd_sums.fn (F := Ideal) (m ((c.tc : Thread Cert.Ln1BwdIdeal.nD Cert.Ln1BwdIdeal.τ).loc Cert.Ln1BwdIdeal.main_arg0)) (m ((c.tc : Thread Cert.Ln1BwdIdeal.nD Cert.Ln1BwdIdeal.τ).loc Cert.Ln1BwdIdeal.main_arg1)) (m ((c.tc : Thread Cert.Ln1BwdIdeal.nD Cert.Ln1BwdIdeal.τ).loc Cert.Ln1BwdIdeal.main_arg2)) (m ((c.tc : Thread Cert.Ln1BwdIdeal.nD Cert.Ln1BwdIdeal.τ).loc Cert.Ln1BwdIdeal.main_arg3)) (m ((c.tc : Thread Cert.Ln1BwdIdeal.nD Cert.Ln1BwdIdeal.τ).loc Cert.Ln1BwdIdeal.main_arg4)) (m ((c.tc : Thread Cert.Ln1BwdIdeal.nD Cert.Ln1BwdIdeal.τ).loc Cert.Ln1BwdIdeal.main_arg5))).1 i = 1#1 → r.2.mem ((c.tc : Thread Cert.Ln1BwdRefIdeal.nD Cert.Ln1BwdRefIdeal.τ).loc Cert.Ln1BwdRefIdeal.main_v62) i = v0 c i)
          ∧ (∀ i : (⟨2, ![8192, 2048]⟩ : Shape).Idx, (Cert.On_ln1_bwd_sums.fn (F := Ideal) (m ((c.tc : Thread Cert.Ln1BwdIdeal.nD Cert.Ln1BwdIdeal.τ).loc Cert.Ln1BwdIdeal.main_arg0)) (m ((c.tc : Thread Cert.Ln1BwdIdeal.nD Cert.Ln1BwdIdeal.τ).loc Cert.Ln1BwdIdeal.main_arg1)) (m ((c.tc : Thread Cert.Ln1BwdIdeal.nD Cert.Ln1BwdIdeal.τ).loc Cert.Ln1BwdIdeal.main_arg2)) (m ((c.tc : Thread Cert.Ln1BwdIdeal.nD Cert.Ln1BwdIdeal.τ).loc Cert.Ln1BwdIdeal.main_arg3)) (m ((c.tc : Thread Cert.Ln1BwdIdeal.nD Cert.Ln1BwdIdeal.τ).loc Cert.Ln1BwdIdeal.main_arg4)) (m ((c.tc : Thread Cert.Ln1BwdIdeal.nD Cert.Ln1BwdIdeal.τ).loc Cert.Ln1BwdIdeal.main_arg5))).2.1 i = 1#1 → r.2.mem ((c.tc : Thread Cert.Ln1BwdRefIdeal.nD Cert.Ln1BwdRefIdeal.τ).loc Cert.Ln1BwdRefIdeal.main_v65) i = v1 c i)
          ∧ (∀ i : (⟨2, ![1, 2048]⟩ : Shape).Idx, (Cert.On_ln1_bwd_sums.fn (F := Ideal) (m ((c.tc : Thread Cert.Ln1BwdIdeal.nD Cert.Ln1BwdIdeal.τ).loc Cert.Ln1BwdIdeal.main_arg0)) (m ((c.tc : Thread Cert.Ln1BwdIdeal.nD Cert.Ln1BwdIdeal.τ).loc Cert.Ln1BwdIdeal.main_arg1)) (m ((c.tc : Thread Cert.Ln1BwdIdeal.nD Cert.Ln1BwdIdeal.τ).loc Cert.Ln1BwdIdeal.main_arg2)) (m ((c.tc : Thread Cert.Ln1BwdIdeal.nD Cert.Ln1BwdIdeal.τ).loc Cert.Ln1BwdIdeal.main_arg3)) (m ((c.tc : Thread Cert.Ln1BwdIdeal.nD Cert.Ln1BwdIdeal.τ).loc Cert.Ln1BwdIdeal.main_arg4)) (m ((c.tc : Thread Cert.Ln1BwdIdeal.nD Cert.Ln1BwdIdeal.τ).loc Cert.Ln1BwdIdeal.main_arg5))).2.2.1 i = 1#1 → r.2.mem ((c.tc : Thread Cert.Ln1BwdRefIdeal.nD Cert.Ln1BwdRefIdeal.τ).loc Cert.Ln1BwdRefIdeal.main_v40) i = v2 c i)
          ∧ (∀ i : (⟨2, ![1, 2048]⟩ : Shape).Idx, (Cert.On_ln1_bwd_sums.fn (F := Ideal) (m ((c.tc : Thread Cert.Ln1BwdIdeal.nD Cert.Ln1BwdIdeal.τ).loc Cert.Ln1BwdIdeal.main_arg0)) (m ((c.tc : Thread Cert.Ln1BwdIdeal.nD Cert.Ln1BwdIdeal.τ).loc Cert.Ln1BwdIdeal.main_arg1)) (m ((c.tc : Thread Cert.Ln1BwdIdeal.nD Cert.Ln1BwdIdeal.τ).loc Cert.Ln1BwdIdeal.main_arg2)) (m ((c.tc : Thread Cert.Ln1BwdIdeal.nD Cert.Ln1BwdIdeal.τ).loc Cert.Ln1BwdIdeal.main_arg3)) (m ((c.tc : Thread Cert.Ln1BwdIdeal.nD Cert.Ln1BwdIdeal.τ).loc Cert.Ln1BwdIdeal.main_arg4)) (m ((c.tc : Thread Cert.Ln1BwdIdeal.nD Cert.Ln1BwdIdeal.τ).loc Cert.Ln1BwdIdeal.main_arg5))).2.2.2.1 i = 1#1 → r.2.mem ((c.tc : Thread Cert.Ln1BwdRefIdeal.nD Cert.Ln1BwdRefIdeal.τ).loc Cert.Ln1BwdRefIdeal.main_v37) i = v3 c i)
          ∧ (∀ i : (⟨2, ![1, 2048]⟩ : Shape).Idx, (Cert.On_ln1_bwd_sums.fn (F := Ideal) (m ((c.tc : Thread Cert.Ln1BwdIdeal.nD Cert.Ln1BwdIdeal.τ).loc Cert.Ln1BwdIdeal.main_arg0)) (m ((c.tc : Thread Cert.Ln1BwdIdeal.nD Cert.Ln1BwdIdeal.τ).loc Cert.Ln1BwdIdeal.main_arg1)) (m ((c.tc : Thread Cert.Ln1BwdIdeal.nD Cert.Ln1BwdIdeal.τ).loc Cert.Ln1BwdIdeal.main_arg2)) (m ((c.tc : Thread Cert.Ln1BwdIdeal.nD Cert.Ln1BwdIdeal.τ).loc Cert.Ln1BwdIdeal.main_arg3)) (m ((c.tc : Thread Cert.Ln1BwdIdeal.nD Cert.Ln1BwdIdeal.τ).loc Cert.Ln1BwdIdeal.main_arg4)) (m ((c.tc : Thread Cert.Ln1BwdIdeal.nD Cert.Ln1BwdIdeal.τ).loc Cert.Ln1BwdIdeal.main_arg5))).2.2.2.2 i = 1#1 → r.2.mem ((c.tc : Thread Cert.Ln1BwdRefIdeal.nD Cert.Ln1BwdRefIdeal.τ).loc Cert.Ln1BwdRefIdeal.main_v64) i = v4 c i)
          ∧ r.2.mem ((c.tc : Thread Cert.Ln1BwdRefIdeal.nD Cert.Ln1BwdRefIdeal.τ).loc Cert.Ln1BwdRefIdeal.main_arg0) = m' ((c.tc : Thread Cert.Ln1BwdRefIdeal.nD Cert.Ln1BwdRefIdeal.τ).loc Cert.Ln1BwdRefIdeal.main_arg0)
          ∧ r.2.mem ((c.tc : Thread Cert.Ln1BwdRefIdeal.nD Cert.Ln1BwdRefIdeal.τ).loc Cert.Ln1BwdRefIdeal.main_arg1) = m' ((c.tc : Thread Cert.Ln1BwdRefIdeal.nD Cert.Ln1BwdRefIdeal.τ).loc Cert.Ln1BwdRefIdeal.main_arg1)
          ∧ r.2.mem ((c.tc : Thread Cert.Ln1BwdRefIdeal.nD Cert.Ln1BwdRefIdeal.τ).loc Cert.Ln1BwdRefIdeal.main_arg2) = m' ((c.tc : Thread Cert.Ln1BwdRefIdeal.nD Cert.Ln1BwdRefIdeal.τ).loc Cert.Ln1BwdRefIdeal.main_arg2)
          ∧ r.2.mem ((c.tc : Thread Cert.Ln1BwdRefIdeal.nD Cert.Ln1BwdRefIdeal.τ).loc Cert.Ln1BwdRefIdeal.main_arg3) = m' ((c.tc : Thread Cert.Ln1BwdRefIdeal.nD Cert.Ln1BwdRefIdeal.τ).loc Cert.Ln1BwdRefIdeal.main_arg3)
          ∧ r.2.mem ((c.tc : Thread Cert.Ln1BwdRefIdeal.nD Cert.Ln1BwdRefIdeal.τ).loc Cert.Ln1BwdRefIdeal.main_arg4) = m' ((c.tc : Thread Cert.Ln1BwdRefIdeal.nD Cert.Ln1BwdRefIdeal.τ).loc Cert.Ln1BwdRefIdeal.main_arg4)
          ∧ r.2.mem ((c.tc : Thread Cert.Ln1BwdRefIdeal.nD Cert.Ln1BwdRefIdeal.τ).loc Cert.Ln1BwdRefIdeal.main_arg5) = m' ((c.tc : Thread Cert.Ln1BwdRefIdeal.nD Cert.Ln1BwdRefIdeal.τ).loc Cert.Ln1BwdRefIdeal.main_arg5))

def preserves_Ln2Last_Ln2LastIdeal : Prop :=
  True

def algebraic_Ln2LastIdeal_Ln2LastRefIdeal_on_ln2_last_sums [hLn2LastIdeal : Cert.Ln2LastIdeal.Facts] [hLn2LastRefIdeal : Cert.Ln2LastRefIdeal.Facts] [hOn_ln2_last_sums : Cert.On_ln2_last_sums.Facts] : Prop :=
  ∀ (m : (ℓ : Loc Cert.Ln2LastIdeal.nD Cert.Ln2LastIdeal.τ Cert.Ln2LastIdeal.sig) → Buf (Elt Ideal) ℓ) (g : Dev Cert.Ln2LastIdeal.nD → PrngReg)
    (m' : (ℓ : Loc Cert.Ln2LastRefIdeal.nD Cert.Ln2LastRefIdeal.τ Cert.Ln2LastRefIdeal.sig) → Buf (Elt Ideal) ℓ) (g' : Dev Cert.Ln2LastRefIdeal.nD → PrngReg), Pre_Ln2LastIdeal m →
    (∀ c : Dev Cert.Ln2LastIdeal.nD,
      m' ((c.tc : Thread Cert.Ln2LastRefIdeal.nD Cert.Ln2LastRefIdeal.τ).loc Cert.Ln2LastRefIdeal.main_arg0) = m ((c.tc : Thread Cert.Ln2LastIdeal.nD Cert.Ln2LastIdeal.τ).loc Cert.Ln2LastIdeal.main_arg0)
      ∧ m' ((c.tc : Thread Cert.Ln2LastRefIdeal.nD Cert.Ln2LastRefIdeal.τ).loc Cert.Ln2LastRefIdeal.main_arg1) = m ((c.tc : Thread Cert.Ln2LastIdeal.nD Cert.Ln2LastIdeal.τ).loc Cert.Ln2LastIdeal.main_arg1)
      ∧ m' ((c.tc : Thread Cert.Ln2LastRefIdeal.nD Cert.Ln2LastRefIdeal.τ).loc Cert.Ln2LastRefIdeal.main_arg2) = m ((c.tc : Thread Cert.Ln2LastIdeal.nD Cert.Ln2LastIdeal.τ).loc Cert.Ln2LastIdeal.main_arg2)
      ∧ m' ((c.tc : Thread Cert.Ln2LastRefIdeal.nD Cert.Ln2LastRefIdeal.τ).loc Cert.Ln2LastRefIdeal.main_arg3) = m ((c.tc : Thread Cert.Ln2LastIdeal.nD Cert.Ln2LastIdeal.τ).loc Cert.Ln2LastIdeal.main_arg3)
      ∧ m' ((c.tc : Thread Cert.Ln2LastRefIdeal.nD Cert.Ln2LastRefIdeal.τ).loc Cert.Ln2LastRefIdeal.main_arg4) = m ((c.tc : Thread Cert.Ln2LastIdeal.nD Cert.Ln2LastIdeal.τ).loc Cert.Ln2LastIdeal.main_arg4)
      ∧ m' ((c.tc : Thread Cert.Ln2LastRefIdeal.nD Cert.Ln2LastRefIdeal.τ).loc Cert.Ln2LastRefIdeal.main_arg5) = m ((c.tc : Thread Cert.Ln2LastIdeal.nD Cert.Ln2LastIdeal.τ).loc Cert.Ln2LastIdeal.main_arg5)
      ∧ m' ((c.tc : Thread Cert.Ln2LastRefIdeal.nD Cert.Ln2LastRefIdeal.τ).loc Cert.Ln2LastRefIdeal.main_arg6) = m ((c.tc : Thread Cert.Ln2LastIdeal.nD Cert.Ln2LastIdeal.τ).loc Cert.Ln2LastIdeal.main_arg6)) →
    ∃ (v0 : (c : Dev Cert.Ln2LastIdeal.nD) → Buf (Elt Ideal) ((c.tc : Thread Cert.Ln2LastIdeal.nD Cert.Ln2LastIdeal.τ).loc Cert.Ln2LastIdeal.main_v4_0)) (v1 : (c : Dev Cert.Ln2LastIdeal.nD) → Buf (Elt Ideal) ((c.tc : Thread Cert.Ln2LastIdeal.nD Cert.Ln2LastIdeal.τ).loc Cert.Ln2LastIdeal.main_v4_1)) (v2 : (c : Dev Cert.Ln2LastIdeal.nD) → Buf (Elt Ideal) ((c.tc : Thread Cert.Ln2LastIdeal.nD Cert.Ln2LastIdeal.τ).loc Cert.Ln2LastIdeal.main_v4_2)) (v3 : (c : Dev Cert.Ln2LastIdeal.nD) → Buf (Elt Ideal) ((c.tc : Thread Cert.Ln2LastIdeal.nD Cert.Ln2LastIdeal.τ).loc Cert.Ln2LastIdeal.main_v4_3)) (v4 : (c : Dev Cert.Ln2LastIdeal.nD) → Buf (Elt Ideal) ((c.tc : Thread Cert.Ln2LastIdeal.nD Cert.Ln2LastIdeal.τ).loc Cert.Ln2LastIdeal.main_v4_4)) (v5 : (c : Dev Cert.Ln2LastIdeal.nD) → Buf (Elt Ideal) ((c.tc : Thread Cert.Ln2LastIdeal.nD Cert.Ln2LastIdeal.τ).loc Cert.Ln2LastIdeal.main_v4_5)),
      θ_run (Cert.Ln2LastIdeal.defs (F := Ideal)) (onTc (τ := Cert.Ln2LastIdeal.τ) (Cert.Ln2LastIdeal.main (F := Ideal))) ⟨m, fun _ => 0, g⟩ (fun r => ∀ c : Dev Cert.Ln2LastIdeal.nD,
          (∀ i : (⟨2, ![8192, 2048]⟩ : Shape).Idx, (Cert.On_ln2_last_sums.fn (F := Ideal) (m ((c.tc : Thread Cert.Ln2LastIdeal.nD Cert.Ln2LastIdeal.τ).loc Cert.Ln2LastIdeal.main_arg0)) (m ((c.tc : Thread Cert.Ln2LastIdeal.nD Cert.Ln2LastIdeal.τ).loc Cert.Ln2LastIdeal.main_arg1)) (m ((c.tc : Thread Cert.Ln2LastIdeal.nD Cert.Ln2LastIdeal.τ).loc Cert.Ln2LastIdeal.main_arg2)) (m ((c.tc : Thread Cert.Ln2LastIdeal.nD Cert.Ln2LastIdeal.τ).loc Cert.Ln2LastIdeal.main_arg3)) (m ((c.tc : Thread Cert.Ln2LastIdeal.nD Cert.Ln2LastIdeal.τ).loc Cert.Ln2LastIdeal.main_arg4)) (m ((c.tc : Thread Cert.Ln2LastIdeal.nD Cert.Ln2LastIdeal.τ).loc Cert.Ln2LastIdeal.main_arg5)) (m ((c.tc : Thread Cert.Ln2LastIdeal.nD Cert.Ln2LastIdeal.τ).loc Cert.Ln2LastIdeal.main_arg6))).1 i = 1#1 → r.2.mem ((c.tc : Thread Cert.Ln2LastIdeal.nD Cert.Ln2LastIdeal.τ).loc Cert.Ln2LastIdeal.main_v4_0) i = v0 c i)
          ∧ (∀ i : (⟨2, ![8192, 2048]⟩ : Shape).Idx, (Cert.On_ln2_last_sums.fn (F := Ideal) (m ((c.tc : Thread Cert.Ln2LastIdeal.nD Cert.Ln2LastIdeal.τ).loc Cert.Ln2LastIdeal.main_arg0)) (m ((c.tc : Thread Cert.Ln2LastIdeal.nD Cert.Ln2LastIdeal.τ).loc Cert.Ln2LastIdeal.main_arg1)) (m ((c.tc : Thread Cert.Ln2LastIdeal.nD Cert.Ln2LastIdeal.τ).loc Cert.Ln2LastIdeal.main_arg2)) (m ((c.tc : Thread Cert.Ln2LastIdeal.nD Cert.Ln2LastIdeal.τ).loc Cert.Ln2LastIdeal.main_arg3)) (m ((c.tc : Thread Cert.Ln2LastIdeal.nD Cert.Ln2LastIdeal.τ).loc Cert.Ln2LastIdeal.main_arg4)) (m ((c.tc : Thread Cert.Ln2LastIdeal.nD Cert.Ln2LastIdeal.τ).loc Cert.Ln2LastIdeal.main_arg5)) (m ((c.tc : Thread Cert.Ln2LastIdeal.nD Cert.Ln2LastIdeal.τ).loc Cert.Ln2LastIdeal.main_arg6))).2.1 i = 1#1 → r.2.mem ((c.tc : Thread Cert.Ln2LastIdeal.nD Cert.Ln2LastIdeal.τ).loc Cert.Ln2LastIdeal.main_v4_1) i = v1 c i)
          ∧ (∀ i : (⟨2, ![1, 2048]⟩ : Shape).Idx, (Cert.On_ln2_last_sums.fn (F := Ideal) (m ((c.tc : Thread Cert.Ln2LastIdeal.nD Cert.Ln2LastIdeal.τ).loc Cert.Ln2LastIdeal.main_arg0)) (m ((c.tc : Thread Cert.Ln2LastIdeal.nD Cert.Ln2LastIdeal.τ).loc Cert.Ln2LastIdeal.main_arg1)) (m ((c.tc : Thread Cert.Ln2LastIdeal.nD Cert.Ln2LastIdeal.τ).loc Cert.Ln2LastIdeal.main_arg2)) (m ((c.tc : Thread Cert.Ln2LastIdeal.nD Cert.Ln2LastIdeal.τ).loc Cert.Ln2LastIdeal.main_arg3)) (m ((c.tc : Thread Cert.Ln2LastIdeal.nD Cert.Ln2LastIdeal.τ).loc Cert.Ln2LastIdeal.main_arg4)) (m ((c.tc : Thread Cert.Ln2LastIdeal.nD Cert.Ln2LastIdeal.τ).loc Cert.Ln2LastIdeal.main_arg5)) (m ((c.tc : Thread Cert.Ln2LastIdeal.nD Cert.Ln2LastIdeal.τ).loc Cert.Ln2LastIdeal.main_arg6))).2.2.1 i = 1#1 → r.2.mem ((c.tc : Thread Cert.Ln2LastIdeal.nD Cert.Ln2LastIdeal.τ).loc Cert.Ln2LastIdeal.main_v4_2) i = v2 c i)
          ∧ (∀ i : (⟨2, ![1, 2048]⟩ : Shape).Idx, (Cert.On_ln2_last_sums.fn (F := Ideal) (m ((c.tc : Thread Cert.Ln2LastIdeal.nD Cert.Ln2LastIdeal.τ).loc Cert.Ln2LastIdeal.main_arg0)) (m ((c.tc : Thread Cert.Ln2LastIdeal.nD Cert.Ln2LastIdeal.τ).loc Cert.Ln2LastIdeal.main_arg1)) (m ((c.tc : Thread Cert.Ln2LastIdeal.nD Cert.Ln2LastIdeal.τ).loc Cert.Ln2LastIdeal.main_arg2)) (m ((c.tc : Thread Cert.Ln2LastIdeal.nD Cert.Ln2LastIdeal.τ).loc Cert.Ln2LastIdeal.main_arg3)) (m ((c.tc : Thread Cert.Ln2LastIdeal.nD Cert.Ln2LastIdeal.τ).loc Cert.Ln2LastIdeal.main_arg4)) (m ((c.tc : Thread Cert.Ln2LastIdeal.nD Cert.Ln2LastIdeal.τ).loc Cert.Ln2LastIdeal.main_arg5)) (m ((c.tc : Thread Cert.Ln2LastIdeal.nD Cert.Ln2LastIdeal.τ).loc Cert.Ln2LastIdeal.main_arg6))).2.2.2.1 i = 1#1 → r.2.mem ((c.tc : Thread Cert.Ln2LastIdeal.nD Cert.Ln2LastIdeal.τ).loc Cert.Ln2LastIdeal.main_v4_3) i = v3 c i)
          ∧ (∀ i : (⟨2, ![1, 2048]⟩ : Shape).Idx, (Cert.On_ln2_last_sums.fn (F := Ideal) (m ((c.tc : Thread Cert.Ln2LastIdeal.nD Cert.Ln2LastIdeal.τ).loc Cert.Ln2LastIdeal.main_arg0)) (m ((c.tc : Thread Cert.Ln2LastIdeal.nD Cert.Ln2LastIdeal.τ).loc Cert.Ln2LastIdeal.main_arg1)) (m ((c.tc : Thread Cert.Ln2LastIdeal.nD Cert.Ln2LastIdeal.τ).loc Cert.Ln2LastIdeal.main_arg2)) (m ((c.tc : Thread Cert.Ln2LastIdeal.nD Cert.Ln2LastIdeal.τ).loc Cert.Ln2LastIdeal.main_arg3)) (m ((c.tc : Thread Cert.Ln2LastIdeal.nD Cert.Ln2LastIdeal.τ).loc Cert.Ln2LastIdeal.main_arg4)) (m ((c.tc : Thread Cert.Ln2LastIdeal.nD Cert.Ln2LastIdeal.τ).loc Cert.Ln2LastIdeal.main_arg5)) (m ((c.tc : Thread Cert.Ln2LastIdeal.nD Cert.Ln2LastIdeal.τ).loc Cert.Ln2LastIdeal.main_arg6))).2.2.2.2.1 i = 1#1 → r.2.mem ((c.tc : Thread Cert.Ln2LastIdeal.nD Cert.Ln2LastIdeal.τ).loc Cert.Ln2LastIdeal.main_v4_4) i = v4 c i)
          ∧ (∀ i : (⟨2, ![8, 128]⟩ : Shape).Idx, (Cert.On_ln2_last_sums.fn (F := Ideal) (m ((c.tc : Thread Cert.Ln2LastIdeal.nD Cert.Ln2LastIdeal.τ).loc Cert.Ln2LastIdeal.main_arg0)) (m ((c.tc : Thread Cert.Ln2LastIdeal.nD Cert.Ln2LastIdeal.τ).loc Cert.Ln2LastIdeal.main_arg1)) (m ((c.tc : Thread Cert.Ln2LastIdeal.nD Cert.Ln2LastIdeal.τ).loc Cert.Ln2LastIdeal.main_arg2)) (m ((c.tc : Thread Cert.Ln2LastIdeal.nD Cert.Ln2LastIdeal.τ).loc Cert.Ln2LastIdeal.main_arg3)) (m ((c.tc : Thread Cert.Ln2LastIdeal.nD Cert.Ln2LastIdeal.τ).loc Cert.Ln2LastIdeal.main_arg4)) (m ((c.tc : Thread Cert.Ln2LastIdeal.nD Cert.Ln2LastIdeal.τ).loc Cert.Ln2LastIdeal.main_arg5)) (m ((c.tc : Thread Cert.Ln2LastIdeal.nD Cert.Ln2LastIdeal.τ).loc Cert.Ln2LastIdeal.main_arg6))).2.2.2.2.2 i = 1#1 → r.2.mem ((c.tc : Thread Cert.Ln2LastIdeal.nD Cert.Ln2LastIdeal.τ).loc Cert.Ln2LastIdeal.main_v4_5) i = v5 c i)
          ∧ r.2.mem ((c.tc : Thread Cert.Ln2LastIdeal.nD Cert.Ln2LastIdeal.τ).loc Cert.Ln2LastIdeal.main_arg0) = m ((c.tc : Thread Cert.Ln2LastIdeal.nD Cert.Ln2LastIdeal.τ).loc Cert.Ln2LastIdeal.main_arg0)
          ∧ r.2.mem ((c.tc : Thread Cert.Ln2LastIdeal.nD Cert.Ln2LastIdeal.τ).loc Cert.Ln2LastIdeal.main_arg1) = m ((c.tc : Thread Cert.Ln2LastIdeal.nD Cert.Ln2LastIdeal.τ).loc Cert.Ln2LastIdeal.main_arg1)
          ∧ r.2.mem ((c.tc : Thread Cert.Ln2LastIdeal.nD Cert.Ln2LastIdeal.τ).loc Cert.Ln2LastIdeal.main_arg2) = m ((c.tc : Thread Cert.Ln2LastIdeal.nD Cert.Ln2LastIdeal.τ).loc Cert.Ln2LastIdeal.main_arg2)
          ∧ r.2.mem ((c.tc : Thread Cert.Ln2LastIdeal.nD Cert.Ln2LastIdeal.τ).loc Cert.Ln2LastIdeal.main_arg3) = m ((c.tc : Thread Cert.Ln2LastIdeal.nD Cert.Ln2LastIdeal.τ).loc Cert.Ln2LastIdeal.main_arg3)
          ∧ r.2.mem ((c.tc : Thread Cert.Ln2LastIdeal.nD Cert.Ln2LastIdeal.τ).loc Cert.Ln2LastIdeal.main_arg4) = m ((c.tc : Thread Cert.Ln2LastIdeal.nD Cert.Ln2LastIdeal.τ).loc Cert.Ln2LastIdeal.main_arg4)
          ∧ r.2.mem ((c.tc : Thread Cert.Ln2LastIdeal.nD Cert.Ln2LastIdeal.τ).loc Cert.Ln2LastIdeal.main_arg5) = m ((c.tc : Thread Cert.Ln2LastIdeal.nD Cert.Ln2LastIdeal.τ).loc Cert.Ln2LastIdeal.main_arg5)
          ∧ r.2.mem ((c.tc : Thread Cert.Ln2LastIdeal.nD Cert.Ln2LastIdeal.τ).loc Cert.Ln2LastIdeal.main_arg6) = m ((c.tc : Thread Cert.Ln2LastIdeal.nD Cert.Ln2LastIdeal.τ).loc Cert.Ln2LastIdeal.main_arg6))
      ∧ θ_run (Cert.Ln2LastRefIdeal.defs (F := Ideal)) (onTc (τ := Cert.Ln2LastRefIdeal.τ) (Cert.Ln2LastRefIdeal.main (F := Ideal))) ⟨m', fun _ => 0, g'⟩ (fun r => ∀ c : Dev Cert.Ln2LastRefIdeal.nD,
          (∀ i : (⟨2, ![8192, 2048]⟩ : Shape).Idx, (Cert.On_ln2_last_sums.fn (F := Ideal) (m ((c.tc : Thread Cert.Ln2LastIdeal.nD Cert.Ln2LastIdeal.τ).loc Cert.Ln2LastIdeal.main_arg0)) (m ((c.tc : Thread Cert.Ln2LastIdeal.nD Cert.Ln2LastIdeal.τ).loc Cert.Ln2LastIdeal.main_arg1)) (m ((c.tc : Thread Cert.Ln2LastIdeal.nD Cert.Ln2LastIdeal.τ).loc Cert.Ln2LastIdeal.main_arg2)) (m ((c.tc : Thread Cert.Ln2LastIdeal.nD Cert.Ln2LastIdeal.τ).loc Cert.Ln2LastIdeal.main_arg3)) (m ((c.tc : Thread Cert.Ln2LastIdeal.nD Cert.Ln2LastIdeal.τ).loc Cert.Ln2LastIdeal.main_arg4)) (m ((c.tc : Thread Cert.Ln2LastIdeal.nD Cert.Ln2LastIdeal.τ).loc Cert.Ln2LastIdeal.main_arg5)) (m ((c.tc : Thread Cert.Ln2LastIdeal.nD Cert.Ln2LastIdeal.τ).loc Cert.Ln2LastIdeal.main_arg6))).1 i = 1#1 → r.2.mem ((c.tc : Thread Cert.Ln2LastRefIdeal.nD Cert.Ln2LastRefIdeal.τ).loc Cert.Ln2LastRefIdeal.main_v98) i = v0 c i)
          ∧ (∀ i : (⟨2, ![8192, 2048]⟩ : Shape).Idx, (Cert.On_ln2_last_sums.fn (F := Ideal) (m ((c.tc : Thread Cert.Ln2LastIdeal.nD Cert.Ln2LastIdeal.τ).loc Cert.Ln2LastIdeal.main_arg0)) (m ((c.tc : Thread Cert.Ln2LastIdeal.nD Cert.Ln2LastIdeal.τ).loc Cert.Ln2LastIdeal.main_arg1)) (m ((c.tc : Thread Cert.Ln2LastIdeal.nD Cert.Ln2LastIdeal.τ).loc Cert.Ln2LastIdeal.main_arg2)) (m ((c.tc : Thread Cert.Ln2LastIdeal.nD Cert.Ln2LastIdeal.τ).loc Cert.Ln2LastIdeal.main_arg3)) (m ((c.tc : Thread Cert.Ln2LastIdeal.nD Cert.Ln2LastIdeal.τ).loc Cert.Ln2LastIdeal.main_arg4)) (m ((c.tc : Thread Cert.Ln2LastIdeal.nD Cert.Ln2LastIdeal.τ).loc Cert.Ln2LastIdeal.main_arg5)) (m ((c.tc : Thread Cert.Ln2LastIdeal.nD Cert.Ln2LastIdeal.τ).loc Cert.Ln2LastIdeal.main_arg6))).2.1 i = 1#1 → r.2.mem ((c.tc : Thread Cert.Ln2LastRefIdeal.nD Cert.Ln2LastRefIdeal.τ).loc Cert.Ln2LastRefIdeal.main_v101) i = v1 c i)
          ∧ (∀ i : (⟨2, ![1, 2048]⟩ : Shape).Idx, (Cert.On_ln2_last_sums.fn (F := Ideal) (m ((c.tc : Thread Cert.Ln2LastIdeal.nD Cert.Ln2LastIdeal.τ).loc Cert.Ln2LastIdeal.main_arg0)) (m ((c.tc : Thread Cert.Ln2LastIdeal.nD Cert.Ln2LastIdeal.τ).loc Cert.Ln2LastIdeal.main_arg1)) (m ((c.tc : Thread Cert.Ln2LastIdeal.nD Cert.Ln2LastIdeal.τ).loc Cert.Ln2LastIdeal.main_arg2)) (m ((c.tc : Thread Cert.Ln2LastIdeal.nD Cert.Ln2LastIdeal.τ).loc Cert.Ln2LastIdeal.main_arg3)) (m ((c.tc : Thread Cert.Ln2LastIdeal.nD Cert.Ln2LastIdeal.τ).loc Cert.Ln2LastIdeal.main_arg4)) (m ((c.tc : Thread Cert.Ln2LastIdeal.nD Cert.Ln2LastIdeal.τ).loc Cert.Ln2LastIdeal.main_arg5)) (m ((c.tc : Thread Cert.Ln2LastIdeal.nD Cert.Ln2LastIdeal.τ).loc Cert.Ln2LastIdeal.main_arg6))).2.2.1 i = 1#1 → r.2.mem ((c.tc : Thread Cert.Ln2LastRefIdeal.nD Cert.Ln2LastRefIdeal.τ).loc Cert.Ln2LastRefIdeal.main_v76) i = v2 c i)
          ∧ (∀ i : (⟨2, ![1, 2048]⟩ : Shape).Idx, (Cert.On_ln2_last_sums.fn (F := Ideal) (m ((c.tc : Thread Cert.Ln2LastIdeal.nD Cert.Ln2LastIdeal.τ).loc Cert.Ln2LastIdeal.main_arg0)) (m ((c.tc : Thread Cert.Ln2LastIdeal.nD Cert.Ln2LastIdeal.τ).loc Cert.Ln2LastIdeal.main_arg1)) (m ((c.tc : Thread Cert.Ln2LastIdeal.nD Cert.Ln2LastIdeal.τ).loc Cert.Ln2LastIdeal.main_arg2)) (m ((c.tc : Thread Cert.Ln2LastIdeal.nD Cert.Ln2LastIdeal.τ).loc Cert.Ln2LastIdeal.main_arg3)) (m ((c.tc : Thread Cert.Ln2LastIdeal.nD Cert.Ln2LastIdeal.τ).loc Cert.Ln2LastIdeal.main_arg4)) (m ((c.tc : Thread Cert.Ln2LastIdeal.nD Cert.Ln2LastIdeal.τ).loc Cert.Ln2LastIdeal.main_arg5)) (m ((c.tc : Thread Cert.Ln2LastIdeal.nD Cert.Ln2LastIdeal.τ).loc Cert.Ln2LastIdeal.main_arg6))).2.2.2.1 i = 1#1 → r.2.mem ((c.tc : Thread Cert.Ln2LastRefIdeal.nD Cert.Ln2LastRefIdeal.τ).loc Cert.Ln2LastRefIdeal.main_v73) i = v3 c i)
          ∧ (∀ i : (⟨2, ![1, 2048]⟩ : Shape).Idx, (Cert.On_ln2_last_sums.fn (F := Ideal) (m ((c.tc : Thread Cert.Ln2LastIdeal.nD Cert.Ln2LastIdeal.τ).loc Cert.Ln2LastIdeal.main_arg0)) (m ((c.tc : Thread Cert.Ln2LastIdeal.nD Cert.Ln2LastIdeal.τ).loc Cert.Ln2LastIdeal.main_arg1)) (m ((c.tc : Thread Cert.Ln2LastIdeal.nD Cert.Ln2LastIdeal.τ).loc Cert.Ln2LastIdeal.main_arg2)) (m ((c.tc : Thread Cert.Ln2LastIdeal.nD Cert.Ln2LastIdeal.τ).loc Cert.Ln2LastIdeal.main_arg3)) (m ((c.tc : Thread Cert.Ln2LastIdeal.nD Cert.Ln2LastIdeal.τ).loc Cert.Ln2LastIdeal.main_arg4)) (m ((c.tc : Thread Cert.Ln2LastIdeal.nD Cert.Ln2LastIdeal.τ).loc Cert.Ln2LastIdeal.main_arg5)) (m ((c.tc : Thread Cert.Ln2LastIdeal.nD Cert.Ln2LastIdeal.τ).loc Cert.Ln2LastIdeal.main_arg6))).2.2.2.2.1 i = 1#1 → r.2.mem ((c.tc : Thread Cert.Ln2LastRefIdeal.nD Cert.Ln2LastRefIdeal.τ).loc Cert.Ln2LastRefIdeal.main_v100) i = v4 c i)
          ∧ (∀ i : (⟨2, ![8, 128]⟩ : Shape).Idx, (Cert.On_ln2_last_sums.fn (F := Ideal) (m ((c.tc : Thread Cert.Ln2LastIdeal.nD Cert.Ln2LastIdeal.τ).loc Cert.Ln2LastIdeal.main_arg0)) (m ((c.tc : Thread Cert.Ln2LastIdeal.nD Cert.Ln2LastIdeal.τ).loc Cert.Ln2LastIdeal.main_arg1)) (m ((c.tc : Thread Cert.Ln2LastIdeal.nD Cert.Ln2LastIdeal.τ).loc Cert.Ln2LastIdeal.main_arg2)) (m ((c.tc : Thread Cert.Ln2LastIdeal.nD Cert.Ln2LastIdeal.τ).loc Cert.Ln2LastIdeal.main_arg3)) (m ((c.tc : Thread Cert.Ln2LastIdeal.nD Cert.Ln2LastIdeal.τ).loc Cert.Ln2LastIdeal.main_arg4)) (m ((c.tc : Thread Cert.Ln2LastIdeal.nD Cert.Ln2LastIdeal.τ).loc Cert.Ln2LastIdeal.main_arg5)) (m ((c.tc : Thread Cert.Ln2LastIdeal.nD Cert.Ln2LastIdeal.τ).loc Cert.Ln2LastIdeal.main_arg6))).2.2.2.2.2 i = 1#1 → r.2.mem ((c.tc : Thread Cert.Ln2LastRefIdeal.nD Cert.Ln2LastRefIdeal.τ).loc Cert.Ln2LastRefIdeal.main_v102) i = v5 c i)
          ∧ r.2.mem ((c.tc : Thread Cert.Ln2LastRefIdeal.nD Cert.Ln2LastRefIdeal.τ).loc Cert.Ln2LastRefIdeal.main_arg0) = m' ((c.tc : Thread Cert.Ln2LastRefIdeal.nD Cert.Ln2LastRefIdeal.τ).loc Cert.Ln2LastRefIdeal.main_arg0)
          ∧ r.2.mem ((c.tc : Thread Cert.Ln2LastRefIdeal.nD Cert.Ln2LastRefIdeal.τ).loc Cert.Ln2LastRefIdeal.main_arg1) = m' ((c.tc : Thread Cert.Ln2LastRefIdeal.nD Cert.Ln2LastRefIdeal.τ).loc Cert.Ln2LastRefIdeal.main_arg1)
          ∧ r.2.mem ((c.tc : Thread Cert.Ln2LastRefIdeal.nD Cert.Ln2LastRefIdeal.τ).loc Cert.Ln2LastRefIdeal.main_arg2) = m' ((c.tc : Thread Cert.Ln2LastRefIdeal.nD Cert.Ln2LastRefIdeal.τ).loc Cert.Ln2LastRefIdeal.main_arg2)
          ∧ r.2.mem ((c.tc : Thread Cert.Ln2LastRefIdeal.nD Cert.Ln2LastRefIdeal.τ).loc Cert.Ln2LastRefIdeal.main_arg3) = m' ((c.tc : Thread Cert.Ln2LastRefIdeal.nD Cert.Ln2LastRefIdeal.τ).loc Cert.Ln2LastRefIdeal.main_arg3)
          ∧ r.2.mem ((c.tc : Thread Cert.Ln2LastRefIdeal.nD Cert.Ln2LastRefIdeal.τ).loc Cert.Ln2LastRefIdeal.main_arg4) = m' ((c.tc : Thread Cert.Ln2LastRefIdeal.nD Cert.Ln2LastRefIdeal.τ).loc Cert.Ln2LastRefIdeal.main_arg4)
          ∧ r.2.mem ((c.tc : Thread Cert.Ln2LastRefIdeal.nD Cert.Ln2LastRefIdeal.τ).loc Cert.Ln2LastRefIdeal.main_arg5) = m' ((c.tc : Thread Cert.Ln2LastRefIdeal.nD Cert.Ln2LastRefIdeal.τ).loc Cert.Ln2LastRefIdeal.main_arg5)
          ∧ r.2.mem ((c.tc : Thread Cert.Ln2LastRefIdeal.nD Cert.Ln2LastRefIdeal.τ).loc Cert.Ln2LastRefIdeal.main_arg6) = m' ((c.tc : Thread Cert.Ln2LastRefIdeal.nD Cert.Ln2LastRefIdeal.τ).loc Cert.Ln2LastRefIdeal.main_arg6))

def preserves_Ln2Bwd_Ln2BwdIdeal : Prop :=
  True

def algebraic_Ln2BwdIdeal_Ln2BwdRefIdeal_on_ln2_bwd_sums [hLn2BwdIdeal : Cert.Ln2BwdIdeal.Facts] [hLn2BwdRefIdeal : Cert.Ln2BwdRefIdeal.Facts] [hOn_ln2_bwd_sums : Cert.On_ln2_bwd_sums.Facts] : Prop :=
  ∀ (m : (ℓ : Loc Cert.Ln2BwdIdeal.nD Cert.Ln2BwdIdeal.τ Cert.Ln2BwdIdeal.sig) → Buf (Elt Ideal) ℓ) (g : Dev Cert.Ln2BwdIdeal.nD → PrngReg)
    (m' : (ℓ : Loc Cert.Ln2BwdRefIdeal.nD Cert.Ln2BwdRefIdeal.τ Cert.Ln2BwdRefIdeal.sig) → Buf (Elt Ideal) ℓ) (g' : Dev Cert.Ln2BwdRefIdeal.nD → PrngReg), Pre_Ln2BwdIdeal m →
    (∀ c : Dev Cert.Ln2BwdIdeal.nD,
      m' ((c.tc : Thread Cert.Ln2BwdRefIdeal.nD Cert.Ln2BwdRefIdeal.τ).loc Cert.Ln2BwdRefIdeal.main_arg0) = m ((c.tc : Thread Cert.Ln2BwdIdeal.nD Cert.Ln2BwdIdeal.τ).loc Cert.Ln2BwdIdeal.main_arg0)
      ∧ m' ((c.tc : Thread Cert.Ln2BwdRefIdeal.nD Cert.Ln2BwdRefIdeal.τ).loc Cert.Ln2BwdRefIdeal.main_arg1) = m ((c.tc : Thread Cert.Ln2BwdIdeal.nD Cert.Ln2BwdIdeal.τ).loc Cert.Ln2BwdIdeal.main_arg1)
      ∧ m' ((c.tc : Thread Cert.Ln2BwdRefIdeal.nD Cert.Ln2BwdRefIdeal.τ).loc Cert.Ln2BwdRefIdeal.main_arg2) = m ((c.tc : Thread Cert.Ln2BwdIdeal.nD Cert.Ln2BwdIdeal.τ).loc Cert.Ln2BwdIdeal.main_arg2)
      ∧ m' ((c.tc : Thread Cert.Ln2BwdRefIdeal.nD Cert.Ln2BwdRefIdeal.τ).loc Cert.Ln2BwdRefIdeal.main_arg3) = m ((c.tc : Thread Cert.Ln2BwdIdeal.nD Cert.Ln2BwdIdeal.τ).loc Cert.Ln2BwdIdeal.main_arg3)
      ∧ m' ((c.tc : Thread Cert.Ln2BwdRefIdeal.nD Cert.Ln2BwdRefIdeal.τ).loc Cert.Ln2BwdRefIdeal.main_arg4) = m ((c.tc : Thread Cert.Ln2BwdIdeal.nD Cert.Ln2BwdIdeal.τ).loc Cert.Ln2BwdIdeal.main_arg4)) →
    ∃ (v0 : (c : Dev Cert.Ln2BwdIdeal.nD) → Buf (Elt Ideal) ((c.tc : Thread Cert.Ln2BwdIdeal.nD Cert.Ln2BwdIdeal.τ).loc Cert.Ln2BwdIdeal.main_v1_0)) (v1 : (c : Dev Cert.Ln2BwdIdeal.nD) → Buf (Elt Ideal) ((c.tc : Thread Cert.Ln2BwdIdeal.nD Cert.Ln2BwdIdeal.τ).loc Cert.Ln2BwdIdeal.main_v1_1)) (v2 : (c : Dev Cert.Ln2BwdIdeal.nD) → Buf (Elt Ideal) ((c.tc : Thread Cert.Ln2BwdIdeal.nD Cert.Ln2BwdIdeal.τ).loc Cert.Ln2BwdIdeal.main_v1_2)) (v3 : (c : Dev Cert.Ln2BwdIdeal.nD) → Buf (Elt Ideal) ((c.tc : Thread Cert.Ln2BwdIdeal.nD Cert.Ln2BwdIdeal.τ).loc Cert.Ln2BwdIdeal.main_v1_3)) (v4 : (c : Dev Cert.Ln2BwdIdeal.nD) → Buf (Elt Ideal) ((c.tc : Thread Cert.Ln2BwdIdeal.nD Cert.Ln2BwdIdeal.τ).loc Cert.Ln2BwdIdeal.main_v1_4)),
      θ_run (Cert.Ln2BwdIdeal.defs (F := Ideal)) (onTc (τ := Cert.Ln2BwdIdeal.τ) (Cert.Ln2BwdIdeal.main (F := Ideal))) ⟨m, fun _ => 0, g⟩ (fun r => ∀ c : Dev Cert.Ln2BwdIdeal.nD,
          (∀ i : (⟨2, ![8192, 2048]⟩ : Shape).Idx, (Cert.On_ln2_bwd_sums.fn (F := Ideal) (m ((c.tc : Thread Cert.Ln2BwdIdeal.nD Cert.Ln2BwdIdeal.τ).loc Cert.Ln2BwdIdeal.main_arg0)) (m ((c.tc : Thread Cert.Ln2BwdIdeal.nD Cert.Ln2BwdIdeal.τ).loc Cert.Ln2BwdIdeal.main_arg1)) (m ((c.tc : Thread Cert.Ln2BwdIdeal.nD Cert.Ln2BwdIdeal.τ).loc Cert.Ln2BwdIdeal.main_arg2)) (m ((c.tc : Thread Cert.Ln2BwdIdeal.nD Cert.Ln2BwdIdeal.τ).loc Cert.Ln2BwdIdeal.main_arg3)) (m ((c.tc : Thread Cert.Ln2BwdIdeal.nD Cert.Ln2BwdIdeal.τ).loc Cert.Ln2BwdIdeal.main_arg4))).1 i = 1#1 → r.2.mem ((c.tc : Thread Cert.Ln2BwdIdeal.nD Cert.Ln2BwdIdeal.τ).loc Cert.Ln2BwdIdeal.main_v1_0) i = v0 c i)
          ∧ (∀ i : (⟨2, ![8192, 2048]⟩ : Shape).Idx, (Cert.On_ln2_bwd_sums.fn (F := Ideal) (m ((c.tc : Thread Cert.Ln2BwdIdeal.nD Cert.Ln2BwdIdeal.τ).loc Cert.Ln2BwdIdeal.main_arg0)) (m ((c.tc : Thread Cert.Ln2BwdIdeal.nD Cert.Ln2BwdIdeal.τ).loc Cert.Ln2BwdIdeal.main_arg1)) (m ((c.tc : Thread Cert.Ln2BwdIdeal.nD Cert.Ln2BwdIdeal.τ).loc Cert.Ln2BwdIdeal.main_arg2)) (m ((c.tc : Thread Cert.Ln2BwdIdeal.nD Cert.Ln2BwdIdeal.τ).loc Cert.Ln2BwdIdeal.main_arg3)) (m ((c.tc : Thread Cert.Ln2BwdIdeal.nD Cert.Ln2BwdIdeal.τ).loc Cert.Ln2BwdIdeal.main_arg4))).2.1 i = 1#1 → r.2.mem ((c.tc : Thread Cert.Ln2BwdIdeal.nD Cert.Ln2BwdIdeal.τ).loc Cert.Ln2BwdIdeal.main_v1_1) i = v1 c i)
          ∧ (∀ i : (⟨2, ![1, 2048]⟩ : Shape).Idx, (Cert.On_ln2_bwd_sums.fn (F := Ideal) (m ((c.tc : Thread Cert.Ln2BwdIdeal.nD Cert.Ln2BwdIdeal.τ).loc Cert.Ln2BwdIdeal.main_arg0)) (m ((c.tc : Thread Cert.Ln2BwdIdeal.nD Cert.Ln2BwdIdeal.τ).loc Cert.Ln2BwdIdeal.main_arg1)) (m ((c.tc : Thread Cert.Ln2BwdIdeal.nD Cert.Ln2BwdIdeal.τ).loc Cert.Ln2BwdIdeal.main_arg2)) (m ((c.tc : Thread Cert.Ln2BwdIdeal.nD Cert.Ln2BwdIdeal.τ).loc Cert.Ln2BwdIdeal.main_arg3)) (m ((c.tc : Thread Cert.Ln2BwdIdeal.nD Cert.Ln2BwdIdeal.τ).loc Cert.Ln2BwdIdeal.main_arg4))).2.2.1 i = 1#1 → r.2.mem ((c.tc : Thread Cert.Ln2BwdIdeal.nD Cert.Ln2BwdIdeal.τ).loc Cert.Ln2BwdIdeal.main_v1_2) i = v2 c i)
          ∧ (∀ i : (⟨2, ![1, 2048]⟩ : Shape).Idx, (Cert.On_ln2_bwd_sums.fn (F := Ideal) (m ((c.tc : Thread Cert.Ln2BwdIdeal.nD Cert.Ln2BwdIdeal.τ).loc Cert.Ln2BwdIdeal.main_arg0)) (m ((c.tc : Thread Cert.Ln2BwdIdeal.nD Cert.Ln2BwdIdeal.τ).loc Cert.Ln2BwdIdeal.main_arg1)) (m ((c.tc : Thread Cert.Ln2BwdIdeal.nD Cert.Ln2BwdIdeal.τ).loc Cert.Ln2BwdIdeal.main_arg2)) (m ((c.tc : Thread Cert.Ln2BwdIdeal.nD Cert.Ln2BwdIdeal.τ).loc Cert.Ln2BwdIdeal.main_arg3)) (m ((c.tc : Thread Cert.Ln2BwdIdeal.nD Cert.Ln2BwdIdeal.τ).loc Cert.Ln2BwdIdeal.main_arg4))).2.2.2.1 i = 1#1 → r.2.mem ((c.tc : Thread Cert.Ln2BwdIdeal.nD Cert.Ln2BwdIdeal.τ).loc Cert.Ln2BwdIdeal.main_v1_3) i = v3 c i)
          ∧ (∀ i : (⟨2, ![1, 2048]⟩ : Shape).Idx, (Cert.On_ln2_bwd_sums.fn (F := Ideal) (m ((c.tc : Thread Cert.Ln2BwdIdeal.nD Cert.Ln2BwdIdeal.τ).loc Cert.Ln2BwdIdeal.main_arg0)) (m ((c.tc : Thread Cert.Ln2BwdIdeal.nD Cert.Ln2BwdIdeal.τ).loc Cert.Ln2BwdIdeal.main_arg1)) (m ((c.tc : Thread Cert.Ln2BwdIdeal.nD Cert.Ln2BwdIdeal.τ).loc Cert.Ln2BwdIdeal.main_arg2)) (m ((c.tc : Thread Cert.Ln2BwdIdeal.nD Cert.Ln2BwdIdeal.τ).loc Cert.Ln2BwdIdeal.main_arg3)) (m ((c.tc : Thread Cert.Ln2BwdIdeal.nD Cert.Ln2BwdIdeal.τ).loc Cert.Ln2BwdIdeal.main_arg4))).2.2.2.2 i = 1#1 → r.2.mem ((c.tc : Thread Cert.Ln2BwdIdeal.nD Cert.Ln2BwdIdeal.τ).loc Cert.Ln2BwdIdeal.main_v1_4) i = v4 c i)
          ∧ r.2.mem ((c.tc : Thread Cert.Ln2BwdIdeal.nD Cert.Ln2BwdIdeal.τ).loc Cert.Ln2BwdIdeal.main_arg0) = m ((c.tc : Thread Cert.Ln2BwdIdeal.nD Cert.Ln2BwdIdeal.τ).loc Cert.Ln2BwdIdeal.main_arg0)
          ∧ r.2.mem ((c.tc : Thread Cert.Ln2BwdIdeal.nD Cert.Ln2BwdIdeal.τ).loc Cert.Ln2BwdIdeal.main_arg1) = m ((c.tc : Thread Cert.Ln2BwdIdeal.nD Cert.Ln2BwdIdeal.τ).loc Cert.Ln2BwdIdeal.main_arg1)
          ∧ r.2.mem ((c.tc : Thread Cert.Ln2BwdIdeal.nD Cert.Ln2BwdIdeal.τ).loc Cert.Ln2BwdIdeal.main_arg2) = m ((c.tc : Thread Cert.Ln2BwdIdeal.nD Cert.Ln2BwdIdeal.τ).loc Cert.Ln2BwdIdeal.main_arg2)
          ∧ r.2.mem ((c.tc : Thread Cert.Ln2BwdIdeal.nD Cert.Ln2BwdIdeal.τ).loc Cert.Ln2BwdIdeal.main_arg3) = m ((c.tc : Thread Cert.Ln2BwdIdeal.nD Cert.Ln2BwdIdeal.τ).loc Cert.Ln2BwdIdeal.main_arg3)
          ∧ r.2.mem ((c.tc : Thread Cert.Ln2BwdIdeal.nD Cert.Ln2BwdIdeal.τ).loc Cert.Ln2BwdIdeal.main_arg4) = m ((c.tc : Thread Cert.Ln2BwdIdeal.nD Cert.Ln2BwdIdeal.τ).loc Cert.Ln2BwdIdeal.main_arg4))
      ∧ θ_run (Cert.Ln2BwdRefIdeal.defs (F := Ideal)) (onTc (τ := Cert.Ln2BwdRefIdeal.τ) (Cert.Ln2BwdRefIdeal.main (F := Ideal))) ⟨m', fun _ => 0, g'⟩ (fun r => ∀ c : Dev Cert.Ln2BwdRefIdeal.nD,
          (∀ i : (⟨2, ![8192, 2048]⟩ : Shape).Idx, (Cert.On_ln2_bwd_sums.fn (F := Ideal) (m ((c.tc : Thread Cert.Ln2BwdIdeal.nD Cert.Ln2BwdIdeal.τ).loc Cert.Ln2BwdIdeal.main_arg0)) (m ((c.tc : Thread Cert.Ln2BwdIdeal.nD Cert.Ln2BwdIdeal.τ).loc Cert.Ln2BwdIdeal.main_arg1)) (m ((c.tc : Thread Cert.Ln2BwdIdeal.nD Cert.Ln2BwdIdeal.τ).loc Cert.Ln2BwdIdeal.main_arg2)) (m ((c.tc : Thread Cert.Ln2BwdIdeal.nD Cert.Ln2BwdIdeal.τ).loc Cert.Ln2BwdIdeal.main_arg3)) (m ((c.tc : Thread Cert.Ln2BwdIdeal.nD Cert.Ln2BwdIdeal.τ).loc Cert.Ln2BwdIdeal.main_arg4))).1 i = 1#1 → r.2.mem ((c.tc : Thread Cert.Ln2BwdRefIdeal.nD Cert.Ln2BwdRefIdeal.τ).loc Cert.Ln2BwdRefIdeal.main_v62) i = v0 c i)
          ∧ (∀ i : (⟨2, ![8192, 2048]⟩ : Shape).Idx, (Cert.On_ln2_bwd_sums.fn (F := Ideal) (m ((c.tc : Thread Cert.Ln2BwdIdeal.nD Cert.Ln2BwdIdeal.τ).loc Cert.Ln2BwdIdeal.main_arg0)) (m ((c.tc : Thread Cert.Ln2BwdIdeal.nD Cert.Ln2BwdIdeal.τ).loc Cert.Ln2BwdIdeal.main_arg1)) (m ((c.tc : Thread Cert.Ln2BwdIdeal.nD Cert.Ln2BwdIdeal.τ).loc Cert.Ln2BwdIdeal.main_arg2)) (m ((c.tc : Thread Cert.Ln2BwdIdeal.nD Cert.Ln2BwdIdeal.τ).loc Cert.Ln2BwdIdeal.main_arg3)) (m ((c.tc : Thread Cert.Ln2BwdIdeal.nD Cert.Ln2BwdIdeal.τ).loc Cert.Ln2BwdIdeal.main_arg4))).2.1 i = 1#1 → r.2.mem ((c.tc : Thread Cert.Ln2BwdRefIdeal.nD Cert.Ln2BwdRefIdeal.τ).loc Cert.Ln2BwdRefIdeal.main_v65) i = v1 c i)
          ∧ (∀ i : (⟨2, ![1, 2048]⟩ : Shape).Idx, (Cert.On_ln2_bwd_sums.fn (F := Ideal) (m ((c.tc : Thread Cert.Ln2BwdIdeal.nD Cert.Ln2BwdIdeal.τ).loc Cert.Ln2BwdIdeal.main_arg0)) (m ((c.tc : Thread Cert.Ln2BwdIdeal.nD Cert.Ln2BwdIdeal.τ).loc Cert.Ln2BwdIdeal.main_arg1)) (m ((c.tc : Thread Cert.Ln2BwdIdeal.nD Cert.Ln2BwdIdeal.τ).loc Cert.Ln2BwdIdeal.main_arg2)) (m ((c.tc : Thread Cert.Ln2BwdIdeal.nD Cert.Ln2BwdIdeal.τ).loc Cert.Ln2BwdIdeal.main_arg3)) (m ((c.tc : Thread Cert.Ln2BwdIdeal.nD Cert.Ln2BwdIdeal.τ).loc Cert.Ln2BwdIdeal.main_arg4))).2.2.1 i = 1#1 → r.2.mem ((c.tc : Thread Cert.Ln2BwdRefIdeal.nD Cert.Ln2BwdRefIdeal.τ).loc Cert.Ln2BwdRefIdeal.main_v40) i = v2 c i)
          ∧ (∀ i : (⟨2, ![1, 2048]⟩ : Shape).Idx, (Cert.On_ln2_bwd_sums.fn (F := Ideal) (m ((c.tc : Thread Cert.Ln2BwdIdeal.nD Cert.Ln2BwdIdeal.τ).loc Cert.Ln2BwdIdeal.main_arg0)) (m ((c.tc : Thread Cert.Ln2BwdIdeal.nD Cert.Ln2BwdIdeal.τ).loc Cert.Ln2BwdIdeal.main_arg1)) (m ((c.tc : Thread Cert.Ln2BwdIdeal.nD Cert.Ln2BwdIdeal.τ).loc Cert.Ln2BwdIdeal.main_arg2)) (m ((c.tc : Thread Cert.Ln2BwdIdeal.nD Cert.Ln2BwdIdeal.τ).loc Cert.Ln2BwdIdeal.main_arg3)) (m ((c.tc : Thread Cert.Ln2BwdIdeal.nD Cert.Ln2BwdIdeal.τ).loc Cert.Ln2BwdIdeal.main_arg4))).2.2.2.1 i = 1#1 → r.2.mem ((c.tc : Thread Cert.Ln2BwdRefIdeal.nD Cert.Ln2BwdRefIdeal.τ).loc Cert.Ln2BwdRefIdeal.main_v37) i = v3 c i)
          ∧ (∀ i : (⟨2, ![1, 2048]⟩ : Shape).Idx, (Cert.On_ln2_bwd_sums.fn (F := Ideal) (m ((c.tc : Thread Cert.Ln2BwdIdeal.nD Cert.Ln2BwdIdeal.τ).loc Cert.Ln2BwdIdeal.main_arg0)) (m ((c.tc : Thread Cert.Ln2BwdIdeal.nD Cert.Ln2BwdIdeal.τ).loc Cert.Ln2BwdIdeal.main_arg1)) (m ((c.tc : Thread Cert.Ln2BwdIdeal.nD Cert.Ln2BwdIdeal.τ).loc Cert.Ln2BwdIdeal.main_arg2)) (m ((c.tc : Thread Cert.Ln2BwdIdeal.nD Cert.Ln2BwdIdeal.τ).loc Cert.Ln2BwdIdeal.main_arg3)) (m ((c.tc : Thread Cert.Ln2BwdIdeal.nD Cert.Ln2BwdIdeal.τ).loc Cert.Ln2BwdIdeal.main_arg4))).2.2.2.2 i = 1#1 → r.2.mem ((c.tc : Thread Cert.Ln2BwdRefIdeal.nD Cert.Ln2BwdRefIdeal.τ).loc Cert.Ln2BwdRefIdeal.main_v64) i = v4 c i)
          ∧ r.2.mem ((c.tc : Thread Cert.Ln2BwdRefIdeal.nD Cert.Ln2BwdRefIdeal.τ).loc Cert.Ln2BwdRefIdeal.main_arg0) = m' ((c.tc : Thread Cert.Ln2BwdRefIdeal.nD Cert.Ln2BwdRefIdeal.τ).loc Cert.Ln2BwdRefIdeal.main_arg0)
          ∧ r.2.mem ((c.tc : Thread Cert.Ln2BwdRefIdeal.nD Cert.Ln2BwdRefIdeal.τ).loc Cert.Ln2BwdRefIdeal.main_arg1) = m' ((c.tc : Thread Cert.Ln2BwdRefIdeal.nD Cert.Ln2BwdRefIdeal.τ).loc Cert.Ln2BwdRefIdeal.main_arg1)
          ∧ r.2.mem ((c.tc : Thread Cert.Ln2BwdRefIdeal.nD Cert.Ln2BwdRefIdeal.τ).loc Cert.Ln2BwdRefIdeal.main_arg2) = m' ((c.tc : Thread Cert.Ln2BwdRefIdeal.nD Cert.Ln2BwdRefIdeal.τ).loc Cert.Ln2BwdRefIdeal.main_arg2)
          ∧ r.2.mem ((c.tc : Thread Cert.Ln2BwdRefIdeal.nD Cert.Ln2BwdRefIdeal.τ).loc Cert.Ln2BwdRefIdeal.main_arg3) = m' ((c.tc : Thread Cert.Ln2BwdRefIdeal.nD Cert.Ln2BwdRefIdeal.τ).loc Cert.Ln2BwdRefIdeal.main_arg3)
          ∧ r.2.mem ((c.tc : Thread Cert.Ln2BwdRefIdeal.nD Cert.Ln2BwdRefIdeal.τ).loc Cert.Ln2BwdRefIdeal.main_arg4) = m' ((c.tc : Thread Cert.Ln2BwdRefIdeal.nD Cert.Ln2BwdRefIdeal.τ).loc Cert.Ln2BwdRefIdeal.main_arg4))

def Claim : Prop :=
  ∃ (hHostGradX : Cert.HostGradX.Facts) (hHostGradXIdeal : Cert.HostGradXIdeal.Facts) (hHostGradXRefIdeal : Cert.HostGradXRefIdeal.Facts) (hHostProj : Cert.HostProj.Facts) (hHostProjIdeal : Cert.HostProjIdeal.Facts) (hHostProjRefIdeal : Cert.HostProjRefIdeal.Facts) (hHostFf2 : Cert.HostFf2.Facts) (hHostFf2Ideal : Cert.HostFf2Ideal.Facts) (hHostFf2RefIdeal : Cert.HostFf2RefIdeal.Facts) (hDffHidden : Cert.DffHidden.Facts) (hDffHiddenIdeal : Cert.DffHiddenIdeal.Facts) (hDffHiddenRefIdeal : Cert.DffHiddenRefIdeal.Facts) (hHostMix : Cert.HostMix.Facts) (hHostMixIdeal : Cert.HostMixIdeal.Facts) (hHostMixRefIdeal : Cert.HostMixRefIdeal.Facts) (hMixOutBwd : Cert.MixOutBwd.Facts) (hMixOutBwdIdeal : Cert.MixOutBwdIdeal.Facts) (hMixOutBwdRefIdeal : Cert.MixOutBwdRefIdeal.Facts) (hDwFf2 : Cert.DwFf2.Facts) (hDwFf2Ideal : Cert.DwFf2Ideal.Facts) (hDwFf2RefIdeal : Cert.DwFf2RefIdeal.Facts) (hDwFf1 : Cert.DwFf1.Facts) (hDwFf1Ideal : Cert.DwFf1Ideal.Facts) (hDwFf1RefIdeal : Cert.DwFf1RefIdeal.Facts) (hDwOut : Cert.DwOut.Facts) (hDwOutIdeal : Cert.DwOutIdeal.Facts) (hDwOutRefIdeal : Cert.DwOutRefIdeal.Facts) (hDwIn : Cert.DwIn.Facts) (hDwInIdeal : Cert.DwInIdeal.Facts) (hDwInRefIdeal : Cert.DwInRefIdeal.Facts) (hFf1Bwd : Cert.Ff1Bwd.Facts) (hFf1BwdIdeal : Cert.Ff1BwdIdeal.Facts) (hFf1BwdRefIdeal : Cert.Ff1BwdRefIdeal.Facts) (hMixOut0 : Cert.MixOut0.Facts) (hMixOut0Ideal : Cert.MixOut0Ideal.Facts) (hMixOut0RefIdeal : Cert.MixOut0RefIdeal.Facts) (hMixOut1 : Cert.MixOut1.Facts) (hMixOut1Ideal : Cert.MixOut1Ideal.Facts) (hMixOut1RefIdeal : Cert.MixOut1RefIdeal.Facts) (hProj : Cert.Proj.Facts) (hProjIdeal : Cert.ProjIdeal.Facts) (hProjRefIdeal : Cert.ProjRefIdeal.Facts) (hFf1 : Cert.Ff1.Facts) (hFf1Ideal : Cert.Ff1Ideal.Facts) (hFf1RefIdeal : Cert.Ff1RefIdeal.Facts) (hFf2 : Cert.Ff2.Facts) (hFf2Ideal : Cert.Ff2Ideal.Facts) (hFf2RefIdeal : Cert.Ff2RefIdeal.Facts) (hLn2 : Cert.Ln2.Facts) (hLn2Ideal : Cert.Ln2Ideal.Facts) (hLn2RefIdeal : Cert.Ln2RefIdeal.Facts) (hAdamwOut1 : Cert.AdamwOut1.Facts) (hAdamwOut1Ideal : Cert.AdamwOut1Ideal.Facts) (hAdamwOut1RefIdeal : Cert.AdamwOut1RefIdeal.Facts) (hAdamwOut0 : Cert.AdamwOut0.Facts) (hAdamwOut0Ideal : Cert.AdamwOut0Ideal.Facts) (hAdamwOut0RefIdeal : Cert.AdamwOut0RefIdeal.Facts) (hAdamwFf2 : Cert.AdamwFf2.Facts) (hAdamwFf2Ideal : Cert.AdamwFf2Ideal.Facts) (hAdamwFf2RefIdeal : Cert.AdamwFf2RefIdeal.Facts) (hAdamwIn0 : Cert.AdamwIn0.Facts) (hAdamwIn0Ideal : Cert.AdamwIn0Ideal.Facts) (hAdamwIn0RefIdeal : Cert.AdamwIn0RefIdeal.Facts) (hAdamwConv : Cert.AdamwConv.Facts) (hAdamwConvIdeal : Cert.AdamwConvIdeal.Facts) (hAdamwConvRefIdeal : Cert.AdamwConvRefIdeal.Facts) (hMixFwd : Cert.MixFwd.Facts) (hMixFwdIdeal : Cert.MixFwdIdeal.Facts) (hMixFwdRefIdeal : Cert.MixFwdRefIdeal.Facts) (hAdamwReplicated : Cert.AdamwReplicated.Facts) (hAdamwReplicatedIdeal : Cert.AdamwReplicatedIdeal.Facts) (hAdamwReplicatedRefIdeal : Cert.AdamwReplicatedRefIdeal.Facts) (hLn1Bwd : Cert.Ln1Bwd.Facts) (hLn1BwdIdeal : Cert.Ln1BwdIdeal.Facts) (hLn1BwdRefIdeal : Cert.Ln1BwdRefIdeal.Facts) (hLn2Last : Cert.Ln2Last.Facts) (hLn2LastIdeal : Cert.Ln2LastIdeal.Facts) (hLn2LastRefIdeal : Cert.Ln2LastRefIdeal.Facts) (hLn2Bwd : Cert.Ln2Bwd.Facts) (hLn2BwdIdeal : Cert.Ln2BwdIdeal.Facts) (hLn2BwdRefIdeal : Cert.Ln2BwdRefIdeal.Facts) (hOn_host_proj_last : Cert.On_host_proj_last.Facts) (hOn_host_ff2_last : Cert.On_host_ff2_last.Facts) (hOn_host_mix_last : Cert.On_host_mix_last.Facts) (hOn_adamw_out1_last : Cert.On_adamw_out1_last.Facts) (hOn_ln1_bwd_sums : Cert.On_ln1_bwd_sums.Facts) (hOn_ln2_last_sums : Cert.On_ln2_last_sums.Facts) (hOn_ln2_bwd_sums : Cert.On_ln2_bwd_sums.Facts),
    quiescent_HostGradX (hHostGradX := hHostGradX)
    ∧ quiescent_HostGradXIdeal (hHostGradXIdeal := hHostGradXIdeal)
    ∧ quiescent_HostGradXRefIdeal (hHostGradXRefIdeal := hHostGradXRefIdeal)
    ∧ quiescent_HostProj (hHostProj := hHostProj)
    ∧ quiescent_HostProjIdeal (hHostProjIdeal := hHostProjIdeal)
    ∧ quiescent_HostProjRefIdeal (hHostProjRefIdeal := hHostProjRefIdeal)
    ∧ quiescent_HostFf2 (hHostFf2 := hHostFf2)
    ∧ quiescent_HostFf2Ideal (hHostFf2Ideal := hHostFf2Ideal)
    ∧ quiescent_HostFf2RefIdeal (hHostFf2RefIdeal := hHostFf2RefIdeal)
    ∧ quiescent_DffHidden (hDffHidden := hDffHidden)
    ∧ quiescent_DffHiddenIdeal (hDffHiddenIdeal := hDffHiddenIdeal)
    ∧ quiescent_DffHiddenRefIdeal (hDffHiddenRefIdeal := hDffHiddenRefIdeal)
    ∧ quiescent_HostMix (hHostMix := hHostMix)
    ∧ quiescent_HostMixIdeal (hHostMixIdeal := hHostMixIdeal)
    ∧ quiescent_HostMixRefIdeal (hHostMixRefIdeal := hHostMixRefIdeal)
    ∧ quiescent_MixOutBwd (hMixOutBwd := hMixOutBwd)
    ∧ quiescent_MixOutBwdIdeal (hMixOutBwdIdeal := hMixOutBwdIdeal)
    ∧ quiescent_MixOutBwdRefIdeal (hMixOutBwdRefIdeal := hMixOutBwdRefIdeal)
    ∧ quiescent_DwFf2 (hDwFf2 := hDwFf2)
    ∧ quiescent_DwFf2Ideal (hDwFf2Ideal := hDwFf2Ideal)
    ∧ quiescent_DwFf2RefIdeal (hDwFf2RefIdeal := hDwFf2RefIdeal)
    ∧ quiescent_DwFf1 (hDwFf1 := hDwFf1)
    ∧ quiescent_DwFf1Ideal (hDwFf1Ideal := hDwFf1Ideal)
    ∧ quiescent_DwFf1RefIdeal (hDwFf1RefIdeal := hDwFf1RefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Ff1Bwd (hFf1Bwd := hFf1Bwd)
    ∧ quiescent_Ff1BwdIdeal (hFf1BwdIdeal := hFf1BwdIdeal)
    ∧ quiescent_Ff1BwdRefIdeal (hFf1BwdRefIdeal := hFf1BwdRefIdeal)
    ∧ quiescent_MixOut0 (hMixOut0 := hMixOut0)
    ∧ quiescent_MixOut0Ideal (hMixOut0Ideal := hMixOut0Ideal)
    ∧ quiescent_MixOut0RefIdeal (hMixOut0RefIdeal := hMixOut0RefIdeal)
    ∧ quiescent_MixOut1 (hMixOut1 := hMixOut1)
    ∧ quiescent_MixOut1Ideal (hMixOut1Ideal := hMixOut1Ideal)
    ∧ quiescent_MixOut1RefIdeal (hMixOut1RefIdeal := hMixOut1RefIdeal)
    ∧ quiescent_Proj (hProj := hProj)
    ∧ quiescent_ProjIdeal (hProjIdeal := hProjIdeal)
    ∧ quiescent_ProjRefIdeal (hProjRefIdeal := hProjRefIdeal)
    ∧ quiescent_Ff1 (hFf1 := hFf1)
    ∧ quiescent_Ff1Ideal (hFf1Ideal := hFf1Ideal)
    ∧ quiescent_Ff1RefIdeal (hFf1RefIdeal := hFf1RefIdeal)
    ∧ quiescent_Ff2 (hFf2 := hFf2)
    ∧ quiescent_Ff2Ideal (hFf2Ideal := hFf2Ideal)
    ∧ quiescent_Ff2RefIdeal (hFf2RefIdeal := hFf2RefIdeal)
    ∧ quiescent_Ln2 (hLn2 := hLn2)
    ∧ quiescent_Ln2Ideal (hLn2Ideal := hLn2Ideal)
    ∧ quiescent_Ln2RefIdeal (hLn2RefIdeal := hLn2RefIdeal)
    ∧ quiescent_AdamwOut1 (hAdamwOut1 := hAdamwOut1)
    ∧ quiescent_AdamwOut1Ideal (hAdamwOut1Ideal := hAdamwOut1Ideal)
    ∧ quiescent_AdamwOut1RefIdeal (hAdamwOut1RefIdeal := hAdamwOut1RefIdeal)
    ∧ quiescent_AdamwOut0 (hAdamwOut0 := hAdamwOut0)
    ∧ quiescent_AdamwOut0Ideal (hAdamwOut0Ideal := hAdamwOut0Ideal)
    ∧ quiescent_AdamwOut0RefIdeal (hAdamwOut0RefIdeal := hAdamwOut0RefIdeal)
    ∧ quiescent_AdamwFf2 (hAdamwFf2 := hAdamwFf2)
    ∧ quiescent_AdamwFf2Ideal (hAdamwFf2Ideal := hAdamwFf2Ideal)
    ∧ quiescent_AdamwFf2RefIdeal (hAdamwFf2RefIdeal := hAdamwFf2RefIdeal)
    ∧ quiescent_AdamwIn0 (hAdamwIn0 := hAdamwIn0)
    ∧ quiescent_AdamwIn0Ideal (hAdamwIn0Ideal := hAdamwIn0Ideal)
    ∧ quiescent_AdamwIn0RefIdeal (hAdamwIn0RefIdeal := hAdamwIn0RefIdeal)
    ∧ quiescent_AdamwConv (hAdamwConv := hAdamwConv)
    ∧ quiescent_AdamwConvIdeal (hAdamwConvIdeal := hAdamwConvIdeal)
    ∧ quiescent_AdamwConvRefIdeal (hAdamwConvRefIdeal := hAdamwConvRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_AdamwReplicated (hAdamwReplicated := hAdamwReplicated)
    ∧ quiescent_AdamwReplicatedIdeal (hAdamwReplicatedIdeal := hAdamwReplicatedIdeal)
    ∧ quiescent_AdamwReplicatedRefIdeal (hAdamwReplicatedRefIdeal := hAdamwReplicatedRefIdeal)
    ∧ quiescent_Ln1Bwd (hLn1Bwd := hLn1Bwd)
    ∧ quiescent_Ln1BwdIdeal (hLn1BwdIdeal := hLn1BwdIdeal)
    ∧ quiescent_Ln1BwdRefIdeal (hLn1BwdRefIdeal := hLn1BwdRefIdeal)
    ∧ quiescent_Ln2Last (hLn2Last := hLn2Last)
    ∧ quiescent_Ln2LastIdeal (hLn2LastIdeal := hLn2LastIdeal)
    ∧ quiescent_Ln2LastRefIdeal (hLn2LastRefIdeal := hLn2LastRefIdeal)
    ∧ quiescent_Ln2Bwd (hLn2Bwd := hLn2Bwd)
    ∧ quiescent_Ln2BwdIdeal (hLn2BwdIdeal := hLn2BwdIdeal)
    ∧ quiescent_Ln2BwdRefIdeal (hLn2BwdRefIdeal := hLn2BwdRefIdeal)
    ∧ preserves_HostGradX_HostGradXIdeal
    ∧ algebraic_HostGradXIdeal_HostGradXRefIdeal (hHostGradXIdeal := hHostGradXIdeal) (hHostGradXRefIdeal := hHostGradXRefIdeal)
    ∧ preserves_HostProj_HostProjIdeal
    ∧ algebraic_HostProjIdeal_HostProjRefIdeal_on_host_proj_last (hHostProjIdeal := hHostProjIdeal) (hHostProjRefIdeal := hHostProjRefIdeal) (hOn_host_proj_last := hOn_host_proj_last)
    ∧ preserves_HostFf2_HostFf2Ideal
    ∧ algebraic_HostFf2Ideal_HostFf2RefIdeal_on_host_ff2_last (hHostFf2Ideal := hHostFf2Ideal) (hHostFf2RefIdeal := hHostFf2RefIdeal) (hOn_host_ff2_last := hOn_host_ff2_last)
    ∧ preserves_DffHidden_DffHiddenIdeal
    ∧ algebraic_DffHiddenIdeal_DffHiddenRefIdeal (hDffHiddenIdeal := hDffHiddenIdeal) (hDffHiddenRefIdeal := hDffHiddenRefIdeal)
    ∧ preserves_HostMix_HostMixIdeal
    ∧ algebraic_HostMixIdeal_HostMixRefIdeal_on_host_mix_last (hHostMixIdeal := hHostMixIdeal) (hHostMixRefIdeal := hHostMixRefIdeal) (hOn_host_mix_last := hOn_host_mix_last)
    ∧ preserves_MixOutBwd_MixOutBwdIdeal
    ∧ algebraic_MixOutBwdIdeal_MixOutBwdRefIdeal (hMixOutBwdIdeal := hMixOutBwdIdeal) (hMixOutBwdRefIdeal := hMixOutBwdRefIdeal)
    ∧ preserves_DwFf2_DwFf2Ideal
    ∧ algebraic_DwFf2Ideal_DwFf2RefIdeal (hDwFf2Ideal := hDwFf2Ideal) (hDwFf2RefIdeal := hDwFf2RefIdeal)
    ∧ preserves_DwFf1_DwFf1Ideal
    ∧ algebraic_DwFf1Ideal_DwFf1RefIdeal (hDwFf1Ideal := hDwFf1Ideal) (hDwFf1RefIdeal := hDwFf1RefIdeal)
    ∧ preserves_DwOut_DwOutIdeal
    ∧ algebraic_DwOutIdeal_DwOutRefIdeal (hDwOutIdeal := hDwOutIdeal) (hDwOutRefIdeal := hDwOutRefIdeal)
    ∧ preserves_DwIn_DwInIdeal
    ∧ algebraic_DwInIdeal_DwInRefIdeal (hDwInIdeal := hDwInIdeal) (hDwInRefIdeal := hDwInRefIdeal)
    ∧ preserves_Ff1Bwd_Ff1BwdIdeal
    ∧ algebraic_Ff1BwdIdeal_Ff1BwdRefIdeal (hFf1BwdIdeal := hFf1BwdIdeal) (hFf1BwdRefIdeal := hFf1BwdRefIdeal)
    ∧ preserves_MixOut0_MixOut0Ideal
    ∧ algebraic_MixOut0Ideal_MixOut0RefIdeal (hMixOut0Ideal := hMixOut0Ideal) (hMixOut0RefIdeal := hMixOut0RefIdeal)
    ∧ preserves_MixOut1_MixOut1Ideal
    ∧ algebraic_MixOut1Ideal_MixOut1RefIdeal (hMixOut1Ideal := hMixOut1Ideal) (hMixOut1RefIdeal := hMixOut1RefIdeal)
    ∧ preserves_Proj_ProjIdeal
    ∧ algebraic_ProjIdeal_ProjRefIdeal (hProjIdeal := hProjIdeal) (hProjRefIdeal := hProjRefIdeal)
    ∧ preserves_Ff1_Ff1Ideal
    ∧ algebraic_Ff1Ideal_Ff1RefIdeal (hFf1Ideal := hFf1Ideal) (hFf1RefIdeal := hFf1RefIdeal)
    ∧ preserves_Ff2_Ff2Ideal
    ∧ algebraic_Ff2Ideal_Ff2RefIdeal (hFf2Ideal := hFf2Ideal) (hFf2RefIdeal := hFf2RefIdeal)
    ∧ preserves_Ln2_Ln2Ideal
    ∧ algebraic_Ln2Ideal_Ln2RefIdeal (hLn2Ideal := hLn2Ideal) (hLn2RefIdeal := hLn2RefIdeal)
    ∧ preserves_AdamwOut1_AdamwOut1Ideal
    ∧ algebraic_AdamwOut1Ideal_AdamwOut1RefIdeal_on_adamw_out1_last (hAdamwOut1Ideal := hAdamwOut1Ideal) (hAdamwOut1RefIdeal := hAdamwOut1RefIdeal) (hOn_adamw_out1_last := hOn_adamw_out1_last)
    ∧ preserves_AdamwOut0_AdamwOut0Ideal
    ∧ algebraic_AdamwOut0Ideal_AdamwOut0RefIdeal (hAdamwOut0Ideal := hAdamwOut0Ideal) (hAdamwOut0RefIdeal := hAdamwOut0RefIdeal)
    ∧ preserves_AdamwFf2_AdamwFf2Ideal
    ∧ algebraic_AdamwFf2Ideal_AdamwFf2RefIdeal (hAdamwFf2Ideal := hAdamwFf2Ideal) (hAdamwFf2RefIdeal := hAdamwFf2RefIdeal)
    ∧ preserves_AdamwIn0_AdamwIn0Ideal
    ∧ algebraic_AdamwIn0Ideal_AdamwIn0RefIdeal (hAdamwIn0Ideal := hAdamwIn0Ideal) (hAdamwIn0RefIdeal := hAdamwIn0RefIdeal)
    ∧ preserves_AdamwConv_AdamwConvIdeal
    ∧ algebraic_AdamwConvIdeal_AdamwConvRefIdeal (hAdamwConvIdeal := hAdamwConvIdeal) (hAdamwConvRefIdeal := hAdamwConvRefIdeal)
    ∧ preserves_MixFwd_MixFwdIdeal
    ∧ algebraic_MixFwdIdeal_MixFwdRefIdeal (hMixFwdIdeal := hMixFwdIdeal) (hMixFwdRefIdeal := hMixFwdRefIdeal)
    ∧ preserves_AdamwReplicated_AdamwReplicatedIdeal
    ∧ algebraic_AdamwReplicatedIdeal_AdamwReplicatedRefIdeal (hAdamwReplicatedIdeal := hAdamwReplicatedIdeal) (hAdamwReplicatedRefIdeal := hAdamwReplicatedRefIdeal)
    ∧ preserves_Ln1Bwd_Ln1BwdIdeal
    ∧ algebraic_Ln1BwdIdeal_Ln1BwdRefIdeal_on_ln1_bwd_sums (hLn1BwdIdeal := hLn1BwdIdeal) (hLn1BwdRefIdeal := hLn1BwdRefIdeal) (hOn_ln1_bwd_sums := hOn_ln1_bwd_sums)
    ∧ preserves_Ln2Last_Ln2LastIdeal
    ∧ algebraic_Ln2LastIdeal_Ln2LastRefIdeal_on_ln2_last_sums (hLn2LastIdeal := hLn2LastIdeal) (hLn2LastRefIdeal := hLn2LastRefIdeal) (hOn_ln2_last_sums := hOn_ln2_last_sums)
    ∧ preserves_Ln2Bwd_Ln2BwdIdeal
    ∧ algebraic_Ln2BwdIdeal_Ln2BwdRefIdeal_on_ln2_bwd_sums (hLn2BwdIdeal := hLn2BwdIdeal) (hLn2BwdRefIdeal := hLn2BwdRefIdeal) (hOn_ln2_bwd_sums := hOn_ln2_bwd_sums)
-- ==== On_adamw_out1_last.lean ====
abbrev S2x512x2048 : Shape := ⟨3, ![2, 512, 2048]⟩
abbrev S512x2048 : Shape := ⟨2, ![512, 2048]⟩
abbrev S2 : Shape := ⟨1, ![2]⟩
abbrev S2x1x1 : Shape := ⟨3, ![2, 1, 1]⟩
abbrev S_ : Shape := ⟨0, ![]⟩

class Facts : Prop where
  bcast_S2_S2x1x1_0 : S2.BroadcastsInDim S2x1x1 (![0] : Fin 1 → Fin S2x1x1.rank)
  bcast_S_S2x1x1 : S_.BroadcastsInDim S2x1x1 (![] : Fin 0 → Fin S2x1x1.rank)
  bcast_S2x1x1_S2x512x2048_0_1_2 : S2x1x1.BroadcastsInDim S2x512x2048 (![0, 1, 2] : Fin 3 → Fin S2x512x2048.rank)

variable [Facts]

def fn {F : FTy → Type} [FloatOps F] (main_arg0 : FVec F S2x512x2048 .f32) (main_arg1 : FVec F S2x512x2048 .f32) (main_arg2 : FVec F S2x512x2048 .f32) (main_arg3 : FVec F S512x2048 .f32) : IVec S2x512x2048 1 × IVec S2x512x2048 1 × IVec S2x512x2048 1 × IVec S2x512x2048 1 :=
  let main_v0 : IVec S2 32 := iotaInDim S2 32 0
  let main_v1 : IVec S2x1x1 32 := broadcastInDim S2x1x1 ![0] bcast_S2_S2x1x1_0 main_v0
  let main_c : IVec S_ 32 := constantI S_ 32 1#32
  let main_v2 : IVec S2x1x1 32 := broadcastInDim S2x1x1 ![] bcast_S_S2x1x1 main_c
  let main_v3 : IVec S2x1x1 1 := cmpi .eq main_v1 main_v2
  let main_v4 : IVec S2x512x2048 1 := broadcastInDim S2x512x2048 ![0, 1, 2] bcast_S2x1x1_S2x512x2048_0_1_2 main_v3
  (main_v4, main_v4, main_v4, main_v4)
-- ==== On_host_ff2_last.lean ====
abbrev S8192x8192 : Shape := ⟨2, ![8192, 8192]⟩
abbrev S8192x2048 : Shape := ⟨2, ![8192, 2048]⟩
abbrev S2x2048x2048 : Shape := ⟨3, ![2, 2048, 2048]⟩
abbrev S2048x2048 : Shape := ⟨2, ![2048, 2048]⟩
abbrev S2 : Shape := ⟨1, ![2]⟩
abbrev S2x1x1 : Shape := ⟨3, ![2, 1, 1]⟩
abbrev S_ : Shape := ⟨0, ![]⟩
abbrev S1x8192 : Shape := ⟨2, ![1, 8192]⟩

class Facts : Prop where
  bcast_S2_S2x1x1_0 : S2.BroadcastsInDim S2x1x1 (![0] : Fin 1 → Fin S2x1x1.rank)
  bcast_S_S2x1x1 : S_.BroadcastsInDim S2x1x1 (![] : Fin 0 → Fin S2x1x1.rank)
  bcast_S2x1x1_S2x2048x2048_0_1_2 : S2x1x1.BroadcastsInDim S2x2048x2048 (![0, 1, 2] : Fin 3 → Fin S2x2048x2048.rank)
  bcast_S_S8192x8192 : S_.BroadcastsInDim S8192x8192 (![] : Fin 0 → Fin S8192x8192.rank)
  bcast_S_S1x8192 : S_.BroadcastsInDim S1x8192 (![] : Fin 0 → Fin S1x8192.rank)

variable [Facts]

def fn {F : FTy → Type} [FloatOps F] (main_arg0 : FVec F S8192x8192 .f32) (main_arg1 : FVec F S8192x2048 .bf16) (main_arg2 : FVec F S8192x2048 .bf16) (main_arg3 : FVec F S2x2048x2048 .f32) (main_arg4 : FVec F S2x2048x2048 .f32) (main_arg5 : FVec F S2x2048x2048 .f32) (main_arg6 : FVec F S2048x2048 .f32) : IVec S8192x8192 1 × IVec S1x8192 1 × IVec S2x2048x2048 1 × IVec S2x2048x2048 1 × IVec S2x2048x2048 1 × IVec S2x2048x2048 1 :=
  let main_v0 : IVec S2 32 := iotaInDim S2 32 0
  let main_v1 : IVec S2x1x1 32 := broadcastInDim S2x1x1 ![0] bcast_S2_S2x1x1_0 main_v0
  let main_c : IVec S_ 32 := constantI S_ 32 1#32
  let main_v2 : IVec S2x1x1 32 := broadcastInDim S2x1x1 ![] bcast_S_S2x1x1 main_c
  let main_v3 : IVec S2x1x1 1 := cmpi .eq main_v1 main_v2
  let main_v4 : IVec S2x2048x2048 1 := broadcastInDim S2x2048x2048 ![0, 1, 2] bcast_S2x1x1_S2x2048x2048_0_1_2 main_v3
  let main_c_0 : IVec S_ 1 := constantI S_ 1 1#1
  let main_v5 : IVec S8192x8192 1 := broadcastInDim S8192x8192 ![] bcast_S_S8192x8192 main_c_0
  let main_c_1 : IVec S_ 1 := constantI S_ 1 1#1
  let main_v6 : IVec S1x8192 1 := broadcastInDim S1x8192 ![] bcast_S_S1x8192 main_c_1
  (main_v5, main_v6, main_v4, main_v4, main_v4, main_v4)
-- ==== On_host_mix_last.lean ====
abbrev S8192x2048 : Shape := ⟨2, ![8192, 2048]⟩
abbrev S2048x2048 : Shape := ⟨2, ![2048, 2048]⟩
abbrev S2x2048x896 : Shape := ⟨3, ![2, 2048, 896]⟩
abbrev S2048x896 : Shape := ⟨2, ![2048, 896]⟩
abbrev S2 : Shape := ⟨1, ![2]⟩
abbrev S2x1x1 : Shape := ⟨3, ![2, 1, 1]⟩
abbrev S_ : Shape := ⟨0, ![]⟩

class Facts : Prop where
  bcast_S2_S2x1x1_0 : S2.BroadcastsInDim S2x1x1 (![0] : Fin 1 → Fin S2x1x1.rank)
  bcast_S_S2x1x1 : S_.BroadcastsInDim S2x1x1 (![] : Fin 0 → Fin S2x1x1.rank)
  bcast_S2x1x1_S2x2048x896_0_1_2 : S2x1x1.BroadcastsInDim S2x2048x896 (![0, 1, 2] : Fin 3 → Fin S2x2048x896.rank)
  bcast_S_S8192x2048 : S_.BroadcastsInDim S8192x2048 (![] : Fin 0 → Fin S8192x2048.rank)

variable [Facts]

def fn {F : FTy → Type} [FloatOps F] (main_arg0 : FVec F S8192x2048 .f32) (main_arg1 : FVec F S2048x2048 .bf16) (main_arg2 : FVec F S8192x2048 .bf16) (main_arg3 : FVec F S2x2048x896 .f32) (main_arg4 : FVec F S2x2048x896 .f32) (main_arg5 : FVec F S2x2048x896 .f32) (main_arg6 : FVec F S2048x896 .f32) : IVec S8192x2048 1 × IVec S2x2048x896 1 × IVec S2x2048x896 1 × IVec S2x2048x896 1 × IVec S2x2048x896 1 :=
  let main_v0 : IVec S2 32 := iotaInDim S2 32 0
  let main_v1 : IVec S2x1x1 32 := broadcastInDim S2x1x1 ![0] bcast_S2_S2x1x1_0 main_v0
  let main_c : IVec S_ 32 := constantI S_ 32 1#32
  let main_v2 : IVec S2x1x1 32 := broadcastInDim S2x1x1 ![] bcast_S_S2x1x1 main_c
  let main_v3 : IVec S2x1x1 1 := cmpi .eq main_v1 main_v2
  let main_v4 : IVec S2x2048x896 1 := broadcastInDim S2x2048x896 ![0, 1, 2] bcast_S2x1x1_S2x2048x896_0_1_2 main_v3
  let main_c_0 : IVec S_ 1 := constantI S_ 1 1#1
  let main_v5 : IVec S8192x2048 1 := broadcastInDim S8192x2048 ![] bcast_S_S8192x2048 main_c_0
  (main_v5, main_v4, main_v4, main_v4, main_v4)
-- ==== On_host_proj_last.lean ====
abbrev S8192x2048 : Shape := ⟨2, ![8192, 2048]⟩
abbrev S2048x3584 : Shape := ⟨2, ![2048, 3584]⟩
abbrev S8192x3584 : Shape := ⟨2, ![8192, 3584]⟩
abbrev S8x128 : Shape := ⟨2, ![8, 128]⟩
abbrev S2x2048x2048 : Shape := ⟨3, ![2, 2048, 2048]⟩
abbrev S2048x2048 : Shape := ⟨2, ![2048, 2048]⟩
abbrev S2 : Shape := ⟨1, ![2]⟩
abbrev S2x1x1 : Shape := ⟨3, ![2, 1, 1]⟩
abbrev S_ : Shape := ⟨0, ![]⟩

class Facts : Prop where
  bcast_S2_S2x1x1_0 : S2.BroadcastsInDim S2x1x1 (![0] : Fin 1 → Fin S2x1x1.rank)
  bcast_S_S2x1x1 : S_.BroadcastsInDim S2x1x1 (![] : Fin 0 → Fin S2x1x1.rank)
  bcast_S2x1x1_S2x2048x2048_0_1_2 : S2x1x1.BroadcastsInDim S2x2048x2048 (![0, 1, 2] : Fin 3 → Fin S2x2048x2048.rank)
  bcast_S_S8192x2048 : S_.BroadcastsInDim S8192x2048 (![] : Fin 0 → Fin S8192x2048.rank)

variable [Facts]

def fn {F : FTy → Type} [FloatOps F] (main_arg0 : FVec F S8192x2048 .f32) (main_arg1 : FVec F S2048x3584 .bf16) (main_arg2 : FVec F S8192x3584 .bf16) (main_arg3 : FVec F S8x128 .f32) (main_arg4 : FVec F S2x2048x2048 .f32) (main_arg5 : FVec F S2x2048x2048 .f32) (main_arg6 : FVec F S2x2048x2048 .f32) (main_arg7 : FVec F S2048x2048 .f32) : IVec S8192x2048 1 × IVec S2x2048x2048 1 × IVec S2x2048x2048 1 × IVec S2x2048x2048 1 × IVec S2x2048x2048 1 :=
  let main_v0 : IVec S2 32 := iotaInDim S2 32 0
  let main_v1 : IVec S2x1x1 32 := broadcastInDim S2x1x1 ![0] bcast_S2_S2x1x1_0 main_v0
  let main_c : IVec S_ 32 := constantI S_ 32 1#32
  let main_v2 : IVec S2x1x1 32 := broadcastInDim S2x1x1 ![] bcast_S_S2x1x1 main_c
  let main_v3 : IVec S2x1x1 1 := cmpi .eq main_v1 main_v2
  let main_v4 : IVec S2x2048x2048 1 := broadcastInDim S2x2048x2048 ![0, 1, 2] bcast_S2x1x1_S2x2048x2048_0_1_2 main_v3
  let main_c_0 : IVec S_ 1 := constantI S_ 1 1#1
  let main_v5 : IVec S8192x2048 1 := broadcastInDim S8192x2048 ![] bcast_S_S8192x2048 main_c_0
  (main_v5, main_v4, main_v4, main_v4, main_v4)
-- ==== On_ln1_bwd_sums.lean ====
abbrev S8192x2048 : Shape := ⟨2, ![8192, 2048]⟩
abbrev S2048 : Shape := ⟨1, ![2048]⟩
abbrev S8x128 : Shape := ⟨2, ![8, 128]⟩
abbrev S_ : Shape := ⟨0, ![]⟩
abbrev S1x2048 : Shape := ⟨2, ![1, 2048]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .f32) (main_arg1 : FVec F S2048 .f32) (main_arg2 : FVec F S2048 .f32) (main_arg3 : FVec F S8192x2048 .f32) (main_arg4 : FVec F S8192x2048 .f32) (main_arg5 : FVec F S8x128 .f32) : IVec S8192x2048 1 × IVec S8192x2048 1 × IVec S1x2048 1 × IVec S1x2048 1 × IVec S1x2048 1 :=
  let main_c : IVec S_ 1 := constantI S_ 1 0#1
  let main_v0 : IVec S8192x2048 1 := broadcastInDim S8192x2048 ![] bcast_S_S8192x2048 main_c
  let main_c_0 : IVec S_ 1 := constantI S_ 1 1#1
  let main_v1 : IVec S1x2048 1 := broadcastInDim S1x2048 ![] bcast_S_S1x2048 main_c_0
  let main_c_1 : IVec S_ 1 := constantI S_ 1 0#1
  let main_v2 : IVec S1x2048 1 := broadcastInDim S1x2048 ![] bcast_S_S1x2048 main_c_1
  (main_v0, main_v0, main_v1, main_v1, main_v2)
-- ==== On_ln2_bwd_sums.lean ====
abbrev S8192x2048 : Shape := ⟨2, ![8192, 2048]⟩
abbrev S2048 : Shape := ⟨1, ![2048]⟩
abbrev S_ : Shape := ⟨0, ![]⟩
abbrev S1x2048 : Shape := ⟨2, ![1, 2048]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .f32) (main_arg1 : FVec F S2048 .f32) (main_arg2 : FVec F S2048 .f32) (main_arg3 : FVec F S8192x2048 .f32) (main_arg4 : FVec F S8192x2048 .f32) : IVec S8192x2048 1 × IVec S8192x2048 1 × IVec S1x2048 1 × IVec S1x2048 1 × IVec S1x2048 1 :=
  let main_c : IVec S_ 1 := constantI S_ 1 0#1
  let main_v0 : IVec S8192x2048 1 := broadcastInDim S8192x2048 ![] bcast_S_S8192x2048 main_c
  let main_c_0 : IVec S_ 1 := constantI S_ 1 1#1
  let main_v1 : IVec S1x2048 1 := broadcastInDim S1x2048 ![] bcast_S_S1x2048 main_c_0
  let main_c_1 : IVec S_ 1 := constantI S_ 1 0#1
  let main_v2 : IVec S1x2048 1 := broadcastInDim S1x2048 ![] bcast_S_S1x2048 main_c_1
  (main_v0, main_v0, main_v1, main_v1, main_v2)
-- ==== On_ln2_last_sums.lean ====
abbrev S8192x2048 : Shape := ⟨2, ![8192, 2048]⟩
abbrev S2048 : Shape := ⟨1, ![2048]⟩
abbrev S_ : Shape := ⟨0, ![]⟩
abbrev S1x2048 : Shape := ⟨2, ![1, 2048]⟩
abbrev S8x128 : Shape := ⟨2, ![8, 128]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)
  bcast_S_S8x128 : S_.BroadcastsInDim S8x128 (![] : Fin 0 → Fin S8x128.rank)

variable [Facts]

def fn {F : FTy → Type} [FloatOps F] (main_arg0 : FVec F S8192x2048 .f32) (main_arg1 : FVec F S2048 .f32) (main_arg2 : FVec F S2048 .f32) (main_arg3 : FVec F S8192x2048 .f32) (main_arg4 : FVec F S2048 .f32) (main_arg5 : FVec F S2048 .f32) (main_arg6 : FVec F S8192x2048 .f32) : IVec S8192x2048 1 × IVec S8192x2048 1 × IVec S1x2048 1 × IVec S1x2048 1 × IVec S1x2048 1 × IVec S8x128 1 :=
  let main_c : IVec S_ 1 := constantI S_ 1 0#1
  let main_v0 : IVec S8192x2048 1 := broadcastInDim S8192x2048 ![] bcast_S_S8192x2048 main_c
  let main_c_0 : IVec S_ 1 := constantI S_ 1 1#1
  let main_v1 : IVec S1x2048 1 := broadcastInDim S1x2048 ![] bcast_S_S1x2048 main_c_0
  let main_c_1 : IVec S_ 1 := constantI S_ 1 0#1
  let main_v2 : IVec S1x2048 1 := broadcastInDim S1x2048 ![] bcast_S_S1x2048 main_c_1
  let main_c_2 : IVec S_ 1 := constantI S_ 1 1#1
  let main_v3 : IVec S8x128 1 := broadcastInDim S8x128 ![] bcast_S_S8x128 main_c_2
  (main_v0, main_v0, main_v1, main_v1, main_v2, main_v3)
-- ==== HostGradX.lean ====
abbrev S8192x2048 : Shape := ⟨2, ![8192, 2048]⟩
abbrev S2048x3584 : Shape := ⟨2, ![2048, 3584]⟩
abbrev S8192x3584 : Shape := ⟨2, ![8192, 3584]⟩
abbrev S8x128 : Shape := ⟨2, ![8, 128]⟩
abbrev S2x2048x2048 : Shape := ⟨3, ![2, 2048, 2048]⟩
abbrev S2048x2048 : Shape := ⟨2, ![2048, 2048]⟩
abbrev S2048x4x896 : Shape := ⟨3, ![2048, 4, 896]⟩
abbrev S4x2048x896 : Shape := ⟨3, ![4, 2048, 896]⟩
abbrev S512x896 : Shape := ⟨2, ![512, 896]⟩
abbrev S1x2048x896 : Shape := ⟨3, ![1, 2048, 896]⟩
abbrev S512x2048 : Shape := ⟨2, ![512, 2048]⟩
abbrev S1x32x2048 : Shape := ⟨3, ![1, 32, 2048]⟩
abbrev S32x2048 : Shape := ⟨2, ![32, 2048]⟩
abbrev S2048x896 : Shape := ⟨2, ![2048, 896]⟩

abbrev nBuf : Space → Nat
  | .hbm => 20
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S2048x3584, .bf16⟩
  | .hbm, ⟨2, _⟩ => ⟨S8192x3584, .bf16⟩
  | .hbm, ⟨3, _⟩ => ⟨S8192x2048, .f32⟩
  | .hbm, ⟨4, _⟩ => ⟨S8x128, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S2048x2048, .f32⟩
  | .hbm, ⟨9, _⟩ => ⟨S2x2048x2048, .f32⟩
  | .hbm, ⟨10, _⟩ => ⟨S2x2048x2048, .f32⟩
  | .hbm, ⟨11, _⟩ => ⟨S2x2048x2048, .f32⟩
  | .hbm, ⟨12, _⟩ => ⟨S2x2048x2048, .f32⟩
  | .hbm, ⟨13, _⟩ => ⟨S2048x4x896, .bf16⟩
  | .hbm, ⟨14, _⟩ => ⟨S4x2048x896, .bf16⟩
  | .hbm, ⟨15, _⟩ => ⟨S8192x2048, .f32⟩
  | .hbm, ⟨16, _⟩ => ⟨S2x2048x2048, .f32⟩
  | .hbm, ⟨17, _⟩ => ⟨S2x2048x2048, .f32⟩
  | .hbm, ⟨18, _⟩ => ⟨S2x2048x2048, .f32⟩
  | .hbm, ⟨19, _⟩ => ⟨S2x2048x2048, .f32⟩
  | .local _ .vmem, ⟨0, _⟩ => ⟨S512x896, .bf16⟩
  | .local _ .vmem, ⟨1, _⟩ => ⟨S512x896, .bf16⟩
  | .local _ .vmem, ⟨2, _⟩ => ⟨S1x2048x896, .bf16⟩
  | .local _ .vmem, ⟨3, _⟩ => ⟨S1x2048x896, .bf16⟩
  | .local _ .vmem, ⟨4, _⟩ => ⟨S512x2048, .f32⟩
  | .local _ .vmem, ⟨5, _⟩ => ⟨S512x2048, .f32⟩
  | .local _ .vmem, ⟨6, _⟩ => ⟨S1x32x2048, .f32⟩
  | .local _ .vmem, ⟨7, _⟩ => ⟨S1x32x2048, .f32⟩
  | .local _ .vmem, ⟨8, _⟩ => ⟨S1x32x2048, .f32⟩
  | .local _ .vmem, ⟨9, _⟩ => ⟨S1x32x2048, .f32⟩
  | .local _ .vmem, ⟨10, _⟩ => ⟨S1x32x2048, .f32⟩
  | .local _ .vmem, ⟨11, _⟩ => ⟨S1x32x2048, .f32⟩
  | .local _ .vmem, ⟨12, _⟩ => ⟨S32x2048, .f32⟩
  | .local _ .vmem, ⟨13, _⟩ => ⟨S32x2048, .f32⟩
  | .local _ .vmem, ⟨14, _⟩ => ⟨S512x2048, .f32⟩
  | .local _ .vmem, ⟨15, _⟩ => ⟨S512x2048, .f32⟩
  | .local _ .vmem, ⟨16, _⟩ => ⟨S1x32x2048, .f32⟩
  | .local _ .vmem, ⟨17, _⟩ => ⟨S1x32x2048, .f32⟩
  | .local _ .vmem, ⟨18, _⟩ => ⟨S1x32x2048, .f32⟩
  | .local _ .vmem, ⟨19, _⟩ => ⟨S1x32x2048, .f32⟩
  | .local _ .vmem, ⟨20, _⟩ => ⟨S1x32x2048, .f32⟩
  | .local _ .vmem, ⟨21, _⟩ => ⟨S1x32x2048, .f32⟩
  | .local _ .vmem, ⟨22, _⟩ => ⟨S1x32x2048, .f32⟩
  | .local _ .vmem, ⟨23, _⟩ => ⟨S1x32x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v2_3 : Ref sig .tc := ⟨.hbm, 18, rfl⟩
abbrev main_v2_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![16, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def k0_cond3 (i : grid0.Coords) : BitVec 1 :=
  let arg0 : BitVec 32 := BitVec.ofNat 32 (i 0).val
  let c1_i32 : BitVec 32 := 1#32
  let v10 : BitVec 32 := Scalar.muli arg0 c1_i32
  let arg1 : BitVec 32 := BitVec.ofNat 32 (i 1).val
  let v11 : BitVec 32 := Scalar.addi v10 arg1
  let c4_i32 : BitVec 32 := 4#32
  let v12 : BitVec 32 := Scalar.muli v11 c4_i32
  let arg2 : BitVec 32 := BitVec.ofNat 32 (i 2).val
  let v13 : BitVec 32 := Scalar.addi v12 arg2
  let c64_i32 : BitVec 32 := 64#32
  let v14 : BitVec 1 := Scalar.cmpi .slt v13 c64_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  let c0_i32_1 : BitVec 32 := 0#32
  ![c0_i32.toNat, v4.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  let c0_i32_1 : BitVec 32 := 0#32
  ![c0_i32.toNat, v4.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  let c0_i32_1 : BitVec 32 := 0#32
  ![c0_i32.toNat, v4.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  ![v4.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  let c0_i32_1 : BitVec 32 := 0#32
  ![c0_i32.toNat, v4.toNat, c0_i32_0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  let c0_i32_1 : BitVec 32 := 0#32
  ![c0_i32.toNat, v4.toNat, c0_i32_0.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  let c0_i32_1 : BitVec 32 := 0#32
  ![c0_i32.toNat, v4.toNat, c0_i32_0.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  let c0_i32_1 : BitVec 32 := 0#32
  ![c0_i32.toNat, v4.toNat, c0_i32_0.toNat]

abbrev stage0_0 : Fin 2 → Memref sig .tc .vmem S512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x32x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== HostGradXRefIdeal.lean ====
abbrev S8192x2048 : Shape := ⟨2, ![8192, 2048]⟩
abbrev S2048x3584 : Shape := ⟨2, ![2048, 3584]⟩
abbrev S8192x3584 : Shape := ⟨2, ![8192, 3584]⟩
abbrev S8x128 : Shape := ⟨2, ![8, 128]⟩
abbrev S2x2048x2048 : Shape := ⟨3, ![2, 2048, 2048]⟩
abbrev S2048x2048 : Shape := ⟨2, ![2048, 2048]⟩
abbrev S_ : Shape := ⟨0, ![]⟩
abbrev S1x2048x2048 : Shape := ⟨3, ![1, 2048, 2048]⟩

abbrev nBuf : Space → Nat
  | .hbm => 83
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x3584, .bf16⟩
  | .hbm, ⟨2, _⟩ => ⟨S8192x3584, .bf16⟩
  | .hbm, ⟨3, _⟩ => ⟨S8192x2048, .f32⟩
  | .hbm, ⟨4, _⟩ => ⟨S8x128, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S2048x2048, .f32⟩
  | .hbm, ⟨9, _⟩ => ⟨S2x2048x2048, .f32⟩
  | .hbm, ⟨10, _⟩ => ⟨S2x2048x2048, .f32⟩
  | .hbm, ⟨11, _⟩ => ⟨S2x2048x2048, .f32⟩
  | .hbm, ⟨12, _⟩ => ⟨S2x2048x2048, .f32⟩
  | .hbm, ⟨13, _⟩ => ⟨S2048x3584, .f32⟩
  | .hbm, ⟨14, _⟩ => ⟨S8192x3584, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x3584, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S1x2048x2048, .f32⟩
  | .hbm, ⟨25, _⟩ => ⟨S2048x2048, .f32⟩
  | .hbm, ⟨26, _⟩ => ⟨S1x2048x2048, .f32⟩
  | .hbm, ⟨27, _⟩ => ⟨S2048x2048, .f32⟩
  | .hbm, ⟨28, _⟩ => ⟨S1x2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S_, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S_, .f32⟩
  | .hbm, ⟨61, _⟩ => ⟨S2048x2048, .f32⟩
  | .hbm, ⟨62, _⟩ => ⟨S2048x2048, .f32⟩
  | .hbm, ⟨63, _⟩ => ⟨S1x2048x2048, .f32⟩
  | .hbm, ⟨64, _⟩ => ⟨S2048x2048, .f32⟩
  | .hbm, ⟨65, _⟩ => ⟨S1x2048x2048, .f32⟩
  | .hbm, ⟨66, _⟩ => ⟨S1x2048x2048, .f32⟩
  | .hbm, ⟨67, _⟩ => ⟨S2x2048x2048, .f32⟩
  | .hbm, ⟨68, _⟩ => ⟨S1x2048x2048, .f32⟩
  | .hbm, ⟨69, _⟩ => ⟨S2048x2048, .f32⟩
  | .hbm, ⟨70, _⟩ => ⟨S1x2048x2048, .f32⟩
  | .hbm, ⟨71, _⟩ => ⟨S1x2048x2048, .f32⟩
  | .hbm, ⟨72, _⟩ => ⟨S2x2048x2048, .f32⟩
  | .hbm, ⟨73, _⟩ => ⟨S1x2048x2048, .f32⟩
  | .hbm, ⟨74, _⟩ => ⟨S2048x2048, .f32⟩
  | .hbm, ⟨75, _⟩ => ⟨S1x2048x2048, .f32⟩
  | .hbm, ⟨76, _⟩ => ⟨S1x2048x2048, .f32⟩
  | .hbm, ⟨77, _⟩ => ⟨S2x2048x2048, .f32⟩
  | .hbm, ⟨78, _⟩ => ⟨S1x2048x2048, .f32⟩
  | .hbm, ⟨79, _⟩ => ⟨S2048x2048, .f32⟩
  | .hbm, ⟨80, _⟩ => ⟨S1x2048x2048, .f32⟩
  | .hbm, ⟨81, _⟩ => ⟨S1x2048x2048, .f32⟩
  | .hbm, ⟨82, _⟩ => ⟨S2x2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]
-- ==== HostProj.lean ====
abbrev S8192x2048 : Shape := ⟨2, ![8192, 2048]⟩
abbrev S2048x3584 : Shape := ⟨2, ![2048, 3584]⟩
abbrev S8192x3584 : Shape := ⟨2, ![8192, 3584]⟩
abbrev S8x128 : Shape := ⟨2, ![8, 128]⟩
abbrev S2x2048x2048 : Shape := ⟨3, ![2, 2048, 2048]⟩
abbrev S2048x2048 : Shape := ⟨2, ![2048, 2048]⟩
abbrev S2048x4x896 : Shape := ⟨3, ![2048, 4, 896]⟩
abbrev S4x2048x896 : Shape := ⟨3, ![4, 2048, 896]⟩
abbrev S1024x896 : Shape := ⟨2, ![1024, 896]⟩
abbrev S1x2048x896 : Shape := ⟨3, ![1, 2048, 896]⟩
abbrev S1x64x2048 : Shape := ⟨3, ![1, 64, 2048]⟩
abbrev S64x2048 : Shape := ⟨2, ![64, 2048]⟩
abbrev S1024x2048 : Shape := ⟨2, ![1024, 2048]⟩
abbrev S2048x896 : Shape := ⟨2, ![2048, 896]⟩

abbrev nBuf : Space → Nat
  | .hbm => 15
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S2048x3584, .bf16⟩
  | .hbm, ⟨2, _⟩ => ⟨S8192x3584, .bf16⟩
  | .hbm, ⟨3, _⟩ => ⟨S8x128, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2048x2048, .f32⟩
  | .hbm, ⟨8, _⟩ => ⟨S2048x4x896, .bf16⟩
  | .hbm, ⟨9, _⟩ => ⟨S4x2048x896, .bf16⟩
  | .hbm, ⟨10, _⟩ => ⟨S8192x2048, .f32⟩
  | .hbm, ⟨11, _⟩ => ⟨S2x2048x2048, .f32⟩
  | .hbm, ⟨12, _⟩ => ⟨S2x2048x2048, .f32⟩
  | .hbm, ⟨13, _⟩ => ⟨S2x2048x2048, .f32⟩
  | .hbm, ⟨14, _⟩ => ⟨S2x2048x2048, .f32⟩
  | .local _ .vmem, ⟨0, _⟩ => ⟨S1024x896, .bf16⟩
  | .local _ .vmem, ⟨1, _⟩ => ⟨S1024x896, .bf16⟩
  | .local _ .vmem, ⟨2, _⟩ => ⟨S1x2048x896, .bf16⟩
  | .local _ .vmem, ⟨3, _⟩ => ⟨S1x2048x896, .bf16⟩
  | .local _ .vmem, ⟨4, _⟩ => ⟨S1x64x2048, .f32⟩
  | .local _ .vmem, ⟨5, _⟩ => ⟨S1x64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S64x2048, .f32⟩
  | .local _ .vmem, ⟨11, _⟩ => ⟨S64x2048, .f32⟩
  | .local _ .vmem, ⟨12, _⟩ => ⟨S1024x2048, .f32⟩
  | .local _ .vmem, ⟨13, _⟩ => ⟨S1024x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def k0_cond3 (i : grid0.Coords) : BitVec 1 :=
  let arg0 : BitVec 32 := BitVec.ofNat 32 (i 0).val
  let c1_i32 : BitVec 32 := 1#32
  let v10 : BitVec 32 := Scalar.muli arg0 c1_i32
  let arg1 : BitVec 32 := BitVec.ofNat 32 (i 1).val
  let v11 : BitVec 32 := Scalar.addi v10 arg1
  let c4_i32 : BitVec 32 := 4#32
  let v12 : BitVec 32 := Scalar.muli v11 c4_i32
  let arg2 : BitVec 32 := BitVec.ofNat 32 (i 2).val
  let v13 : BitVec 32 := Scalar.addi v12 arg2
  let c32_i32 : BitVec 32 := 32#32
  let v14 : BitVec 1 := Scalar.cmpi .slt v13 c32_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c31_i32 : BitVec 32 := 31#32
  let v4 : BitVec 32 := Scalar.minsi v3 c31_i32
  let c1_i32_0 : BitVec 32 := 1#32
  let c0_i32 : BitVec 32 := 0#32
  let c0_i32_1 : BitVec 32 := 0#32
  ![c1_i32_0.toNat, v4.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c31_i32 : BitVec 32 := 31#32
  let v4 : BitVec 32 := Scalar.minsi v3 c31_i32
  let c1_i32_0 : BitVec 32 := 1#32
  let c0_i32 : BitVec 32 := 0#32
  let c0_i32_1 : BitVec 32 := 0#32
  ![c1_i32_0.toNat, v4.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c31_i32 : BitVec 32 := 31#32
  let v4 : BitVec 32 := Scalar.minsi v3 c31_i32
  let c1_i32_0 : BitVec 32 := 1#32
  let c0_i32 : BitVec 32 := 0#32
  let c0_i32_1 : BitVec 32 := 0#32
  ![c1_i32_0.toNat, v4.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c31_i32 : BitVec 32 := 31#32
  let v4 : BitVec 32 := Scalar.minsi v3 c31_i32
  let c0_i32 : BitVec 32 := 0#32
  let c0_i32_0 : BitVec 32 := 0#32
  ![v4.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c31_i32 : BitVec 32 := 31#32
  let v4 : BitVec 32 := Scalar.minsi v3 c31_i32
  let c1_i32_0 : BitVec 32 := 1#32
  let c0_i32 : BitVec 32 := 0#32
  let c0_i32_1 : BitVec 32 := 0#32
  ![c1_i32_0.toNat, v4.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c31_i32 : BitVec 32 := 31#32
  let v4 : BitVec 32 := Scalar.minsi v3 c31_i32
  let c1_i32_0 : BitVec 32 := 1#32
  let c0_i32 : BitVec 32 := 0#32
  let c0_i32_1 : BitVec 32 := 0#32
  ![c1_i32_0.toNat, v4.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c31_i32 : BitVec 32 := 31#32
  let v4 : BitVec 32 := Scalar.minsi v3 c31_i32
  let c1_i32_0 : BitVec 32 := 1#32
  let c0_i32 : BitVec 32 := 0#32
  let c0_i32_1 : BitVec 32 := 0#32
  ![c1_i32_0.toNat, v4.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c4_i32 : BitVec 32 := 4#32
  let v2 : BitVec 32 := Scalar.muli v1 c4_i32
  let v3 : BitVec 32 := Scalar.addi v2 arg2
  let c31_i32 : BitVec 32 := 31#32
  let v4 : BitVec 32 := Scalar.minsi v3 c31_i32
  let c1_i32_0 : BitVec 32 := 1#32
  let c0_i32 : BitVec 32 := 0#32
  let c0_i32_1 : BitVec 32 := 0#32
  ![c1_i32_0.toNat, v4.toNat, c0_i32.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== HostProjRefIdeal.lean ====
abbrev S8192x2048 : Shape := ⟨2, ![8192, 2048]⟩
abbrev S2048x3584 : Shape := ⟨2, ![2048, 3584]⟩
abbrev S8192x3584 : Shape := ⟨2, ![8192, 3584]⟩
abbrev S8x128 : Shape := ⟨2, ![8, 128]⟩
abbrev S2x2048x2048 : Shape := ⟨3, ![2, 2048, 2048]⟩
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x3584, .bf16⟩
  | .hbm, ⟨2, _⟩ => ⟨S8192x3584, .bf16⟩
  | .hbm, ⟨3, _⟩ => ⟨S8x128, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2048x2048, .f32⟩
  | .hbm, ⟨8, _⟩ => ⟨S2048x3584, .f32⟩
  | .hbm, ⟨9, _⟩ => ⟨S8192x3584, .f32⟩
  | .hbm, ⟨10, _⟩ => ⟨S8192x3584, .f32⟩
  | .hbm, ⟨11, _⟩ => ⟨S8192x2048, .f32⟩
  | .hbm, ⟨12, _⟩ => ⟨S1x2048x2048, .f32⟩
  | .hbm, ⟨13, _⟩ => ⟨S2048x2048, .f32⟩
  | .hbm, ⟨14, _⟩ => ⟨S1x2048x2048, .f32⟩
  | .hbm, ⟨15, _⟩ => ⟨S2048x2048, .f32⟩
  | .hbm, ⟨16, _⟩ => ⟨S1x2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048x2048, .f32⟩
  | .hbm, ⟨50, _⟩ => ⟨S2048x2048, .f32⟩
  | .hbm, ⟨51, _⟩ => ⟨S2x2048x2048, .f32⟩
  | .hbm, ⟨52, _⟩ => ⟨S2x2048x2048, .f32⟩
  | .hbm, ⟨53, _⟩ => ⟨S2x2048x2048, .f32⟩
  | .hbm, ⟨54, _⟩ => ⟨S2x2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== HostFf2.lean ====
abbrev S8192x8192 : Shape := ⟨2, ![8192, 8192]⟩
abbrev S8192x2048 : Shape := ⟨2, ![8192, 2048]⟩
abbrev S2x2048x2048 : Shape := ⟨3, ![2, 2048, 2048]⟩
abbrev S2048x2048 : Shape := ⟨2, ![2048, 2048]⟩
abbrev S_ : Shape := ⟨0, ![]⟩
abbrev S1x8192 : Shape := ⟨2, ![1, 8192]⟩
abbrev S1024x2048 : Shape := ⟨2, ![1024, 2048]⟩
abbrev S1024x1024 : Shape := ⟨2, ![1024, 1024]⟩
abbrev S1x32x2048 : Shape := ⟨3, ![1, 32, 2048]⟩
abbrev S32x2048 : Shape := ⟨2, ![32, 2048]⟩
abbrev S1x1024 : Shape := ⟨2, ![1, 1024]⟩
abbrev S1024 : Shape := ⟨1, ![1024]⟩

abbrev nBuf : Space → Nat
  | .hbm => 17
  | .vmem => 26
  | .smem => 0
  | _ => 0

abbrev bufTy : (tb : Table) → Fin (tcTables nBuf tb) → BufTy
  | .hbm, ⟨0, _⟩ => ⟨S8192x8192, .f32⟩
  | .hbm, ⟨1, _⟩ => ⟨S8192x2048, .bf16⟩
  | .hbm, ⟨2, _⟩ => ⟨S8192x2048, .bf16⟩
  | .hbm, ⟨3, _⟩ => ⟨S2x2048x2048, .f32⟩
  | .hbm, ⟨4, _⟩ => ⟨S2x2048x2048, .f32⟩
  | .hbm, ⟨5, _⟩ => ⟨S2x2048x2048, .f32⟩
  | .hbm, ⟨6, _⟩ => ⟨S2048x2048, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .bf16⟩
  | .hbm, ⟨11, _⟩ => ⟨S8192x8192, .bf16⟩
  | .hbm, ⟨12, _⟩ => ⟨S1x8192, .f32⟩
  | .hbm, ⟨13, _⟩ => ⟨S2x2048x2048, .f32⟩
  | .hbm, ⟨14, _⟩ => ⟨S2x2048x2048, .f32⟩
  | .hbm, ⟨15, _⟩ => ⟨S2x2048x2048, .f32⟩
  | .hbm, ⟨16, _⟩ => ⟨S2x2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1x32x2048, .f32⟩
  | .local _ .vmem, ⟨7, _⟩ => ⟨S1x32x2048, .f32⟩
  | .local _ .vmem, ⟨8, _⟩ => ⟨S1x32x2048, .f32⟩
  | .local _ .vmem, ⟨9, _⟩ => ⟨S1x32x2048, .f32⟩
  | .local _ .vmem, ⟨10, _⟩ => ⟨S1x32x2048, .f32⟩
  | .local _ .vmem, ⟨11, _⟩ => ⟨S1x32x2048, .f32⟩
  | .local _ .vmem, ⟨12, _⟩ => ⟨S32x2048, .f32⟩
  | .local _ .vmem, ⟨13, _⟩ => ⟨S32x2048, .f32⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1x32x2048, .f32⟩
  | .local _ .vmem, ⟨19, _⟩ => ⟨S1x32x2048, .f32⟩
  | .local _ .vmem, ⟨20, _⟩ => ⟨S1x32x2048, .f32⟩
  | .local _ .vmem, ⟨21, _⟩ => ⟨S1x32x2048, .f32⟩
  | .local _ .vmem, ⟨22, _⟩ => ⟨S1x32x2048, .f32⟩
  | .local _ .vmem, ⟨23, _⟩ => ⟨S1x32x2048, .f32⟩
  | .local _ .vmem, ⟨24, _⟩ => ⟨S1x32x2048, .f32⟩
  | .local _ .vmem, ⟨25, _⟩ => ⟨S1x32x2048, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev main_v2_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![8, 8, 1], ![false, false, false]⟩

def k0_cond1 (i : grid0.Coords) : BitVec 1 :=
  let arg1 : BitVec 32 := BitVec.ofNat 32 (i 1).val
  let c0_i32 : BitVec 32 := 0#32
  let v13 : BitVec 1 := Scalar.cmpi .eq arg1 c0_i32
  let v14 : BitVec 32 := Scalar.extui v13
  let c0_i32_9 : BitVec 32 := 0#32
  let v15 : BitVec 1 := Scalar.cmpi .ne v14 c0_i32_9
  v15

def k0_cond2 (i : grid0.Coords) : BitVec 1 :=
  let arg1 : BitVec 32 := BitVec.ofNat 32 (i 1).val
  let c0_i32 : BitVec 32 := 0#32
  let v13 : BitVec 1 := Scalar.cmpi .eq arg1 c0_i32
  let v_true : BitVec 1 := 1#1
  let v16 : BitVec 1 := Scalar.xori v13 v_true
  let v17 : BitVec 32 := Scalar.extui v16
  let c0_i32_10 : BitVec 32 := 0#32
  let v18 : BitVec 1 := Scalar.cmpi .ne v17 c0_i32_10
  v18

def k0_cond3 (i : grid0.Coords) : BitVec 1 :=
  let arg0 : BitVec 32 := BitVec.ofNat 32 (i 0).val
  let c8_i32 : BitVec 32 := 8#32
  let v19 : BitVec 32 := Scalar.muli arg0 c8_i32
  let arg1 : BitVec 32 := BitVec.ofNat 32 (i 1).val
  let v20 : BitVec 32 := Scalar.addi v19 arg1
  let c1_i32 : BitVec 32 := 1#32
  let v21 : BitVec 32 := Scalar.muli v20 c1_i32
  let arg2 : BitVec 32 := BitVec.ofNat 32 (i 2).val
  let v22 : BitVec 32 := Scalar.addi v21 arg2
  let c64_i32 : BitVec 32 := 64#32
  let v23 : BitVec 1 := Scalar.cmpi .slt v22 c64_i32
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c63_i32 : BitVec 32 := 63#32
  let v4 : BitVec 32 := Scalar.minsi v3 c63_i32
  let c1_i32_0 : BitVec 32 := 1#32
  let c0_i32 : BitVec 32 := 0#32
  let c0_i32_1 : BitVec 32 := 0#32
  ![c1_i32_0.toNat, v4.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c63_i32 : BitVec 32 := 63#32
  let v4 : BitVec 32 := Scalar.minsi v3 c63_i32
  let c1_i32_0 : BitVec 32 := 1#32
  let c0_i32 : BitVec 32 := 0#32
  let c0_i32_1 : BitVec 32 := 0#32
  ![c1_i32_0.toNat, v4.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c63_i32 : BitVec 32 := 63#32
  let v4 : BitVec 32 := Scalar.minsi v3 c63_i32
  let c1_i32_0 : BitVec 32 := 1#32
  let c0_i32 : BitVec 32 := 0#32
  let c0_i32_1 : BitVec 32 := 0#32
  ![c1_i32_0.toNat, v4.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c63_i32 : BitVec 32 := 63#32
  let v4 : BitVec 32 := Scalar.minsi v3 c63_i32
  let c0_i32 : BitVec 32 := 0#32
  let c0_i32_0 : BitVec 32 := 0#32
  ![v4.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c63_i32 : BitVec 32 := 63#32
  let v4 : BitVec 32 := Scalar.minsi v3 c63_i32
  let c1_i32_0 : BitVec 32 := 1#32
  let c0_i32 : BitVec 32 := 0#32
  let c0_i32_1 : BitVec 32 := 0#32
  ![c1_i32_0.toNat, v4.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c63_i32 : BitVec 32 := 63#32
  let v4 : BitVec 32 := Scalar.minsi v3 c63_i32
  let c1_i32_0 : BitVec 32 := 1#32
  let c0_i32 : BitVec 32 := 0#32
  let c0_i32_1 : BitVec 32 := 0#32
  ![c1_i32_0.toNat, v4.toNat, c0_i32.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c63_i32 : BitVec 32 := 63#32
  let v4 : BitVec 32 := Scalar.minsi v3 c63_i32
  let c1_i32_0 : BitVec 32 := 1#32
  let c0_i32 : BitVec 32 := 0#32
  let c0_i32_1 : BitVec 32 := 0#32
  ![c1_i32_0.toNat, v4.toNat, c0_i32.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.muli v1 c1_i32
  let v3 : BitVec 32 := Scalar.addi v2 arg2
  let c63_i32 : BitVec 32 := 63#32
  let v4 : BitVec 32 := Scalar.minsi v3 c63_i32
  let c1_i32_0 : BitVec 32 := 1#32
  let c0_i32 : BitVec 32 := 0#32
  let c0_i32_1 : BitVec 32 := 0#32
  ![c1_i32_0.toNat, v4.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x32x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x32x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== HostFf2RefIdeal.lean ====
abbrev S8192x8192 : Shape := ⟨2, ![8192, 8192]⟩
abbrev S8192x2048 : Shape := ⟨2, ![8192, 2048]⟩
abbrev S2x2048x2048 : Shape := ⟨3, ![2, 2048, 2048]⟩
abbrev S2048x2048 : Shape := ⟨2, ![2048, 2048]⟩
abbrev S_ : Shape := ⟨0, ![]⟩
abbrev S1x8192 : Shape := ⟨2, ![1, 8192]⟩
abbrev S8192 : Shape := ⟨1, ![8192]⟩
abbrev S1x2048x2048 : Shape := ⟨3, ![1, 2048, 2048]⟩

abbrev nBuf : Space → Nat
  | .hbm => 98
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .bf16⟩
  | .hbm, ⟨2, _⟩ => ⟨S8192x2048, .bf16⟩
  | .hbm, ⟨3, _⟩ => ⟨S2x2048x2048, .f32⟩
  | .hbm, ⟨4, _⟩ => ⟨S2x2048x2048, .f32⟩
  | .hbm, ⟨5, _⟩ => ⟨S2x2048x2048, .f32⟩
  | .hbm, ⟨6, _⟩ => ⟨S2048x2048, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .i1⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S1x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .i1⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192, .f32⟩
  | .hbm, ⟨53, _⟩ => ⟨S1x8192, .f32⟩
  | .hbm, ⟨54, _⟩ => ⟨S8192x8192, .bf16⟩
  | .hbm, ⟨55, _⟩ => ⟨S1x2048x2048, .f32⟩
  | .hbm, ⟨56, _⟩ => ⟨S2048x2048, .f32⟩
  | .hbm, ⟨57, _⟩ => ⟨S1x2048x2048, .f32⟩
  | .hbm, ⟨58, _⟩ => ⟨S2048x2048, .f32⟩
  | .hbm, ⟨59, _⟩ => ⟨S1x2048x2048, .f32⟩
  | .hbm, ⟨60, _⟩ => ⟨S2048x2048, .f32⟩
  | .hbm, ⟨61, _⟩ => ⟨S_, .f32⟩
  | .hbm, ⟨62, _⟩ => ⟨S2048x2048, .f32⟩
  | .hbm, ⟨63, _⟩ => ⟨S2048x2048, .f32⟩
  | .hbm, ⟨64, _⟩ => ⟨S_, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S_, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S_, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S_, .f32⟩
  | .hbm, ⟨77, _⟩ => ⟨S2048x2048, .f32⟩
  | .hbm, ⟨78, _⟩ => ⟨S2048x2048, .f32⟩
  | .hbm, ⟨79, _⟩ => ⟨S_, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S_, .f32⟩
  | .hbm, ⟨84, _⟩ => ⟨S2048x2048, .f32⟩
  | .hbm, ⟨85, _⟩ => ⟨S2048x2048, .f32⟩
  | .hbm, ⟨86, _⟩ => ⟨S2048x2048, .f32⟩
  | .hbm, ⟨87, _⟩ => ⟨S_, .f32⟩
  | .hbm, ⟨88, _⟩ => ⟨S2048x2048, .f32⟩
  | .hbm, ⟨89, _⟩ => ⟨S2048x2048, .f32⟩
  | .hbm, ⟨90, _⟩ => ⟨S2048x2048, .f32⟩
  | .hbm, ⟨91, _⟩ => ⟨S_, .f32⟩
  | .hbm, ⟨92, _⟩ => ⟨S2048x2048, .f32⟩
  | .hbm, ⟨93, _⟩ => ⟨S2048x2048, .f32⟩
  | .hbm, ⟨94, _⟩ => ⟨S2x2048x2048, .f32⟩
  | .hbm, ⟨95, _⟩ => ⟨S2x2048x2048, .f32⟩
  | .hbm, ⟨96, _⟩ => ⟨S2x2048x2048, .f32⟩
  | .hbm, ⟨97, _⟩ => ⟨S2x2048x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_cst : Ref sig .tc := ⟨.hbm, 31, rfl⟩
abbrev main_call1_v0 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_12 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_13 : Ref sig .tc := ⟨.hbm, 76, rfl⟩
abbrev main_v51 : Ref sig .tc := ⟨.hbm, 77, rfl⟩
abbrev main_v52 : Ref sig .tc := ⟨.hbm, 78, rfl⟩
abbrev main_cst_14 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_15 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_16 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_17 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]
-- ==== DffHidden.lean ====
abbrev S8192x8192 : Shape := ⟨2, ![8192, 8192]⟩
abbrev S8192x2048 : Shape := ⟨2, ![8192, 2048]⟩
abbrev S_ : Shape := ⟨0, ![]⟩
abbrev S1x8192 : Shape := ⟨2, ![1, 8192]⟩
abbrev S1024x2048 : Shape := ⟨2, ![1024, 2048]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 9
  | .vmem => 10
  | .smem => 0
  | _ => 0

abbrev bufTy : (tb : Table) → Fin (tcTables nBuf tb) → BufTy
  | .hbm, ⟨0, _⟩ => ⟨S8192x8192, .f32⟩
  | .hbm, ⟨1, _⟩ => ⟨S8192x2048, .bf16⟩
  | .hbm, ⟨2, _⟩ => ⟨S8192x2048, .bf16⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S8192x8192, .bf16⟩
  | .hbm, ⟨8, _⟩ => ⟨S1x8192, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 1], ![false, false, false]⟩

def k0_cond1 (i : grid0.Coords) : BitVec 1 :=
  let arg1 : BitVec 32 := BitVec.ofNat 32 (i 1).val
  let c0_i32 : BitVec 32 := 0#32
  let v13 : BitVec 1 := Scalar.cmpi .eq arg1 c0_i32
  let v14 : BitVec 32 := Scalar.extui v13
  let c0_i32_9 : BitVec 32 := 0#32
  let v15 : BitVec 1 := Scalar.cmpi .ne v14 c0_i32_9
  v15

def k0_cond2 (i : grid0.Coords) : BitVec 1 :=
  let arg1 : BitVec 32 := BitVec.ofNat 32 (i 1).val
  let c0_i32 : BitVec 32 := 0#32
  let v13 : BitVec 1 := Scalar.cmpi .eq arg1 c0_i32
  let v_true : BitVec 1 := 1#1
  let v16 : BitVec 1 := Scalar.xori v13 v_true
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== DffHiddenRefIdeal.lean ====
abbrev S8192x8192 : Shape := ⟨2, ![8192, 8192]⟩
abbrev S8192x2048 : Shape := ⟨2, ![8192, 2048]⟩
abbrev S_ : Shape := ⟨0, ![]⟩
abbrev S1x8192 : Shape := ⟨2, ![1, 8192]⟩
abbrev S8192 : Shape := ⟨1, ![8192]⟩

abbrev nBuf : Space → Nat
  | .hbm => 51
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .bf16⟩
  | .hbm, ⟨2, _⟩ => ⟨S8192x2048, .bf16⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S1x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .i1⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S1x8192, .f32⟩
  | .hbm, ⟨50, _⟩ => ⟨S8192x8192, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== HostMix.lean ====
abbrev S8192x2048 : Shape := ⟨2, ![8192, 2048]⟩
abbrev S2048x2048 : Shape := ⟨2, ![2048, 2048]⟩
abbrev S2x2048x896 : Shape := ⟨3, ![2, 2048, 896]⟩
abbrev S2048x896 : Shape := ⟨2, ![2048, 896]⟩
abbrev S512x2048 : Shape := ⟨2, ![512, 2048]⟩
abbrev S1x128x896 : Shape := ⟨3, ![1, 128, 896]⟩
abbrev S128x896 : Shape := ⟨2, ![128, 896]⟩

abbrev nBuf : Space → Nat
  | .hbm => 12
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .bf16⟩
  | .hbm, ⟨3, _⟩ => ⟨S2x2048x896, .f32⟩
  | .hbm, ⟨4, _⟩ => ⟨S2x2048x896, .f32⟩
  | .hbm, ⟨5, _⟩ => ⟨S2x2048x896, .f32⟩
  | .hbm, ⟨6, _⟩ => ⟨S2048x896, .f32⟩
  | .hbm, ⟨7, _⟩ => ⟨S8192x2048, .f32⟩
  | .hbm, ⟨8, _⟩ => ⟨S2x2048x896, .f32⟩
  | .hbm, ⟨9, _⟩ => ⟨S2x2048x896, .f32⟩
  | .hbm, ⟨10, _⟩ => ⟨S2x2048x896, .f32⟩
  | .hbm, ⟨11, _⟩ => ⟨S2x2048x896, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x128x896, .f32⟩
  | .local _ .vmem, ⟨4, _⟩ => ⟨S1x128x896, .f32⟩
  | .local _ .vmem, ⟨5, _⟩ => ⟨S1x128x896, .f32⟩
  | .local _ .vmem, ⟨6, _⟩ => ⟨S1x128x896, .f32⟩
  | .local _ .vmem, ⟨7, _⟩ => ⟨S1x128x896, .f32⟩
  | .local _ .vmem, ⟨8, _⟩ => ⟨S1x128x896, .f32⟩
  | .local _ .vmem, ⟨9, _⟩ => ⟨S128x896, .f32⟩
  | .local _ .vmem, ⟨10, _⟩ => ⟨S128x896, .f32⟩
  | .local _ .vmem, ⟨11, _⟩ => ⟨S512x2048, .f32⟩
  | .local _ .vmem, ⟨12, _⟩ => ⟨S512x2048, .f32⟩
  | .local _ .vmem, ⟨13, _⟩ => ⟨S1x128x896, .f32⟩
  | .local _ .vmem, ⟨14, _⟩ => ⟨S1x128x896, .f32⟩
  | .local _ .vmem, ⟨15, _⟩ => ⟨S1x128x896, .f32⟩
  | .local _ .vmem, ⟨16, _⟩ => ⟨S1x128x896, .f32⟩
  | .local _ .vmem, ⟨17, _⟩ => ⟨S1x128x896, .f32⟩
  | .local _ .vmem, ⟨18, _⟩ => ⟨S1x128x896, .f32⟩
  | .local _ .vmem, ⟨19, _⟩ => ⟨S1x128x896, .f32⟩
  | .local _ .vmem, ⟨20, _⟩ => ⟨S1x128x896, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c1_i32 : BitVec 32 := 1#32
  let v4 : BitVec 32 := Scalar.muli arg0 c1_i32
  let arg1 : BitVec 32 := BitVec.ofNat 32 (i 1).val
  let v5 : BitVec 32 := Scalar.addi v4 arg1
  let c1_i32_5 : BitVec 32 := 1#32
  let v6 : BitVec 32 := Scalar.muli v5 c1_i32_5
  let arg2 : BitVec 32 := BitVec.ofNat 32 (i 2).val
  let v7 : BitVec 32 := Scalar.addi v6 arg2
  let c16_i32 : BitVec 32 := 16#32
  let v8 : BitVec 1 := Scalar.cmpi .slt v7 c16_i32
  let v9 : BitVec 32 := Scalar.extui v8
  let c0_i32 : BitVec 32 := 0#32
  let v10 : BitVec 1 := Scalar.cmpi .ne v9 c0_i32
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c1_i32_0 : BitVec 32 := 1#32
  let v2 : BitVec 32 := Scalar.muli v1 c1_i32_0
  let v3 : BitVec 32 := Scalar.addi v2 arg2
  let c15_i32 : BitVec 32 := 15#32
  let v4 : BitVec 32 := Scalar.minsi v3 c15_i32
  let c1_i32_1 : BitVec 32 := 1#32
  let c0_i32 : BitVec 32 := 0#32
  let c0_i32_2 : BitVec 32 := 0#32
  ![c1_i32_1.toNat, v4.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c1_i32_0 : BitVec 32 := 1#32
  let v2 : BitVec 32 := Scalar.muli v1 c1_i32_0
  let v3 : BitVec 32 := Scalar.addi v2 arg2
  let c15_i32 : BitVec 32 := 15#32
  let v4 : BitVec 32 := Scalar.minsi v3 c15_i32
  let c1_i32_1 : BitVec 32 := 1#32
  let c0_i32 : BitVec 32 := 0#32
  let c0_i32_2 : BitVec 32 := 0#32
  ![c1_i32_1.toNat, v4.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c1_i32_0 : BitVec 32 := 1#32
  let v2 : BitVec 32 := Scalar.muli v1 c1_i32_0
  let v3 : BitVec 32 := Scalar.addi v2 arg2
  let c15_i32 : BitVec 32 := 15#32
  let v4 : BitVec 32 := Scalar.minsi v3 c15_i32
  let c1_i32_1 : BitVec 32 := 1#32
  let c0_i32 : BitVec 32 := 0#32
  let c0_i32_2 : BitVec 32 := 0#32
  ![c1_i32_1.toNat, v4.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c1_i32_0 : BitVec 32 := 1#32
  let v2 : BitVec 32 := Scalar.muli v1 c1_i32_0
  let v3 : BitVec 32 := Scalar.addi v2 arg2
  let c15_i32 : BitVec 32 := 15#32
  let v4 : BitVec 32 := Scalar.minsi v3 c15_i32
  let c0_i32 : BitVec 32 := 0#32
  let c0_i32_1 : BitVec 32 := 0#32
  ![v4.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c1_i32_0 : BitVec 32 := 1#32
  let v2 : BitVec 32 := Scalar.muli v1 c1_i32_0
  let v3 : BitVec 32 := Scalar.addi v2 arg2
  let c15_i32 : BitVec 32 := 15#32
  let v4 : BitVec 32 := Scalar.minsi v3 c15_i32
  let c1_i32_1 : BitVec 32 := 1#32
  let c0_i32 : BitVec 32 := 0#32
  let c0_i32_2 : BitVec 32 := 0#32
  ![c1_i32_1.toNat, v4.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c1_i32_0 : BitVec 32 := 1#32
  let v2 : BitVec 32 := Scalar.muli v1 c1_i32_0
  let v3 : BitVec 32 := Scalar.addi v2 arg2
  let c15_i32 : BitVec 32 := 15#32
  let v4 : BitVec 32 := Scalar.minsi v3 c15_i32
  let c1_i32_1 : BitVec 32 := 1#32
  let c0_i32 : BitVec 32 := 0#32
  let c0_i32_2 : BitVec 32 := 0#32
  ![c1_i32_1.toNat, v4.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c1_i32_0 : BitVec 32 := 1#32
  let v2 : BitVec 32 := Scalar.muli v1 c1_i32_0
  let v3 : BitVec 32 := Scalar.addi v2 arg2
  let c15_i32 : BitVec 32 := 15#32
  let v4 : BitVec 32 := Scalar.minsi v3 c15_i32
  let c1_i32_1 : BitVec 32 := 1#32
  let c0_i32 : BitVec 32 := 0#32
  let c0_i32_2 : BitVec 32 := 0#32
  ![c1_i32_1.toNat, v4.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c1_i32_0 : BitVec 32 := 1#32
  let v2 : BitVec 32 := Scalar.muli v1 c1_i32_0
  let v3 : BitVec 32 := Scalar.addi v2 arg2
  let c15_i32 : BitVec 32 := 15#32
  let v4 : BitVec 32 := Scalar.minsi v3 c15_i32
  let c1_i32_1 : BitVec 32 := 1#32
  let c0_i32 : BitVec 32 := 0#32
  let c0_i32_2 : BitVec 32 := 0#32
  ![c1_i32_1.toNat, v4.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x128x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x128x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x128x896 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x128x896 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== HostMixRefIdeal.lean ====
abbrev S8192x2048 : Shape := ⟨2, ![8192, 2048]⟩
abbrev S2048x2048 : Shape := ⟨2, ![2048, 2048]⟩
abbrev S2x2048x896 : Shape := ⟨3, ![2, 2048, 896]⟩
abbrev S2048x896 : Shape := ⟨2, ![2048, 896]⟩
abbrev S1x2048x896 : Shape := ⟨3, ![1, 2048, 896]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .bf16⟩
  | .hbm, ⟨3, _⟩ => ⟨S2x2048x896, .f32⟩
  | .hbm, ⟨4, _⟩ => ⟨S2x2048x896, .f32⟩
  | .hbm, ⟨5, _⟩ => ⟨S2x2048x896, .f32⟩
  | .hbm, ⟨6, _⟩ => ⟨S2048x896, .f32⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S1x2048x896, .f32⟩
  | .hbm, ⟨12, _⟩ => ⟨S2048x896, .f32⟩
  | .hbm, ⟨13, _⟩ => ⟨S1x2048x896, .f32⟩
  | .hbm, ⟨14, _⟩ => ⟨S2048x896, .f32⟩
  | .hbm, ⟨15, _⟩ => ⟨S1x2048x896, .f32⟩
  | .hbm, ⟨16, _⟩ => ⟨S2048x896, .f32⟩
  | .hbm, ⟨17, _⟩ => ⟨S_, .f32⟩
  | .hbm, ⟨18, _⟩ => ⟨S2048x896, .f32⟩
  | .hbm, ⟨19, _⟩ => ⟨S2048x896, .f32⟩
  | .hbm, ⟨20, _⟩ => ⟨S_, .f32⟩
  | .hbm, ⟨21, _⟩ => ⟨S2048x896, .f32⟩
  | .hbm, ⟨22, _⟩ => ⟨S2048x896, .f32⟩
  | .hbm, ⟨23, _⟩ => ⟨S2048x896, .f32⟩
  | .hbm, ⟨24, _⟩ => ⟨S_, .f32⟩
  | .hbm, ⟨25, _⟩ => ⟨S2048x896, .f32⟩
  | .hbm, ⟨26, _⟩ => ⟨S2048x896, .f32⟩
  | .hbm, ⟨27, _⟩ => ⟨S2048x896, .f32⟩
  | .hbm, ⟨28, _⟩ => ⟨S_, .f32⟩
  | .hbm, ⟨29, _⟩ => ⟨S2048x896, .f32⟩
  | .hbm, ⟨30, _⟩ => ⟨S2048x896, .f32⟩
  | .hbm, ⟨31, _⟩ => ⟨S2048x896, .f32⟩
  | .hbm, ⟨32, _⟩ => ⟨S_, .f32⟩
  | .hbm, ⟨33, _⟩ => ⟨S2048x896, .f32⟩
  | .hbm, ⟨34, _⟩ => ⟨S2048x896, .f32⟩
  | .hbm, ⟨35, _⟩ => ⟨S_, .f32⟩
  | .hbm, ⟨36, _⟩ => ⟨S2048x896, .f32⟩
  | .hbm, ⟨37, _⟩ => ⟨S2048x896, .f32⟩
  | .hbm, ⟨38, _⟩ => ⟨S2048x896, .f32⟩
  | .hbm, ⟨39, _⟩ => ⟨S_, .f32⟩
  | .hbm, ⟨40, _⟩ => ⟨S2048x896, .f32⟩
  | .hbm, ⟨41, _⟩ => ⟨S2048x896, .f32⟩
  | .hbm, ⟨42, _⟩ => ⟨S2048x896, .f32⟩
  | .hbm, ⟨43, _⟩ => ⟨S_, .f32⟩
  | .hbm, ⟨44, _⟩ => ⟨S2048x896, .f32⟩
  | .hbm, ⟨45, _⟩ => ⟨S2048x896, .f32⟩
  | .hbm, ⟨46, _⟩ => ⟨S2048x896, .f32⟩
  | .hbm, ⟨47, _⟩ => ⟨S_, .f32⟩
  | .hbm, ⟨48, _⟩ => ⟨S2048x896, .f32⟩
  | .hbm, ⟨49, _⟩ => ⟨S2048x896, .f32⟩
  | .hbm, ⟨50, _⟩ => ⟨S2x2048x896, .f32⟩
  | .hbm, ⟨51, _⟩ => ⟨S2x2048x896, .f32⟩
  | .hbm, ⟨52, _⟩ => ⟨S2x2048x896, .f32⟩
  | .hbm, ⟨53, _⟩ => ⟨S2x2048x896, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== MixOutBwd.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .bf16⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== MixOutBwdRefIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .bf16⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwFf2.lean ====
abbrev S8192x8192 : Shape := ⟨2, ![8192, 8192]⟩
abbrev S8192x2048 : Shape := ⟨2, ![8192, 2048]⟩
abbrev S_ : Shape := ⟨0, ![]⟩
abbrev S4x2048x2048 : Shape := ⟨3, ![4, 2048, 2048]⟩
abbrev S2048x2048 : Shape := ⟨2, ![2048, 2048]⟩
abbrev S2048x1024 : Shape := ⟨2, ![2048, 1024]⟩
abbrev S1x2048x1024 : Shape := ⟨3, ![1, 2048, 1024]⟩

abbrev nBuf : Space → Nat
  | .hbm => 9
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .bf16⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .bf16⟩
  | .hbm, ⟨8, _⟩ => ⟨S4x2048x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x1024, .f32⟩
  | .local _ .vmem, ⟨5, _⟩ => ⟨S1x2048x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32 : BitVec 32 := 0#32
  let v4 : BitVec 1 := Scalar.cmpi .eq arg2 c0_i32
  let v_true : BitVec 1 := 1#1
  let v7 : BitVec 1 := Scalar.xori v4 v_true
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFf2RefIdeal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .f32⟩
  | .hbm, ⟨2, _⟩ => ⟨S8192x2048, .bf16⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S8192x2048, .f32⟩
  | .hbm, ⟨9, _⟩ => ⟨S2048x8192, .f32⟩
  | .hbm, ⟨10, _⟩ => ⟨S8192x2048, .f32⟩
  | .hbm, ⟨11, _⟩ => ⟨S4x2048x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== DwFf1.lean ====
abbrev S8192x2048 : Shape := ⟨2, ![8192, 2048]⟩
abbrev S2048x8192 : Shape := ⟨2, ![2048, 8192]⟩
abbrev S8192x8192 : Shape := ⟨2, ![8192, 8192]⟩
abbrev S4x2048x2048 : Shape := ⟨3, ![4, 2048, 2048]⟩
abbrev S2048x2048 : Shape := ⟨2, ![2048, 2048]⟩
abbrev S2048x1024 : Shape := ⟨2, ![2048, 1024]⟩
abbrev S1x2048x1024 : Shape := ⟨3, ![1, 2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x8192, .bf16⟩
  | .hbm, ⟨3, _⟩ => ⟨S4x2048x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x1024, .f32⟩
  | .local _ .vmem, ⟨5, _⟩ => ⟨S1x2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFf1RefIdeal.lean ====
abbrev S8192x2048 : Shape := ⟨2, ![8192, 2048]⟩
abbrev S2048x8192 : Shape := ⟨2, ![2048, 8192]⟩
abbrev S8192x8192 : Shape := ⟨2, ![8192, 8192]⟩
abbrev S2048x4x2048 : Shape := ⟨3, ![2048, 4, 2048]⟩
abbrev S4x2048x2048 : Shape := ⟨3, ![4, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x8192, .bf16⟩
  | .hbm, ⟨3, _⟩ => ⟨S8192x2048, .f32⟩
  | .hbm, ⟨4, _⟩ => ⟨S8192x8192, .f32⟩
  | .hbm, ⟨5, _⟩ => ⟨S8192x8192, .f32⟩
  | .hbm, ⟨6, _⟩ => ⟨S8192x2048, .f32⟩
  | .hbm, ⟨7, _⟩ => ⟨S2048x8192, .f32⟩
  | .hbm, ⟨8, _⟩ => ⟨S2048x4x2048, .f32⟩
  | .hbm, ⟨9, _⟩ => ⟨S4x2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwOut.lean ====
abbrev S8192x2048 : Shape := ⟨2, ![8192, 2048]⟩
abbrev S2048x2048 : Shape := ⟨2, ![2048, 2048]⟩
abbrev S4x512x2048 : Shape := ⟨3, ![4, 512, 2048]⟩
abbrev S2048x512 : Shape := ⟨2, ![2048, 512]⟩
abbrev S1x512x2048 : Shape := ⟨3, ![1, 512, 2048]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .bf16⟩
  | .hbm, ⟨3, _⟩ => ⟨S4x512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S1x512x2048, .f32⟩
  | .local _ .vmem, ⟨5, _⟩ => ⟨S1x512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S8192x2048 : Shape := ⟨2, ![8192, 2048]⟩
abbrev S2048x2048 : Shape := ⟨2, ![2048, 2048]⟩
abbrev S4x512x2048 : Shape := ⟨3, ![4, 512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S4x512x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwIn.lean ====
abbrev S8192x2048 : Shape := ⟨2, ![8192, 2048]⟩
abbrev S2048x3584 : Shape := ⟨2, ![2048, 3584]⟩
abbrev S8192x3584 : Shape := ⟨2, ![8192, 3584]⟩
abbrev S4x2048x896 : Shape := ⟨3, ![4, 2048, 896]⟩
abbrev S2048x2048 : Shape := ⟨2, ![2048, 2048]⟩
abbrev S2048x896 : Shape := ⟨2, ![2048, 896]⟩
abbrev S1x2048x896 : Shape := ⟨3, ![1, 2048, 896]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x3584, .f32⟩
  | .hbm, ⟨2, _⟩ => ⟨S8192x3584, .bf16⟩
  | .hbm, ⟨3, _⟩ => ⟨S4x2048x896, .f32⟩
  | .local _ .vmem, ⟨0, _⟩ => ⟨S2048x2048, .bf16⟩
  | .local _ .vmem, ⟨1, _⟩ => ⟨S2048x2048, .bf16⟩
  | .local _ .vmem, ⟨2, _⟩ => ⟨S2048x896, .bf16⟩
  | .local _ .vmem, ⟨3, _⟩ => ⟨S2048x896, .bf16⟩
  | .local _ .vmem, ⟨4, _⟩ => ⟨S1x2048x896, .f32⟩
  | .local _ .vmem, ⟨5, _⟩ => ⟨S1x2048x896, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32 : BitVec 32 := 0#32
  let v3 : BitVec 1 := Scalar.cmpi .eq arg2 c0_i32
  let v_true : BitVec 1 := 1#1
  let v6 : BitVec 1 := Scalar.xori v3 v_true
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S8192x2048 : Shape := ⟨2, ![8192, 2048]⟩
abbrev S2048x3584 : Shape := ⟨2, ![2048, 3584]⟩
abbrev S8192x3584 : Shape := ⟨2, ![8192, 3584]⟩
abbrev S3584x2048 : Shape := ⟨2, ![3584, 2048]⟩
abbrev S2048x4x896 : Shape := ⟨3, ![2048, 4, 896]⟩
abbrev S4x2048x896 : Shape := ⟨3, ![4, 2048, 896]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x3584, .f32⟩
  | .hbm, ⟨2, _⟩ => ⟨S8192x3584, .bf16⟩
  | .hbm, ⟨3, _⟩ => ⟨S8192x2048, .f32⟩
  | .hbm, ⟨4, _⟩ => ⟨S8192x3584, .f32⟩
  | .hbm, ⟨5, _⟩ => ⟨S8192x3584, .f32⟩
  | .hbm, ⟨6, _⟩ => ⟨S3584x2048, .f32⟩
  | .hbm, ⟨7, _⟩ => ⟨S2048x3584, .f32⟩
  | .hbm, ⟨8, _⟩ => ⟨S2048x4x896, .f32⟩
  | .hbm, ⟨9, _⟩ => ⟨S4x2048x896, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ff1Bwd.lean ====
abbrev S8192x2048 : Shape := ⟨2, ![8192, 2048]⟩
abbrev S2048x8192 : Shape := ⟨2, ![2048, 8192]⟩
abbrev S8192x8192 : Shape := ⟨2, ![8192, 8192]⟩
abbrev S8x128 : Shape := ⟨2, ![8, 128]⟩
abbrev S2048x4x2048 : Shape := ⟨3, ![2048, 4, 2048]⟩
abbrev S4x2048x2048 : Shape := ⟨3, ![4, 2048, 2048]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 7
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x8192, .bf16⟩
  | .hbm, ⟨2, _⟩ => ⟨S8192x8192, .bf16⟩
  | .hbm, ⟨3, _⟩ => ⟨S8x128, .f32⟩
  | .hbm, ⟨4, _⟩ => ⟨S2048x4x2048, .bf16⟩
  | .hbm, ⟨5, _⟩ => ⟨S4x2048x2048, .bf16⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1024x2048, .f32⟩
  | .local _ .vmem, ⟨5, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Ff1BwdRefIdeal.lean ====
abbrev S8192x2048 : Shape := ⟨2, ![8192, 2048]⟩
abbrev S2048x8192 : Shape := ⟨2, ![2048, 8192]⟩
abbrev S8192x8192 : Shape := ⟨2, ![8192, 8192]⟩
abbrev S8x128 : Shape := ⟨2, ![8, 128]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .bf16⟩
  | .hbm, ⟨2, _⟩ => ⟨S8192x8192, .bf16⟩
  | .hbm, ⟨3, _⟩ => ⟨S8x128, .f32⟩
  | .hbm, ⟨4, _⟩ => ⟨S2048x8192, .f32⟩
  | .hbm, ⟨5, _⟩ => ⟨S8192x8192, .f32⟩
  | .hbm, ⟨6, _⟩ => ⟨S8192x8192, .f32⟩
  | .hbm, ⟨7, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== MixOut0.lean ====
abbrev S8192x2048 : Shape := ⟨2, ![8192, 2048]⟩
abbrev S2048x2048 : Shape := ⟨2, ![2048, 2048]⟩
abbrev S2048 : Shape := ⟨1, ![2048]⟩
abbrev S8x128 : Shape := ⟨2, ![8, 128]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S2048, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S8x128, .f32⟩
  | .hbm, ⟨7, _⟩ => ⟨S8192x2048, .bf16⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== MixOut0RefIdeal.lean ====
abbrev S8192x2048 : Shape := ⟨2, ![8192, 2048]⟩
abbrev S2048x2048 : Shape := ⟨2, ![2048, 2048]⟩
abbrev S2048 : Shape := ⟨1, ![2048]⟩
abbrev S8x128 : Shape := ⟨2, ![8, 128]⟩
abbrev S_ : Shape := ⟨0, ![]⟩
abbrev S1x2048 : Shape := ⟨2, ![1, 2048]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S2048, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S8x128, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S2048x2048, .f32⟩
  | .hbm, ⟨11, _⟩ => ⟨S8192x2048, .f32⟩
  | .hbm, ⟨12, _⟩ => ⟨S1x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== MixOut1.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 16
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S2048, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S8192x2048, .bf16⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S8192x2048, .f32⟩
  | .hbm, ⟨15, _⟩ => ⟨S8192x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== MixOut1RefIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 72
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S2048, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S2048x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x2048, .f32⟩
  | .hbm, ⟨64, _⟩ => ⟨S8192x2048, .f32⟩
  | .hbm, ⟨65, _⟩ => ⟨S1x2048, .f32⟩
  | .hbm, ⟨66, _⟩ => ⟨S8192x2048, .f32⟩
  | .hbm, ⟨67, _⟩ => ⟨S8192x2048, .f32⟩
  | .hbm, ⟨68, _⟩ => ⟨S1x2048, .f32⟩
  | .hbm, ⟨69, _⟩ => ⟨S8192x2048, .f32⟩
  | .hbm, ⟨70, _⟩ => ⟨S8192x2048, .f32⟩
  | .hbm, ⟨71, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Proj.lean ====
abbrev S8192x2048 : Shape := ⟨2, ![8192, 2048]⟩
abbrev S2048x3584 : Shape := ⟨2, ![2048, 3584]⟩
abbrev S3584 : Shape := ⟨1, ![3584]⟩
abbrev S2048x4x896 : Shape := ⟨3, ![2048, 4, 896]⟩
abbrev S4x2048x896 : Shape := ⟨3, ![4, 2048, 896]⟩
abbrev S1x3584 : Shape := ⟨2, ![1, 3584]⟩
abbrev S8192x3584 : Shape := ⟨2, ![8192, 3584]⟩
abbrev S1024x2048 : Shape := ⟨2, ![1024, 2048]⟩
abbrev S1x2048x896 : Shape := ⟨3, ![1, 2048, 896]⟩
abbrev S1x896 : Shape := ⟨2, ![1, 896]⟩
abbrev S1024x896 : Shape := ⟨2, ![1024, 896]⟩
abbrev S2048x896 : Shape := ⟨2, ![2048, 896]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x3584, .bf16⟩
  | .hbm, ⟨2, _⟩ => ⟨S3584, .f32⟩
  | .hbm, ⟨3, _⟩ => ⟨S2048x4x896, .bf16⟩
  | .hbm, ⟨4, _⟩ => ⟨S4x2048x896, .bf16⟩
  | .hbm, ⟨5, _⟩ => ⟨S8192x2048, .bf16⟩
  | .hbm, ⟨6, _⟩ => ⟨S1x3584, .f32⟩
  | .hbm, ⟨7, _⟩ => ⟨S8192x3584, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1x896, .f32⟩
  | .local _ .vmem, ⟨5, _⟩ => ⟨S1x896, .f32⟩
  | .local _ .vmem, ⟨6, _⟩ => ⟨S1024x896, .f32⟩
  | .local _ .vmem, ⟨7, _⟩ => ⟨S1024x896, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjRefIdeal.lean ====
abbrev S8192x2048 : Shape := ⟨2, ![8192, 2048]⟩
abbrev S2048x3584 : Shape := ⟨2, ![2048, 3584]⟩
abbrev S3584 : Shape := ⟨1, ![3584]⟩
abbrev S8192x3584 : Shape := ⟨2, ![8192, 3584]⟩
abbrev S1x3584 : Shape := ⟨2, ![1, 3584]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x3584, .bf16⟩
  | .hbm, ⟨2, _⟩ => ⟨S3584, .f32⟩
  | .hbm, ⟨3, _⟩ => ⟨S2048x3584, .f32⟩
  | .hbm, ⟨4, _⟩ => ⟨S8192x3584, .f32⟩
  | .hbm, ⟨5, _⟩ => ⟨S1x3584, .f32⟩
  | .hbm, ⟨6, _⟩ => ⟨S8192x3584, .f32⟩
  | .hbm, ⟨7, _⟩ => ⟨S8192x3584, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Ff1.lean ====
abbrev S8192x2048 : Shape := ⟨2, ![8192, 2048]⟩
abbrev S2048x8192 : Shape := ⟨2, ![2048, 8192]⟩
abbrev S8192 : Shape := ⟨1, ![8192]⟩
abbrev S2048x4x2048 : Shape := ⟨3, ![2048, 4, 2048]⟩
abbrev S4x2048x2048 : Shape := ⟨3, ![4, 2048, 2048]⟩
abbrev S1x8192 : Shape := ⟨2, ![1, 8192]⟩
abbrev S8192x8192 : Shape := ⟨2, ![8192, 8192]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x8192, .bf16⟩
  | .hbm, ⟨2, _⟩ => ⟨S8192, .f32⟩
  | .hbm, ⟨3, _⟩ => ⟨S2048x4x2048, .bf16⟩
  | .hbm, ⟨4, _⟩ => ⟨S4x2048x2048, .bf16⟩
  | .hbm, ⟨5, _⟩ => ⟨S8192x2048, .bf16⟩
  | .hbm, ⟨6, _⟩ => ⟨S1x8192, .f32⟩
  | .hbm, ⟨7, _⟩ => ⟨S8192x8192, .bf16⟩
  | .hbm, ⟨8, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Ff1RefIdeal.lean ====
abbrev S8192x2048 : Shape := ⟨2, ![8192, 2048]⟩
abbrev S2048x8192 : Shape := ⟨2, ![2048, 8192]⟩
abbrev S8192 : Shape := ⟨1, ![8192]⟩
abbrev S8192x8192 : Shape := ⟨2, ![8192, 8192]⟩
abbrev S1x8192 : Shape := ⟨2, ![1, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .bf16⟩
  | .hbm, ⟨2, _⟩ => ⟨S8192, .f32⟩
  | .hbm, ⟨3, _⟩ => ⟨S2048x8192, .f32⟩
  | .hbm, ⟨4, _⟩ => ⟨S8192x8192, .f32⟩
  | .hbm, ⟨5, _⟩ => ⟨S1x8192, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .bf16⟩
  | .hbm, ⟨13, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Ff2.lean ====
abbrev S8192x8192 : Shape := ⟨2, ![8192, 8192]⟩
abbrev S8192x2048 : Shape := ⟨2, ![8192, 2048]⟩
abbrev S2048 : Shape := ⟨1, ![2048]⟩
abbrev S1x2048 : Shape := ⟨2, ![1, 2048]⟩
abbrev S1024x2048 : Shape := ⟨2, ![1024, 2048]⟩
abbrev S2048x2048 : Shape := ⟨2, ![2048, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .bf16⟩
  | .hbm, ⟨2, _⟩ => ⟨S2048, .f32⟩
  | .hbm, ⟨3, _⟩ => ⟨S8192x8192, .bf16⟩
  | .hbm, ⟨4, _⟩ => ⟨S1x2048, .f32⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1024x2048, .f32⟩
  | .local _ .vmem, ⟨6, _⟩ => ⟨S1024x2048, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Ff2RefIdeal.lean ====
abbrev S8192x8192 : Shape := ⟨2, ![8192, 8192]⟩
abbrev S8192x2048 : Shape := ⟨2, ![8192, 2048]⟩
abbrev S2048 : Shape := ⟨1, ![2048]⟩
abbrev S1x2048 : Shape := ⟨2, ![1, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .bf16⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S1x2048, .f32⟩
  | .hbm, ⟨6, _⟩ => ⟨S8192x2048, .f32⟩
  | .hbm, ⟨7, _⟩ => ⟨S8192x2048, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Ln2.lean ====
abbrev S8192x2048 : Shape := ⟨2, ![8192, 2048]⟩
abbrev S2048 : Shape := ⟨1, ![2048]⟩
abbrev S8x128 : Shape := ⟨2, ![8, 128]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S8x128, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Ln2RefIdeal.lean ====
abbrev S8192x2048 : Shape := ⟨2, ![8192, 2048]⟩
abbrev S2048 : Shape := ⟨1, ![2048]⟩
abbrev S8x128 : Shape := ⟨2, ![8, 128]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S8x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S1x2048, .f32⟩
  | .hbm, ⟨60, _⟩ => ⟨S8192x2048, .f32⟩
  | .hbm, ⟨61, _⟩ => ⟨S8192x2048, .f32⟩
  | .hbm, ⟨62, _⟩ => ⟨S1x2048, .f32⟩
  | .hbm, ⟨63, _⟩ => ⟨S8192x2048, .f32⟩
  | .hbm, ⟨64, _⟩ => ⟨S8192x2048, .f32⟩
  | .hbm, ⟨65, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== AdamwOut1.lean ====
abbrev S2x512x2048 : Shape := ⟨3, ![2, 512, 2048]⟩
abbrev S512x2048 : Shape := ⟨2, ![512, 2048]⟩
abbrev S1x128x2048 : Shape := ⟨3, ![1, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S128x2048, .f32⟩
  | .local _ .vmem, ⟨7, _⟩ => ⟨S128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwOut1RefIdeal.lean ====
abbrev S2x512x2048 : Shape := ⟨3, ![2, 512, 2048]⟩
abbrev S512x2048 : Shape := ⟨2, ![512, 2048]⟩
abbrev S1x512x2048 : Shape := ⟨3, ![1, 512, 2048]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S512x2048, .f32⟩
  | .hbm, ⟨4, _⟩ => ⟨S1x512x2048, .f32⟩
  | .hbm, ⟨5, _⟩ => ⟨S512x2048, .f32⟩
  | .hbm, ⟨6, _⟩ => ⟨S1x512x2048, .f32⟩
  | .hbm, ⟨7, _⟩ => ⟨S512x2048, .f32⟩
  | .hbm, ⟨8, _⟩ => ⟨S1x512x2048, .f32⟩
  | .hbm, ⟨9, _⟩ => ⟨S512x2048, .f32⟩
  | .hbm, ⟨10, _⟩ => ⟨S_, .f32⟩
  | .hbm, ⟨11, _⟩ => ⟨S512x2048, .f32⟩
  | .hbm, ⟨12, _⟩ => ⟨S512x2048, .f32⟩
  | .hbm, ⟨13, _⟩ => ⟨S_, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S_, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S512x2048, .f32⟩
  | .hbm, ⟨38, _⟩ => ⟨S512x2048, .f32⟩
  | .hbm, ⟨39, _⟩ => ⟨S512x2048, .f32⟩
  | .hbm, ⟨40, _⟩ => ⟨S_, .f32⟩
  | .hbm, ⟨41, _⟩ => ⟨S512x2048, .f32⟩
  | .hbm, ⟨42, _⟩ => ⟨S512x2048, .f32⟩
  | .hbm, ⟨43, _⟩ => ⟨S2x512x2048, .f32⟩
  | .hbm, ⟨44, _⟩ => ⟨S2x512x2048, .f32⟩
  | .hbm, ⟨45, _⟩ => ⟨S2x512x2048, .f32⟩
  | .hbm, ⟨46, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== AdamwOut0.lean ====
abbrev S2x512x2048 : Shape := ⟨3, ![2, 512, 2048]⟩
abbrev S512x2048 : Shape := ⟨2, ![512, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S2x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S128x2048, .f32⟩
  | .local _ .vmem, ⟨7, _⟩ => ⟨S128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwOut0RefIdeal.lean ====
abbrev S2x512x2048 : Shape := ⟨3, ![2, 512, 2048]⟩
abbrev S512x2048 : Shape := ⟨2, ![512, 2048]⟩
abbrev S1x512x2048 : Shape := ⟨3, ![1, 512, 2048]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S1x512x2048, .f32⟩
  | .hbm, ⟨9, _⟩ => ⟨S512x2048, .f32⟩
  | .hbm, ⟨10, _⟩ => ⟨S1x512x2048, .f32⟩
  | .hbm, ⟨11, _⟩ => ⟨S512x2048, .f32⟩
  | .hbm, ⟨12, _⟩ => ⟨S1x512x2048, .f32⟩
  | .hbm, ⟨13, _⟩ => ⟨S512x2048, .f32⟩
  | .hbm, ⟨14, _⟩ => ⟨S_, .f32⟩
  | .hbm, ⟨15, _⟩ => ⟨S512x2048, .f32⟩
  | .hbm, ⟨16, _⟩ => ⟨S512x2048, .f32⟩
  | .hbm, ⟨17, _⟩ => ⟨S_, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S512x2048, .f32⟩
  | .hbm, ⟨38, _⟩ => ⟨S512x2048, .f32⟩
  | .hbm, ⟨39, _⟩ => ⟨S512x2048, .f32⟩
  | .hbm, ⟨40, _⟩ => ⟨S_, .f32⟩
  | .hbm, ⟨41, _⟩ => ⟨S512x2048, .f32⟩
  | .hbm, ⟨42, _⟩ => ⟨S512x2048, .f32⟩
  | .hbm, ⟨43, _⟩ => ⟨S512x2048, .f32⟩
  | .hbm, ⟨44, _⟩ => ⟨S_, .f32⟩
  | .hbm, ⟨45, _⟩ => ⟨S512x2048, .f32⟩
  | .hbm, ⟨46, _⟩ => ⟨S512x2048, .f32⟩
  | .hbm, ⟨47, _⟩ => ⟨S1x512x2048, .f32⟩
  | .hbm, ⟨48, _⟩ => ⟨S512x2048, .f32⟩
  | .hbm, ⟨49, _⟩ => ⟨S1x512x2048, .f32⟩
  | .hbm, ⟨50, _⟩ => ⟨S1x512x2048, .f32⟩
  | .hbm, ⟨51, _⟩ => ⟨S2x512x2048, .f32⟩
  | .hbm, ⟨52, _⟩ => ⟨S1x512x2048, .f32⟩
  | .hbm, ⟨53, _⟩ => ⟨S512x2048, .f32⟩
  | .hbm, ⟨54, _⟩ => ⟨S1x512x2048, .f32⟩
  | .hbm, ⟨55, _⟩ => ⟨S1x512x2048, .f32⟩
  | .hbm, ⟨56, _⟩ => ⟨S2x512x2048, .f32⟩
  | .hbm, ⟨57, _⟩ => ⟨S1x512x2048, .f32⟩
  | .hbm, ⟨58, _⟩ => ⟨S512x2048, .f32⟩
  | .hbm, ⟨59, _⟩ => ⟨S1x512x2048, .f32⟩
  | .hbm, ⟨60, _⟩ => ⟨S1x512x2048, .f32⟩
  | .hbm, ⟨61, _⟩ => ⟨S2x512x2048, .f32⟩
  | .hbm, ⟨62, _⟩ => ⟨S1x512x2048, .f32⟩
  | .hbm, ⟨63, _⟩ => ⟨S512x2048, .f32⟩
  | .hbm, ⟨64, _⟩ => ⟨S1x512x2048, .f32⟩
  | .hbm, ⟨65, _⟩ => ⟨S1x512x2048, .f32⟩
  | .hbm, ⟨66, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== AdamwFf2.lean ====
abbrev S2x2048x2048 : Shape := ⟨3, ![2, 2048, 2048]⟩
abbrev S2048x2048 : Shape := ⟨2, ![2048, 2048]⟩
abbrev S1x128x2048 : Shape := ⟨3, ![1, 128, 2048]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S2048x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S2x2048x2048, .f32⟩
  | .hbm, ⟨9, _⟩ => ⟨S2x2048x2048, .f32⟩
  | .hbm, ⟨10, _⟩ => ⟨S2x2048x2048, .f32⟩
  | .hbm, ⟨11, _⟩ => ⟨S2x2048x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S128x2048, .f32⟩
  | .local _ .vmem, ⟨7, _⟩ => ⟨S128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwFf2RefIdeal.lean ====
abbrev S2x2048x2048 : Shape := ⟨3, ![2, 2048, 2048]⟩
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S2048x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S1x2048x2048, .f32⟩
  | .hbm, ⟨48, _⟩ => ⟨S2048x2048, .f32⟩
  | .hbm, ⟨49, _⟩ => ⟨S1x2048x2048, .f32⟩
  | .hbm, ⟨50, _⟩ => ⟨S1x2048x2048, .f32⟩
  | .hbm, ⟨51, _⟩ => ⟨S2x2048x2048, .f32⟩
  | .hbm, ⟨52, _⟩ => ⟨S1x2048x2048, .f32⟩
  | .hbm, ⟨53, _⟩ => ⟨S2048x2048, .f32⟩
  | .hbm, ⟨54, _⟩ => ⟨S1x2048x2048, .f32⟩
  | .hbm, ⟨55, _⟩ => ⟨S1x2048x2048, .f32⟩
  | .hbm, ⟨56, _⟩ => ⟨S2x2048x2048, .f32⟩
  | .hbm, ⟨57, _⟩ => ⟨S1x2048x2048, .f32⟩
  | .hbm, ⟨58, _⟩ => ⟨S2048x2048, .f32⟩
  | .hbm, ⟨59, _⟩ => ⟨S1x2048x2048, .f32⟩
  | .hbm, ⟨60, _⟩ => ⟨S1x2048x2048, .f32⟩
  | .hbm, ⟨61, _⟩ => ⟨S2x2048x2048, .f32⟩
  | .hbm, ⟨62, _⟩ => ⟨S1x2048x2048, .f32⟩
  | .hbm, ⟨63, _⟩ => ⟨S2048x2048, .f32⟩
  | .hbm, ⟨64, _⟩ => ⟨S1x2048x2048, .f32⟩
  | .hbm, ⟨65, _⟩ => ⟨S1x2048x2048, .f32⟩
  | .hbm, ⟨66, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== AdamwIn0.lean ====
abbrev S2x2048x896 : Shape := ⟨3, ![2, 2048, 896]⟩
abbrev S2048x896 : Shape := ⟨2, ![2048, 896]⟩
abbrev S1x256x896 : Shape := ⟨3, ![1, 256, 896]⟩
abbrev S256x896 : Shape := ⟨2, ![256, 896]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x896, .f32⟩
  | .hbm, ⟨1, _⟩ => ⟨S2x2048x896, .f32⟩
  | .hbm, ⟨2, _⟩ => ⟨S2x2048x896, .f32⟩
  | .hbm, ⟨3, _⟩ => ⟨S2048x896, .f32⟩
  | .hbm, ⟨4, _⟩ => ⟨S2x2048x896, .f32⟩
  | .hbm, ⟨5, _⟩ => ⟨S2x2048x896, .f32⟩
  | .hbm, ⟨6, _⟩ => ⟨S2x2048x896, .f32⟩
  | .hbm, ⟨7, _⟩ => ⟨S2x2048x896, .f32⟩
  | .hbm, ⟨8, _⟩ => ⟨S2x2048x896, .f32⟩
  | .hbm, ⟨9, _⟩ => ⟨S2x2048x896, .f32⟩
  | .hbm, ⟨10, _⟩ => ⟨S2x2048x896, .f32⟩
  | .hbm, ⟨11, _⟩ => ⟨S2x2048x896, .f32⟩
  | .local _ .vmem, ⟨0, _⟩ => ⟨S1x256x896, .f32⟩
  | .local _ .vmem, ⟨1, _⟩ => ⟨S1x256x896, .f32⟩
  | .local _ .vmem, ⟨2, _⟩ => ⟨S1x256x896, .f32⟩
  | .local _ .vmem, ⟨3, _⟩ => ⟨S1x256x896, .f32⟩
  | .local _ .vmem, ⟨4, _⟩ => ⟨S1x256x896, .f32⟩
  | .local _ .vmem, ⟨5, _⟩ => ⟨S1x256x896, .f32⟩
  | .local _ .vmem, ⟨6, _⟩ => ⟨S256x896, .f32⟩
  | .local _ .vmem, ⟨7, _⟩ => ⟨S256x896, .f32⟩
  | .local _ .vmem, ⟨8, _⟩ => ⟨S1x256x896, .f32⟩
  | .local _ .vmem, ⟨9, _⟩ => ⟨S1x256x896, .f32⟩
  | .local _ .vmem, ⟨10, _⟩ => ⟨S1x256x896, .f32⟩
  | .local _ .vmem, ⟨11, _⟩ => ⟨S1x256x896, .f32⟩
  | .local _ .vmem, ⟨12, _⟩ => ⟨S1x256x896, .f32⟩
  | .local _ .vmem, ⟨13, _⟩ => ⟨S1x256x896, .f32⟩
  | .local _ .vmem, ⟨14, _⟩ => ⟨S1x256x896, .f32⟩
  | .local _ .vmem, ⟨15, _⟩ => ⟨S1x256x896, .f32⟩
  | _, _ => ⟨S2x2048x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwIn0RefIdeal.lean ====
abbrev S2x2048x896 : Shape := ⟨3, ![2, 2048, 896]⟩
abbrev S2048x896 : Shape := ⟨2, ![2048, 896]⟩
abbrev S1x2048x896 : Shape := ⟨3, ![1, 2048, 896]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S2x2048x896, .f32⟩
  | .hbm, ⟨1, _⟩ => ⟨S2x2048x896, .f32⟩
  | .hbm, ⟨2, _⟩ => ⟨S2x2048x896, .f32⟩
  | .hbm, ⟨3, _⟩ => ⟨S2048x896, .f32⟩
  | .hbm, ⟨4, _⟩ => ⟨S2x2048x896, .f32⟩
  | .hbm, ⟨5, _⟩ => ⟨S2x2048x896, .f32⟩
  | .hbm, ⟨6, _⟩ => ⟨S2x2048x896, .f32⟩
  | .hbm, ⟨7, _⟩ => ⟨S2x2048x896, .f32⟩
  | .hbm, ⟨8, _⟩ => ⟨S1x2048x896, .f32⟩
  | .hbm, ⟨9, _⟩ => ⟨S2048x896, .f32⟩
  | .hbm, ⟨10, _⟩ => ⟨S1x2048x896, .f32⟩
  | .hbm, ⟨11, _⟩ => ⟨S2048x896, .f32⟩
  | .hbm, ⟨12, _⟩ => ⟨S1x2048x896, .f32⟩
  | .hbm, ⟨13, _⟩ => ⟨S2048x896, .f32⟩
  | .hbm, ⟨14, _⟩ => ⟨S_, .f32⟩
  | .hbm, ⟨15, _⟩ => ⟨S2048x896, .f32⟩
  | .hbm, ⟨16, _⟩ => ⟨S2048x896, .f32⟩
  | .hbm, ⟨17, _⟩ => ⟨S_, .f32⟩
  | .hbm, ⟨18, _⟩ => ⟨S2048x896, .f32⟩
  | .hbm, ⟨19, _⟩ => ⟨S2048x896, .f32⟩
  | .hbm, ⟨20, _⟩ => ⟨S2048x896, .f32⟩
  | .hbm, ⟨21, _⟩ => ⟨S_, .f32⟩
  | .hbm, ⟨22, _⟩ => ⟨S2048x896, .f32⟩
  | .hbm, ⟨23, _⟩ => ⟨S2048x896, .f32⟩
  | .hbm, ⟨24, _⟩ => ⟨S2048x896, .f32⟩
  | .hbm, ⟨25, _⟩ => ⟨S_, .f32⟩
  | .hbm, ⟨26, _⟩ => ⟨S2048x896, .f32⟩
  | .hbm, ⟨27, _⟩ => ⟨S2048x896, .f32⟩
  | .hbm, ⟨28, _⟩ => ⟨S2048x896, .f32⟩
  | .hbm, ⟨29, _⟩ => ⟨S_, .f32⟩
  | .hbm, ⟨30, _⟩ => ⟨S2048x896, .f32⟩
  | .hbm, ⟨31, _⟩ => ⟨S2048x896, .f32⟩
  | .hbm, ⟨32, _⟩ => ⟨S_, .f32⟩
  | .hbm, ⟨33, _⟩ => ⟨S2048x896, .f32⟩
  | .hbm, ⟨34, _⟩ => ⟨S2048x896, .f32⟩
  | .hbm, ⟨35, _⟩ => ⟨S2048x896, .f32⟩
  | .hbm, ⟨36, _⟩ => ⟨S_, .f32⟩
  | .hbm, ⟨37, _⟩ => ⟨S2048x896, .f32⟩
  | .hbm, ⟨38, _⟩ => ⟨S2048x896, .f32⟩
  | .hbm, ⟨39, _⟩ => ⟨S2048x896, .f32⟩
  | .hbm, ⟨40, _⟩ => ⟨S_, .f32⟩
  | .hbm, ⟨41, _⟩ => ⟨S2048x896, .f32⟩
  | .hbm, ⟨42, _⟩ => ⟨S2048x896, .f32⟩
  | .hbm, ⟨43, _⟩ => ⟨S2048x896, .f32⟩
  | .hbm, ⟨44, _⟩ => ⟨S_, .f32⟩
  | .hbm, ⟨45, _⟩ => ⟨S2048x896, .f32⟩
  | .hbm, ⟨46, _⟩ => ⟨S2048x896, .f32⟩
  | .hbm, ⟨47, _⟩ => ⟨S1x2048x896, .f32⟩
  | .hbm, ⟨48, _⟩ => ⟨S2048x896, .f32⟩
  | .hbm, ⟨49, _⟩ => ⟨S1x2048x896, .f32⟩
  | .hbm, ⟨50, _⟩ => ⟨S1x2048x896, .f32⟩
  | .hbm, ⟨51, _⟩ => ⟨S2x2048x896, .f32⟩
  | .hbm, ⟨52, _⟩ => ⟨S1x2048x896, .f32⟩
  | .hbm, ⟨53, _⟩ => ⟨S2048x896, .f32⟩
  | .hbm, ⟨54, _⟩ => ⟨S1x2048x896, .f32⟩
  | .hbm, ⟨55, _⟩ => ⟨S1x2048x896, .f32⟩
  | .hbm, ⟨56, _⟩ => ⟨S2x2048x896, .f32⟩
  | .hbm, ⟨57, _⟩ => ⟨S1x2048x896, .f32⟩
  | .hbm, ⟨58, _⟩ => ⟨S2048x896, .f32⟩
  | .hbm, ⟨59, _⟩ => ⟨S1x2048x896, .f32⟩
  | .hbm, ⟨60, _⟩ => ⟨S1x2048x896, .f32⟩
  | .hbm, ⟨61, _⟩ => ⟨S2x2048x896, .f32⟩
  | .hbm, ⟨62, _⟩ => ⟨S1x2048x896, .f32⟩
  | .hbm, ⟨63, _⟩ => ⟨S2048x896, .f32⟩
  | .hbm, ⟨64, _⟩ => ⟨S1x2048x896, .f32⟩
  | .hbm, ⟨65, _⟩ => ⟨S1x2048x896, .f32⟩
  | .hbm, ⟨66, _⟩ => ⟨S2x2048x896, .f32⟩
  | _, _ => ⟨S2x2048x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== AdamwConv.lean ====
abbrev S2x31x192 : Shape := ⟨3, ![2, 31, 192]⟩
abbrev S62x192 : Shape := ⟨2, ![62, 192]⟩

abbrev nBuf : Space → Nat
  | .hbm => 11
  | .vmem => 7
  | .smem => 0
  | _ => 0

abbrev bufTy : (tb : Table) → Fin (tcTables nBuf tb) → BufTy
  | .hbm, ⟨0, _⟩ => ⟨S2x31x192, .f32⟩
  | .hbm, ⟨1, _⟩ => ⟨S2x31x192, .f32⟩
  | .hbm, ⟨2, _⟩ => ⟨S2x31x192, .f32⟩
  | .hbm, ⟨3, _⟩ => ⟨S2x31x192, .f32⟩
  | .hbm, ⟨4, _⟩ => ⟨S62x192, .f32⟩
  | .hbm, ⟨5, _⟩ => ⟨S62x192, .f32⟩
  | .hbm, ⟨6, _⟩ => ⟨S62x192, .f32⟩
  | .hbm, ⟨7, _⟩ => ⟨S62x192, .f32⟩
  | .hbm, ⟨8, _⟩ => ⟨S62x192, .f32⟩
  | .hbm, ⟨9, _⟩ => ⟨S62x192, .f32⟩
  | .hbm, ⟨10, _⟩ => ⟨S62x192, .f32⟩
  | .local _ .vmem, ⟨0, _⟩ => ⟨S62x192, .f32⟩
  | .local _ .vmem, ⟨1, _⟩ => ⟨S62x192, .f32⟩
  | .local _ .vmem, ⟨2, _⟩ => ⟨S62x192, .f32⟩
  | .local _ .vmem, ⟨3, _⟩ => ⟨S62x192, .f32⟩
  | .local _ .vmem, ⟨4, _⟩ => ⟨S62x192, .f32⟩
  | .local _ .vmem, ⟨5, _⟩ => ⟨S62x192, .f32⟩
  | .local _ .vmem, ⟨6, _⟩ => ⟨S62x192, .f32⟩
  | _, _ => ⟨S2x31x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwConvRefIdeal.lean ====
abbrev S2x31x192 : Shape := ⟨3, ![2, 31, 192]⟩
abbrev S_ : Shape := ⟨0, ![]⟩
abbrev S62x192 : Shape := ⟨2, ![62, 192]⟩

abbrev nBuf : Space → Nat
  | .hbm => 40
  | .vmem => 0
  | .smem => 0
  | _ => 0

abbrev bufTy : (tb : Table) → Fin (tcTables nBuf tb) → BufTy
  | .hbm, ⟨0, _⟩ => ⟨S2x31x192, .f32⟩
  | .hbm, ⟨1, _⟩ => ⟨S2x31x192, .f32⟩
  | .hbm, ⟨2, _⟩ => ⟨S2x31x192, .f32⟩
  | .hbm, ⟨3, _⟩ => ⟨S2x31x192, .f32⟩
  | .hbm, ⟨4, _⟩ => ⟨S_, .f32⟩
  | .hbm, ⟨5, _⟩ => ⟨S2x31x192, .f32⟩
  | .hbm, ⟨6, _⟩ => ⟨S2x31x192, .f32⟩
  | .hbm, ⟨7, _⟩ => ⟨S_, .f32⟩
  | .hbm, ⟨8, _⟩ => ⟨S2x31x192, .f32⟩
  | .hbm, ⟨9, _⟩ => ⟨S2x31x192, .f32⟩
  | .hbm, ⟨10, _⟩ => ⟨S2x31x192, .f32⟩
  | .hbm, ⟨11, _⟩ => ⟨S_, .f32⟩
  | .hbm, ⟨12, _⟩ => ⟨S2x31x192, .f32⟩
  | .hbm, ⟨13, _⟩ => ⟨S2x31x192, .f32⟩
  | .hbm, ⟨14, _⟩ => ⟨S2x31x192, .f32⟩
  | .hbm, ⟨15, _⟩ => ⟨S_, .f32⟩
  | .hbm, ⟨16, _⟩ => ⟨S2x31x192, .f32⟩
  | .hbm, ⟨17, _⟩ => ⟨S2x31x192, .f32⟩
  | .hbm, ⟨18, _⟩ => ⟨S2x31x192, .f32⟩
  | .hbm, ⟨19, _⟩ => ⟨S_, .f32⟩
  | .hbm, ⟨20, _⟩ => ⟨S2x31x192, .f32⟩
  | .hbm, ⟨21, _⟩ => ⟨S2x31x192, .f32⟩
  | .hbm, ⟨22, _⟩ => ⟨S_, .f32⟩
  | .hbm, ⟨23, _⟩ => ⟨S2x31x192, .f32⟩
  | .hbm, ⟨24, _⟩ => ⟨S2x31x192, .f32⟩
  | .hbm, ⟨25, _⟩ => ⟨S2x31x192, .f32⟩
  | .hbm, ⟨26, _⟩ => ⟨S_, .f32⟩
  | .hbm, ⟨27, _⟩ => ⟨S2x31x192, .f32⟩
  | .hbm, ⟨28, _⟩ => ⟨S2x31x192, .f32⟩
  | .hbm, ⟨29, _⟩ => ⟨S2x31x192, .f32⟩
  | .hbm, ⟨30, _⟩ => ⟨S_, .f32⟩
  | .hbm, ⟨31, _⟩ => ⟨S2x31x192, .f32⟩
  | .hbm, ⟨32, _⟩ => ⟨S2x31x192, .f32⟩
  | .hbm, ⟨33, _⟩ => ⟨S2x31x192, .f32⟩
  | .hbm, ⟨34, _⟩ => ⟨S_, .f32⟩
  | .hbm, ⟨35, _⟩ => ⟨S2x31x192, .f32⟩
  | .hbm, ⟨36, _⟩ => ⟨S2x31x192, .f32⟩
  | .hbm, ⟨37, _⟩ => ⟨S62x192, .f32⟩
  | .hbm, ⟨38, _⟩ => ⟨S62x192, .f32⟩
  | .hbm, ⟨39, _⟩ => ⟨S62x192, .f32⟩
  | _, _ => ⟨S2x31x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== MixFwd.lean ====
abbrev S8192x3584 : Shape := ⟨2, ![8192, 3584]⟩
abbrev S4x128x128 : Shape := ⟨3, ![4, 128, 128]⟩
abbrev S512 : Shape := ⟨1, ![512]⟩
abbrev S768 : Shape := ⟨1, ![768]⟩
abbrev S6x128x128 : Shape := ⟨3, ![6, 128, 128]⟩
abbrev S6x128 : Shape := ⟨2, ![6, 128]⟩
abbrev S31x768 : Shape := ⟨2, ![31, 768]⟩
abbrev S6x128x1 : Shape := ⟨3, ![6, 128, 1]⟩
abbrev S_ : Shape := ⟨0, ![]⟩
abbrev S32x768 : Shape := ⟨2, ![32, 768]⟩
abbrev S1x512 : Shape := ⟨2, ![1, 512]⟩
abbrev S1x768 : Shape := ⟨2, ![1, 768]⟩
abbrev S8192x2048 : Shape := ⟨2, ![8192, 2048]⟩
abbrev S8192x768 : Shape := ⟨2, ![8192, 768]⟩
abbrev S256x3584 : Shape := ⟨2, ![256, 3584]⟩
abbrev S32x3584 : Shape := ⟨2, ![32, 3584]⟩
abbrev S256x2048 : Shape := ⟨2, ![256, 2048]⟩
abbrev S256x768 : Shape := ⟨2, ![256, 768]⟩
abbrev S272x512 : Shape := ⟨2, ![272, 512]⟩
abbrev S288x768 : Shape := ⟨2, ![288, 768]⟩
abbrev S7x280x768 : Shape := ⟨3, ![7, 280, 768]⟩
abbrev S16x512 : Shape := ⟨2, ![16, 512]⟩
abbrev S256x512 : Shape := ⟨2, ![256, 512]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩
abbrev S256x1536 : Shape := ⟨2, ![256, 1536]⟩
abbrev S256 : Shape := ⟨1, ![256]⟩
abbrev S256x1 : Shape := ⟨2, ![256, 1]⟩
abbrev S280x768 : Shape := ⟨2, ![280, 768]⟩
abbrev S1x280x768 : Shape := ⟨3, ![1, 280, 768]⟩
abbrev S64x128 : Shape := ⟨2, ![64, 128]⟩
abbrev S1x64x128 : Shape := ⟨3, ![1, 64, 128]⟩

abbrev nBuf : Space → Nat
  | .hbm => 24
  | .vmem => 21
  | .smem => 0
  | _ => 0

abbrev bufTy : (tb : Table) → Fin (tcTables nBuf tb) → BufTy
  | .hbm, ⟨0, _⟩ => ⟨S8192x3584, .f32⟩
  | .hbm, ⟨1, _⟩ => ⟨S4x128x128, .f32⟩
  | .hbm, ⟨2, _⟩ => ⟨S512, .f32⟩
  | .hbm, ⟨3, _⟩ => ⟨S768, .f32⟩
  | .hbm, ⟨4, _⟩ => ⟨S768, .f32⟩
  | .hbm, ⟨5, _⟩ => ⟨S6x128x128, .f32⟩
  | .hbm, ⟨6, _⟩ => ⟨S6x128, .f32⟩
  | .hbm, ⟨7, _⟩ => ⟨S31x768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S6x128x1, .f32⟩
  | .hbm, ⟨12, _⟩ => ⟨S6x128x128, .f32⟩
  | .hbm, ⟨13, _⟩ => ⟨S_, .i32⟩
  | .hbm, ⟨14, _⟩ => ⟨S_, .f32⟩
  | .hbm, ⟨15, _⟩ => ⟨S32x768, .f32⟩
  | .hbm, ⟨16, _⟩ => ⟨S1x512, .f32⟩
  | .hbm, ⟨17, _⟩ => ⟨S1x768, .f32⟩
  | .hbm, ⟨18, _⟩ => ⟨S1x768, .f32⟩
  | .hbm, ⟨19, _⟩ => ⟨S1x768, .f32⟩
  | .hbm, ⟨20, _⟩ => ⟨S1x768, .f32⟩
  | .hbm, ⟨21, _⟩ => ⟨S1x768, .f32⟩
  | .hbm, ⟨22, _⟩ => ⟨S8192x2048, .bf16⟩
  | .hbm, ⟨23, _⟩ => ⟨S8192x768, .f32⟩
  | .local _ .vmem, ⟨0, _⟩ => ⟨S256x3584, .f32⟩
  | .local _ .vmem, ⟨1, _⟩ => ⟨S256x3584, .f32⟩
  | .local _ .vmem, ⟨2, _⟩ => ⟨S32x3584, .f32⟩
  | .local _ .vmem, ⟨3, _⟩ => ⟨S32x3584, .f32⟩
  | .local _ .vmem, ⟨4, _⟩ => ⟨S4x128x128, .f32⟩
  | .local _ .vmem, ⟨5, _⟩ => ⟨S1x512, .f32⟩
  | .local _ .vmem, ⟨6, _⟩ => ⟨S1x768, .f32⟩
  | .local _ .vmem, ⟨7, _⟩ => ⟨S1x768, .f32⟩
  | .local _ .vmem, ⟨8, _⟩ => ⟨S6x128x128, .f32⟩
  | .local _ .vmem, ⟨9, _⟩ => ⟨S6x128x128, .f32⟩
  | .local _ .vmem, ⟨10, _⟩ => ⟨S32x768, .f32⟩
  | .local _ .vmem, ⟨11, _⟩ => ⟨S1x768, .f32⟩
  | .local _ .vmem, ⟨12, _⟩ => ⟨S1x768, .f32⟩
  | .local _ .vmem, ⟨13, _⟩ => ⟨S1x768, .f32⟩
  | .local _ .vmem, ⟨14, _⟩ => ⟨S256x2048, .bf16⟩
  | .local _ .vmem, ⟨15, _⟩ => ⟨S256x2048, .bf16⟩
  | .local _ .vmem, ⟨16, _⟩ => ⟨S256x768, .f32⟩
  | .local _ .vmem, ⟨17, _⟩ => ⟨S256x768, .f32⟩
  | .local _ .vmem, ⟨18, _⟩ => ⟨S272x512, .f32⟩
  | .local _ .vmem, ⟨19, _⟩ => ⟨S288x768, .f32⟩
  | .local _ .vmem, ⟨20, _⟩ => ⟨S7x280x768, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixFwdRefIdeal.lean ====
abbrev S8192x3584 : Shape := ⟨2, ![8192, 3584]⟩
abbrev S4x128x128 : Shape := ⟨3, ![4, 128, 128]⟩
abbrev S512 : Shape := ⟨1, ![512]⟩
abbrev S768 : Shape := ⟨1, ![768]⟩
abbrev S6x128x128 : Shape := ⟨3, ![6, 128, 128]⟩
abbrev S6x128 : Shape := ⟨2, ![6, 128]⟩
abbrev S31x768 : Shape := ⟨2, ![31, 768]⟩
abbrev S8192x512 : Shape := ⟨2, ![8192, 512]⟩
abbrev S1x8192x512 : Shape := ⟨3, ![1, 8192, 512]⟩
abbrev S8192 : Shape := ⟨1, ![8192]⟩
abbrev S_ : Shape := ⟨0, ![]⟩
abbrev S1x8192x1 : Shape := ⟨3, ![1, 8192, 1]⟩
abbrev S1x8192x128 : Shape := ⟨3, ![1, 8192, 128]⟩
abbrev S1x8191x128 : Shape := ⟨3, ![1, 8191, 128]⟩
abbrev S1x8190x128 : Shape := ⟨3, ![1, 8190, 128]⟩
abbrev S1x8189x128 : Shape := ⟨3, ![1, 8189, 128]⟩
abbrev S1x8188x128 : Shape := ⟨3, ![1, 8188, 128]⟩
abbrev S1x8187x128 : Shape := ⟨3, ![1, 8187, 128]⟩
abbrev S1x8186x128 : Shape := ⟨3, ![1, 8186, 128]⟩
abbrev S1x8185x128 : Shape := ⟨3, ![1, 8185, 128]⟩
abbrev S1x8184x128 : Shape := ⟨3, ![1, 8184, 128]⟩
abbrev S1x8183x128 : Shape := ⟨3, ![1, 8183, 128]⟩
abbrev S1x8182x128 : Shape := ⟨3, ![1, 8182, 128]⟩
abbrev S1x8181x128 : Shape := ⟨3, ![1, 8181, 128]⟩
abbrev S1x8180x128 : Shape := ⟨3, ![1, 8180, 128]⟩
abbrev S1x8179x128 : Shape := ⟨3, ![1, 8179, 128]⟩
abbrev S1x8178x128 : Shape := ⟨3, ![1, 8178, 128]⟩
abbrev S1x8177x128 : Shape := ⟨3, ![1, 8177, 128]⟩
abbrev S1x8192x4x128 : Shape := ⟨4, ![1, 8192, 4, 128]⟩
abbrev S4x128x1x8192 : Shape := ⟨4, ![4, 128, 1, 8192]⟩
abbrev S1x1x512 : Shape := ⟨3, ![1, 1, 512]⟩
abbrev S8192x1536 : Shape := ⟨2, ![8192, 1536]⟩
abbrev S1x8192x1536 : Shape := ⟨3, ![1, 8192, 1536]⟩
abbrev S1x8192x768 : Shape := ⟨3, ![1, 8192, 768]⟩
abbrev S1x8192 : Shape := ⟨2, ![1, 8192]⟩
abbrev S1x1x768 : Shape := ⟨3, ![1, 1, 768]⟩
abbrev S1x64x128x6x128 : Shape := ⟨5, ![1, 64, 128, 6, 128]⟩
abbrev S128x128 : Shape := ⟨2, ![128, 128]⟩
abbrev S1x128x128 : Shape := ⟨3, ![1, 128, 128]⟩
abbrev S6x1x64x128x128 : Shape := ⟨5, ![6, 1, 64, 128, 128]⟩
abbrev S128x6 : Shape := ⟨2, ![128, 6]⟩
abbrev S1x1x128x6x1 : Shape := ⟨5, ![1, 1, 128, 6, 1]⟩
abbrev S1x8222x768 : Shape := ⟨3, ![1, 8222, 768]⟩
abbrev S1x768 : Shape := ⟨2, ![1, 768]⟩
abbrev S1x8192x2048 : Shape := ⟨3, ![1, 8192, 2048]⟩
abbrev S8192x2048 : Shape := ⟨2, ![8192, 2048]⟩
abbrev S8192x768 : Shape := ⟨2, ![8192, 768]⟩

abbrev nBuf : Space → Nat
  | .hbm => 528
  | .vmem => 0
  | .smem => 0
  | _ => 0

abbrev hbmTy0_0 (i : Nat) : BufTy := match i % 128 with
  | 0 => ⟨S8192x3584, .f32⟩
  | 1 => ⟨S4x128x128, .f32⟩
  | 2 => ⟨S512, .f32⟩
  | 3 => ⟨S768, .f32⟩
  | 4 => ⟨S768, .f32⟩
  | 5 => ⟨S6x128x128, .f32⟩
  | 6 => ⟨S6x128, .f32⟩
  | 7 => ⟨S31x768, .f32⟩
  | 8 => ⟨S768, .f32⟩
  | 9 => ⟨S768, .f32⟩
  | 10 => ⟨S768, .f32⟩
  | 11 => ⟨S8192x512, .f32⟩
  | 12 => ⟨S1x8192x512, .f32⟩
  | 13 => ⟨S8192, .i32⟩
  | 14 => ⟨S_, .i32⟩
  | 15 => ⟨S8192, .i32⟩
  | 16 => ⟨S8192, .i32⟩
  | 17 => ⟨S8192, .f32⟩
  | 18 => ⟨S1x8192x1, .f32⟩
  | 19 => ⟨S1x8192x128, .f32⟩
  | 20 => ⟨S1x8191x128, .f32⟩
  | 21 => ⟨S_, .i32⟩
  | 22 => ⟨S_, .f32⟩
  | 23 => ⟨S1x8192x128, .f32⟩
  | 24 => ⟨S1x8192x128, .f32⟩
  | 25 => ⟨S_, .f32⟩
  | 26 => ⟨S1x8192x1, .f32⟩
  | 27 => ⟨S1x8192x1, .f32⟩
  | 28 => ⟨S1x8192x128, .f32⟩
  | 29 => ⟨S1x8192x128, .f32⟩
  | 30 => ⟨S1x8192x128, .f32⟩
  | 31 => ⟨S1x8191x128, .f32⟩
  | 32 => ⟨S_, .i32⟩
  | 33 => ⟨S_, .f32⟩
  | 34 => ⟨S1x8192x128, .f32⟩
  | 35 => ⟨S1x8192x128, .f32⟩
  | 36 => ⟨S1x8190x128, .f32⟩
  | 37 => ⟨S_, .i32⟩
  | 38 => ⟨S_, .f32⟩
  | 39 => ⟨S1x8192x128, .f32⟩
  | 40 => ⟨S1x8192x128, .f32⟩
  | 41 => ⟨S1x8189x128, .f32⟩
  | 42 => ⟨S_, .i32⟩
  | 43 => ⟨S_, .f32⟩
  | 44 => ⟨S1x8192x128, .f32⟩
  | 45 => ⟨S1x8192x128, .f32⟩
  | 46 => ⟨S_, .f32⟩
  | 47 => ⟨S1x8192x1, .f32⟩
  | 48 => ⟨S1x8192x1, .f32⟩
  | 49 => ⟨S1x8192x128, .f32⟩
  | 50 => ⟨S1x8192x128, .f32⟩
  | 51 => ⟨S1x8192x128, .f32⟩
  | 52 => ⟨S1x8191x128, .f32⟩
  | 53 => ⟨S_, .i32⟩
  | 54 => ⟨S_, .f32⟩
  | 55 => ⟨S1x8192x128, .f32⟩
  | 56 => ⟨S1x8192x128, .f32⟩
  | 57 => ⟨S1x8190x128, .f32⟩
  | 58 => ⟨S_, .i32⟩
  | 59 => ⟨S_, .f32⟩
  | 60 => ⟨S1x8192x128, .f32⟩
  | 61 => ⟨S1x8192x128, .f32⟩
  | 62 => ⟨S1x8189x128, .f32⟩
  | 63 => ⟨S_, .i32⟩
  | 64 => ⟨S_, .f32⟩
  | 65 => ⟨S1x8192x128, .f32⟩
  | 66 => ⟨S1x8192x128, .f32⟩
  | 67 => ⟨S1x8188x128, .f32⟩
  | 68 => ⟨S_, .i32⟩
  | 69 => ⟨S_, .f32⟩
  | 70 => ⟨S1x8192x128, .f32⟩
  | 71 => ⟨S1x8192x128, .f32⟩
  | 72 => ⟨S1x8187x128, .f32⟩
  | 73 => ⟨S_, .i32⟩
  | 74 => ⟨S_, .f32⟩
  | 75 => ⟨S1x8192x128, .f32⟩
  | 76 => ⟨S1x8192x128, .f32⟩
  | 77 => ⟨S1x8186x128, .f32⟩
  | 78 => ⟨S_, .i32⟩
  | 79 => ⟨S_, .f32⟩
  | 80 => ⟨S1x8192x128, .f32⟩
  | 81 => ⟨S1x8192x128, .f32⟩
  | 82 => ⟨S1x8185x128, .f32⟩
  | 83 => ⟨S_, .i32⟩
  | 84 => ⟨S_, .f32⟩
  | 85 => ⟨S1x8192x128, .f32⟩
  | 86 => ⟨S1x8192x128, .f32⟩
  | 87 => ⟨S_, .f32⟩
  | 88 => ⟨S1x8192x1, .f32⟩
  | 89 => ⟨S1x8192x1, .f32⟩
  | 90 => ⟨S1x8192x128, .f32⟩
  | 91 => ⟨S1x8192x128, .f32⟩
  | 92 => ⟨S1x8192x128, .f32⟩
  | 93 => ⟨S1x8191x128, .f32⟩
  | 94 => ⟨S_, .i32⟩
  | 95 => ⟨S_, .f32⟩
  | 96 => ⟨S1x8192x128, .f32⟩
  | 97 => ⟨S1x8192x128, .f32⟩
  | 98 => ⟨S1x8190x128, .f32⟩
  | 99 => ⟨S_, .i32⟩
  | 100 => ⟨S_, .f32⟩
  | 101 => ⟨S1x8192x128, .f32⟩
  | 102 => ⟨S1x8192x128, .f32⟩
  | 103 => ⟨S1x8189x128, .f32⟩
  | 104 => ⟨S_, .i32⟩
  | 105 => ⟨S_, .f32⟩
  | 106 => ⟨S1x8192x128, .f32⟩
  | 107 => ⟨S1x8192x128, .f32⟩
  | 108 => ⟨S1x8188x128, .f32⟩
  | 109 => ⟨S_, .i32⟩
  | 110 => ⟨S_, .f32⟩
  | 111 => ⟨S1x8192x128, .f32⟩
  | 112 => ⟨S1x8192x128, .f32⟩
  | 113 => ⟨S1x8187x128, .f32⟩
  | 114 => ⟨S_, .i32⟩
  | 115 => ⟨S_, .f32⟩
  | 116 => ⟨S1x8192x128, .f32⟩
  | 117 => ⟨S1x8192x128, .f32⟩
  | 118 => ⟨S1x8186x128, .f32⟩
  | 119 => ⟨S_, .i32⟩
  | 120 => ⟨S_, .f32⟩
  | 121 => ⟨S1x8192x128, .f32⟩
  | 122 => ⟨S1x8192x128, .f32⟩
  | 123 => ⟨S1x8185x128, .f32⟩
  | 124 => ⟨S_, .i32⟩
  | 125 => ⟨S_, .f32⟩
  | 126 => ⟨S1x8192x128, .f32⟩
  | 127 => ⟨S1x8192x128, .f32⟩
  | _ => ⟨S8192x3584, .f32⟩

abbrev hbmTy0_1 (i : Nat) : BufTy := match i % 128 with
  | 0 => ⟨S1x8184x128, .f32⟩
  | 1 => ⟨S_, .i32⟩
  | 2 => ⟨S_, .f32⟩
  | 3 => ⟨S1x8192x128, .f32⟩
  | 4 => ⟨S1x8192x128, .f32⟩
  | 5 => ⟨S1x8183x128, .f32⟩
  | 6 => ⟨S_, .i32⟩
  | 7 => ⟨S_, .f32⟩
  | 8 => ⟨S1x8192x128, .f32⟩
  | 9 => ⟨S1x8192x128, .f32⟩
  | 10 => ⟨S1x8182x128, .f32⟩
  | 11 => ⟨S_, .i32⟩
  | 12 => ⟨S_, .f32⟩
  | 13 => ⟨S1x8192x128, .f32⟩
  | 14 => ⟨S1x8192x128, .f32⟩
  | 15 => ⟨S1x8181x128, .f32⟩
  | 16 => ⟨S_, .i32⟩
  | 17 => ⟨S_, .f32⟩
  | 18 => ⟨S1x8192x128, .f32⟩
  | 19 => ⟨S1x8192x128, .f32⟩
  | 20 => ⟨S1x8180x128, .f32⟩
  | 21 => ⟨S_, .i32⟩
  | 22 => ⟨S_, .f32⟩
  | 23 => ⟨S1x8192x128, .f32⟩
  | 24 => ⟨S1x8192x128, .f32⟩
  | 25 => ⟨S1x8179x128, .f32⟩
  | 26 => ⟨S_, .i32⟩
  | 27 => ⟨S_, .f32⟩
  | 28 => ⟨S1x8192x128, .f32⟩
  | 29 => ⟨S1x8192x128, .f32⟩
  | 30 => ⟨S1x8178x128, .f32⟩
  | 31 => ⟨S_, .i32⟩
  | 32 => ⟨S_, .f32⟩
  | 33 => ⟨S1x8192x128, .f32⟩
  | 34 => ⟨S1x8192x128, .f32⟩
  | 35 => ⟨S1x8177x128, .f32⟩
  | 36 => ⟨S_, .i32⟩
  | 37 => ⟨S_, .f32⟩
  | 38 => ⟨S1x8192x128, .f32⟩
  | 39 => ⟨S1x8192x128, .f32⟩
  | 40 => ⟨S_, .f32⟩
  | 41 => ⟨S1x8192x1, .f32⟩
  | 42 => ⟨S1x8192x1, .f32⟩
  | 43 => ⟨S1x8192x128, .f32⟩
  | 44 => ⟨S1x8192x128, .f32⟩
  | 45 => ⟨S1x8192x512, .f32⟩
  | 46 => ⟨S1x8192x512, .f32⟩
  | 47 => ⟨S1x8192x4x128, .f32⟩
  | 48 => ⟨S4x128x1x8192, .f32⟩
  | 49 => ⟨S1x8192x4x128, .f32⟩
  | 50 => ⟨S1x8192x512, .f32⟩
  | 51 => ⟨S1x1x512, .f32⟩
  | 52 => ⟨S1x8192x512, .f32⟩
  | 53 => ⟨S1x8192x512, .f32⟩
  | 54 => ⟨S8192x1536, .f32⟩
  | 55 => ⟨S1x8192x1536, .f32⟩
  | 56 => ⟨S1x8192x1536, .f32⟩
  | 57 => ⟨S1x8192x1536, .f32⟩
  | 58 => ⟨S_, .f32⟩
  | 59 => ⟨S1x8192x1536, .f32⟩
  | 60 => ⟨S1x8192x1536, .f32⟩
  | 61 => ⟨S1x8192x1536, .f32⟩
  | 62 => ⟨S_, .f32⟩
  | 63 => ⟨S1x8192x1536, .f32⟩
  | 64 => ⟨S1x8192x1536, .f32⟩
  | 65 => ⟨S1x8192x1536, .f32⟩
  | 66 => ⟨S_, .f32⟩
  | 67 => ⟨S1x8192x1536, .f32⟩
  | 68 => ⟨S1x8192x1536, .f32⟩
  | 69 => ⟨S_, .f32⟩
  | 70 => ⟨S1x8192x1536, .f32⟩
  | 71 => ⟨S1x8192x1536, .f32⟩
  | 72 => ⟨S1x8192x1536, .f32⟩
  | 73 => ⟨S1x8192x768, .f32⟩
  | 74 => ⟨S1x8192x768, .f32⟩
  | 75 => ⟨S_, .f32⟩
  | 76 => ⟨S1x8192, .f32⟩
  | 77 => ⟨S1x8192x1, .f32⟩
  | 78 => ⟨S_, .f32⟩
  | 79 => ⟨S1x8192x1, .f32⟩
  | 80 => ⟨S1x8192x1, .f32⟩
  | 81 => ⟨S1x8192x768, .f32⟩
  | 82 => ⟨S1x8192x768, .f32⟩
  | 83 => ⟨S1x8192x768, .f32⟩
  | 84 => ⟨S_, .f32⟩
  | 85 => ⟨S1x8192, .f32⟩
  | 86 => ⟨S1x8192x1, .f32⟩
  | 87 => ⟨S_, .f32⟩
  | 88 => ⟨S1x8192x1, .f32⟩
  | 89 => ⟨S1x8192x1, .f32⟩
  | 90 => ⟨S_, .f32⟩
  | 91 => ⟨S1x8192x1, .f32⟩
  | 92 => ⟨S1x8192x1, .f32⟩
  | 93 => ⟨S1x8192x1, .f32⟩
  | 94 => ⟨S1x8192x768, .f32⟩
  | 95 => ⟨S1x8192x768, .f32⟩
  | 96 => ⟨S1x1x768, .f32⟩
  | 97 => ⟨S1x8192x768, .f32⟩
  | 98 => ⟨S1x8192x768, .f32⟩
  | 99 => ⟨S1x1x768, .f32⟩
  | 100 => ⟨S1x8192x768, .f32⟩
  | 101 => ⟨S1x8192x768, .f32⟩
  | 102 => ⟨S1x64x128x6x128, .f32⟩
  | 103 => ⟨S_, .f32⟩
  | 104 => ⟨S128x128, .f32⟩
  | 105 => ⟨S128x128, .i32⟩
  | 106 => ⟨S_, .i32⟩
  | 107 => ⟨S128x128, .i32⟩
  | 108 => ⟨S128x128, .i32⟩
  | 109 => ⟨S128x128, .i32⟩
  | 110 => ⟨S128x128, .i1⟩
  | 111 => ⟨S_, .f32⟩
  | 112 => ⟨S128x128, .f32⟩
  | 113 => ⟨S128x128, .f32⟩
  | 114 => ⟨S1x128x128, .f32⟩
  | 115 => ⟨S6x128x128, .f32⟩
  | 116 => ⟨S6x128x128, .f32⟩
  | 117 => ⟨S6x1x64x128x128, .f32⟩
  | 118 => ⟨S1x64x128x6x128, .f32⟩
  | 119 => ⟨S128x6, .f32⟩
  | 120 => ⟨S1x1x128x6x1, .f32⟩
  | 121 => ⟨S1x64x128x6x128, .f32⟩
  | 122 => ⟨S1x64x128x6x128, .f32⟩
  | 123 => ⟨S1x8192x768, .f32⟩
  | 124 => ⟨S1x8192x768, .f32⟩
  | 125 => ⟨S8192x1536, .f32⟩
  | 126 => ⟨S1x8192x1536, .f32⟩
  | 127 => ⟨S1x8192x768, .f32⟩
  | _ => ⟨S8192x3584, .f32⟩

abbrev hbmTy0_2 (i : Nat) : BufTy := match i % 128 with
  | 0 => ⟨S1x8192x768, .f32⟩
  | 1 => ⟨S1x8192x768, .f32⟩
  | 2 => ⟨S1x8192x768, .f32⟩
  | 3 => ⟨S_, .f32⟩
  | 4 => ⟨S1x8192x768, .f32⟩
  | 5 => ⟨S1x8192x768, .f32⟩
  | 6 => ⟨S_, .f32⟩
  | 7 => ⟨S1x8192x768, .f32⟩
  | 8 => ⟨S1x8192x768, .f32⟩
  | 9 => ⟨S1x8192x768, .f32⟩
  | 10 => ⟨S_, .i32⟩
  | 11 => ⟨S_, .f32⟩
  | 12 => ⟨S1x8222x768, .f32⟩
  | 13 => ⟨S1x8192x768, .f32⟩
  | 14 => ⟨S1x768, .f32⟩
  | 15 => ⟨S768, .f32⟩
  | 16 => ⟨S1x1x768, .f32⟩
  | 17 => ⟨S1x8192x768, .f32⟩
  | 18 => ⟨S1x8192x768, .f32⟩
  | 19 => ⟨S1x8192x768, .f32⟩
  | 20 => ⟨S1x768, .f32⟩
  | 21 => ⟨S768, .f32⟩
  | 22 => ⟨S1x1x768, .f32⟩
  | 23 => ⟨S1x8192x768, .f32⟩
  | 24 => ⟨S1x8192x768, .f32⟩
  | 25 => ⟨S1x8192x768, .f32⟩
  | 26 => ⟨S1x8192x768, .f32⟩
  | 27 => ⟨S1x768, .f32⟩
  | 28 => ⟨S768, .f32⟩
  | 29 => ⟨S1x1x768, .f32⟩
  | 30 => ⟨S1x8192x768, .f32⟩
  | 31 => ⟨S1x8192x768, .f32⟩
  | 32 => ⟨S1x8192x768, .f32⟩
  | 33 => ⟨S1x8192x768, .f32⟩
  | 34 => ⟨S1x768, .f32⟩
  | 35 => ⟨S768, .f32⟩
  | 36 => ⟨S1x1x768, .f32⟩
  | 37 => ⟨S1x8192x768, .f32⟩
  | 38 => ⟨S1x8192x768, .f32⟩
  | 39 => ⟨S1x8192x768, .f32⟩
  | 40 => ⟨S1x8192x768, .f32⟩
  | 41 => ⟨S1x768, .f32⟩
  | 42 => ⟨S768, .f32⟩
  | 43 => ⟨S1x1x768, .f32⟩
  | 44 => ⟨S1x8192x768, .f32⟩
  | 45 => ⟨S1x8192x768, .f32⟩
  | 46 => ⟨S1x8192x768, .f32⟩
  | 47 => ⟨S1x8192x768, .f32⟩
  | 48 => ⟨S1x768, .f32⟩
  | 49 => ⟨S768, .f32⟩
  | 50 => ⟨S1x1x768, .f32⟩
  | 51 => ⟨S1x8192x768, .f32⟩
  | 52 => ⟨S1x8192x768, .f32⟩
  | 53 => ⟨S1x8192x768, .f32⟩
  | 54 => ⟨S1x8192x768, .f32⟩
  | 55 => ⟨S1x768, .f32⟩
  | 56 => ⟨S768, .f32⟩
  | 57 => ⟨S1x1x768, .f32⟩
  | 58 => ⟨S1x8192x768, .f32⟩
  | 59 => ⟨S1x8192x768, .f32⟩
  | 60 => ⟨S1x8192x768, .f32⟩
  | 61 => ⟨S1x8192x768, .f32⟩
  | 62 => ⟨S1x768, .f32⟩
  | 63 => ⟨S768, .f32⟩
  | 64 => ⟨S1x1x768, .f32⟩
  | 65 => ⟨S1x8192x768, .f32⟩
  | 66 => ⟨S1x8192x768, .f32⟩
  | 67 => ⟨S1x8192x768, .f32⟩
  | 68 => ⟨S1x8192x768, .f32⟩
  | 69 => ⟨S1x768, .f32⟩
  | 70 => ⟨S768, .f32⟩
  | 71 => ⟨S1x1x768, .f32⟩
  | 72 => ⟨S1x8192x768, .f32⟩
  | 73 => ⟨S1x8192x768, .f32⟩
  | 74 => ⟨S1x8192x768, .f32⟩
  | 75 => ⟨S1x8192x768, .f32⟩
  | 76 => ⟨S1x768, .f32⟩
  | 77 => ⟨S768, .f32⟩
  | 78 => ⟨S1x1x768, .f32⟩
  | 79 => ⟨S1x8192x768, .f32⟩
  | 80 => ⟨S1x8192x768, .f32⟩
  | 81 => ⟨S1x8192x768, .f32⟩
  | 82 => ⟨S1x8192x768, .f32⟩
  | 83 => ⟨S1x768, .f32⟩
  | 84 => ⟨S768, .f32⟩
  | 85 => ⟨S1x1x768, .f32⟩
  | 86 => ⟨S1x8192x768, .f32⟩
  | 87 => ⟨S1x8192x768, .f32⟩
  | 88 => ⟨S1x8192x768, .f32⟩
  | 89 => ⟨S1x8192x768, .f32⟩
  | 90 => ⟨S1x768, .f32⟩
  | 91 => ⟨S768, .f32⟩
  | 92 => ⟨S1x1x768, .f32⟩
  | 93 => ⟨S1x8192x768, .f32⟩
  | 94 => ⟨S1x8192x768, .f32⟩
  | 95 => ⟨S1x8192x768, .f32⟩
  | 96 => ⟨S1x8192x768, .f32⟩
  | 97 => ⟨S1x768, .f32⟩
  | 98 => ⟨S768, .f32⟩
  | 99 => ⟨S1x1x768, .f32⟩
  | 100 => ⟨S1x8192x768, .f32⟩
  | 101 => ⟨S1x8192x768, .f32⟩
  | 102 => ⟨S1x8192x768, .f32⟩
  | 103 => ⟨S1x8192x768, .f32⟩
  | 104 => ⟨S1x768, .f32⟩
  | 105 => ⟨S768, .f32⟩
  | 106 => ⟨S1x1x768, .f32⟩
  | 107 => ⟨S1x8192x768, .f32⟩
  | 108 => ⟨S1x8192x768, .f32⟩
  | 109 => ⟨S1x8192x768, .f32⟩
  | 110 => ⟨S1x8192x768, .f32⟩
  | 111 => ⟨S1x768, .f32⟩
  | 112 => ⟨S768, .f32⟩
  | 113 => ⟨S1x1x768, .f32⟩
  | 114 => ⟨S1x8192x768, .f32⟩
  | 115 => ⟨S1x8192x768, .f32⟩
  | 116 => ⟨S1x8192x768, .f32⟩
  | 117 => ⟨S1x8192x768, .f32⟩
  | 118 => ⟨S1x768, .f32⟩
  | 119 => ⟨S768, .f32⟩
  | 120 => ⟨S1x1x768, .f32⟩
  | 121 => ⟨S1x8192x768, .f32⟩
  | 122 => ⟨S1x8192x768, .f32⟩
  | 123 => ⟨S1x8192x768, .f32⟩
  | 124 => ⟨S1x8192x768, .f32⟩
  | 125 => ⟨S1x768, .f32⟩
  | 126 => ⟨S768, .f32⟩
  | 127 => ⟨S1x1x768, .f32⟩
  | _ => ⟨S8192x3584, .f32⟩

abbrev hbmTy0_3 (i : Nat) : BufTy := match i % 128 with
  | 0 => ⟨S1x8192x768, .f32⟩
  | 1 => ⟨S1x8192x768, .f32⟩
  | 2 => ⟨S1x8192x768, .f32⟩
  | 3 => ⟨S1x8192x768, .f32⟩
  | 4 => ⟨S1x768, .f32⟩
  | 5 => ⟨S768, .f32⟩
  | 6 => ⟨S1x1x768, .f32⟩
  | 7 => ⟨S1x8192x768, .f32⟩
  | 8 => ⟨S1x8192x768, .f32⟩
  | 9 => ⟨S1x8192x768, .f32⟩
  | 10 => ⟨S1x8192x768, .f32⟩
  | 11 => ⟨S1x768, .f32⟩
  | 12 => ⟨S768, .f32⟩
  | 13 => ⟨S1x1x768, .f32⟩
  | 14 => ⟨S1x8192x768, .f32⟩
  | 15 => ⟨S1x8192x768, .f32⟩
  | 16 => ⟨S1x8192x768, .f32⟩
  | 17 => ⟨S1x8192x768, .f32⟩
  | 18 => ⟨S1x768, .f32⟩
  | 19 => ⟨S768, .f32⟩
  | 20 => ⟨S1x1x768, .f32⟩
  | 21 => ⟨S1x8192x768, .f32⟩
  | 22 => ⟨S1x8192x768, .f32⟩
  | 23 => ⟨S1x8192x768, .f32⟩
  | 24 => ⟨S1x8192x768, .f32⟩
  | 25 => ⟨S1x768, .f32⟩
  | 26 => ⟨S768, .f32⟩
  | 27 => ⟨S1x1x768, .f32⟩
  | 28 => ⟨S1x8192x768, .f32⟩
  | 29 => ⟨S1x8192x768, .f32⟩
  | 30 => ⟨S1x8192x768, .f32⟩
  | 31 => ⟨S1x8192x768, .f32⟩
  | 32 => ⟨S1x768, .f32⟩
  | 33 => ⟨S768, .f32⟩
  | 34 => ⟨S1x1x768, .f32⟩
  | 35 => ⟨S1x8192x768, .f32⟩
  | 36 => ⟨S1x8192x768, .f32⟩
  | 37 => ⟨S1x8192x768, .f32⟩
  | 38 => ⟨S1x8192x768, .f32⟩
  | 39 => ⟨S1x768, .f32⟩
  | 40 => ⟨S768, .f32⟩
  | 41 => ⟨S1x1x768, .f32⟩
  | 42 => ⟨S1x8192x768, .f32⟩
  | 43 => ⟨S1x8192x768, .f32⟩
  | 44 => ⟨S1x8192x768, .f32⟩
  | 45 => ⟨S1x8192x768, .f32⟩
  | 46 => ⟨S1x768, .f32⟩
  | 47 => ⟨S768, .f32⟩
  | 48 => ⟨S1x1x768, .f32⟩
  | 49 => ⟨S1x8192x768, .f32⟩
  | 50 => ⟨S1x8192x768, .f32⟩
  | 51 => ⟨S1x8192x768, .f32⟩
  | 52 => ⟨S1x8192x768, .f32⟩
  | 53 => ⟨S1x768, .f32⟩
  | 54 => ⟨S768, .f32⟩
  | 55 => ⟨S1x1x768, .f32⟩
  | 56 => ⟨S1x8192x768, .f32⟩
  | 57 => ⟨S1x8192x768, .f32⟩
  | 58 => ⟨S1x8192x768, .f32⟩
  | 59 => ⟨S1x8192x768, .f32⟩
  | 60 => ⟨S1x768, .f32⟩
  | 61 => ⟨S768, .f32⟩
  | 62 => ⟨S1x1x768, .f32⟩
  | 63 => ⟨S1x8192x768, .f32⟩
  | 64 => ⟨S1x8192x768, .f32⟩
  | 65 => ⟨S1x8192x768, .f32⟩
  | 66 => ⟨S1x8192x768, .f32⟩
  | 67 => ⟨S1x768, .f32⟩
  | 68 => ⟨S768, .f32⟩
  | 69 => ⟨S1x1x768, .f32⟩
  | 70 => ⟨S1x8192x768, .f32⟩
  | 71 => ⟨S1x8192x768, .f32⟩
  | 72 => ⟨S1x8192x768, .f32⟩
  | 73 => ⟨S1x8192x768, .f32⟩
  | 74 => ⟨S1x768, .f32⟩
  | 75 => ⟨S768, .f32⟩
  | 76 => ⟨S1x1x768, .f32⟩
  | 77 => ⟨S1x8192x768, .f32⟩
  | 78 => ⟨S1x8192x768, .f32⟩
  | 79 => ⟨S1x8192x768, .f32⟩
  | 80 => ⟨S1x8192x768, .f32⟩
  | 81 => ⟨S1x768, .f32⟩
  | 82 => ⟨S768, .f32⟩
  | 83 => ⟨S1x1x768, .f32⟩
  | 84 => ⟨S1x8192x768, .f32⟩
  | 85 => ⟨S1x8192x768, .f32⟩
  | 86 => ⟨S1x8192x768, .f32⟩
  | 87 => ⟨S1x8192x768, .f32⟩
  | 88 => ⟨S1x768, .f32⟩
  | 89 => ⟨S768, .f32⟩
  | 90 => ⟨S1x1x768, .f32⟩
  | 91 => ⟨S1x8192x768, .f32⟩
  | 92 => ⟨S1x8192x768, .f32⟩
  | 93 => ⟨S1x8192x768, .f32⟩
  | 94 => ⟨S1x8192x768, .f32⟩
  | 95 => ⟨S1x768, .f32⟩
  | 96 => ⟨S768, .f32⟩
  | 97 => ⟨S1x1x768, .f32⟩
  | 98 => ⟨S1x8192x768, .f32⟩
  | 99 => ⟨S1x8192x768, .f32⟩
  | 100 => ⟨S1x8192x768, .f32⟩
  | 101 => ⟨S1x1x768, .f32⟩
  | 102 => ⟨S1x8192x768, .f32⟩
  | 103 => ⟨S1x8192x768, .f32⟩
  | 104 => ⟨S_, .f32⟩
  | 105 => ⟨S1x8192, .f32⟩
  | 106 => ⟨S1x8192x1, .f32⟩
  | 107 => ⟨S_, .f32⟩
  | 108 => ⟨S1x8192x1, .f32⟩
  | 109 => ⟨S1x8192x1, .f32⟩
  | 110 => ⟨S1x8192x768, .f32⟩
  | 111 => ⟨S1x8192x768, .f32⟩
  | 112 => ⟨S1x8192x768, .f32⟩
  | 113 => ⟨S_, .f32⟩
  | 114 => ⟨S1x8192, .f32⟩
  | 115 => ⟨S1x8192x1, .f32⟩
  | 116 => ⟨S_, .f32⟩
  | 117 => ⟨S1x8192x1, .f32⟩
  | 118 => ⟨S1x8192x1, .f32⟩
  | 119 => ⟨S_, .f32⟩
  | 120 => ⟨S1x8192x1, .f32⟩
  | 121 => ⟨S1x8192x1, .f32⟩
  | 122 => ⟨S1x8192x1, .f32⟩
  | 123 => ⟨S1x8192x768, .f32⟩
  | 124 => ⟨S1x8192x768, .f32⟩
  | 125 => ⟨S1x1x768, .f32⟩
  | 126 => ⟨S1x8192x768, .f32⟩
  | 127 => ⟨S1x8192x768, .f32⟩
  | _ => ⟨S8192x3584, .f32⟩

abbrev hbmTy0_4 (i : Nat) : BufTy := match i % 128 with
  | 0 => ⟨S1x1x768, .f32⟩
  | 1 => ⟨S1x8192x768, .f32⟩
  | 2 => ⟨S1x8192x768, .f32⟩
  | 3 => ⟨S1x8192x768, .f32⟩
  | 4 => ⟨S1x8192x768, .f32⟩
  | 5 => ⟨S_, .f32⟩
  | 6 => ⟨S1x8192x768, .f32⟩
  | 7 => ⟨S1x8192x768, .f32⟩
  | 8 => ⟨S_, .f32⟩
  | 9 => ⟨S1x8192x768, .f32⟩
  | 10 => ⟨S1x8192x768, .f32⟩
  | 11 => ⟨S1x8192x768, .f32⟩
  | 12 => ⟨S1x8192x2048, .f32⟩
  | 13 => ⟨S8192x2048, .f32⟩
  | 14 => ⟨S8192x2048, .bf16⟩
  | 15 => ⟨S8192x768, .f32⟩
  | _ => ⟨S8192x3584, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x3584, .f32⟩

abbrev bufTy : (tb : Table) → Fin (tcTables nBuf tb) → BufTy
  | .hbm, ⟨i, _⟩ => hbmTy i
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_call0_v0 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_call1_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_call2_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_call3_v0 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_call4_v0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_call5_v0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_7 : Ref sig .tc := ⟨.hbm, 63, rfl⟩
abbrev main_call6_v0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_8 : Ref sig .tc := ⟨.hbm, 68, rfl⟩
abbrev main_call7_v0 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_9 : Ref sig .tc := ⟨.hbm, 73, rfl⟩
abbrev main_call8_v0 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_10 : Ref sig .tc := ⟨.hbm, 78, rfl⟩
abbrev main_call9_v0 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_11 : Ref sig .tc := ⟨.hbm, 83, rfl⟩
abbrev main_call10_v0 : Ref sig .tc := ⟨.hbm, 84, rfl⟩
abbrev main_v49 : Ref sig .tc := ⟨.hbm, 85, rfl⟩
abbrev main_v50 : Ref sig .tc := ⟨.hbm, 86, rfl⟩
abbrev main_cst_12 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_13 : Ref sig .tc := ⟨.hbm, 94, rfl⟩
abbrev main_call11_v0 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_c_14 : Ref sig .tc := ⟨.hbm, 99, rfl⟩
abbrev main_call12_v0 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_15 : Ref sig .tc := ⟨.hbm, 104, rfl⟩
abbrev main_call13_v0 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_c_16 : Ref sig .tc := ⟨.hbm, 109, rfl⟩
abbrev main_call14_v0 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_c_17 : Ref sig .tc := ⟨.hbm, 114, rfl⟩
abbrev main_call15_v0 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_c_18 : Ref sig .tc := ⟨.hbm, 119, rfl⟩
abbrev main_call16_v0 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_c_19 : Ref sig .tc := ⟨.hbm, 124, rfl⟩
abbrev main_call17_v0 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_c_20 : Ref sig .tc := ⟨.hbm, 129, rfl⟩
abbrev main_call18_v0 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_c_21 : Ref sig .tc := ⟨.hbm, 134, rfl⟩
abbrev main_call19_v0 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_c_22 : Ref sig .tc := ⟨.hbm, 139, rfl⟩
abbrev main_call20_v0 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_c_23 : Ref sig .tc := ⟨.hbm, 144, rfl⟩
abbrev main_call21_v0 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_c_24 : Ref sig .tc := ⟨.hbm, 149, rfl⟩
abbrev main_call22_v0 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_c_25 : Ref sig .tc := ⟨.hbm, 154, rfl⟩
abbrev main_call23_v0 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_c_26 : Ref sig .tc := ⟨.hbm, 159, rfl⟩
abbrev main_call24_v0 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_c_27 : Ref sig .tc := ⟨.hbm, 164, rfl⟩
abbrev main_call25_v0 : Ref sig .tc := ⟨.hbm, 165, rfl⟩
abbrev main_v99 : Ref sig .tc := ⟨.hbm, 166, rfl⟩
abbrev main_v100 : Ref sig .tc := ⟨.hbm, 167, rfl⟩
abbrev main_cst_28 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_29 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_cst_30 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_cst_31 : Ref sig .tc := ⟨.hbm, 194, rfl⟩
abbrev main_v124 : Ref sig .tc := ⟨.hbm, 195, rfl⟩
abbrev main_v125 : Ref sig .tc := ⟨.hbm, 196, rfl⟩
abbrev main_cst_32 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_cst_33 : Ref sig .tc := ⟨.hbm, 203, rfl⟩
abbrev main_v131 : Ref sig .tc := ⟨.hbm, 204, rfl⟩
abbrev main_v132 : Ref sig .tc := ⟨.hbm, 205, rfl⟩
abbrev main_cst_34 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_cst_35 : Ref sig .tc := ⟨.hbm, 212, rfl⟩
abbrev main_v138 : Ref sig .tc := ⟨.hbm, 213, rfl⟩
abbrev main_v139 : Ref sig .tc := ⟨.hbm, 214, rfl⟩
abbrev main_cst_36 : Ref sig .tc := ⟨.hbm, 215, rfl⟩
abbrev main_v140 : Ref sig .tc := ⟨.hbm, 216, rfl⟩
abbrev main_v141 : Ref sig .tc := ⟨.hbm, 217, rfl⟩
abbrev main_cst_37 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_cst_38 : Ref sig .tc := ⟨.hbm, 231, rfl⟩
abbrev main_v154 : Ref sig .tc := ⟨.hbm, 232, rfl⟩
abbrev main_call26_v0 : Ref sig .tc := ⟨.hbm, 233, rfl⟩
abbrev main_call26_c : Ref sig .tc := ⟨.hbm, 234, rfl⟩
abbrev main_call26_v1 : Ref sig .tc := ⟨.hbm, 235, rfl⟩
abbrev main_call26_v2 : Ref sig .tc := ⟨.hbm, 236, rfl⟩
abbrev main_call26_v3 : Ref sig .tc := ⟨.hbm, 237, rfl⟩
abbrev main_call26_v4 : Ref sig .tc := ⟨.hbm, 238, rfl⟩
abbrev main_call26_cst : Ref sig .tc := ⟨.hbm, 239, rfl⟩
abbrev main_call26_v5 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_cst_39 : Ref sig .tc := ⟨.hbm, 259, rfl⟩
abbrev main_v173 : Ref sig .tc := ⟨.hbm, 260, rfl⟩
abbrev main_v174 : Ref sig .tc := ⟨.hbm, 261, rfl⟩
abbrev main_cst_40 : Ref sig .tc := ⟨.hbm, 262, rfl⟩
abbrev main_v175 : Ref sig .tc := ⟨.hbm, 263, rfl⟩
abbrev main_v176 : Ref sig .tc := ⟨.hbm, 264, rfl⟩
abbrev main_v177 : Ref sig .tc := ⟨.hbm, 265, rfl⟩
abbrev main_c_41 : Ref sig .tc := ⟨.hbm, 266, rfl⟩
abbrev main_call27_v0 : Ref sig .tc := ⟨.hbm, 267, rfl⟩
abbrev main_v178 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_v188 : Ref sig .tc := ⟨.hbm, 278, rfl⟩
abbrev main_v189 : Ref sig .tc := ⟨.hbm, 279, rfl⟩
abbrev main_v190 : Ref sig .tc := ⟨.hbm, 280, rfl⟩
abbrev main_v191 : Ref sig .tc := ⟨.hbm, 281, rfl⟩
abbrev main_v192 : Ref sig .tc := ⟨.hbm, 282, rfl⟩
abbrev main_v193 : Ref sig .tc := ⟨.hbm, 283, rfl⟩
abbrev main_v194 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_v202 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_v209 : Ref sig .tc := ⟨.hbm, 299, rfl⟩
abbrev main_v210 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev main_v219 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_v223 : Ref sig .tc := ⟨.hbm, 313, rfl⟩
abbrev main_v224 : Ref sig .tc := ⟨.hbm, 314, rfl⟩
abbrev main_v225 : Ref sig .tc := ⟨.hbm, 315, rfl⟩
abbrev main_v226 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_v230 : Ref sig .tc := ⟨.hbm, 320, rfl⟩
abbrev main_v231 : Ref sig .tc := ⟨.hbm, 321, rfl⟩
abbrev main_v232 : Ref sig .tc := ⟨.hbm, 322, rfl⟩
abbrev main_v233 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩
abbrev main_v237 : Ref sig .tc := ⟨.hbm, 327, rfl⟩
abbrev main_v238 : Ref sig .tc := ⟨.hbm, 328, rfl⟩
abbrev main_v239 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_v246 : Ref sig .tc := ⟨.hbm, 336, rfl⟩
abbrev main_v247 : Ref sig .tc := ⟨.hbm, 337, rfl⟩
abbrev main_v248 : Ref sig .tc := ⟨.hbm, 338, rfl⟩
abbrev main_v249 : Ref sig .tc := ⟨.hbm, 339, rfl⟩
abbrev main_v250 : Ref sig .tc := ⟨.hbm, 340, rfl⟩
abbrev main_v251 : Ref sig .tc := ⟨.hbm, 341, rfl⟩
abbrev main_v252 : Ref sig .tc := ⟨.hbm, 342, rfl⟩
abbrev main_v253 : Ref sig .tc := ⟨.hbm, 343, rfl⟩
abbrev main_v254 : Ref sig .tc := ⟨.hbm, 344, rfl⟩
abbrev main_v255 : Ref sig .tc := ⟨.hbm, 345, rfl⟩
abbrev main_v256 : Ref sig .tc := ⟨.hbm, 346, rfl⟩
abbrev main_v257 : Ref sig .tc := ⟨.hbm, 347, rfl⟩
abbrev main_v258 : Ref sig .tc := ⟨.hbm, 348, rfl⟩
abbrev main_v259 : Ref sig .tc := ⟨.hbm, 349, rfl⟩
abbrev main_v260 : Ref sig .tc := ⟨.hbm, 350, rfl⟩
abbrev main_v261 : Ref sig .tc := ⟨.hbm, 351, rfl⟩
abbrev main_v262 : Ref sig .tc := ⟨.hbm, 352, rfl⟩
abbrev main_v263 : Ref sig .tc := ⟨.hbm, 353, rfl⟩
abbrev main_v264 : Ref sig .tc := ⟨.hbm, 354, rfl⟩
abbrev main_v265 : Ref sig .tc := ⟨.hbm, 355, rfl⟩
abbrev main_v266 : Ref sig .tc := ⟨.hbm, 356, rfl⟩
abbrev main_v267 : Ref sig .tc := ⟨.hbm, 357, rfl⟩
abbrev main_v268 : Ref sig .tc := ⟨.hbm, 358, rfl⟩
abbrev main_v269 : Ref sig .tc := ⟨.hbm, 359, rfl⟩
abbrev main_v270 : Ref sig .tc := ⟨.hbm, 360, rfl⟩
abbrev main_v271 : Ref sig .tc := ⟨.hbm, 361, rfl⟩
abbrev main_v272 : Ref sig .tc := ⟨.hbm, 362, rfl⟩
abbrev main_v273 : Ref sig .tc := ⟨.hbm, 363, rfl⟩
abbrev main_v274 : Ref sig .tc := ⟨.hbm, 364, rfl⟩
abbrev main_v275 : Ref sig .tc := ⟨.hbm, 365, rfl⟩
abbrev main_v276 : Ref sig .tc := ⟨.hbm, 366, rfl⟩
abbrev main_v277 : Ref sig .tc := ⟨.hbm, 367, rfl⟩
abbrev main_v278 : Ref sig .tc := ⟨.hbm, 368, rfl⟩
abbrev main_v279 : Ref sig .tc := ⟨.hbm, 369, rfl⟩
abbrev main_v280 : Ref sig .tc := ⟨.hbm, 370, rfl⟩
abbrev main_v281 : Ref sig .tc := ⟨.hbm, 371, rfl⟩
abbrev main_v282 : Ref sig .tc := ⟨.hbm, 372, rfl⟩
abbrev main_v283 : Ref sig .tc := ⟨.hbm, 373, rfl⟩
abbrev main_v284 : Ref sig .tc := ⟨.hbm, 374, rfl⟩
abbrev main_v285 : Ref sig .tc := ⟨.hbm, 375, rfl⟩
abbrev main_v286 : Ref sig .tc := ⟨.hbm, 376, rfl⟩
abbrev main_v287 : Ref sig .tc := ⟨.hbm, 377, rfl⟩
abbrev main_v288 : Ref sig .tc := ⟨.hbm, 378, rfl⟩
abbrev main_v289 : Ref sig .tc := ⟨.hbm, 379, rfl⟩
abbrev main_v290 : Ref sig .tc := ⟨.hbm, 380, rfl⟩
abbrev main_v291 : Ref sig .tc := ⟨.hbm, 381, rfl⟩
abbrev main_v292 : Ref sig .tc := ⟨.hbm, 382, rfl⟩
abbrev main_v293 : Ref sig .tc := ⟨.hbm, 383, rfl⟩
abbrev main_v294 : Ref sig .tc := ⟨.hbm, 384, rfl⟩
abbrev main_v295 : Ref sig .tc := ⟨.hbm, 385, rfl⟩
abbrev main_v296 : Ref sig .tc := ⟨.hbm, 386, rfl⟩
abbrev main_v297 : Ref sig .tc := ⟨.hbm, 387, rfl⟩
abbrev main_v298 : Ref sig .tc := ⟨.hbm, 388, rfl⟩
abbrev main_v299 : Ref sig .tc := ⟨.hbm, 389, rfl⟩
abbrev main_v300 : Ref sig .tc := ⟨.hbm, 390, rfl⟩
abbrev main_v301 : Ref sig .tc := ⟨.hbm, 391, rfl⟩
abbrev main_v302 : Ref sig .tc := ⟨.hbm, 392, rfl⟩
abbrev main_v303 : Ref sig .tc := ⟨.hbm, 393, rfl⟩
abbrev main_v304 : Ref sig .tc := ⟨.hbm, 394, rfl⟩
abbrev main_v305 : Ref sig .tc := ⟨.hbm, 395, rfl⟩
abbrev main_v306 : Ref sig .tc := ⟨.hbm, 396, rfl⟩
abbrev main_v307 : Ref sig .tc := ⟨.hbm, 397, rfl⟩
abbrev main_v308 : Ref sig .tc := ⟨.hbm, 398, rfl⟩
abbrev main_v309 : Ref sig .tc := ⟨.hbm, 399, rfl⟩
abbrev main_v310 : Ref sig .tc := ⟨.hbm, 400, rfl⟩
abbrev main_v311 : Ref sig .tc := ⟨.hbm, 401, rfl⟩
abbrev main_v312 : Ref sig .tc := ⟨.hbm, 402, rfl⟩
abbrev main_v313 : Ref sig .tc := ⟨.hbm, 403, rfl⟩
abbrev main_v314 : Ref sig .tc := ⟨.hbm, 404, rfl⟩
abbrev main_v315 : Ref sig .tc := ⟨.hbm, 405, rfl⟩
abbrev main_v316 : Ref sig .tc := ⟨.hbm, 406, rfl⟩
abbrev main_v317 : Ref sig .tc := ⟨.hbm, 407, rfl⟩
abbrev main_v318 : Ref sig .tc := ⟨.hbm, 408, rfl⟩
abbrev main_v319 : Ref sig .tc := ⟨.hbm, 409, rfl⟩
abbrev main_v320 : Ref sig .tc := ⟨.hbm, 410, rfl⟩
abbrev main_v321 : Ref sig .tc := ⟨.hbm, 411, rfl⟩
abbrev main_v322 : Ref sig .tc := ⟨.hbm, 412, rfl⟩
abbrev main_v323 : Ref sig .tc := ⟨.hbm, 413, rfl⟩
abbrev main_v324 : Ref sig .tc := ⟨.hbm, 414, rfl⟩
abbrev main_v325 : Ref sig .tc := ⟨.hbm, 415, rfl⟩
abbrev main_v326 : Ref sig .tc := ⟨.hbm, 416, rfl⟩
abbrev main_v327 : Ref sig .tc := ⟨.hbm, 417, rfl⟩
abbrev main_v328 : Ref sig .tc := ⟨.hbm, 418, rfl⟩
abbrev main_v329 : Ref sig .tc := ⟨.hbm, 419, rfl⟩
abbrev main_v330 : Ref sig .tc := ⟨.hbm, 420, rfl⟩
abbrev main_v331 : Ref sig .tc := ⟨.hbm, 421, rfl⟩
abbrev main_v332 : Ref sig .tc := ⟨.hbm, 422, rfl⟩
abbrev main_v333 : Ref sig .tc := ⟨.hbm, 423, rfl⟩
abbrev main_v334 : Ref sig .tc := ⟨.hbm, 424, rfl⟩
abbrev main_v335 : Ref sig .tc := ⟨.hbm, 425, rfl⟩
abbrev main_v336 : Ref sig .tc := ⟨.hbm, 426, rfl⟩
abbrev main_v337 : Ref sig .tc := ⟨.hbm, 427, rfl⟩
abbrev main_v338 : Ref sig .tc := ⟨.hbm, 428, rfl⟩
abbrev main_v339 : Ref sig .tc := ⟨.hbm, 429, rfl⟩
abbrev main_v340 : Ref sig .tc := ⟨.hbm, 430, rfl⟩
abbrev main_v341 : Ref sig .tc := ⟨.hbm, 431, rfl⟩
abbrev main_v342 : Ref sig .tc := ⟨.hbm, 432, rfl⟩
abbrev main_v343 : Ref sig .tc := ⟨.hbm, 433, rfl⟩
abbrev main_v344 : Ref sig .tc := ⟨.hbm, 434, rfl⟩
abbrev main_v345 : Ref sig .tc := ⟨.hbm, 435, rfl⟩
abbrev main_v346 : Ref sig .tc := ⟨.hbm, 436, rfl⟩
abbrev main_v347 : Ref sig .tc := ⟨.hbm, 437, rfl⟩
abbrev main_v348 : Ref sig .tc := ⟨.hbm, 438, rfl⟩
abbrev main_v349 : Ref sig .tc := ⟨.hbm, 439, rfl⟩
abbrev main_v350 : Ref sig .tc := ⟨.hbm, 440, rfl⟩
abbrev main_v351 : Ref sig .tc := ⟨.hbm, 441, rfl⟩
abbrev main_v352 : Ref sig .tc := ⟨.hbm, 442, rfl⟩
abbrev main_v353 : Ref sig .tc := ⟨.hbm, 443, rfl⟩
abbrev main_v354 : Ref sig .tc := ⟨.hbm, 444, rfl⟩
abbrev main_v355 : Ref sig .tc := ⟨.hbm, 445, rfl⟩
abbrev main_v356 : Ref sig .tc := ⟨.hbm, 446, rfl⟩
abbrev main_v357 : Ref sig .tc := ⟨.hbm, 447, rfl⟩
abbrev main_v358 : Ref sig .tc := ⟨.hbm, 448, rfl⟩
abbrev main_v359 : Ref sig .tc := ⟨.hbm, 449, rfl⟩
abbrev main_v360 : Ref sig .tc := ⟨.hbm, 450, rfl⟩
abbrev main_v361 : Ref sig .tc := ⟨.hbm, 451, rfl⟩
abbrev main_v362 : Ref sig .tc := ⟨.hbm, 452, rfl⟩
abbrev main_v363 : Ref sig .tc := ⟨.hbm, 453, rfl⟩
abbrev main_v364 : Ref sig .tc := ⟨.hbm, 454, rfl⟩
abbrev main_v365 : Ref sig .tc := ⟨.hbm, 455, rfl⟩
abbrev main_v366 : Ref sig .tc := ⟨.hbm, 456, rfl⟩
abbrev main_v367 : Ref sig .tc := ⟨.hbm, 457, rfl⟩
abbrev main_v368 : Ref sig .tc := ⟨.hbm, 458, rfl⟩
abbrev main_v369 : Ref sig .tc := ⟨.hbm, 459, rfl⟩
abbrev main_v370 : Ref sig .tc := ⟨.hbm, 460, rfl⟩
abbrev main_v371 : Ref sig .tc := ⟨.hbm, 461, rfl⟩
abbrev main_v372 : Ref sig .tc := ⟨.hbm, 462, rfl⟩
abbrev main_v373 : Ref sig .tc := ⟨.hbm, 463, rfl⟩
abbrev main_v374 : Ref sig .tc := ⟨.hbm, 464, rfl⟩
abbrev main_v375 : Ref sig .tc := ⟨.hbm, 465, rfl⟩
abbrev main_v376 : Ref sig .tc := ⟨.hbm, 466, rfl⟩
abbrev main_v377 : Ref sig .tc := ⟨.hbm, 467, rfl⟩
abbrev main_v378 : Ref sig .tc := ⟨.hbm, 468, rfl⟩
abbrev main_v379 : Ref sig .tc := ⟨.hbm, 469, rfl⟩
abbrev main_v380 : Ref sig .tc := ⟨.hbm, 470, rfl⟩
abbrev main_v381 : Ref sig .tc := ⟨.hbm, 471, rfl⟩
abbrev main_v382 : Ref sig .tc := ⟨.hbm, 472, rfl⟩
abbrev main_v383 : Ref sig .tc := ⟨.hbm, 473, rfl⟩
abbrev main_v384 : Ref sig .tc := ⟨.hbm, 474, rfl⟩
abbrev main_v385 : Ref sig .tc := ⟨.hbm, 475, rfl⟩
abbrev main_v386 : Ref sig .tc := ⟨.hbm, 476, rfl⟩
abbrev main_v387 : Ref sig .tc := ⟨.hbm, 477, rfl⟩
abbrev main_v388 : Ref sig .tc := ⟨.hbm, 478, rfl⟩
abbrev main_v389 : Ref sig .tc := ⟨.hbm, 479, rfl⟩
abbrev main_v390 : Ref sig .tc := ⟨.hbm, 480, rfl⟩
abbrev main_v391 : Ref sig .tc := ⟨.hbm, 481, rfl⟩
abbrev main_v392 : Ref sig .tc := ⟨.hbm, 482, rfl⟩
abbrev main_v393 : Ref sig .tc := ⟨.hbm, 483, rfl⟩
abbrev main_v394 : Ref sig .tc := ⟨.hbm, 484, rfl⟩
abbrev main_v395 : Ref sig .tc := ⟨.hbm, 485, rfl⟩
abbrev main_v396 : Ref sig .tc := ⟨.hbm, 486, rfl⟩
abbrev main_v397 : Ref sig .tc := ⟨.hbm, 487, rfl⟩
abbrev main_cst_42 : Ref sig .tc := ⟨.hbm, 488, rfl⟩
abbrev main_v398 : Ref sig .tc := ⟨.hbm, 489, rfl⟩
abbrev main_v399 : Ref sig .tc := ⟨.hbm, 490, rfl⟩
abbrev main_cst_43 : Ref sig .tc := ⟨.hbm, 491, rfl⟩
abbrev main_v400 : Ref sig .tc := ⟨.hbm, 492, rfl⟩
abbrev main_v401 : Ref sig .tc := ⟨.hbm, 493, rfl⟩
abbrev main_v402 : Ref sig .tc := ⟨.hbm, 494, rfl⟩
abbrev main_v403 : Ref sig .tc := ⟨.hbm, 495, rfl⟩
abbrev main_v404 : Ref sig .tc := ⟨.hbm, 496, rfl⟩
abbrev main_cst_44 : Ref sig .tc := ⟨.hbm, 497, rfl⟩
abbrev main_v405 : Ref sig .tc := ⟨.hbm, 498, rfl⟩
abbrev main_v406 : Ref sig .tc := ⟨.hbm, 499, rfl⟩
abbrev main_cst_45 : Ref sig .tc := ⟨.hbm, 500, rfl⟩
abbrev main_v407 : Ref sig .tc := ⟨.hbm, 501, rfl⟩
abbrev main_v408 : Ref sig .tc := ⟨.hbm, 502, rfl⟩
abbrev main_cst_46 : Ref sig .tc := ⟨.hbm, 503, rfl⟩
abbrev main_v409 : Ref sig .tc := ⟨.hbm, 504, rfl⟩
abbrev main_v410 : Ref sig .tc := ⟨.hbm, 505, rfl⟩
abbrev main_v411 : Ref sig .tc := ⟨.hbm, 506, rfl⟩
abbrev main_v412 : Ref sig .tc := ⟨.hbm, 507, rfl⟩
abbrev main_v413 : Ref sig .tc := ⟨.hbm, 508, rfl⟩
abbrev main_v414 : Ref sig .tc := ⟨.hbm, 509, rfl⟩
abbrev main_v415 : Ref sig .tc := ⟨.hbm, 510, rfl⟩
abbrev main_v416 : Ref sig .tc := ⟨.hbm, 511, rfl⟩
abbrev main_v417 : Ref sig .tc := ⟨.hbm, 512, rfl⟩
abbrev main_v418 : Ref sig .tc := ⟨.hbm, 513, rfl⟩
abbrev main_v419 : Ref sig .tc := ⟨.hbm, 514, rfl⟩
abbrev main_call28_v0 : Ref sig .tc := ⟨.hbm, 515, rfl⟩
abbrev main_call28_v1 : Ref sig .tc := ⟨.hbm, 516, rfl⟩
abbrev main_call28_cst : Ref sig .tc := ⟨.hbm, 517, rfl⟩
abbrev main_call28_v2 : Ref sig .tc := ⟨.hbm, 518, rfl⟩
abbrev main_call28_v3 : Ref sig .tc := ⟨.hbm, 519, rfl⟩
abbrev main_call28_cst_0 : Ref sig .tc := ⟨.hbm, 520, rfl⟩
abbrev main_call28_v4 : Ref sig .tc := ⟨.hbm, 521, rfl⟩
abbrev main_call28_v5 : Ref sig .tc := ⟨.hbm, 522, rfl⟩
abbrev main_v420 : Ref sig .tc := ⟨.hbm, 523, rfl⟩
abbrev main_v421 : Ref sig .tc := ⟨.hbm, 524, rfl⟩
abbrev main_v422 : Ref sig .tc := ⟨.hbm, 525, rfl⟩
abbrev main_v423 : Ref sig .tc := ⟨.hbm, 526, rfl⟩
abbrev main_v424 : Ref sig .tc := ⟨.hbm, 527, rfl⟩

abbrev nD : Nat := 1
abbrev τ : Topo := Topo.v7x

variable {F : FTy → Type} [FloatOps F]
-- ==== AdamwReplicated.lean ====
abbrev S3072x128 : Shape := ⟨2, ![3072, 128]⟩

abbrev nBuf : Space → Nat
  | .hbm => 7
  | .vmem => 7
  | .smem => 0
  | _ => 0

abbrev bufTy : (tb : Table) → Fin (tcTables nBuf tb) → BufTy
  | .hbm, ⟨0, _⟩ => ⟨S3072x128, .f32⟩
  | .hbm, ⟨1, _⟩ => ⟨S3072x128, .f32⟩
  | .hbm, ⟨2, _⟩ => ⟨S3072x128, .f32⟩
  | .hbm, ⟨3, _⟩ => ⟨S3072x128, .f32⟩
  | .hbm, ⟨4, _⟩ => ⟨S3072x128, .f32⟩
  | .hbm, ⟨5, _⟩ => ⟨S3072x128, .f32⟩
  | .hbm, ⟨6, _⟩ => ⟨S3072x128, .f32⟩
  | .local _ .vmem, ⟨0, _⟩ => ⟨S3072x128, .f32⟩
  | .local _ .vmem, ⟨1, _⟩ => ⟨S3072x128, .f32⟩
  | .local _ .vmem, ⟨2, _⟩ => ⟨S3072x128, .f32⟩
  | .local _ .vmem, ⟨3, _⟩ => ⟨S3072x128, .f32⟩
  | .local _ .vmem, ⟨4, _⟩ => ⟨S3072x128, .f32⟩
  | .local _ .vmem, ⟨5, _⟩ => ⟨S3072x128, .f32⟩
  | .local _ .vmem, ⟨6, _⟩ => ⟨S3072x128, .f32⟩
  | _, _ => ⟨S3072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3072x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3072x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3072x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3072x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3072x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3072x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3072x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwReplicatedRefIdeal.lean ====
abbrev S3072x128 : Shape := ⟨2, ![3072, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3072x128, .f32⟩
  | .hbm, ⟨1, _⟩ => ⟨S3072x128, .f32⟩
  | .hbm, ⟨2, _⟩ => ⟨S3072x128, .f32⟩
  | .hbm, ⟨3, _⟩ => ⟨S3072x128, .f32⟩
  | .hbm, ⟨4, _⟩ => ⟨S_, .f32⟩
  | .hbm, ⟨5, _⟩ => ⟨S3072x128, .f32⟩
  | .hbm, ⟨6, _⟩ => ⟨S3072x128, .f32⟩
  | .hbm, ⟨7, _⟩ => ⟨S_, .f32⟩
  | .hbm, ⟨8, _⟩ => ⟨S3072x128, .f32⟩
  | .hbm, ⟨9, _⟩ => ⟨S3072x128, .f32⟩
  | .hbm, ⟨10, _⟩ => ⟨S3072x128, .f32⟩
  | .hbm, ⟨11, _⟩ => ⟨S_, .f32⟩
  | .hbm, ⟨12, _⟩ => ⟨S3072x128, .f32⟩
  | .hbm, ⟨13, _⟩ => ⟨S3072x128, .f32⟩
  | .hbm, ⟨14, _⟩ => ⟨S3072x128, .f32⟩
  | .hbm, ⟨15, _⟩ => ⟨S_, .f32⟩
  | .hbm, ⟨16, _⟩ => ⟨S3072x128, .f32⟩
  | .hbm, ⟨17, _⟩ => ⟨S3072x128, .f32⟩
  | .hbm, ⟨18, _⟩ => ⟨S3072x128, .f32⟩
  | .hbm, ⟨19, _⟩ => ⟨S_, .f32⟩
  | .hbm, ⟨20, _⟩ => ⟨S3072x128, .f32⟩
  | .hbm, ⟨21, _⟩ => ⟨S3072x128, .f32⟩
  | .hbm, ⟨22, _⟩ => ⟨S_, .f32⟩
  | .hbm, ⟨23, _⟩ => ⟨S3072x128, .f32⟩
  | .hbm, ⟨24, _⟩ => ⟨S3072x128, .f32⟩
  | .hbm, ⟨25, _⟩ => ⟨S3072x128, .f32⟩
  | .hbm, ⟨26, _⟩ => ⟨S_, .f32⟩
  | .hbm, ⟨27, _⟩ => ⟨S3072x128, .f32⟩
  | .hbm, ⟨28, _⟩ => ⟨S3072x128, .f32⟩
  | .hbm, ⟨29, _⟩ => ⟨S3072x128, .f32⟩
  | .hbm, ⟨30, _⟩ => ⟨S_, .f32⟩
  | .hbm, ⟨31, _⟩ => ⟨S3072x128, .f32⟩
  | .hbm, ⟨32, _⟩ => ⟨S3072x128, .f32⟩
  | .hbm, ⟨33, _⟩ => ⟨S3072x128, .f32⟩
  | .hbm, ⟨34, _⟩ => ⟨S_, .f32⟩
  | .hbm, ⟨35, _⟩ => ⟨S3072x128, .f32⟩
  | .hbm, ⟨36, _⟩ => ⟨S3072x128, .f32⟩
  | _, _ => ⟨S3072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Ln1Bwd.lean ====
abbrev S8192x2048 : Shape := ⟨2, ![8192, 2048]⟩
abbrev S2048 : Shape := ⟨1, ![2048]⟩
abbrev S8x128 : Shape := ⟨2, ![8, 128]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S8x128, .f32⟩
  | .hbm, ⟨6, _⟩ => ⟨S1x2048, .f32⟩
  | .hbm, ⟨7, _⟩ => ⟨S8192x2048, .f32⟩
  | .hbm, ⟨8, _⟩ => ⟨S8192x2048, .bf16⟩
  | .hbm, ⟨9, _⟩ => ⟨S1x2048, .f32⟩
  | .hbm, ⟨10, _⟩ => ⟨S1x2048, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_21 : BitVec 32 := 0#32
  let v50 : BitVec 1 := Scalar.cmpi .ne v49 c0_i32_21
  v50

def k0_cond2 (i : grid0.Coords) : BitVec 1 :=
  let arg0 : BitVec 32 := BitVec.ofNat 32 (i 0).val
  let c0_i32 : BitVec 32 := 0#32
  let v48 : BitVec 1 := Scalar.cmpi .eq arg0 c0_i32
  let v_true : BitVec 1 := 1#1
  let v51 : BitVec 1 := Scalar.xori v48 v_true
  let v52 : BitVec 32 := Scalar.extui v51
  let c0_i32_22 : BitVec 32 := 0#32
  let v53 : BitVec 1 := Scalar.cmpi .ne v52 c0_i32_22
  v53

def k0_cond3 (i : grid0.Coords) : BitVec 1 :=
  let arg0 : BitVec 32 := BitVec.ofNat 32 (i 0).val
  let c0_i32_24 : BitVec 32 := 0#32
  let v56 : BitVec 1 := Scalar.cmpi .eq arg0 c0_i32_24
  let v57 : BitVec 32 := Scalar.extui v56
  let c0_i32_25 : BitVec 32 := 0#32
  let v58 : BitVec 1 := Scalar.cmpi .ne v57 c0_i32_25
  v58

def k0_cond4 (i : grid0.Coords) : BitVec 1 :=
  let arg0 : BitVec 32 := BitVec.ofNat 32 (i 0).val
  let c0_i32_24 : BitVec 32 := 0#32
  let v56 : BitVec 1 := Scalar.cmpi .eq arg0 c0_i32_24
  let true_26 : BitVec 1 := 1#1
  let v59 : BitVec 1 := Scalar.xori v56 true_26
  let v60 : BitVec 32 := Scalar.extui v59
  let c0_i32_27 : BitVec 32 := 0#32
  let v61 : BitVec 1 := Scalar.cmpi .ne v60 c0_i32_27
  v61

def k0_cond5 (i : grid0.Coords) : BitVec 1 :=
  let arg0 : BitVec 32 := BitVec.ofNat 32 (i 0).val
  let c0_i32_29 : BitVec 32 := 0#32
  let v64 : BitVec 1 := Scalar.cmpi .eq arg0 c0_i32_29
  let v65 : BitVec 32 := Scalar.extui v64
  let c0_i32_30 : BitVec 32 := 0#32
  let v66 : BitVec 1 := Scalar.cmpi .ne v65 c0_i32_30
  v66

def k0_cond6 (i : grid0.Coords) : BitVec 1 :=
  let arg0 : BitVec 32 := BitVec.ofNat 32 (i 0).val
  let c0_i32_29 : BitVec 32 := 0#32
  let v64 : BitVec 1 := Scalar.cmpi .eq arg0 c0_i32_29
  let true_31 : BitVec 1 := 1#1
  let v67 : BitVec 1 := Scalar.xori v64 true_31
  let v68 : BitVec 32 := Scalar.extui v67
  let c0_i32_32 : BitVec 32 := 0#32
  let v69 : BitVec 1 := Scalar.cmpi .ne v68 c0_i32_32
  v69

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Ln1BwdRefIdeal.lean ====
abbrev S8192x2048 : Shape := ⟨2, ![8192, 2048]⟩
abbrev S2048 : Shape := ⟨1, ![2048]⟩
abbrev S8x128 : Shape := ⟨2, ![8, 128]⟩
abbrev S_ : Shape := ⟨0, ![]⟩
abbrev S1x2048 : Shape := ⟨2, ![1, 2048]⟩
abbrev S8192 : Shape := ⟨1, ![8192]⟩
abbrev S8192x1 : Shape := ⟨2, ![8192, 1]⟩

abbrev nBuf : Space → Nat
  | .hbm => 91
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S8x128, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S8192x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x2048, .f32⟩
  | .hbm, ⟨66, _⟩ => ⟨S8192x2048, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x2048, .f32⟩
  | .hbm, ⟨86, _⟩ => ⟨S8192x2048, .f32⟩
  | .hbm, ⟨87, _⟩ => ⟨S_, .f32⟩
  | .hbm, ⟨88, _⟩ => ⟨S2048, .f32⟩
  | .hbm, ⟨89, _⟩ => ⟨S1x2048, .f32⟩
  | .hbm, ⟨90, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_17 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]
-- ==== Ln2Last.lean ====
abbrev S8192x2048 : Shape := ⟨2, ![8192, 2048]⟩
abbrev S2048 : Shape := ⟨1, ![2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 17
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S8192x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S8192x2048, .bf16⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c0_i32_41 : BitVec 32 := 0#32
  let v100 : BitVec 1 := Scalar.cmpi .eq arg0 c0_i32_41
  let v101 : BitVec 32 := Scalar.extui v100
  let c0_i32_42 : BitVec 32 := 0#32
  let v102 : BitVec 1 := Scalar.cmpi .ne v101 c0_i32_42
  v102

def k0_cond4 (i : grid0.Coords) : BitVec 1 :=
  let arg0 : BitVec 32 := BitVec.ofNat 32 (i 0).val
  let c0_i32_41 : BitVec 32 := 0#32
  let v100 : BitVec 1 := Scalar.cmpi .eq arg0 c0_i32_41
  let true_43 : BitVec 1 := 1#1
  let v103 : BitVec 1 := Scalar.xori v100 true_43
  let v104 : BitVec 32 := Scalar.extui v103
  let c0_i32_44 : BitVec 32 := 0#32
  let v105 : BitVec 1 := Scalar.cmpi .ne v104 c0_i32_44
  v105

def k0_cond5 (i : grid0.Coords) : BitVec 1 :=
  let arg0 : BitVec 32 := BitVec.ofNat 32 (i 0).val
  let c0_i32_46 : BitVec 32 := 0#32
  let v108 : BitVec 1 := Scalar.cmpi .eq arg0 c0_i32_46
  let v109 : BitVec 32 := Scalar.extui v108
  let c0_i32_47 : BitVec 32 := 0#32
  let v110 : BitVec 1 := Scalar.cmpi .ne v109 c0_i32_47
  v110

def k0_cond6 (i : grid0.Coords) : BitVec 1 :=
  let arg0 : BitVec 32 := BitVec.ofNat 32 (i 0).val
  let c0_i32_46 : BitVec 32 := 0#32
  let v108 : BitVec 1 := Scalar.cmpi .eq arg0 c0_i32_46
  let true_48 : BitVec 1 := 1#1
  let v111 : BitVec 1 := Scalar.xori v108 true_48
  let v112 : BitVec 32 := Scalar.extui v111
  let c0_i32_49 : BitVec 32 := 0#32
  let v113 : BitVec 1 := Scalar.cmpi .ne v112 c0_i32_49
  v113

def k0_cond7 (i : grid0.Coords) : BitVec 1 :=
  let arg0 : BitVec 32 := BitVec.ofNat 32 (i 0).val
  let c0_i32_51 : BitVec 32 := 0#32
  let v116 : BitVec 1 := Scalar.cmpi .eq arg0 c0_i32_51
  let v117 : BitVec 32 := Scalar.extui v116
  let c0_i32_52 : BitVec 32 := 0#32
  let v118 : BitVec 1 := Scalar.cmpi .ne v117 c0_i32_52
  v118

def k0_cond8 (i : grid0.Coords) : BitVec 1 :=
  let arg0 : BitVec 32 := BitVec.ofNat 32 (i 0).val
  let c0_i32_51 : BitVec 32 := 0#32
  let v116 : BitVec 1 := Scalar.cmpi .eq arg0 c0_i32_51
  let true_53 : BitVec 1 := 1#1
  let v119 : BitVec 1 := Scalar.xori v116 true_53
  let v120 : BitVec 32 := Scalar.extui v119
  let c0_i32_54 : BitVec 32 := 0#32
  let v121 : BitVec 1 := Scalar.cmpi .ne v120 c0_i32_54
  v121

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_28 : BitVec 32 := 0#32
  let v70 : BitVec 1 := Scalar.cmpi .ne v69 c0_i32_28
  v70

def k0_cond2 (i : grid0.Coords) : BitVec 1 :=
  let arg0 : BitVec 32 := BitVec.ofNat 32 (i 0).val
  let c0_i32 : BitVec 32 := 0#32
  let v68 : BitVec 1 := Scalar.cmpi .eq arg0 c0_i32
  let v_true : BitVec 1 := 1#1
  let v71 : BitVec 1 := Scalar.xori v68 v_true
  let v72 : BitVec 32 := Scalar.extui v71
  let c0_i32_29 : BitVec 32 := 0#32
  let v73 : BitVec 1 := Scalar.cmpi .ne v72 c0_i32_29
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Ln2LastRefIdeal.lean ====
abbrev S8192x2048 : Shape := ⟨2, ![8192, 2048]⟩
abbrev S2048 : Shape := ⟨1, ![2048]⟩
abbrev S_ : Shape := ⟨0, ![]⟩
abbrev S1x2048 : Shape := ⟨2, ![1, 2048]⟩
abbrev S8192 : Shape := ⟨1, ![8192]⟩
abbrev S8192x1 : Shape := ⟨2, ![8192, 1]⟩
abbrev S8x128 : Shape := ⟨2, ![8, 128]⟩

abbrev nBuf : Space → Nat
  | .hbm => 142
  | .vmem => 0
  | .smem => 0
  | _ => 0

abbrev hbmTy0_0 (i : Nat) : BufTy := match i % 128 with
  | 0 => ⟨S8192x2048, .f32⟩
  | 1 => ⟨S2048, .f32⟩
  | 2 => ⟨S2048, .f32⟩
  | 3 => ⟨S8192x2048, .f32⟩
  | 4 => ⟨S2048, .f32⟩
  | 5 => ⟨S2048, .f32⟩
  | 6 => ⟨S8192x2048, .f32⟩
  | 7 => ⟨S_, .f32⟩
  | 8 => ⟨S1x2048, .f32⟩
  | 9 => ⟨S_, .f32⟩
  | 10 => ⟨S8192x2048, .f32⟩
  | 11 => ⟨S1x2048, .f32⟩
  | 12 => ⟨S1x2048, .f32⟩
  | 13 => ⟨S8192x2048, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S8192x2048, .f32⟩
  | 21 => ⟨S8192x2048, .f32⟩
  | 22 => ⟨S8192x2048, .f32⟩
  | 23 => ⟨S_, .f32⟩
  | 24 => ⟨S8192, .f32⟩
  | 25 => ⟨S8192x1, .f32⟩
  | 26 => ⟨S_, .f32⟩
  | 27 => ⟨S8192x1, .f32⟩
  | 28 => ⟨S8192x1, .f32⟩
  | 29 => ⟨S_, .f32⟩
  | 30 => ⟨S8192x1, .f32⟩
  | 31 => ⟨S8192x1, .f32⟩
  | 32 => ⟨S8192x1, .f32⟩
  | 33 => ⟨S8192x2048, .f32⟩
  | 34 => ⟨S8192x2048, .f32⟩
  | 35 => ⟨S1x2048, .f32⟩
  | 36 => ⟨S8192x2048, .f32⟩
  | 37 => ⟨S8192x2048, .f32⟩
  | 38 => ⟨S1x2048, .f32⟩
  | 39 => ⟨S8192x2048, .f32⟩
  | 40 => ⟨S8192x2048, .f32⟩
  | 41 => ⟨S_, .f32⟩
  | 42 => ⟨S8192x2048, .f32⟩
  | 43 => ⟨S8192x2048, .f32⟩
  | 44 => ⟨S8192x2048, .f32⟩
  | 45 => ⟨S8192x2048, .f32⟩
  | 46 => ⟨S8192x2048, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S8192x2048, .f32⟩
  | 54 => ⟨S8192x2048, .f32⟩
  | 55 => ⟨S8192x2048, .f32⟩
  | 56 => ⟨S_, .f32⟩
  | 57 => ⟨S8192x2048, .f32⟩
  | 58 => ⟨S8192x2048, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S_, .f32⟩
  | 66 => ⟨S8192x1, .f32⟩
  | 67 => ⟨S8192x1, .f32⟩
  | 68 => ⟨S8192x1, .f32⟩
  | 69 => ⟨S8192x1, .f32⟩
  | 70 => ⟨S_, .f32⟩
  | 71 => ⟨S8192x1, .f32⟩
  | 72 => ⟨S8192x1, .f32⟩
  | 73 => ⟨S8192x2048, .f32⟩
  | 74 => ⟨S8192x2048, .f32⟩
  | 75 => ⟨S8192x2048, .f32⟩
  | 76 => ⟨S8192x2048, .f32⟩
  | 77 => ⟨S8192x2048, .f32⟩
  | 78 => ⟨S8192x2048, .f32⟩
  | 79 => ⟨S8192x2048, .f32⟩
  | 80 => ⟨S8192x2048, .f32⟩
  | 81 => ⟨S_, .f32⟩
  | 82 => ⟨S8192x2048, .f32⟩
  | 83 => ⟨S8192x2048, .f32⟩
  | 84 => ⟨S_, .f32⟩
  | 85 => ⟨S8192, .f32⟩
  | 86 => ⟨S_, .f32⟩
  | 87 => ⟨S8192, .f32⟩
  | 88 => ⟨S8192, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S8192, .f32⟩
  | 97 => ⟨S_, .f32⟩
  | 98 => ⟨S8192, .f32⟩
  | 99 => ⟨S8192, .f32⟩
  | 100 => ⟨S8192x2048, .f32⟩
  | 101 => ⟨S8192x2048, .f32⟩
  | 102 => ⟨S_, .f32⟩
  | 103 => ⟨S2048, .f32⟩
  | 104 => ⟨S1x2048, .f32⟩
  | 105 => ⟨S8192x2048, .f32⟩
  | 106 => ⟨S_, .f32⟩
  | 107 => ⟨S2048, .f32⟩
  | 108 => ⟨S1x2048, .f32⟩
  | 109 => ⟨S8192x2048, .f32⟩
  | 110 => ⟨S8192x2048, .f32⟩
  | 111 => ⟨S8192x2048, .f32⟩
  | 112 => ⟨S_, .f32⟩
  | 113 => ⟨S8192, .f32⟩
  | 114 => ⟨S8192x1, .f32⟩
  | 115 => ⟨S8192x2048, .f32⟩
  | 116 => ⟨S8192x2048, .f32⟩
  | 117 => ⟨S8192x1, .f32⟩
  | 118 => ⟨S_, .f32⟩
  | 119 => ⟨S8192x1, .f32⟩
  | 120 => ⟨S8192x1, .f32⟩
  | 121 => ⟨S_, .f32⟩
  | 122 => ⟨S8192, .f32⟩
  | 123 => ⟨S8192x2048, .f32⟩
  | 124 => ⟨S8192x2048, .f32⟩
  | 125 => ⟨S8192x2048, .f32⟩
  | 126 => ⟨S8192x2048, .f32⟩
  | 127 => ⟨S_, .f32⟩
  | _ => ⟨S8192x2048, .f32⟩

abbrev hbmTy0_1 (i : Nat) : BufTy := match i % 128 with
  | 0 => ⟨S8192, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192, .f32⟩
  | 7 => ⟨S8192x2048, .f32⟩
  | 8 => ⟨S8192x2048, .f32⟩
  | 9 => ⟨S_, .f32⟩
  | 10 => ⟨S2048, .f32⟩
  | 11 => ⟨S1x2048, .f32⟩
  | 12 => ⟨S8192x2048, .bf16⟩
  | 13 => ⟨S8x128, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_cst_11 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_13 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_14 : Ref sig .tc := ⟨.hbm, 81, rfl⟩
abbrev main_v59 : Ref sig .tc := ⟨.hbm, 82, rfl⟩
abbrev main_v60 : Ref sig .tc := ⟨.hbm, 83, rfl⟩
abbrev main_cst_15 : Ref sig .tc := ⟨.hbm, 84, rfl⟩
abbrev main_v61 : Ref sig .tc := ⟨.hbm, 85, rfl⟩
abbrev main_cst_16 : Ref sig .tc := ⟨.hbm, 86, rfl⟩
abbrev main_v62 : Ref sig .tc := ⟨.hbm, 87, rfl⟩
abbrev main_v63 : Ref sig .tc := ⟨.hbm, 88, rfl⟩
abbrev main_cst_17 : Ref sig .tc := ⟨.hbm, 89, rfl⟩
abbrev main_v64 : Ref sig .tc := ⟨.hbm, 90, rfl⟩
abbrev main_cst_18 : Ref sig .tc := ⟨.hbm, 91, rfl⟩
abbrev main_v65 : Ref sig .tc := ⟨.hbm, 92, rfl⟩
abbrev main_cst_19 : Ref sig .tc := ⟨.hbm, 93, rfl⟩
abbrev main_cst_20 : Ref sig .tc := ⟨.hbm, 94, rfl⟩
abbrev main_v66 : Ref sig .tc := ⟨.hbm, 95, rfl⟩
abbrev main_v67 : Ref sig .tc := ⟨.hbm, 96, rfl⟩
abbrev main_cst_21 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_22 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_23 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_24 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_25 : Ref sig .tc := ⟨.hbm, 118, rfl⟩
abbrev main_v85 : Ref sig .tc := ⟨.hbm, 119, rfl⟩
abbrev main_v86 : Ref sig .tc := ⟨.hbm, 120, rfl⟩
abbrev main_cst_26 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_27 : Ref sig .tc := ⟨.hbm, 127, rfl⟩
abbrev main_v92 : Ref sig .tc := ⟨.hbm, 128, rfl⟩
abbrev main_v93 : Ref sig .tc := ⟨.hbm, 129, rfl⟩
abbrev main_cst_28 : Ref sig .tc := ⟨.hbm, 130, rfl⟩
abbrev main_v94 : Ref sig .tc := ⟨.hbm, 131, rfl⟩
abbrev main_v95 : Ref sig .tc := ⟨.hbm, 132, rfl⟩
abbrev main_cst_29 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_30 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩

abbrev nD : Nat := 1
abbrev τ : Topo := Topo.v7x

variable {F : FTy → Type} [FloatOps F]
-- ==== Ln2Bwd.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S1x2048, .f32⟩
  | .hbm, ⟨6, _⟩ => ⟨S8192x2048, .f32⟩
  | .hbm, ⟨7, _⟩ => ⟨S8192x2048, .bf16⟩
  | .hbm, ⟨8, _⟩ => ⟨S1x2048, .f32⟩
  | .hbm, ⟨9, _⟩ => ⟨S1x2048, .f32⟩
  | .hbm, ⟨10, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_21 : BitVec 32 := 0#32
  let v50 : BitVec 1 := Scalar.cmpi .ne v49 c0_i32_21
  v50

def k0_cond2 (i : grid0.Coords) : BitVec 1 :=
  let arg0 : BitVec 32 := BitVec.ofNat 32 (i 0).val
  let c0_i32 : BitVec 32 := 0#32
  let v48 : BitVec 1 := Scalar.cmpi .eq arg0 c0_i32
  let v_true : BitVec 1 := 1#1
  let v51 : BitVec 1 := Scalar.xori v48 v_true
  let v52 : BitVec 32 := Scalar.extui v51
  let c0_i32_22 : BitVec 32 := 0#32
  let v53 : BitVec 1 := Scalar.cmpi .ne v52 c0_i32_22
  v53

def k0_cond3 (i : grid0.Coords) : BitVec 1 :=
  let arg0 : BitVec 32 := BitVec.ofNat 32 (i 0).val
  let c0_i32_24 : BitVec 32 := 0#32
  let v56 : BitVec 1 := Scalar.cmpi .eq arg0 c0_i32_24
  let v57 : BitVec 32 := Scalar.extui v56
  let c0_i32_25 : BitVec 32 := 0#32
  let v58 : BitVec 1 := Scalar.cmpi .ne v57 c0_i32_25
  v58

def k0_cond4 (i : grid0.Coords) : BitVec 1 :=
  let arg0 : BitVec 32 := BitVec.ofNat 32 (i 0).val
  let c0_i32_24 : BitVec 32 := 0#32
  let v56 : BitVec 1 := Scalar.cmpi .eq arg0 c0_i32_24
  let true_26 : BitVec 1 := 1#1
  let v59 : BitVec 1 := Scalar.xori v56 true_26
  let v60 : BitVec 32 := Scalar.extui v59
  let c0_i32_27 : BitVec 32 := 0#32
  let v61 : BitVec 1 := Scalar.cmpi .ne v60 c0_i32_27
  v61

def k0_cond5 (i : grid0.Coords) : BitVec 1 :=
  let arg0 : BitVec 32 := BitVec.ofNat 32 (i 0).val
  let c0_i32_29 : BitVec 32 := 0#32
  let v64 : BitVec 1 := Scalar.cmpi .eq arg0 c0_i32_29
  let v65 : BitVec 32 := Scalar.extui v64
  let c0_i32_30 : BitVec 32 := 0#32
  let v66 : BitVec 1 := Scalar.cmpi .ne v65 c0_i32_30
  v66

def k0_cond6 (i : grid0.Coords) : BitVec 1 :=
  let arg0 : BitVec 32 := BitVec.ofNat 32 (i 0).val
  let c0_i32_29 : BitVec 32 := 0#32
  let v64 : BitVec 1 := Scalar.cmpi .eq arg0 c0_i32_29
  let true_31 : BitVec 1 := 1#1
  let v67 : BitVec 1 := Scalar.xori v64 true_31
  let v68 : BitVec 32 := Scalar.extui v67
  let c0_i32_32 : BitVec 32 := 0#32
  let v69 : BitVec 1 := Scalar.cmpi .ne v68 c0_i32_32
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Ln2BwdRefIdeal.lean ====
abbrev S8192x2048 : Shape := ⟨2, ![8192, 2048]⟩
abbrev S2048 : Shape := ⟨1, ![2048]⟩
abbrev S_ : Shape := ⟨0, ![]⟩
abbrev S1x2048 : Shape := ⟨2, ![1, 2048]⟩
abbrev S8192 : Shape := ⟨1, ![8192]⟩
abbrev S8192x1 : Shape := ⟨2, ![8192, 1]⟩

abbrev nBuf : Space → Nat
  | .hbm => 90
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S8192x2048, .f32⟩
  | .hbm, ⟨55, _⟩ => ⟨S_, .f32⟩
  | .hbm, ⟨56, _⟩ => ⟨S2048, .f32⟩
  | .hbm, ⟨57, _⟩ => ⟨S1x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x2048, .f32⟩
  | .hbm, ⟨65, _⟩ => ⟨S8192x2048, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x2048, .f32⟩
  | .hbm, ⟨85, _⟩ => ⟨S8192x2048, .f32⟩
  | .hbm, ⟨86, _⟩ => ⟨S_, .f32⟩
  | .hbm, ⟨87, _⟩ => ⟨S2048, .f32⟩
  | .hbm, ⟨88, _⟩ => ⟨S1x2048, .f32⟩
  | .hbm, ⟨89, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_14 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== Proof.Shared.Adam.lean ====
module

public import Idealize.ShloMosaic.Lib.Pipeline.ValueKit

@[expose] public section

noncomputable section

namespace Cert.Hand

open Idealize.ShloMosaic

/-- The optimiser's new first moment. -/
def newM (g m : EReal) : EReal := Ideal.ofBits .f32 0x3F666666#32 * m + Ideal.ofBits .f32 0x3DCCCCCD#32 * g

/-- The optimiser's new second moment. -/
def newV (g v : EReal) : EReal := Ideal.ofBits .f32 0x3F7FBE77#32 * v + Ideal.ofBits .f32 0x3A83126F#32 * (g * g)

/-- The optimiser's step: the quotient of the corrected moments plus the decay, times minus the rate. -/
def step (w g m v : EReal) : EReal :=
  Ideal.ofBits .f32 0xBA83126F#32
    * (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

end Cert.Hand

end
-- ==== Proof.Shared.Runs.lean ====
module

public import Idealize.ShloMosaic.Lib.Pipeline.ValueKit

@[expose] public section

namespace Cert.Hand

open Idealize.ShloMosaic

/-- A block accumulated over a run of `J` points, where the run's first point stores a start of its own and its first
term: the point that writes the block back holds the start of the run's first point plus the sum of all `J` terms. -/
theorem sum_of_run {ι M : Type} [AddCommMonoid M] {N : Nat} (f : (n : Nat) → n < N → ι → M) (J : Nat) [NeZero J]
    (start term : Fin N → ι → M)
    (h0 : ∀ t : Fin N, t.val % J = 0 → ∀ i, f t.val t.isLt i = start t i + term t i)
    (hs : ∀ t : Fin N, ¬t.val % J = 0 → ∀ i,
      f t.val t.isLt i = f (t.val - 1) (Nat.lt_of_le_of_lt (Nat.sub_le _ _) t.isLt) i + term t i)
    (t : Fin N) (hr : t.val % J = J - 1) (i : ι) :
    f t.val t.isLt i = start ⟨J * (t.val / J) + (0 : Fin J).val, Pipeline.run_point_lt_of_flush t hr 0⟩ i
      + ∑ s : Fin J, term ⟨J * (t.val / J) + s.val, Pipeline.run_point_lt_of_flush t hr s⟩ i := by
  rw [Pipeline.eq_sum_fin_of_reset_step_apply_of_flush f J (fun _ => 0)
    (fun u j => (if u.val % J = 0 then start u j else 0) + term u j)
    (fun u h j => by rw [h0 u h j, if_pos h, zero_add]) (fun u h j => by rw [hs u h j, if_neg h, zero_add]) t hr i,
    zero_add, Finset.sum_add_distrib]
  congr 1
  rw [Fintype.sum_eq_single (0 : Fin J) fun s hne => ?_]
  · exact if_pos (by simp)
  · refine if_neg fun h => hne (Fin.ext ?_)
    simpa [Nat.mod_eq_of_lt s.isLt] using h

end Cert.Hand
-- ==== Proof.HostGradX.Value.lean ====
module

public import proofs.«01_k».proof.Proof.Gen.HostGradXIdeal.Value
public import proofs.«01_k».proof.Proof.Gen.HostGradXRefIdeal.Read
public import Idealize.ShloMosaic.Lib.Pipeline.ValueKit
public import proofs.«01_k».proof.Proof.Shared.Adam
public import proofs.«01_k».proof.Proof.Shared.Runs

@[expose] public section

set_option maxRecDepth 16384

noncomputable section

namespace Cert.HostGradXIdeal.Hand

open Idealize.ShloMosaic Idealize.ShloMosaic.TcCoe Idealize.SL.Sem
open Idealize.ShloMosaic.Pipeline (Dat)
open Cert.HostGradXIdeal Cert.HostGradXIdeal.Gen

/-- The reference's entry: the sum over all columns of the product of a gradient and a weight entry, plus the residual term. -/
theorem ref (W : FVec Ideal S2048x3584 .bf16) (D : FVec Ideal S8192x3584 .bf16) (R : FVec Ideal S8192x2048 .f32) (r : Fin 8192) (l : Fin 2048) :
    Cert.HostGradXRefIdeal.Read.val_main_v8 (F := Ideal) W D R (ix2 r l)
      = Ideal.ofBits .f32 0x3FB504F3#32 * R (ix2 r l) + ∑ k : Fin 3584, D (ix2 r k) * W (ix2 l k) := by
  rw [← Cert.HostGradXRefIdeal.Read.val_main_v8_eq]
  pointwise

/-- One shard's contribution to a tile. -/
theorem pay (A : FVec Ideal S512x896 .bf16) (B : FVec Ideal S1x2048x896 .bf16) (r : Fin 512) (l : Fin 2048) :
    k0_pay1 (F := Ideal) A B (ix2 r l) = ∑ k : Fin 896, A (ix2 r k) * B (ix3 (0 : Fin 1) l k) := by
  pointwise [k0_pay1]

/-- The reference's gradient. -/
theorem ref8 (W M U : FVec Ideal S2x2048x2048 .f32) (G : FVec Ideal S2048x2048 .f32) (E : FVec Ideal S2x2048x2048 .f32) (r : Fin 2048) (l : Fin 2048) :
    Cert.HostGradXRefIdeal.Read.val_main_v43 (F := Ideal) G E (ix3 0 r l) = G (ix2 r l) := by
  rw [← Cert.HostGradXRefIdeal.Read.val_main_v43_eq]
  pointwise [Cert.Hand.step, Cert.Hand.newM, Cert.Hand.newV]
  try rfl

/-- The reference keeps the gradient of the other layer. -/
theorem keep8 (W M U : FVec Ideal S2x2048x2048 .f32) (G : FVec Ideal S2048x2048 .f32) (E : FVec Ideal S2x2048x2048 .f32) (r : Fin 2048) (l : Fin 2048) :
    Cert.HostGradXRefIdeal.Read.val_main_v43 (F := Ideal) G E (ix3 1 r l) = E (ix3 1 r l) := by
  rw [← Cert.HostGradXRefIdeal.Read.val_main_v43_eq]
  pointwise
  try rfl

/-- The reference's step. -/
theorem ref9 (W M U : FVec Ideal S2x2048x2048 .f32) (G : FVec Ideal S2048x2048 .f32) (E : FVec Ideal S2x2048x2048 .f32) (r : Fin 2048) (l : Fin 2048) :
    Cert.HostGradXRefIdeal.Read.val_main_v48 (F := Ideal) W M U G E (ix3 0 r l) = Cert.Hand.step (W (ix3 0 r l)) (G (ix2 r l)) (M (ix3 0 r l)) (U (ix3 0 r l)) := by
  rw [← Cert.HostGradXRefIdeal.Read.val_main_v48_eq]
  pointwise [Cert.Hand.step, Cert.Hand.newM, Cert.Hand.newV]
  try rfl

/-- The reference keeps the step of the other layer. -/
theorem keep9 (W M U : FVec Ideal S2x2048x2048 .f32) (G : FVec Ideal S2048x2048 .f32) (E : FVec Ideal S2x2048x2048 .f32) (r : Fin 2048) (l : Fin 2048) :
    Cert.HostGradXRefIdeal.Read.val_main_v48 (F := Ideal) W M U G E (ix3 1 r l) = E (ix3 1 r l) := by
  rw [← Cert.HostGradXRefIdeal.Read.val_main_v48_eq]
  pointwise
  try rfl

/-- The reference's first moment. -/
theorem ref10 (W M U : FVec Ideal S2x2048x2048 .f32) (G : FVec Ideal S2048x2048 .f32) (E : FVec Ideal S2x2048x2048 .f32) (r : Fin 2048) (l : Fin 2048) :
    Cert.HostGradXRefIdeal.Read.val_main_v53 (F := Ideal) M G E (ix3 0 r l) = Cert.Hand.newM (G (ix2 r l)) (M (ix3 0 r l)) := by
  rw [← Cert.HostGradXRefIdeal.Read.val_main_v53_eq]
  pointwise [Cert.Hand.step, Cert.Hand.newM, Cert.Hand.newV]
  try rfl

/-- The reference keeps the first moment of the other layer. -/
theorem keep10 (W M U : FVec Ideal S2x2048x2048 .f32) (G : FVec Ideal S2048x2048 .f32) (E : FVec Ideal S2x2048x2048 .f32) (r : Fin 2048) (l : Fin 2048) :
    Cert.HostGradXRefIdeal.Read.val_main_v53 (F := Ideal) M G E (ix3 1 r l) = E (ix3 1 r l) := by
  rw [← Cert.HostGradXRefIdeal.Read.val_main_v53_eq]
  pointwise
  try rfl

/-- The reference's second moment. -/
theorem ref11 (W M U : FVec Ideal S2x2048x2048 .f32) (G : FVec Ideal S2048x2048 .f32) (E : FVec Ideal S2x2048x2048 .f32) (r : Fin 2048) (l : Fin 2048) :
    Cert.HostGradXRefIdeal.Read.val_main_v58 (F := Ideal) U G E (ix3 0 r l) = Cert.Hand.newV (G (ix2 r l)) (U (ix3 0 r l)) := by
  rw [← Cert.HostGradXRefIdeal.Read.val_main_v58_eq]
  pointwise [Cert.Hand.step, Cert.Hand.newM, Cert.Hand.newV]
  try rfl

/-- The reference keeps the second moment of the other layer. -/
theorem keep11 (W M U : FVec Ideal S2x2048x2048 .f32) (G : FVec Ideal S2048x2048 .f32) (E : FVec Ideal S2x2048x2048 .f32) (r : Fin 2048) (l : Fin 2048) :
    Cert.HostGradXRefIdeal.Read.val_main_v58 (F := Ideal) U G E (ix3 1 r l) = E (ix3 1 r l) := by
  rw [← Cert.HostGradXRefIdeal.Read.val_main_v58_eq]
  pointwise
  try rfl

variable (m : (ℓ : Loc nD τ sig) → Buf (Elt Ideal) ℓ)

/-- Which block of the optimiser's arrays each window holds at each point of the grid. -/
theorem idxr : ∀ t : Fin cfg0.N, win0_3.index t = ![0, t.val, 0] ∧ win0_4.index t = ![0, t.val, 0] ∧ win0_5.index t = ![0, t.val, 0]
    ∧ win0_6.index t = ![t.val, 0] ∧ win0_8.index t = ![0, t.val, 0] ∧ win0_9.index t = ![0, t.val, 0] ∧ win0_10.index t = ![0, t.val, 0] ∧ win0_11.index t = ![0, t.val, 0] :=
  (by decide +kernel : ∀ t : Fin grid0.N, _)

/-- The result's array starts as the array of the other layer's gradient. -/
theorem entry8 (c : Dev nD) : V m c main_v2_1 = m ((c : Thread nD τ).loc main_arg9) := by
  unfold V; after_results; try rfl

/-- The result's array starts as the array of the other layer's step. -/
theorem entry9 (c : Dev nD) : V m c main_v2_2 = m ((c : Thread nD τ).loc main_arg10) := by
  unfold V; after_results; try rfl

/-- The result's array starts as the array of the other layer's first moment. -/
theorem entry10 (c : Dev nD) : V m c main_v2_3 = m ((c : Thread nD τ).loc main_arg11) := by
  unfold V; after_results; try rfl

/-- The result's array starts as the array of the other layer's second moment. -/
theorem entry11 (c : Dev nD) : V m c main_v2_4 = m ((c : Thread nD τ).loc main_arg12) := by
  unfold V; after_results; try rfl

/-- The block of operand 3, at an index of the array. -/
theorem blkW (c : Dev nD) (t : Fin cfg0.N) (z : Fin 1) (r : Fin 32) (l : Fin 2048) (q : Fin 2048) (hq : (q : ℕ) = t.val * 32 + r) :
    (show FVec Ideal S1x32x2048 .f32 from iblk m c 3 t) (ix3 z r l)
      = (show FVec Ideal S2x2048x2048 .f32 from m ((c : Thread nD τ).loc main_arg5)) (ix3 0 q l) := by
  have e : ((cfg0.win 3).blk t).view.emb (ix3 z r l : S1x32x2048.Idx) = (ix3 (0 : Fin 2) q l : S2x2048x2048.Idx) := by
    blk_ext [idxr t]
    all_goals omega
  rw [← e]; blk_point [iblk, V, idxr t]

/-- The block of operand 4, at an index of the array. -/
theorem blkM (c : Dev nD) (t : Fin cfg0.N) (z : Fin 1) (r : Fin 32) (l : Fin 2048) (q : Fin 2048) (hq : (q : ℕ) = t.val * 32 + r) :
    (show FVec Ideal S1x32x2048 .f32 from iblk m c 4 t) (ix3 z r l)
      = (show FVec Ideal S2x2048x2048 .f32 from m ((c : Thread nD τ).loc main_arg6)) (ix3 0 q l) := by
  have e : ((cfg0.win 4).blk t).view.emb (ix3 z r l : S1x32x2048.Idx) = (ix3 (0 : Fin 2) q l : S2x2048x2048.Idx) := by
    blk_ext [idxr t]
    all_goals omega
  rw [← e]; blk_point [iblk, V, idxr t]

/-- The block of operand 5, at an index of the array. -/
theorem blkU (c : Dev nD) (t : Fin cfg0.N) (z : Fin 1) (r : Fin 32) (l : Fin 2048) (q : Fin 2048) (hq : (q : ℕ) = t.val * 32 + r) :
    (show FVec Ideal S1x32x2048 .f32 from iblk m c 5 t) (ix3 z r l)
      = (show FVec Ideal S2x2048x2048 .f32 from m ((c : Thread nD τ).loc main_arg7)) (ix3 0 q l) := by
  have e : ((cfg0.win 5).blk t).view.emb (ix3 z r l : S1x32x2048.Idx) = (ix3 (0 : Fin 2) q l : S2x2048x2048.Idx) := by
    blk_ext [idxr t]
    all_goals omega
  rw [← e]; blk_point [iblk, V, idxr t]

/-- The block of the gradient, at an index of the array. -/
theorem blkG (c : Dev nD) (t : Fin cfg0.N) (r : Fin 32) (l : Fin 2048) (q : Fin 2048) (hq : (q : ℕ) = t.val * 32 + r) :
    (show FVec Ideal S32x2048 .f32 from iblk m c 6 t) (ix2 r l)
      = (show FVec Ideal S2048x2048 .f32 from m ((c : Thread nD τ).loc main_arg8)) (ix2 q l) := by
  have e : ((cfg0.win 6).blk t).view.emb (ix2 r l : S32x2048.Idx) = (ix2 q l : S2048x2048.Idx) := by
    blk_ext [idxr t]
    all_goals omega
  rw [← e]; blk_point [iblk, V, idxr t]

/-- What every point of the grid leaves of the gradient. -/
theorem outs8 (c : Dev nD) (t : Fin cfg0.N) : (outsAt0 m c t.val t.isLt).2.1 = k0_pay10 (F := Ideal) (iblk m c 6 t) := by
  by_cases h : t.val % 4 = 0
  · rw [outsAt0_A m c t h (by omega)]; frame_out
  · rw [outsAt0_B m c t h (by omega)]; frame_out

/-- What a point of the grid stores of the gradient. -/
theorem pay8 (c : Dev nD) (t : Fin cfg0.N) (z : Fin 1) (r : Fin 32) (l : Fin 2048) (q : Fin 2048) (hq : (q : ℕ) = t.val * 32 + r) :
    (k0_pay10 (F := Ideal) (iblk m c 6 t)) (ix3 z r l) = Cert.HostGradXRefIdeal.Read.val_main_v43 (F := Ideal) (m ((c : Thread nD τ).loc main_arg8)) (m ((c : Thread nD τ).loc main_arg9)) (ix3 0 q l) := by
  obtain rfl : z = 0 := Subsingleton.elim _ _
  have h : (k0_pay10 (F := Ideal) (iblk m c 6 t)) (ix3 0 r l) = (show FVec Ideal S32x2048 .f32 from iblk m c 6 t) (ix2 r l) := by
    pointwise [k0_pay10, Cert.Hand.step, Cert.Hand.newM, Cert.Hand.newV]
    try rfl
  rw [h, blkG m c t r l q hq]
  exact (ref8 (m ((c : Thread nD τ).loc main_arg5)) (m ((c : Thread nD τ).loc main_arg6)) (m ((c : Thread nD τ).loc main_arg7)) (m ((c : Thread nD τ).loc main_arg8)) (m ((c : Thread nD τ).loc main_arg9)) q l).symm

/-- The array of the gradient that the kernel leaves is the reference's. -/
theorem final8 (c : Dev nD) : (dats m 0 c).arrAt 8 cfg0.N
    = Cert.HostGradXRefIdeal.Read.val_main_v43 (F := Ideal) (m ((c : Thread nD τ).loc main_arg8)) (m ((c : Thread nD τ).loc main_arg9)) := by
  refine ((dats m 0 c).arrAt_eq_of_coversWhere 8 (Cert.HostGradXRefIdeal.Read.val_main_v43 (F := Ideal) (m ((c : Thread nD τ).loc main_arg8)) (m ((c : Thread nD τ).loc main_arg9)))
    (P := fun i : S2x2048x2048.Idx => (i 0 : ℕ) = 0) (fun β => β (0 : Fin _) = 0) (by decide +kernel) (fun t hf y => ?_)
    (fun j => by blk_simp [Pipeline.Window.cell_apply]; try omega)).trans ?_
  · blk_simp
    rw [after0_8, outs8]
    idx_vars y
    have hb : t.val * 32 + y1.val < 2048 := by have := t.isLt; have := y1.isLt; change t.val < 64 at *; omega
    refine (pay8 m c t y0 y1 y2 ⟨t.val * 32 + y1.val, hb⟩ rfl).trans (congrArg _ ?_)
    blk_ext [idxr t]
    all_goals omega
  · funext i
    show (if (i 0 : ℕ) = 0 then _ else _) = _
    split
    · rfl
    · next h =>
      idx_vars i
      obtain rfl : i0 = 1 := by omega
      show V m c main_v2_1 _ = _
      rw [entry8]
      exact (keep8 (m ((c : Thread nD τ).loc main_arg5)) (m ((c : Thread nD τ).loc main_arg6)) (m ((c : Thread nD τ).loc main_arg7)) (m ((c : Thread nD τ).loc main_arg8)) (m ((c : Thread nD τ).loc main_arg9)) i1 i2).symm

/-- What every point of the grid leaves of the step. -/
theorem outs9 (c : Dev nD) (t : Fin cfg0.N) : (outsAt0 m c t.val t.isLt).2.2.1 = k0_pay4 (F := Ideal) (k0_pay9 (F := Ideal) (iblk m c 3 t) (iblk m c 4 t) (iblk m c 5 t) (iblk m c 6 t)) := by
  by_cases h : t.val % 4 = 0
  · rw [outsAt0_A m c t h (by omega)]; frame_out
  · rw [outsAt0_B m c t h (by omega)]; frame_out

/-- What a point of the grid stores of the step. -/
theorem pay9 (c : Dev nD) (t : Fin cfg0.N) (z : Fin 1) (r : Fin 32) (l : Fin 2048) (q : Fin 2048) (hq : (q : ℕ) = t.val * 32 + r) :
    (k0_pay4 (F := Ideal) (k0_pay9 (F := Ideal) (iblk m c 3 t) (iblk m c 4 t) (iblk m c 5 t) (iblk m c 6 t))) (ix3 z r l) = Cert.HostGradXRefIdeal.Read.val_main_v48 (F := Ideal) (m ((c : Thread nD τ).loc main_arg5)) (m ((c : Thread nD τ).loc main_arg6)) (m ((c : Thread nD τ).loc main_arg7)) (m ((c : Thread nD τ).loc main_arg8)) (m ((c : Thread nD τ).loc main_arg10)) (ix3 0 q l) := by
  obtain rfl : z = 0 := Subsingleton.elim _ _
  have h : (k0_pay4 (F := Ideal) (k0_pay9 (F := Ideal) (iblk m c 3 t) (iblk m c 4 t) (iblk m c 5 t) (iblk m c 6 t))) (ix3 0 r l) = Cert.Hand.step ((show FVec Ideal S1x32x2048 .f32 from iblk m c 3 t) (ix3 0 r l)) ((show FVec Ideal S32x2048 .f32 from iblk m c 6 t) (ix2 r l)) ((show FVec Ideal S1x32x2048 .f32 from iblk m c 4 t) (ix3 0 r l)) ((show FVec Ideal S1x32x2048 .f32 from iblk m c 5 t) (ix3 0 r l)) := by
    pointwise [k0_pay4, k0_pay9, k0_pay7, k0_pay8, Cert.Hand.step, Cert.Hand.newM, Cert.Hand.newV]
    try rfl
  rw [h, blkW m c t 0 r l q hq, blkM m c t 0 r l q hq, blkU m c t 0 r l q hq, blkG m c t r l q hq]
  exact (ref9 (m ((c : Thread nD τ).loc main_arg5)) (m ((c : Thread nD τ).loc main_arg6)) (m ((c : Thread nD τ).loc main_arg7)) (m ((c : Thread nD τ).loc main_arg8)) (m ((c : Thread nD τ).loc main_arg10)) q l).symm

/-- The array of the step that the kernel leaves is the reference's. -/
theorem final9 (c : Dev nD) : (dats m 0 c).arrAt 9 cfg0.N
    = Cert.HostGradXRefIdeal.Read.val_main_v48 (F := Ideal) (m ((c : Thread nD τ).loc main_arg5)) (m ((c : Thread nD τ).loc main_arg6)) (m ((c : Thread nD τ).loc main_arg7)) (m ((c : Thread nD τ).loc main_arg8)) (m ((c : Thread nD τ).loc main_arg10)) := by
  refine ((dats m 0 c).arrAt_eq_of_coversWhere 9 (Cert.HostGradXRefIdeal.Read.val_main_v48 (F := Ideal) (m ((c : Thread nD τ).loc main_arg5)) (m ((c : Thread nD τ).loc main_arg6)) (m ((c : Thread nD τ).loc main_arg7)) (m ((c : Thread nD τ).loc main_arg8)) (m ((c : Thread nD τ).loc main_arg10)))
    (P := fun i : S2x2048x2048.Idx => (i 0 : ℕ) = 0) (fun β => β (0 : Fin _) = 0) (by decide +kernel) (fun t hf y => ?_)
    (fun j => by blk_simp [Pipeline.Window.cell_apply]; try omega)).trans ?_
  · blk_simp
    rw [after0_9, outs9]
    idx_vars y
    have hb : t.val * 32 + y1.val < 2048 := by have := t.isLt; have := y1.isLt; change t.val < 64 at *; omega
    refine (pay9 m c t y0 y1 y2 ⟨t.val * 32 + y1.val, hb⟩ rfl).trans (congrArg _ ?_)
    blk_ext [idxr t]
    all_goals omega
  · funext i
    show (if (i 0 : ℕ) = 0 then _ else _) = _
    split
    · rfl
    · next h =>
      idx_vars i
      obtain rfl : i0 = 1 := by omega
      show V m c main_v2_2 _ = _
      rw [entry9]
      exact (keep9 (m ((c : Thread nD τ).loc main_arg5)) (m ((c : Thread nD τ).loc main_arg6)) (m ((c : Thread nD τ).loc main_arg7)) (m ((c : Thread nD τ).loc main_arg8)) (m ((c : Thread nD τ).loc main_arg10)) i1 i2).symm

/-- What every point of the grid leaves of the first moment. -/
theorem outs10 (c : Dev nD) (t : Fin cfg0.N) : (outsAt0 m c t.val t.isLt).2.2.2.1 = k0_pay5 (F := Ideal) (k0_pay7 (F := Ideal) (iblk m c 4 t) (iblk m c 6 t)) := by
  by_cases h : t.val % 4 = 0
  · rw [outsAt0_A m c t h (by omega)]; frame_out
  · rw [outsAt0_B m c t h (by omega)]; frame_out

/-- What a point of the grid stores of the first moment. -/
theorem pay10 (c : Dev nD) (t : Fin cfg0.N) (z : Fin 1) (r : Fin 32) (l : Fin 2048) (q : Fin 2048) (hq : (q : ℕ) = t.val * 32 + r) :
    (k0_pay5 (F := Ideal) (k0_pay7 (F := Ideal) (iblk m c 4 t) (iblk m c 6 t))) (ix3 z r l) = Cert.HostGradXRefIdeal.Read.val_main_v53 (F := Ideal) (m ((c : Thread nD τ).loc main_arg6)) (m ((c : Thread nD τ).loc main_arg8)) (m ((c : Thread nD τ).loc main_arg11)) (ix3 0 q l) := by
  obtain rfl : z = 0 := Subsingleton.elim _ _
  have h : (k0_pay5 (F := Ideal) (k0_pay7 (F := Ideal) (iblk m c 4 t) (iblk m c 6 t))) (ix3 0 r l) = Cert.Hand.newM ((show FVec Ideal S32x2048 .f32 from iblk m c 6 t) (ix2 r l)) ((show FVec Ideal S1x32x2048 .f32 from iblk m c 4 t) (ix3 0 r l)) := by
    pointwise [k0_pay5, k0_pay7, Cert.Hand.step, Cert.Hand.newM, Cert.Hand.newV]
    try rfl
  rw [h, blkM m c t 0 r l q hq, blkG m c t r l q hq]
  exact (ref10 (m ((c : Thread nD τ).loc main_arg5)) (m ((c : Thread nD τ).loc main_arg6)) (m ((c : Thread nD τ).loc main_arg7)) (m ((c : Thread nD τ).loc main_arg8)) (m ((c : Thread nD τ).loc main_arg11)) q l).symm

/-- The array of the first moment that the kernel leaves is the reference's. -/
theorem final10 (c : Dev nD) : (dats m 0 c).arrAt 10 cfg0.N
    = Cert.HostGradXRefIdeal.Read.val_main_v53 (F := Ideal) (m ((c : Thread nD τ).loc main_arg6)) (m ((c : Thread nD τ).loc main_arg8)) (m ((c : Thread nD τ).loc main_arg11)) := by
  refine ((dats m 0 c).arrAt_eq_of_coversWhere 10 (Cert.HostGradXRefIdeal.Read.val_main_v53 (F := Ideal) (m ((c : Thread nD τ).loc main_arg6)) (m ((c : Thread nD τ).loc main_arg8)) (m ((c : Thread nD τ).loc main_arg11)))
    (P := fun i : S2x2048x2048.Idx => (i 0 : ℕ) = 0) (fun β => β (0 : Fin _) = 0) (by decide +kernel) (fun t hf y => ?_)
    (fun j => by blk_simp [Pipeline.Window.cell_apply]; try omega)).trans ?_
  · blk_simp
    rw [after0_10, outs10]
    idx_vars y
    have hb : t.val * 32 + y1.val < 2048 := by have := t.isLt; have := y1.isLt; change t.val < 64 at *; omega
    refine (pay10 m c t y0 y1 y2 ⟨t.val * 32 + y1.val, hb⟩ rfl).trans (congrArg _ ?_)
    blk_ext [idxr t]
    all_goals omega
  · funext i
    show (if (i 0 : ℕ) = 0 then _ else _) = _
    split
    · rfl
    · next h =>
      idx_vars i
      obtain rfl : i0 = 1 := by omega
      show V m c main_v2_3 _ = _
      rw [entry10]
      exact (keep10 (m ((c : Thread nD τ).loc main_arg5)) (m ((c : Thread nD τ).loc main_arg6)) (m ((c : Thread nD τ).loc main_arg7)) (m ((c : Thread nD τ).loc main_arg8)) (m ((c : Thread nD τ).loc main_arg11)) i1 i2).symm

/-- What every point of the grid leaves of the second moment. -/
theorem outs11 (c : Dev nD) (t : Fin cfg0.N) : (outsAt0 m c t.val t.isLt).2.2.2.2 = k0_pay6 (F := Ideal) (k0_pay8 (F := Ideal) (iblk m c 5 t) (iblk m c 6 t)) := by
  by_cases h : t.val % 4 = 0
  · rw [outsAt0_A m c t h (by omega)]; frame_out
  · rw [outsAt0_B m c t h (by omega)]; frame_out

/-- What a point of the grid stores of the second moment. -/
theorem pay11 (c : Dev nD) (t : Fin cfg0.N) (z : Fin 1) (r : Fin 32) (l : Fin 2048) (q : Fin 2048) (hq : (q : ℕ) = t.val * 32 + r) :
    (k0_pay6 (F := Ideal) (k0_pay8 (F := Ideal) (iblk m c 5 t) (iblk m c 6 t))) (ix3 z r l) = Cert.HostGradXRefIdeal.Read.val_main_v58 (F := Ideal) (m ((c : Thread nD τ).loc main_arg7)) (m ((c : Thread nD τ).loc main_arg8)) (m ((c : Thread nD τ).loc main_arg12)) (ix3 0 q l) := by
  obtain rfl : z = 0 := Subsingleton.elim _ _
  have h : (k0_pay6 (F := Ideal) (k0_pay8 (F := Ideal) (iblk m c 5 t) (iblk m c 6 t))) (ix3 0 r l) = Cert.Hand.newV ((show FVec Ideal S32x2048 .f32 from iblk m c 6 t) (ix2 r l)) ((show FVec Ideal S1x32x2048 .f32 from iblk m c 5 t) (ix3 0 r l)) := by
    pointwise [k0_pay6, k0_pay8, Cert.Hand.step, Cert.Hand.newM, Cert.Hand.newV]
    try rfl
  rw [h, blkU m c t 0 r l q hq, blkG m c t r l q hq]
  exact (ref11 (m ((c : Thread nD τ).loc main_arg5)) (m ((c : Thread nD τ).loc main_arg6)) (m ((c : Thread nD τ).loc main_arg7)) (m ((c : Thread nD τ).loc main_arg8)) (m ((c : Thread nD τ).loc main_arg12)) q l).symm

/-- The array of the second moment that the kernel leaves is the reference's. -/
theorem final11 (c : Dev nD) : (dats m 0 c).arrAt 11 cfg0.N
    = Cert.HostGradXRefIdeal.Read.val_main_v58 (F := Ideal) (m ((c : Thread nD τ).loc main_arg7)) (m ((c : Thread nD τ).loc main_arg8)) (m ((c : Thread nD τ).loc main_arg12)) := by
  refine ((dats m 0 c).arrAt_eq_of_coversWhere 11 (Cert.HostGradXRefIdeal.Read.val_main_v58 (F := Ideal) (m ((c : Thread nD τ).loc main_arg7)) (m ((c : Thread nD τ).loc main_arg8)) (m ((c : Thread nD τ).loc main_arg12)))
    (P := fun i : S2x2048x2048.Idx => (i 0 : ℕ) = 0) (fun β => β (0 : Fin _) = 0) (by decide +kernel) (fun t hf y => ?_)
    (fun j => by blk_simp [Pipeline.Window.cell_apply]; try omega)).trans ?_
  · blk_simp
    rw [after0_11, outs11]
    idx_vars y
    have hb : t.val * 32 + y1.val < 2048 := by have := t.isLt; have := y1.isLt; change t.val < 64 at *; omega
    refine (pay11 m c t y0 y1 y2 ⟨t.val * 32 + y1.val, hb⟩ rfl).trans (congrArg _ ?_)
    blk_ext [idxr t]
    all_goals omega
  · funext i
    show (if (i 0 : ℕ) = 0 then _ else _) = _
    split
    · rfl
    · next h =>
      idx_vars i
      obtain rfl : i0 = 1 := by omega
      show V m c main_v2_4 _ = _
      rw [entry11]
      exact (keep11 (m ((c : Thread nD τ).loc main_arg5)) (m ((c : Thread nD τ).loc main_arg6)) (m ((c : Thread nD τ).loc main_arg7)) (m ((c : Thread nD τ).loc main_arg8)) (m ((c : Thread nD τ).loc main_arg12)) i1 i2).symm

/-- Which block each window holds at each point of the grid. -/
theorem idx : ∀ t : Fin cfg0.N, win0_0.index t = ![t.val / 4, t.val % 4] ∧ win0_1.index t = ![t.val % 4, 0, 0]
    ∧ win0_2.index t = ![t.val / 4, 0] ∧ win0_7.index t = ![t.val / 4, 0] :=
  (by decide +kernel : ∀ t : Fin grid0.N, _)

/-- The weights the host code prepares: their columns cut into four shards. -/
theorem entry_v1 (c : Dev nD) : V m c main_v1
    = transpose S4x2048x896 [1, 0, 2] (shapeCast S2048x4x896 (show FVec Ideal S2048x3584 .bf16 from m ((c : Thread nD τ).loc main_arg1))
        shapeCasts_S2048x3584_S2048x4x896) transposes_S2048x4x896_S4x2048x896_1_0_2 := by
  unfold V; after_results; try rfl

/-- A shard's block, at an index of the weights. -/
theorem blkw (c : Dev nD) (t : Fin cfg0.N) (z : Fin 1) (r : Fin 2048) (k : Fin 896) (q : Fin 3584)
    (hq : (q : ℕ) = t.val % 4 * 896 + k) :
    (show FVec Ideal S1x2048x896 .bf16 from iblk m c 1 t) (ix3 z r k)
      = (show FVec Ideal S2048x3584 .bf16 from m ((c : Thread nD τ).loc main_arg1)) (ix2 r q) := by
  have e : ((cfg0.win 1).blk t).view.emb (ix3 z r k : S1x2048x896.Idx)
      = (ix3 (⟨t.val % 4, Nat.mod_lt _ (by decide)⟩ : Fin 4) r k : S4x2048x896.Idx) := by blk_ext [idx t]
  have hb : t.val % 4 * 896 + k.val < 3584 := hq ▸ q.isLt
  obtain e2 : q = ⟨t.val % 4 * 896 + k, hb⟩ := Fin.ext hq
  show V m c main_v1 _ = _; rw [e, entry_v1, e2]; pointwise

/-- The result the kernel leaves is the reference's array. -/
theorem final (c : Dev nD) : (dats m 0 c).arrAt 7 cfg0.N
    = Cert.HostGradXRefIdeal.Read.val_main_v8 (F := Ideal) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7, Cert.Hand.sum_of_run (fun n h => (outsAt0 m c n h).1) 4
    (fun t j => Ideal.ofBits .f32 0x3FB504F3#32 * (show FVec Ideal S512x2048 .f32 from iblk m c 2 t) j)
    (fun t j => k0_pay1 (F := Ideal) (iblk m c 0 t) (iblk m c 1 t) j)
    (fun t h j => by rw [outsAt0_A m c t h (by omega)]; frame_out; rw [add_comm (_ * _)]; pointwise [k0_pay2])
    (fun t h j => by rw [outsAt0_B m c t h (by omega)]; frame_out; pointwise [k0_pay3])
    t ((flush0_7 t).mp hf) _]
  idx_vars y
  refine Eq.trans ?_ (congrArg _ (eq_ix2 _)).symm
  refine Eq.trans ?_ (ref _ _ _ _ _).symm
  refine congrArg₂ (· + ·) ?_ ?_
  · blk_point [iblk, V, idx t, idx ⟨_, Pipeline.run_point_lt_of_flush t ((flush0_7 t).mp hf) 0⟩]
  refine Eq.trans (Fin.sum_fin_congr fun s => pay _ _ y0 y1) ?_
  refine Fin.sum_mul_add_congr fun s k hl => ?_
  refine congrArg₂ (· * ·) ?_ ((blkw m c _ 0 y1 k ⟨s.val * 896 + k.val, hl⟩ ?_).trans (congrArg _ ?_))
  · blk_point [iblk, V, idx t, idx ⟨_, Pipeline.run_point_lt_of_flush t ((flush0_7 t).mp hf) s⟩]
  · have := s.isLt; dsimp only; omega
  · blk_ext [idx t]

end Cert.HostGradXIdeal.Hand

end
-- ==== Proof.HostGradX.Claim.lean ====
module

public import proofs.«01_k».proof.Defs
public import proofs.«01_k».proof.Proof.Gen.HostGradXRefIdeal.Run
public import proofs.«01_k».proof.Proof.HostGradX.Value

@[expose] public section

noncomputable section

namespace Cert.HostGradXIdeal.Hand

open Idealize.ShloMosaic Idealize.SL.Sem

/-- The reference ends with its arguments kept and every semaphore at zero. -/
theorem frame_ref : Cert.quiescent_HostGradXRefIdeal := fun m ρ _ =>
  (θ_run Cert.HostGradXRefIdeal.defs _ _).mono (fun r h => ⟨fun c => (h c).2.2.2.2.2,
    Idealize.ShloMosaic.sem_eq_zero_of_no_sems (by decide) r.2⟩) (Cert.HostGradXRefIdeal.Value.run m ρ)

/-- On equal arguments the kernel and the reference end with equal results. -/
theorem algebraic : Cert.algebraic_HostGradXIdeal_HostGradXRefIdeal := by
  intro m g m' g' _ hagree
  refine ⟨_, _, _, _, _, (θ_run _ _ _).mono (fun r h c => ⟨(h c).1.trans (Cert.HostGradXIdeal.Hand.final m c), (h c).2.1.trans (Cert.HostGradXIdeal.Hand.final8 m c), (h c).2.2.1.trans (Cert.HostGradXIdeal.Hand.final9 m c), (h c).2.2.2.1.trans (Cert.HostGradXIdeal.Hand.final10 m c), (h c).2.2.2.2.1.trans (Cert.HostGradXIdeal.Hand.final11 m c), (h c).2.2.2.2.2⟩)
      (Cert.HostGradXIdeal.Value.run_blocks m g),
    (θ_run _ _ _).mono (fun r h c => ⟨?_, ?_, ?_, ?_, ?_, (h c).2.2.2.2.2⟩) (Cert.HostGradXRefIdeal.Value.run m' g')⟩
  · refine (h c).1.trans ?_
    rw [(hagree c).2.1, (hagree c).2.2.1, (hagree c).2.2.2.1]
    exact Cert.HostGradXRefIdeal.Read.val_main_v8_eq _ _ _
  · refine (h c).2.1.trans ?_
    rw [(hagree c).2.2.2.2.2.2.2.2.1, (hagree c).2.2.2.2.2.2.2.2.2.1]
    exact Cert.HostGradXRefIdeal.Read.val_main_v43_eq _ _
  · refine (h c).2.2.1.trans ?_
    rw [(hagree c).2.2.2.2.2.1, (hagree c).2.2.2.2.2.2.1, (hagree c).2.2.2.2.2.2.2.1, (hagree c).2.2.2.2.2.2.2.2.1, (hagree c).2.2.2.2.2.2.2.2.2.2.1]
    exact Cert.HostGradXRefIdeal.Read.val_main_v48_eq _ _ _ _ _
  · refine (h c).2.2.2.1.trans ?_
    rw [(hagree c).2.2.2.2.2.2.1, (hagree c).2.2.2.2.2.2.2.2.1, (hagree c).2.2.2.2.2.2.2.2.2.2.2.1]
    exact Cert.HostGradXRefIdeal.Read.val_main_v53_eq _ _ _
  · refine (h c).2.2.2.2.1.trans ?_
    rw [(hagree c).2.2.2.2.2.2.2.1, (hagree c).2.2.2.2.2.2.2.2.1, (hagree c).2.2.2.2.2.2.2.2.2.2.2.2]
    exact Cert.HostGradXRefIdeal.Read.val_main_v58_eq _ _ _

end Cert.HostGradXIdeal.Hand

end
-- ==== Proof.HostProj.Value.lean ====
module

public import proofs.«01_k».proof.Proof.Gen.HostProjIdeal.Value
public import proofs.«01_k».proof.Proof.Gen.HostProjRefIdeal.Read
public import Idealize.ShloMosaic.Lib.Pipeline.ValueKit
public import proofs.«01_k».proof.Proof.Shared.Adam

@[expose] public section

set_option maxRecDepth 16384

noncomputable section

namespace Cert.HostProjIdeal.Hand

open Idealize.ShloMosaic Idealize.ShloMosaic.TcCoe Idealize.SL.Sem
open Idealize.ShloMosaic.Pipeline (Dat)
open Cert.HostProjIdeal Cert.HostProjIdeal.Gen

/-- The reference's entry: the sum over all columns of the product of a gradient and a weight entry. -/
theorem ref (W : FVec Ideal S2048x3584 .bf16) (D : FVec Ideal S8192x3584 .bf16) (r : Fin 8192) (l : Fin 2048) :
    Cert.HostProjRefIdeal.Read.val_main_v3 (F := Ideal) W D (ix2 r l)
      = ∑ k : Fin 3584, D (ix2 r k) * W (ix2 l k) := by
  rw [← Cert.HostProjRefIdeal.Read.val_main_v3_eq]
  pointwise

/-- One shard's contribution to a tile. -/
theorem pay (A : FVec Ideal S1024x896 .bf16) (B : FVec Ideal S1x2048x896 .bf16) (r : Fin 1024) (l : Fin 2048) :
    k0_pay1 (F := Ideal) A B (ix2 r l) = ∑ k : Fin 896, A (ix2 r k) * B (ix3 (0 : Fin 1) l k) := by
  pointwise [k0_pay1]

/-- The reference's gradient. -/
theorem ref7 (W M U : FVec Ideal S2x2048x2048 .f32) (G : FVec Ideal S2048x2048 .f32) (r : Fin 2048) (l : Fin 2048) (z : Fin 2) :
    Cert.HostProjRefIdeal.Read.val_main_v34 (F := Ideal) G (ix3 z r l) = G (ix2 r l) := by
  rw [← Cert.HostProjRefIdeal.Read.val_main_v34_eq]
  pointwise [Cert.Hand.step, Cert.Hand.newM, Cert.Hand.newV]
  try rfl

/-- The reference's step. -/
theorem ref8 (W M U : FVec Ideal S2x2048x2048 .f32) (G : FVec Ideal S2048x2048 .f32) (r : Fin 2048) (l : Fin 2048) (z : Fin 2) :
    Cert.HostProjRefIdeal.Read.val_main_v35 (F := Ideal) W M U G (ix3 z r l) = Cert.Hand.step (W (ix3 1 r l)) (G (ix2 r l)) (M (ix3 1 r l)) (U (ix3 1 r l)) := by
  rw [← Cert.HostProjRefIdeal.Read.val_main_v35_eq]
  pointwise [Cert.Hand.step, Cert.Hand.newM, Cert.Hand.newV]
  try rfl

/-- The reference's first moment. -/
theorem ref9 (W M U : FVec Ideal S2x2048x2048 .f32) (G : FVec Ideal S2048x2048 .f32) (r : Fin 2048) (l : Fin 2048) (z : Fin 2) :
    Cert.HostProjRefIdeal.Read.val_main_v36 (F := Ideal) M G (ix3 z r l) = Cert.Hand.newM (G (ix2 r l)) (M (ix3 1 r l)) := by
  rw [← Cert.HostProjRefIdeal.Read.val_main_v36_eq]
  pointwise [Cert.Hand.step, Cert.Hand.newM, Cert.Hand.newV]
  try rfl

/-- The reference's second moment. -/
theorem ref10 (W M U : FVec Ideal S2x2048x2048 .f32) (G : FVec Ideal S2048x2048 .f32) (r : Fin 2048) (l : Fin 2048) (z : Fin 2) :
    Cert.HostProjRefIdeal.Read.val_main_v37 (F := Ideal) U G (ix3 z r l) = Cert.Hand.newV (G (ix2 r l)) (U (ix3 1 r l)) := by
  rw [← Cert.HostProjRefIdeal.Read.val_main_v37_eq]
  pointwise [Cert.Hand.step, Cert.Hand.newM, Cert.Hand.newV]
  try rfl

variable (m : (ℓ : Loc nD τ sig) → Buf (Elt Ideal) ℓ)

/-- Which block of the optimiser's arrays each window holds at each point of the grid. -/
theorem idxr : ∀ t : Fin cfg0.N, win0_2.index t = ![1, t.val, 0] ∧ win0_3.index t = ![1, t.val, 0] ∧ win0_4.index t = ![1, t.val, 0]
    ∧ win0_5.index t = ![t.val, 0] ∧ win0_7.index t = ![1, t.val, 0] ∧ win0_8.index t = ![1, t.val, 0] ∧ win0_9.index t = ![1, t.val, 0] ∧ win0_10.index t = ![1, t.val, 0] :=
  (by decide +kernel : ∀ t : Fin grid0.N, _)

/-- The block of operand 2, at an index of the array. -/
theorem blkW (c : Dev nD) (t : Fin cfg0.N) (z : Fin 1) (r : Fin 64) (l : Fin 2048) (q : Fin 2048) (hq : (q : ℕ) = t.val * 64 + r) :
    (show FVec Ideal S1x64x2048 .f32 from iblk m c 2 t) (ix3 z r l)
      = (show FVec Ideal S2x2048x2048 .f32 from m ((c : Thread nD τ).loc main_arg4)) (ix3 1 q l) := by
  have e : ((cfg0.win 2).blk t).view.emb (ix3 z r l : S1x64x2048.Idx) = (ix3 (1 : Fin 2) q l : S2x2048x2048.Idx) := by
    blk_ext [idxr t]
    all_goals omega
  rw [← e]; blk_point [iblk, V, idxr t]

/-- The block of operand 3, at an index of the array. -/
theorem blkM (c : Dev nD) (t : Fin cfg0.N) (z : Fin 1) (r : Fin 64) (l : Fin 2048) (q : Fin 2048) (hq : (q : ℕ) = t.val * 64 + r) :
    (show FVec Ideal S1x64x2048 .f32 from iblk m c 3 t) (ix3 z r l)
      = (show FVec Ideal S2x2048x2048 .f32 from m ((c : Thread nD τ).loc main_arg5)) (ix3 1 q l) := by
  have e : ((cfg0.win 3).blk t).view.emb (ix3 z r l : S1x64x2048.Idx) = (ix3 (1 : Fin 2) q l : S2x2048x2048.Idx) := by
    blk_ext [idxr t]
    all_goals omega
  rw [← e]; blk_point [iblk, V, idxr t]

/-- The block of operand 4, at an index of the array. -/
theorem blkU (c : Dev nD) (t : Fin cfg0.N) (z : Fin 1) (r : Fin 64) (l : Fin 2048) (q : Fin 2048) (hq : (q : ℕ) = t.val * 64 + r) :
    (show FVec Ideal S1x64x2048 .f32 from iblk m c 4 t) (ix3 z r l)
      = (show FVec Ideal S2x2048x2048 .f32 from m ((c : Thread nD τ).loc main_arg6)) (ix3 1 q l) := by
  have e : ((cfg0.win 4).blk t).view.emb (ix3 z r l : S1x64x2048.Idx) = (ix3 (1 : Fin 2) q l : S2x2048x2048.Idx) := by
    blk_ext [idxr t]
    all_goals omega
  rw [← e]; blk_point [iblk, V, idxr t]

/-- The block of the gradient, at an index of the array. -/
theorem blkG (c : Dev nD) (t : Fin cfg0.N) (r : Fin 64) (l : Fin 2048) (q : Fin 2048) (hq : (q : ℕ) = t.val * 64 + r) :
    (show FVec Ideal S64x2048 .f32 from iblk m c 5 t) (ix2 r l)
      = (show FVec Ideal S2048x2048 .f32 from m ((c : Thread nD τ).loc main_arg7)) (ix2 q l) := by
  have e : ((cfg0.win 5).blk t).view.emb (ix2 r l : S64x2048.Idx) = (ix2 q l : S2048x2048.Idx) := by
    blk_ext [idxr t]
    all_goals omega
  rw [← e]; blk_point [iblk, V, idxr t]

/-- What every point of the grid leaves of the gradient. -/
theorem outs7 (c : Dev nD) (t : Fin cfg0.N) : (outsAt0 m c t.val t.isLt).2.1 = k0_pay9 (F := Ideal) (iblk m c 5 t) := by
  by_cases h : t.val % 4 = 0
  · rw [outsAt0_A m c t h (by omega)]; frame_out
  · rw [outsAt0_B m c t h (by omega)]; frame_out

/-- What a point of the grid stores of the gradient. -/
theorem pay7 (c : Dev nD) (t : Fin cfg0.N) (z : Fin 1) (r : Fin 64) (l : Fin 2048) (q : Fin 2048) (hq : (q : ℕ) = t.val * 64 + r) :
    (k0_pay9 (F := Ideal) (iblk m c 5 t)) (ix3 z r l) = Cert.HostProjRefIdeal.Read.val_main_v34 (F := Ideal) (m ((c : Thread nD τ).loc main_arg7)) (ix3 1 q l) := by
  obtain rfl : z = 0 := Subsingleton.elim _ _
  have h : (k0_pay9 (F := Ideal) (iblk m c 5 t)) (ix3 0 r l) = (show FVec Ideal S64x2048 .f32 from iblk m c 5 t) (ix2 r l) := by
    pointwise [k0_pay9, Cert.Hand.step, Cert.Hand.newM, Cert.Hand.newV]
    try rfl
  rw [h, blkG m c t r l q hq]
  exact (ref7 (m ((c : Thread nD τ).loc main_arg4)) (m ((c : Thread nD τ).loc main_arg5)) (m ((c : Thread nD τ).loc main_arg6)) (m ((c : Thread nD τ).loc main_arg7)) q l 1).symm

/-- On its own layer the array of the gradient that the kernel leaves is the reference's. -/
theorem final7 (c : Dev nD) (i : S2x2048x2048.Idx) (hi : (i 0 : ℕ) = 1) : (dats m 0 c).arrAt 7 cfg0.N i
    = Cert.HostProjRefIdeal.Read.val_main_v34 (F := Ideal) (m ((c : Thread nD τ).loc main_arg7)) i := by
  refine (congrFun ((dats m 0 c).arrAt_eq_of_coversWhere 7 (Cert.HostProjRefIdeal.Read.val_main_v34 (F := Ideal) (m ((c : Thread nD τ).loc main_arg7)))
    (P := fun i : S2x2048x2048.Idx => (i 0 : ℕ) = 1) (fun β => β (0 : Fin _) = 1) (by decide +kernel) (fun t hf y => ?_)
    (fun j => by blk_simp [Pipeline.Window.cell_apply]; try omega)) i).trans ?_
  · blk_simp
    rw [after0_7, outs7]
    idx_vars y
    have hb : t.val * 64 + y1.val < 2048 := by have := t.isLt; have := y1.isLt; change t.val < 32 at *; omega
    refine (pay7 m c t y0 y1 y2 ⟨t.val * 64 + y1.val, hb⟩ rfl).trans (congrArg _ ?_)
    blk_ext [idxr t]
    all_goals omega
  · show (if (i 0 : ℕ) = 1 then _ else _) = _
    exact if_pos hi

/-- What every point of the grid leaves of the step. -/
theorem outs8 (c : Dev nD) (t : Fin cfg0.N) : (outsAt0 m c t.val t.isLt).2.2.1 = k0_pay3 (F := Ideal) (k0_pay8 (F := Ideal) (iblk m c 2 t) (iblk m c 3 t) (iblk m c 4 t) (iblk m c 5 t)) := by
  by_cases h : t.val % 4 = 0
  · rw [outsAt0_A m c t h (by omega)]; frame_out
  · rw [outsAt0_B m c t h (by omega)]; frame_out

/-- What a point of the grid stores of the step. -/
theorem pay8 (c : Dev nD) (t : Fin cfg0.N) (z : Fin 1) (r : Fin 64) (l : Fin 2048) (q : Fin 2048) (hq : (q : ℕ) = t.val * 64 + r) :
    (k0_pay3 (F := Ideal) (k0_pay8 (F := Ideal) (iblk m c 2 t) (iblk m c 3 t) (iblk m c 4 t) (iblk m c 5 t))) (ix3 z r l) = Cert.HostProjRefIdeal.Read.val_main_v35 (F := Ideal) (m ((c : Thread nD τ).loc main_arg4)) (m ((c : Thread nD τ).loc main_arg5)) (m ((c : Thread nD τ).loc main_arg6)) (m ((c : Thread nD τ).loc main_arg7)) (ix3 1 q l) := by
  obtain rfl : z = 0 := Subsingleton.elim _ _
  have h : (k0_pay3 (F := Ideal) (k0_pay8 (F := Ideal) (iblk m c 2 t) (iblk m c 3 t) (iblk m c 4 t) (iblk m c 5 t))) (ix3 0 r l) = Cert.Hand.step ((show FVec Ideal S1x64x2048 .f32 from iblk m c 2 t) (ix3 0 r l)) ((show FVec Ideal S64x2048 .f32 from iblk m c 5 t) (ix2 r l)) ((show FVec Ideal S1x64x2048 .f32 from iblk m c 3 t) (ix3 0 r l)) ((show FVec Ideal S1x64x2048 .f32 from iblk m c 4 t) (ix3 0 r l)) := by
    pointwise [k0_pay3, k0_pay8, k0_pay6, k0_pay7, Cert.Hand.step, Cert.Hand.newM, Cert.Hand.newV]
    try rfl
  rw [h, blkW m c t 0 r l q hq, blkM m c t 0 r l q hq, blkU m c t 0 r l q hq, blkG m c t r l q hq]
  exact (ref8 (m ((c : Thread nD τ).loc main_arg4)) (m ((c : Thread nD τ).loc main_arg5)) (m ((c : Thread nD τ).loc main_arg6)) (m ((c : Thread nD τ).loc main_arg7)) q l 1).symm

/-- On its own layer the array of the step that the kernel leaves is the reference's. -/
theorem final8 (c : Dev nD) (i : S2x2048x2048.Idx) (hi : (i 0 : ℕ) = 1) : (dats m 0 c).arrAt 8 cfg0.N i
    = Cert.HostProjRefIdeal.Read.val_main_v35 (F := Ideal) (m ((c : Thread nD τ).loc main_arg4)) (m ((c : Thread nD τ).loc main_arg5)) (m ((c : Thread nD τ).loc main_arg6)) (m ((c : Thread nD τ).loc main_arg7)) i := by
  refine (congrFun ((dats m 0 c).arrAt_eq_of_coversWhere 8 (Cert.HostProjRefIdeal.Read.val_main_v35 (F := Ideal) (m ((c : Thread nD τ).loc main_arg4)) (m ((c : Thread nD τ).loc main_arg5)) (m ((c : Thread nD τ).loc main_arg6)) (m ((c : Thread nD τ).loc main_arg7)))
    (P := fun i : S2x2048x2048.Idx => (i 0 : ℕ) = 1) (fun β => β (0 : Fin _) = 1) (by decide +kernel) (fun t hf y => ?_)
    (fun j => by blk_simp [Pipeline.Window.cell_apply]; try omega)) i).trans ?_
  · blk_simp
    rw [after0_8, outs8]
    idx_vars y
    have hb : t.val * 64 + y1.val < 2048 := by have := t.isLt; have := y1.isLt; change t.val < 32 at *; omega
    refine (pay8 m c t y0 y1 y2 ⟨t.val * 64 + y1.val, hb⟩ rfl).trans (congrArg _ ?_)
    blk_ext [idxr t]
    all_goals omega
  · show (if (i 0 : ℕ) = 1 then _ else _) = _
    exact if_pos hi

/-- What every point of the grid leaves of the first moment. -/
theorem outs9 (c : Dev nD) (t : Fin cfg0.N) : (outsAt0 m c t.val t.isLt).2.2.2.1 = k0_pay4 (F := Ideal) (k0_pay6 (F := Ideal) (iblk m c 3 t) (iblk m c 5 t)) := by
  by_cases h : t.val % 4 = 0
  · rw [outsAt0_A m c t h (by omega)]; frame_out
  · rw [outsAt0_B m c t h (by omega)]; frame_out

/-- What a point of the grid stores of the first moment. -/
theorem pay9 (c : Dev nD) (t : Fin cfg0.N) (z : Fin 1) (r : Fin 64) (l : Fin 2048) (q : Fin 2048) (hq : (q : ℕ) = t.val * 64 + r) :
    (k0_pay4 (F := Ideal) (k0_pay6 (F := Ideal) (iblk m c 3 t) (iblk m c 5 t))) (ix3 z r l) = Cert.HostProjRefIdeal.Read.val_main_v36 (F := Ideal) (m ((c : Thread nD τ).loc main_arg5)) (m ((c : Thread nD τ).loc main_arg7)) (ix3 1 q l) := by
  obtain rfl : z = 0 := Subsingleton.elim _ _
  have h : (k0_pay4 (F := Ideal) (k0_pay6 (F := Ideal) (iblk m c 3 t) (iblk m c 5 t))) (ix3 0 r l) = Cert.Hand.newM ((show FVec Ideal S64x2048 .f32 from iblk m c 5 t) (ix2 r l)) ((show FVec Ideal S1x64x2048 .f32 from iblk m c 3 t) (ix3 0 r l)) := by
    pointwise [k0_pay4, k0_pay6, Cert.Hand.step, Cert.Hand.newM, Cert.Hand.newV]
    try rfl
  rw [h, blkM m c t 0 r l q hq, blkG m c t r l q hq]
  exact (ref9 (m ((c : Thread nD τ).loc main_arg4)) (m ((c : Thread nD τ).loc main_arg5)) (m ((c : Thread nD τ).loc main_arg6)) (m ((c : Thread nD τ).loc main_arg7)) q l 1).symm

/-- On its own layer the array of the first moment that the kernel leaves is the reference's. -/
theorem final9 (c : Dev nD) (i : S2x2048x2048.Idx) (hi : (i 0 : ℕ) = 1) : (dats m 0 c).arrAt 9 cfg0.N i
    = Cert.HostProjRefIdeal.Read.val_main_v36 (F := Ideal) (m ((c : Thread nD τ).loc main_arg5)) (m ((c : Thread nD τ).loc main_arg7)) i := by
  refine (congrFun ((dats m 0 c).arrAt_eq_of_coversWhere 9 (Cert.HostProjRefIdeal.Read.val_main_v36 (F := Ideal) (m ((c : Thread nD τ).loc main_arg5)) (m ((c : Thread nD τ).loc main_arg7)))
    (P := fun i : S2x2048x2048.Idx => (i 0 : ℕ) = 1) (fun β => β (0 : Fin _) = 1) (by decide +kernel) (fun t hf y => ?_)
    (fun j => by blk_simp [Pipeline.Window.cell_apply]; try omega)) i).trans ?_
  · blk_simp
    rw [after0_9, outs9]
    idx_vars y
    have hb : t.val * 64 + y1.val < 2048 := by have := t.isLt; have := y1.isLt; change t.val < 32 at *; omega
    refine (pay9 m c t y0 y1 y2 ⟨t.val * 64 + y1.val, hb⟩ rfl).trans (congrArg _ ?_)
    blk_ext [idxr t]
    all_goals omega
  · show (if (i 0 : ℕ) = 1 then _ else _) = _
    exact if_pos hi

/-- What every point of the grid leaves of the second moment. -/
theorem outs10 (c : Dev nD) (t : Fin cfg0.N) : (outsAt0 m c t.val t.isLt).2.2.2.2 = k0_pay5 (F := Ideal) (k0_pay7 (F := Ideal) (iblk m c 4 t) (iblk m c 5 t)) := by
  by_cases h : t.val % 4 = 0
  · rw [outsAt0_A m c t h (by omega)]; frame_out
  · rw [outsAt0_B m c t h (by omega)]; frame_out

/-- What a point of the grid stores of the second moment. -/
theorem pay10 (c : Dev nD) (t : Fin cfg0.N) (z : Fin 1) (r : Fin 64) (l : Fin 2048) (q : Fin 2048) (hq : (q : ℕ) = t.val * 64 + r) :
    (k0_pay5 (F := Ideal) (k0_pay7 (F := Ideal) (iblk m c 4 t) (iblk m c 5 t))) (ix3 z r l) = Cert.HostProjRefIdeal.Read.val_main_v37 (F := Ideal) (m ((c : Thread nD τ).loc main_arg6)) (m ((c : Thread nD τ).loc main_arg7)) (ix3 1 q l) := by
  obtain rfl : z = 0 := Subsingleton.elim _ _
  have h : (k0_pay5 (F := Ideal) (k0_pay7 (F := Ideal) (iblk m c 4 t) (iblk m c 5 t))) (ix3 0 r l) = Cert.Hand.newV ((show FVec Ideal S64x2048 .f32 from iblk m c 5 t) (ix2 r l)) ((show FVec Ideal S1x64x2048 .f32 from iblk m c 4 t) (ix3 0 r l)) := by
    pointwise [k0_pay5, k0_pay7, Cert.Hand.step, Cert.Hand.newM, Cert.Hand.newV]
    try rfl
  rw [h, blkU m c t 0 r l q hq, blkG m c t r l q hq]
  exact (ref10 (m ((c : Thread nD τ).loc main_arg4)) (m ((c : Thread nD τ).loc main_arg5)) (m ((c : Thread nD τ).loc main_arg6)) (m ((c : Thread nD τ).loc main_arg7)) q l 1).symm

/-- On its own layer the array of the second moment that the kernel leaves is the reference's. -/
theorem final10 (c : Dev nD) (i : S2x2048x2048.Idx) (hi : (i 0 : ℕ) = 1) : (dats m 0 c).arrAt 10 cfg0.N i
    = Cert.HostProjRefIdeal.Read.val_main_v37 (F := Ideal) (m ((c : Thread nD τ).loc main_arg6)) (m ((c : Thread nD τ).loc main_arg7)) i := by
  refine (congrFun ((dats m 0 c).arrAt_eq_of_coversWhere 10 (Cert.HostProjRefIdeal.Read.val_main_v37 (F := Ideal) (m ((c : Thread nD τ).loc main_arg6)) (m ((c : Thread nD τ).loc main_arg7)))
    (P := fun i : S2x2048x2048.Idx => (i 0 : ℕ) = 1) (fun β => β (0 : Fin _) = 1) (by decide +kernel) (fun t hf y => ?_)
    (fun j => by blk_simp [Pipeline.Window.cell_apply]; try omega)) i).trans ?_
  · blk_simp
    rw [after0_10, outs10]
    idx_vars y
    have hb : t.val * 64 + y1.val < 2048 := by have := t.isLt; have := y1.isLt; change t.val < 32 at *; omega
    refine (pay10 m c t y0 y1 y2 ⟨t.val * 64 + y1.val, hb⟩ rfl).trans (congrArg _ ?_)
    blk_ext [idxr t]
    all_goals omega
  · show (if (i 0 : ℕ) = 1 then _ else _) = _
    exact if_pos hi

/-- Which block each window holds at each point of the grid. -/
theorem idx : ∀ t : Fin cfg0.N, win0_0.index t = ![t.val / 4, t.val % 4] ∧ win0_1.index t = ![t.val % 4, 0, 0]
    ∧ win0_6.index t = ![t.val / 4, 0] :=
  (by decide +kernel : ∀ t : Fin grid0.N, _)

/-- The weights the host code prepares: their columns cut into four shards. -/
theorem entry_v1 (c : Dev nD) : V m c main_v1
    = transpose S4x2048x896 [1, 0, 2] (shapeCast S2048x4x896 (show FVec Ideal S2048x3584 .bf16 from m ((c : Thread nD τ).loc main_arg1))
        shapeCasts_S2048x3584_S2048x4x896) transposes_S2048x4x896_S4x2048x896_1_0_2 := by
  unfold V; after_results; try rfl

/-- A shard's block, at an index of the weights. -/
theorem blkw (c : Dev nD) (t : Fin cfg0.N) (z : Fin 1) (r : Fin 2048) (k : Fin 896) (q : Fin 3584)
    (hq : (q : ℕ) = t.val % 4 * 896 + k) :
    (show FVec Ideal S1x2048x896 .bf16 from iblk m c 1 t) (ix3 z r k)
      = (show FVec Ideal S2048x3584 .bf16 from m ((c : Thread nD τ).loc main_arg1)) (ix2 r q) := by
  have e : ((cfg0.win 1).blk t).view.emb (ix3 z r k : S1x2048x896.Idx)
      = (ix3 (⟨t.val % 4, Nat.mod_lt _ (by decide)⟩ : Fin 4) r k : S4x2048x896.Idx) := by blk_ext [idx t]
  have hb : t.val % 4 * 896 + k.val < 3584 := hq ▸ q.isLt
  obtain e2 : q = ⟨t.val % 4 * 896 + k, hb⟩ := Fin.ext hq
  show V m c main_v1 _ = _; rw [e, entry_v1, e2]; pointwise

/-- The result the kernel leaves is the reference's array. -/
theorem final (c : Dev nD) : (dats m 0 c).arrAt 6 cfg0.N
    = Cert.HostProjRefIdeal.Read.val_main_v3 (F := Ideal) (m ((c : Thread nD τ).loc main_arg1)) (m ((c : Thread nD τ).loc main_arg2)) := by
  refine (dats m 0 c).arrAt_eq_of_covers 6 _ (by decide +kernel) fun t hf y => ?_
  blk_simp
  rw [after0_6, Pipeline.eq_sum_fin_of_reset_step_apply_of_flush (fun n h => (outsAt0 m c n h).1) 4 (fun _ => 0) _
    (fun t h j => by rw [outsAt0_A m c t h (by omega)]; frame_out; rw [zero_add])
    (fun t h j => by rw [outsAt0_B m c t h (by omega)]; frame_out; pointwise [k0_pay2])
    t ((flush0_6 t).mp hf) _, zero_add]
  idx_vars y
  refine Eq.trans ?_ (congrArg _ (eq_ix2 _)).symm
  refine Eq.trans ?_ (ref _ _ _ _).symm
  refine Eq.trans (Fin.sum_fin_congr fun s => pay _ _ y0 y1) ?_
  refine Fin.sum_mul_add_congr fun s k hl => ?_
  refine congrArg₂ (· * ·) ?_ ((blkw m c _ 0 y1 k ⟨s.val * 896 + k.val, hl⟩ ?_).trans (congrArg _ ?_))
  · blk_point [iblk, V, idx t, idx ⟨_, Pipeline.run_point_lt_of_flush t ((flush0_6 t).mp hf) s⟩]
  · have := s.isLt; dsimp only; omega
  · blk_ext [idx t]

end Cert.HostProjIdeal.Hand

end
-- ==== Proof.HostProj.Claim.lean ====
module

public import proofs.«01_k».proof.Defs
public import proofs.«01_k».proof.Proof.Gen.On_host_proj_last
public import proofs.«01_k».proof.Proof.Gen.HostProjRefIdeal.Run
public import proofs.«01_k».proof.Proof.HostProj.Value

@[expose] public section

noncomputable section

namespace Cert.HostProjIdeal.Hand

open Idealize.ShloMosaic Idealize.ShloMosaic.TcCoe Idealize.SL.Sem
open Cert.HostProjIdeal Cert.HostProjIdeal.Gen

/-- The reference ends with its arguments kept and every semaphore at zero. -/
theorem frame_ref : Cert.quiescent_HostProjRefIdeal := fun m ρ _ =>
  (θ_run Cert.HostProjRefIdeal.defs _ _).mono (fun r h => ⟨fun c => (h c).2.2.2.2.2,
    Idealize.ShloMosaic.sem_eq_zero_of_no_sems (by decide) r.2⟩) (Cert.HostProjRefIdeal.Value.run m ρ)

/-- The mask is set on the last layer alone. -/
theorem last : ∀ r : ℕ, r < 2 → IntOp.cmpi .eq (BitVec.ofNat 32 r) 1#32 = 1#1 → r = 1 := by decide

/-- On equal arguments the kernel and the reference end with equal results, the optimiser's on its own layer. -/
theorem algebraic : Cert.algebraic_HostProjIdeal_HostProjRefIdeal_on_host_proj_last := by
  intro m g m' g' _ hagree
  refine ⟨fun c => Cert.HostProjRefIdeal.Read.val_main_v3 (F := Ideal) (m ((c : Thread nD τ).loc main_arg1)) (m ((c : Thread nD τ).loc main_arg2)), fun c => Cert.HostProjRefIdeal.Read.val_main_v34 (F := Ideal) (m ((c : Thread nD τ).loc main_arg7)), fun c => Cert.HostProjRefIdeal.Read.val_main_v35 (F := Ideal) (m ((c : Thread nD τ).loc main_arg4)) (m ((c : Thread nD τ).loc main_arg5)) (m ((c : Thread nD τ).loc main_arg6)) (m ((c : Thread nD τ).loc main_arg7)), fun c => Cert.HostProjRefIdeal.Read.val_main_v36 (F := Ideal) (m ((c : Thread nD τ).loc main_arg5)) (m ((c : Thread nD τ).loc main_arg7)), fun c => Cert.HostProjRefIdeal.Read.val_main_v37 (F := Ideal) (m ((c : Thread nD τ).loc main_arg6)) (m ((c : Thread nD τ).loc main_arg7)), ?_, ?_⟩
  · exact (θ_run _ _ _).mono (fun r h c => ⟨fun i _ => congrFun ((h c).1.trans (Cert.HostProjIdeal.Hand.final m c)) i, fun i hi => (congrFun (h c).2.1 i).trans (Cert.HostProjIdeal.Hand.final7 m c i (last _ (i 0).isLt hi)), fun i hi => (congrFun (h c).2.2.1 i).trans (Cert.HostProjIdeal.Hand.final8 m c i (last _ (i 0).isLt hi)), fun i hi => (congrFun (h c).2.2.2.1 i).trans (Cert.HostProjIdeal.Hand.final9 m c i (last _ (i 0).isLt hi)), fun i hi => (congrFun (h c).2.2.2.2.1 i).trans (Cert.HostProjIdeal.Hand.final10 m c i (last _ (i 0).isLt hi)), (h c).2.2.2.2.2⟩)
      (Cert.HostProjIdeal.Value.run_blocks m g)
  refine (θ_run _ _ _).mono (fun r h c => ⟨fun i _ => congrFun ?_ i, fun i _ => congrFun ?_ i, fun i _ => congrFun ?_ i, fun i _ => congrFun ?_ i, fun i _ => congrFun ?_ i, (h c).2.2.2.2.2⟩) (Cert.HostProjRefIdeal.Value.run m' g')
  · refine (h c).1.trans ?_
    rw [(hagree c).2.1, (hagree c).2.2.1]
    exact Cert.HostProjRefIdeal.Read.val_main_v3_eq _ _
  · refine (h c).2.1.trans ?_
    rw [(hagree c).2.2.2.2.2.2.2]
    exact Cert.HostProjRefIdeal.Read.val_main_v34_eq _
  · refine (h c).2.2.1.trans ?_
    rw [(hagree c).2.2.2.2.1, (hagree c).2.2.2.2.2.1, (hagree c).2.2.2.2.2.2.1, (hagree c).2.2.2.2.2.2.2]
    exact Cert.HostProjRefIdeal.Read.val_main_v35_eq _ _ _ _
  · refine (h c).2.2.2.1.trans ?_
    rw [(hagree c).2.2.2.2.2.1, (hagree c).2.2.2.2.2.2.2]
    exact Cert.HostProjRefIdeal.Read.val_main_v36_eq _ _
  · refine (h c).2.2.2.2.1.trans ?_
    rw [(hagree c).2.2.2.2.2.2.1, (hagree c).2.2.2.2.2.2.2]
    exact Cert.HostProjRefIdeal.Read.val_main_v37_eq _ _

end Cert.HostProjIdeal.Hand

end
-- ==== Proof.HostFf2.Value.lean ====
module

public import proofs.«01_k».proof.Proof.Gen.HostFf2Ideal.Value
public import proofs.«01_k».proof.Proof.Gen.HostFf2RefIdeal.Read
public import Idealize.ShloMosaic.Lib.Pipeline.ValueKit
public import proofs.«01_k».proof.Proof.Shared.Adam

@[expose] public section

set_option maxRecDepth 16384

noncomputable section

namespace Cert.HostFf2Ideal.Hand

open Idealize.ShloMosaic Idealize.ShloMosaic.TcCoe Idealize.SL.Sem
open Idealize.ShloMosaic.Pipeline (Dat)
open Cert.HostFf2Ideal Cert.HostFf2Ideal.Gen

/-- Where `x` is not positive the factor `max x 0` is zero, so the product may be left out there. -/
theorem relu_gate (s c x : EReal) : (if 0 < x then s * (c * max x 0) else 0) = s * (c * max x 0) := by
  split
  · rfl
  · next h => rw [max_eq_right (not_lt.mp h), mul_zero, mul_zero]

/-- The entry of the reference's first result: the gradient through the squared positive part. -/
theorem ref3 (X : FVec Ideal S8192x8192 .f32) (W D : FVec Ideal S8192x2048 .bf16) (r l : Fin 8192) :
    Cert.HostFf2RefIdeal.Read.val_main_v33 (F := Ideal) X W D (ix2 r l)
      = (∑ k : Fin 2048, D (ix2 r k) * W (ix2 l k)) * (Ideal.ofBits .f32 0x40000000#32 * max (X (ix2 r l)) 0) := by
  rw [← Cert.HostFf2RefIdeal.Read.val_main_v33_eq]
  pointwise
  exact relu_gate _ _ _

/-- What a point of the grid stores in the first output. -/
theorem pay3 (A B : FVec Ideal S1024x2048 .bf16) (Z : FVec Ideal S1024x1024 .bf16) (r l : Fin 1024) :
    k0_pay2 (F := Ideal) A B Z (ix2 r l)
      = (∑ k : Fin 2048, A (ix2 r k) * B (ix2 l k)) * (Ideal.ofBits .f32 0x40000000#32 * Z (ix2 r l)) := by
  pointwise [k0_pay2, k0_pay1]

/-- The entry of the reference's second result: the column sum of the first. -/
theorem ref4 (X : FVec Ideal S8192x8192 .f32) (W D : FVec Ideal S8192x2048 .bf16) (l : Fin 8192) :
    Cert.HostFf2RefIdeal.Read.val_main_v32 (F := Ideal) X W D (ix2 0 l)
      = ∑ r : Fin 8192, (∑ k : Fin 2048, D (ix2 r k) * W (ix2 l k)) * (Ideal.ofBits .f32 0x40000000#32 * max (X (ix2 r l)) 0) := by
  rw [← Cert.HostFf2RefIdeal.Read.val_main_v32_eq]
  pointwise
  exact Finset.sum_congr rfl fun r _ => relu_gate _ _ _

/-- What a point of the grid adds to the second output. -/
theorem pay4 (A B : FVec Ideal S1024x2048 .bf16) (Z : FVec Ideal S1024x1024 .bf16) (l : Fin 1024) :
    k0_pay3 (F := Ideal) A B Z (ix2 0 l)
      = ∑ r : Fin 1024, (∑ k : Fin 2048, A (ix2 r k) * B (ix2 l k)) * (Ideal.ofBits .f32 0x40000000#32 * Z (ix2 r l)) := by
  pointwise [k0_pay3, k0_pay1]

/-- The reference's gradient. -/
theorem ref9 (W M U : FVec Ideal S2x2048x2048 .f32) (G : FVec Ideal S2048x2048 .f32) (r : Fin 2048) (l : Fin 2048) (z : Fin 2) :
    Cert.HostFf2RefIdeal.Read.val_main_v64 (F := Ideal) G (ix3 z r l) = G (ix2 r l) := by
  rw [← Cert.HostFf2RefIdeal.Read.val_main_v64_eq]
  pointwise [Cert.Hand.step, Cert.Hand.newM, Cert.Hand.newV]
  try rfl

/-- The reference's step. -/
theorem ref10 (W M U : FVec Ideal S2x2048x2048 .f32) (G : FVec Ideal S2048x2048 .f32) (r : Fin 2048) (l : Fin 2048) (z : Fin 2) :
    Cert.HostFf2RefIdeal.Read.val_main_v65 (F := Ideal) W M U G (ix3 z r l) = Cert.Hand.step (W (ix3 1 r l)) (G (ix2 r l)) (M (ix3 1 r l)) (U (ix3 1 r l)) := by
  rw [← Cert.HostFf2RefIdeal.Read.val_main_v65_eq]
  pointwise [Cert.Hand.step, Cert.Hand.newM, Cert.Hand.newV]
  try rfl

/-- The reference's first moment. -/
theorem ref11 (W M U : FVec Ideal S2x2048x2048 .f32) (G : FVec Ideal S2048x2048 .f32) (r : Fin 2048) (l : Fin 2048) (z : Fin 2) :
    Cert.HostFf2RefIdeal.Read.val_main_v66 (F := Ideal) M G (ix3 z r l) = Cert.Hand.newM (G (ix2 r l)) (M (ix3 1 r l)) := by
  rw [← Cert.HostFf2RefIdeal.Read.val_main_v66_eq]
  pointwise [Cert.Hand.step, Cert.Hand.newM, Cert.Hand.newV]
  try rfl

/-- The reference's second moment. -/
theorem ref12 (W M U : FVec Ideal S2x2048x2048 .f32) (G : FVec Ideal S2048x2048 .f32) (r : Fin 2048) (l : Fin 2048) (z : Fin 2) :
    Cert.HostFf2RefIdeal.Read.val_main_v67 (F := Ideal) U G (ix3 z r l) = Cert.Hand.newV (G (ix2 r l)) (U (ix3 1 r l)) := by
  rw [← Cert.HostFf2RefIdeal.Read.val_main_v67_eq]
  pointwise [Cert.Hand.step, Cert.Hand.newM, Cert.Hand.newV]
  try rfl

variable (m : (ℓ : Loc nD τ sig) → Buf (Elt Ideal) ℓ)

/-- Which block of the optimiser's arrays each window holds at each point of the grid. -/
theorem idxr : ∀ t : Fin cfg0.N, win0_3.index t = ![1, t.val, 0] ∧ win0_4.index t = ![1, t.val, 0] ∧ win0_5.index t = ![1, t.val, 0]
    ∧ win0_6.index t = ![t.val, 0] ∧ win0_9.index t = ![1, t.val, 0] ∧ win0_10.index t = ![1, t.val, 0] ∧ win0_11.index t = ![1, t.val, 0] ∧ win0_12.index t = ![1, t.val, 0] :=
  (by decide +kernel : ∀ t : Fin grid0.N, _)

/-- The block of operand 3, at an index of the array. -/
theorem blkW (c : Dev nD) (t : Fin cfg0.N) (z : Fin 1) (r : Fin 32) (l : Fin 2048) (q : Fin 2048) (hq : (q : ℕ) = t.val * 32 + r) :
    (show FVec Ideal S1x32x2048 .f32 from iblk m c 3 t) (ix3 z r l)
      = (show FVec Ideal S2x2048x2048 .f32 from m ((c : Thread nD τ).loc main_arg3)) (ix3 1 q l) := by
  have e : ((cfg0.win 3).blk t).view.emb (ix3 z r l : S1x32x2048.Idx) = (ix3 (1 : Fin 2) q l : S2x2048x2048.Idx) := by
    blk_ext [idxr t]
    all_goals omega
  rw [← e]; blk_point [iblk, V, idxr t]

/-- The block of operand 4, at an index of the array. -/
theorem blkM (c : Dev nD) (t : Fin cfg0.N) (z : Fin 1) (r : Fin 32) (l : Fin 2048) (q : Fin 2048) (hq : (q : ℕ) = t.val * 32 + r) :
    (show FVec Ideal S1x32x2048 .f32 from iblk m c 4 t) (ix3 z r l)
      = (show FVec Ideal S2x2048x2048 .f32 from m ((c : Thread nD τ).loc main_arg4)) (ix3 1 q l) := by
  have e : ((cfg0.win 4).blk t).view.emb (ix3 z r l : S1x32x2048.Idx) = (ix3 (1 : Fin 2) q l : S2x2048x2048.Idx) := by
    blk_ext [idxr t]
    all_goals omega
  rw [← e]; blk_point [iblk, V, idxr t]

/-- The block of operand 5, at an index of the array. -/
theorem blkU (c : Dev nD) (t : Fin cfg0.N) (z : Fin 1) (r : Fin 32) (l : Fin 2048) (q : Fin 2048) (hq : (q : ℕ) = t.val * 32 + r) :
    (show FVec Ideal S1x32x2048 .f32 from iblk m c 5 t) (ix3 z r l)
      = (show FVec Ideal S2x2048x2048 .f32 from m ((c : Thread nD τ).loc main_arg5)) (ix3 1 q l) := by
  have e : ((cfg0.win 5).blk t).view.emb (ix3 z r l : S1x32x2048.Idx) = (ix3 (1 : Fin 2) q l : S2x2048x2048.Idx) := by
    blk_ext [idxr t]
    all_goals omega
  rw [← e]; blk_point [iblk, V, idxr t]

/-- The block of the gradient, at an index of the array. -/
theorem blkG (c : Dev nD) (t : Fin cfg0.N) (r : Fin 32) (l : Fin 2048) (q : Fin 2048) (hq : (q : ℕ) = t.val * 32 + r) :
    (show FVec Ideal S32x2048 .f32 from iblk m c 6 t) (ix2 r l)
      = (show FVec Ideal S2048x2048 .f32 from m ((c : Thread nD τ).loc main_arg6)) (ix2 q l) := by
  have e : ((cfg0.win 6).blk t).view.emb (ix2 r l : S32x2048.Idx) = (ix2 q l : S2048x2048.Idx) := by
    blk_ext [idxr t]
    all_goals omega
  rw [← e]; blk_point [iblk, V, idxr t]

/-- What every point of the grid leaves of the gradient. -/
theorem outs9 (c : Dev nD) (t : Fin cfg0.N) : (outsAt0 m c t.val t.isLt).2.2.1 = k0_pay11 (F := Ideal) (iblk m c 6 t) := by
  by_cases h : t.val % 8 = 0
  · rw [outsAt0_A m c t h (by omega)]; frame_out
  · rw [outsAt0_B m c t h (by omega)]; frame_out

/-- What a point of the grid stores of the gradient. -/
theorem pay9 (c : Dev nD) (t : Fin cfg0.N) (z : Fin 1) (r : Fin 32) (l : Fin 2048) (q : Fin 2048) (hq : (q : ℕ) = t.val * 32 + r) :
    (k0_pay11 (F := Ideal) (iblk m c 6 t)) (ix3 z r l) = Cert.HostFf2RefIdeal.Read.val_main_v64 (F := Ideal) (m ((c : Thread nD τ).loc main_arg6)) (ix3 1 q l) := by
  obtain rfl : z = 0 := Subsingleton.elim _ _
  have h : (k0_pay11 (F := Ideal) (iblk m c 6 t)) (ix3 0 r l) = (show FVec Ideal S32x2048 .f32 from iblk m c 6 t) (ix2 r l) := by
    pointwise [k0_pay11, Cert.Hand.step, Cert.Hand.newM, Cert.Hand.newV]
    try rfl
  rw [h, blkG m c t r l q hq]
  exact (ref9 (m ((c : Thread nD τ).loc main_arg3)) (m ((c : Thread nD τ).loc main_arg4)) (m ((c : Thread nD τ).loc main_arg5)) (m ((c : Thread nD τ).loc main_arg6)) q l 1).symm

/-- On its own layer the array of the gradient that the kernel leaves is the reference's. -/
theorem final9 (c : Dev nD) (i : S2x2048x2048.Idx) (hi : (i 0 : ℕ) = 1) : (dats m 0 c).arrAt 9 cfg0.N i
    = Cert.HostFf2RefIdeal.Read.val_main_v64 (F := Ideal) (m ((c : Thread nD τ).loc main_arg6)) i := by
  refine (congrFun ((dats m 0 c).arrAt_eq_of_coversWhere 9 (Cert.HostFf2RefIdeal.Read.val_main_v64 (F := Ideal) (m ((c : Thread nD τ).loc main_arg6)))
    (P := fun i : S2x2048x2048.Idx => (i 0 : ℕ) = 1) (fun β => β (0 : Fin _) = 1) (by decide +kernel) (fun t hf y => ?_)
    (fun j => by blk_simp [Pipeline.Window.cell_apply]; try omega)) i).trans ?_
  · blk_simp
    rw [after0_9, outs9]
    idx_vars y
    have hb : t.val * 32 + y1.val < 2048 := by have := t.isLt; have := y1.isLt; change t.val < 64 at *; omega
    refine (pay9 m c t y0 y1 y2 ⟨t.val * 32 + y1.val, hb⟩ rfl).trans (congrArg _ ?_)
    blk_ext [idxr t]
    all_goals omega
  · show (if (i 0 : ℕ) = 1 then _ else _) = _
    exact if_pos hi

/-- What every point of the grid leaves of the step. -/
theorem outs10 (c : Dev nD) (t : Fin cfg0.N) : (outsAt0 m c t.val t.isLt).2.2.2.1 = k0_pay5 (F := Ideal) (k0_pay10 (F := Ideal) (iblk m c 3 t) (iblk m c 4 t) (iblk m c 5 t) (iblk m c 6 t)) := by
  by_cases h : t.val % 8 = 0
  · rw [outsAt0_A m c t h (by omega)]; frame_out
  · rw [outsAt0_B m c t h (by omega)]; frame_out

/-- What a point of the grid stores of the step. -/
theorem pay10 (c : Dev nD) (t : Fin cfg0.N) (z : Fin 1) (r : Fin 32) (l : Fin 2048) (q : Fin 2048) (hq : (q : ℕ) = t.val * 32 + r) :
    (k0_pay5 (F := Ideal) (k0_pay10 (F := Ideal) (iblk m c 3 t) (iblk m c 4 t) (iblk m c 5 t) (iblk m c 6 t))) (ix3 z r l) = Cert.HostFf2RefIdeal.Read.val_main_v65 (F := Ideal) (m ((c : Thread nD τ).loc main_arg3)) (m ((c : Thread nD τ).loc main_arg4)) (m ((c : Thread nD τ).loc main_arg5)) (m ((c : Thread nD τ).loc main_arg6)) (ix3 1 q l) := by
  obtain rfl : z = 0 := Subsingleton.elim _ _
  have h : (k0_pay5 (F := Ideal) (k0_pay10 (F := Ideal) (iblk m c 3 t) (iblk m c 4 t) (iblk m c 5 t) (iblk m c 6 t))) (ix3 0 r l) = Cert.Hand.step ((show FVec Ideal S1x32x2048 .f32 from iblk m c 3 t) (ix3 0 r l)) ((show FVec Ideal S32x2048 .f32 from iblk m c 6 t) (ix2 r l)) ((show FVec Ideal S1x32x2048 .f32 from iblk m c 4 t) (ix3 0 r l)) ((show FVec Ideal S1x32x2048 .f32 from iblk m c 5 t) (ix3 0 r l)) := by
    pointwise [k0_pay5, k0_pay10, k0_pay8, k0_pay9, Cert.Hand.step, Cert.Hand.newM, Cert.Hand.newV]
    try rfl
  rw [h, blkW m c t 0 r l q hq, blkM m c t 0 r l q hq, blkU m c t 0 r l q hq, blkG m c t r l q hq]
  exact (ref10 (m ((c : Thread nD τ).loc main_arg3)) (m ((c : Thread nD τ).loc main_arg4)) (m ((c : Thread nD τ).loc main_arg5)) (m ((c : Thread nD τ).loc main_arg6)) q l 1).symm

/-- On its own layer the array of the step that the kernel leaves is the reference's. -/
theorem final10 (c : Dev nD) (i : S2x2048x2048.Idx) (hi : (i 0 : ℕ) = 1) : (dats m 0 c).arrAt 10 cfg0.N i
    = Cert.HostFf2RefIdeal.Read.val_main_v65 (F := Ideal) (m ((c : Thread nD τ).loc main_arg3)) (m ((c : Thread nD τ).loc main_arg4)) (m ((c : Thread nD τ).loc main_arg5)) (m ((c : Thread nD τ).loc main_arg6)) i := by
  refine (congrFun ((dats m 0 c).arrAt_eq_of_coversWhere 10 (Cert.HostFf2RefIdeal.Read.val_main_v65 (F := Ideal) (m ((c : Thread nD τ).loc main_arg3)) (m ((c : Thread nD τ).loc main_arg4)) (m ((c : Thread nD τ).loc main_arg5)) (m ((c : Thread nD τ).loc main_arg6)))
    (P := fun i : S2x2048x2048.Idx => (i 0 : ℕ) = 1) (fun β => β (0 : Fin _) = 1) (by decide +kernel) (fun t hf y => ?_)
    (fun j => by blk_simp [Pipeline.Window.cell_apply]; try omega)) i).trans ?_
  · blk_simp
    rw [after0_10, outs10]
    idx_vars y
    have hb : t.val * 32 + y1.val < 2048 := by have := t.isLt; have := y1.isLt; change t.val < 64 at *; omega
    refine (pay10 m c t y0 y1 y2 ⟨t.val * 32 + y1.val, hb⟩ rfl).trans (congrArg _ ?_)
    blk_ext [idxr t]
    all_goals omega
  · show (if (i 0 : ℕ) = 1 then _ else _) = _
    exact if_pos hi

/-- What every point of the grid leaves of the first moment. -/
theorem outs11 (c : Dev nD) (t : Fin cfg0.N) : (outsAt0 m c t.val t.isLt).2.2.2.2.1 = k0_pay6 (F := Ideal) (k0_pay8 (F := Ideal) (iblk m c 4 t) (iblk m c 6 t)) := by
  by_cases h : t.val % 8 = 0
  · rw [outsAt0_A m c t h (by omega)]; frame_out
  · rw [outsAt0_B m c t h (by omega)]; frame_out

/-- What a point of the grid stores of the first moment. -/
theorem pay11 (c : Dev nD) (t : Fin cfg0.N) (z : Fin 1) (r : Fin 32) (l : Fin 2048) (q : Fin 2048) (hq : (q : ℕ) = t.val * 32 + r) :
    (k0_pay6 (F := Ideal) (k0_pay8 (F := Ideal) (iblk m c 4 t) (iblk m c 6 t))) (ix3 z r l) = Cert.HostFf2RefIdeal.Read.val_main_v66 (F := Ideal) (m ((c : Thread nD τ).loc main_arg4)) (m ((c : Thread nD τ).loc main_arg6)) (ix3 1 q l) := by
  obtain rfl : z = 0 := Subsingleton.elim _ _
  have h : (k0_pay6 (F := Ideal) (k0_pay8 (F := Ideal) (iblk m c 4 t) (iblk m c 6 t))) (ix3 0 r l) = Cert.Hand.newM ((show FVec Ideal S32x2048 .f32 from iblk m c 6 t) (ix2 r l)) ((show FVec Ideal S1x32x2048 .f32 from iblk m c 4 t) (ix3 0 r l)) := by
    pointwise [k0_pay6, k0_pay8, Cert.Hand.step, Cert.Hand.newM, Cert.Hand.newV]
    try rfl
  rw [h, blkM m c t 0 r l q hq, blkG m c t r l q hq]
  exact (ref11 (m ((c : Thread nD τ).loc main_arg3)) (m ((c : Thread nD τ).loc main_arg4)) (m ((c : Thread nD τ).loc main_arg5)) (m ((c : Thread nD τ).loc main_arg6)) q l 1).symm

/-- On its own layer the array of the first moment that the kernel leaves is the reference's. -/
theorem final11 (c : Dev nD) (i : S2x2048x2048.Idx) (hi : (i 0 : ℕ) = 1) : (dats m 0 c).arrAt 11 cfg0.N i
    = Cert.HostFf2RefIdeal.Read.val_main_v66 (F := Ideal) (m ((c : Thread nD τ).loc main_arg4)) (m ((c : Thread nD τ).loc main_arg6)) i := by
  refine (congrFun ((dats m 0 c).arrAt_eq_of_coversWhere 11 (Cert.HostFf2RefIdeal.Read.val_main_v66 (F := Ideal) (m ((c : Thread nD τ).loc main_arg4)) (m ((c : Thread nD τ).loc main_arg6)))
    (P := fun i : S2x2048x2048.Idx => (i 0 : ℕ) = 1) (fun β => β (0 : Fin _) = 1) (by decide +kernel) (fun t hf y => ?_)
    (fun j => by blk_simp [Pipeline.Window.cell_apply]; try omega)) i).trans ?_
  · blk_simp
    rw [after0_11, outs11]
    idx_vars y
    have hb : t.val * 32 + y1.val < 2048 := by have := t.isLt; have := y1.isLt; change t.val < 64 at *; omega
    refine (pay11 m c t y0 y1 y2 ⟨t.val * 32 + y1.val, hb⟩ rfl).trans (congrArg _ ?_)
    blk_ext [idxr t]
    all_goals omega
  · show (if (i 0 : ℕ) = 1 then _ else _) = _
    exact if_pos hi

/-- What every point of the grid leaves of the second moment. -/
theorem outs12 (c : Dev nD) (t : Fin cfg0.N) : (outsAt0 m c t.val t.isLt).2.2.2.2.2 = k0_pay7 (F := Ideal) (k0_pay9 (F := Ideal) (iblk m c 5 t) (iblk m c 6 t)) := by
  by_cases h : t.val % 8 = 0
  · rw [outsAt0_A m c t h (by omega)]; frame_out
  · rw [outsAt0_B m c t h (by omega)]; frame_out

/-- What a point of the grid stores of the second moment. -/
theorem pay12 (c : Dev nD) (t : Fin cfg0.N) (z : Fin 1) (r : Fin 32) (l : Fin 2048) (q : Fin 2048) (hq : (q : ℕ) = t.val * 32 + r) :
    (k0_pay7 (F := Ideal) (k0_pay9 (F := Ideal) (iblk m c 5 t) (iblk m c 6 t))) (ix3 z r l) = Cert.HostFf2RefIdeal.Read.val_main_v67 (F := Ideal) (m ((c : Thread nD τ).loc main_arg5)) (m ((c : Thread nD τ).loc main_arg6)) (ix3 1 q l) := by
  obtain rfl : z = 0 := Subsingleton.elim _ _
  have h : (k0_pay7 (F := Ideal) (k0_pay9 (F := Ideal) (iblk m c 5 t) (iblk m c 6 t))) (ix3 0 r l) = Cert.Hand.newV ((show FVec Ideal S32x2048 .f32 from iblk m c 6 t) (ix2 r l)) ((show FVec Ideal S1x32x2048 .f32 from iblk m c 5 t) (ix3 0 r l)) := by
    pointwise [k0_pay7, k0_pay9, Cert.Hand.step, Cert.Hand.newM, Cert.Hand.newV]
    try rfl
  rw [h, blkU m c t 0 r l q hq, blkG m c t r l q hq]
  exact (ref12 (m ((c : Thread nD τ).loc main_arg3)) (m ((c : Thread nD τ).loc main_arg4)) (m ((c : Thread nD τ).loc main_arg5)) (m ((c : Thread nD τ).loc main_arg6)) q l 1).symm

/-- On its own layer the array of the second moment that the kernel leaves is the reference's. -/
theorem final12 (c : Dev nD) (i : S2x2048x2048.Idx) (hi : (i 0 : ℕ) = 1) : (dats m 0 c).arrAt 12 cfg0.N i
    = Cert.HostFf2RefIdeal.Read.val_main_v67 (F := Ideal) (m ((c : Thread nD τ).loc main_arg5)) (m ((c : Thread nD τ).loc main_arg6)) i := by
  refine (congrFun ((dats m 0 c).arrAt_eq_of_coversWhere 12 (Cert.HostFf2RefIdeal.Read.val_main_v67 (F := Ideal) (m ((c : Thread nD τ).loc main_arg5)) (m ((c : Thread nD τ).loc main_arg6)))
    (P := fun i : S2x2048x2048.Idx => (i 0 : ℕ) = 1) (fun β => β (0 : Fin _) = 1) (by decide +kernel) (fun t hf y => ?_)
    (fun j => by blk_simp [Pipeline.Window.cell_apply]; try omega)) i).trans ?_
  · blk_simp
    rw [after0_12, outs12]
    idx_vars y
    have hb : t.val * 32 + y1.val < 2048 := by have := t.isLt; have := y1.isLt; change t.val < 64 at *; omega
    refine (pay12 m c t y0 y1 y2 ⟨t.val * 32 + y1.val, hb⟩ rfl).trans (congrArg _ ?_)
    blk_ext [idxr t]
    all_goals omega
  · show (if (i 0 : ℕ) = 1 then _ else _) = _
    exact if_pos hi

/-- Which block each window holds at each point of the grid. -/
theorem idx : ∀ t : Fin cfg0.N, win0_0.index t = ![t.val % 8, 0] ∧ win0_1.index t = ![t.val / 8, 0]
    ∧ win0_2.index t = ![t.val % 8, t.val / 8] ∧ win0_7.index t = ![t.val % 8, t.val / 8] ∧ win0_8.index t = ![0, t.val / 8] :=
  (by decide +kernel : ∀ t : Fin grid0.N, _)

/-- The gate the host code prepares: the positive part of the pre-activations. -/
theorem entry_v1 (c : Dev nD) : V m c main_v1 = truncf (F := Ideal) .bf16 (maximumf (F := Ideal) (m ((c : Thread nD τ).loc main_arg0) : FVec Ideal S8192x8192 .f32) (broadcastInDim S8192x8192 ![] bcast_S_S8192x8192 (constant S_ .f32 0x00000000#32))) bitsLt_bf16_f32 := by
  unfold V
  after_results
  try rfl

/-- Every point leaves in the first output's buffer the product of its blocks times the gate. -/
theorem outs3 (c : Dev nD) (t : Fin cfg0.N) :
    (outsAt0 m c t.val t.isLt).1 = k0_pay2 (F := Ideal) (iblk m c 0 t) (iblk m c 1 t) (iblk m c 2 t) := by
  by_cases h : t.val % 8 = 0
  · rw [outsAt0_A m c t h (by omega)]; frame_out
  · rw [outsAt0_B m c t h (by omega)]; frame_out

/-- The third input's block holds the positive part of the argument at the block's placement. -/
theorem blk2 (c : Dev nD) (t : Fin cfg0.N) (r l : Fin 1024) (i : S8192x8192.Idx) (h0 : (i 0 : ℕ) = t.val % 8 * 1024 + r)
    (h1 : (i 1 : ℕ) = t.val / 8 * 1024 + l) :
    (show FVec Ideal S1024x1024 .bf16 from iblk m c 2 t) (ix2 r l)
      = max ((show FVec Ideal S8192x8192 .f32 from m ((c : Thread nD τ).loc main_arg0)) i) 0 := by
  have e : ((cfg0.win 2).blk t).view.emb (ix2 r l : S1024x1024.Idx) = i := by blk_ext [idx t]
  rw [← e]
  show V m c main_v1 _ = _
  rw [entry_v1]
  pointwise

/-- The first result the kernel leaves is the reference's array. -/
theorem final3 (c : Dev nD) : (dats m 0 c).arrAt 7 (cfgs 0).N
    = Cert.HostFf2RefIdeal.Read.val_main_v33 (F := Ideal) (m ((c : Thread nD τ).loc main_arg0))
        (m ((c : Thread nD τ).loc main_arg1)) (m ((c : Thread nD τ).loc main_arg2)) := by
  refine (dats m 0 c).arrAt_eq_of_covers 7 _ (by decide +kernel) fun t hf y => ?_
  blk_simp
  rw [after0_7, outs3]
  idx_vars y
  refine (pay3 _ _ _ _ _).trans (Eq.trans ?_ (congrArg _ (eq_ix2 _)).symm)
  refine Eq.trans ?_ (ref3 _ _ _ _ _).symm
  refine congrArg₂ (· * ·) ?_ (congrArg _ (blk2 m c t y0 y1 _ ?_ ?_))
  · blk_point [iblk, V, idx t]
  all_goals (blk_simp [idx t])

/-- The second result the kernel leaves is the reference's array. -/
theorem final4 (c : Dev nD) : (dats m 0 c).arrAt 8 (cfgs 0).N
    = Cert.HostFf2RefIdeal.Read.val_main_v32 (F := Ideal) (m ((c : Thread nD τ).loc main_arg0))
        (m ((c : Thread nD τ).loc main_arg1)) (m ((c : Thread nD τ).loc main_arg2)) := by
  refine (dats m 0 c).arrAt_eq_of_covers 8 _ (by decide +kernel) fun t hf y => ?_
  blk_simp
  rw [after0_8, Pipeline.eq_sum_fin_of_reset_step_apply_of_flush (fun n h => (outsAt0 m c n h).2.1) 8 (fun _ => 0) _
    (fun t h j => by rw [outsAt0_A m c t h (by omega)]; frame_out; rw [zero_add])
    (fun t h j => by rw [outsAt0_B m c t h (by omega)]; frame_out; pointwise [k0_pay4])
    t ((flush0_8 t).mp hf) _, zero_add]
  idx_vars y
  obtain rfl : y0 = 0 := by omega
  refine Eq.trans (Fin.sum_fin_congr fun s => pay4 _ _ _ y1) (Eq.trans ?_ (congrArg _ (eq_ix2 _)).symm)
  have e : ((win0_8.blk t).view.emb (ix2 0 y1 : S1x1024.Idx)) 0 = (0 : Fin 1) := Subsingleton.elim (α := Fin 1) _ _
  rw [e]
  refine Eq.trans ?_ (ref4 _ _ _ _).symm
  refine Fin.sum_mul_add_congr fun s k hl => ?_
  refine congrArg₂ (· * ·) ?_ (congrArg _ (blk2 m c _ k y1 _ ?_ ?_))
  · blk_point [iblk, V, idx t, idx ⟨_, Pipeline.run_point_lt_of_flush t ((flush0_8 t).mp hf) s⟩]
  all_goals (blk_simp [idx t]; have := s.isLt; dsimp only; omega)

end Cert.HostFf2Ideal.Hand

end
-- ==== Proof.HostFf2.Claim.lean ====
module

public import proofs.«01_k».proof.Defs
public import proofs.«01_k».proof.Proof.Gen.On_host_ff2_last
public import proofs.«01_k».proof.Proof.Gen.HostFf2RefIdeal.Run
public import proofs.«01_k».proof.Proof.HostFf2.Value

@[expose] public section

noncomputable section

namespace Cert.HostFf2Ideal.Hand

open Idealize.ShloMosaic Idealize.ShloMosaic.TcCoe Idealize.SL.Sem
open Cert.HostFf2Ideal Cert.HostFf2Ideal.Gen

/-- The reference ends with its arguments kept and every semaphore at zero. -/
theorem frame_ref : Cert.quiescent_HostFf2RefIdeal := fun m ρ _ =>
  (θ_run Cert.HostFf2RefIdeal.defs _ _).mono (fun r h => ⟨fun c => (h c).2.2.2.2.2.2,
    Idealize.ShloMosaic.sem_eq_zero_of_no_sems (by decide) r.2⟩) (Cert.HostFf2RefIdeal.Value.run m ρ)

/-- The mask is set on the last layer alone. -/
theorem last : ∀ r : ℕ, r < 2 → IntOp.cmpi .eq (BitVec.ofNat 32 r) 1#32 = 1#1 → r = 1 := by decide

/-- On equal arguments the kernel and the reference end with equal results, the optimiser's on its own layer. -/
theorem algebraic : Cert.algebraic_HostFf2Ideal_HostFf2RefIdeal_on_host_ff2_last := by
  intro m g m' g' _ hagree
  refine ⟨fun c => Cert.HostFf2RefIdeal.Read.val_main_v33 (F := Ideal) (m ((c : Thread nD τ).loc main_arg0)) (m ((c : Thread nD τ).loc main_arg1)) (m ((c : Thread nD τ).loc main_arg2)), fun c => Cert.HostFf2RefIdeal.Read.val_main_v32 (F := Ideal) (m ((c : Thread nD τ).loc main_arg0)) (m ((c : Thread nD τ).loc main_arg1)) (m ((c : Thread nD τ).loc main_arg2)), fun c => Cert.HostFf2RefIdeal.Read.val_main_v64 (F := Ideal) (m ((c : Thread nD τ).loc main_arg6)), fun c => Cert.HostFf2RefIdeal.Read.val_main_v65 (F := Ideal) (m ((c : Thread nD τ).loc main_arg3)) (m ((c : Thread nD τ).loc main_arg4)) (m ((c : Thread nD τ).loc main_arg5)) (m ((c : Thread nD τ).loc main_arg6)), fun c => Cert.HostFf2RefIdeal.Read.val_main_v66 (F := Ideal) (m ((c : Thread nD τ).loc main_arg4)) (m ((c : Thread nD τ).loc main_arg6)), fun c => Cert.HostFf2RefIdeal.Read.val_main_v67 (F := Ideal) (m ((c : Thread nD τ).loc main_arg5)) (m ((c : Thread nD τ).loc main_arg6)), ?_, ?_⟩
  · exact (θ_run _ _ _).mono (fun r h c => ⟨fun i _ => congrFun ((h c).1.trans (Cert.HostFf2Ideal.Hand.final3 m c)) i, fun i _ => congrFun ((h c).2.1.trans (Cert.HostFf2Ideal.Hand.final4 m c)) i, fun i hi => (congrFun (h c).2.2.1 i).trans (Cert.HostFf2Ideal.Hand.final9 m c i (last _ (i 0).isLt hi)), fun i hi => (congrFun (h c).2.2.2.1 i).trans (Cert.HostFf2Ideal.Hand.final10 m c i (last _ (i 0).isLt hi)), fun i hi => (congrFun (h c).2.2.2.2.1 i).trans (Cert.HostFf2Ideal.Hand.final11 m c i (last _ (i 0).isLt hi)), fun i hi => (congrFun (h c).2.2.2.2.2.1 i).trans (Cert.HostFf2Ideal.Hand.final12 m c i (last _ (i 0).isLt hi)), (h c).2.2.2.2.2.2⟩)
      (Cert.HostFf2Ideal.Value.run_blocks m g)
  refine (θ_run _ _ _).mono (fun r h c => ⟨fun i _ => congrFun ?_ i, fun i _ => congrFun ?_ i, fun i _ => congrFun ?_ i, fun i _ => congrFun ?_ i, fun i _ => congrFun ?_ i, fun i _ => congrFun ?_ i, (h c).2.2.2.2.2.2⟩) (Cert.HostFf2RefIdeal.Value.run m' g')
  · refine (h c).1.trans ?_
    rw [(hagree c).1, (hagree c).2.1, (hagree c).2.2.1]
    exact Cert.HostFf2RefIdeal.Read.val_main_v33_eq _ _ _
  · refine (h c).2.1.trans ?_
    rw [(hagree c).1, (hagree c).2.1, (hagree c).2.2.1]
    exact Cert.HostFf2RefIdeal.Read.val_main_v32_eq _ _ _
  · refine (h c).2.2.1.trans ?_
    rw [(hagree c).2.2.2.2.2.2]
    exact Cert.HostFf2RefIdeal.Read.val_main_v64_eq _
  · refine (h c).2.2.2.1.trans ?_
    rw [(hagree c).2.2.2.1, (hagree c).2.2.2.2.1, (hagree c).2.2.2.2.2.1, (hagree c).2.2.2.2.2.2]
    exact Cert.HostFf2RefIdeal.Read.val_main_v65_eq _ _ _ _
  · refine (h c).2.2.2.2.1.trans ?_
    rw [(hagree c).2.2.2.2.1, (hagree c).2.2.2.2.2.2]
    exact Cert.HostFf2RefIdeal.Read.val_main_v66_eq _ _
  · refine (h c).2.2.2.2.2.1.trans ?_
    rw [(hagree c).2.2.2.2.2.1, (hagree c).2.2.2.2.2.2]
    exact Cert.HostFf2RefIdeal.Read.val_main_v67_eq _ _

end Cert.HostFf2Ideal.Hand

end
-- ==== Proof.DffHidden.Value.lean ====
module

public import proofs.«01_k».proof.Proof.Gen.DffHiddenIdeal.Value
public import proofs.«01_k».proof.Proof.Gen.DffHiddenRefIdeal.Read
public import Idealize.ShloMosaic.Lib.Pipeline.ValueKit

@[expose] public section

set_option maxRecDepth 16384

noncomputable section

namespace Cert.DffHiddenIdeal.Hand

open Idealize.ShloMosaic Idealize.ShloMosaic.TcCoe Idealize.SL.Sem
open Idealize.ShloMosaic.Pipeline (Dat)
open Cert.DffHiddenIdeal Cert.DffHiddenIdeal.Gen

/-- Where `x` is not positive the factor `max x 0` is zero, so the product may be left out there. -/
theorem relu_gate (s c x : EReal) : (if 0 < x then s * (c * max x 0) else 0) = s * (c * max x 0) := by
  split
  · rfl
  · next h => rw [max_eq_right (not_lt.mp h), mul_zero, mul_zero]

/-- The entry of the reference's first result: the gradient through the squared positive part. -/
theorem ref3 (X : FVec Ideal S8192x8192 .f32) (W D : FVec Ideal S8192x2048 .bf16) (r l : Fin 8192) :
    Cert.DffHiddenRefIdeal.Read.val_main_v33 (F := Ideal) X W D (ix2 r l)
      = (∑ k : Fin 2048, D (ix2 r k) * W (ix2 l k)) * (Ideal.ofBits .f32 0x40000000#32 * max (X (ix2 r l)) 0) := by
  rw [← Cert.DffHiddenRefIdeal.Read.val_main_v33_eq]
  pointwise
  exact relu_gate _ _ _

/-- What a point of the grid stores in the first output. -/
theorem pay3 (A B : FVec Ideal S1024x2048 .bf16) (Z : FVec Ideal S1024x1024 .bf16) (r l : Fin 1024) :
    k0_pay2 (F := Ideal) A B Z (ix2 r l)
      = (∑ k : Fin 2048, A (ix2 r k) * B (ix2 l k)) * (Ideal.ofBits .f32 0x40000000#32 * Z (ix2 r l)) := by
  pointwise [k0_pay2, k0_pay1]

/-- The entry of the reference's second result: the column sum of the first. -/
theorem ref4 (X : FVec Ideal S8192x8192 .f32) (W D : FVec Ideal S8192x2048 .bf16) (l : Fin 8192) :
    Cert.DffHiddenRefIdeal.Read.val_main_v32 (F := Ideal) X W D (ix2 0 l)
      = ∑ r : Fin 8192, (∑ k : Fin 2048, D (ix2 r k) * W (ix2 l k)) * (Ideal.ofBits .f32 0x40000000#32 * max (X (ix2 r l)) 0) := by
  rw [← Cert.DffHiddenRefIdeal.Read.val_main_v32_eq]
  pointwise
  exact Finset.sum_congr rfl fun r _ => relu_gate _ _ _

/-- What a point of the grid adds to the second output. -/
theorem pay4 (A B : FVec Ideal S1024x2048 .bf16) (Z : FVec Ideal S1024x1024 .bf16) (l : Fin 1024) :
    k0_pay3 (F := Ideal) A B Z (ix2 0 l)
      = ∑ r : Fin 1024, (∑ k : Fin 2048, A (ix2 r k) * B (ix2 l k)) * (Ideal.ofBits .f32 0x40000000#32 * Z (ix2 r l)) := by
  pointwise [k0_pay3, k0_pay1]

variable (m : (ℓ : Loc nD τ sig) → Buf (Elt Ideal) ℓ)

/-- Which block each window holds at each point of the grid. -/
theorem idx : ∀ t : Fin cfg0.N, win0_0.index t = ![t.val % 8, 0] ∧ win0_1.index t = ![t.val / 8, 0]
    ∧ win0_2.index t = ![t.val % 8, t.val / 8] ∧ win0_3.index t = ![t.val % 8, t.val / 8] ∧ win0_4.index t = ![0, t.val / 8] :=
  (by decide +kernel : ∀ t : Fin grid0.N, _)

/-- The gate the host code prepares: the positive part of the pre-activations. -/
theorem entry_v1 (c : Dev nD) : V m c main_v1 = truncf (F := Ideal) .bf16 (maximumf (F := Ideal) (m ((c : Thread nD τ).loc main_arg0) : FVec Ideal S8192x8192 .f32) (broadcastInDim S8192x8192 ![] bcast_S_S8192x8192 (constant S_ .f32 0x00000000#32))) bitsLt_bf16_f32 := by
  unfold V
  after_results
  try rfl

/-- Every point leaves in the first output's buffer the product of its blocks times the gate. -/
theorem outs3 (c : Dev nD) (t : Fin cfg0.N) :
    (outsAt0 m c t.val t.isLt).1 = k0_pay2 (F := Ideal) (iblk m c 0 t) (iblk m c 1 t) (iblk m c 2 t) := by
  by_cases h : t.val % 8 = 0
  · rw [outsAt0_A m c t h (by omega)]; frame_out
  · rw [outsAt0_B m c t h (by omega)]; frame_out

/-- The third input's block holds the positive part of the argument at the block's placement. -/
theorem blk2 (c : Dev nD) (t : Fin cfg0.N) (r l : Fin 1024) (i : S8192x8192.Idx) (h0 : (i 0 : ℕ) = t.val % 8 * 1024 + r)
    (h1 : (i 1 : ℕ) = t.val / 8 * 1024 + l) :
    (show FVec Ideal S1024x1024 .bf16 from iblk m c 2 t) (ix2 r l)
      = max ((show FVec Ideal S8192x8192 .f32 from m ((c : Thread nD τ).loc main_arg0)) i) 0 := by
  have e : ((cfg0.win 2).blk t).view.emb (ix2 r l : S1024x1024.Idx) = i := by blk_ext [idx t]
  rw [← e]
  show V m c main_v1 _ = _
  rw [entry_v1]
  pointwise

/-- The first result the kernel leaves is the reference's array. -/
theorem final3 (c : Dev nD) : (dats m 0 c).arrAt 3 (cfgs 0).N
    = Cert.DffHiddenRefIdeal.Read.val_main_v33 (F := Ideal) (m ((c : Thread nD τ).loc main_arg0))
        (m ((c : Thread nD τ).loc main_arg1)) (m ((c : Thread nD τ).loc main_arg2)) := by
  refine (dats m 0 c).arrAt_eq_of_covers 3 _ (by decide +kernel) fun t hf y => ?_
  blk_simp
  rw [after0_3, outs3]
  idx_vars y
  refine (pay3 _ _ _ _ _).trans (Eq.trans ?_ (congrArg _ (eq_ix2 _)).symm)
  refine Eq.trans ?_ (ref3 _ _ _ _ _).symm
  refine congrArg₂ (· * ·) ?_ (congrArg _ (blk2 m c t y0 y1 _ ?_ ?_))
  · blk_point [iblk, V, idx t]
  all_goals (blk_simp [idx t])

/-- The second result the kernel leaves is the reference's array. -/
theorem final4 (c : Dev nD) : (dats m 0 c).arrAt 4 (cfgs 0).N
    = Cert.DffHiddenRefIdeal.Read.val_main_v32 (F := Ideal) (m ((c : Thread nD τ).loc main_arg0))
        (m ((c : Thread nD τ).loc main_arg1)) (m ((c : Thread nD τ).loc main_arg2)) := by
  refine (dats m 0 c).arrAt_eq_of_covers 4 _ (by decide +kernel) fun t hf y => ?_
  blk_simp
  rw [after0_4, Pipeline.eq_sum_fin_of_reset_step_apply_of_flush (fun n h => (outsAt0 m c n h).2) 8 (fun _ => 0) _
    (fun t h j => by rw [outsAt0_A m c t h (by omega)]; frame_out; rw [zero_add])
    (fun t h j => by rw [outsAt0_B m c t h (by omega)]; frame_out; pointwise [k0_pay4])
    t ((flush0_4 t).mp hf) _, zero_add]
  idx_vars y
  obtain rfl : y0 = 0 := by omega
  refine Eq.trans (Fin.sum_fin_congr fun s => pay4 _ _ _ y1) (Eq.trans ?_ (congrArg _ (eq_ix2 _)).symm)
  have e : ((win0_4.blk t).view.emb (ix2 0 y1 : S1x1024.Idx)) 0 = (0 : Fin 1) := Subsingleton.elim (α := Fin 1) _ _
  rw [e]
  refine Eq.trans ?_ (ref4 _ _ _ _).symm
  refine Fin.sum_mul_add_congr fun s k hl => ?_
  refine congrArg₂ (· * ·) ?_ (congrArg _ (blk2 m c _ k y1 _ ?_ ?_))
  · blk_point [iblk, V, idx t, idx ⟨_, Pipeline.run_point_lt_of_flush t ((flush0_4 t).mp hf) s⟩]
  all_goals (blk_simp [idx t]; have := s.isLt; dsimp only; omega)

end Cert.DffHiddenIdeal.Hand

end
-- ==== Proof.DffHidden.Claim.lean ====
module

public import proofs.«01_k».proof.Defs
public import proofs.«01_k».proof.Proof.Gen.DffHiddenRefIdeal.Run
public import proofs.«01_k».proof.Proof.DffHidden.Value

@[expose] public section

noncomputable section

namespace Cert.DffHiddenIdeal.Hand

open Idealize.ShloMosaic Idealize.SL.Sem

/-- The reference ends with its arguments kept and every semaphore at zero. -/
theorem frame_ref : Cert.quiescent_DffHiddenRefIdeal := fun m ρ _ =>
  (θ_run Cert.DffHiddenRefIdeal.defs _ _).mono (fun r h => ⟨fun c => (h c).2.2,
    Idealize.ShloMosaic.sem_eq_zero_of_no_sems (by decide) r.2⟩) (Cert.DffHiddenRefIdeal.Value.run m ρ)

/-- On equal arguments the kernel and the reference end with equal results. -/
theorem algebraic : Cert.algebraic_DffHiddenIdeal_DffHiddenRefIdeal := by
  intro m g m' g' _ hagree
  refine ⟨_, _, (θ_run _ _ _).mono (fun r h c => ⟨(h c).1.trans (Cert.DffHiddenIdeal.Hand.final3 m c), (h c).2.1.trans (Cert.DffHiddenIdeal.Hand.final4 m c), (h c).2.2⟩)
      (Cert.DffHiddenIdeal.Value.run_blocks m g),
    (θ_run _ _ _).mono (fun r h c => ⟨?_, ?_, (h c).2.2⟩) (Cert.DffHiddenRefIdeal.Value.run m' g')⟩
  · refine (h c).1.trans ?_
    rw [(hagree c).1, (hagree c).2.1, (hagree c).2.2]
    exact Cert.DffHiddenRefIdeal.Read.val_main_v33_eq _ _ _
  · refine (h c).2.1.trans ?_
    rw [(hagree c).1, (hagree c).2.1, (hagree c).2.2]
    exact Cert.DffHiddenRefIdeal.Read.val_main_v32_eq _ _ _

end Cert.DffHiddenIdeal.Hand

end
-- ==== Proof.HostMix.Value.lean ====
module

public import proofs.«01_k».proof.Proof.Gen.HostMixIdeal.Value
public import proofs.«01_k».proof.Proof.Gen.HostMixRefIdeal.Read
public import Idealize.ShloMosaic.Lib.Pipeline.ValueKit
public import proofs.«01_k».proof.Proof.Shared.Adam

@[expose] public section

set_option maxRecDepth 16384

noncomputable section

namespace Cert.HostMixIdeal.Hand

open Idealize.ShloMosaic Idealize.ShloMosaic.TcCoe Idealize.SL.Sem
open Idealize.ShloMosaic.Pipeline (Dat)
open Cert.HostMixIdeal Cert.HostMixIdeal.Gen

/-- The reference's entry. -/
theorem ref (W : FVec Ideal S2048x2048 .bf16) (D : FVec Ideal S8192x2048 .bf16) (r : Fin 8192) (l : Fin 2048) :
    Cert.HostMixRefIdeal.Read.val_main_v3 (F := Ideal) W D (ix2 r l) = ∑ k : Fin 2048, D (ix2 r k) * W (ix2 l k) := by
  rw [← Cert.HostMixRefIdeal.Read.val_main_v3_eq]
  pointwise

/-- What a point of the grid stores. -/
theorem pay (A : FVec Ideal S512x2048 .bf16) (B : FVec Ideal S2048x2048 .bf16) (r : Fin 512) (l : Fin 2048) :
    k0_pay1 (F := Ideal) A B (ix2 r l) = ∑ k : Fin 2048, A (ix2 r k) * B (ix2 l k) := by
  pointwise [k0_pay1]

/-- The reference's gradient. -/
theorem ref7 (W M U : FVec Ideal S2x2048x896 .f32) (G : FVec Ideal S2048x896 .f32) (r : Fin 2048) (l : Fin 896) (z : Fin 2) :
    Cert.HostMixRefIdeal.Read.val_main_v34 (F := Ideal) G (ix3 z r l) = G (ix2 r l) := by
  rw [← Cert.HostMixRefIdeal.Read.val_main_v34_eq]
  pointwise [Cert.Hand.step, Cert.Hand.newM, Cert.Hand.newV]
  try rfl

/-- The reference's step. -/
theorem ref8 (W M U : FVec Ideal S2x2048x896 .f32) (G : FVec Ideal S2048x896 .f32) (r : Fin 2048) (l : Fin 896) (z : Fin 2) :
    Cert.HostMixRefIdeal.Read.val_main_v35 (F := Ideal) W M U G (ix3 z r l) = Cert.Hand.step (W (ix3 1 r l)) (G (ix2 r l)) (M (ix3 1 r l)) (U (ix3 1 r l)) := by
  rw [← Cert.HostMixRefIdeal.Read.val_main_v35_eq]
  pointwise [Cert.Hand.step, Cert.Hand.newM, Cert.Hand.newV]
  try rfl

/-- The reference's first moment. -/
theorem ref9 (W M U : FVec Ideal S2x2048x896 .f32) (G : FVec Ideal S2048x896 .f32) (r : Fin 2048) (l : Fin 896) (z : Fin 2) :
    Cert.HostMixRefIdeal.Read.val_main_v36 (F := Ideal) M G (ix3 z r l) = Cert.Hand.newM (G (ix2 r l)) (M (ix3 1 r l)) := by
  rw [← Cert.HostMixRefIdeal.Read.val_main_v36_eq]
  pointwise [Cert.Hand.step, Cert.Hand.newM, Cert.Hand.newV]
  try rfl

/-- The reference's second moment. -/
theorem ref10 (W M U : FVec Ideal S2x2048x896 .f32) (G : FVec Ideal S2048x896 .f32) (r : Fin 2048) (l : Fin 896) (z : Fin 2) :
    Cert.HostMixRefIdeal.Read.val_main_v37 (F := Ideal) U G (ix3 z r l) = Cert.Hand.newV (G (ix2 r l)) (U (ix3 1 r l)) := by
  rw [← Cert.HostMixRefIdeal.Read.val_main_v37_eq]
  pointwise [Cert.Hand.step, Cert.Hand.newM, Cert.Hand.newV]
  try rfl

variable (m : (ℓ : Loc nD τ sig) → Buf (Elt Ideal) ℓ)

/-- Which block of the optimiser's arrays each window holds at each point of the grid. -/
theorem idxr : ∀ t : Fin cfg0.N, win0_2.index t = ![1, t.val, 0] ∧ win0_3.index t = ![1, t.val, 0] ∧ win0_4.index t = ![1, t.val, 0]
    ∧ win0_5.index t = ![t.val, 0] ∧ win0_7.index t = ![1, t.val, 0] ∧ win0_8.index t = ![1, t.val, 0] ∧ win0_9.index t = ![1, t.val, 0] ∧ win0_10.index t = ![1, t.val, 0] :=
  (by decide +kernel : ∀ t : Fin grid0.N, _)

/-- The block of operand 2, at an index of the array. -/
theorem blkW (c : Dev nD) (t : Fin cfg0.N) (z : Fin 1) (r : Fin 128) (l : Fin 896) (q : Fin 2048) (hq : (q : ℕ) = t.val * 128 + r) :
    (show FVec Ideal S1x128x896 .f32 from iblk m c 2 t) (ix3 z r l)
      = (show FVec Ideal S2x2048x896 .f32 from m ((c : Thread nD τ).loc main_arg3)) (ix3 1 q l) := by
  have e : ((cfg0.win 2).blk t).view.emb (ix3 z r l : S1x128x896.Idx) = (ix3 (1 : Fin 2) q l : S2x2048x896.Idx) := by
    blk_ext [idxr t]
    all_goals omega
  rw [← e]; blk_point [iblk, V, idxr t]

/-- The block of operand 3, at an index of the array. -/
theorem blkM (c : Dev nD) (t : Fin cfg0.N) (z : Fin 1) (r : Fin 128) (l : Fin 896) (q : Fin 2048) (hq : (q : ℕ) = t.val * 128 + r) :
    (show FVec Ideal S1x128x896 .f32 from iblk m c 3 t) (ix3 z r l)
      = (show FVec Ideal S2x2048x896 .f32 from m ((c : Thread nD τ).loc main_arg4)) (ix3 1 q l) := by
  have e : ((cfg0.win 3).blk t).view.emb (ix3 z r l : S1x128x896.Idx) = (ix3 (1 : Fin 2) q l : S2x2048x896.Idx) := by
    blk_ext [idxr t]
    all_goals omega
  rw [← e]; blk_point [iblk, V, idxr t]

/-- The block of operand 4, at an index of the array. -/
theorem blkU (c : Dev nD) (t : Fin cfg0.N) (z : Fin 1) (r : Fin 128) (l : Fin 896) (q : Fin 2048) (hq : (q : ℕ) = t.val * 128 + r) :
    (show FVec Ideal S1x128x896 .f32 from iblk m c 4 t) (ix3 z r l)
      = (show FVec Ideal S2x2048x896 .f32 from m ((c : Thread nD τ).loc main_arg5)) (ix3 1 q l) := by
  have e : ((cfg0.win 4).blk t).view.emb (ix3 z r l : S1x128x896.Idx) = (ix3 (1 : Fin 2) q l : S2x2048x896.Idx) := by
    blk_ext [idxr t]
    all_goals omega
  rw [← e]; blk_point [iblk, V, idxr t]

/-- The block of the gradient, at an index of the array. -/
theorem blkG (c : Dev nD) (t : Fin cfg0.N) (r : Fin 128) (l : Fin 896) (q : Fin 2048) (hq : (q : ℕ) = t.val * 128 + r) :
    (show FVec Ideal S128x896 .f32 from iblk m c 5 t) (ix2 r l)
      = (show FVec Ideal S2048x896 .f32 from m ((c : Thread nD τ).loc main_arg6)) (ix2 q l) := by
  have e : ((cfg0.win 5).blk t).view.emb (ix2 r l : S128x896.Idx) = (ix2 q l : S2048x896.Idx) := by
    blk_ext [idxr t]
    all_goals omega
  rw [← e]; blk_point [iblk, V, idxr t]

/-- What a point of the grid stores of the gradient. -/
theorem pay7 (c : Dev nD) (t : Fin cfg0.N) (z : Fin 1) (r : Fin 128) (l : Fin 896) (q : Fin 2048) (hq : (q : ℕ) = t.val * 128 + r) :
    (k0_pay8 (F := Ideal) (iblk m c 5 t)) (ix3 z r l) = Cert.HostMixRefIdeal.Read.val_main_v34 (F := Ideal) (m ((c : Thread nD τ).loc main_arg6)) (ix3 1 q l) := by
  obtain rfl : z = 0 := Subsingleton.elim _ _
  have h : (k0_pay8 (F := Ideal) (iblk m c 5 t)) (ix3 0 r l) = (show FVec Ideal S128x896 .f32 from iblk m c 5 t) (ix2 r l) := by
    pointwise [k0_pay8, Cert.Hand.step, Cert.Hand.newM, Cert.Hand.newV]
    try rfl
  rw [h, blkG m c t r l q hq]
  exact (ref7 (m ((c : Thread nD τ).loc main_arg3)) (m ((c : Thread nD τ).loc main_arg4)) (m ((c : Thread nD τ).loc main_arg5)) (m ((c : Thread nD τ).loc main_arg6)) q l 1).symm

/-- On its own layer the array of the gradient that the kernel leaves is the reference's. -/
theorem final7 (c : Dev nD) (i : S2x2048x896.Idx) (hi : (i 0 : ℕ) = 1) : (dats m 0 c).arrAt 7 cfg0.N i
    = Cert.HostMixRefIdeal.Read.val_main_v34 (F := Ideal) (m ((c : Thread nD τ).loc main_arg6)) i := by
  refine (congrFun ((dats m 0 c).arrAt_eq_of_coversWhere 7 (Cert.HostMixRefIdeal.Read.val_main_v34 (F := Ideal) (m ((c : Thread nD τ).loc main_arg6)))
    (P := fun i : S2x2048x896.Idx => (i 0 : ℕ) = 1) (fun β => β (0 : Fin _) = 1) (by decide +kernel) (fun t hf y => ?_)
    (fun j => by blk_simp [Pipeline.Window.cell_apply]; try omega)) i).trans ?_
  · blk_simp
    rw [after0_7]; unfold outsAt0; frame_out
    idx_vars y
    have hb : t.val * 128 + y1.val < 2048 := by have := t.isLt; have := y1.isLt; change t.val < 16 at *; omega
    refine (pay7 m c t y0 y1 y2 ⟨t.val * 128 + y1.val, hb⟩ rfl).trans (congrArg _ ?_)
    blk_ext [idxr t]
    all_goals omega
  · show (if (i 0 : ℕ) = 1 then _ else _) = _
    exact if_pos hi

/-- What a point of the grid stores of the step. -/
theorem pay8 (c : Dev nD) (t : Fin cfg0.N) (z : Fin 1) (r : Fin 128) (l : Fin 896) (q : Fin 2048) (hq : (q : ℕ) = t.val * 128 + r) :
    (k0_pay2 (F := Ideal) (k0_pay7 (F := Ideal) (iblk m c 2 t) (iblk m c 3 t) (iblk m c 4 t) (iblk m c 5 t))) (ix3 z r l) = Cert.HostMixRefIdeal.Read.val_main_v35 (F := Ideal) (m ((c : Thread nD τ).loc main_arg3)) (m ((c : Thread nD τ).loc main_arg4)) (m ((c : Thread nD τ).loc main_arg5)) (m ((c : Thread nD τ).loc main_arg6)) (ix3 1 q l) := by
  obtain rfl : z = 0 := Subsingleton.elim _ _
  have h : (k0_pay2 (F := Ideal) (k0_pay7 (F := Ideal) (iblk m c 2 t) (iblk m c 3 t) (iblk m c 4 t) (iblk m c 5 t))) (ix3 0 r l) = Cert.Hand.step ((show FVec Ideal S1x128x896 .f32 from iblk m c 2 t) (ix3 0 r l)) ((show FVec Ideal S128x896 .f32 from iblk m c 5 t) (ix2 r l)) ((show FVec Ideal S1x128x896 .f32 from iblk m c 3 t) (ix3 0 r l)) ((show FVec Ideal S1x128x896 .f32 from iblk m c 4 t) (ix3 0 r l)) := by
    pointwise [k0_pay2, k0_pay7, k0_pay5, k0_pay6, Cert.Hand.step, Cert.Hand.newM, Cert.Hand.newV]
    try rfl
  rw [h, blkW m c t 0 r l q hq, blkM m c t 0 r l q hq, blkU m c t 0 r l q hq, blkG m c t r l q hq]
  exact (ref8 (m ((c : Thread nD τ).loc main_arg3)) (m ((c : Thread nD τ).loc main_arg4)) (m ((c : Thread nD τ).loc main_arg5)) (m ((c : Thread nD τ).loc main_arg6)) q l 1).symm

/-- On its own layer the array of the step that the kernel leaves is the reference's. -/
theorem final8 (c : Dev nD) (i : S2x2048x896.Idx) (hi : (i 0 : ℕ) = 1) : (dats m 0 c).arrAt 8 cfg0.N i
    = Cert.HostMixRefIdeal.Read.val_main_v35 (F := Ideal) (m ((c : Thread nD τ).loc main_arg3)) (m ((c : Thread nD τ).loc main_arg4)) (m ((c : Thread nD τ).loc main_arg5)) (m ((c : Thread nD τ).loc main_arg6)) i := by
  refine (congrFun ((dats m 0 c).arrAt_eq_of_coversWhere 8 (Cert.HostMixRefIdeal.Read.val_main_v35 (F := Ideal) (m ((c : Thread nD τ).loc main_arg3)) (m ((c : Thread nD τ).loc main_arg4)) (m ((c : Thread nD τ).loc main_arg5)) (m ((c : Thread nD τ).loc main_arg6)))
    (P := fun i : S2x2048x896.Idx => (i 0 : ℕ) = 1) (fun β => β (0 : Fin _) = 1) (by decide +kernel) (fun t hf y => ?_)
    (fun j => by blk_simp [Pipeline.Window.cell_apply]; try omega)) i).trans ?_
  · blk_simp
    rw [after0_8]; unfold outsAt0; frame_out
    idx_vars y
    have hb : t.val * 128 + y1.val < 2048 := by have := t.isLt; have := y1.isLt; change t.val < 16 at *; omega
    refine (pay8 m c t y0 y1 y2 ⟨t.val * 128 + y1.val, hb⟩ rfl).trans (congrArg _ ?_)
    blk_ext [idxr t]
    all_goals omega
  · show (if (i 0 : ℕ) = 1 then _ else _) = _
    exact if_pos hi

/-- What a point of the grid stores of the first moment. -/
theorem pay9 (c : Dev nD) (t : Fin cfg0.N) (z : Fin 1) (r : Fin 128) (l : Fin 896) (q : Fin 2048) (hq : (q : ℕ) = t.val * 128 + r) :
    (k0_pay3 (F := Ideal) (k0_pay5 (F := Ideal) (iblk m c 3 t) (iblk m c 5 t))) (ix3 z r l) = Cert.HostMixRefIdeal.Read.val_main_v36 (F := Ideal) (m ((c : Thread nD τ).loc main_arg4)) (m ((c : Thread nD τ).loc main_arg6)) (ix3 1 q l) := by
  obtain rfl : z = 0 := Subsingleton.elim _ _
  have h : (k0_pay3 (F := Ideal) (k0_pay5 (F := Ideal) (iblk m c 3 t) (iblk m c 5 t))) (ix3 0 r l) = Cert.Hand.newM ((show FVec Ideal S128x896 .f32 from iblk m c 5 t) (ix2 r l)) ((show FVec Ideal S1x128x896 .f32 from iblk m c 3 t) (ix3 0 r l)) := by
    pointwise [k0_pay3, k0_pay5, Cert.Hand.step, Cert.Hand.newM, Cert.Hand.newV]
    try rfl
  rw [h, blkM m c t 0 r l q hq, blkG m c t r l q hq]
  exact (ref9 (m ((c : Thread nD τ).loc main_arg3)) (m ((c : Thread nD τ).loc main_arg4)) (m ((c : Thread nD τ).loc main_arg5)) (m ((c : Thread nD τ).loc main_arg6)) q l 1).symm

/-- On its own layer the array of the first moment that the kernel leaves is the reference's. -/
theorem final9 (c : Dev nD) (i : S2x2048x896.Idx) (hi : (i 0 : ℕ) = 1) : (dats m 0 c).arrAt 9 cfg0.N i
    = Cert.HostMixRefIdeal.Read.val_main_v36 (F := Ideal) (m ((c : Thread nD τ).loc main_arg4)) (m ((c : Thread nD τ).loc main_arg6)) i := by
  refine (congrFun ((dats m 0 c).arrAt_eq_of_coversWhere 9 (Cert.HostMixRefIdeal.Read.val_main_v36 (F := Ideal) (m ((c : Thread nD τ).loc main_arg4)) (m ((c : Thread nD τ).loc main_arg6)))
    (P := fun i : S2x2048x896.Idx => (i 0 : ℕ) = 1) (fun β => β (0 : Fin _) = 1) (by decide +kernel) (fun t hf y => ?_)
    (fun j => by blk_simp [Pipeline.Window.cell_apply]; try omega)) i).trans ?_
  · blk_simp
    rw [after0_9]; unfold outsAt0; frame_out
    idx_vars y
    have hb : t.val * 128 + y1.val < 2048 := by have := t.isLt; have := y1.isLt; change t.val < 16 at *; omega
    refine (pay9 m c t y0 y1 y2 ⟨t.val * 128 + y1.val, hb⟩ rfl).trans (congrArg _ ?_)
    blk_ext [idxr t]
    all_goals omega
  · show (if (i 0 : ℕ) = 1 then _ else _) = _
    exact if_pos hi

/-- What a point of the grid stores of the second moment. -/
theorem pay10 (c : Dev nD) (t : Fin cfg0.N) (z : Fin 1) (r : Fin 128) (l : Fin 896) (q : Fin 2048) (hq : (q : ℕ) = t.val * 128 + r) :
    (k0_pay4 (F := Ideal) (k0_pay6 (F := Ideal) (iblk m c 4 t) (iblk m c 5 t))) (ix3 z r l) = Cert.HostMixRefIdeal.Read.val_main_v37 (F := Ideal) (m ((c : Thread nD τ).loc main_arg5)) (m ((c : Thread nD τ).loc main_arg6)) (ix3 1 q l) := by
  obtain rfl : z = 0 := Subsingleton.elim _ _
  have h : (k0_pay4 (F := Ideal) (k0_pay6 (F := Ideal) (iblk m c 4 t) (iblk m c 5 t))) (ix3 0 r l) = Cert.Hand.newV ((show FVec Ideal S128x896 .f32 from iblk m c 5 t) (ix2 r l)) ((show FVec Ideal S1x128x896 .f32 from iblk m c 4 t) (ix3 0 r l)) := by
    pointwise [k0_pay4, k0_pay6, Cert.Hand.step, Cert.Hand.newM, Cert.Hand.newV]
    try rfl
  rw [h, blkU m c t 0 r l q hq, blkG m c t r l q hq]
  exact (ref10 (m ((c : Thread nD τ).loc main_arg3)) (m ((c : Thread nD τ).loc main_arg4)) (m ((c : Thread nD τ).loc main_arg5)) (m ((c : Thread nD τ).loc main_arg6)) q l 1).symm

/-- On its own layer the array of the second moment that the kernel leaves is the reference's. -/
theorem final10 (c : Dev nD) (i : S2x2048x896.Idx) (hi : (i 0 : ℕ) = 1) : (dats m 0 c).arrAt 10 cfg0.N i
    = Cert.HostMixRefIdeal.Read.val_main_v37 (F := Ideal) (m ((c : Thread nD τ).loc main_arg5)) (m ((c : Thread nD τ).loc main_arg6)) i := by
  refine (congrFun ((dats m 0 c).arrAt_eq_of_coversWhere 10 (Cert.HostMixRefIdeal.Read.val_main_v37 (F := Ideal) (m ((c : Thread nD τ).loc main_arg5)) (m ((c : Thread nD τ).loc main_arg6)))
    (P := fun i : S2x2048x896.Idx => (i 0 : ℕ) = 1) (fun β => β (0 : Fin _) = 1) (by decide +kernel) (fun t hf y => ?_)
    (fun j => by blk_simp [Pipeline.Window.cell_apply]; try omega)) i).trans ?_
  · blk_simp
    rw [after0_10]; unfold outsAt0; frame_out
    idx_vars y
    have hb : t.val * 128 + y1.val < 2048 := by have := t.isLt; have := y1.isLt; change t.val < 16 at *; omega
    refine (pay10 m c t y0 y1 y2 ⟨t.val * 128 + y1.val, hb⟩ rfl).trans (congrArg _ ?_)
    blk_ext [idxr t]
    all_goals omega
  · show (if (i 0 : ℕ) = 1 then _ else _) = _
    exact if_pos hi

/-- Which block each window holds at each point of the grid. -/
theorem idx : ∀ t : Fin cfg0.N, win0_0.index t = ![t.val, 0] ∧ win0_1.index t = ![0, 0] ∧ win0_6.index t = ![t.val, 0] :=
  (by decide +kernel : ∀ t : Fin grid0.N, _)

/-- The result the kernel leaves is the reference's array. -/
theorem final (c : Dev nD) : (dats m 0 c).arrAt 6 cfg0.N
    = Cert.HostMixRefIdeal.Read.val_main_v3 (F := Ideal) (m ((c : Thread nD τ).loc main_arg1)) (m ((c : Thread nD τ).loc main_arg2)) := by
  refine (dats m 0 c).arrAt_eq_of_covers 6 _ (by decide +kernel) fun t hf y => ?_
  blk_simp; rw [after0_6]; unfold outsAt0; frame_out
  idx_vars y
  refine (pay _ _ _ _).trans (Eq.trans ?_ (congrArg _ (eq_ix2 _)).symm)
  refine Eq.trans ?_ (ref _ _ _ _).symm
  blk_point [iblk, V, idx t]

end Cert.HostMixIdeal.Hand

end
-- ==== Proof.HostMix.Claim.lean ====
module

public import proofs.«01_k».proof.Defs
public import proofs.«01_k».proof.Proof.Gen.On_host_mix_last
public import proofs.«01_k».proof.Proof.Gen.HostMixRefIdeal.Run
public import proofs.«01_k».proof.Proof.HostMix.Value

@[expose] public section

noncomputable section

namespace Cert.HostMixIdeal.Hand

open Idealize.ShloMosaic Idealize.ShloMosaic.TcCoe Idealize.SL.Sem
open Cert.HostMixIdeal Cert.HostMixIdeal.Gen

/-- The reference ends with its arguments kept and every semaphore at zero. -/
theorem frame_ref : Cert.quiescent_HostMixRefIdeal := fun m ρ _ =>
  (θ_run Cert.HostMixRefIdeal.defs _ _).mono (fun r h => ⟨fun c => (h c).2.2.2.2.2,
    Idealize.ShloMosaic.sem_eq_zero_of_no_sems (by decide) r.2⟩) (Cert.HostMixRefIdeal.Value.run m ρ)

/-- The mask is set on the last layer alone. -/
theorem last : ∀ r : ℕ, r < 2 → IntOp.cmpi .eq (BitVec.ofNat 32 r) 1#32 = 1#1 → r = 1 := by decide

/-- On equal arguments the kernel and the reference end with equal results, the optimiser's on its own layer. -/
theorem algebraic : Cert.algebraic_HostMixIdeal_HostMixRefIdeal_on_host_mix_last := by
  intro m g m' g' _ hagree
  refine ⟨fun c => Cert.HostMixRefIdeal.Read.val_main_v3 (F := Ideal) (m ((c : Thread nD τ).loc main_arg1)) (m ((c : Thread nD τ).loc main_arg2)), fun c => Cert.HostMixRefIdeal.Read.val_main_v34 (F := Ideal) (m ((c : Thread nD τ).loc main_arg6)), fun c => Cert.HostMixRefIdeal.Read.val_main_v35 (F := Ideal) (m ((c : Thread nD τ).loc main_arg3)) (m ((c : Thread nD τ).loc main_arg4)) (m ((c : Thread nD τ).loc main_arg5)) (m ((c : Thread nD τ).loc main_arg6)), fun c => Cert.HostMixRefIdeal.Read.val_main_v36 (F := Ideal) (m ((c : Thread nD τ).loc main_arg4)) (m ((c : Thread nD τ).loc main_arg6)), fun c => Cert.HostMixRefIdeal.Read.val_main_v37 (F := Ideal) (m ((c : Thread nD τ).loc main_arg5)) (m ((c : Thread nD τ).loc main_arg6)), ?_, ?_⟩
  · exact (θ_run _ _ _).mono (fun r h c => ⟨fun i _ => congrFun ((h c).1.trans (Cert.HostMixIdeal.Hand.final m c)) i, fun i hi => (congrFun (h c).2.1 i).trans (Cert.HostMixIdeal.Hand.final7 m c i (last _ (i 0).isLt hi)), fun i hi => (congrFun (h c).2.2.1 i).trans (Cert.HostMixIdeal.Hand.final8 m c i (last _ (i 0).isLt hi)), fun i hi => (congrFun (h c).2.2.2.1 i).trans (Cert.HostMixIdeal.Hand.final9 m c i (last _ (i 0).isLt hi)), fun i hi => (congrFun (h c).2.2.2.2.1 i).trans (Cert.HostMixIdeal.Hand.final10 m c i (last _ (i 0).isLt hi)), (h c).2.2.2.2.2⟩)
      (Cert.HostMixIdeal.Value.run_blocks m g)
  refine (θ_run _ _ _).mono (fun r h c => ⟨fun i _ => congrFun ?_ i, fun i _ => congrFun ?_ i, fun i _ => congrFun ?_ i, fun i _ => congrFun ?_ i, fun i _ => congrFun ?_ i, (h c).2.2.2.2.2⟩) (Cert.HostMixRefIdeal.Value.run m' g')
  · refine (h c).1.trans ?_
    rw [(hagree c).2.1, (hagree c).2.2.1]
    exact Cert.HostMixRefIdeal.Read.val_main_v3_eq _ _
  · refine (h c).2.1.trans ?_
    rw [(hagree c).2.2.2.2.2.2]
    exact Cert.HostMixRefIdeal.Read.val_main_v34_eq _
  · refine (h c).2.2.1.trans ?_
    rw [(hagree c).2.2.2.1, (hagree c).2.2.2.2.1, (hagree c).2.2.2.2.2.1, (hagree c).2.2.2.2.2.2]
    exact Cert.HostMixRefIdeal.Read.val_main_v35_eq _ _ _ _
  · refine (h c).2.2.2.1.trans ?_
    rw [(hagree c).2.2.2.2.1, (hagree c).2.2.2.2.2.2]
    exact Cert.HostMixRefIdeal.Read.val_main_v36_eq _ _
  · refine (h c).2.2.2.2.1.trans ?_
    rw [(hagree c).2.2.2.2.2.1, (hagree c).2.2.2.2.2.2]
    exact Cert.HostMixRefIdeal.Read.val_main_v37_eq _ _

end Cert.HostMixIdeal.Hand

end
-- ==== Proof.MixOutBwd.Value.lean ====
module

public import proofs.«01_k».proof.Proof.Gen.MixOutBwdIdeal.Value
public import proofs.«01_k».proof.Proof.Gen.MixOutBwdRefIdeal.Read
public import Idealize.ShloMosaic.Lib.Pipeline.ValueKit

@[expose] public section

set_option maxRecDepth 16384

noncomputable section

namespace Cert.MixOutBwdIdeal.Hand

open Idealize.ShloMosaic Idealize.ShloMosaic.TcCoe Idealize.SL.Sem
open Idealize.ShloMosaic.Pipeline (Dat)
open Cert.MixOutBwdIdeal Cert.MixOutBwdIdeal.Gen

/-- The reference's entry. -/
theorem ref (W : FVec Ideal S2048x2048 .bf16) (D : FVec Ideal S8192x2048 .bf16) (r : Fin 8192) (l : Fin 2048) :
    Cert.MixOutBwdRefIdeal.Read.val_main_v3 (F := Ideal) W D (ix2 r l) = ∑ k : Fin 2048, D (ix2 r k) * W (ix2 l k) := by
  rw [← Cert.MixOutBwdRefIdeal.Read.val_main_v3_eq]
  pointwise

/-- What a point of the grid stores. -/
theorem pay (A : FVec Ideal S512x2048 .bf16) (B : FVec Ideal S2048x2048 .bf16) (r : Fin 512) (l : Fin 2048) :
    k0_pay1 (F := Ideal) A B (ix2 r l) = ∑ k : Fin 2048, A (ix2 r k) * B (ix2 l k) := by
  pointwise [k0_pay1]

variable (m : (ℓ : Loc nD τ sig) → Buf (Elt Ideal) ℓ)

/-- Which block each window holds at each point of the grid. -/
theorem idx : ∀ t : Fin cfg0.N, win0_0.index t = ![t.val, 0] ∧ win0_1.index t = ![0, 0] ∧ win0_2.index t = ![t.val, 0] :=
  (by decide +kernel : ∀ t : Fin grid0.N, _)

/-- The result the kernel leaves is the reference's array. -/
theorem final (c : Dev nD) : (dats m 0 c).arrAt 2 cfg0.N
    = Cert.MixOutBwdRefIdeal.Read.val_main_v3 (F := Ideal) (m ((c : Thread nD τ).loc main_arg1)) (m ((c : Thread nD τ).loc main_arg2)) := by
  refine (dats m 0 c).arrAt_eq_of_covers 2 _ (by decide +kernel) fun t hf y => ?_
  blk_simp; rw [after0_2]; frame_out
  idx_vars y
  refine (pay _ _ _ _).trans (Eq.trans ?_ (congrArg _ (eq_ix2 _)).symm)
  refine Eq.trans ?_ (ref _ _ _ _).symm
  blk_point [iblk, V, idx t]

end Cert.MixOutBwdIdeal.Hand

end
-- ==== Proof.MixOutBwd.Claim.lean ====
module

public import proofs.«01_k».proof.Defs
public import proofs.«01_k».proof.Proof.Gen.MixOutBwdRefIdeal.Run
public import proofs.«01_k».proof.Proof.MixOutBwd.Value

@[expose] public section

noncomputable section

namespace Cert.MixOutBwdIdeal.Hand

open Idealize.ShloMosaic Idealize.SL.Sem

/-- The reference ends with its arguments kept and every semaphore at zero. -/
theorem frame_ref : Cert.quiescent_MixOutBwdRefIdeal := fun m ρ _ =>
  (θ_run Cert.MixOutBwdRefIdeal.defs _ _).mono (fun r h => ⟨fun c => (h c).2,
    Idealize.ShloMosaic.sem_eq_zero_of_no_sems (by decide) r.2⟩) (Cert.MixOutBwdRefIdeal.Value.run m ρ)

/-- On equal arguments the kernel and the reference end with equal results. -/
theorem algebraic : Cert.algebraic_MixOutBwdIdeal_MixOutBwdRefIdeal := by
  intro m g m' g' _ hagree
  refine ⟨_, (θ_run _ _ _).mono (fun r h c => ⟨(h c).1.trans (Cert.MixOutBwdIdeal.Hand.final m c), (h c).2⟩)
      (Cert.MixOutBwdIdeal.Value.run_blocks m g),
    (θ_run _ _ _).mono (fun r h c => ⟨?_, (h c).2⟩) (Cert.MixOutBwdRefIdeal.Value.run m' g')⟩
  · refine (h c).1.trans ?_
    rw [(hagree c).2.1, (hagree c).2.2]
    exact Cert.MixOutBwdRefIdeal.Read.val_main_v3_eq _ _

end Cert.MixOutBwdIdeal.Hand

end
-- ==== Proof.DwFf2.Value.lean ====
module

public import proofs.«01_k».proof.Proof.Gen.DwFf2Ideal.Value
public import proofs.«01_k».proof.Proof.Gen.DwFf2RefIdeal.Read
public import Idealize.ShloMosaic.Lib.Pipeline.ValueKit

@[expose] public section

set_option maxRecDepth 16384

noncomputable section

namespace Cert.DwFf2Ideal.Hand

open Idealize.ShloMosaic Idealize.ShloMosaic.TcCoe Idealize.SL.Sem
open Idealize.ShloMosaic.Pipeline (Dat)
open Cert.DwFf2Ideal Cert.DwFf2Ideal.Gen

/-- The reference's entry: the sum over all rows of the product of an activation and a gradient entry. -/
theorem ref2 (X : FVec Ideal S8192x8192 .f32) (D : FVec Ideal S8192x2048 .bf16) (o : Fin 4) (r : Fin 2048) (l : Fin 2048) :
    Cert.DwFf2RefIdeal.Read.val_main_v6 (F := Ideal) X D (ix3 o r l)
      = ∑ k : Fin 8192, (max (X (ix2 k (⟨o.val * 2048 + r.val, by omega⟩ : Fin 8192))) 0 * max (X (ix2 k (⟨o.val * 2048 + r.val, by omega⟩ : Fin 8192))) 0) * D (ix2 k l) := by
  rw [← Cert.DwFf2RefIdeal.Read.val_main_v6_eq]
  pointwise
  refine Finset.sum_congr rfl fun k _ => mul_comm _ _

/-- A tile's first contribution: the product over the rows of one block. -/
theorem pay2 (A : FVec Ideal S2048x2048 .bf16) (B : FVec Ideal S2048x1024 .bf16) (z : Fin 1) (r : Fin 2048) (l : Fin 1024) :
    k0_pay2 (F := Ideal) A B (ix3 z r l) = ∑ k : Fin 2048, A (ix2 k r) * B (ix2 k l) := by
  pointwise [k0_pay2, k0_pay1]

variable (m : (ℓ : Loc nD τ sig) → Buf (Elt Ideal) ℓ)

/-- Which block each window holds at each point of the grid. -/
theorem idx : ∀ t : Fin cfg0.N, win0_0.index t = ![t.val % 4, t.val / 8] ∧ win0_1.index t = ![t.val % 4, t.val / 4 % 2]
    ∧ win0_2.index t = ![t.val / 8, 0, t.val / 4 % 2] :=
  (by decide +kernel : ∀ t : Fin grid0.N, _)

/-- The hidden activations the host code prepares: the square of the positive part. -/
theorem entry_v2 (c : Dev nD) : V m c main_v2
    = truncf (F := Ideal) .bf16 (mulf (maximumf (show FVec Ideal S8192x8192 .f32 from m ((c : Thread nD τ).loc main_arg0))
        (broadcastInDim S8192x8192 ![] bcast_S_S8192x8192 (constant (F := Ideal) S_ .f32 0x00000000#32)))
      (maximumf (show FVec Ideal S8192x8192 .f32 from m ((c : Thread nD τ).loc main_arg0))
        (broadcastInDim S8192x8192 ![] bcast_S_S8192x8192 (constant (F := Ideal) S_ .f32 0x00000000#32)))) bitsLt_bf16_f32 := by
  unfold V; after_results; try rfl

/-- A block of those activations, at an index of the pre-activations. -/
theorem blkh (c : Dev nD) (t : Fin cfg0.N) (r : Fin 2048) (l : Fin 2048) (i : S8192x8192.Idx)
    (h0 : (i 0 : ℕ) = t.val % 4 * 2048 + r) (h1 : (i 1 : ℕ) = t.val / 8 * 2048 + l) :
    (show FVec Ideal S2048x2048 .bf16 from iblk m c 0 t) (ix2 r l)
      = max ((show FVec Ideal S8192x8192 .f32 from m ((c : Thread nD τ).loc main_arg0)) i) 0
        * max ((show FVec Ideal S8192x8192 .f32 from m ((c : Thread nD τ).loc main_arg0)) i) 0 := by
  have e : ((cfg0.win 0).blk t).view.emb (ix2 r l : S2048x2048.Idx) = i := by blk_ext [idx t]
  rw [← e]; show V m c main_v2 _ = _; rw [entry_v2]; pointwise

/-- The result the kernel leaves is the reference's array. -/
theorem final2 (c : Dev nD) : (dats m 0 c).arrAt 2 cfg0.N
    = Cert.DwFf2RefIdeal.Read.val_main_v6 (F := Ideal) (m ((c : Thread nD τ).loc main_arg0)) (m ((c : Thread nD τ).loc main_arg2)) := by
  refine (dats m 0 c).arrAt_eq_of_covers 2 _ (by decide +kernel) fun t hf y => ?_
  blk_simp
  rw [after0_2, Pipeline.eq_sum_fin_of_reset_step_apply_of_flush (fun n h => (outsAt0 m c n h)) 4 (fun _ => 0) _
    (fun t h j => by rw [outsAt0_A m c t h (by omega)]; frame_out; rw [zero_add])
    (fun t h j => by rw [outsAt0_B m c t h (by omega)]; frame_out; pointwise [k0_pay3, k0_pay2])
    t ((flush0_2 t).mp hf) _, zero_add]
  idx_vars y
  refine Eq.trans (Fin.sum_fin_congr fun s => pay2 _ _ y0 y1 y2) (Eq.trans ?_ (congrArg _ (eq_ix3 _)).symm)
  refine Eq.trans ?_ (ref2 _ _ _ _ _).symm
  refine Fin.sum_mul_add_congr fun s k hl => ?_
  refine congrArg₂ (· * ·) (blkh m c _ k y1 _ ?_ ?_) ?_
  · blk_simp [idx t]; have := s.isLt; dsimp only; omega
  · blk_simp [idx t]; have := s.isLt; dsimp only; omega
  · blk_point [iblk, V, idx t, idx ⟨_, Pipeline.run_point_lt_of_flush t ((flush0_2 t).mp hf) s⟩]

end Cert.DwFf2Ideal.Hand

end
-- ==== Proof.DwFf2.Claim.lean ====
module

public import proofs.«01_k».proof.Defs
public import proofs.«01_k».proof.Proof.Gen.DwFf2RefIdeal.Run
public import proofs.«01_k».proof.Proof.DwFf2.Value

@[expose] public section

noncomputable section

namespace Cert.DwFf2Ideal.Hand

open Idealize.ShloMosaic Idealize.SL.Sem

/-- The reference ends with its arguments kept and every semaphore at zero. -/
theorem frame_ref : Cert.quiescent_DwFf2RefIdeal := fun m ρ _ =>
  (θ_run Cert.DwFf2RefIdeal.defs _ _).mono (fun r h => ⟨fun c => (h c).2,
    Idealize.ShloMosaic.sem_eq_zero_of_no_sems (by decide) r.2⟩) (Cert.DwFf2RefIdeal.Value.run m ρ)

/-- On equal arguments the kernel and the reference end with equal results. -/
theorem algebraic : Cert.algebraic_DwFf2Ideal_DwFf2RefIdeal := by
  intro m g m' g' _ hagree
  refine ⟨_, (θ_run _ _ _).mono (fun r h c => ⟨(h c).1.trans (Cert.DwFf2Ideal.Hand.final2 m c), (h c).2⟩)
      (Cert.DwFf2Ideal.Value.run_blocks m g),
    (θ_run _ _ _).mono (fun r h c => ⟨?_, (h c).2⟩) (Cert.DwFf2RefIdeal.Value.run m' g')⟩
  · refine (h c).1.trans ?_
    rw [(hagree c).1, (hagree c).2.2]
    exact Cert.DwFf2RefIdeal.Read.val_main_v6_eq _ _

end Cert.DwFf2Ideal.Hand

end
-- ==== Proof.DwFf1.Value.lean ====
module

public import proofs.«01_k».proof.Proof.Gen.DwFf1Ideal.Value
public import proofs.«01_k».proof.Proof.Gen.DwFf1RefIdeal.Read
public import Idealize.ShloMosaic.Lib.Pipeline.ValueKit

@[expose] public section

set_option maxRecDepth 16384

noncomputable section

namespace Cert.DwFf1Ideal.Hand

open Idealize.ShloMosaic Idealize.ShloMosaic.TcCoe Idealize.SL.Sem
open Idealize.ShloMosaic.Pipeline (Dat)
open Cert.DwFf1Ideal Cert.DwFf1Ideal.Gen

/-- The reference's entry: the sum over all rows of the product of an activation and a gradient entry. -/
theorem ref2 (X : FVec Ideal S8192x2048 .bf16) (D : FVec Ideal S8192x8192 .bf16) (o : Fin 4) (r : Fin 2048) (l : Fin 2048) :
    Cert.DwFf1RefIdeal.Read.val_main_v6 (F := Ideal) X D (ix3 o r l)
      = ∑ k : Fin 8192, X (ix2 k r) * D (ix2 k (⟨o.val * 2048 + l.val, by omega⟩ : Fin 8192)) := by
  rw [← Cert.DwFf1RefIdeal.Read.val_main_v6_eq]
  pointwise
  refine Finset.sum_congr rfl fun k _ => mul_comm _ _

/-- A tile's first contribution: the product over the rows of one block. -/
theorem pay2 (A : FVec Ideal S2048x2048 .bf16) (B : FVec Ideal S2048x1024 .bf16) (z : Fin 1) (r : Fin 2048) (l : Fin 1024) :
    k0_pay2 (F := Ideal) A B (ix3 z r l) = ∑ k : Fin 2048, A (ix2 k r) * B (ix2 k l) := by
  pointwise [k0_pay2, k0_pay1]

variable (m : (ℓ : Loc nD τ sig) → Buf (Elt Ideal) ℓ)

/-- Which block each window holds at each point of the grid. -/
theorem idx : ∀ t : Fin cfg0.N, win0_0.index t = ![t.val % 4, 0] ∧ win0_1.index t = ![t.val % 4, t.val / 4]
    ∧ win0_2.index t = ![t.val / 8, 0, t.val / 4 % 2] :=
  (by decide +kernel : ∀ t : Fin grid0.N, _)

/-- The result the kernel leaves is the reference's array. -/
theorem final2 (c : Dev nD) : (dats m 0 c).arrAt 2 cfg0.N
    = Cert.DwFf1RefIdeal.Read.val_main_v6 (F := Ideal) (m ((c : Thread nD τ).loc main_arg0)) (m ((c : Thread nD τ).loc main_arg2)) := by
  refine (dats m 0 c).arrAt_eq_of_covers 2 _ (by decide +kernel) fun t hf y => ?_
  blk_simp
  rw [after0_2, Pipeline.eq_sum_fin_of_reset_step_apply_of_flush (fun n h => (outsAt0 m c n h)) 4 (fun _ => 0) _
    (fun t h j => by rw [outsAt0_A m c t h (by omega)]; frame_out; rw [zero_add])
    (fun t h j => by rw [outsAt0_B m c t h (by omega)]; frame_out; pointwise [k0_pay3, k0_pay2])
    t ((flush0_2 t).mp hf) _, zero_add]
  idx_vars y
  refine Eq.trans (Fin.sum_fin_congr fun s => pay2 _ _ y0 y1 y2) (Eq.trans ?_ (congrArg _ (eq_ix3 _)).symm)
  refine Eq.trans ?_ (ref2 _ _ _ _ _).symm
  refine Fin.sum_mul_add_congr fun s k hl => ?_
  refine congrArg₂ (· * ·) ?_ ?_
  · blk_point [iblk, V, idx t, idx ⟨_, Pipeline.run_point_lt_of_flush t ((flush0_2 t).mp hf) s⟩]
  · blk_point [iblk, V, idx t, idx ⟨_, Pipeline.run_point_lt_of_flush t ((flush0_2 t).mp hf) s⟩]

end Cert.DwFf1Ideal.Hand

end
-- ==== Proof.DwFf1.Claim.lean ====
module

public import proofs.«01_k».proof.Defs
public import proofs.«01_k».proof.Proof.Gen.DwFf1RefIdeal.Run
public import proofs.«01_k».proof.Proof.DwFf1.Value

@[expose] public section

noncomputable section

namespace Cert.DwFf1Ideal.Hand

open Idealize.ShloMosaic Idealize.SL.Sem

/-- The reference ends with its arguments kept and every semaphore at zero. -/
theorem frame_ref : Cert.quiescent_DwFf1RefIdeal := fun m ρ _ =>
  (θ_run Cert.DwFf1RefIdeal.defs _ _).mono (fun r h => ⟨fun c => (h c).2,
    Idealize.ShloMosaic.sem_eq_zero_of_no_sems (by decide) r.2⟩) (Cert.DwFf1RefIdeal.Value.run m ρ)

/-- On equal arguments the kernel and the reference end with equal results. -/
theorem algebraic : Cert.algebraic_DwFf1Ideal_DwFf1RefIdeal := by
  intro m g m' g' _ hagree
  refine ⟨_, (θ_run _ _ _).mono (fun r h c => ⟨(h c).1.trans (Cert.DwFf1Ideal.Hand.final2 m c), (h c).2⟩)
      (Cert.DwFf1Ideal.Value.run_blocks m g),
    (θ_run _ _ _).mono (fun r h c => ⟨?_, (h c).2⟩) (Cert.DwFf1RefIdeal.Value.run m' g')⟩
  · refine (h c).1.trans ?_
    rw [(hagree c).1, (hagree c).2.2]
    exact Cert.DwFf1RefIdeal.Read.val_main_v6_eq _ _

end Cert.DwFf1Ideal.Hand

end
-- ==== Proof.DwOut.Value.lean ====
module

public import proofs.«01_k».proof.Proof.Gen.DwOutIdeal.Value
public import proofs.«01_k».proof.Proof.Gen.DwOutRefIdeal.Read
public import Idealize.ShloMosaic.Lib.Pipeline.ValueKit

@[expose] public section

set_option maxRecDepth 16384

noncomputable section

namespace Cert.DwOutIdeal.Hand

open Idealize.ShloMosaic Idealize.ShloMosaic.TcCoe Idealize.SL.Sem
open Idealize.ShloMosaic.Pipeline (Dat)
open Cert.DwOutIdeal Cert.DwOutIdeal.Gen

/-- The reference's entry: the sum over all rows of the product of an activation and a gradient entry. -/
theorem ref2 (X : FVec Ideal S8192x2048 .bf16) (D : FVec Ideal S8192x2048 .bf16) (o : Fin 4) (r : Fin 512) (l : Fin 2048) :
    Cert.DwOutRefIdeal.Read.val_main_v5 (F := Ideal) X D (ix3 o r l)
      = ∑ k : Fin 8192, X (ix2 k (⟨o.val * 512 + r.val, by omega⟩ : Fin 2048)) * D (ix2 k l) := by
  rw [← Cert.DwOutRefIdeal.Read.val_main_v5_eq]
  pointwise
  refine Finset.sum_congr rfl fun k _ => mul_comm _ _

/-- A tile's first contribution: the product over the rows of one block. -/
theorem pay2 (A : FVec Ideal S2048x512 .bf16) (B : FVec Ideal S2048x2048 .bf16) (z : Fin 1) (r : Fin 512) (l : Fin 2048) :
    k0_pay2 (F := Ideal) A B (ix3 z r l) = ∑ k : Fin 2048, A (ix2 k r) * B (ix2 k l) := by
  pointwise [k0_pay2, k0_pay1]

variable (m : (ℓ : Loc nD τ sig) → Buf (Elt Ideal) ℓ)

/-- Which block each window holds at each point of the grid. -/
theorem idx : ∀ t : Fin cfg0.N, win0_0.index t = ![t.val % 4, t.val / 4] ∧ win0_1.index t = ![t.val % 4, 0]
    ∧ win0_2.index t = ![t.val / 4, 0, 0] :=
  (by decide +kernel : ∀ t : Fin grid0.N, _)

/-- The result the kernel leaves is the reference's array. -/
theorem final2 (c : Dev nD) : (dats m 0 c).arrAt 2 cfg0.N
    = Cert.DwOutRefIdeal.Read.val_main_v5 (F := Ideal) (m ((c : Thread nD τ).loc main_arg0)) (m ((c : Thread nD τ).loc main_arg2)) := by
  refine (dats m 0 c).arrAt_eq_of_covers 2 _ (by decide +kernel) fun t hf y => ?_
  blk_simp
  rw [after0_2, Pipeline.eq_sum_fin_of_reset_step_apply_of_flush (fun n h => (outsAt0 m c n h)) 4 (fun _ => 0) _
    (fun t h j => by rw [outsAt0_A m c t h (by omega)]; frame_out; rw [zero_add])
    (fun t h j => by rw [outsAt0_B m c t h (by omega)]; frame_out; pointwise [k0_pay3, k0_pay2])
    t ((flush0_2 t).mp hf) _, zero_add]
  idx_vars y
  refine Eq.trans (Fin.sum_fin_congr fun s => pay2 _ _ y0 y1 y2) (Eq.trans ?_ (congrArg _ (eq_ix3 _)).symm)
  refine Eq.trans ?_ (ref2 _ _ _ _ _).symm
  refine Fin.sum_mul_add_congr fun s k hl => ?_
  refine congrArg₂ (· * ·) ?_ ?_
  · blk_point [iblk, V, idx t, idx ⟨_, Pipeline.run_point_lt_of_flush t ((flush0_2 t).mp hf) s⟩]
  · blk_point [iblk, V, idx t, idx ⟨_, Pipeline.run_point_lt_of_flush t ((flush0_2 t).mp hf) s⟩]

end Cert.DwOutIdeal.Hand

end
-- ==== Proof.DwOut.Claim.lean ====
module

public import proofs.«01_k».proof.Defs
public import proofs.«01_k».proof.Proof.Gen.DwOutRefIdeal.Run
public import proofs.«01_k».proof.Proof.DwOut.Value

@[expose] public section

noncomputable section

namespace Cert.DwOutIdeal.Hand

open Idealize.ShloMosaic Idealize.SL.Sem

/-- The reference ends with its arguments kept and every semaphore at zero. -/
theorem frame_ref : Cert.quiescent_DwOutRefIdeal := fun m ρ _ =>
  (θ_run Cert.DwOutRefIdeal.defs _ _).mono (fun r h => ⟨fun c => (h c).2,
    Idealize.ShloMosaic.sem_eq_zero_of_no_sems (by decide) r.2⟩) (Cert.DwOutRefIdeal.Value.run m ρ)

/-- On equal arguments the kernel and the reference end with equal results. -/
theorem algebraic : Cert.algebraic_DwOutIdeal_DwOutRefIdeal := by
  intro m g m' g' _ hagree
  refine ⟨_, (θ_run _ _ _).mono (fun r h c => ⟨(h c).1.trans (Cert.DwOutIdeal.Hand.final2 m c), (h c).2⟩)
      (Cert.DwOutIdeal.Value.run_blocks m g),
    (θ_run _ _ _).mono (fun r h c => ⟨?_, (h c).2⟩) (Cert.DwOutRefIdeal.Value.run m' g')⟩
  · refine (h c).1.trans ?_
    rw [(hagree c).1, (hagree c).2.2]
    exact Cert.DwOutRefIdeal.Read.val_main_v5_eq _ _

end Cert.DwOutIdeal.Hand

end
-- ==== Proof.DwIn.Value.lean ====
module

public import proofs.«01_k».proof.Proof.Gen.DwInIdeal.Value
public import proofs.«01_k».proof.Proof.Gen.DwInRefIdeal.Read
public import Idealize.ShloMosaic.Lib.Pipeline.ValueKit

@[expose] public section

set_option maxRecDepth 16384

noncomputable section

namespace Cert.DwInIdeal.Hand

open Idealize.ShloMosaic Idealize.ShloMosaic.TcCoe Idealize.SL.Sem
open Idealize.ShloMosaic.Pipeline (Dat)
open Cert.DwInIdeal Cert.DwInIdeal.Gen

/-- The reference's entry: the sum over all rows of the product of an activation and a gradient entry. -/
theorem ref2 (X : FVec Ideal S8192x2048 .bf16) (D : FVec Ideal S8192x3584 .bf16) (o : Fin 4) (r : Fin 2048) (l : Fin 896) :
    Cert.DwInRefIdeal.Read.val_main_v6 (F := Ideal) X D (ix3 o r l)
      = ∑ k : Fin 8192, X (ix2 k r) * D (ix2 k (⟨o.val * 896 + l.val, by omega⟩ : Fin 3584)) := by
  rw [← Cert.DwInRefIdeal.Read.val_main_v6_eq]
  pointwise
  refine Finset.sum_congr rfl fun k _ => mul_comm _ _

/-- A tile's first contribution: the product over the rows of one block. -/
theorem pay2 (A : FVec Ideal S2048x2048 .bf16) (B : FVec Ideal S2048x896 .bf16) (z : Fin 1) (r : Fin 2048) (l : Fin 896) :
    k0_pay2 (F := Ideal) A B (ix3 z r l) = ∑ k : Fin 2048, A (ix2 k r) * B (ix2 k l) := by
  pointwise [k0_pay2, k0_pay1]

variable (m : (ℓ : Loc nD τ sig) → Buf (Elt Ideal) ℓ)

/-- Which block each window holds at each point of the grid. -/
theorem idx : ∀ t : Fin cfg0.N, win0_0.index t = ![t.val % 4, 0] ∧ win0_1.index t = ![t.val % 4, t.val / 4]
    ∧ win0_2.index t = ![t.val / 4, 0, 0] :=
  (by decide +kernel : ∀ t : Fin grid0.N, _)

/-- The result the kernel leaves is the reference's array. -/
theorem final2 (c : Dev nD) : (dats m 0 c).arrAt 2 cfg0.N
    = Cert.DwInRefIdeal.Read.val_main_v6 (F := Ideal) (m ((c : Thread nD τ).loc main_arg0)) (m ((c : Thread nD τ).loc main_arg2)) := by
  refine (dats m 0 c).arrAt_eq_of_covers 2 _ (by decide +kernel) fun t hf y => ?_
  blk_simp
  rw [after0_2, Pipeline.eq_sum_fin_of_reset_step_apply_of_flush (fun n h => (outsAt0 m c n h)) 4 (fun _ => 0) _
    (fun t h j => by rw [outsAt0_A m c t h (by omega)]; frame_out; rw [zero_add])
    (fun t h j => by rw [outsAt0_B m c t h (by omega)]; frame_out; pointwise [k0_pay3, k0_pay2])
    t ((flush0_2 t).mp hf) _, zero_add]
  idx_vars y
  refine Eq.trans (Fin.sum_fin_congr fun s => pay2 _ _ y0 y1 y2) (Eq.trans ?_ (congrArg _ (eq_ix3 _)).symm)
  refine Eq.trans ?_ (ref2 _ _ _ _ _).symm
  refine Fin.sum_mul_add_congr fun s k hl => ?_
  refine congrArg₂ (· * ·) ?_ ?_
  · blk_point [iblk, V, idx t, idx ⟨_, Pipeline.run_point_lt_of_flush t ((flush0_2 t).mp hf) s⟩]
  · blk_point [iblk, V, idx t, idx ⟨_, Pipeline.run_point_lt_of_flush t ((flush0_2 t).mp hf) s⟩]

end Cert.DwInIdeal.Hand

end
-- ==== Proof.DwIn.Claim.lean ====
module

public import proofs.«01_k».proof.Defs
public import proofs.«01_k».proof.Proof.Gen.DwInRefIdeal.Run
public import proofs.«01_k».proof.Proof.DwIn.Value

@[expose] public section

noncomputable section

namespace Cert.DwInIdeal.Hand

open Idealize.ShloMosaic Idealize.SL.Sem

/-- The reference ends with its arguments kept and every semaphore at zero. -/
theorem frame_ref : Cert.quiescent_DwInRefIdeal := fun m ρ _ =>
  (θ_run Cert.DwInRefIdeal.defs _ _).mono (fun r h => ⟨fun c => (h c).2,
    Idealize.ShloMosaic.sem_eq_zero_of_no_sems (by decide) r.2⟩) (Cert.DwInRefIdeal.Value.run m ρ)

/-- On equal arguments the kernel and the reference end with equal results. -/
theorem algebraic : Cert.algebraic_DwInIdeal_DwInRefIdeal := by
  intro m g m' g' _ hagree
  refine ⟨_, (θ_run _ _ _).mono (fun r h c => ⟨(h c).1.trans (Cert.DwInIdeal.Hand.final2 m c), (h c).2⟩)
      (Cert.DwInIdeal.Value.run_blocks m g),
    (θ_run _ _ _).mono (fun r h c => ⟨?_, (h c).2⟩) (Cert.DwInRefIdeal.Value.run m' g')⟩
  · refine (h c).1.trans ?_
    rw [(hagree c).1, (hagree c).2.2]
    exact Cert.DwInRefIdeal.Read.val_main_v6_eq _ _

end Cert.DwInIdeal.Hand

end
-- ==== Proof.Ff1Bwd.Value.lean ====
module

public import proofs.«01_k».proof.Proof.Gen.Ff1BwdIdeal.Value
public import proofs.«01_k».proof.Proof.Gen.Ff1BwdRefIdeal.Read
public import Idealize.ShloMosaic.Lib.Pipeline.ValueKit

@[expose] public section

set_option maxRecDepth 16384

noncomputable section

namespace Cert.Ff1BwdIdeal.Hand

open Idealize.ShloMosaic Idealize.ShloMosaic.TcCoe Idealize.SL.Sem
open Idealize.ShloMosaic.Pipeline (Dat)
open Cert.Ff1BwdIdeal Cert.Ff1BwdIdeal.Gen

/-- The reference's entry: the sum over all columns of the product of a gradient and a weight entry. -/
theorem ref (W : FVec Ideal S2048x8192 .bf16) (D : FVec Ideal S8192x8192 .bf16) (r : Fin 8192) (l : Fin 2048) :
    Cert.Ff1BwdRefIdeal.Read.val_main_v3 (F := Ideal) W D (ix2 r l)
      = ∑ k : Fin 8192, D (ix2 r k) * W (ix2 l k) := by
  rw [← Cert.Ff1BwdRefIdeal.Read.val_main_v3_eq]
  pointwise

/-- One shard's contribution to a tile. -/
theorem pay (A : FVec Ideal S1024x2048 .bf16) (B : FVec Ideal S1x2048x2048 .bf16) (r : Fin 1024) (l : Fin 2048) :
    k0_pay1 (F := Ideal) A B (ix2 r l) = ∑ k : Fin 2048, A (ix2 r k) * B (ix3 (0 : Fin 1) l k) := by
  pointwise [k0_pay1]

variable (m : (ℓ : Loc nD τ sig) → Buf (Elt Ideal) ℓ)

/-- Which block each window holds at each point of the grid. -/
theorem idx : ∀ t : Fin cfg0.N, win0_0.index t = ![t.val / 4, t.val % 4] ∧ win0_1.index t = ![t.val % 4, 0, 0]
    ∧ win0_2.index t = ![t.val / 4, 0] :=
  (by decide +kernel : ∀ t : Fin grid0.N, _)

/-- The weights the host code prepares: their columns cut into four shards. -/
theorem entry_v1 (c : Dev nD) : V m c main_v1
    = transpose S4x2048x2048 [1, 0, 2] (shapeCast S2048x4x2048 (show FVec Ideal S2048x8192 .bf16 from m ((c : Thread nD τ).loc main_arg1))
        shapeCasts_S2048x8192_S2048x4x2048) transposes_S2048x4x2048_S4x2048x2048_1_0_2 := by
  unfold V; after_results; try rfl

/-- A shard's block, at an index of the weights. -/
theorem blkw (c : Dev nD) (t : Fin cfg0.N) (z : Fin 1) (r : Fin 2048) (k : Fin 2048) (q : Fin 8192)
    (hq : (q : ℕ) = t.val % 4 * 2048 + k) :
    (show FVec Ideal S1x2048x2048 .bf16 from iblk m c 1 t) (ix3 z r k)
      = (show FVec Ideal S2048x8192 .bf16 from m ((c : Thread nD τ).loc main_arg1)) (ix2 r q) := by
  have e : ((cfg0.win 1).blk t).view.emb (ix3 z r k : S1x2048x2048.Idx)
      = (ix3 (⟨t.val % 4, Nat.mod_lt _ (by decide)⟩ : Fin 4) r k : S4x2048x2048.Idx) := by blk_ext [idx t]
  have hb : t.val % 4 * 2048 + k.val < 8192 := hq ▸ q.isLt
  obtain e2 : q = ⟨t.val % 4 * 2048 + k, hb⟩ := Fin.ext hq
  show V m c main_v1 _ = _; rw [e, entry_v1, e2]; pointwise

/-- The result the kernel leaves is the reference's array. -/
theorem final (c : Dev nD) : (dats m 0 c).arrAt 2 cfg0.N
    = Cert.Ff1BwdRefIdeal.Read.val_main_v3 (F := Ideal) (m ((c : Thread nD τ).loc main_arg1)) (m ((c : Thread nD τ).loc main_arg2)) := by
  refine (dats m 0 c).arrAt_eq_of_covers 2 _ (by decide +kernel) fun t hf y => ?_
  blk_simp
  rw [after0_2, Pipeline.eq_sum_fin_of_reset_step_apply_of_flush (fun n h => (outsAt0 m c n h)) 4 (fun _ => 0) _
    (fun t h j => by rw [outsAt0_A m c t h (by omega)]; frame_out; rw [zero_add])
    (fun t h j => by rw [outsAt0_B m c t h (by omega)]; frame_out; pointwise [k0_pay2])
    t ((flush0_2 t).mp hf) _, zero_add]
  idx_vars y
  refine Eq.trans ?_ (congrArg _ (eq_ix2 _)).symm
  refine Eq.trans ?_ (ref _ _ _ _).symm
  refine Eq.trans (Fin.sum_fin_congr fun s => pay _ _ y0 y1) ?_
  refine Fin.sum_mul_add_congr fun s k hl => ?_
  refine congrArg₂ (· * ·) ?_ ((blkw m c _ 0 y1 k ⟨s.val * 2048 + k.val, hl⟩ ?_).trans (congrArg _ ?_))
  · blk_point [iblk, V, idx t, idx ⟨_, Pipeline.run_point_lt_of_flush t ((flush0_2 t).mp hf) s⟩]
  · have := s.isLt; dsimp only; omega
  · blk_ext [idx t]

end Cert.Ff1BwdIdeal.Hand

end
-- ==== Proof.Ff1Bwd.Claim.lean ====
module

public import proofs.«01_k».proof.Defs
public import proofs.«01_k».proof.Proof.Gen.Ff1BwdRefIdeal.Run
public import proofs.«01_k».proof.Proof.Ff1Bwd.Value

@[expose] public section

noncomputable section

namespace Cert.Ff1BwdIdeal.Hand

open Idealize.ShloMosaic Idealize.SL.Sem

/-- The reference ends with its arguments kept and every semaphore at zero. -/
theorem frame_ref : Cert.quiescent_Ff1BwdRefIdeal := fun m ρ _ =>
  (θ_run Cert.Ff1BwdRefIdeal.defs _ _).mono (fun r h => ⟨fun c => (h c).2,
    Idealize.ShloMosaic.sem_eq_zero_of_no_sems (by decide) r.2⟩) (Cert.Ff1BwdRefIdeal.Value.run m ρ)

/-- On equal arguments the kernel and the reference end with equal results. -/
theorem algebraic : Cert.algebraic_Ff1BwdIdeal_Ff1BwdRefIdeal := by
  intro m g m' g' _ hagree
  refine ⟨_, (θ_run _ _ _).mono (fun r h c => ⟨(h c).1.trans (Cert.Ff1BwdIdeal.Hand.final m c), (h c).2⟩)
      (Cert.Ff1BwdIdeal.Value.run_blocks m g),
    (θ_run _ _ _).mono (fun r h c => ⟨?_, (h c).2⟩) (Cert.Ff1BwdRefIdeal.Value.run m' g')⟩
  · refine (h c).1.trans ?_
    rw [(hagree c).2.1, (hagree c).2.2.1]
    exact Cert.Ff1BwdRefIdeal.Read.val_main_v3_eq _ _

end Cert.Ff1BwdIdeal.Hand

end
-- ==== Proof.Shared.Norm.lean ====
module

public import Idealize.ShloMosaic.Lib.Pipeline.ValueKit

@[expose] public section

noncomputable section

namespace Cert.Hand

open Idealize.ShloMosaic

/-- The mean of a row of 2048 entries. -/
def mean (f : Fin 2048 → EReal) : EReal := Ideal.div (∑ k, f k) (Ideal.ofBits .f32 0x45000000#32)

/-- An entry of a row, less the row's mean. -/
def cen (f : Fin 2048 → EReal) (l : Fin 2048) : EReal := f l - mean f

/-- The reciprocal of the root of a row's variance, the small constant added. -/
def rstd (f : Fin 2048 → EReal) : EReal :=
  Ideal.rsqrt (mean (fun k => cen f k * cen f k) + Ideal.ofBits .f32 0x3727C5AC#32)

/-- An entry of the normalised row. -/
def xhat (f : Fin 2048 → EReal) (l : Fin 2048) : EReal := cen f l * rstd f

/-- An entry of the layer norm of a row. -/
def ln (g b f : Fin 2048 → EReal) (l : Fin 2048) : EReal := xhat f l * g l + b l

end Cert.Hand

end
-- ==== Proof.MixOut0.Value.lean ====
module

public import proofs.«01_k».proof.Proof.Gen.MixOut0Ideal.Value
public import proofs.«01_k».proof.Proof.Gen.MixOut0RefIdeal.Read
public import Idealize.ShloMosaic.Lib.Pipeline.ValueKit
public import proofs.«01_k».proof.Proof.Shared.Norm

@[expose] public section

set_option maxRecDepth 16384

noncomputable section

namespace Cert.MixOut0Ideal.Hand

open Idealize.ShloMosaic Idealize.ShloMosaic.TcCoe Idealize.SL.Sem
open Idealize.ShloMosaic.Pipeline (Dat)
open Cert.MixOut0Ideal Cert.MixOut0Ideal.Gen
open Cert.Hand

/-- The reference's residual sum: the input scaled, plus the product and the bias. -/
theorem ref6 (A : FVec Ideal S8192x2048 .f32) (W : FVec Ideal S2048x2048 .bf16) (B : FVec Ideal S2048 .f32) (X : FVec Ideal S8192x2048 .f32) (r : Fin 8192) (l : Fin 2048) :
    Cert.MixOut0RefIdeal.Read.val_main_v7 (F := Ideal) A W B X (ix2 r l)
      = Ideal.ofBits .f32 0x3FB504F3#32 * X (ix2 r l) + ((∑ k : Fin 2048, A (ix2 r k) * W (ix2 k l)) + B (ix1 l)) := by
  rw [← Cert.MixOut0RefIdeal.Read.val_main_v7_eq]
  pointwise [ln, xhat, rstd, cen, mean]
  try rfl

/-- The reference's second result: the layer norm of the first. -/
theorem ref7 (A : FVec Ideal S8192x2048 .f32) (W : FVec Ideal S2048x2048 .bf16) (B : FVec Ideal S2048 .f32) (X : FVec Ideal S8192x2048 .f32) (G P : FVec Ideal S2048 .f32) (r : Fin 8192) (l : Fin 2048) :
    Cert.MixOut0RefIdeal.Read.val_main_v30 (F := Ideal) A W B X G P (ix2 r l)
      = ln (fun k => G (ix1 k)) (fun k => P (ix1 k)) (fun k => Cert.MixOut0RefIdeal.Read.val_main_v7 (F := Ideal) A W B X (ix2 r k)) l := by
  pointwise [Cert.MixOut0RefIdeal.Read.val_main_cst_0, Cert.MixOut0RefIdeal.Read.val_main_v8, Cert.MixOut0RefIdeal.Read.val_main_v9, Cert.MixOut0RefIdeal.Read.val_main_cst_1, Cert.MixOut0RefIdeal.Read.val_main_v10, Cert.MixOut0RefIdeal.Read.val_main_v11, Cert.MixOut0RefIdeal.Read.val_main_v12, Cert.MixOut0RefIdeal.Read.val_main_v13, Cert.MixOut0RefIdeal.Read.val_main_v14, Cert.MixOut0RefIdeal.Read.val_main_cst_2, Cert.MixOut0RefIdeal.Read.val_main_v15, Cert.MixOut0RefIdeal.Read.val_main_v16, Cert.MixOut0RefIdeal.Read.val_main_cst_3, Cert.MixOut0RefIdeal.Read.val_main_v17, Cert.MixOut0RefIdeal.Read.val_main_v18, Cert.MixOut0RefIdeal.Read.val_main_cst_4, Cert.MixOut0RefIdeal.Read.val_main_v19, Cert.MixOut0RefIdeal.Read.val_main_v20, Cert.MixOut0RefIdeal.Read.val_main_v21, Cert.MixOut0RefIdeal.Read.val_main_v22, Cert.MixOut0RefIdeal.Read.val_main_v23, Cert.MixOut0RefIdeal.Read.val_main_v24, Cert.MixOut0RefIdeal.Read.val_main_v25, Cert.MixOut0RefIdeal.Read.val_main_v26, Cert.MixOut0RefIdeal.Read.val_main_v27, Cert.MixOut0RefIdeal.Read.val_main_v28, Cert.MixOut0RefIdeal.Read.val_main_v29, Cert.MixOut0RefIdeal.Read.val_main_v30, ln, xhat, rstd, cen, mean]
  try rfl

/-- What a point of the grid stores in the first output. -/
theorem stored6 (A : FVec Ideal S256x2048 .bf16) (W : FVec Ideal S2048x2048 .bf16) (X : FVec Ideal S256x2048 .f32) (B : FVec Ideal S1x2048 .f32) (r : Fin 256) (l : Fin 2048) :
    k0_pay2 (F := Ideal) A W X B (ix2 r l)
      = Ideal.ofBits .f32 0x3FB504F3#32 * X (ix2 r l) + ((∑ k : Fin 2048, A (ix2 r k) * W (ix2 k l)) + B (ix2 0 l)) := by
  pointwise [k0_pay2, ln, xhat, rstd, cen, mean]
  try rfl

/-- What a point of the grid stores in the second output. -/
theorem stored7 (A : FVec Ideal S256x2048 .bf16) (W : FVec Ideal S2048x2048 .bf16) (X : FVec Ideal S256x2048 .f32) (B : FVec Ideal S1x2048 .f32) (G P : FVec Ideal S1x2048 .f32) (r : Fin 256) (l : Fin 2048) :
    k0_pay1 (F := Ideal) (k0_pay3 (F := Ideal) A W X B G) (k0_pay4 (F := Ideal) P) (ix2 r l)
      = ln (fun k => G (ix2 0 k)) (fun k => P (ix2 0 k)) (fun k => k0_pay2 (F := Ideal) A W X B (ix2 r k)) l := by
  pointwise [k0_pay1, k0_pay3, k0_pay4, ln, xhat, rstd, cen, mean]
  try rfl

variable (m : (ℓ : Loc nD τ sig) → Buf (Elt Ideal) ℓ)

/-- Which block each window holds at each point of the grid. -/
theorem idx : ∀ t : Fin cfg0.N, win0_0.index t = ![t.val, 0]
    ∧ win0_1.index t = ![0, 0]
    ∧ win0_2.index t = ![0, 0]
    ∧ win0_3.index t = ![t.val, 0]
    ∧ win0_4.index t = ![0, 0]
    ∧ win0_5.index t = ![0, 0]
    ∧ win0_6.index t = ![t.val, 0]
    ∧ win0_7.index t = ![t.val, 0] :=
  (by decide +kernel : ∀ t : Fin grid0.N, _)

/-- The row the host code prepares of the bias. -/
theorem entry2 (c : Dev nD) : V m c main_v1 = shapeCast S1x2048 (show FVec Ideal S2048 .f32 from m ((c : Thread nD τ).loc main_arg2)) shapeCasts_S2048_S1x2048 := by
  unfold V; after_results; try rfl

/-- The row of the bias, at an index of the argument. -/
theorem blk2 (c : Dev nD) (t : Fin cfg0.N) (z : Fin 1) (l : Fin 2048) :
    (show FVec Ideal S1x2048 .f32 from iblk m c 2 t) (ix2 z l) = (show FVec Ideal S2048 .f32 from m ((c : Thread nD τ).loc main_arg2)) (ix1 l) := by
  have e : ((cfg0.win 2).blk t).view.emb (ix2 z l : S1x2048.Idx) = (ix2 z l : S1x2048.Idx) := by blk_ext [idx t]
  show V m c main_v1 _ = _; rw [e, entry2]; pointwise

/-- The row the host code prepares of the norm's scale. -/
theorem entry4 (c : Dev nD) : V m c main_v2 = shapeCast S1x2048 (show FVec Ideal S2048 .f32 from m ((c : Thread nD τ).loc main_arg4)) shapeCasts_S2048_S1x2048 := by
  unfold V; after_results; try rfl

/-- The row of the norm's scale, at an index of the argument. -/
theorem blk4 (c : Dev nD) (t : Fin cfg0.N) (z : Fin 1) (l : Fin 2048) :
    (show FVec Ideal S1x2048 .f32 from iblk m c 4 t) (ix2 z l) = (show FVec Ideal S2048 .f32 from m ((c : Thread nD τ).loc main_arg4)) (ix1 l) := by
  have e : ((cfg0.win 4).blk t).view.emb (ix2 z l : S1x2048.Idx) = (ix2 z l : S1x2048.Idx) := by blk_ext [idx t]
  show V m c main_v2 _ = _; rw [e, entry4]; pointwise

/-- The row the host code prepares of the norm's offset. -/
theorem entry5 (c : Dev nD) : V m c main_v3 = shapeCast S1x2048 (show FVec Ideal S2048 .f32 from m ((c : Thread nD τ).loc main_arg5)) shapeCasts_S2048_S1x2048 := by
  unfold V; after_results; try rfl

/-- The row of the norm's offset, at an index of the argument. -/
theorem blk5 (c : Dev nD) (t : Fin cfg0.N) (z : Fin 1) (l : Fin 2048) :
    (show FVec Ideal S1x2048 .f32 from iblk m c 5 t) (ix2 z l) = (show FVec Ideal S2048 .f32 from m ((c : Thread nD τ).loc main_arg5)) (ix1 l) := by
  have e : ((cfg0.win 5).blk t).view.emb (ix2 z l : S1x2048.Idx) = (ix2 z l : S1x2048.Idx) := by blk_ext [idx t]
  show V m c main_v3 _ = _; rw [e, entry5]; pointwise

/-- The block of the input, at an index of the array. -/
theorem blk3 (c : Dev nD) (t : Fin cfg0.N) (r : Fin 256) (l : Fin 2048) (q : Fin 8192) (hq : (q : ℕ) = t.val * 256 + r) :
    (show FVec Ideal S256x2048 .f32 from iblk m c 3 t) (ix2 r l) = (show FVec Ideal S8192x2048 .f32 from m ((c : Thread nD τ).loc main_arg3)) (ix2 q l) := by
  have e : ((cfg0.win 3).blk t).view.emb (ix2 r l : S256x2048.Idx) = (ix2 q l : S8192x2048.Idx) := by
    blk_ext [idx t]
    all_goals omega
  rw [← e]; blk_point [iblk, V, idx t]

/-- The left factor the host code casts. -/
theorem entry0 (c : Dev nD) : V m c main_v0 = truncf (F := Ideal) .bf16 (show FVec Ideal S8192x2048 .f32 from m ((c : Thread nD τ).loc main_arg0)) bitsLt_bf16_f32 := by
  unfold V; after_results; try rfl

/-- The block of the left factor, at an index of the array. -/
theorem blk0 (c : Dev nD) (t : Fin cfg0.N) (r : Fin 256) (l : Fin 2048) (q : Fin 8192) (hq : (q : ℕ) = t.val * 256 + r) :
    (show FVec Ideal S256x2048 .bf16 from iblk m c 0 t) (ix2 r l) = (show FVec Ideal S8192x2048 .f32 from m ((c : Thread nD τ).loc main_arg0)) (ix2 q l) := by
  have e : ((cfg0.win 0).blk t).view.emb (ix2 r l : S256x2048.Idx) = (ix2 q l : S8192x2048.Idx) := by
    blk_ext [idx t]
    all_goals omega
  show V m c main_v0 _ = _; rw [e, entry0]; pointwise

/-- The block of the weights is the whole array. -/
theorem blk1 (c : Dev nD) (t : Fin cfg0.N) (k l : Fin 2048) :
    (show FVec Ideal S2048x2048 .bf16 from iblk m c 1 t) (ix2 k l) = (show FVec Ideal S2048x2048 .bf16 from m ((c : Thread nD τ).loc main_arg1)) (ix2 k l) := by
  have e : ((cfg0.win 1).blk t).view.emb (ix2 k l : S2048x2048.Idx) = (ix2 k l : S2048x2048.Idx) := by blk_ext [idx t]
  refine Eq.trans ?_ (congrArg _ e); blk_point [iblk, V, idx t]

/-- What a point stores in the first output, at an index of the reference's array. -/
theorem pay6 (c : Dev nD) (t : Fin cfg0.N) (r : Fin 256) (l : Fin 2048) (q : Fin 8192) (hq : (q : ℕ) = t.val * 256 + r) :
    k0_pay2 (F := Ideal) (iblk m c 0 t) (iblk m c 1 t) (iblk m c 3 t) (iblk m c 2 t) (ix2 r l) = Cert.MixOut0RefIdeal.Read.val_main_v7 (F := Ideal) (m ((c : Thread nD τ).loc main_arg0)) (m ((c : Thread nD τ).loc main_arg1)) (m ((c : Thread nD τ).loc main_arg2)) (m ((c : Thread nD τ).loc main_arg3)) (ix2 q l) := by
  refine (stored6 (iblk m c 0 t) (iblk m c 1 t) (iblk m c 3 t) (iblk m c 2 t) r l).trans (Eq.trans ?_ (ref6 (m ((c : Thread nD τ).loc main_arg0)) (m ((c : Thread nD τ).loc main_arg1)) (m ((c : Thread nD τ).loc main_arg2)) (m ((c : Thread nD τ).loc main_arg3)) q l).symm)
  refine congrArg₂ (· + ·) (congrArg _ ?_) (congrArg₂ (· + ·) (Finset.sum_congr rfl fun k _ => congrArg₂ (· * ·) (blk0 m c t r k q hq) (blk1 m c t k l)) (blk2 m c t 0 l))
  exact blk3 m c t r l q hq

/-- What a point stores in the second output, at an index of the reference's array. -/
theorem pay7 (c : Dev nD) (t : Fin cfg0.N) (r : Fin 256) (l : Fin 2048) (q : Fin 8192) (hq : (q : ℕ) = t.val * 256 + r) :
    k0_pay1 (F := Ideal) (k0_pay3 (F := Ideal) (iblk m c 0 t) (iblk m c 1 t) (iblk m c 3 t) (iblk m c 2 t) (iblk m c 4 t)) (k0_pay4 (F := Ideal) (iblk m c 5 t)) (ix2 r l)
      = Cert.MixOut0RefIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 q l) := by
  refine (stored7 (iblk m c 0 t) (iblk m c 1 t) (iblk m c 3 t) (iblk m c 2 t) (iblk m c 4 t) (iblk m c 5 t) r l).trans (Eq.trans ?_ (ref7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q l).symm)
  rw [show (fun k => (show FVec Ideal S1x2048 .f32 from iblk m c 4 t) (ix2 0 k)) = _ from funext fun k => blk4 m c t 0 k,
    show (fun k => (show FVec Ideal S1x2048 .f32 from iblk m c 5 t) (ix2 0 k)) = _ from funext fun k => blk5 m c t 0 k,
    show (fun k => k0_pay2 (F := Ideal) (iblk m c 0 t) (iblk m c 1 t) (iblk m c 3 t) (iblk m c 2 t) (ix2 r k)) = _ from funext fun k => pay6 m c t r k q hq]

/-- The residual sum that the kernel leaves is the reference's. -/
theorem final6 (c : Dev nD) : (dats m 0 c).arrAt 6 cfg0.N
    = Cert.MixOut0RefIdeal.Read.val_main_v7 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]; unfold outsAt0; frame_out
  idx_vars y
  have hb : t.val * 256 + y0.val < 8192 := by have := t.isLt; have := y0.isLt; change t.val < 32 at *; omega
  refine (pay6 m c t y0 y1 ⟨t.val * 256 + y0.val, hb⟩ rfl).trans (congrArg _ ?_)
  blk_ext [idx t]
  all_goals omega

/-- The layer norm that the kernel leaves is the reference's. -/
theorem final7 (c : Dev nD) : (dats m 0 c).arrAt 7 cfg0.N
    = Cert.MixOut0RefIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]; unfold outsAt0; frame_out
  idx_vars y
  have hb : t.val * 256 + y0.val < 8192 := by have := t.isLt; have := y0.isLt; change t.val < 32 at *; omega
  refine (pay7 m c t y0 y1 ⟨t.val * 256 + y0.val, hb⟩ rfl).trans (congrArg _ ?_)
  blk_ext [idx t]
  all_goals omega

end Cert.MixOut0Ideal.Hand

end
-- ==== Proof.MixOut0.Claim.lean ====
module

public import proofs.«01_k».proof.Defs
public import proofs.«01_k».proof.Proof.Gen.MixOut0RefIdeal.Run
public import proofs.«01_k».proof.Proof.MixOut0.Value

@[expose] public section

noncomputable section

namespace Cert.MixOut0Ideal.Hand

open Idealize.ShloMosaic Idealize.SL.Sem

/-- The reference ends with its arguments kept and every semaphore at zero. -/
theorem frame_ref : Cert.quiescent_MixOut0RefIdeal := fun m ρ _ =>
  (θ_run Cert.MixOut0RefIdeal.defs _ _).mono (fun r h => ⟨fun c => (h c).2.2,
    Idealize.ShloMosaic.sem_eq_zero_of_no_sems (by decide) r.2⟩) (Cert.MixOut0RefIdeal.Value.run m ρ)

/-- On equal arguments the kernel and the reference end with equal results. -/
theorem algebraic : Cert.algebraic_MixOut0Ideal_MixOut0RefIdeal := by
  intro m g m' g' _ hagree
  refine ⟨_, _, (θ_run _ _ _).mono (fun r h c => ⟨(h c).1.trans (Cert.MixOut0Ideal.Hand.final6 m c), (h c).2.1.trans (Cert.MixOut0Ideal.Hand.final7 m c), (h c).2.2⟩)
      (Cert.MixOut0Ideal.Value.run_blocks m g),
    (θ_run _ _ _).mono (fun r h c => ⟨?_, ?_, (h c).2.2⟩) (Cert.MixOut0RefIdeal.Value.run m' g')⟩
  · refine (h c).1.trans ?_
    rw [(hagree c).1, (hagree c).2.1, (hagree c).2.2.1, (hagree c).2.2.2.1]
    exact Cert.MixOut0RefIdeal.Read.val_main_v7_eq _ _ _ _
  · refine (h c).2.1.trans ?_
    rw [← (hagree c).1, ← (hagree c).2.1, ← (hagree c).2.2.1, ← (hagree c).2.2.2.1, ← (hagree c).2.2.2.2.1, ← (hagree c).2.2.2.2.2.1]
    exact Cert.MixOut0RefIdeal.Read.val_main_v30_eq _ _

end Cert.MixOut0Ideal.Hand

end
-- ==== Proof.MixOut1.Value.lean ====
module

public import proofs.«01_k».proof.Proof.Gen.MixOut1Ideal.Value
public import proofs.«01_k».proof.Proof.Gen.MixOut1RefIdeal.Read
public import Idealize.ShloMosaic.Lib.Pipeline.ValueKit
public import proofs.«01_k».proof.Proof.Shared.Norm

@[expose] public section

set_option maxRecDepth 16384

noncomputable section

namespace Cert.MixOut1Ideal.Hand

open Idealize.ShloMosaic Idealize.ShloMosaic.TcCoe Idealize.SL.Sem
open Idealize.ShloMosaic.Pipeline (Dat)
open Cert.MixOut1Ideal Cert.MixOut1Ideal.Gen
open Cert.Hand

/-- The reference's residual sum: the input scaled, plus the product and the bias. -/
theorem ref8 (A : FVec Ideal S8192x2048 .f32) (W : FVec Ideal S2048x2048 .bf16) (B : FVec Ideal S2048 .f32) (X : FVec Ideal S8192x2048 .f32) (H Q : FVec Ideal S2048 .f32) (r : Fin 8192) (l : Fin 2048) :
    Cert.MixOut1RefIdeal.Read.val_main_v29 (F := Ideal) A W B X H Q (ix2 r l)
      = Ideal.ofBits .f32 0x3FB504F3#32 * ln (fun k => H (ix1 k)) (fun k => Q (ix1 k)) (fun k => X (ix2 r k)) l + ((∑ k : Fin 2048, A (ix2 r k) * W (ix2 k l)) + B (ix1 l)) := by
  rw [← Cert.MixOut1RefIdeal.Read.val_main_v29_eq]
  pointwise [ln, xhat, rstd, cen, mean]
  try rfl

/-- The reference's second result: the layer norm of the first. -/
theorem ref9 (A : FVec Ideal S8192x2048 .f32) (W : FVec Ideal S2048x2048 .bf16) (B : FVec Ideal S2048 .f32) (X : FVec Ideal S8192x2048 .f32) (G P : FVec Ideal S2048 .f32) (H Q : FVec Ideal S2048 .f32) (r : Fin 8192) (l : Fin 2048) :
    Cert.MixOut1RefIdeal.Read.val_main_v52 (F := Ideal) A W B X G P H Q (ix2 r l)
      = ln (fun k => G (ix1 k)) (fun k => P (ix1 k)) (fun k => Cert.MixOut1RefIdeal.Read.val_main_v29 (F := Ideal) A W B X H Q (ix2 r k)) l := by
  pointwise [Cert.MixOut1RefIdeal.Read.val_main_cst_5, Cert.MixOut1RefIdeal.Read.val_main_v30, Cert.MixOut1RefIdeal.Read.val_main_v31, Cert.MixOut1RefIdeal.Read.val_main_cst_6, Cert.MixOut1RefIdeal.Read.val_main_v32, Cert.MixOut1RefIdeal.Read.val_main_v33, Cert.MixOut1RefIdeal.Read.val_main_v34, Cert.MixOut1RefIdeal.Read.val_main_v35, Cert.MixOut1RefIdeal.Read.val_main_v36, Cert.MixOut1RefIdeal.Read.val_main_cst_7, Cert.MixOut1RefIdeal.Read.val_main_v37, Cert.MixOut1RefIdeal.Read.val_main_v38, Cert.MixOut1RefIdeal.Read.val_main_cst_8, Cert.MixOut1RefIdeal.Read.val_main_v39, Cert.MixOut1RefIdeal.Read.val_main_v40, Cert.MixOut1RefIdeal.Read.val_main_cst_9, Cert.MixOut1RefIdeal.Read.val_main_v41, Cert.MixOut1RefIdeal.Read.val_main_v42, Cert.MixOut1RefIdeal.Read.val_main_v43, Cert.MixOut1RefIdeal.Read.val_main_v44, Cert.MixOut1RefIdeal.Read.val_main_v45, Cert.MixOut1RefIdeal.Read.val_main_v46, Cert.MixOut1RefIdeal.Read.val_main_v47, Cert.MixOut1RefIdeal.Read.val_main_v48, Cert.MixOut1RefIdeal.Read.val_main_v49, Cert.MixOut1RefIdeal.Read.val_main_v50, Cert.MixOut1RefIdeal.Read.val_main_v51, Cert.MixOut1RefIdeal.Read.val_main_v52, ln, xhat, rstd, cen, mean]
  try rfl

/-- What a point of the grid stores in the first output. -/
theorem stored8 (A : FVec Ideal S256x2048 .bf16) (W : FVec Ideal S2048x2048 .bf16) (X : FVec Ideal S256x2048 .f32) (H Q B : FVec Ideal S1x2048 .f32) (r : Fin 256) (l : Fin 2048) :
    k0_pay2 (F := Ideal) A W X H Q B (ix2 r l)
      = Ideal.ofBits .f32 0x3FB504F3#32 * ln (fun k => H (ix2 0 k)) (fun k => Q (ix2 0 k)) (fun k => X (ix2 r k)) l + ((∑ k : Fin 2048, A (ix2 r k) * W (ix2 k l)) + B (ix2 0 l)) := by
  pointwise [k0_pay2, ln, xhat, rstd, cen, mean]
  try rfl

/-- What a point of the grid stores in the second output. -/
theorem stored9 (A : FVec Ideal S256x2048 .bf16) (W : FVec Ideal S2048x2048 .bf16) (X : FVec Ideal S256x2048 .f32) (H Q B : FVec Ideal S1x2048 .f32) (G P : FVec Ideal S1x2048 .f32) (r : Fin 256) (l : Fin 2048) :
    k0_pay1 (F := Ideal) (k0_pay2 (F := Ideal) A W X H Q B) G P (ix2 r l)
      = ln (fun k => G (ix2 0 k)) (fun k => P (ix2 0 k)) (fun k => k0_pay2 (F := Ideal) A W X H Q B (ix2 r k)) l := by
  pointwise [k0_pay1, ln, xhat, rstd, cen, mean]
  try rfl

variable (m : (ℓ : Loc nD τ sig) → Buf (Elt Ideal) ℓ)

/-- Which block each window holds at each point of the grid. -/
theorem idx : ∀ t : Fin cfg0.N, win0_0.index t = ![t.val, 0]
    ∧ win0_1.index t = ![0, 0]
    ∧ win0_2.index t = ![0, 0]
    ∧ win0_3.index t = ![t.val, 0]
    ∧ win0_4.index t = ![0, 0]
    ∧ win0_5.index t = ![0, 0]
    ∧ win0_6.index t = ![0, 0]
    ∧ win0_7.index t = ![0, 0]
    ∧ win0_8.index t = ![t.val, 0]
    ∧ win0_9.index t = ![t.val, 0] :=
  (by decide +kernel : ∀ t : Fin grid0.N, _)

/-- The row the host code prepares of the bias. -/
theorem entry2 (c : Dev nD) : V m c main_v1 = shapeCast S1x2048 (show FVec Ideal S2048 .f32 from m ((c : Thread nD τ).loc main_arg2)) shapeCasts_S2048_S1x2048 := by
  unfold V; after_results; try rfl

/-- The row of the bias, at an index of the argument. -/
theorem blk2 (c : Dev nD) (t : Fin cfg0.N) (z : Fin 1) (l : Fin 2048) :
    (show FVec Ideal S1x2048 .f32 from iblk m c 2 t) (ix2 z l) = (show FVec Ideal S2048 .f32 from m ((c : Thread nD τ).loc main_arg2)) (ix1 l) := by
  have e : ((cfg0.win 2).blk t).view.emb (ix2 z l : S1x2048.Idx) = (ix2 z l : S1x2048.Idx) := by blk_ext [idx t]
  show V m c main_v1 _ = _; rw [e, entry2]; pointwise

/-- The row the host code prepares of the norm's scale. -/
theorem entry4 (c : Dev nD) : V m c main_v2 = shapeCast S1x2048 (show FVec Ideal S2048 .f32 from m ((c : Thread nD τ).loc main_arg4)) shapeCasts_S2048_S1x2048 := by
  unfold V; after_results; try rfl

/-- The row of the norm's scale, at an index of the argument. -/
theorem blk4 (c : Dev nD) (t : Fin cfg0.N) (z : Fin 1) (l : Fin 2048) :
    (show FVec Ideal S1x2048 .f32 from iblk m c 4 t) (ix2 z l) = (show FVec Ideal S2048 .f32 from m ((c : Thread nD τ).loc main_arg4)) (ix1 l) := by
  have e : ((cfg0.win 4).blk t).view.emb (ix2 z l : S1x2048.Idx) = (ix2 z l : S1x2048.Idx) := by blk_ext [idx t]
  show V m c main_v2 _ = _; rw [e, entry4]; pointwise

/-- The row the host code prepares of the norm's offset. -/
theorem entry5 (c : Dev nD) : V m c main_v3 = shapeCast S1x2048 (show FVec Ideal S2048 .f32 from m ((c : Thread nD τ).loc main_arg5)) shapeCasts_S2048_S1x2048 := by
  unfold V; after_results; try rfl

/-- The row of the norm's offset, at an index of the argument. -/
theorem blk5 (c : Dev nD) (t : Fin cfg0.N) (z : Fin 1) (l : Fin 2048) :
    (show FVec Ideal S1x2048 .f32 from iblk m c 5 t) (ix2 z l) = (show FVec Ideal S2048 .f32 from m ((c : Thread nD τ).loc main_arg5)) (ix1 l) := by
  have e : ((cfg0.win 5).blk t).view.emb (ix2 z l : S1x2048.Idx) = (ix2 z l : S1x2048.Idx) := by blk_ext [idx t]
  show V m c main_v3 _ = _; rw [e, entry5]; pointwise

/-- The row the host code prepares of the earlier norm's scale. -/
theorem entry6 (c : Dev nD) : V m c main_v4 = shapeCast S1x2048 (show FVec Ideal S2048 .f32 from m ((c : Thread nD τ).loc main_arg6)) shapeCasts_S2048_S1x2048 := by
  unfold V; after_results; try rfl

/-- The row of the earlier norm's scale, at an index of the argument. -/
theorem blk6 (c : Dev nD) (t : Fin cfg0.N) (z : Fin 1) (l : Fin 2048) :
    (show FVec Ideal S1x2048 .f32 from iblk m c 6 t) (ix2 z l) = (show FVec Ideal S2048 .f32 from m ((c : Thread nD τ).loc main_arg6)) (ix1 l) := by
  have e : ((cfg0.win 6).blk t).view.emb (ix2 z l : S1x2048.Idx) = (ix2 z l : S1x2048.Idx) := by blk_ext [idx t]
  show V m c main_v4 _ = _; rw [e, entry6]; pointwise

/-- The row the host code prepares of the earlier norm's offset. -/
theorem entry7 (c : Dev nD) : V m c main_v5 = shapeCast S1x2048 (show FVec Ideal S2048 .f32 from m ((c : Thread nD τ).loc main_arg7)) shapeCasts_S2048_S1x2048 := by
  unfold V; after_results; try rfl

/-- The row of the earlier norm's offset, at an index of the argument. -/
theorem blk7 (c : Dev nD) (t : Fin cfg0.N) (z : Fin 1) (l : Fin 2048) :
    (show FVec Ideal S1x2048 .f32 from iblk m c 7 t) (ix2 z l) = (show FVec Ideal S2048 .f32 from m ((c : Thread nD τ).loc main_arg7)) (ix1 l) := by
  have e : ((cfg0.win 7).blk t).view.emb (ix2 z l : S1x2048.Idx) = (ix2 z l : S1x2048.Idx) := by blk_ext [idx t]
  show V m c main_v5 _ = _; rw [e, entry7]; pointwise

/-- The block of the input, at an index of the array. -/
theorem blk3 (c : Dev nD) (t : Fin cfg0.N) (r : Fin 256) (l : Fin 2048) (q : Fin 8192) (hq : (q : ℕ) = t.val * 256 + r) :
    (show FVec Ideal S256x2048 .f32 from iblk m c 3 t) (ix2 r l) = (show FVec Ideal S8192x2048 .f32 from m ((c : Thread nD τ).loc main_arg3)) (ix2 q l) := by
  have e : ((cfg0.win 3).blk t).view.emb (ix2 r l : S256x2048.Idx) = (ix2 q l : S8192x2048.Idx) := by
    blk_ext [idx t]
    all_goals omega
  rw [← e]; blk_point [iblk, V, idx t]

/-- The left factor the host code casts. -/
theorem entry0 (c : Dev nD) : V m c main_v0 = truncf (F := Ideal) .bf16 (show FVec Ideal S8192x2048 .f32 from m ((c : Thread nD τ).loc main_arg0)) bitsLt_bf16_f32 := by
  unfold V; after_results; try rfl

/-- The block of the left factor, at an index of the array. -/
theorem blk0 (c : Dev nD) (t : Fin cfg0.N) (r : Fin 256) (l : Fin 2048) (q : Fin 8192) (hq : (q : ℕ) = t.val * 256 + r) :
    (show FVec Ideal S256x2048 .bf16 from iblk m c 0 t) (ix2 r l) = (show FVec Ideal S8192x2048 .f32 from m ((c : Thread nD τ).loc main_arg0)) (ix2 q l) := by
  have e : ((cfg0.win 0).blk t).view.emb (ix2 r l : S256x2048.Idx) = (ix2 q l : S8192x2048.Idx) := by
    blk_ext [idx t]
    all_goals omega
  show V m c main_v0 _ = _; rw [e, entry0]; pointwise

/-- The block of the weights is the whole array. -/
theorem blk1 (c : Dev nD) (t : Fin cfg0.N) (k l : Fin 2048) :
    (show FVec Ideal S2048x2048 .bf16 from iblk m c 1 t) (ix2 k l) = (show FVec Ideal S2048x2048 .bf16 from m ((c : Thread nD τ).loc main_arg1)) (ix2 k l) := by
  have e : ((cfg0.win 1).blk t).view.emb (ix2 k l : S2048x2048.Idx) = (ix2 k l : S2048x2048.Idx) := by blk_ext [idx t]
  refine Eq.trans ?_ (congrArg _ e); blk_point [iblk, V, idx t]

/-- What a point stores in the first output, at an index of the reference's array. -/
theorem pay8 (c : Dev nD) (t : Fin cfg0.N) (r : Fin 256) (l : Fin 2048) (q : Fin 8192) (hq : (q : ℕ) = t.val * 256 + r) :
    k0_pay2 (F := Ideal) (iblk m c 0 t) (iblk m c 1 t) (iblk m c 3 t) (iblk m c 6 t) (iblk m c 7 t) (iblk m c 2 t) (ix2 r l) = Cert.MixOut1RefIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (ix2 q l) := by
  refine (stored8 (iblk m c 0 t) (iblk m c 1 t) (iblk m c 3 t) (iblk m c 6 t) (iblk m c 7 t) (iblk m c 2 t) r l).trans (Eq.trans ?_ (ref8 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) q l).symm)
  refine congrArg₂ (· + ·) (congrArg _ ?_) (congrArg₂ (· + ·) (Finset.sum_congr rfl fun k _ => congrArg₂ (· * ·) (blk0 m c t r k q hq) (blk1 m c t k l)) (blk2 m c t 0 l))
  rw [show (fun k => (show FVec Ideal S1x2048 .f32 from iblk m c 6 t) (ix2 0 k)) = _ from funext fun k => blk6 m c t 0 k, show (fun k => (show FVec Ideal S1x2048 .f32 from iblk m c 7 t) (ix2 0 k)) = _ from funext fun k => blk7 m c t 0 k, show (fun k => (show FVec Ideal S256x2048 .f32 from iblk m c 3 t) (ix2 r k)) = _ from funext fun k => blk3 m c t r k q hq]

/-- What a point stores in the second output, at an index of the reference's array. -/
theorem pay9 (c : Dev nD) (t : Fin cfg0.N) (r : Fin 256) (l : Fin 2048) (q : Fin 8192) (hq : (q : ℕ) = t.val * 256 + r) :
    k0_pay1 (F := Ideal) (k0_pay2 (F := Ideal) (iblk m c 0 t) (iblk m c 1 t) (iblk m c 3 t) (iblk m c 6 t) (iblk m c 7 t) (iblk m c 2 t)) (iblk m c 4 t) (iblk m c 5 t) (ix2 r l)
      = Cert.MixOut1RefIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 q l) := by
  refine (stored9 (iblk m c 0 t) (iblk m c 1 t) (iblk m c 3 t) (iblk m c 6 t) (iblk m c 7 t) (iblk m c 2 t) (iblk m c 4 t) (iblk m c 5 t) r l).trans (Eq.trans ?_ (ref9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) q l).symm)
  rw [show (fun k => (show FVec Ideal S1x2048 .f32 from iblk m c 4 t) (ix2 0 k)) = _ from funext fun k => blk4 m c t 0 k,
    show (fun k => (show FVec Ideal S1x2048 .f32 from iblk m c 5 t) (ix2 0 k)) = _ from funext fun k => blk5 m c t 0 k,
    show (fun k => k0_pay2 (F := Ideal) (iblk m c 0 t) (iblk m c 1 t) (iblk m c 3 t) (iblk m c 6 t) (iblk m c 7 t) (iblk m c 2 t) (ix2 r k)) = _ from funext fun k => pay8 m c t r k q hq]

/-- The residual sum that the kernel leaves is the reference's. -/
theorem final8 (c : Dev nD) : (dats m 0 c).arrAt 8 cfg0.N
    = Cert.MixOut1RefIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := by
  refine (dats m 0 c).arrAt_eq_of_covers 8 _ (by decide +kernel) fun t hf y => ?_
  blk_simp
  rw [after0_8]; unfold_out out0_8; frame_out
  idx_vars y
  have hb : t.val * 256 + y0.val < 8192 := by have := t.isLt; have := y0.isLt; change t.val < 32 at *; omega
  refine (pay8 m c t y0 y1 ⟨t.val * 256 + y0.val, hb⟩ rfl).trans (congrArg _ ?_)
  blk_ext [idx t]
  all_goals omega

/-- The layer norm that the kernel leaves is the reference's. -/
theorem final9 (c : Dev nD) : (dats m 0 c).arrAt 9 cfg0.N
    = Cert.MixOut1RefIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  rw [after0_9]; unfold_out out0_9; frame_out
  idx_vars y
  have hb : t.val * 256 + y0.val < 8192 := by have := t.isLt; have := y0.isLt; change t.val < 32 at *; omega
  refine (pay9 m c t y0 y1 ⟨t.val * 256 + y0.val, hb⟩ rfl).trans (congrArg _ ?_)
  blk_ext [idx t]
  all_goals omega

end Cert.MixOut1Ideal.Hand

end
-- ==== Proof.MixOut1.Claim.lean ====
module

public import proofs.«01_k».proof.Defs
public import proofs.«01_k».proof.Proof.Gen.MixOut1RefIdeal.Run
public import proofs.«01_k».proof.Proof.MixOut1.Value

@[expose] public section

noncomputable section

namespace Cert.MixOut1Ideal.Hand

open Idealize.ShloMosaic Idealize.SL.Sem

/-- The reference ends with its arguments kept and every semaphore at zero. -/
theorem frame_ref : Cert.quiescent_MixOut1RefIdeal := fun m ρ _ =>
  (θ_run Cert.MixOut1RefIdeal.defs _ _).mono (fun r h => ⟨fun c => (h c).2.2,
    Idealize.ShloMosaic.sem_eq_zero_of_no_sems (by decide) r.2⟩) (Cert.MixOut1RefIdeal.Value.run m ρ)

/-- On equal arguments the kernel and the reference end with equal results. -/
theorem algebraic : Cert.algebraic_MixOut1Ideal_MixOut1RefIdeal := by
  intro m g m' g' _ hagree
  refine ⟨_, _, (θ_run _ _ _).mono (fun r h c => ⟨(h c).1.trans (Cert.MixOut1Ideal.Hand.final8 m c), (h c).2.1.trans (Cert.MixOut1Ideal.Hand.final9 m c), (h c).2.2⟩)
      (Cert.MixOut1Ideal.Value.run_blocks m g),
    (θ_run _ _ _).mono (fun r h c => ⟨?_, ?_, (h c).2.2⟩) (Cert.MixOut1RefIdeal.Value.run m' g')⟩
  · refine (h c).1.trans ?_
    rw [(hagree c).1, (hagree c).2.1, (hagree c).2.2.1, (hagree c).2.2.2.1, (hagree c).2.2.2.2.2.2.1, (hagree c).2.2.2.2.2.2.2]
    exact Cert.MixOut1RefIdeal.Read.val_main_v29_eq _ _ _ _ _ _
  · refine (h c).2.1.trans ?_
    rw [← (hagree c).1, ← (hagree c).2.1, ← (hagree c).2.2.1, ← (hagree c).2.2.2.1, ← (hagree c).2.2.2.2.1, ← (hagree c).2.2.2.2.2.1, ← (hagree c).2.2.2.2.2.2.1, ← (hagree c).2.2.2.2.2.2.2]
    exact Cert.MixOut1RefIdeal.Read.val_main_v52_eq _ _

end Cert.MixOut1Ideal.Hand

end
-- ==== Proof.Proj.Value.lean ====
module

public import proofs.«01_k».proof.Proof.Gen.ProjIdeal.Value
public import proofs.«01_k».proof.Proof.Gen.ProjRefIdeal.Read
public import Idealize.ShloMosaic.Lib.Pipeline.ValueKit

@[expose] public section

set_option maxRecDepth 16384

noncomputable section

namespace Cert.ProjIdeal.Hand

open Idealize.ShloMosaic Idealize.ShloMosaic.TcCoe Idealize.SL.Sem
open Idealize.ShloMosaic.Pipeline (Dat)
open Cert.ProjIdeal Cert.ProjIdeal.Gen

variable (m : (ℓ : Loc nD τ sig) → Buf (Elt Ideal) ℓ)

/-- Which block each window holds at each point of the grid. -/
theorem idx : ∀ t : Fin cfg0.N, win0_0.index t = ![t.val / 4, 0] ∧ win0_1.index t = ![t.val % 4, 0, 0] ∧ win0_2.index t = ![0, t.val % 4] ∧ win0_3.index t = ![t.val / 4, t.val % 4] :=
  (by decide +kernel : ∀ t : Fin grid0.N, _)

/-- The rows the host code prepares are the rows themselves. -/
theorem entry_v2 (c : Dev nD) : V m c main_v2
    = truncf (F := Ideal) .bf16 (show FVec Ideal S8192x2048 .f32 from m ((c : Thread nD τ).loc main_arg0)) bitsLt_bf16_f32 := by
  unfold V; after_results; try rfl

/-- The weights the host code prepares: their columns cut into four shards. -/
theorem entry_v1 (c : Dev nD) : V m c main_v1
    = transpose S4x2048x896 [1, 0, 2] (shapeCast S2048x4x896 (show FVec Ideal S2048x3584 .bf16 from m ((c : Thread nD τ).loc main_arg1))
        shapeCasts_S2048x3584_S2048x4x896) transposes_S2048x4x896_S4x2048x896_1_0_2 := by
  unfold V; after_results; try rfl

/-- The bias the host code prepares, as one row. -/
theorem entry_v3 (c : Dev nD) : V m c main_v3
    = shapeCast S1x3584 (show FVec Ideal S3584 .f32 from m ((c : Thread nD τ).loc main_arg2)) shapeCasts_S3584_S1x3584 := by
  unfold V; after_results; try rfl

/-- A block of rows. -/
theorem blkx (c : Dev nD) (t : Fin cfg0.N) (r : Fin 1024) (l : Fin 2048) (i : S8192x2048.Idx)
    (h0 : (i 0 : ℕ) = t.val / 4 * 1024 + r) (h1 : (i 1 : ℕ) = l) :
    (show FVec Ideal S1024x2048 .bf16 from iblk m c 0 t) (ix2 r l)
      = (show FVec Ideal S8192x2048 .f32 from m ((c : Thread nD τ).loc main_arg0)) i := by
  have e : ((cfg0.win 0).blk t).view.emb (ix2 r l : S1024x2048.Idx) = i := by blk_ext [idx t]
  rw [← e]; show V m c main_v2 _ = _; rw [entry_v2]; pointwise

/-- A block of a shard of the weights. -/
theorem blkw (c : Dev nD) (t : Fin cfg0.N) (z : Fin 1) (r : Fin 2048) (k : Fin 896) (q : Fin 3584)
    (hq : (q : ℕ) = t.val % 4 * 896 + k) :
    (show FVec Ideal S1x2048x896 .bf16 from iblk m c 1 t) (ix3 z r k)
      = (show FVec Ideal S2048x3584 .bf16 from m ((c : Thread nD τ).loc main_arg1)) (ix2 r q) := by
  have e : ((cfg0.win 1).blk t).view.emb (ix3 z r k : S1x2048x896.Idx)
      = (ix3 (⟨t.val % 4 / 1, by omega⟩ : Fin 4) r (⟨t.val % 1 * 896 + k.val, by omega⟩ : Fin 896) : S4x2048x896.Idx) := by
    blk_ext [idx t]
  have hb : t.val % 4 / 1 * 896 + (t.val % 1 * 896 + k.val) < 3584 := by omega
  have e2 : q = ⟨t.val % 4 / 1 * 896 + (t.val % 1 * 896 + k.val), hb⟩ := Fin.ext (by dsimp only; omega)
  refine Eq.trans ?_ (congrArg (fun u => (show FVec Ideal S2048x3584 .bf16 from m ((c : Thread nD τ).loc main_arg1)) (ix2 r u)) e2.symm)
  show V m c main_v1 _ = _; rw [e, entry_v1]; pointwise

/-- A block of the bias. -/
theorem blkb (c : Dev nD) (t : Fin cfg0.N) (z : Fin 1) (k : Fin 896) (q : Fin 3584)
    (hq : (q : ℕ) = t.val % 4 * 896 + k) :
    (show FVec Ideal S1x896 .f32 from iblk m c 2 t) (ix2 z k)
      = (show FVec Ideal S3584 .f32 from m ((c : Thread nD τ).loc main_arg2)) (ix1 q) := by
  have e : ((cfg0.win 2).blk t).view.emb (ix2 z k : S1x896.Idx) = (ix2 (0 : Fin 1) q : S1x3584.Idx) := by blk_ext [idx t]
  show V m c main_v3 _ = _; rw [e, entry_v3]; pointwise

/-- The affine map of a block's entry is that of the whole arrays' entry. -/
theorem aff (c : Dev nD) (t : Fin cfg0.N) (r : Fin 1024) (l : Fin 896) (i : Fin 8192) (q : Fin 3584)
    (hi : (i : ℕ) = t.val / 4 * 1024 + r) (hq : (q : ℕ) = t.val % 4 * 896 + l) :
    (∑ k : Fin 2048, (show FVec Ideal S1024x2048 .bf16 from iblk m c 0 t) (ix2 r k)
        * (show FVec Ideal S1x2048x896 .bf16 from iblk m c 1 t) (ix3 (0 : Fin 1) k l))
      + (show FVec Ideal S1x896 .f32 from iblk m c 2 t) (ix2 (0 : Fin 1) l)
    = (∑ k : Fin 2048, (show FVec Ideal S8192x2048 .f32 from m ((c : Thread nD τ).loc main_arg0)) (ix2 i k)
        * (show FVec Ideal S2048x3584 .bf16 from m ((c : Thread nD τ).loc main_arg1)) (ix2 k q))
      + (show FVec Ideal S3584 .f32 from m ((c : Thread nD τ).loc main_arg2)) (ix1 q) := by
  rw [blkb m c t 0 l q hq]
  refine congrArg (· + _) (Finset.sum_congr rfl fun k _ => ?_)
  rw [blkx m c t r k (ix2 i k) hi rfl, blkw m c t 0 k l q hq]

/-- The reference's entry. -/
theorem ref3 (X : FVec Ideal S8192x2048 .f32) (W : FVec Ideal S2048x3584 .bf16) (b : FVec Ideal S3584 .f32) (r : Fin 8192) (l : Fin 3584) :
    Cert.ProjRefIdeal.Read.val_main_v4 (F := Ideal) X W b (ix2 r l) = (∑ k : Fin 2048, X (ix2 r k) * W (ix2 k l)) + b (ix1 l) := by
  rw [← Cert.ProjRefIdeal.Read.val_main_v4_eq]
  pointwise

/-- What a point of the grid stores. -/
theorem pay3 (A : FVec Ideal S1024x2048 .bf16) (B : FVec Ideal S1x2048x896 .bf16) (b : FVec Ideal S1x896 .f32) (r : Fin 1024) (l : Fin 896) :
    k0_pay1 (F := Ideal) A B b (ix2 r l) = (∑ k : Fin 2048, A (ix2 r k) * B (ix3 (0 : Fin 1) k l)) + b (ix2 (0 : Fin 1) l) := by
  pointwise [k0_pay1, k0_pay1]

/-- The result the kernel leaves is the reference's array. -/
theorem final3 (c : Dev nD) : (dats m 0 c).arrAt 3 cfg0.N
    = Cert.ProjRefIdeal.Read.val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  idx_vars y
  refine (pay3 _ _ _ _ _).trans (Eq.trans ?_ (congrArg _ (eq_ix2 _)).symm)
  refine Eq.trans ?_ (ref3 _ _ _ _ _).symm
  exact congrArg (fun x : EReal => x) (aff m c t y0 y1 _ _ (by blk_simp [idx t]) (by blk_simp [idx t]))

end Cert.ProjIdeal.Hand

end
-- ==== Proof.Proj.Claim.lean ====
module

public import proofs.«01_k».proof.Defs
public import proofs.«01_k».proof.Proof.Gen.ProjRefIdeal.Run
public import proofs.«01_k».proof.Proof.Proj.Value

@[expose] public section

noncomputable section

namespace Cert.ProjIdeal.Hand

open Idealize.ShloMosaic Idealize.SL.Sem

/-- The reference ends with its arguments kept and every semaphore at zero. -/
theorem frame_ref : Cert.quiescent_ProjRefIdeal := fun m ρ _ =>
  (θ_run Cert.ProjRefIdeal.defs _ _).mono (fun r h => ⟨fun c => (h c).2,
    Idealize.ShloMosaic.sem_eq_zero_of_no_sems (by decide) r.2⟩) (Cert.ProjRefIdeal.Value.run m ρ)

/-- On equal arguments the kernel and the reference end with equal results. -/
theorem algebraic : Cert.algebraic_ProjIdeal_ProjRefIdeal := by
  intro m g m' g' _ hagree
  refine ⟨_, (θ_run _ _ _).mono (fun r h c => ⟨(h c).1.trans (Cert.ProjIdeal.Hand.final3 m c), (h c).2⟩)
      (Cert.ProjIdeal.Value.run_blocks m g),
    (θ_run _ _ _).mono (fun r h c => ⟨?_, (h c).2⟩) (Cert.ProjRefIdeal.Value.run m' g')⟩
  · refine (h c).1.trans ?_
    rw [(hagree c).1, (hagree c).2.1, (hagree c).2.2]
    exact Cert.ProjRefIdeal.Read.val_main_v4_eq _ _ _

end Cert.ProjIdeal.Hand

end
-- ==== Proof.Ff1.Value.lean ====
module

public import proofs.«01_k».proof.Proof.Gen.Ff1Ideal.Value
public import proofs.«01_k».proof.Proof.Gen.Ff1RefIdeal.Read
public import Idealize.ShloMosaic.Lib.Pipeline.ValueKit

@[expose] public section

set_option maxRecDepth 16384

noncomputable section

namespace Cert.Ff1Ideal.Hand

open Idealize.ShloMosaic Idealize.ShloMosaic.TcCoe Idealize.SL.Sem
open Idealize.ShloMosaic.Pipeline (Dat)
open Cert.Ff1Ideal Cert.Ff1Ideal.Gen

variable (m : (ℓ : Loc nD τ sig) → Buf (Elt Ideal) ℓ)

/-- Which block each window holds at each point of the grid. -/
theorem idx : ∀ t : Fin cfg0.N, win0_0.index t = ![t.val / 8, 0] ∧ win0_1.index t = ![t.val % 8 / 2, 0, t.val % 2] ∧ win0_2.index t = ![0, t.val % 8] ∧ win0_3.index t = ![t.val / 8, t.val % 8] ∧ win0_4.index t = ![t.val / 8, t.val % 8] :=
  (by decide +kernel : ∀ t : Fin grid0.N, _)

/-- The rows the host code prepares are the rows themselves. -/
theorem entry_v2 (c : Dev nD) : V m c main_v2
    = truncf (F := Ideal) .bf16 (show FVec Ideal S8192x2048 .f32 from m ((c : Thread nD τ).loc main_arg0)) bitsLt_bf16_f32 := by
  unfold V; after_results; try rfl

/-- The weights the host code prepares: their columns cut into four shards. -/
theorem entry_v1 (c : Dev nD) : V m c main_v1
    = transpose S4x2048x2048 [1, 0, 2] (shapeCast S2048x4x2048 (show FVec Ideal S2048x8192 .bf16 from m ((c : Thread nD τ).loc main_arg1))
        shapeCasts_S2048x8192_S2048x4x2048) transposes_S2048x4x2048_S4x2048x2048_1_0_2 := by
  unfold V; after_results; try rfl

/-- The bias the host code prepares, as one row. -/
theorem entry_v3 (c : Dev nD) : V m c main_v3
    = shapeCast S1x8192 (show FVec Ideal S8192 .f32 from m ((c : Thread nD τ).loc main_arg2)) shapeCasts_S8192_S1x8192 := by
  unfold V; after_results; try rfl

/-- A block of rows. -/
theorem blkx (c : Dev nD) (t : Fin cfg0.N) (r : Fin 1024) (l : Fin 2048) (i : S8192x2048.Idx)
    (h0 : (i 0 : ℕ) = t.val / 8 * 1024 + r) (h1 : (i 1 : ℕ) = l) :
    (show FVec Ideal S1024x2048 .bf16 from iblk m c 0 t) (ix2 r l)
      = (show FVec Ideal S8192x2048 .f32 from m ((c : Thread nD τ).loc main_arg0)) i := by
  have e : ((cfg0.win 0).blk t).view.emb (ix2 r l : S1024x2048.Idx) = i := by blk_ext [idx t]
  rw [← e]; show V m c main_v2 _ = _; rw [entry_v2]; pointwise

/-- A block of a shard of the weights. -/
theorem blkw (c : Dev nD) (t : Fin cfg0.N) (z : Fin 1) (r : Fin 2048) (k : Fin 1024) (q : Fin 8192)
    (hq : (q : ℕ) = t.val % 8 * 1024 + k) :
    (show FVec Ideal S1x2048x1024 .bf16 from iblk m c 1 t) (ix3 z r k)
      = (show FVec Ideal S2048x8192 .bf16 from m ((c : Thread nD τ).loc main_arg1)) (ix2 r q) := by
  have e : ((cfg0.win 1).blk t).view.emb (ix3 z r k : S1x2048x1024.Idx)
      = (ix3 (⟨t.val % 8 / 2, by omega⟩ : Fin 4) r (⟨t.val % 2 * 1024 + k.val, by omega⟩ : Fin 2048) : S4x2048x2048.Idx) := by
    blk_ext [idx t]
  have hb : t.val % 8 / 2 * 2048 + (t.val % 2 * 1024 + k.val) < 8192 := by omega
  have e2 : q = ⟨t.val % 8 / 2 * 2048 + (t.val % 2 * 1024 + k.val), hb⟩ := Fin.ext (by dsimp only; omega)
  refine Eq.trans ?_ (congrArg (fun u => (show FVec Ideal S2048x8192 .bf16 from m ((c : Thread nD τ).loc main_arg1)) (ix2 r u)) e2.symm)
  show V m c main_v1 _ = _; rw [e, entry_v1]; pointwise

/-- A block of the bias. -/
theorem blkb (c : Dev nD) (t : Fin cfg0.N) (z : Fin 1) (k : Fin 1024) (q : Fin 8192)
    (hq : (q : ℕ) = t.val % 8 * 1024 + k) :
    (show FVec Ideal S1x1024 .f32 from iblk m c 2 t) (ix2 z k)
      = (show FVec Ideal S8192 .f32 from m ((c : Thread nD τ).loc main_arg2)) (ix1 q) := by
  have e : ((cfg0.win 2).blk t).view.emb (ix2 z k : S1x1024.Idx) = (ix2 (0 : Fin 1) q : S1x8192.Idx) := by blk_ext [idx t]
  show V m c main_v3 _ = _; rw [e, entry_v3]; pointwise

/-- The affine map of a block's entry is that of the whole arrays' entry. -/
theorem aff (c : Dev nD) (t : Fin cfg0.N) (r : Fin 1024) (l : Fin 1024) (i : Fin 8192) (q : Fin 8192)
    (hi : (i : ℕ) = t.val / 8 * 1024 + r) (hq : (q : ℕ) = t.val % 8 * 1024 + l) :
    (∑ k : Fin 2048, (show FVec Ideal S1024x2048 .bf16 from iblk m c 0 t) (ix2 r k)
        * (show FVec Ideal S1x2048x1024 .bf16 from iblk m c 1 t) (ix3 (0 : Fin 1) k l))
      + (show FVec Ideal S1x1024 .f32 from iblk m c 2 t) (ix2 (0 : Fin 1) l)
    = (∑ k : Fin 2048, (show FVec Ideal S8192x2048 .f32 from m ((c : Thread nD τ).loc main_arg0)) (ix2 i k)
        * (show FVec Ideal S2048x8192 .bf16 from m ((c : Thread nD τ).loc main_arg1)) (ix2 k q))
      + (show FVec Ideal S8192 .f32 from m ((c : Thread nD τ).loc main_arg2)) (ix1 q) := by
  rw [blkb m c t 0 l q hq]
  refine congrArg (· + _) (Finset.sum_congr rfl fun k _ => ?_)
  rw [blkx m c t r k (ix2 i k) hi rfl, blkw m c t 0 k l q hq]

/-- The reference's entry. -/
theorem ref3 (X : FVec Ideal S8192x2048 .f32) (W : FVec Ideal S2048x8192 .bf16) (b : FVec Ideal S8192 .f32) (r : Fin 8192) (l : Fin 8192) :
    Cert.Ff1RefIdeal.Read.val_main_v7 (F := Ideal) X W b (ix2 r l) = max ((∑ k : Fin 2048, X (ix2 r k) * W (ix2 k l)) + b (ix1 l)) 0 * max ((∑ k : Fin 2048, X (ix2 r k) * W (ix2 k l)) + b (ix1 l)) 0 := by
  rw [← Cert.Ff1RefIdeal.Read.val_main_v7_eq]
  pointwise

/-- What a point of the grid stores. -/
theorem pay3 (A : FVec Ideal S1024x2048 .bf16) (B : FVec Ideal S1x2048x1024 .bf16) (b : FVec Ideal S1x1024 .f32) (r : Fin 1024) (l : Fin 1024) :
    k0_pay2 (F := Ideal) A B b (ix2 r l) = max ((∑ k : Fin 2048, A (ix2 r k) * B (ix3 (0 : Fin 1) k l)) + b (ix2 (0 : Fin 1) l)) 0 * max ((∑ k : Fin 2048, A (ix2 r k) * B (ix3 (0 : Fin 1) k l)) + b (ix2 (0 : Fin 1) l)) 0 := by
  pointwise [k0_pay2, k0_pay1]

/-- The result the kernel leaves is the reference's array. -/
theorem final3 (c : Dev nD) : (dats m 0 c).arrAt 3 cfg0.N
    = Cert.Ff1RefIdeal.Read.val_main_v7 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  idx_vars y
  refine (pay3 _ _ _ _ _).trans (Eq.trans ?_ (congrArg _ (eq_ix2 _)).symm)
  refine Eq.trans ?_ (ref3 _ _ _ _ _).symm
  exact congrArg (fun x : EReal => max (x) 0 * max (x) 0) (aff m c t y0 y1 _ _ (by blk_simp [idx t]) (by blk_simp [idx t]))

/-- The reference's entry. -/
theorem ref4 (X : FVec Ideal S8192x2048 .f32) (W : FVec Ideal S2048x8192 .bf16) (b : FVec Ideal S8192 .f32) (r : Fin 8192) (l : Fin 8192) :
    Cert.Ff1RefIdeal.Read.val_main_v8 (F := Ideal) X W b (ix2 r l) = max ((∑ k : Fin 2048, X (ix2 r k) * W (ix2 k l)) + b (ix1 l)) 0 := by
  rw [← Cert.Ff1RefIdeal.Read.val_main_v8_eq]
  pointwise

/-- What a point of the grid stores. -/
theorem pay4 (A : FVec Ideal S1024x2048 .bf16) (B : FVec Ideal S1x2048x1024 .bf16) (b : FVec Ideal S1x1024 .f32) (r : Fin 1024) (l : Fin 1024) :
    k0_pay3 (F := Ideal) A B b (ix2 r l) = max ((∑ k : Fin 2048, A (ix2 r k) * B (ix3 (0 : Fin 1) k l)) + b (ix2 (0 : Fin 1) l)) 0 := by
  pointwise [k0_pay3, k0_pay1]

/-- The result the kernel leaves is the reference's array. -/
theorem final4 (c : Dev nD) : (dats m 0 c).arrAt 4 cfg0.N
    = Cert.Ff1RefIdeal.Read.val_main_v8 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp; rw [after0_4]; frame_out
  idx_vars y
  refine (pay4 _ _ _ _ _).trans (Eq.trans ?_ (congrArg _ (eq_ix2 _)).symm)
  refine Eq.trans ?_ (ref4 _ _ _ _ _).symm
  exact congrArg (fun x : EReal => max (x) 0) (aff m c t y0 y1 _ _ (by blk_simp [idx t]) (by blk_simp [idx t]))

end Cert.Ff1Ideal.Hand

end
-- ==== Proof.Ff1.Claim.lean ====
module

public import proofs.«01_k».proof.Defs
public import proofs.«01_k».proof.Proof.Gen.Ff1RefIdeal.Run
public import proofs.«01_k».proof.Proof.Ff1.Value

@[expose] public section

noncomputable section

namespace Cert.Ff1Ideal.Hand

open Idealize.ShloMosaic Idealize.SL.Sem

/-- The reference ends with its arguments kept and every semaphore at zero. -/
theorem frame_ref : Cert.quiescent_Ff1RefIdeal := fun m ρ _ =>
  (θ_run Cert.Ff1RefIdeal.defs _ _).mono (fun r h => ⟨fun c => (h c).2.2,
    Idealize.ShloMosaic.sem_eq_zero_of_no_sems (by decide) r.2⟩) (Cert.Ff1RefIdeal.Value.run m ρ)

/-- On equal arguments the kernel and the reference end with equal results. -/
theorem algebraic : Cert.algebraic_Ff1Ideal_Ff1RefIdeal := by
  intro m g m' g' _ hagree
  refine ⟨_, _, (θ_run _ _ _).mono (fun r h c => ⟨(h c).1.trans (Cert.Ff1Ideal.Hand.final3 m c), (h c).2.1.trans (Cert.Ff1Ideal.Hand.final4 m c), (h c).2.2⟩)
      (Cert.Ff1Ideal.Value.run_blocks m g),
    (θ_run _ _ _).mono (fun r h c => ⟨?_, ?_, (h c).2.2⟩) (Cert.Ff1RefIdeal.Value.run m' g')⟩
  · refine (h c).1.trans ?_
    rw [(hagree c).1, (hagree c).2.1, (hagree c).2.2]
    exact Cert.Ff1RefIdeal.Read.val_main_v7_eq _ _ _
  · refine (h c).2.1.trans ?_
    rw [(hagree c).1, (hagree c).2.1, (hagree c).2.2]
    exact Cert.Ff1RefIdeal.Read.val_main_v8_eq _ _ _

end Cert.Ff1Ideal.Hand

end
-- ==== Proof.Ff2.Value.lean ====
module

public import proofs.«01_k».proof.Proof.Gen.Ff2Ideal.Value
public import proofs.«01_k».proof.Proof.Gen.Ff2RefIdeal.Read
public import Idealize.ShloMosaic.Lib.Pipeline.ValueKit
public import proofs.«01_k».proof.Proof.Shared.Runs

@[expose] public section

set_option maxRecDepth 16384

noncomputable section

namespace Cert.Ff2Ideal.Hand

open Idealize.ShloMosaic Idealize.ShloMosaic.TcCoe Idealize.SL.Sem
open Idealize.ShloMosaic.Pipeline (Dat)
open Cert.Ff2Ideal Cert.Ff2Ideal.Gen

/-- The reference's entry. -/
theorem ref (X : FVec Ideal S8192x8192 .f32) (W : FVec Ideal S8192x2048 .bf16) (b : FVec Ideal S2048 .f32) (r : Fin 8192) (l : Fin 2048) :
    Cert.Ff2RefIdeal.Read.val_main_v4 (F := Ideal) X W b (ix2 r l) = (∑ k : Fin 8192, X (ix2 r k) * W (ix2 k l)) + b (ix1 l) := by
  rw [← Cert.Ff2RefIdeal.Read.val_main_v4_eq]
  pointwise

/-- One block's contribution to a tile. -/
theorem pay (A : FVec Ideal S1024x2048 .bf16) (B : FVec Ideal S2048x2048 .bf16) (r : Fin 1024) (l : Fin 2048) :
    k0_pay1 (F := Ideal) A B (ix2 r l) = ∑ k : Fin 2048, A (ix2 r k) * B (ix2 k l) := by
  pointwise [k0_pay1]

variable (m : (ℓ : Loc nD τ sig) → Buf (Elt Ideal) ℓ)

/-- Which block each window holds at each point of the grid. -/
theorem idx : ∀ t : Fin cfg0.N, win0_0.index t = ![t.val / 4, t.val % 4] ∧ win0_1.index t = ![t.val % 4, 0]
    ∧ win0_2.index t = ![0, 0] ∧ win0_3.index t = ![t.val / 4, 0] :=
  (by decide +kernel : ∀ t : Fin grid0.N, _)

/-- The hidden activations the host code prepares are the activations themselves. -/
theorem entry_v0 (c : Dev nD) : V m c main_v0
    = truncf (F := Ideal) .bf16 (show FVec Ideal S8192x8192 .f32 from m ((c : Thread nD τ).loc main_arg0)) bitsLt_bf16_f32 := by
  unfold V; after_results; try rfl

/-- The bias the host code prepares, as one row. -/
theorem entry_v1 (c : Dev nD) : V m c main_v1
    = shapeCast S1x2048 (show FVec Ideal S2048 .f32 from m ((c : Thread nD τ).loc main_arg2)) shapeCasts_S2048_S1x2048 := by
  unfold V; after_results; try rfl

/-- A block of hidden activations. -/
theorem blkx (c : Dev nD) (t : Fin cfg0.N) (r : Fin 1024) (l : Fin 2048) (i : S8192x8192.Idx)
    (h0 : (i 0 : ℕ) = t.val / 4 * 1024 + r) (h1 : (i 1 : ℕ) = t.val % 4 * 2048 + l) :
    (show FVec Ideal S1024x2048 .bf16 from iblk m c 0 t) (ix2 r l)
      = (show FVec Ideal S8192x8192 .f32 from m ((c : Thread nD τ).loc main_arg0)) i := by
  have e : ((cfg0.win 0).blk t).view.emb (ix2 r l : S1024x2048.Idx) = i := by blk_ext [idx t]
  rw [← e]; show V m c main_v0 _ = _; rw [entry_v0]; pointwise

/-- The bias a point holds. -/
theorem blkb (c : Dev nD) (t : Fin cfg0.N) (z : Fin 1) (l : Fin 2048) :
    (show FVec Ideal S1x2048 .f32 from iblk m c 2 t) (ix2 z l)
      = (show FVec Ideal S2048 .f32 from m ((c : Thread nD τ).loc main_arg2)) (ix1 l) := by
  have e : ((cfg0.win 2).blk t).view.emb (ix2 z l : S1x2048.Idx) = (ix2 (0 : Fin 1) l : S1x2048.Idx) := by blk_ext [idx t]
  show V m c main_v1 _ = _; rw [e, entry_v1]; pointwise

/-- The result the kernel leaves is the reference's array. -/
theorem final (c : Dev nD) : (dats m 0 c).arrAt 3 cfg0.N
    = Cert.Ff2RefIdeal.Read.val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, Cert.Hand.sum_of_run (fun n h => (outsAt0 m c n h)) 4
    (fun t j => (show FVec Ideal S1x2048 .f32 from iblk m c 2 t) (ix2 (0 : Fin 1) (j 1)))
    (fun t j => k0_pay1 (F := Ideal) (iblk m c 0 t) (iblk m c 1 t) j)
    (fun t h j => by
      rw [outsAt0_A m c t h (by omega)]; frame_out; idx_vars j; rw [add_comm (show EReal from _)]; pointwise [k0_pay2])
    (fun t h j => by rw [outsAt0_B m c t h (by omega)]; frame_out; pointwise [k0_pay3])
    t ((flush0_3 t).mp hf) _]
  idx_vars y
  refine Eq.trans ?_ (congrArg _ (eq_ix2 _)).symm
  refine Eq.trans ?_ (ref _ _ _ _ _).symm
  rw [add_comm (show EReal from _)]
  refine congrArg₂ (· + ·) ?_ ((blkb m c _ 0 _).trans (congrArg _ ?_))
  · refine Eq.trans (Fin.sum_fin_congr fun s => pay _ _ y0 y1) ?_
    refine Fin.sum_mul_add_congr fun s k hl => ?_
    refine congrArg₂ (· * ·) (blkx m c _ y0 k _ ?_ ?_) ?_
    · blk_simp [idx t]; have := s.isLt; dsimp only; omega
    · blk_simp [idx t]; have := s.isLt; dsimp only; omega
    · blk_point [iblk, V, idx t, idx ⟨_, Pipeline.run_point_lt_of_flush t ((flush0_3 t).mp hf) s⟩]
  · blk_ext [idx t]

end Cert.Ff2Ideal.Hand

end
-- ==== Proof.Ff2.Claim.lean ====
module

public import proofs.«01_k».proof.Defs
public import proofs.«01_k».proof.Proof.Gen.Ff2RefIdeal.Run
public import proofs.«01_k».proof.Proof.Ff2.Value

@[expose] public section

noncomputable section

namespace Cert.Ff2Ideal.Hand

open Idealize.ShloMosaic Idealize.SL.Sem

/-- The reference ends with its arguments kept and every semaphore at zero. -/
theorem frame_ref : Cert.quiescent_Ff2RefIdeal := fun m ρ _ =>
  (θ_run Cert.Ff2RefIdeal.defs _ _).mono (fun r h => ⟨fun c => (h c).2,
    Idealize.ShloMosaic.sem_eq_zero_of_no_sems (by decide) r.2⟩) (Cert.Ff2RefIdeal.Value.run m ρ)

/-- On equal arguments the kernel and the reference end with equal results. -/
theorem algebraic : Cert.algebraic_Ff2Ideal_Ff2RefIdeal := by
  intro m g m' g' _ hagree
  refine ⟨_, (θ_run _ _ _).mono (fun r h c => ⟨(h c).1.trans (Cert.Ff2Ideal.Hand.final m c), (h c).2⟩)
      (Cert.Ff2Ideal.Value.run_blocks m g),
    (θ_run _ _ _).mono (fun r h c => ⟨?_, (h c).2⟩) (Cert.Ff2RefIdeal.Value.run m' g')⟩
  · refine (h c).1.trans ?_
    rw [(hagree c).1, (hagree c).2.1, (hagree c).2.2]
    exact Cert.Ff2RefIdeal.Read.val_main_v4_eq _ _ _

end Cert.Ff2Ideal.Hand

end
-- ==== Proof.Ln2.Value.lean ====
module

public import proofs.«01_k».proof.Proof.Gen.Ln2Ideal.Value
public import proofs.«01_k».proof.Proof.Gen.Ln2RefIdeal.Read
public import Idealize.ShloMosaic.Lib.Pipeline.ValueKit
public import proofs.«01_k».proof.Proof.Shared.Norm

@[expose] public section

set_option maxRecDepth 16384

noncomputable section

namespace Cert.Ln2Ideal.Hand

open Idealize.ShloMosaic Idealize.ShloMosaic.TcCoe Idealize.SL.Sem
open Idealize.ShloMosaic.Pipeline (Dat)
open Cert.Ln2Ideal Cert.Ln2Ideal.Gen
open Cert.Hand

/-- The reference's residual sum: the first norm scaled, plus the second summand. -/
theorem ref6 (X : FVec Ideal S8192x2048 .f32) (G P : FVec Ideal S2048 .f32) (Y : FVec Ideal S8192x2048 .f32) (r : Fin 8192) (l : Fin 2048) :
    Cert.Ln2RefIdeal.Read.val_main_v24 (F := Ideal) X G P Y (ix2 r l)
      = Ideal.ofBits .f32 0x3FB504F3#32 * ln (fun k => G (ix1 k)) (fun k => P (ix1 k)) (fun k => X (ix2 r k)) l + Y (ix2 r l) := by
  rw [← Cert.Ln2RefIdeal.Read.val_main_v24_eq]
  pointwise [ln, xhat, rstd, cen, mean]
  try rfl

/-- The reference's second result: the layer norm of the first. -/
theorem ref7 (X : FVec Ideal S8192x2048 .f32) (G P : FVec Ideal S2048 .f32) (Y : FVec Ideal S8192x2048 .f32) (H Q : FVec Ideal S2048 .f32) (r : Fin 8192) (l : Fin 2048) :
    Cert.Ln2RefIdeal.Read.val_main_v47 (F := Ideal) X G P Y H Q (ix2 r l)
      = ln (fun k => H (ix1 k)) (fun k => Q (ix1 k)) (fun k => Cert.Ln2RefIdeal.Read.val_main_v24 (F := Ideal) X G P Y (ix2 r k)) l := by
  pointwise [Cert.Ln2RefIdeal.Read.val_main_cst_5, Cert.Ln2RefIdeal.Read.val_main_v25, Cert.Ln2RefIdeal.Read.val_main_v26, Cert.Ln2RefIdeal.Read.val_main_cst_6, Cert.Ln2RefIdeal.Read.val_main_v27, Cert.Ln2RefIdeal.Read.val_main_v28, Cert.Ln2RefIdeal.Read.val_main_v29, Cert.Ln2RefIdeal.Read.val_main_v30, Cert.Ln2RefIdeal.Read.val_main_v31, Cert.Ln2RefIdeal.Read.val_main_cst_7, Cert.Ln2RefIdeal.Read.val_main_v32, Cert.Ln2RefIdeal.Read.val_main_v33, Cert.Ln2RefIdeal.Read.val_main_cst_8, Cert.Ln2RefIdeal.Read.val_main_v34, Cert.Ln2RefIdeal.Read.val_main_v35, Cert.Ln2RefIdeal.Read.val_main_cst_9, Cert.Ln2RefIdeal.Read.val_main_v36, Cert.Ln2RefIdeal.Read.val_main_v37, Cert.Ln2RefIdeal.Read.val_main_v38, Cert.Ln2RefIdeal.Read.val_main_v39, Cert.Ln2RefIdeal.Read.val_main_v40, Cert.Ln2RefIdeal.Read.val_main_v41, Cert.Ln2RefIdeal.Read.val_main_v42, Cert.Ln2RefIdeal.Read.val_main_v43, Cert.Ln2RefIdeal.Read.val_main_v44, Cert.Ln2RefIdeal.Read.val_main_v45, Cert.Ln2RefIdeal.Read.val_main_v46, Cert.Ln2RefIdeal.Read.val_main_v47, ln, xhat, rstd, cen, mean]
  try rfl

/-- What a point of the grid stores in the first output. -/
theorem stored6 (X : FVec Ideal S256x2048 .f32) (G P : FVec Ideal S1x2048 .f32) (Y : FVec Ideal S256x2048 .f32) (r : Fin 256) (l : Fin 2048) :
    k0_pay2 (F := Ideal) X G P Y (ix2 r l)
      = Ideal.ofBits .f32 0x3FB504F3#32 * ln (fun k => G (ix2 0 k)) (fun k => P (ix2 0 k)) (fun k => X (ix2 r k)) l + Y (ix2 r l) := by
  pointwise [k0_pay2, ln, xhat, rstd, cen, mean]
  try rfl

/-- What a point of the grid stores in the second output. -/
theorem stored7 (X : FVec Ideal S256x2048 .f32) (G P : FVec Ideal S1x2048 .f32) (Y : FVec Ideal S256x2048 .f32) (H Q : FVec Ideal S1x2048 .f32) (r : Fin 256) (l : Fin 2048) :
    k0_pay1 (F := Ideal) (k0_pay3 (F := Ideal) X G P Y) (k0_pay4 (F := Ideal) X G P Y) H Q (ix2 r l)
      = ln (fun k => H (ix2 0 k)) (fun k => Q (ix2 0 k)) (fun k => k0_pay2 (F := Ideal) X G P Y (ix2 r k)) l := by
  pointwise [k0_pay1, k0_pay3, k0_pay4, ln, xhat, rstd, cen, mean]
  try rfl

variable (m : (ℓ : Loc nD τ sig) → Buf (Elt Ideal) ℓ)

/-- Which block each window holds at each point of the grid. -/
theorem idx : ∀ t : Fin cfg0.N, win0_0.index t = ![t.val, 0]
    ∧ win0_1.index t = ![0, 0]
    ∧ win0_2.index t = ![0, 0]
    ∧ win0_3.index t = ![t.val, 0]
    ∧ win0_4.index t = ![0, 0]
    ∧ win0_5.index t = ![0, 0]
    ∧ win0_6.index t = ![t.val, 0]
    ∧ win0_7.index t = ![t.val, 0] :=
  (by decide +kernel : ∀ t : Fin grid0.N, _)

/-- The row the host code prepares of the first norm's scale. -/
theorem entry1 (c : Dev nD) : V m c main_v0 = shapeCast S1x2048 (show FVec Ideal S2048 .f32 from m ((c : Thread nD τ).loc main_arg1)) shapeCasts_S2048_S1x2048 := by
  unfold V; after_results; try rfl

/-- The row of the first norm's scale, at an index of the argument. -/
theorem blk1 (c : Dev nD) (t : Fin cfg0.N) (z : Fin 1) (l : Fin 2048) :
    (show FVec Ideal S1x2048 .f32 from iblk m c 1 t) (ix2 z l) = (show FVec Ideal S2048 .f32 from m ((c : Thread nD τ).loc main_arg1)) (ix1 l) := by
  have e : ((cfg0.win 1).blk t).view.emb (ix2 z l : S1x2048.Idx) = (ix2 z l : S1x2048.Idx) := by blk_ext [idx t]
  show V m c main_v0 _ = _; rw [e, entry1]; pointwise

/-- The row the host code prepares of the first norm's offset. -/
theorem entry2 (c : Dev nD) : V m c main_v1 = shapeCast S1x2048 (show FVec Ideal S2048 .f32 from m ((c : Thread nD τ).loc main_arg2)) shapeCasts_S2048_S1x2048 := by
  unfold V; after_results; try rfl

/-- The row of the first norm's offset, at an index of the argument. -/
theorem blk2 (c : Dev nD) (t : Fin cfg0.N) (z : Fin 1) (l : Fin 2048) :
    (show FVec Ideal S1x2048 .f32 from iblk m c 2 t) (ix2 z l) = (show FVec Ideal S2048 .f32 from m ((c : Thread nD τ).loc main_arg2)) (ix1 l) := by
  have e : ((cfg0.win 2).blk t).view.emb (ix2 z l : S1x2048.Idx) = (ix2 z l : S1x2048.Idx) := by blk_ext [idx t]
  show V m c main_v1 _ = _; rw [e, entry2]; pointwise

/-- The row the host code prepares of the second norm's scale. -/
theorem entry4 (c : Dev nD) : V m c main_v2 = shapeCast S1x2048 (show FVec Ideal S2048 .f32 from m ((c : Thread nD τ).loc main_arg4)) shapeCasts_S2048_S1x2048 := by
  unfold V; after_results; try rfl

/-- The row of the second norm's scale, at an index of the argument. -/
theorem blk4 (c : Dev nD) (t : Fin cfg0.N) (z : Fin 1) (l : Fin 2048) :
    (show FVec Ideal S1x2048 .f32 from iblk m c 4 t) (ix2 z l) = (show FVec Ideal S2048 .f32 from m ((c : Thread nD τ).loc main_arg4)) (ix1 l) := by
  have e : ((cfg0.win 4).blk t).view.emb (ix2 z l : S1x2048.Idx) = (ix2 z l : S1x2048.Idx) := by blk_ext [idx t]
  show V m c main_v2 _ = _; rw [e, entry4]; pointwise

/-- The row the host code prepares of the second norm's offset. -/
theorem entry5 (c : Dev nD) : V m c main_v3 = shapeCast S1x2048 (show FVec Ideal S2048 .f32 from m ((c : Thread nD τ).loc main_arg5)) shapeCasts_S2048_S1x2048 := by
  unfold V; after_results; try rfl

/-- The row of the second norm's offset, at an index of the argument. -/
theorem blk5 (c : Dev nD) (t : Fin cfg0.N) (z : Fin 1) (l : Fin 2048) :
    (show FVec Ideal S1x2048 .f32 from iblk m c 5 t) (ix2 z l) = (show FVec Ideal S2048 .f32 from m ((c : Thread nD τ).loc main_arg5)) (ix1 l) := by
  have e : ((cfg0.win 5).blk t).view.emb (ix2 z l : S1x2048.Idx) = (ix2 z l : S1x2048.Idx) := by blk_ext [idx t]
  show V m c main_v3 _ = _; rw [e, entry5]; pointwise

/-- The block of the input, at an index of the array. -/
theorem blk0 (c : Dev nD) (t : Fin cfg0.N) (r : Fin 256) (l : Fin 2048) (q : Fin 8192) (hq : (q : ℕ) = t.val * 256 + r) :
    (show FVec Ideal S256x2048 .f32 from iblk m c 0 t) (ix2 r l) = (show FVec Ideal S8192x2048 .f32 from m ((c : Thread nD τ).loc main_arg0)) (ix2 q l) := by
  have e : ((cfg0.win 0).blk t).view.emb (ix2 r l : S256x2048.Idx) = (ix2 q l : S8192x2048.Idx) := by
    blk_ext [idx t]
    all_goals omega
  rw [← e]; blk_point [iblk, V, idx t]

/-- The block of the second summand, at an index of the array. -/
theorem blk3 (c : Dev nD) (t : Fin cfg0.N) (r : Fin 256) (l : Fin 2048) (q : Fin 8192) (hq : (q : ℕ) = t.val * 256 + r) :
    (show FVec Ideal S256x2048 .f32 from iblk m c 3 t) (ix2 r l) = (show FVec Ideal S8192x2048 .f32 from m ((c : Thread nD τ).loc main_arg3)) (ix2 q l) := by
  have e : ((cfg0.win 3).blk t).view.emb (ix2 r l : S256x2048.Idx) = (ix2 q l : S8192x2048.Idx) := by
    blk_ext [idx t]
    all_goals omega
  rw [← e]; blk_point [iblk, V, idx t]

/-- What a point stores in the first output, at an index of the reference's array. -/
theorem pay6 (c : Dev nD) (t : Fin cfg0.N) (r : Fin 256) (l : Fin 2048) (q : Fin 8192) (hq : (q : ℕ) = t.val * 256 + r) :
    k0_pay2 (F := Ideal) (iblk m c 0 t) (iblk m c 1 t) (iblk m c 2 t) (iblk m c 3 t) (ix2 r l) = Cert.Ln2RefIdeal.Read.val_main_v24 (F := Ideal) (m ((c : Thread nD τ).loc main_arg0)) (m ((c : Thread nD τ).loc main_arg1)) (m ((c : Thread nD τ).loc main_arg2)) (m ((c : Thread nD τ).loc main_arg3)) (ix2 q l) := by
  refine (stored6 (iblk m c 0 t) (iblk m c 1 t) (iblk m c 2 t) (iblk m c 3 t) r l).trans (Eq.trans ?_ (ref6 (m ((c : Thread nD τ).loc main_arg0)) (m ((c : Thread nD τ).loc main_arg1)) (m ((c : Thread nD τ).loc main_arg2)) (m ((c : Thread nD τ).loc main_arg3)) q l).symm)
  refine congrArg₂ (· + ·) (congrArg _ ?_) (blk3 m c t r l q hq)
  rw [show (fun k => (show FVec Ideal S1x2048 .f32 from iblk m c 1 t) (ix2 0 k)) = _ from funext fun k => blk1 m c t 0 k,
    show (fun k => (show FVec Ideal S1x2048 .f32 from iblk m c 2 t) (ix2 0 k)) = _ from funext fun k => blk2 m c t 0 k,
    show (fun k => (show FVec Ideal S256x2048 .f32 from iblk m c 0 t) (ix2 r k)) = _ from funext fun k => blk0 m c t r k q hq]

/-- What a point stores in the second output, at an index of the reference's array. -/
theorem pay7 (c : Dev nD) (t : Fin cfg0.N) (r : Fin 256) (l : Fin 2048) (q : Fin 8192) (hq : (q : ℕ) = t.val * 256 + r) :
    k0_pay1 (F := Ideal) (k0_pay3 (F := Ideal) (iblk m c 0 t) (iblk m c 1 t) (iblk m c 2 t) (iblk m c 3 t)) (k0_pay4 (F := Ideal) (iblk m c 0 t) (iblk m c 1 t) (iblk m c 2 t) (iblk m c 3 t)) (iblk m c 4 t) (iblk m c 5 t) (ix2 r l)
      = Cert.Ln2RefIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 q l) := by
  refine (stored7 (iblk m c 0 t) (iblk m c 1 t) (iblk m c 2 t) (iblk m c 3 t) (iblk m c 4 t) (iblk m c 5 t) r l).trans (Eq.trans ?_ (ref7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q l).symm)
  rw [show (fun k => (show FVec Ideal S1x2048 .f32 from iblk m c 4 t) (ix2 0 k)) = _ from funext fun k => blk4 m c t 0 k,
    show (fun k => (show FVec Ideal S1x2048 .f32 from iblk m c 5 t) (ix2 0 k)) = _ from funext fun k => blk5 m c t 0 k,
    show (fun k => k0_pay2 (F := Ideal) (iblk m c 0 t) (iblk m c 1 t) (iblk m c 2 t) (iblk m c 3 t) (ix2 r k)) = _ from funext fun k => pay6 m c t r k q hq]

/-- The residual sum that the kernel leaves is the reference's. -/
theorem final6 (c : Dev nD) : (dats m 0 c).arrAt 6 cfg0.N
    = Cert.Ln2RefIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]; unfold outsAt0; frame_out
  idx_vars y
  have hb : t.val * 256 + y0.val < 8192 := by have := t.isLt; have := y0.isLt; change t.val < 32 at *; omega
  refine (pay6 m c t y0 y1 ⟨t.val * 256 + y0.val, hb⟩ rfl).trans (congrArg _ ?_)
  blk_ext [idx t]
  all_goals omega

/-- The layer norm that the kernel leaves is the reference's. -/
theorem final7 (c : Dev nD) : (dats m 0 c).arrAt 7 cfg0.N
    = Cert.Ln2RefIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]; unfold outsAt0; frame_out
  idx_vars y
  have hb : t.val * 256 + y0.val < 8192 := by have := t.isLt; have := y0.isLt; change t.val < 32 at *; omega
  refine (pay7 m c t y0 y1 ⟨t.val * 256 + y0.val, hb⟩ rfl).trans (congrArg _ ?_)
  blk_ext [idx t]
  all_goals omega

end Cert.Ln2Ideal.Hand

end
-- ==== Proof.Ln2.Claim.lean ====
module

public import proofs.«01_k».proof.Defs
public import proofs.«01_k».proof.Proof.Gen.Ln2RefIdeal.Run
public import proofs.«01_k».proof.Proof.Ln2.Value

@[expose] public section

noncomputable section

namespace Cert.Ln2Ideal.Hand

open Idealize.ShloMosaic Idealize.SL.Sem

/-- The reference ends with its arguments kept and every semaphore at zero. -/
theorem frame_ref : Cert.quiescent_Ln2RefIdeal := fun m ρ _ =>
  (θ_run Cert.Ln2RefIdeal.defs _ _).mono (fun r h => ⟨fun c => (h c).2.2,
    Idealize.ShloMosaic.sem_eq_zero_of_no_sems (by decide) r.2⟩) (Cert.Ln2RefIdeal.Value.run m ρ)

/-- On equal arguments the kernel and the reference end with equal results. -/
theorem algebraic : Cert.algebraic_Ln2Ideal_Ln2RefIdeal := by
  intro m g m' g' _ hagree
  refine ⟨_, _, (θ_run _ _ _).mono (fun r h c => ⟨(h c).1.trans (Cert.Ln2Ideal.Hand.final6 m c), (h c).2.1.trans (Cert.Ln2Ideal.Hand.final7 m c), (h c).2.2⟩)
      (Cert.Ln2Ideal.Value.run_blocks m g),
    (θ_run _ _ _).mono (fun r h c => ⟨?_, ?_, (h c).2.2⟩) (Cert.Ln2RefIdeal.Value.run m' g')⟩
  · refine (h c).1.trans ?_
    rw [(hagree c).1, (hagree c).2.1, (hagree c).2.2.1, (hagree c).2.2.2.1]
    exact Cert.Ln2RefIdeal.Read.val_main_v24_eq _ _ _ _
  · refine (h c).2.1.trans ?_
    rw [← (hagree c).1, ← (hagree c).2.1, ← (hagree c).2.2.1, ← (hagree c).2.2.2.1, ← (hagree c).2.2.2.2.1, ← (hagree c).2.2.2.2.2.1]
    exact Cert.Ln2RefIdeal.Read.val_main_v47_eq _ _

end Cert.Ln2Ideal.Hand

end
-- ==== Proof.AdamwOut1.Value.lean ====
module

public import proofs.«01_k».proof.Proof.Gen.AdamwOut1Ideal.Value
public import proofs.«01_k».proof.Proof.Gen.AdamwOut1RefIdeal.Read
public import Idealize.ShloMosaic.Lib.Pipeline.ValueKit
public import proofs.«01_k».proof.Proof.Shared.Adam

@[expose] public section

set_option maxRecDepth 16384

noncomputable section

namespace Cert.AdamwOut1Ideal.Hand

open Idealize.ShloMosaic Idealize.ShloMosaic.TcCoe Idealize.SL.Sem
open Idealize.ShloMosaic.Pipeline (Dat)
open Cert.AdamwOut1Ideal Cert.AdamwOut1Ideal.Gen

/-- The reference's gradient. -/
theorem ref4 (W M U : FVec Ideal S2x512x2048 .f32) (G : FVec Ideal S512x2048 .f32) (r : Fin 512) (l : Fin 2048) (z : Fin 2) :
    Cert.AdamwOut1RefIdeal.Read.val_main_v30 (F := Ideal) G (ix3 z r l) = G (ix2 r l) := by
  rw [← Cert.AdamwOut1RefIdeal.Read.val_main_v30_eq]
  pointwise [Cert.Hand.step, Cert.Hand.newM, Cert.Hand.newV]
  try rfl

/-- The reference's step. -/
theorem ref5 (W M U : FVec Ideal S2x512x2048 .f32) (G : FVec Ideal S512x2048 .f32) (r : Fin 512) (l : Fin 2048) (z : Fin 2) :
    Cert.AdamwOut1RefIdeal.Read.val_main_v31 (F := Ideal) W M U G (ix3 z r l) = Cert.Hand.step (W (ix3 1 r l)) (G (ix2 r l)) (M (ix3 1 r l)) (U (ix3 1 r l)) := by
  rw [← Cert.AdamwOut1RefIdeal.Read.val_main_v31_eq]
  pointwise [Cert.Hand.step, Cert.Hand.newM, Cert.Hand.newV]
  try rfl

/-- The reference's first moment. -/
theorem ref6 (W M U : FVec Ideal S2x512x2048 .f32) (G : FVec Ideal S512x2048 .f32) (r : Fin 512) (l : Fin 2048) (z : Fin 2) :
    Cert.AdamwOut1RefIdeal.Read.val_main_v32 (F := Ideal) M G (ix3 z r l) = Cert.Hand.newM (G (ix2 r l)) (M (ix3 1 r l)) := by
  rw [← Cert.AdamwOut1RefIdeal.Read.val_main_v32_eq]
  pointwise [Cert.Hand.step, Cert.Hand.newM, Cert.Hand.newV]
  try rfl

/-- The reference's second moment. -/
theorem ref7 (W M U : FVec Ideal S2x512x2048 .f32) (G : FVec Ideal S512x2048 .f32) (r : Fin 512) (l : Fin 2048) (z : Fin 2) :
    Cert.AdamwOut1RefIdeal.Read.val_main_v33 (F := Ideal) U G (ix3 z r l) = Cert.Hand.newV (G (ix2 r l)) (U (ix3 1 r l)) := by
  rw [← Cert.AdamwOut1RefIdeal.Read.val_main_v33_eq]
  pointwise [Cert.Hand.step, Cert.Hand.newM, Cert.Hand.newV]
  try rfl

variable (m : (ℓ : Loc nD τ sig) → Buf (Elt Ideal) ℓ)

/-- Which block of the optimiser's arrays each window holds at each point of the grid. -/
theorem idxr : ∀ t : Fin cfg0.N, win0_0.index t = ![1, t.val, 0] ∧ win0_1.index t = ![1, t.val, 0] ∧ win0_2.index t = ![1, t.val, 0]
    ∧ win0_3.index t = ![t.val, 0] ∧ win0_4.index t = ![1, t.val, 0] ∧ win0_5.index t = ![1, t.val, 0] ∧ win0_6.index t = ![1, t.val, 0] ∧ win0_7.index t = ![1, t.val, 0] :=
  (by decide +kernel : ∀ t : Fin grid0.N, _)

/-- The block of operand 0, at an index of the array. -/
theorem blkW (c : Dev nD) (t : Fin cfg0.N) (z : Fin 1) (r : Fin 128) (l : Fin 2048) (q : Fin 512) (hq : (q : ℕ) = t.val * 128 + r) :
    (show FVec Ideal S1x128x2048 .f32 from iblk m c 0 t) (ix3 z r l)
      = (show FVec Ideal S2x512x2048 .f32 from m ((c : Thread nD τ).loc main_arg0)) (ix3 1 q l) := by
  have e : ((cfg0.win 0).blk t).view.emb (ix3 z r l : S1x128x2048.Idx) = (ix3 (1 : Fin 2) q l : S2x512x2048.Idx) := by
    blk_ext [idxr t]
    all_goals omega
  rw [← e]; blk_point [iblk, V, idxr t]

/-- The block of operand 1, at an index of the array. -/
theorem blkM (c : Dev nD) (t : Fin cfg0.N) (z : Fin 1) (r : Fin 128) (l : Fin 2048) (q : Fin 512) (hq : (q : ℕ) = t.val * 128 + r) :
    (show FVec Ideal S1x128x2048 .f32 from iblk m c 1 t) (ix3 z r l)
      = (show FVec Ideal S2x512x2048 .f32 from m ((c : Thread nD τ).loc main_arg1)) (ix3 1 q l) := by
  have e : ((cfg0.win 1).blk t).view.emb (ix3 z r l : S1x128x2048.Idx) = (ix3 (1 : Fin 2) q l : S2x512x2048.Idx) := by
    blk_ext [idxr t]
    all_goals omega
  rw [← e]; blk_point [iblk, V, idxr t]

/-- The block of operand 2, at an index of the array. -/
theorem blkU (c : Dev nD) (t : Fin cfg0.N) (z : Fin 1) (r : Fin 128) (l : Fin 2048) (q : Fin 512) (hq : (q : ℕ) = t.val * 128 + r) :
    (show FVec Ideal S1x128x2048 .f32 from iblk m c 2 t) (ix3 z r l)
      = (show FVec Ideal S2x512x2048 .f32 from m ((c : Thread nD τ).loc main_arg2)) (ix3 1 q l) := by
  have e : ((cfg0.win 2).blk t).view.emb (ix3 z r l : S1x128x2048.Idx) = (ix3 (1 : Fin 2) q l : S2x512x2048.Idx) := by
    blk_ext [idxr t]
    all_goals omega
  rw [← e]; blk_point [iblk, V, idxr t]

/-- The block of the gradient, at an index of the array. -/
theorem blkG (c : Dev nD) (t : Fin cfg0.N) (r : Fin 128) (l : Fin 2048) (q : Fin 512) (hq : (q : ℕ) = t.val * 128 + r) :
    (show FVec Ideal S128x2048 .f32 from iblk m c 3 t) (ix2 r l)
      = (show FVec Ideal S512x2048 .f32 from m ((c : Thread nD τ).loc main_arg3)) (ix2 q l) := by
  have e : ((cfg0.win 3).blk t).view.emb (ix2 r l : S128x2048.Idx) = (ix2 q l : S512x2048.Idx) := by
    blk_ext [idxr t]
    all_goals omega
  rw [← e]; blk_point [iblk, V, idxr t]

/-- What a point of the grid stores of the gradient. -/
theorem pay4 (c : Dev nD) (t : Fin cfg0.N) (z : Fin 1) (r : Fin 128) (l : Fin 2048) (q : Fin 512) (hq : (q : ℕ) = t.val * 128 + r) :
    (k0_pay7 (F := Ideal) (iblk m c 3 t)) (ix3 z r l) = Cert.AdamwOut1RefIdeal.Read.val_main_v30 (F := Ideal) (m ((c : Thread nD τ).loc main_arg3)) (ix3 1 q l) := by
  obtain rfl : z = 0 := Subsingleton.elim _ _
  have h : (k0_pay7 (F := Ideal) (iblk m c 3 t)) (ix3 0 r l) = (show FVec Ideal S128x2048 .f32 from iblk m c 3 t) (ix2 r l) := by
    pointwise [k0_pay7, Cert.Hand.step, Cert.Hand.newM, Cert.Hand.newV]
    try rfl
  rw [h, blkG m c t r l q hq]
  exact (ref4 (m ((c : Thread nD τ).loc main_arg0)) (m ((c : Thread nD τ).loc main_arg1)) (m ((c : Thread nD τ).loc main_arg2)) (m ((c : Thread nD τ).loc main_arg3)) q l 1).symm

/-- On its own layer the array of the gradient that the kernel leaves is the reference's. -/
theorem final4 (c : Dev nD) (i : S2x512x2048.Idx) (hi : (i 0 : ℕ) = 1) : (dats m 0 c).arrAt 4 cfg0.N i
    = Cert.AdamwOut1RefIdeal.Read.val_main_v30 (F := Ideal) (m ((c : Thread nD τ).loc main_arg3)) i := by
  refine (congrFun ((dats m 0 c).arrAt_eq_of_coversWhere 4 (Cert.AdamwOut1RefIdeal.Read.val_main_v30 (F := Ideal) (m ((c : Thread nD τ).loc main_arg3)))
    (P := fun i : S2x512x2048.Idx => (i 0 : ℕ) = 1) (fun β => β (0 : Fin _) = 1) (by decide +kernel) (fun t hf y => ?_)
    (fun j => by blk_simp [Pipeline.Window.cell_apply]; try omega)) i).trans ?_
  · blk_simp
    rw [after0_4]; frame_out
    idx_vars y
    have hb : t.val * 128 + y1.val < 512 := by have := t.isLt; have := y1.isLt; change t.val < 4 at *; omega
    refine (pay4 m c t y0 y1 y2 ⟨t.val * 128 + y1.val, hb⟩ rfl).trans (congrArg _ ?_)
    blk_ext [idxr t]
    all_goals omega
  · show (if (i 0 : ℕ) = 1 then _ else _) = _
    exact if_pos hi

/-- What a point of the grid stores of the step. -/
theorem pay5 (c : Dev nD) (t : Fin cfg0.N) (z : Fin 1) (r : Fin 128) (l : Fin 2048) (q : Fin 512) (hq : (q : ℕ) = t.val * 128 + r) :
    (k0_pay1 (F := Ideal) (k0_pay6 (F := Ideal) (iblk m c 0 t) (iblk m c 1 t) (iblk m c 2 t) (iblk m c 3 t))) (ix3 z r l) = Cert.AdamwOut1RefIdeal.Read.val_main_v31 (F := Ideal) (m ((c : Thread nD τ).loc main_arg0)) (m ((c : Thread nD τ).loc main_arg1)) (m ((c : Thread nD τ).loc main_arg2)) (m ((c : Thread nD τ).loc main_arg3)) (ix3 1 q l) := by
  obtain rfl : z = 0 := Subsingleton.elim _ _
  have h : (k0_pay1 (F := Ideal) (k0_pay6 (F := Ideal) (iblk m c 0 t) (iblk m c 1 t) (iblk m c 2 t) (iblk m c 3 t))) (ix3 0 r l) = Cert.Hand.step ((show FVec Ideal S1x128x2048 .f32 from iblk m c 0 t) (ix3 0 r l)) ((show FVec Ideal S128x2048 .f32 from iblk m c 3 t) (ix2 r l)) ((show FVec Ideal S1x128x2048 .f32 from iblk m c 1 t) (ix3 0 r l)) ((show FVec Ideal S1x128x2048 .f32 from iblk m c 2 t) (ix3 0 r l)) := by
    pointwise [k0_pay1, k0_pay6, k0_pay4, k0_pay5, Cert.Hand.step, Cert.Hand.newM, Cert.Hand.newV]
    try rfl
  rw [h, blkW m c t 0 r l q hq, blkM m c t 0 r l q hq, blkU m c t 0 r l q hq, blkG m c t r l q hq]
  exact (ref5 (m ((c : Thread nD τ).loc main_arg0)) (m ((c : Thread nD τ).loc main_arg1)) (m ((c : Thread nD τ).loc main_arg2)) (m ((c : Thread nD τ).loc main_arg3)) q l 1).symm

/-- On its own layer the array of the step that the kernel leaves is the reference's. -/
theorem final5 (c : Dev nD) (i : S2x512x2048.Idx) (hi : (i 0 : ℕ) = 1) : (dats m 0 c).arrAt 5 cfg0.N i
    = Cert.AdamwOut1RefIdeal.Read.val_main_v31 (F := Ideal) (m ((c : Thread nD τ).loc main_arg0)) (m ((c : Thread nD τ).loc main_arg1)) (m ((c : Thread nD τ).loc main_arg2)) (m ((c : Thread nD τ).loc main_arg3)) i := by
  refine (congrFun ((dats m 0 c).arrAt_eq_of_coversWhere 5 (Cert.AdamwOut1RefIdeal.Read.val_main_v31 (F := Ideal) (m ((c : Thread nD τ).loc main_arg0)) (m ((c : Thread nD τ).loc main_arg1)) (m ((c : Thread nD τ).loc main_arg2)) (m ((c : Thread nD τ).loc main_arg3)))
    (P := fun i : S2x512x2048.Idx => (i 0 : ℕ) = 1) (fun β => β (0 : Fin _) = 1) (by decide +kernel) (fun t hf y => ?_)
    (fun j => by blk_simp [Pipeline.Window.cell_apply]; try omega)) i).trans ?_
  · blk_simp
    rw [after0_5]; frame_out
    idx_vars y
    have hb : t.val * 128 + y1.val < 512 := by have := t.isLt; have := y1.isLt; change t.val < 4 at *; omega
    refine (pay5 m c t y0 y1 y2 ⟨t.val * 128 + y1.val, hb⟩ rfl).trans (congrArg _ ?_)
    blk_ext [idxr t]
    all_goals omega
  · show (if (i 0 : ℕ) = 1 then _ else _) = _
    exact if_pos hi

/-- What a point of the grid stores of the first moment. -/
theorem pay6 (c : Dev nD) (t : Fin cfg0.N) (z : Fin 1) (r : Fin 128) (l : Fin 2048) (q : Fin 512) (hq : (q : ℕ) = t.val * 128 + r) :
    (k0_pay2 (F := Ideal) (k0_pay4 (F := Ideal) (iblk m c 1 t) (iblk m c 3 t))) (ix3 z r l) = Cert.AdamwOut1RefIdeal.Read.val_main_v32 (F := Ideal) (m ((c : Thread nD τ).loc main_arg1)) (m ((c : Thread nD τ).loc main_arg3)) (ix3 1 q l) := by
  obtain rfl : z = 0 := Subsingleton.elim _ _
  have h : (k0_pay2 (F := Ideal) (k0_pay4 (F := Ideal) (iblk m c 1 t) (iblk m c 3 t))) (ix3 0 r l) = Cert.Hand.newM ((show FVec Ideal S128x2048 .f32 from iblk m c 3 t) (ix2 r l)) ((show FVec Ideal S1x128x2048 .f32 from iblk m c 1 t) (ix3 0 r l)) := by
    pointwise [k0_pay2, k0_pay4, Cert.Hand.step, Cert.Hand.newM, Cert.Hand.newV]
    try rfl
  rw [h, blkM m c t 0 r l q hq, blkG m c t r l q hq]
  exact (ref6 (m ((c : Thread nD τ).loc main_arg0)) (m ((c : Thread nD τ).loc main_arg1)) (m ((c : Thread nD τ).loc main_arg2)) (m ((c : Thread nD τ).loc main_arg3)) q l 1).symm

/-- On its own layer the array of the first moment that the kernel leaves is the reference's. -/
theorem final6 (c : Dev nD) (i : S2x512x2048.Idx) (hi : (i 0 : ℕ) = 1) : (dats m 0 c).arrAt 6 cfg0.N i
    = Cert.AdamwOut1RefIdeal.Read.val_main_v32 (F := Ideal) (m ((c : Thread nD τ).loc main_arg1)) (m ((c : Thread nD τ).loc main_arg3)) i := by
  refine (congrFun ((dats m 0 c).arrAt_eq_of_coversWhere 6 (Cert.AdamwOut1RefIdeal.Read.val_main_v32 (F := Ideal) (m ((c : Thread nD τ).loc main_arg1)) (m ((c : Thread nD τ).loc main_arg3)))
    (P := fun i : S2x512x2048.Idx => (i 0 : ℕ) = 1) (fun β => β (0 : Fin _) = 1) (by decide +kernel) (fun t hf y => ?_)
    (fun j => by blk_simp [Pipeline.Window.cell_apply]; try omega)) i).trans ?_
  · blk_simp
    rw [after0_6]; frame_out
    idx_vars y
    have hb : t.val * 128 + y1.val < 512 := by have := t.isLt; have := y1.isLt; change t.val < 4 at *; omega
    refine (pay6 m c t y0 y1 y2 ⟨t.val * 128 + y1.val, hb⟩ rfl).trans (congrArg _ ?_)
    blk_ext [idxr t]
    all_goals omega
  · show (if (i 0 : ℕ) = 1 then _ else _) = _
    exact if_pos hi

/-- What a point of the grid stores of the second moment. -/
theorem pay7 (c : Dev nD) (t : Fin cfg0.N) (z : Fin 1) (r : Fin 128) (l : Fin 2048) (q : Fin 512) (hq : (q : ℕ) = t.val * 128 + r) :
    (k0_pay3 (F := Ideal) (k0_pay5 (F := Ideal) (iblk m c 2 t) (iblk m c 3 t))) (ix3 z r l) = Cert.AdamwOut1RefIdeal.Read.val_main_v33 (F := Ideal) (m ((c : Thread nD τ).loc main_arg2)) (m ((c : Thread nD τ).loc main_arg3)) (ix3 1 q l) := by
  obtain rfl : z = 0 := Subsingleton.elim _ _
  have h : (k0_pay3 (F := Ideal) (k0_pay5 (F := Ideal) (iblk m c 2 t) (iblk m c 3 t))) (ix3 0 r l) = Cert.Hand.newV ((show FVec Ideal S128x2048 .f32 from iblk m c 3 t) (ix2 r l)) ((show FVec Ideal S1x128x2048 .f32 from iblk m c 2 t) (ix3 0 r l)) := by
    pointwise [k0_pay3, k0_pay5, Cert.Hand.step, Cert.Hand.newM, Cert.Hand.newV]
    try rfl
  rw [h, blkU m c t 0 r l q hq, blkG m c t r l q hq]
  exact (ref7 (m ((c : Thread nD τ).loc main_arg0)) (m ((c : Thread nD τ).loc main_arg1)) (m ((c : Thread nD τ).loc main_arg2)) (m ((c : Thread nD τ).loc main_arg3)) q l 1).symm

/-- On its own layer the array of the second moment that the kernel leaves is the reference's. -/
theorem final7 (c : Dev nD) (i : S2x512x2048.Idx) (hi : (i 0 : ℕ) = 1) : (dats m 0 c).arrAt 7 cfg0.N i
    = Cert.AdamwOut1RefIdeal.Read.val_main_v33 (F := Ideal) (m ((c : Thread nD τ).loc main_arg2)) (m ((c : Thread nD τ).loc main_arg3)) i := by
  refine (congrFun ((dats m 0 c).arrAt_eq_of_coversWhere 7 (Cert.AdamwOut1RefIdeal.Read.val_main_v33 (F := Ideal) (m ((c : Thread nD τ).loc main_arg2)) (m ((c : Thread nD τ).loc main_arg3)))
    (P := fun i : S2x512x2048.Idx => (i 0 : ℕ) = 1) (fun β => β (0 : Fin _) = 1) (by decide +kernel) (fun t hf y => ?_)
    (fun j => by blk_simp [Pipeline.Window.cell_apply]; try omega)) i).trans ?_
  · blk_simp
    rw [after0_7]; frame_out
    idx_vars y
    have hb : t.val * 128 + y1.val < 512 := by have := t.isLt; have := y1.isLt; change t.val < 4 at *; omega
    refine (pay7 m c t y0 y1 y2 ⟨t.val * 128 + y1.val, hb⟩ rfl).trans (congrArg _ ?_)
    blk_ext [idxr t]
    all_goals omega
  · show (if (i 0 : ℕ) = 1 then _ else _) = _
    exact if_pos hi

end Cert.AdamwOut1Ideal.Hand

end
-- ==== Proof.AdamwOut1.Claim.lean ====
module

public import proofs.«01_k».proof.Defs
public import proofs.«01_k».proof.Proof.Gen.On_adamw_out1_last
public import proofs.«01_k».proof.Proof.Gen.AdamwOut1RefIdeal.Run
public import proofs.«01_k».proof.Proof.AdamwOut1.Value

@[expose] public section

noncomputable section

namespace Cert.AdamwOut1Ideal.Hand

open Idealize.ShloMosaic Idealize.ShloMosaic.TcCoe Idealize.SL.Sem
open Cert.AdamwOut1Ideal Cert.AdamwOut1Ideal.Gen

/-- The reference ends with its arguments kept and every semaphore at zero. -/
theorem frame_ref : Cert.quiescent_AdamwOut1RefIdeal := fun m ρ _ =>
  (θ_run Cert.AdamwOut1RefIdeal.defs _ _).mono (fun r h => ⟨fun c => (h c).2.2.2.2,
    Idealize.ShloMosaic.sem_eq_zero_of_no_sems (by decide) r.2⟩) (Cert.AdamwOut1RefIdeal.Value.run m ρ)

/-- The mask is set on the last layer alone. -/
theorem last : ∀ r : ℕ, r < 2 → IntOp.cmpi .eq (BitVec.ofNat 32 r) 1#32 = 1#1 → r = 1 := by decide

/-- On equal arguments the kernel and the reference end with equal results, the optimiser's on its own layer. -/
theorem algebraic : Cert.algebraic_AdamwOut1Ideal_AdamwOut1RefIdeal_on_adamw_out1_last := by
  intro m g m' g' _ hagree
  refine ⟨fun c => Cert.AdamwOut1RefIdeal.Read.val_main_v30 (F := Ideal) (m ((c : Thread nD τ).loc main_arg3)), fun c => Cert.AdamwOut1RefIdeal.Read.val_main_v31 (F := Ideal) (m ((c : Thread nD τ).loc main_arg0)) (m ((c : Thread nD τ).loc main_arg1)) (m ((c : Thread nD τ).loc main_arg2)) (m ((c : Thread nD τ).loc main_arg3)), fun c => Cert.AdamwOut1RefIdeal.Read.val_main_v32 (F := Ideal) (m ((c : Thread nD τ).loc main_arg1)) (m ((c : Thread nD τ).loc main_arg3)), fun c => Cert.AdamwOut1RefIdeal.Read.val_main_v33 (F := Ideal) (m ((c : Thread nD τ).loc main_arg2)) (m ((c : Thread nD τ).loc main_arg3)), ?_, ?_⟩
  · exact (θ_run _ _ _).mono (fun r h c => ⟨fun i hi => (congrFun (h c).1 i).trans (Cert.AdamwOut1Ideal.Hand.final4 m c i (last _ (i 0).isLt hi)), fun i hi => (congrFun (h c).2.1 i).trans (Cert.AdamwOut1Ideal.Hand.final5 m c i (last _ (i 0).isLt hi)), fun i hi => (congrFun (h c).2.2.1 i).trans (Cert.AdamwOut1Ideal.Hand.final6 m c i (last _ (i 0).isLt hi)), fun i hi => (congrFun (h c).2.2.2.1 i).trans (Cert.AdamwOut1Ideal.Hand.final7 m c i (last _ (i 0).isLt hi)), (h c).2.2.2.2⟩)
      (Cert.AdamwOut1Ideal.Value.run_blocks m g)
  refine (θ_run _ _ _).mono (fun r h c => ⟨fun i _ => congrFun ?_ i, fun i _ => congrFun ?_ i, fun i _ => congrFun ?_ i, fun i _ => congrFun ?_ i, (h c).2.2.2.2⟩) (Cert.AdamwOut1RefIdeal.Value.run m' g')
  · refine (h c).1.trans ?_
    rw [(hagree c).2.2.2]
    exact Cert.AdamwOut1RefIdeal.Read.val_main_v30_eq _
  · refine (h c).2.1.trans ?_
    rw [(hagree c).1, (hagree c).2.1, (hagree c).2.2.1, (hagree c).2.2.2]
    exact Cert.AdamwOut1RefIdeal.Read.val_main_v31_eq _ _ _ _
  · refine (h c).2.2.1.trans ?_
    rw [(hagree c).2.1, (hagree c).2.2.2]
    exact Cert.AdamwOut1RefIdeal.Read.val_main_v32_eq _ _
  · refine (h c).2.2.2.1.trans ?_
    rw [(hagree c).2.2.1, (hagree c).2.2.2]
    exact Cert.AdamwOut1RefIdeal.Read.val_main_v33_eq _ _

end Cert.AdamwOut1Ideal.Hand

end
-- ==== Proof.AdamwOut0.Value.lean ====
module

public import proofs.«01_k».proof.Proof.Gen.AdamwOut0Ideal.Value
public import proofs.«01_k».proof.Proof.Gen.AdamwOut0RefIdeal.Read
public import Idealize.ShloMosaic.Lib.Pipeline.ValueKit
public import proofs.«01_k».proof.Proof.Shared.Adam

@[expose] public section

set_option maxRecDepth 16384

noncomputable section

namespace Cert.AdamwOut0Ideal.Hand

open Idealize.ShloMosaic Idealize.ShloMosaic.TcCoe Idealize.SL.Sem
open Idealize.ShloMosaic.Pipeline (Dat)
open Cert.AdamwOut0Ideal Cert.AdamwOut0Ideal.Gen

/-- The reference's gradient of the first layer. -/
theorem ref4 (W M U : FVec Ideal S2x512x2048 .f32) (G : FVec Ideal S512x2048 .f32) (E : FVec Ideal S2x512x2048 .f32) (r : Fin 512) (l : Fin 2048) :
    Cert.AdamwOut0RefIdeal.Read.val_main_v34 (F := Ideal) G E (ix3 0 r l) = G (ix2 r l) := by
  rw [← Cert.AdamwOut0RefIdeal.Read.val_main_v34_eq]
  pointwise [Cert.Hand.step, Cert.Hand.newM, Cert.Hand.newV]
  try rfl

/-- The reference keeps the gradient of the second layer. -/
theorem keep4 (W M U : FVec Ideal S2x512x2048 .f32) (G : FVec Ideal S512x2048 .f32) (E : FVec Ideal S2x512x2048 .f32) (r : Fin 512) (l : Fin 2048) :
    Cert.AdamwOut0RefIdeal.Read.val_main_v34 (F := Ideal) G E (ix3 1 r l) = E (ix3 1 r l) := by
  rw [← Cert.AdamwOut0RefIdeal.Read.val_main_v34_eq]
  pointwise
  try rfl

/-- The reference's step of the first layer. -/
theorem ref5 (W M U : FVec Ideal S2x512x2048 .f32) (G : FVec Ideal S512x2048 .f32) (E : FVec Ideal S2x512x2048 .f32) (r : Fin 512) (l : Fin 2048) :
    Cert.AdamwOut0RefIdeal.Read.val_main_v39 (F := Ideal) W M U G E (ix3 0 r l) = Cert.Hand.step (W (ix3 0 r l)) (G (ix2 r l)) (M (ix3 0 r l)) (U (ix3 0 r l)) := by
  rw [← Cert.AdamwOut0RefIdeal.Read.val_main_v39_eq]
  pointwise [Cert.Hand.step, Cert.Hand.newM, Cert.Hand.newV]
  try rfl

/-- The reference keeps the step of the second layer. -/
theorem keep5 (W M U : FVec Ideal S2x512x2048 .f32) (G : FVec Ideal S512x2048 .f32) (E : FVec Ideal S2x512x2048 .f32) (r : Fin 512) (l : Fin 2048) :
    Cert.AdamwOut0RefIdeal.Read.val_main_v39 (F := Ideal) W M U G E (ix3 1 r l) = E (ix3 1 r l) := by
  rw [← Cert.AdamwOut0RefIdeal.Read.val_main_v39_eq]
  pointwise
  try rfl

/-- The reference's first moment of the first layer. -/
theorem ref6 (W M U : FVec Ideal S2x512x2048 .f32) (G : FVec Ideal S512x2048 .f32) (E : FVec Ideal S2x512x2048 .f32) (r : Fin 512) (l : Fin 2048) :
    Cert.AdamwOut0RefIdeal.Read.val_main_v44 (F := Ideal) M G E (ix3 0 r l) = Cert.Hand.newM (G (ix2 r l)) (M (ix3 0 r l)) := by
  rw [← Cert.AdamwOut0RefIdeal.Read.val_main_v44_eq]
  pointwise [Cert.Hand.step, Cert.Hand.newM, Cert.Hand.newV]
  try rfl

/-- The reference keeps the first moment of the second layer. -/
theorem keep6 (W M U : FVec Ideal S2x512x2048 .f32) (G : FVec Ideal S512x2048 .f32) (E : FVec Ideal S2x512x2048 .f32) (r : Fin 512) (l : Fin 2048) :
    Cert.AdamwOut0RefIdeal.Read.val_main_v44 (F := Ideal) M G E (ix3 1 r l) = E (ix3 1 r l) := by
  rw [← Cert.AdamwOut0RefIdeal.Read.val_main_v44_eq]
  pointwise
  try rfl

/-- The reference's second moment of the first layer. -/
theorem ref7 (W M U : FVec Ideal S2x512x2048 .f32) (G : FVec Ideal S512x2048 .f32) (E : FVec Ideal S2x512x2048 .f32) (r : Fin 512) (l : Fin 2048) :
    Cert.AdamwOut0RefIdeal.Read.val_main_v49 (F := Ideal) U G E (ix3 0 r l) = Cert.Hand.newV (G (ix2 r l)) (U (ix3 0 r l)) := by
  rw [← Cert.AdamwOut0RefIdeal.Read.val_main_v49_eq]
  pointwise [Cert.Hand.step, Cert.Hand.newM, Cert.Hand.newV]
  try rfl

/-- The reference keeps the second moment of the second layer. -/
theorem keep7 (W M U : FVec Ideal S2x512x2048 .f32) (G : FVec Ideal S512x2048 .f32) (E : FVec Ideal S2x512x2048 .f32) (r : Fin 512) (l : Fin 2048) :
    Cert.AdamwOut0RefIdeal.Read.val_main_v49 (F := Ideal) U G E (ix3 1 r l) = E (ix3 1 r l) := by
  rw [← Cert.AdamwOut0RefIdeal.Read.val_main_v49_eq]
  pointwise
  try rfl

variable (m : (ℓ : Loc nD τ sig) → Buf (Elt Ideal) ℓ)

/-- Which block each window holds at each point of the grid. -/
theorem idx : ∀ t : Fin cfg0.N, win0_0.index t = ![0, t.val, 0] ∧ win0_1.index t = ![0, t.val, 0] ∧ win0_2.index t = ![0, t.val, 0]
    ∧ win0_3.index t = ![t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

/-- The result's array starts as the array of the other layer's gradient. -/
theorem entry4 (c : Dev nD) : V m c main_v0_0 = m ((c : Thread nD τ).loc main_arg4) := by
  unfold V; after_results; try rfl

/-- The result's array starts as the array of the other layer's step. -/
theorem entry5 (c : Dev nD) : V m c main_v0_1 = m ((c : Thread nD τ).loc main_arg5) := by
  unfold V; after_results; try rfl

/-- The result's array starts as the array of the other layer's first moment. -/
theorem entry6 (c : Dev nD) : V m c main_v0_2 = m ((c : Thread nD τ).loc main_arg6) := by
  unfold V; after_results; try rfl

/-- The result's array starts as the array of the other layer's second moment. -/
theorem entry7 (c : Dev nD) : V m c main_v0_3 = m ((c : Thread nD τ).loc main_arg7) := by
  unfold V; after_results; try rfl

/-- The block of operand 0, at an index of the array. -/
theorem blk0 (c : Dev nD) (t : Fin cfg0.N) (z : Fin 1) (r : Fin 128) (l : Fin 2048) (q : Fin 512) (hq : (q : ℕ) = t.val * 128 + r) :
    (show FVec Ideal S1x128x2048 .f32 from iblk m c 0 t) (ix3 z r l)
      = (show FVec Ideal S2x512x2048 .f32 from m ((c : Thread nD τ).loc main_arg0)) (ix3 0 q l) := by
  have e : ((cfg0.win 0).blk t).view.emb (ix3 z r l : S1x128x2048.Idx) = (ix3 (0 : Fin 2) q l : S2x512x2048.Idx) := by
    blk_ext [idx t]
    all_goals omega
  rw [← e]; blk_point [iblk, V, idx t]

/-- The block of operand 1, at an index of the array. -/
theorem blk1 (c : Dev nD) (t : Fin cfg0.N) (z : Fin 1) (r : Fin 128) (l : Fin 2048) (q : Fin 512) (hq : (q : ℕ) = t.val * 128 + r) :
    (show FVec Ideal S1x128x2048 .f32 from iblk m c 1 t) (ix3 z r l)
      = (show FVec Ideal S2x512x2048 .f32 from m ((c : Thread nD τ).loc main_arg1)) (ix3 0 q l) := by
  have e : ((cfg0.win 1).blk t).view.emb (ix3 z r l : S1x128x2048.Idx) = (ix3 (0 : Fin 2) q l : S2x512x2048.Idx) := by
    blk_ext [idx t]
    all_goals omega
  rw [← e]; blk_point [iblk, V, idx t]

/-- The block of operand 2, at an index of the array. -/
theorem blk2 (c : Dev nD) (t : Fin cfg0.N) (z : Fin 1) (r : Fin 128) (l : Fin 2048) (q : Fin 512) (hq : (q : ℕ) = t.val * 128 + r) :
    (show FVec Ideal S1x128x2048 .f32 from iblk m c 2 t) (ix3 z r l)
      = (show FVec Ideal S2x512x2048 .f32 from m ((c : Thread nD τ).loc main_arg2)) (ix3 0 q l) := by
  have e : ((cfg0.win 2).blk t).view.emb (ix3 z r l : S1x128x2048.Idx) = (ix3 (0 : Fin 2) q l : S2x512x2048.Idx) := by
    blk_ext [idx t]
    all_goals omega
  rw [← e]; blk_point [iblk, V, idx t]

/-- The block of the gradient, at an index of the array. -/
theorem blk3 (c : Dev nD) (t : Fin cfg0.N) (r : Fin 128) (l : Fin 2048) (q : Fin 512) (hq : (q : ℕ) = t.val * 128 + r) :
    (show FVec Ideal S128x2048 .f32 from iblk m c 3 t) (ix2 r l)
      = (show FVec Ideal S512x2048 .f32 from m ((c : Thread nD τ).loc main_arg3)) (ix2 q l) := by
  have e : ((cfg0.win 3).blk t).view.emb (ix2 r l : S128x2048.Idx) = (ix2 q l : S512x2048.Idx) := by
    blk_ext [idx t]
    all_goals omega
  rw [← e]; blk_point [iblk, V, idx t]

/-- What a point of the grid stores of the gradient. -/
theorem pay4 (c : Dev nD) (t : Fin cfg0.N) (z : Fin 1) (r : Fin 128) (l : Fin 2048) (q : Fin 512) (hq : (q : ℕ) = t.val * 128 + r) :
    (k0_pay7 (F := Ideal) (iblk m c 3 t)) (ix3 z r l) = Cert.AdamwOut0RefIdeal.Read.val_main_v34 (F := Ideal) (m ((c : Thread nD τ).loc main_arg3)) (m ((c : Thread nD τ).loc main_arg4)) (ix3 0 q l) := by
  obtain rfl : z = 0 := Subsingleton.elim _ _
  have h : (k0_pay7 (F := Ideal) (iblk m c 3 t)) (ix3 0 r l) = (show FVec Ideal S128x2048 .f32 from iblk m c 3 t) (ix2 r l) := by
    pointwise [k0_pay7, Cert.Hand.step, Cert.Hand.newM, Cert.Hand.newV]
    try rfl
  rw [h, blk3 m c t r l q hq]
  exact (ref4 (m ((c : Thread nD τ).loc main_arg0)) (m ((c : Thread nD τ).loc main_arg1)) (m ((c : Thread nD τ).loc main_arg2)) (m ((c : Thread nD τ).loc main_arg3)) (m ((c : Thread nD τ).loc main_arg4)) q l).symm

/-- The array of the gradient that the kernel leaves is the reference's. -/
theorem final4 (c : Dev nD) : (dats m 0 c).arrAt 4 cfg0.N
    = Cert.AdamwOut0RefIdeal.Read.val_main_v34 (F := Ideal) (m ((c : Thread nD τ).loc main_arg3)) (m ((c : Thread nD τ).loc main_arg4)) := by
  refine ((dats m 0 c).arrAt_eq_of_coversWhere 4 (Cert.AdamwOut0RefIdeal.Read.val_main_v34 (F := Ideal) (m ((c : Thread nD τ).loc main_arg3)) (m ((c : Thread nD τ).loc main_arg4)))
    (P := fun i : S2x512x2048.Idx => (i 0 : ℕ) = 0) (fun β => β (0 : Fin _) = 0) (by decide +kernel) (fun t hf y => ?_)
    (fun j => by blk_simp [Pipeline.Window.cell_apply]; try omega)).trans ?_
  · blk_simp
    rw [after0_4]; unfold outsAt0; frame_out
    idx_vars y
    have hb : t.val * 128 + y1.val < 512 := by have := t.isLt; have := y1.isLt; change t.val < 4 at *; omega
    refine (pay4 m c t y0 y1 y2 ⟨t.val * 128 + y1.val, hb⟩ rfl).trans (congrArg _ ?_)
    blk_ext [idx t]
    all_goals omega
  · funext i
    show (if (i 0 : ℕ) = 0 then _ else _) = _
    split
    · rfl
    · next h =>
      idx_vars i
      obtain rfl : i0 = 1 := by omega
      show V m c main_v0_0 _ = _
      rw [entry4]
      exact (keep4 (m ((c : Thread nD τ).loc main_arg0)) (m ((c : Thread nD τ).loc main_arg1)) (m ((c : Thread nD τ).loc main_arg2)) (m ((c : Thread nD τ).loc main_arg3)) (m ((c : Thread nD τ).loc main_arg4)) i1 i2).symm

/-- What a point of the grid stores of the step. -/
theorem pay5 (c : Dev nD) (t : Fin cfg0.N) (z : Fin 1) (r : Fin 128) (l : Fin 2048) (q : Fin 512) (hq : (q : ℕ) = t.val * 128 + r) :
    (k0_pay1 (F := Ideal) (k0_pay6 (F := Ideal) (iblk m c 0 t) (iblk m c 1 t) (iblk m c 2 t) (iblk m c 3 t))) (ix3 z r l) = Cert.AdamwOut0RefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix3 0 q l) := by
  obtain rfl : z = 0 := Subsingleton.elim _ _
  have h : (k0_pay1 (F := Ideal) (k0_pay6 (F := Ideal) (iblk m c 0 t) (iblk m c 1 t) (iblk m c 2 t) (iblk m c 3 t))) (ix3 0 r l) = Cert.Hand.step ((show FVec Ideal S1x128x2048 .f32 from iblk m c 0 t) (ix3 0 r l)) ((show FVec Ideal S128x2048 .f32 from iblk m c 3 t) (ix2 r l)) ((show FVec Ideal S1x128x2048 .f32 from iblk m c 1 t) (ix3 0 r l)) ((show FVec Ideal S1x128x2048 .f32 from iblk m c 2 t) (ix3 0 r l)) := by
    pointwise [k0_pay1, k0_pay6, k0_pay5, k0_pay4, Cert.Hand.step, Cert.Hand.newM, Cert.Hand.newV]
    try rfl
  rw [h, blk0 m c t 0 r l q hq, blk1 m c t 0 r l q hq, blk2 m c t 0 r l q hq, blk3 m c t r l q hq]
  exact (ref5 (m ((c : Thread nD τ).loc main_arg0)) (m ((c : Thread nD τ).loc main_arg1)) (m ((c : Thread nD τ).loc main_arg2)) (m ((c : Thread nD τ).loc main_arg3)) (m ((c : Thread nD τ).loc main_arg5)) q l).symm

/-- The array of the step that the kernel leaves is the reference's. -/
theorem final5 (c : Dev nD) : (dats m 0 c).arrAt 5 cfg0.N
    = Cert.AdamwOut0RefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine ((dats m 0 c).arrAt_eq_of_coversWhere 5 (Cert.AdamwOut0RefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg5)))
    (P := fun i : S2x512x2048.Idx => (i 0 : ℕ) = 0) (fun β => β (0 : Fin _) = 0) (by decide +kernel) (fun t hf y => ?_)
    (fun j => by blk_simp [Pipeline.Window.cell_apply]; try omega)).trans ?_
  · blk_simp
    rw [after0_5]; unfold outsAt0; frame_out
    idx_vars y
    have hb : t.val * 128 + y1.val < 512 := by have := t.isLt; have := y1.isLt; change t.val < 4 at *; omega
    refine (pay5 m c t y0 y1 y2 ⟨t.val * 128 + y1.val, hb⟩ rfl).trans (congrArg _ ?_)
    blk_ext [idx t]
    all_goals omega
  · funext i
    show (if (i 0 : ℕ) = 0 then _ else _) = _
    split
    · rfl
    · next h =>
      idx_vars i
      obtain rfl : i0 = 1 := by omega
      show V m c main_v0_1 _ = _
      rw [entry5]
      exact (keep5 (m ((c : Thread nD τ).loc main_arg0)) (m ((c : Thread nD τ).loc main_arg1)) (m ((c : Thread nD τ).loc main_arg2)) (m ((c : Thread nD τ).loc main_arg3)) (m ((c : Thread nD τ).loc main_arg5)) i1 i2).symm

/-- What a point of the grid stores of the first moment. -/
theorem pay6 (c : Dev nD) (t : Fin cfg0.N) (z : Fin 1) (r : Fin 128) (l : Fin 2048) (q : Fin 512) (hq : (q : ℕ) = t.val * 128 + r) :
    (k0_pay2 (F := Ideal) (k0_pay4 (F := Ideal) (iblk m c 1 t) (iblk m c 3 t))) (ix3 z r l) = Cert.AdamwOut0RefIdeal.Read.val_main_v44 (F := Ideal) (m ((c : Thread nD τ).loc main_arg1)) (m ((c : Thread nD τ).loc main_arg3)) (m ((c : Thread nD τ).loc main_arg6)) (ix3 0 q l) := by
  obtain rfl : z = 0 := Subsingleton.elim _ _
  have h : (k0_pay2 (F := Ideal) (k0_pay4 (F := Ideal) (iblk m c 1 t) (iblk m c 3 t))) (ix3 0 r l) = Cert.Hand.newM ((show FVec Ideal S128x2048 .f32 from iblk m c 3 t) (ix2 r l)) ((show FVec Ideal S1x128x2048 .f32 from iblk m c 1 t) (ix3 0 r l)) := by
    pointwise [k0_pay2, k0_pay4, Cert.Hand.step, Cert.Hand.newM, Cert.Hand.newV]
    try rfl
  rw [h, blk1 m c t 0 r l q hq, blk3 m c t r l q hq]
  exact (ref6 (m ((c : Thread nD τ).loc main_arg0)) (m ((c : Thread nD τ).loc main_arg1)) (m ((c : Thread nD τ).loc main_arg2)) (m ((c : Thread nD τ).loc main_arg3)) (m ((c : Thread nD τ).loc main_arg6)) q l).symm

/-- The array of the first moment that the kernel leaves is the reference's. -/
theorem final6 (c : Dev nD) : (dats m 0 c).arrAt 6 cfg0.N
    = Cert.AdamwOut0RefIdeal.Read.val_main_v44 (F := Ideal) (m ((c : Thread nD τ).loc main_arg1)) (m ((c : Thread nD τ).loc main_arg3)) (m ((c : Thread nD τ).loc main_arg6)) := by
  refine ((dats m 0 c).arrAt_eq_of_coversWhere 6 (Cert.AdamwOut0RefIdeal.Read.val_main_v44 (F := Ideal) (m ((c : Thread nD τ).loc main_arg1)) (m ((c : Thread nD τ).loc main_arg3)) (m ((c : Thread nD τ).loc main_arg6)))
    (P := fun i : S2x512x2048.Idx => (i 0 : ℕ) = 0) (fun β => β (0 : Fin _) = 0) (by decide +kernel) (fun t hf y => ?_)
    (fun j => by blk_simp [Pipeline.Window.cell_apply]; try omega)).trans ?_
  · blk_simp
    rw [after0_6]; unfold outsAt0; frame_out
    idx_vars y
    have hb : t.val * 128 + y1.val < 512 := by have := t.isLt; have := y1.isLt; change t.val < 4 at *; omega
    refine (pay6 m c t y0 y1 y2 ⟨t.val * 128 + y1.val, hb⟩ rfl).trans (congrArg _ ?_)
    blk_ext [idx t]
    all_goals omega
  · funext i
    show (if (i 0 : ℕ) = 0 then _ else _) = _
    split
    · rfl
    · next h =>
      idx_vars i
      obtain rfl : i0 = 1 := by omega
      show V m c main_v0_2 _ = _
      rw [entry6]
      exact (keep6 (m ((c : Thread nD τ).loc main_arg0)) (m ((c : Thread nD τ).loc main_arg1)) (m ((c : Thread nD τ).loc main_arg2)) (m ((c : Thread nD τ).loc main_arg3)) (m ((c : Thread nD τ).loc main_arg6)) i1 i2).symm

/-- What a point of the grid stores of the second moment. -/
theorem pay7 (c : Dev nD) (t : Fin cfg0.N) (z : Fin 1) (r : Fin 128) (l : Fin 2048) (q : Fin 512) (hq : (q : ℕ) = t.val * 128 + r) :
    (k0_pay3 (F := Ideal) (k0_pay5 (F := Ideal) (iblk m c 2 t) (iblk m c 3 t))) (ix3 z r l) = Cert.AdamwOut0RefIdeal.Read.val_main_v49 (F := Ideal) (m ((c : Thread nD τ).loc main_arg2)) (m ((c : Thread nD τ).loc main_arg3)) (m ((c : Thread nD τ).loc main_arg7)) (ix3 0 q l) := by
  obtain rfl : z = 0 := Subsingleton.elim _ _
  have h : (k0_pay3 (F := Ideal) (k0_pay5 (F := Ideal) (iblk m c 2 t) (iblk m c 3 t))) (ix3 0 r l) = Cert.Hand.newV ((show FVec Ideal S128x2048 .f32 from iblk m c 3 t) (ix2 r l)) ((show FVec Ideal S1x128x2048 .f32 from iblk m c 2 t) (ix3 0 r l)) := by
    pointwise [k0_pay3, k0_pay5, Cert.Hand.step, Cert.Hand.newM, Cert.Hand.newV]
    try rfl
  rw [h, blk2 m c t 0 r l q hq, blk3 m c t r l q hq]
  exact (ref7 (m ((c : Thread nD τ).loc main_arg0)) (m ((c : Thread nD τ).loc main_arg1)) (m ((c : Thread nD τ).loc main_arg2)) (m ((c : Thread nD τ).loc main_arg3)) (m ((c : Thread nD τ).loc main_arg7)) q l).symm

/-- The array of the second moment that the kernel leaves is the reference's. -/
theorem final7 (c : Dev nD) : (dats m 0 c).arrAt 7 cfg0.N
    = Cert.AdamwOut0RefIdeal.Read.val_main_v49 (F := Ideal) (m ((c : Thread nD τ).loc main_arg2)) (m ((c : Thread nD τ).loc main_arg3)) (m ((c : Thread nD τ).loc main_arg7)) := by
  refine ((dats m 0 c).arrAt_eq_of_coversWhere 7 (Cert.AdamwOut0RefIdeal.Read.val_main_v49 (F := Ideal) (m ((c : Thread nD τ).loc main_arg2)) (m ((c : Thread nD τ).loc main_arg3)) (m ((c : Thread nD τ).loc main_arg7)))
    (P := fun i : S2x512x2048.Idx => (i 0 : ℕ) = 0) (fun β => β (0 : Fin _) = 0) (by decide +kernel) (fun t hf y => ?_)
    (fun j => by blk_simp [Pipeline.Window.cell_apply]; try omega)).trans ?_
  · blk_simp
    rw [after0_7]; unfold outsAt0; frame_out
    idx_vars y
    have hb : t.val * 128 + y1.val < 512 := by have := t.isLt; have := y1.isLt; change t.val < 4 at *; omega
    refine (pay7 m c t y0 y1 y2 ⟨t.val * 128 + y1.val, hb⟩ rfl).trans (congrArg _ ?_)
    blk_ext [idx t]
    all_goals omega
  · funext i
    show (if (i 0 : ℕ) = 0 then _ else _) = _
    split
    · rfl
    · next h =>
      idx_vars i
      obtain rfl : i0 = 1 := by omega
      show V m c main_v0_3 _ = _
      rw [entry7]
      exact (keep7 (m ((c : Thread nD τ).loc main_arg0)) (m ((c : Thread nD τ).loc main_arg1)) (m ((c : Thread nD τ).loc main_arg2)) (m ((c : Thread nD τ).loc main_arg3)) (m ((c : Thread nD τ).loc main_arg7)) i1 i2).symm

end Cert.AdamwOut0Ideal.Hand

end
-- ==== Proof.AdamwOut0.Claim.lean ====
module

public import proofs.«01_k».proof.Defs
public import proofs.«01_k».proof.Proof.Gen.AdamwOut0RefIdeal.Run
public import proofs.«01_k».proof.Proof.AdamwOut0.Value

@[expose] public section

noncomputable section

namespace Cert.AdamwOut0Ideal.Hand

open Idealize.ShloMosaic Idealize.SL.Sem

/-- The reference ends with its arguments kept and every semaphore at zero. -/
theorem frame_ref : Cert.quiescent_AdamwOut0RefIdeal := fun m ρ _ =>
  (θ_run Cert.AdamwOut0RefIdeal.defs _ _).mono (fun r h => ⟨fun c => (h c).2.2.2.2,
    Idealize.ShloMosaic.sem_eq_zero_of_no_sems (by decide) r.2⟩) (Cert.AdamwOut0RefIdeal.Value.run m ρ)

/-- On equal arguments the kernel and the reference end with equal results. -/
theorem algebraic : Cert.algebraic_AdamwOut0Ideal_AdamwOut0RefIdeal := by
  intro m g m' g' _ hagree
  refine ⟨_, _, _, _, (θ_run _ _ _).mono (fun r h c => ⟨(h c).1.trans (Cert.AdamwOut0Ideal.Hand.final4 m c), (h c).2.1.trans (Cert.AdamwOut0Ideal.Hand.final5 m c), (h c).2.2.1.trans (Cert.AdamwOut0Ideal.Hand.final6 m c), (h c).2.2.2.1.trans (Cert.AdamwOut0Ideal.Hand.final7 m c), (h c).2.2.2.2⟩)
      (Cert.AdamwOut0Ideal.Value.run_blocks m g),
    (θ_run _ _ _).mono (fun r h c => ⟨?_, ?_, ?_, ?_, (h c).2.2.2.2⟩) (Cert.AdamwOut0RefIdeal.Value.run m' g')⟩
  · refine (h c).1.trans ?_
    rw [(hagree c).2.2.2.1, (hagree c).2.2.2.2.1]
    exact Cert.AdamwOut0RefIdeal.Read.val_main_v34_eq _ _
  · refine (h c).2.1.trans ?_
    rw [(hagree c).1, (hagree c).2.1, (hagree c).2.2.1, (hagree c).2.2.2.1, (hagree c).2.2.2.2.2.1]
    exact Cert.AdamwOut0RefIdeal.Read.val_main_v39_eq _ _ _ _ _
  · refine (h c).2.2.1.trans ?_
    rw [(hagree c).2.1, (hagree c).2.2.2.1, (hagree c).2.2.2.2.2.2.1]
    exact Cert.AdamwOut0RefIdeal.Read.val_main_v44_eq _ _ _
  · refine (h c).2.2.2.1.trans ?_
    rw [(hagree c).2.2.1, (hagree c).2.2.2.1, (hagree c).2.2.2.2.2.2.2]
    exact Cert.AdamwOut0RefIdeal.Read.val_main_v49_eq _ _ _

end Cert.AdamwOut0Ideal.Hand

end
-- ==== Proof.AdamwFf2.Value.lean ====
module

public import proofs.«01_k».proof.Proof.Gen.AdamwFf2Ideal.Value
public import proofs.«01_k».proof.Proof.Gen.AdamwFf2RefIdeal.Read
public import Idealize.ShloMosaic.Lib.Pipeline.ValueKit
public import proofs.«01_k».proof.Proof.Shared.Adam

@[expose] public section

set_option maxRecDepth 16384

noncomputable section

namespace Cert.AdamwFf2Ideal.Hand

open Idealize.ShloMosaic Idealize.ShloMosaic.TcCoe Idealize.SL.Sem
open Idealize.ShloMosaic.Pipeline (Dat)
open Cert.AdamwFf2Ideal Cert.AdamwFf2Ideal.Gen

/-- The reference's gradient of the first layer. -/
theorem ref4 (W M U : FVec Ideal S2x2048x2048 .f32) (G : FVec Ideal S2048x2048 .f32) (E : FVec Ideal S2x2048x2048 .f32) (r : Fin 2048) (l : Fin 2048) :
    Cert.AdamwFf2RefIdeal.Read.val_main_v34 (F := Ideal) G E (ix3 0 r l) = G (ix2 r l) := by
  rw [← Cert.AdamwFf2RefIdeal.Read.val_main_v34_eq]
  pointwise [Cert.Hand.step, Cert.Hand.newM, Cert.Hand.newV]
  try rfl

/-- The reference keeps the gradient of the second layer. -/
theorem keep4 (W M U : FVec Ideal S2x2048x2048 .f32) (G : FVec Ideal S2048x2048 .f32) (E : FVec Ideal S2x2048x2048 .f32) (r : Fin 2048) (l : Fin 2048) :
    Cert.AdamwFf2RefIdeal.Read.val_main_v34 (F := Ideal) G E (ix3 1 r l) = E (ix3 1 r l) := by
  rw [← Cert.AdamwFf2RefIdeal.Read.val_main_v34_eq]
  pointwise
  try rfl

/-- The reference's step of the first layer. -/
theorem ref5 (W M U : FVec Ideal S2x2048x2048 .f32) (G : FVec Ideal S2048x2048 .f32) (E : FVec Ideal S2x2048x2048 .f32) (r : Fin 2048) (l : Fin 2048) :
    Cert.AdamwFf2RefIdeal.Read.val_main_v39 (F := Ideal) W M U G E (ix3 0 r l) = Cert.Hand.step (W (ix3 0 r l)) (G (ix2 r l)) (M (ix3 0 r l)) (U (ix3 0 r l)) := by
  rw [← Cert.AdamwFf2RefIdeal.Read.val_main_v39_eq]
  pointwise [Cert.Hand.step, Cert.Hand.newM, Cert.Hand.newV]
  try rfl

/-- The reference keeps the step of the second layer. -/
theorem keep5 (W M U : FVec Ideal S2x2048x2048 .f32) (G : FVec Ideal S2048x2048 .f32) (E : FVec Ideal S2x2048x2048 .f32) (r : Fin 2048) (l : Fin 2048) :
    Cert.AdamwFf2RefIdeal.Read.val_main_v39 (F := Ideal) W M U G E (ix3 1 r l) = E (ix3 1 r l) := by
  rw [← Cert.AdamwFf2RefIdeal.Read.val_main_v39_eq]
  pointwise
  try rfl

/-- The reference's first moment of the first layer. -/
theorem ref6 (W M U : FVec Ideal S2x2048x2048 .f32) (G : FVec Ideal S2048x2048 .f32) (E : FVec Ideal S2x2048x2048 .f32) (r : Fin 2048) (l : Fin 2048) :
    Cert.AdamwFf2RefIdeal.Read.val_main_v44 (F := Ideal) M G E (ix3 0 r l) = Cert.Hand.newM (G (ix2 r l)) (M (ix3 0 r l)) := by
  rw [← Cert.AdamwFf2RefIdeal.Read.val_main_v44_eq]
  pointwise [Cert.Hand.step, Cert.Hand.newM, Cert.Hand.newV]
  try rfl

/-- The reference keeps the first moment of the second layer. -/
theorem keep6 (W M U : FVec Ideal S2x2048x2048 .f32) (G : FVec Ideal S2048x2048 .f32) (E : FVec Ideal S2x2048x2048 .f32) (r : Fin 2048) (l : Fin 2048) :
    Cert.AdamwFf2RefIdeal.Read.val_main_v44 (F := Ideal) M G E (ix3 1 r l) = E (ix3 1 r l) := by
  rw [← Cert.AdamwFf2RefIdeal.Read.val_main_v44_eq]
  pointwise
  try rfl

/-- The reference's second moment of the first layer. -/
theorem ref7 (W M U : FVec Ideal S2x2048x2048 .f32) (G : FVec Ideal S2048x2048 .f32) (E : FVec Ideal S2x2048x2048 .f32) (r : Fin 2048) (l : Fin 2048) :
    Cert.AdamwFf2RefIdeal.Read.val_main_v49 (F := Ideal) U G E (ix3 0 r l) = Cert.Hand.newV (G (ix2 r l)) (U (ix3 0 r l)) := by
  rw [← Cert.AdamwFf2RefIdeal.Read.val_main_v49_eq]
  pointwise [Cert.Hand.step, Cert.Hand.newM, Cert.Hand.newV]
  try rfl

/-- The reference keeps the second moment of the second layer. -/
theorem keep7 (W M U : FVec Ideal S2x2048x2048 .f32) (G : FVec Ideal S2048x2048 .f32) (E : FVec Ideal S2x2048x2048 .f32) (r : Fin 2048) (l : Fin 2048) :
    Cert.AdamwFf2RefIdeal.Read.val_main_v49 (F := Ideal) U G E (ix3 1 r l) = E (ix3 1 r l) := by
  rw [← Cert.AdamwFf2RefIdeal.Read.val_main_v49_eq]
  pointwise
  try rfl

variable (m : (ℓ : Loc nD τ sig) → Buf (Elt Ideal) ℓ)

/-- Which block each window holds at each point of the grid. -/
theorem idx : ∀ t : Fin cfg0.N, win0_0.index t = ![0, t.val, 0] ∧ win0_1.index t = ![0, t.val, 0] ∧ win0_2.index t = ![0, t.val, 0]
    ∧ win0_3.index t = ![t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

/-- The result's array starts as the array of the other layer's gradient. -/
theorem entry4 (c : Dev nD) : V m c main_v0_0 = m ((c : Thread nD τ).loc main_arg4) := by
  unfold V; after_results; try rfl

/-- The result's array starts as the array of the other layer's step. -/
theorem entry5 (c : Dev nD) : V m c main_v0_1 = m ((c : Thread nD τ).loc main_arg5) := by
  unfold V; after_results; try rfl

/-- The result's array starts as the array of the other layer's first moment. -/
theorem entry6 (c : Dev nD) : V m c main_v0_2 = m ((c : Thread nD τ).loc main_arg6) := by
  unfold V; after_results; try rfl

/-- The result's array starts as the array of the other layer's second moment. -/
theorem entry7 (c : Dev nD) : V m c main_v0_3 = m ((c : Thread nD τ).loc main_arg7) := by
  unfold V; after_results; try rfl

/-- The block of operand 0, at an index of the array. -/
theorem blk0 (c : Dev nD) (t : Fin cfg0.N) (z : Fin 1) (r : Fin 128) (l : Fin 2048) (q : Fin 2048) (hq : (q : ℕ) = t.val * 128 + r) :
    (show FVec Ideal S1x128x2048 .f32 from iblk m c 0 t) (ix3 z r l)
      = (show FVec Ideal S2x2048x2048 .f32 from m ((c : Thread nD τ).loc main_arg0)) (ix3 0 q l) := by
  have e : ((cfg0.win 0).blk t).view.emb (ix3 z r l : S1x128x2048.Idx) = (ix3 (0 : Fin 2) q l : S2x2048x2048.Idx) := by
    blk_ext [idx t]
    all_goals omega
  rw [← e]; blk_point [iblk, V, idx t]

/-- The block of operand 1, at an index of the array. -/
theorem blk1 (c : Dev nD) (t : Fin cfg0.N) (z : Fin 1) (r : Fin 128) (l : Fin 2048) (q : Fin 2048) (hq : (q : ℕ) = t.val * 128 + r) :
    (show FVec Ideal S1x128x2048 .f32 from iblk m c 1 t) (ix3 z r l)
      = (show FVec Ideal S2x2048x2048 .f32 from m ((c : Thread nD τ).loc main_arg1)) (ix3 0 q l) := by
  have e : ((cfg0.win 1).blk t).view.emb (ix3 z r l : S1x128x2048.Idx) = (ix3 (0 : Fin 2) q l : S2x2048x2048.Idx) := by
    blk_ext [idx t]
    all_goals omega
  rw [← e]; blk_point [iblk, V, idx t]

/-- The block of operand 2, at an index of the array. -/
theorem blk2 (c : Dev nD) (t : Fin cfg0.N) (z : Fin 1) (r : Fin 128) (l : Fin 2048) (q : Fin 2048) (hq : (q : ℕ) = t.val * 128 + r) :
    (show FVec Ideal S1x128x2048 .f32 from iblk m c 2 t) (ix3 z r l)
      = (show FVec Ideal S2x2048x2048 .f32 from m ((c : Thread nD τ).loc main_arg2)) (ix3 0 q l) := by
  have e : ((cfg0.win 2).blk t).view.emb (ix3 z r l : S1x128x2048.Idx) = (ix3 (0 : Fin 2) q l : S2x2048x2048.Idx) := by
    blk_ext [idx t]
    all_goals omega
  rw [← e]; blk_point [iblk, V, idx t]

/-- The block of the gradient, at an index of the array. -/
theorem blk3 (c : Dev nD) (t : Fin cfg0.N) (r : Fin 128) (l : Fin 2048) (q : Fin 2048) (hq : (q : ℕ) = t.val * 128 + r) :
    (show FVec Ideal S128x2048 .f32 from iblk m c 3 t) (ix2 r l)
      = (show FVec Ideal S2048x2048 .f32 from m ((c : Thread nD τ).loc main_arg3)) (ix2 q l) := by
  have e : ((cfg0.win 3).blk t).view.emb (ix2 r l : S128x2048.Idx) = (ix2 q l : S2048x2048.Idx) := by
    blk_ext [idx t]
    all_goals omega
  rw [← e]; blk_point [iblk, V, idx t]

/-- What a point of the grid stores of the gradient. -/
theorem pay4 (c : Dev nD) (t : Fin cfg0.N) (z : Fin 1) (r : Fin 128) (l : Fin 2048) (q : Fin 2048) (hq : (q : ℕ) = t.val * 128 + r) :
    (k0_pay7 (F := Ideal) (iblk m c 3 t)) (ix3 z r l) = Cert.AdamwFf2RefIdeal.Read.val_main_v34 (F := Ideal) (m ((c : Thread nD τ).loc main_arg3)) (m ((c : Thread nD τ).loc main_arg4)) (ix3 0 q l) := by
  obtain rfl : z = 0 := Subsingleton.elim _ _
  have h : (k0_pay7 (F := Ideal) (iblk m c 3 t)) (ix3 0 r l) = (show FVec Ideal S128x2048 .f32 from iblk m c 3 t) (ix2 r l) := by
    pointwise [k0_pay7, Cert.Hand.step, Cert.Hand.newM, Cert.Hand.newV]
    try rfl
  rw [h, blk3 m c t r l q hq]
  exact (ref4 (m ((c : Thread nD τ).loc main_arg0)) (m ((c : Thread nD τ).loc main_arg1)) (m ((c : Thread nD τ).loc main_arg2)) (m ((c : Thread nD τ).loc main_arg3)) (m ((c : Thread nD τ).loc main_arg4)) q l).symm

/-- The array of the gradient that the kernel leaves is the reference's. -/
theorem final4 (c : Dev nD) : (dats m 0 c).arrAt 4 cfg0.N
    = Cert.AdamwFf2RefIdeal.Read.val_main_v34 (F := Ideal) (m ((c : Thread nD τ).loc main_arg3)) (m ((c : Thread nD τ).loc main_arg4)) := by
  refine ((dats m 0 c).arrAt_eq_of_coversWhere 4 (Cert.AdamwFf2RefIdeal.Read.val_main_v34 (F := Ideal) (m ((c : Thread nD τ).loc main_arg3)) (m ((c : Thread nD τ).loc main_arg4)))
    (P := fun i : S2x2048x2048.Idx => (i 0 : ℕ) = 0) (fun β => β (0 : Fin _) = 0) (by decide +kernel) (fun t hf y => ?_)
    (fun j => by blk_simp [Pipeline.Window.cell_apply]; try omega)).trans ?_
  · blk_simp
    rw [after0_4]; unfold outsAt0; frame_out
    idx_vars y
    have hb : t.val * 128 + y1.val < 2048 := by have := t.isLt; have := y1.isLt; change t.val < 16 at *; omega
    refine (pay4 m c t y0 y1 y2 ⟨t.val * 128 + y1.val, hb⟩ rfl).trans (congrArg _ ?_)
    blk_ext [idx t]
    all_goals omega
  · funext i
    show (if (i 0 : ℕ) = 0 then _ else _) = _
    split
    · rfl
    · next h =>
      idx_vars i
      obtain rfl : i0 = 1 := by omega
      show V m c main_v0_0 _ = _
      rw [entry4]
      exact (keep4 (m ((c : Thread nD τ).loc main_arg0)) (m ((c : Thread nD τ).loc main_arg1)) (m ((c : Thread nD τ).loc main_arg2)) (m ((c : Thread nD τ).loc main_arg3)) (m ((c : Thread nD τ).loc main_arg4)) i1 i2).symm

/-- What a point of the grid stores of the step. -/
theorem pay5 (c : Dev nD) (t : Fin cfg0.N) (z : Fin 1) (r : Fin 128) (l : Fin 2048) (q : Fin 2048) (hq : (q : ℕ) = t.val * 128 + r) :
    (k0_pay1 (F := Ideal) (k0_pay6 (F := Ideal) (iblk m c 0 t) (iblk m c 1 t) (iblk m c 2 t) (iblk m c 3 t))) (ix3 z r l) = Cert.AdamwFf2RefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix3 0 q l) := by
  obtain rfl : z = 0 := Subsingleton.elim _ _
  have h : (k0_pay1 (F := Ideal) (k0_pay6 (F := Ideal) (iblk m c 0 t) (iblk m c 1 t) (iblk m c 2 t) (iblk m c 3 t))) (ix3 0 r l) = Cert.Hand.step ((show FVec Ideal S1x128x2048 .f32 from iblk m c 0 t) (ix3 0 r l)) ((show FVec Ideal S128x2048 .f32 from iblk m c 3 t) (ix2 r l)) ((show FVec Ideal S1x128x2048 .f32 from iblk m c 1 t) (ix3 0 r l)) ((show FVec Ideal S1x128x2048 .f32 from iblk m c 2 t) (ix3 0 r l)) := by
    pointwise [k0_pay1, k0_pay6, k0_pay5, k0_pay4, Cert.Hand.step, Cert.Hand.newM, Cert.Hand.newV]
    try rfl
  rw [h, blk0 m c t 0 r l q hq, blk1 m c t 0 r l q hq, blk2 m c t 0 r l q hq, blk3 m c t r l q hq]
  exact (ref5 (m ((c : Thread nD τ).loc main_arg0)) (m ((c : Thread nD τ).loc main_arg1)) (m ((c : Thread nD τ).loc main_arg2)) (m ((c : Thread nD τ).loc main_arg3)) (m ((c : Thread nD τ).loc main_arg5)) q l).symm

/-- The array of the step that the kernel leaves is the reference's. -/
theorem final5 (c : Dev nD) : (dats m 0 c).arrAt 5 cfg0.N
    = Cert.AdamwFf2RefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine ((dats m 0 c).arrAt_eq_of_coversWhere 5 (Cert.AdamwFf2RefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg5)))
    (P := fun i : S2x2048x2048.Idx => (i 0 : ℕ) = 0) (fun β => β (0 : Fin _) = 0) (by decide +kernel) (fun t hf y => ?_)
    (fun j => by blk_simp [Pipeline.Window.cell_apply]; try omega)).trans ?_
  · blk_simp
    rw [after0_5]; unfold outsAt0; frame_out
    idx_vars y
    have hb : t.val * 128 + y1.val < 2048 := by have := t.isLt; have := y1.isLt; change t.val < 16 at *; omega
    refine (pay5 m c t y0 y1 y2 ⟨t.val * 128 + y1.val, hb⟩ rfl).trans (congrArg _ ?_)
    blk_ext [idx t]
    all_goals omega
  · funext i
    show (if (i 0 : ℕ) = 0 then _ else _) = _
    split
    · rfl
    · next h =>
      idx_vars i
      obtain rfl : i0 = 1 := by omega
      show V m c main_v0_1 _ = _
      rw [entry5]
      exact (keep5 (m ((c : Thread nD τ).loc main_arg0)) (m ((c : Thread nD τ).loc main_arg1)) (m ((c : Thread nD τ).loc main_arg2)) (m ((c : Thread nD τ).loc main_arg3)) (m ((c : Thread nD τ).loc main_arg5)) i1 i2).symm

/-- What a point of the grid stores of the first moment. -/
theorem pay6 (c : Dev nD) (t : Fin cfg0.N) (z : Fin 1) (r : Fin 128) (l : Fin 2048) (q : Fin 2048) (hq : (q : ℕ) = t.val * 128 + r) :
    (k0_pay2 (F := Ideal) (k0_pay4 (F := Ideal) (iblk m c 1 t) (iblk m c 3 t))) (ix3 z r l) = Cert.AdamwFf2RefIdeal.Read.val_main_v44 (F := Ideal) (m ((c : Thread nD τ).loc main_arg1)) (m ((c : Thread nD τ).loc main_arg3)) (m ((c : Thread nD τ).loc main_arg6)) (ix3 0 q l) := by
  obtain rfl : z = 0 := Subsingleton.elim _ _
  have h : (k0_pay2 (F := Ideal) (k0_pay4 (F := Ideal) (iblk m c 1 t) (iblk m c 3 t))) (ix3 0 r l) = Cert.Hand.newM ((show FVec Ideal S128x2048 .f32 from iblk m c 3 t) (ix2 r l)) ((show FVec Ideal S1x128x2048 .f32 from iblk m c 1 t) (ix3 0 r l)) := by
    pointwise [k0_pay2, k0_pay4, Cert.Hand.step, Cert.Hand.newM, Cert.Hand.newV]
    try rfl
  rw [h, blk1 m c t 0 r l q hq, blk3 m c t r l q hq]
  exact (ref6 (m ((c : Thread nD τ).loc main_arg0)) (m ((c : Thread nD τ).loc main_arg1)) (m ((c : Thread nD τ).loc main_arg2)) (m ((c : Thread nD τ).loc main_arg3)) (m ((c : Thread nD τ).loc main_arg6)) q l).symm

/-- The array of the first moment that the kernel leaves is the reference's. -/
theorem final6 (c : Dev nD) : (dats m 0 c).arrAt 6 cfg0.N
    = Cert.AdamwFf2RefIdeal.Read.val_main_v44 (F := Ideal) (m ((c : Thread nD τ).loc main_arg1)) (m ((c : Thread nD τ).loc main_arg3)) (m ((c : Thread nD τ).loc main_arg6)) := by
  refine ((dats m 0 c).arrAt_eq_of_coversWhere 6 (Cert.AdamwFf2RefIdeal.Read.val_main_v44 (F := Ideal) (m ((c : Thread nD τ).loc main_arg1)) (m ((c : Thread nD τ).loc main_arg3)) (m ((c : Thread nD τ).loc main_arg6)))
    (P := fun i : S2x2048x2048.Idx => (i 0 : ℕ) = 0) (fun β => β (0 : Fin _) = 0) (by decide +kernel) (fun t hf y => ?_)
    (fun j => by blk_simp [Pipeline.Window.cell_apply]; try omega)).trans ?_
  · blk_simp
    rw [after0_6]; unfold outsAt0; frame_out
    idx_vars y
    have hb : t.val * 128 + y1.val < 2048 := by have := t.isLt; have := y1.isLt; change t.val < 16 at *; omega
    refine (pay6 m c t y0 y1 y2 ⟨t.val * 128 + y1.val, hb⟩ rfl).trans (congrArg _ ?_)
    blk_ext [idx t]
    all_goals omega
  · funext i
    show (if (i 0 : ℕ) = 0 then _ else _) = _
    split
    · rfl
    · next h =>
      idx_vars i
      obtain rfl : i0 = 1 := by omega
      show V m c main_v0_2 _ = _
      rw [entry6]
      exact (keep6 (m ((c : Thread nD τ).loc main_arg0)) (m ((c : Thread nD τ).loc main_arg1)) (m ((c : Thread nD τ).loc main_arg2)) (m ((c : Thread nD τ).loc main_arg3)) (m ((c : Thread nD τ).loc main_arg6)) i1 i2).symm

/-- What a point of the grid stores of the second moment. -/
theorem pay7 (c : Dev nD) (t : Fin cfg0.N) (z : Fin 1) (r : Fin 128) (l : Fin 2048) (q : Fin 2048) (hq : (q : ℕ) = t.val * 128 + r) :
    (k0_pay3 (F := Ideal) (k0_pay5 (F := Ideal) (iblk m c 2 t) (iblk m c 3 t))) (ix3 z r l) = Cert.AdamwFf2RefIdeal.Read.val_main_v49 (F := Ideal) (m ((c : Thread nD τ).loc main_arg2)) (m ((c : Thread nD τ).loc main_arg3)) (m ((c : Thread nD τ).loc main_arg7)) (ix3 0 q l) := by
  obtain rfl : z = 0 := Subsingleton.elim _ _
  have h : (k0_pay3 (F := Ideal) (k0_pay5 (F := Ideal) (iblk m c 2 t) (iblk m c 3 t))) (ix3 0 r l) = Cert.Hand.newV ((show FVec Ideal S128x2048 .f32 from iblk m c 3 t) (ix2 r l)) ((show FVec Ideal S1x128x2048 .f32 from iblk m c 2 t) (ix3 0 r l)) := by
    pointwise [k0_pay3, k0_pay5, Cert.Hand.step, Cert.Hand.newM, Cert.Hand.newV]
    try rfl
  rw [h, blk2 m c t 0 r l q hq, blk3 m c t r l q hq]
  exact (ref7 (m ((c : Thread nD τ).loc main_arg0)) (m ((c : Thread nD τ).loc main_arg1)) (m ((c : Thread nD τ).loc main_arg2)) (m ((c : Thread nD τ).loc main_arg3)) (m ((c : Thread nD τ).loc main_arg7)) q l).symm

/-- The array of the second moment that the kernel leaves is the reference's. -/
theorem final7 (c : Dev nD) : (dats m 0 c).arrAt 7 cfg0.N
    = Cert.AdamwFf2RefIdeal.Read.val_main_v49 (F := Ideal) (m ((c : Thread nD τ).loc main_arg2)) (m ((c : Thread nD τ).loc main_arg3)) (m ((c : Thread nD τ).loc main_arg7)) := by
  refine ((dats m 0 c).arrAt_eq_of_coversWhere 7 (Cert.AdamwFf2RefIdeal.Read.val_main_v49 (F := Ideal) (m ((c : Thread nD τ).loc main_arg2)) (m ((c : Thread nD τ).loc main_arg3)) (m ((c : Thread nD τ).loc main_arg7)))
    (P := fun i : S2x2048x2048.Idx => (i 0 : ℕ) = 0) (fun β => β (0 : Fin _) = 0) (by decide +kernel) (fun t hf y => ?_)
    (fun j => by blk_simp [Pipeline.Window.cell_apply]; try omega)).trans ?_
  · blk_simp
    rw [after0_7]; unfold outsAt0; frame_out
    idx_vars y
    have hb : t.val * 128 + y1.val < 2048 := by have := t.isLt; have := y1.isLt; change t.val < 16 at *; omega
    refine (pay7 m c t y0 y1 y2 ⟨t.val * 128 + y1.val, hb⟩ rfl).trans (congrArg _ ?_)
    blk_ext [idx t]
    all_goals omega
  · funext i
    show (if (i 0 : ℕ) = 0 then _ else _) = _
    split
    · rfl
    · next h =>
      idx_vars i
      obtain rfl : i0 = 1 := by omega
      show V m c main_v0_3 _ = _
      rw [entry7]
      exact (keep7 (m ((c : Thread nD τ).loc main_arg0)) (m ((c : Thread nD τ).loc main_arg1)) (m ((c : Thread nD τ).loc main_arg2)) (m ((c : Thread nD τ).loc main_arg3)) (m ((c : Thread nD τ).loc main_arg7)) i1 i2).symm

end Cert.AdamwFf2Ideal.Hand

end
-- ==== Proof.AdamwFf2.Claim.lean ====
module

public import proofs.«01_k».proof.Defs
public import proofs.«01_k».proof.Proof.Gen.AdamwFf2RefIdeal.Run
public import proofs.«01_k».proof.Proof.AdamwFf2.Value

@[expose] public section

noncomputable section

namespace Cert.AdamwFf2Ideal.Hand

open Idealize.ShloMosaic Idealize.SL.Sem

/-- The reference ends with its arguments kept and every semaphore at zero. -/
theorem frame_ref : Cert.quiescent_AdamwFf2RefIdeal := fun m ρ _ =>
  (θ_run Cert.AdamwFf2RefIdeal.defs _ _).mono (fun r h => ⟨fun c => (h c).2.2.2.2,
    Idealize.ShloMosaic.sem_eq_zero_of_no_sems (by decide) r.2⟩) (Cert.AdamwFf2RefIdeal.Value.run m ρ)

/-- On equal arguments the kernel and the reference end with equal results. -/
theorem algebraic : Cert.algebraic_AdamwFf2Ideal_AdamwFf2RefIdeal := by
  intro m g m' g' _ hagree
  refine ⟨_, _, _, _, (θ_run _ _ _).mono (fun r h c => ⟨(h c).1.trans (Cert.AdamwFf2Ideal.Hand.final4 m c), (h c).2.1.trans (Cert.AdamwFf2Ideal.Hand.final5 m c), (h c).2.2.1.trans (Cert.AdamwFf2Ideal.Hand.final6 m c), (h c).2.2.2.1.trans (Cert.AdamwFf2Ideal.Hand.final7 m c), (h c).2.2.2.2⟩)
      (Cert.AdamwFf2Ideal.Value.run_blocks m g),
    (θ_run _ _ _).mono (fun r h c => ⟨?_, ?_, ?_, ?_, (h c).2.2.2.2⟩) (Cert.AdamwFf2RefIdeal.Value.run m' g')⟩
  · refine (h c).1.trans ?_
    rw [(hagree c).2.2.2.1, (hagree c).2.2.2.2.1]
    exact Cert.AdamwFf2RefIdeal.Read.val_main_v34_eq _ _
  · refine (h c).2.1.trans ?_
    rw [(hagree c).1, (hagree c).2.1, (hagree c).2.2.1, (hagree c).2.2.2.1, (hagree c).2.2.2.2.2.1]
    exact Cert.AdamwFf2RefIdeal.Read.val_main_v39_eq _ _ _ _ _
  · refine (h c).2.2.1.trans ?_
    rw [(hagree c).2.1, (hagree c).2.2.2.1, (hagree c).2.2.2.2.2.2.1]
    exact Cert.AdamwFf2RefIdeal.Read.val_main_v44_eq _ _ _
  · refine (h c).2.2.2.1.trans ?_
    rw [(hagree c).2.2.1, (hagree c).2.2.2.1, (hagree c).2.2.2.2.2.2.2]
    exact Cert.AdamwFf2RefIdeal.Read.val_main_v49_eq _ _ _

end Cert.AdamwFf2Ideal.Hand

end
-- ==== Proof.AdamwIn0.Value.lean ====
module

public import proofs.«01_k».proof.Proof.Gen.AdamwIn0Ideal.Value
public import proofs.«01_k».proof.Proof.Gen.AdamwIn0RefIdeal.Read
public import Idealize.ShloMosaic.Lib.Pipeline.ValueKit
public import proofs.«01_k».proof.Proof.Shared.Adam

@[expose] public section

set_option maxRecDepth 16384

noncomputable section

namespace Cert.AdamwIn0Ideal.Hand

open Idealize.ShloMosaic Idealize.ShloMosaic.TcCoe Idealize.SL.Sem
open Idealize.ShloMosaic.Pipeline (Dat)
open Cert.AdamwIn0Ideal Cert.AdamwIn0Ideal.Gen

/-- The reference's gradient of the first layer. -/
theorem ref4 (W M U : FVec Ideal S2x2048x896 .f32) (G : FVec Ideal S2048x896 .f32) (E : FVec Ideal S2x2048x896 .f32) (r : Fin 2048) (l : Fin 896) :
    Cert.AdamwIn0RefIdeal.Read.val_main_v34 (F := Ideal) G E (ix3 0 r l) = G (ix2 r l) := by
  rw [← Cert.AdamwIn0RefIdeal.Read.val_main_v34_eq]
  pointwise [Cert.Hand.step, Cert.Hand.newM, Cert.Hand.newV]
  try rfl

/-- The reference keeps the gradient of the second layer. -/
theorem keep4 (W M U : FVec Ideal S2x2048x896 .f32) (G : FVec Ideal S2048x896 .f32) (E : FVec Ideal S2x2048x896 .f32) (r : Fin 2048) (l : Fin 896) :
    Cert.AdamwIn0RefIdeal.Read.val_main_v34 (F := Ideal) G E (ix3 1 r l) = E (ix3 1 r l) := by
  rw [← Cert.AdamwIn0RefIdeal.Read.val_main_v34_eq]
  pointwise
  try rfl

/-- The reference's step of the first layer. -/
theorem ref5 (W M U : FVec Ideal S2x2048x896 .f32) (G : FVec Ideal S2048x896 .f32) (E : FVec Ideal S2x2048x896 .f32) (r : Fin 2048) (l : Fin 896) :
    Cert.AdamwIn0RefIdeal.Read.val_main_v39 (F := Ideal) W M U G E (ix3 0 r l) = Cert.Hand.step (W (ix3 0 r l)) (G (ix2 r l)) (M (ix3 0 r l)) (U (ix3 0 r l)) := by
  rw [← Cert.AdamwIn0RefIdeal.Read.val_main_v39_eq]
  pointwise [Cert.Hand.step, Cert.Hand.newM, Cert.Hand.newV]
  try rfl

/-- The reference keeps the step of the second layer. -/
theorem keep5 (W M U : FVec Ideal S2x2048x896 .f32) (G : FVec Ideal S2048x896 .f32) (E : FVec Ideal S2x2048x896 .f32) (r : Fin 2048) (l : Fin 896) :
    Cert.AdamwIn0RefIdeal.Read.val_main_v39 (F := Ideal) W M U G E (ix3 1 r l) = E (ix3 1 r l) := by
  rw [← Cert.AdamwIn0RefIdeal.Read.val_main_v39_eq]
  pointwise
  try rfl

/-- The reference's first moment of the first layer. -/
theorem ref6 (W M U : FVec Ideal S2x2048x896 .f32) (G : FVec Ideal S2048x896 .f32) (E : FVec Ideal S2x2048x896 .f32) (r : Fin 2048) (l : Fin 896) :
    Cert.AdamwIn0RefIdeal.Read.val_main_v44 (F := Ideal) M G E (ix3 0 r l) = Cert.Hand.newM (G (ix2 r l)) (M (ix3 0 r l)) := by
  rw [← Cert.AdamwIn0RefIdeal.Read.val_main_v44_eq]
  pointwise [Cert.Hand.step, Cert.Hand.newM, Cert.Hand.newV]
  try rfl

/-- The reference keeps the first moment of the second layer. -/
theorem keep6 (W M U : FVec Ideal S2x2048x896 .f32) (G : FVec Ideal S2048x896 .f32) (E : FVec Ideal S2x2048x896 .f32) (r : Fin 2048) (l : Fin 896) :
    Cert.AdamwIn0RefIdeal.Read.val_main_v44 (F := Ideal) M G E (ix3 1 r l) = E (ix3 1 r l) := by
  rw [← Cert.AdamwIn0RefIdeal.Read.val_main_v44_eq]
  pointwise
  try rfl

/-- The reference's second moment of the first layer. -/
theorem ref7 (W M U : FVec Ideal S2x2048x896 .f32) (G : FVec Ideal S2048x896 .f32) (E : FVec Ideal S2x2048x896 .f32) (r : Fin 2048) (l : Fin 896) :
    Cert.AdamwIn0RefIdeal.Read.val_main_v49 (F := Ideal) U G E (ix3 0 r l) = Cert.Hand.newV (G (ix2 r l)) (U (ix3 0 r l)) := by
  rw [← Cert.AdamwIn0RefIdeal.Read.val_main_v49_eq]
  pointwise [Cert.Hand.step, Cert.Hand.newM, Cert.Hand.newV]
  try rfl

/-- The reference keeps the second moment of the second layer. -/
theorem keep7 (W M U : FVec Ideal S2x2048x896 .f32) (G : FVec Ideal S2048x896 .f32) (E : FVec Ideal S2x2048x896 .f32) (r : Fin 2048) (l : Fin 896) :
    Cert.AdamwIn0RefIdeal.Read.val_main_v49 (F := Ideal) U G E (ix3 1 r l) = E (ix3 1 r l) := by
  rw [← Cert.AdamwIn0RefIdeal.Read.val_main_v49_eq]
  pointwise
  try rfl

variable (m : (ℓ : Loc nD τ sig) → Buf (Elt Ideal) ℓ)

/-- Which block each window holds at each point of the grid. -/
theorem idx : ∀ t : Fin cfg0.N, win0_0.index t = ![0, t.val, 0] ∧ win0_1.index t = ![0, t.val, 0] ∧ win0_2.index t = ![0, t.val, 0]
    ∧ win0_3.index t = ![t.val, 0] ∧ win0_4.index t = ![0, t.val, 0] ∧ win0_5.index t = ![0, t.val, 0] ∧ win0_6.index t = ![0, t.val, 0]
    ∧ win0_7.index t = ![0, t.val, 0] :=
  (by decide +kernel : ∀ t : Fin grid0.N, _)

/-- The result's array starts as the array of the other layer's gradient. -/
theorem entry4 (c : Dev nD) : V m c main_v0_0 = m ((c : Thread nD τ).loc main_arg4) := by
  unfold V; after_results; try rfl

/-- The result's array starts as the array of the other layer's step. -/
theorem entry5 (c : Dev nD) : V m c main_v0_1 = m ((c : Thread nD τ).loc main_arg5) := by
  unfold V; after_results; try rfl

/-- The result's array starts as the array of the other layer's first moment. -/
theorem entry6 (c : Dev nD) : V m c main_v0_2 = m ((c : Thread nD τ).loc main_arg6) := by
  unfold V; after_results; try rfl

/-- The result's array starts as the array of the other layer's second moment. -/
theorem entry7 (c : Dev nD) : V m c main_v0_3 = m ((c : Thread nD τ).loc main_arg7) := by
  unfold V; after_results; try rfl

/-- The block of operand 0, at an index of the array. -/
theorem blk0 (c : Dev nD) (t : Fin cfg0.N) (z : Fin 1) (r : Fin 256) (l : Fin 896) (q : Fin 2048) (hq : (q : ℕ) = t.val * 256 + r) :
    (show FVec Ideal S1x256x896 .f32 from iblk m c 0 t) (ix3 z r l)
      = (show FVec Ideal S2x2048x896 .f32 from m ((c : Thread nD τ).loc main_arg0)) (ix3 0 q l) := by
  have e : ((cfg0.win 0).blk t).view.emb (ix3 z r l : S1x256x896.Idx) = (ix3 (0 : Fin 2) q l : S2x2048x896.Idx) := by
    blk_ext [idx t]
    all_goals omega
  rw [← e]; blk_point [iblk, V, idx t]

/-- The block of operand 1, at an index of the array. -/
theorem blk1 (c : Dev nD) (t : Fin cfg0.N) (z : Fin 1) (r : Fin 256) (l : Fin 896) (q : Fin 2048) (hq : (q : ℕ) = t.val * 256 + r) :
    (show FVec Ideal S1x256x896 .f32 from iblk m c 1 t) (ix3 z r l)
      = (show FVec Ideal S2x2048x896 .f32 from m ((c : Thread nD τ).loc main_arg1)) (ix3 0 q l) := by
  have e : ((cfg0.win 1).blk t).view.emb (ix3 z r l : S1x256x896.Idx) = (ix3 (0 : Fin 2) q l : S2x2048x896.Idx) := by
    blk_ext [idx t]
    all_goals omega
  rw [← e]; blk_point [iblk, V, idx t]

/-- The block of operand 2, at an index of the array. -/
theorem blk2 (c : Dev nD) (t : Fin cfg0.N) (z : Fin 1) (r : Fin 256) (l : Fin 896) (q : Fin 2048) (hq : (q : ℕ) = t.val * 256 + r) :
    (show FVec Ideal S1x256x896 .f32 from iblk m c 2 t) (ix3 z r l)
      = (show FVec Ideal S2x2048x896 .f32 from m ((c : Thread nD τ).loc main_arg2)) (ix3 0 q l) := by
  have e : ((cfg0.win 2).blk t).view.emb (ix3 z r l : S1x256x896.Idx) = (ix3 (0 : Fin 2) q l : S2x2048x896.Idx) := by
    blk_ext [idx t]
    all_goals omega
  rw [← e]; blk_point [iblk, V, idx t]

/-- The block of the gradient, at an index of the array. -/
theorem blk3 (c : Dev nD) (t : Fin cfg0.N) (r : Fin 256) (l : Fin 896) (q : Fin 2048) (hq : (q : ℕ) = t.val * 256 + r) :
    (show FVec Ideal S256x896 .f32 from iblk m c 3 t) (ix2 r l)
      = (show FVec Ideal S2048x896 .f32 from m ((c : Thread nD τ).loc main_arg3)) (ix2 q l) := by
  have e : ((cfg0.win 3).blk t).view.emb (ix2 r l : S256x896.Idx) = (ix2 q l : S2048x896.Idx) := by
    blk_ext [idx t]
    all_goals omega
  rw [← e]; blk_point [iblk, V, idx t]

/-- What a point of the grid stores of the gradient. -/
theorem pay4 (c : Dev nD) (t : Fin cfg0.N) (z : Fin 1) (r : Fin 256) (l : Fin 896) (q : Fin 2048) (hq : (q : ℕ) = t.val * 256 + r) :
    (k0_pay7 (F := Ideal) (iblk m c 3 t)) (ix3 z r l) = Cert.AdamwIn0RefIdeal.Read.val_main_v34 (F := Ideal) (m ((c : Thread nD τ).loc main_arg3)) (m ((c : Thread nD τ).loc main_arg4)) (ix3 0 q l) := by
  obtain rfl : z = 0 := Subsingleton.elim _ _
  have h : (k0_pay7 (F := Ideal) (iblk m c 3 t)) (ix3 0 r l) = (show FVec Ideal S256x896 .f32 from iblk m c 3 t) (ix2 r l) := by
    pointwise [k0_pay7, Cert.Hand.step, Cert.Hand.newM, Cert.Hand.newV]
    try rfl
  rw [h, blk3 m c t r l q hq]
  exact (ref4 (m ((c : Thread nD τ).loc main_arg0)) (m ((c : Thread nD τ).loc main_arg1)) (m ((c : Thread nD τ).loc main_arg2)) (m ((c : Thread nD τ).loc main_arg3)) (m ((c : Thread nD τ).loc main_arg4)) q l).symm

/-- The array of the gradient that the kernel leaves is the reference's. -/
theorem final4 (c : Dev nD) : (dats m 0 c).arrAt 4 cfg0.N
    = Cert.AdamwIn0RefIdeal.Read.val_main_v34 (F := Ideal) (m ((c : Thread nD τ).loc main_arg3)) (m ((c : Thread nD τ).loc main_arg4)) := by
  refine ((dats m 0 c).arrAt_eq_of_coversWhere 4 (Cert.AdamwIn0RefIdeal.Read.val_main_v34 (F := Ideal) (m ((c : Thread nD τ).loc main_arg3)) (m ((c : Thread nD τ).loc main_arg4)))
    (P := fun i : S2x2048x896.Idx => (i 0 : ℕ) = 0) (fun β => β (0 : Fin _) = 0) (by decide +kernel) (fun t hf y => ?_)
    (fun j => by blk_simp [Pipeline.Window.cell_apply]; try omega)).trans ?_
  · blk_simp
    rw [after0_4]; unfold outsAt0; frame_out
    idx_vars y
    have hb : t.val * 256 + y1.val < 2048 := by have := t.isLt; have := y1.isLt; change t.val < 8 at *; omega
    refine (pay4 m c t y0 y1 y2 ⟨t.val * 256 + y1.val, hb⟩ rfl).trans (congrArg _ ?_)
    blk_ext [idx t]
    all_goals omega
  · funext i
    show (if (i 0 : ℕ) = 0 then _ else _) = _
    split
    · rfl
    · next h =>
      idx_vars i
      obtain rfl : i0 = 1 := by omega
      show V m c main_v0_0 _ = _
      rw [entry4]
      exact (keep4 (m ((c : Thread nD τ).loc main_arg0)) (m ((c : Thread nD τ).loc main_arg1)) (m ((c : Thread nD τ).loc main_arg2)) (m ((c : Thread nD τ).loc main_arg3)) (m ((c : Thread nD τ).loc main_arg4)) i1 i2).symm

/-- What a point of the grid stores of the step. -/
theorem pay5 (c : Dev nD) (t : Fin cfg0.N) (z : Fin 1) (r : Fin 256) (l : Fin 896) (q : Fin 2048) (hq : (q : ℕ) = t.val * 256 + r) :
    (k0_pay1 (F := Ideal) (k0_pay6 (F := Ideal) (iblk m c 0 t) (iblk m c 1 t) (iblk m c 2 t) (iblk m c 3 t))) (ix3 z r l) = Cert.AdamwIn0RefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix3 0 q l) := by
  obtain rfl : z = 0 := Subsingleton.elim _ _
  have h : (k0_pay1 (F := Ideal) (k0_pay6 (F := Ideal) (iblk m c 0 t) (iblk m c 1 t) (iblk m c 2 t) (iblk m c 3 t))) (ix3 0 r l) = Cert.Hand.step ((show FVec Ideal S1x256x896 .f32 from iblk m c 0 t) (ix3 0 r l)) ((show FVec Ideal S256x896 .f32 from iblk m c 3 t) (ix2 r l)) ((show FVec Ideal S1x256x896 .f32 from iblk m c 1 t) (ix3 0 r l)) ((show FVec Ideal S1x256x896 .f32 from iblk m c 2 t) (ix3 0 r l)) := by
    pointwise [k0_pay1, k0_pay6, k0_pay5, k0_pay4, Cert.Hand.step, Cert.Hand.newM, Cert.Hand.newV]
    try rfl
  rw [h, blk0 m c t 0 r l q hq, blk1 m c t 0 r l q hq, blk2 m c t 0 r l q hq, blk3 m c t r l q hq]
  exact (ref5 (m ((c : Thread nD τ).loc main_arg0)) (m ((c : Thread nD τ).loc main_arg1)) (m ((c : Thread nD τ).loc main_arg2)) (m ((c : Thread nD τ).loc main_arg3)) (m ((c : Thread nD τ).loc main_arg5)) q l).symm

/-- The array of the step that the kernel leaves is the reference's. -/
theorem final5 (c : Dev nD) : (dats m 0 c).arrAt 5 cfg0.N
    = Cert.AdamwIn0RefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine ((dats m 0 c).arrAt_eq_of_coversWhere 5 (Cert.AdamwIn0RefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg5)))
    (P := fun i : S2x2048x896.Idx => (i 0 : ℕ) = 0) (fun β => β (0 : Fin _) = 0) (by decide +kernel) (fun t hf y => ?_)
    (fun j => by blk_simp [Pipeline.Window.cell_apply]; try omega)).trans ?_
  · blk_simp
    rw [after0_5]; unfold outsAt0; frame_out
    idx_vars y
    have hb : t.val * 256 + y1.val < 2048 := by have := t.isLt; have := y1.isLt; change t.val < 8 at *; omega
    refine (pay5 m c t y0 y1 y2 ⟨t.val * 256 + y1.val, hb⟩ rfl).trans (congrArg _ ?_)
    blk_ext [idx t]
    all_goals omega
  · funext i
    show (if (i 0 : ℕ) = 0 then _ else _) = _
    split
    · rfl
    · next h =>
      idx_vars i
      obtain rfl : i0 = 1 := by omega
      show V m c main_v0_1 _ = _
      rw [entry5]
      exact (keep5 (m ((c : Thread nD τ).loc main_arg0)) (m ((c : Thread nD τ).loc main_arg1)) (m ((c : Thread nD τ).loc main_arg2)) (m ((c : Thread nD τ).loc main_arg3)) (m ((c : Thread nD τ).loc main_arg5)) i1 i2).symm

/-- What a point of the grid stores of the first moment. -/
theorem pay6 (c : Dev nD) (t : Fin cfg0.N) (z : Fin 1) (r : Fin 256) (l : Fin 896) (q : Fin 2048) (hq : (q : ℕ) = t.val * 256 + r) :
    (k0_pay2 (F := Ideal) (k0_pay4 (F := Ideal) (iblk m c 1 t) (iblk m c 3 t))) (ix3 z r l) = Cert.AdamwIn0RefIdeal.Read.val_main_v44 (F := Ideal) (m ((c : Thread nD τ).loc main_arg1)) (m ((c : Thread nD τ).loc main_arg3)) (m ((c : Thread nD τ).loc main_arg6)) (ix3 0 q l) := by
  obtain rfl : z = 0 := Subsingleton.elim _ _
  have h : (k0_pay2 (F := Ideal) (k0_pay4 (F := Ideal) (iblk m c 1 t) (iblk m c 3 t))) (ix3 0 r l) = Cert.Hand.newM ((show FVec Ideal S256x896 .f32 from iblk m c 3 t) (ix2 r l)) ((show FVec Ideal S1x256x896 .f32 from iblk m c 1 t) (ix3 0 r l)) := by
    pointwise [k0_pay2, k0_pay4, Cert.Hand.step, Cert.Hand.newM, Cert.Hand.newV]
    try rfl
  rw [h, blk1 m c t 0 r l q hq, blk3 m c t r l q hq]
  exact (ref6 (m ((c : Thread nD τ).loc main_arg0)) (m ((c : Thread nD τ).loc main_arg1)) (m ((c : Thread nD τ).loc main_arg2)) (m ((c : Thread nD τ).loc main_arg3)) (m ((c : Thread nD τ).loc main_arg6)) q l).symm

/-- The array of the first moment that the kernel leaves is the reference's. -/
theorem final6 (c : Dev nD) : (dats m 0 c).arrAt 6 cfg0.N
    = Cert.AdamwIn0RefIdeal.Read.val_main_v44 (F := Ideal) (m ((c : Thread nD τ).loc main_arg1)) (m ((c : Thread nD τ).loc main_arg3)) (m ((c : Thread nD τ).loc main_arg6)) := by
  refine ((dats m 0 c).arrAt_eq_of_coversWhere 6 (Cert.AdamwIn0RefIdeal.Read.val_main_v44 (F := Ideal) (m ((c : Thread nD τ).loc main_arg1)) (m ((c : Thread nD τ).loc main_arg3)) (m ((c : Thread nD τ).loc main_arg6)))
    (P := fun i : S2x2048x896.Idx => (i 0 : ℕ) = 0) (fun β => β (0 : Fin _) = 0) (by decide +kernel) (fun t hf y => ?_)
    (fun j => by blk_simp [Pipeline.Window.cell_apply]; try omega)).trans ?_
  · blk_simp
    rw [after0_6]; unfold outsAt0; frame_out
    idx_vars y
    have hb : t.val * 256 + y1.val < 2048 := by have := t.isLt; have := y1.isLt; change t.val < 8 at *; omega
    refine (pay6 m c t y0 y1 y2 ⟨t.val * 256 + y1.val, hb⟩ rfl).trans (congrArg _ ?_)
    blk_ext [idx t]
    all_goals omega
  · funext i
    show (if (i 0 : ℕ) = 0 then _ else _) = _
    split
    · rfl
    · next h =>
      idx_vars i
      obtain rfl : i0 = 1 := by omega
      show V m c main_v0_2 _ = _
      rw [entry6]
      exact (keep6 (m ((c : Thread nD τ).loc main_arg0)) (m ((c : Thread nD τ).loc main_arg1)) (m ((c : Thread nD τ).loc main_arg2)) (m ((c : Thread nD τ).loc main_arg3)) (m ((c : Thread nD τ).loc main_arg6)) i1 i2).symm

/-- What a point of the grid stores of the second moment. -/
theorem pay7 (c : Dev nD) (t : Fin cfg0.N) (z : Fin 1) (r : Fin 256) (l : Fin 896) (q : Fin 2048) (hq : (q : ℕ) = t.val * 256 + r) :
    (k0_pay3 (F := Ideal) (k0_pay5 (F := Ideal) (iblk m c 2 t) (iblk m c 3 t))) (ix3 z r l) = Cert.AdamwIn0RefIdeal.Read.val_main_v49 (F := Ideal) (m ((c : Thread nD τ).loc main_arg2)) (m ((c : Thread nD τ).loc main_arg3)) (m ((c : Thread nD τ).loc main_arg7)) (ix3 0 q l) := by
  obtain rfl : z = 0 := Subsingleton.elim _ _
  have h : (k0_pay3 (F := Ideal) (k0_pay5 (F := Ideal) (iblk m c 2 t) (iblk m c 3 t))) (ix3 0 r l) = Cert.Hand.newV ((show FVec Ideal S256x896 .f32 from iblk m c 3 t) (ix2 r l)) ((show FVec Ideal S1x256x896 .f32 from iblk m c 2 t) (ix3 0 r l)) := by
    pointwise [k0_pay3, k0_pay5, Cert.Hand.step, Cert.Hand.newM, Cert.Hand.newV]
    try rfl
  rw [h, blk2 m c t 0 r l q hq, blk3 m c t r l q hq]
  exact (ref7 (m ((c : Thread nD τ).loc main_arg0)) (m ((c : Thread nD τ).loc main_arg1)) (m ((c : Thread nD τ).loc main_arg2)) (m ((c : Thread nD τ).loc main_arg3)) (m ((c : Thread nD τ).loc main_arg7)) q l).symm

/-- The array of the second moment that the kernel leaves is the reference's. -/
theorem final7 (c : Dev nD) : (dats m 0 c).arrAt 7 cfg0.N
    = Cert.AdamwIn0RefIdeal.Read.val_main_v49 (F := Ideal) (m ((c : Thread nD τ).loc main_arg2)) (m ((c : Thread nD τ).loc main_arg3)) (m ((c : Thread nD τ).loc main_arg7)) := by
  refine ((dats m 0 c).arrAt_eq_of_coversWhere 7 (Cert.AdamwIn0RefIdeal.Read.val_main_v49 (F := Ideal) (m ((c : Thread nD τ).loc main_arg2)) (m ((c : Thread nD τ).loc main_arg3)) (m ((c : Thread nD τ).loc main_arg7)))
    (P := fun i : S2x2048x896.Idx => (i 0 : ℕ) = 0) (fun β => β (0 : Fin _) = 0) (by decide +kernel) (fun t hf y => ?_)
    (fun j => by blk_simp [Pipeline.Window.cell_apply]; try omega)).trans ?_
  · blk_simp
    rw [after0_7]; unfold outsAt0; frame_out
    idx_vars y
    have hb : t.val * 256 + y1.val < 2048 := by have := t.isLt; have := y1.isLt; change t.val < 8 at *; omega
    refine (pay7 m c t y0 y1 y2 ⟨t.val * 256 + y1.val, hb⟩ rfl).trans (congrArg _ ?_)
    blk_ext [idx t]
    all_goals omega
  · funext i
    show (if (i 0 : ℕ) = 0 then _ else _) = _
    split
    · rfl
    · next h =>
      idx_vars i
      obtain rfl : i0 = 1 := by omega
      show V m c main_v0_3 _ = _
      rw [entry7]
      exact (keep7 (m ((c : Thread nD τ).loc main_arg0)) (m ((c : Thread nD τ).loc main_arg1)) (m ((c : Thread nD τ).loc main_arg2)) (m ((c : Thread nD τ).loc main_arg3)) (m ((c : Thread nD τ).loc main_arg7)) i1 i2).symm

end Cert.AdamwIn0Ideal.Hand

end
-- ==== Proof.AdamwIn0.Claim.lean ====
module

public import proofs.«01_k».proof.Defs
public import proofs.«01_k».proof.Proof.Gen.AdamwIn0RefIdeal.Run
public import proofs.«01_k».proof.Proof.AdamwIn0.Value

@[expose] public section

noncomputable section

namespace Cert.AdamwIn0Ideal.Hand

open Idealize.ShloMosaic Idealize.SL.Sem

/-- The reference ends with its arguments kept and every semaphore at zero. -/
theorem frame_ref : Cert.quiescent_AdamwIn0RefIdeal := fun m ρ _ =>
  (θ_run Cert.AdamwIn0RefIdeal.defs _ _).mono (fun r h => ⟨fun c => (h c).2.2.2.2,
    Idealize.ShloMosaic.sem_eq_zero_of_no_sems (by decide) r.2⟩) (Cert.AdamwIn0RefIdeal.Value.run m ρ)

/-- On equal arguments the kernel and the reference end with equal results. -/
theorem algebraic : Cert.algebraic_AdamwIn0Ideal_AdamwIn0RefIdeal := by
  intro m g m' g' _ hagree
  refine ⟨_, _, _, _, (θ_run _ _ _).mono (fun r h c => ⟨(h c).1.trans (Cert.AdamwIn0Ideal.Hand.final4 m c), (h c).2.1.trans (Cert.AdamwIn0Ideal.Hand.final5 m c), (h c).2.2.1.trans (Cert.AdamwIn0Ideal.Hand.final6 m c), (h c).2.2.2.1.trans (Cert.AdamwIn0Ideal.Hand.final7 m c), (h c).2.2.2.2⟩)
      (Cert.AdamwIn0Ideal.Value.run_blocks m g),
    (θ_run _ _ _).mono (fun r h c => ⟨?_, ?_, ?_, ?_, (h c).2.2.2.2⟩) (Cert.AdamwIn0RefIdeal.Value.run m' g')⟩
  · refine (h c).1.trans ?_
    rw [(hagree c).2.2.2.1, (hagree c).2.2.2.2.1]
    exact Cert.AdamwIn0RefIdeal.Read.val_main_v34_eq _ _
  · refine (h c).2.1.trans ?_
    rw [(hagree c).1, (hagree c).2.1, (hagree c).2.2.1, (hagree c).2.2.2.1, (hagree c).2.2.2.2.2.1]
    exact Cert.AdamwIn0RefIdeal.Read.val_main_v39_eq _ _ _ _ _
  · refine (h c).2.2.1.trans ?_
    rw [(hagree c).2.1, (hagree c).2.2.2.1, (hagree c).2.2.2.2.2.2.1]
    exact Cert.AdamwIn0RefIdeal.Read.val_main_v44_eq _ _ _
  · refine (h c).2.2.2.1.trans ?_
    rw [(hagree c).2.2.1, (hagree c).2.2.2.1, (hagree c).2.2.2.2.2.2.2]
    exact Cert.AdamwIn0RefIdeal.Read.val_main_v49_eq _ _ _

end Cert.AdamwIn0Ideal.Hand

end
-- ==== Proof.AdamwConv.Value.lean ====
module

public import proofs.«01_k».proof.Proof.Gen.AdamwConvIdeal.Value
public import proofs.«01_k».proof.Proof.Gen.AdamwConvRefIdeal.Read
public import Idealize.ShloMosaic.Lib.Pipeline.ValueKit
public import proofs.«01_k».proof.Proof.Shared.Adam

@[expose] public section

set_option maxRecDepth 16384

noncomputable section

namespace Cert.AdamwConvIdeal.Hand

open Idealize.ShloMosaic Idealize.ShloMosaic.TcCoe Idealize.SL.Sem
open Idealize.ShloMosaic.Pipeline (Dat)
open Cert.AdamwConvIdeal Cert.AdamwConvIdeal.Gen

/-- An array of two layers read as one table of rows. -/
def rows (X : FVec Ideal S2x31x192 .f32) : FVec Ideal S62x192 .f32 := shapeCast S62x192 X shapeCasts_S2x31x192_S62x192

/-- The reference's step. -/
theorem ref4 (W G M U : FVec Ideal S2x31x192 .f32) (r : Fin 62) (l : Fin 192) :
    Cert.AdamwConvRefIdeal.Read.val_main_v24 (F := Ideal) W G M U (ix2 r l) = Cert.Hand.step (rows W (ix2 r l)) (rows G (ix2 r l)) (rows M (ix2 r l)) (rows U (ix2 r l)) := by
  rw [← Cert.AdamwConvRefIdeal.Read.val_main_v24_eq]
  pointwise [rows, Cert.Hand.step, Cert.Hand.newM, Cert.Hand.newV]
  try rfl

/-- The reference's first moment. -/
theorem ref5 (W G M U : FVec Ideal S2x31x192 .f32) (r : Fin 62) (l : Fin 192) :
    Cert.AdamwConvRefIdeal.Read.val_main_v25 (F := Ideal) G M (ix2 r l) = Cert.Hand.newM (rows G (ix2 r l)) (rows M (ix2 r l)) := by
  rw [← Cert.AdamwConvRefIdeal.Read.val_main_v25_eq]
  pointwise [rows, Cert.Hand.step, Cert.Hand.newM, Cert.Hand.newV]
  try rfl

/-- The reference's second moment. -/
theorem ref6 (W G M U : FVec Ideal S2x31x192 .f32) (r : Fin 62) (l : Fin 192) :
    Cert.AdamwConvRefIdeal.Read.val_main_v26 (F := Ideal) G U (ix2 r l) = Cert.Hand.newV (rows G (ix2 r l)) (rows U (ix2 r l)) := by
  rw [← Cert.AdamwConvRefIdeal.Read.val_main_v26_eq]
  pointwise [rows, Cert.Hand.step, Cert.Hand.newM, Cert.Hand.newV]
  try rfl

variable (m : (ℓ : Loc nD τ sig) → Buf (Elt Ideal) ℓ)

/-- Every window holds its whole array. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- The table the host code makes of argument 0. -/
theorem entry0 (c : Dev nD) : V m c main_v0 = rows (m ((c : Thread nD τ).loc main_arg0)) := by
  unfold V; after_results; try rfl

/-- The block of operand 0. -/
theorem blk0 (c : Dev nD) (t : Fin cfg0.N) (r : Fin 62) (l : Fin 192) :
    (show FVec Ideal S62x192 .f32 from iblk m c 0 t) (ix2 r l) = rows (m ((c : Thread nD τ).loc main_arg0)) (ix2 r l) := by
  have e : ((cfg0.win 0).blk t).view.emb (ix2 r l : S62x192.Idx) = (ix2 r l : S62x192.Idx) := by blk_ext [idx t]
  show V m c main_v0 _ = _
  rw [e, entry0]

/-- The table the host code makes of argument 1. -/
theorem entry1 (c : Dev nD) : V m c main_v1 = rows (m ((c : Thread nD τ).loc main_arg1)) := by
  unfold V; after_results; try rfl

/-- The block of operand 1. -/
theorem blk1 (c : Dev nD) (t : Fin cfg0.N) (r : Fin 62) (l : Fin 192) :
    (show FVec Ideal S62x192 .f32 from iblk m c 1 t) (ix2 r l) = rows (m ((c : Thread nD τ).loc main_arg1)) (ix2 r l) := by
  have e : ((cfg0.win 1).blk t).view.emb (ix2 r l : S62x192.Idx) = (ix2 r l : S62x192.Idx) := by blk_ext [idx t]
  show V m c main_v1 _ = _
  rw [e, entry1]

/-- The table the host code makes of argument 2. -/
theorem entry2 (c : Dev nD) : V m c main_v2 = rows (m ((c : Thread nD τ).loc main_arg2)) := by
  unfold V; after_results; try rfl

/-- The block of operand 2. -/
theorem blk2 (c : Dev nD) (t : Fin cfg0.N) (r : Fin 62) (l : Fin 192) :
    (show FVec Ideal S62x192 .f32 from iblk m c 2 t) (ix2 r l) = rows (m ((c : Thread nD τ).loc main_arg2)) (ix2 r l) := by
  have e : ((cfg0.win 2).blk t).view.emb (ix2 r l : S62x192.Idx) = (ix2 r l : S62x192.Idx) := by blk_ext [idx t]
  show V m c main_v2 _ = _
  rw [e, entry2]

/-- The table the host code makes of argument 3. -/
theorem entry3 (c : Dev nD) : V m c main_v3 = rows (m ((c : Thread nD τ).loc main_arg3)) := by
  unfold V; after_results; try rfl

/-- The block of operand 3. -/
theorem blk3 (c : Dev nD) (t : Fin cfg0.N) (r : Fin 62) (l : Fin 192) :
    (show FVec Ideal S62x192 .f32 from iblk m c 3 t) (ix2 r l) = rows (m ((c : Thread nD τ).loc main_arg3)) (ix2 r l) := by
  have e : ((cfg0.win 3).blk t).view.emb (ix2 r l : S62x192.Idx) = (ix2 r l : S62x192.Idx) := by blk_ext [idx t]
  show V m c main_v3 _ = _
  rw [e, entry3]

/-- The array of the step that the kernel leaves is the reference's. -/
theorem final4 (c : Dev nD) : (dats m 0 c).arrAt 4 cfg0.N
    = Cert.AdamwConvRefIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]; frame_out
  idx_vars y
  have e : ((cfg0.win 4).blk t).view.emb (ix2 y0 y1 : S62x192.Idx) = (ix2 y0 y1 : S62x192.Idx) := by blk_ext [idx t]
  refine Eq.trans ?_ (congrArg _ e).symm
  have h (r : Fin 62) (l : Fin 192) : (k0_pay4 (F := Ideal) (iblk m c 0 t) (iblk m c 1 t) (iblk m c 2 t) (iblk m c 3 t)) (ix2 r l) = Cert.Hand.step ((show FVec Ideal S62x192 .f32 from iblk m c 0 t) (ix2 r l)) ((show FVec Ideal S62x192 .f32 from iblk m c 1 t) (ix2 r l)) ((show FVec Ideal S62x192 .f32 from iblk m c 2 t) (ix2 r l)) ((show FVec Ideal S62x192 .f32 from iblk m c 3 t) (ix2 r l)) := by
    pointwise [k0_pay4, k0_pay2, k0_pay3, k0_pay1, Cert.Hand.step, Cert.Hand.newM, Cert.Hand.newV]
    try rfl
  rw [h, blk0, blk1, blk2, blk3]
  exact (ref4 (m ((c : Thread nD τ).loc main_arg0)) (m ((c : Thread nD τ).loc main_arg1)) (m ((c : Thread nD τ).loc main_arg2)) (m ((c : Thread nD τ).loc main_arg3)) y0 y1).symm

/-- The array of the first moment that the kernel leaves is the reference's. -/
theorem final5 (c : Dev nD) : (dats m 0 c).arrAt 5 cfg0.N
    = Cert.AdamwConvRefIdeal.Read.val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]; frame_out
  idx_vars y
  have e : ((cfg0.win 5).blk t).view.emb (ix2 y0 y1 : S62x192.Idx) = (ix2 y0 y1 : S62x192.Idx) := by blk_ext [idx t]
  refine Eq.trans ?_ (congrArg _ e).symm
  have h (r : Fin 62) (l : Fin 192) : (k0_pay2 (F := Ideal) (iblk m c 1 t) (iblk m c 2 t)) (ix2 r l) = Cert.Hand.newM ((show FVec Ideal S62x192 .f32 from iblk m c 1 t) (ix2 r l)) ((show FVec Ideal S62x192 .f32 from iblk m c 2 t) (ix2 r l)) := by
    pointwise [k0_pay2, k0_pay1, Cert.Hand.step, Cert.Hand.newM, Cert.Hand.newV]
    try rfl
  rw [h, blk1, blk2]
  exact (ref5 (m ((c : Thread nD τ).loc main_arg0)) (m ((c : Thread nD τ).loc main_arg1)) (m ((c : Thread nD τ).loc main_arg2)) (m ((c : Thread nD τ).loc main_arg3)) y0 y1).symm

/-- The array of the second moment that the kernel leaves is the reference's. -/
theorem final6 (c : Dev nD) : (dats m 0 c).arrAt 6 cfg0.N
    = Cert.AdamwConvRefIdeal.Read.val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]; frame_out
  idx_vars y
  have e : ((cfg0.win 6).blk t).view.emb (ix2 y0 y1 : S62x192.Idx) = (ix2 y0 y1 : S62x192.Idx) := by blk_ext [idx t]
  refine Eq.trans ?_ (congrArg _ e).symm
  have h (r : Fin 62) (l : Fin 192) : (k0_pay3 (F := Ideal) (iblk m c 1 t) (iblk m c 3 t)) (ix2 r l) = Cert.Hand.newV ((show FVec Ideal S62x192 .f32 from iblk m c 1 t) (ix2 r l)) ((show FVec Ideal S62x192 .f32 from iblk m c 3 t) (ix2 r l)) := by
    pointwise [k0_pay3, k0_pay1, Cert.Hand.step, Cert.Hand.newM, Cert.Hand.newV]
    try rfl
  rw [h, blk1, blk3]
  exact (ref6 (m ((c : Thread nD τ).loc main_arg0)) (m ((c : Thread nD τ).loc main_arg1)) (m ((c : Thread nD τ).loc main_arg2)) (m ((c : Thread nD τ).loc main_arg3)) y0 y1).symm

end Cert.AdamwConvIdeal.Hand

end
-- ==== Proof.AdamwConv.Claim.lean ====
module

public import proofs.«01_k».proof.Defs
public import proofs.«01_k».proof.Proof.Gen.AdamwConvRefIdeal.Run
public import proofs.«01_k».proof.Proof.AdamwConv.Value

@[expose] public section

noncomputable section

namespace Cert.AdamwConvIdeal.Hand

open Idealize.ShloMosaic Idealize.SL.Sem

/-- The reference ends with its arguments kept and every semaphore at zero. -/
theorem frame_ref : Cert.quiescent_AdamwConvRefIdeal := fun m ρ _ =>
  (θ_run Cert.AdamwConvRefIdeal.defs _ _).mono (fun r h => ⟨fun c => (h c).2.2.2,
    Idealize.ShloMosaic.sem_eq_zero_of_no_sems (by decide) r.2⟩) (Cert.AdamwConvRefIdeal.Value.run m ρ)

/-- On equal arguments the kernel and the reference end with equal results. -/
theorem algebraic : Cert.algebraic_AdamwConvIdeal_AdamwConvRefIdeal := by
  intro m g m' g' _ hagree
  refine ⟨_, _, _, (θ_run _ _ _).mono (fun r h c => ⟨(h c).1.trans (Cert.AdamwConvIdeal.Hand.final4 m c), (h c).2.1.trans (Cert.AdamwConvIdeal.Hand.final5 m c), (h c).2.2.1.trans (Cert.AdamwConvIdeal.Hand.final6 m c), (h c).2.2.2⟩)
      (Cert.AdamwConvIdeal.Value.run_blocks m g),
    (θ_run _ _ _).mono (fun r h c => ⟨?_, ?_, ?_, (h c).2.2.2⟩) (Cert.AdamwConvRefIdeal.Value.run m' g')⟩
  · refine (h c).1.trans ?_
    rw [(hagree c).1, (hagree c).2.1, (hagree c).2.2.1, (hagree c).2.2.2]
    exact Cert.AdamwConvRefIdeal.Read.val_main_v24_eq _ _ _ _
  · refine (h c).2.1.trans ?_
    rw [(hagree c).2.1, (hagree c).2.2.1]
    exact Cert.AdamwConvRefIdeal.Read.val_main_v25_eq _ _
  · refine (h c).2.2.1.trans ?_
    rw [(hagree c).2.1, (hagree c).2.2.2]
    exact Cert.AdamwConvRefIdeal.Read.val_main_v26_eq _ _

end Cert.AdamwConvIdeal.Hand

end
-- ==== Proof.Shared.Mix.lean ====
module

public import Idealize.ShloMosaic.Lib.Pipeline.ValueKit

@[expose] public section

noncomputable section

namespace Cert.Hand

open Idealize.ShloMosaic

/-- An array of rows read at plain numbers, zero outside. -/
def at2 {R C : ℕ} (A : (⟨2, ![R, C]⟩ : Shape).Idx → EReal) (r l : ℕ) : EReal :=
  if h : r < R ∧ l < C then A (ix2 ⟨r, h.1⟩ ⟨l, h.2⟩) else 0

/-- At an index of the array the reading is the entry. -/
theorem at2_eq {R C : ℕ} (A : (⟨2, ![R, C]⟩ : Shape).Idx → EReal) (r : Fin R) (l : Fin C) : A (ix2 r l) = at2 A r.val l.val := by
  unfold at2; rw [dif_pos ⟨r.isLt, l.isLt⟩]

/-- A stack of matrices read at plain numbers, zero outside. -/
def at3 {B R C : ℕ} (A : (⟨3, ![B, R, C]⟩ : Shape).Idx → EReal) (b r l : ℕ) : EReal :=
  if h : b < B ∧ r < R ∧ l < C then A (ix3 ⟨b, h.1⟩ ⟨r, h.2.1⟩ ⟨l, h.2.2⟩) else 0

/-- At an index of the stack the reading is the entry. -/
theorem at3_eq {B R C : ℕ} (A : (⟨3, ![B, R, C]⟩ : Shape).Idx → EReal) (b : Fin B) (r : Fin R) (l : Fin C) :
    A (ix3 b r l) = at3 A b.val r.val l.val := by
  unfold at3; rw [dif_pos ⟨b.isLt, r.isLt, l.isLt⟩]

/-- A row read at plain numbers, zero outside. -/
def at1 {C : ℕ} (A : (⟨1, ![C]⟩ : Shape).Idx → EReal) (l : ℕ) : EReal :=
  if h : l < C then A (ix1 ⟨l, h⟩) else 0

/-- At an index of the row the reading is the entry. -/
theorem at1_eq {C : ℕ} (A : (⟨1, ![C]⟩ : Shape).Idx → EReal) (l : Fin C) : A (ix1 l) = at1 A l.val := by
  unfold at1; rw [dif_pos l.isLt]

/-- The logistic function. -/
def sg (x : EReal) : EReal := Ideal.div 1 (1 + Ideal.exp (0 - x))

/-- The gelu, by the hyperbolic tangent. -/
def gelu (x : EReal) : EReal :=
  Ideal.ofBits .f32 0x3F000000#32 * x
    * (1 + Ideal.tanh (Ideal.ofBits .f32 0x3F4C422A#32 * (x + Ideal.ofBits .f32 0x3D372713#32 * x * x * x)))

/-- The mean of a row of 768 entries. -/
def mean7 (f : ℕ → EReal) : EReal := Ideal.div (∑ k : Fin 768, f k.val) (Ideal.ofBits .f32 0x44400000#32)

/-- The layer norm of a row of 768 entries. -/
def ln7 (g b f : ℕ → EReal) (l : ℕ) : EReal :=
  (f l - mean7 f) * Ideal.rsqrt (mean7 (fun k => (f k - mean7 f) * (f k - mean7 f)) + Ideal.ofBits .f32 0x3727C5AC#32) * g l + b l

/-- Layer norms of rows that agree on their 768 entries are equal. -/
theorem ln7_congr {g g' b b' f f' : ℕ → EReal} {l : ℕ} (hl : l < 768) (hg : g l = g' l) (hb : b l = b' l)
    (hf : ∀ k : ℕ, k < 768 → f k = f' k) : ln7 g b f l = ln7 g' b' f' l := by
  have hm : mean7 f = mean7 f' := by
    unfold mean7; exact congrArg (fun z => Ideal.div z _) (Finset.sum_congr rfl fun k _ => hf k.val k.isLt)
  have hv : mean7 (fun k => (f k - mean7 f) * (f k - mean7 f)) = mean7 (fun k => (f' k - mean7 f') * (f' k - mean7 f')) := by
    unfold mean7; refine congrArg (fun z => Ideal.div z _) (Finset.sum_congr rfl fun k _ => ?_)
    have hk := hf k.val k.isLt
    have hm' := hm
    unfold mean7 at hm'
    show (f k.val - _) * (f k.val - _) = (f' k.val - _) * (f' k.val - _)
    rw [hk, hm']
  unfold ln7
  rw [hf l hl, hm, hg, hb]
  rw [hm] at hv; rw [hv]

/-- The running sum of the first terms of a sequence, from the left. -/
def wsum (f : ℕ → EReal) : ℕ → EReal
  | 0 => f 0
  | n + 1 => wsum f n + f (n + 1)

/-- The pool mixer at a row and a column of group `g`, from the rows shifted down by 16. -/
def poolF (n g : ℕ) (pin : ℕ → ℕ → EReal) (cnt : EReal) (wp : ℕ → ℕ → ℕ → EReal) (ps : ℕ → EReal) (q l : ℕ) : EReal :=
  (∑ k : Fin 128, (Ideal.div (wsum (fun j => pin (16 + q - j) (128 * g + k.val)) n) cnt - pin (16 + q) (128 * g + k.val)) * wp g k.val l)
    * ps (128 * g + l)

/-- The gated mixer at row `B + r` and column `l` of head `h`, from the rows of its input; `B` is the first row of the chunk. -/
def sguF (raw : ℕ → ℕ → EReal) (lg lb : ℕ → EReal) (ws : ℕ → ℕ → ℕ → EReal) (sb : ℕ → ℕ → EReal) (B r h l : ℕ) : EReal :=
  gelu (raw (B + r) (512 + (128 * h + l)))
    * ((∑ k : Fin 128, (if k.val ≤ r then ws h r k.val else 0)
          * ln7 lg lb (fun j => gelu (raw (B + k.val) (1280 + j))) (128 * h + l)) + sb h r)

/-- The convolution over 31 rows, from the gated rows shifted down by 32. -/
def convF (gin : ℕ → ℕ → EReal) (w : ℕ → ℕ → EReal) (b : ℕ → EReal) (q l : ℕ) : EReal :=
  (∑ k : Fin 31, w k.val l * gin (q + k.val + 2) l) + b l

/-- The activation of the layer norm of a row. -/
def siluF (g b f : ℕ → EReal) (l : ℕ) : EReal := ln7 g b f l * sg (ln7 g b f l)

/-- The rows the pool mixer reads, shifted down by 16, zero before the first. -/
def pinG (P : ℕ → ℕ → EReal) (s l : ℕ) : EReal := if s < 16 then 0 else P (s - 16) l

/-- The gated rows the convolution reads, shifted down by 32, zero before the first. -/
def ginG (P : ℕ → ℕ → EReal) (s l : ℕ) : EReal := if s < 32 then 0 else P (s - 32) (2048 + l) * sg (P (s - 32) (2816 + l))

/-- A sum of 31 terms and one more, written out from the left. -/
theorem chainR (f : ℕ → EReal) (z : EReal) :
    f 0 + f 1 + f 2 + f 3 + f 4 + f 5 + f 6 + f 7 + f 8 + f 9 + f 10 + f 11 + f 12 + f 13 + f 14 + f 15 + f 16 + f 17 + f 18 + f 19 + f 20
      + f 21 + f 22 + f 23 + f 24 + f 25 + f 26 + f 27 + f 28 + f 29 + f 30 + z = (∑ k : Fin 31, f k.val) + z := by
  have h : (∑ k : Fin 31, f k.val) = ∑ k ∈ Finset.range 31, f k := Fin.sum_univ_eq_sum_range f 31
  rw [h]
  simp only [Finset.sum_range_succ, Finset.sum_range_zero, zero_add]

/-- The comparison of two small numbers, as words, selects by their order. -/
theorem mask_word (r k : Fin 128) (a b : EReal) :
    Scalar.select (IntOp.cmpi CmpIPredicate.sge (BitVec.ofNat 32 r.val) (BitVec.ofNat 32 k.val)) a b = if k.val ≤ r.val then a else b := by
  have h : ∀ r k : Fin 128, IntOp.cmpi CmpIPredicate.sge (BitVec.ofNat 32 r.val) (BitVec.ofNat 32 k.val) = if k.val ≤ r.val then 1#1 else 0#1 := by
    decide +kernel
  rw [h]
  by_cases e : k.val ≤ r.val
  · rw [if_pos e, if_pos e]; rfl
  · rw [if_neg e, if_neg e]; rfl

/-- The number of rows in a mean over `n` rows ending at row `q`. -/
def cntF (n q : ℕ) : EReal := (((min (q + 1) n : ℕ) : ℝ) : EReal)

end Cert.Hand

end
-- ==== Proof.MixFwd.Scratch.lean ====
module

public import proofs.«01_k».proof.Proof.Gen.MixFwdIdeal.Value
public import Idealize.ShloMosaic.Lib.Pipeline.ValueKit
public import Idealize.ShloMosaic.Lib.Pipeline.ReadBack
public import proofs.«01_k».proof.Proof.Shared.Mix

@[expose] public section

set_option maxRecDepth 16384

noncomputable section

namespace Cert.MixFwdIdeal.Hand

open Idealize.ShloMosaic Idealize.ShloMosaic.TcCoe Idealize.SL.Sem
open Idealize.ShloMosaic.Pipeline (Dat)
open Cert.MixFwdIdeal Cert.MixFwdIdeal.Gen
open Cert.Hand

variable (c : Dev nD) (i : grid0.Coords) (arg1 : Memref sig .tc .vmem S256x3584 .f32) (harg1 : arg1.IsWhole) (arg2 : Memref sig .tc .vmem S32x3584 .f32) (harg2 : arg2.IsWhole)
  (arg9 : Memref sig .tc .vmem S32x768 .f32) (harg9 : arg9.IsWhole) (arg10 : Memref sig .tc .vmem S1x768 .f32) (harg10 : arg10.IsWhole)
  (arg15 : Memref sig .tc .vmem S272x512 .f32) (arg16 : Memref sig .tc .vmem S288x768 .f32) (arg17 : Memref sig .tc .vmem S7x280x768 .f32)
  (x0 : FVec Ideal S256x3584 .f32) (x1 : FVec Ideal S32x3584 .f32) (x8 : FVec Ideal S32x768 .f32) (x9 : FVec Ideal S1x768 .f32)

/-- Row `e` of a block's gated input, the thirty-two rows before the block first. -/
def gated (e l : ℕ) : EReal :=
  if e < 32 then at2 x1 e (2048 + l) * sg (at2 x1 e (2816 + l)) * k0_pay2 (F := Ideal) i
  else at2 x0 (e - 32) (2048 + l) * sg (at2 x0 (e - 32) (2816 + l))

theorem hs1_cover (y : S288x768.Idx) : ∃ pc ∈ kernelRun0_A.sl.HS1_2 (F := Ideal) c i arg1 harg1 arg2 harg2 x0 x1, y ∈ pc.1.set :=
  View.cover_of_tiledBy (kernelRun0_A.sl.HS1_2 (F := Ideal) c i arg1 harg1 arg2 harg2 x0 x1) ![32, 768] (by sl_kernel_rfl) y

theorem hs2_cover (y : S7x280x768.Idx) : ∃ pc ∈ kernelRun0_A.sl.HS2_7 (F := Ideal) c i arg1 harg1 arg2 harg2 arg16 x0 x1, y ∈ pc.1.set :=
  View.cover_of_tiledL (kernelRun0_A.sl.HS2_7 (F := Ideal) c i arg1 harg1 arg2 harg2 arg16 x0 x1) S1x280x768.size (by sl_kernel_rfl) y

theorem hs1_pieces : View.PiecesOf (Val := Elt Ideal) (s := S288x768) (e := .f32) (fun y => gated i x0 x1 (y 0).val (y 1).val) (kernelRun0_A.sl.HS1_2 c i arg1 harg1 arg2 harg2 x0 x1) := by
  unfold kernelRun0_A.sl.HS1_2
  refine ⟨fun x => ?_, fun x => ?_, trivial⟩
  · idx_vars x
    simp only [View.readAt_eq_ld, Memref.IsWhole.read_unread, Rect.emb_apply]
    pointwise [k0_pay46]
    simp [at2_eq, gated, sg]
  · idx_vars x
    unfold kernelRun0_A.sl.r_18 kernelRun0_A.sl.r_19
    simp only [View.readAt_eq_ld, Memref.IsWhole.read_unread, Rect.emb_apply]
    pointwise [k0_pay43, k0_pay44, k0_pay45]
    simp [at2_eq, gated, sg]

theorem hs1 (y : S288x768.Idx) :
    View.canon (Val := Elt Ideal) (kernelRun0_A.sl.HS1_2 c i arg1 harg1 arg2 harg2 x0 x1) y = gated i x0 x1 (y 0).val (y 1).val :=
  View.canon_apply_of_pieces (Val := Elt Ideal) (S := S288x768) (e := .f32) (fun y => gated i x0 x1 (y 0).val (y 1).val) _
    (View.PiecesOf.mem (hs1_pieces c i arg1 harg1 arg2 harg2 x0 x1)) y (hs1_cover c i arg1 harg1 arg2 harg2 x0 x1 y)

theorem hs2_pieces : View.PiecesOf (Val := Elt Ideal) (s := S7x280x768) (e := .f32) (fun y => gated i x0 x1 ((y 0).val + 1 + (y 1).val) (y 2).val) (kernelRun0_A.sl.HS2_7 c i arg1 harg1 arg2 harg2 arg16 x0 x1) := by
  unfold kernelRun0_A.sl.HS2_7
  refine ⟨fun x => ?_, fun x => ?_, fun x => ?_, fun x => ?_, fun x => ?_, fun x => ?_, fun x => ?_, trivial⟩
  all_goals
    idx_vars x
    simp only [Rect.emb_apply, kernelRun0_A.sl.v397, kernelRun0_A.sl.v394, kernelRun0_A.sl.v393, kernelRun0_A.sl.v390, kernelRun0_A.sl.v389, kernelRun0_A.sl.v386, kernelRun0_A.sl.v385, kernelRun0_A.sl.v382, kernelRun0_A.sl.v378, kernelRun0_A.sl.v374, kernelRun0_A.sl.v370, View.readCov_eq_canon', hs1]
    pointwise [k0_pay47, k0_pay48, k0_pay49]
    try simp

theorem hs2 (y : S7x280x768.Idx) :
    View.canon (Val := Elt Ideal) (kernelRun0_A.sl.HS2_7 c i arg1 harg1 arg2 harg2 arg16 x0 x1) y = gated i x0 x1 ((y 0).val + 1 + (y 1).val) (y 2).val :=
  View.canon_apply_of_pieces (Val := Elt Ideal) (S := S7x280x768) (e := .f32) (fun y => gated i x0 x1 ((y 0).val + 1 + (y 1).val) (y 2).val) _
    (View.PiecesOf.mem (hs2_pieces c i arg1 harg1 arg2 harg2 arg16 x0 x1)) y (hs2_cover c i arg1 harg1 arg2 harg2 arg16 x0 x1 y)

/-- The convolution's row `r` of a block. -/
def conv (r l : ℕ) : EReal := (∑ k : Fin 31, at2 x8 k.val l * gated i x0 x1 (r + k.val + 2) l) + at2 x9 0 l

/-- A sum taken tap by tap from the offset. -/
theorem chain31 (f : ℕ → EReal) (b : EReal) :
    b + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30
      = (∑ k : Fin 31, f k.val) + b := by
  have h : (∑ k : Fin 31, f k.val) = ∑ k ∈ Finset.range 31, f k := Fin.sum_univ_eq_sum_range f 31
  rw [h]
  simp only [Finset.sum_range_succ, Finset.sum_range_zero, zero_add]
  rw [add_comm _ b]
  simp only [add_assoc]

end Cert.MixFwdIdeal.Hand

end
-- ==== Proof.MixFwd.Conv.lean ====
module

public import proofs.«01_k».proof.Proof.Gen.MixFwdIdeal.Value
public import Idealize.ShloMosaic.Lib.Pipeline.ValueKit
public import Idealize.ShloMosaic.Lib.Pipeline.ReadBack
public import proofs.«01_k».proof.Proof.MixFwd.Scratch
public import proofs.«01_k».proof.Proof.Shared.Mix

@[expose] public section

set_option maxRecDepth 16384

noncomputable section

namespace Cert.MixFwdIdeal.Hand

open Idealize.ShloMosaic Idealize.ShloMosaic.TcCoe Idealize.SL.Sem
open Idealize.ShloMosaic.Pipeline (Dat)
open Cert.MixFwdIdeal Cert.MixFwdIdeal.Gen
open Cert.Hand

variable (c : Dev nD) (i : grid0.Coords) (arg1 : Memref sig .tc .vmem S256x3584 .f32) (harg1 : arg1.IsWhole) (arg2 : Memref sig .tc .vmem S32x3584 .f32) (harg2 : arg2.IsWhole)
  (arg9 : Memref sig .tc .vmem S32x768 .f32) (harg9 : arg9.IsWhole) (arg10 : Memref sig .tc .vmem S1x768 .f32) (harg10 : arg10.IsWhole)
  (arg15 : Memref sig .tc .vmem S272x512 .f32) (arg16 : Memref sig .tc .vmem S288x768 .f32) (arg17 : Memref sig .tc .vmem S7x280x768 .f32)
  (x0 : FVec Ideal S256x3584 .f32) (x1 : FVec Ideal S32x3584 .f32) (x8 : FVec Ideal S32x768 .f32) (x9 : FVec Ideal S1x768 .f32)

/-- The block's convolution, rows from 192 and columns from 640. -/
theorem piece0 (r : Fin 64) (l : Fin 128) : (k0_pay735 (F := Ideal) (kernelRun0_A.sl.r_381 (F := Ideal) c i arg1 harg1 arg2 harg2 arg9 harg9 arg10 harg10 arg16 arg17 x0 x1 x8 x9) (kernelRun0_A.sl.r_382 (F := Ideal) c arg9 harg9 x8) (kernelRun0_A.sl.v4870 (F := Ideal) c i arg1 harg1 arg2 harg2 arg16 arg17 x0 x1) (View.readAt (Elt Ideal) arg9.view (Rect.unit (s := S32x768) ![30, 640] S1x128.size inb_S32x768_S1x128_30_640).toLoadRect (harg9.unread x8)) (kernelRun0_A.sl.v4881 (F := Ideal) c i arg1 harg1 arg2 harg2 arg16 x0 x1)) (ix2 r l) = conv i x0 x1 x8 x9 (192 + r.val) (640 + l.val) := by
  simp only [kernelRun0_A.sl.r_381, kernelRun0_A.sl.r_378, kernelRun0_A.sl.r_375, kernelRun0_A.sl.r_372, kernelRun0_A.sl.r_368, kernelRun0_A.sl.r_365, kernelRun0_A.sl.r_362, kernelRun0_A.sl.r_359, kernelRun0_A.sl.r_356, kernelRun0_A.sl.r_353, kernelRun0_A.sl.v4528, kernelRun0_A.sl.v4540, kernelRun0_A.sl.r_354, kernelRun0_A.sl.v4552, kernelRun0_A.sl.v4564, kernelRun0_A.sl.v4576, kernelRun0_A.sl.r_357, kernelRun0_A.sl.v4588, kernelRun0_A.sl.v4599, kernelRun0_A.sl.v4610, kernelRun0_A.sl.r_360, kernelRun0_A.sl.v4622, kernelRun0_A.sl.v4634, kernelRun0_A.sl.v4646, kernelRun0_A.sl.r_363, kernelRun0_A.sl.v4658, kernelRun0_A.sl.v4670, kernelRun0_A.sl.v4682, kernelRun0_A.sl.r_366, kernelRun0_A.sl.v4693, kernelRun0_A.sl.v4704, kernelRun0_A.sl.v4716, kernelRun0_A.sl.r_369, kernelRun0_A.sl.v4728, kernelRun0_A.sl.v4740, kernelRun0_A.sl.v4752, kernelRun0_A.sl.r_373, kernelRun0_A.sl.v4764, kernelRun0_A.sl.v4776, kernelRun0_A.sl.v4787, kernelRun0_A.sl.r_376, kernelRun0_A.sl.v4798, kernelRun0_A.sl.v4810, kernelRun0_A.sl.v4822, kernelRun0_A.sl.r_379, kernelRun0_A.sl.v4834, kernelRun0_A.sl.v4846, kernelRun0_A.sl.v4858, kernelRun0_A.sl.r_382, kernelRun0_A.sl.v4870, kernelRun0_A.sl.v4881, View.readAt_eq_ld, Memref.IsWhole.read_unread, View.readCov_eq_canon', hs1, hs2]
  pointwise [k0_pay679, k0_pay680, k0_pay682, k0_pay683, k0_pay684, k0_pay685, k0_pay686, k0_pay688, k0_pay689, k0_pay690, k0_pay691, k0_pay692, k0_pay694, k0_pay695, k0_pay696, k0_pay697, k0_pay699, k0_pay700, k0_pay701, k0_pay702, k0_pay704, k0_pay705, k0_pay706, k0_pay707, k0_pay709, k0_pay710, k0_pay712, k0_pay713, k0_pay715, k0_pay716, k0_pay718, k0_pay719, k0_pay720, k0_pay721, k0_pay723, k0_pay724, k0_pay725, k0_pay726, k0_pay728, k0_pay729, k0_pay730, k0_pay731, k0_pay733, k0_pay735]
  simp only [at2_eq]
  refine Eq.trans ?_ (chain31 (fun k => at2 x8 k (640 + l.val) * gated i x0 x1 (192 + r.val + k + 2) (640 + l.val)) _)
  iterate 31 refine congrArg₂ (· + ·) ?_ (congrArg₂ (· * ·) rfl (congrArg (fun z => gated i x0 x1 z _) (by omega)))
  rfl

/-- The block's convolution, rows from 128 and columns from 640. -/
theorem piece1 (r : Fin 64) (l : Fin 128) : (k0_pay734 (F := Ideal) (kernelRun0_A.sl.r_383 (F := Ideal) c i arg1 harg1 arg2 harg2 arg9 harg9 arg10 harg10 arg16 arg17 x0 x1 x8 x9) (View.readAt (Elt Ideal) arg9.view (Rect.unit (s := S32x768) ![30, 640] S1x128.size inb_S32x768_S1x128_30_640).toLoadRect (harg9.unread x8)) (kernelRun0_A.sl.v4878 (F := Ideal) c i arg1 harg1 arg2 harg2 arg16 x0 x1)) (ix2 r l) = conv i x0 x1 x8 x9 (128 + r.val) (640 + l.val) := by
  simp only [kernelRun0_A.sl.r_383, kernelRun0_A.sl.r_380, kernelRun0_A.sl.r_377, kernelRun0_A.sl.r_371, kernelRun0_A.sl.r_367, kernelRun0_A.sl.r_364, kernelRun0_A.sl.r_361, kernelRun0_A.sl.r_358, kernelRun0_A.sl.r_355, kernelRun0_A.sl.r_352, kernelRun0_A.sl.v4524, kernelRun0_A.sl.v4536, kernelRun0_A.sl.r_354, kernelRun0_A.sl.v4548, kernelRun0_A.sl.v4560, kernelRun0_A.sl.v4572, kernelRun0_A.sl.r_357, kernelRun0_A.sl.v4584, kernelRun0_A.sl.v4596, kernelRun0_A.sl.v4606, kernelRun0_A.sl.r_360, kernelRun0_A.sl.v4618, kernelRun0_A.sl.v4630, kernelRun0_A.sl.v4642, kernelRun0_A.sl.r_363, kernelRun0_A.sl.v4654, kernelRun0_A.sl.v4666, kernelRun0_A.sl.v4678, kernelRun0_A.sl.r_366, kernelRun0_A.sl.v4690, kernelRun0_A.sl.v4700, kernelRun0_A.sl.v4712, kernelRun0_A.sl.r_370, kernelRun0_A.sl.v4724, kernelRun0_A.sl.v4736, kernelRun0_A.sl.v4748, kernelRun0_A.sl.r_374, kernelRun0_A.sl.v4760, kernelRun0_A.sl.v4772, kernelRun0_A.sl.v4784, kernelRun0_A.sl.v4794, kernelRun0_A.sl.v4806, kernelRun0_A.sl.v4818, kernelRun0_A.sl.v4830, kernelRun0_A.sl.v4842, kernelRun0_A.sl.v4854, kernelRun0_A.sl.v4866, kernelRun0_A.sl.v4878, View.readAt_eq_ld, Memref.IsWhole.read_unread, View.readCov_eq_canon', hs1, hs2]
  pointwise [k0_pay679, k0_pay680, k0_pay681, k0_pay683, k0_pay684, k0_pay685, k0_pay686, k0_pay687, k0_pay689, k0_pay690, k0_pay691, k0_pay692, k0_pay693, k0_pay695, k0_pay696, k0_pay697, k0_pay698, k0_pay700, k0_pay701, k0_pay702, k0_pay703, k0_pay705, k0_pay706, k0_pay707, k0_pay708, k0_pay710, k0_pay711, k0_pay712, k0_pay713, k0_pay714, k0_pay716, k0_pay717, k0_pay718, k0_pay719, k0_pay721, k0_pay722, k0_pay723, k0_pay724, k0_pay726, k0_pay727, k0_pay728, k0_pay729, k0_pay731, k0_pay732, k0_pay733, k0_pay734]
  simp only [at2_eq]
  refine Eq.trans ?_ (chain31 (fun k => at2 x8 k (640 + l.val) * gated i x0 x1 (128 + r.val + k + 2) (640 + l.val)) _)
  iterate 31 refine congrArg₂ (· + ·) ?_ (congrArg₂ (· * ·) rfl (congrArg (fun z => gated i x0 x1 z _) (by omega)))
  rfl

/-- The block's convolution, rows from 64 and columns from 640. -/
theorem piece2 (r : Fin 64) (l : Fin 128) : (kernelRun0_A.sl.r_351 (F := Ideal) c i arg1 harg1 arg2 harg2 arg9 harg9 arg10 harg10 arg16 arg17 x0 x1 x8 x9) (ix2 r l) = conv i x0 x1 x8 x9 (64 + r.val) (640 + l.val) := by
  simp only [kernelRun0_A.sl.r_351, kernelRun0_A.sl.r_350, kernelRun0_A.sl.r_348, kernelRun0_A.sl.r_344, kernelRun0_A.sl.r_341, kernelRun0_A.sl.r_338, kernelRun0_A.sl.r_335, kernelRun0_A.sl.r_331, kernelRun0_A.sl.r_328, kernelRun0_A.sl.r_325, kernelRun0_A.sl.r_322, kernelRun0_A.sl.r_323, kernelRun0_A.sl.v4154, kernelRun0_A.sl.v4166, kernelRun0_A.sl.v4178, kernelRun0_A.sl.r_326, kernelRun0_A.sl.v4190, kernelRun0_A.sl.v4202, kernelRun0_A.sl.v4214, kernelRun0_A.sl.r_329, kernelRun0_A.sl.v4225, kernelRun0_A.sl.v4236, kernelRun0_A.sl.v4248, kernelRun0_A.sl.r_332, kernelRun0_A.sl.v4260, kernelRun0_A.sl.v4272, kernelRun0_A.sl.v4284, kernelRun0_A.sl.r_336, kernelRun0_A.sl.v4296, kernelRun0_A.sl.v4308, kernelRun0_A.sl.v4319, kernelRun0_A.sl.r_339, kernelRun0_A.sl.v4330, kernelRun0_A.sl.v4342, kernelRun0_A.sl.v4354, kernelRun0_A.sl.r_342, kernelRun0_A.sl.v4366, kernelRun0_A.sl.v4378, kernelRun0_A.sl.v4390, kernelRun0_A.sl.r_345, kernelRun0_A.sl.v4402, kernelRun0_A.sl.v4413, kernelRun0_A.sl.v4424, kernelRun0_A.sl.v4436, kernelRun0_A.sl.v4448, kernelRun0_A.sl.v4460, kernelRun0_A.sl.v4472, kernelRun0_A.sl.v4484, kernelRun0_A.sl.v4496, kernelRun0_A.sl.v4507, View.readAt_eq_ld, Memref.IsWhole.read_unread, View.readCov_eq_canon', hs1, hs2]
  pointwise [k0_pay625, k0_pay626, k0_pay627, k0_pay628, k0_pay630, k0_pay631, k0_pay632, k0_pay633, k0_pay635, k0_pay636, k0_pay637, k0_pay638, k0_pay640, k0_pay641, k0_pay643, k0_pay644, k0_pay646, k0_pay647, k0_pay649, k0_pay650, k0_pay651, k0_pay652, k0_pay654, k0_pay655, k0_pay656, k0_pay657, k0_pay659, k0_pay660, k0_pay661, k0_pay662, k0_pay664, k0_pay665, k0_pay666, k0_pay668, k0_pay669, k0_pay670, k0_pay671, k0_pay673, k0_pay674, k0_pay675, k0_pay676, k0_pay678]
  simp only [at2_eq]
  refine Eq.trans ?_ (chain31 (fun k => at2 x8 k (640 + l.val) * gated i x0 x1 (64 + r.val + k + 2) (640 + l.val)) _)
  iterate 31 refine congrArg₂ (· + ·) ?_ (congrArg₂ (· * ·) rfl (congrArg (fun z => gated i x0 x1 z _) (by omega)))
  rfl

/-- The block's convolution, rows from 0 and columns from 640. -/
theorem piece3 (r : Fin 64) (l : Fin 128) : (k0_pay677 (F := Ideal) (kernelRun0_A.sl.r_349 (F := Ideal) c i arg1 harg1 arg2 harg2 arg9 harg9 arg10 harg10 arg16 arg17 x0 x1 x8 x9) (View.readAt (Elt Ideal) arg9.view (Rect.unit (s := S32x768) ![28, 640] S1x128.size inb_S32x768_S1x128_28_640).toLoadRect (harg9.unread x8)) (kernelRun0_A.sl.v4480 (F := Ideal) c i arg1 harg1 arg2 harg2 arg16 arg17 x0 x1) (View.readAt (Elt Ideal) arg9.view (Rect.unit (s := S32x768) ![29, 640] S1x128.size inb_S32x768_S1x128_29_640).toLoadRect (harg9.unread x8)) (kernelRun0_A.sl.v4492 (F := Ideal) c i arg1 harg1 arg2 harg2 arg16 arg17 x0 x1) (View.readAt (Elt Ideal) arg9.view (Rect.unit (s := S32x768) ![30, 640] S1x128.size inb_S32x768_S1x128_30_640).toLoadRect (harg9.unread x8)) (kernelRun0_A.sl.v4504 (F := Ideal) c i arg1 harg1 arg2 harg2 arg16 x0 x1)) (ix2 r l) = conv i x0 x1 x8 x9 (r.val) (640 + l.val) := by
  simp only [kernelRun0_A.sl.r_349, kernelRun0_A.sl.r_347, kernelRun0_A.sl.r_346, kernelRun0_A.sl.r_343, kernelRun0_A.sl.r_340, kernelRun0_A.sl.r_334, kernelRun0_A.sl.r_330, kernelRun0_A.sl.r_327, kernelRun0_A.sl.r_324, kernelRun0_A.sl.r_321, kernelRun0_A.sl.r_323, kernelRun0_A.sl.v4150, kernelRun0_A.sl.v4162, kernelRun0_A.sl.v4174, kernelRun0_A.sl.r_326, kernelRun0_A.sl.v4186, kernelRun0_A.sl.v4198, kernelRun0_A.sl.v4210, kernelRun0_A.sl.r_329, kernelRun0_A.sl.v4222, kernelRun0_A.sl.v4232, kernelRun0_A.sl.v4244, kernelRun0_A.sl.r_333, kernelRun0_A.sl.v4256, kernelRun0_A.sl.v4268, kernelRun0_A.sl.v4280, kernelRun0_A.sl.r_337, kernelRun0_A.sl.v4292, kernelRun0_A.sl.v4304, kernelRun0_A.sl.v4316, kernelRun0_A.sl.v4326, kernelRun0_A.sl.v4338, kernelRun0_A.sl.v4350, kernelRun0_A.sl.v4362, kernelRun0_A.sl.v4374, kernelRun0_A.sl.v4386, kernelRun0_A.sl.v4398, kernelRun0_A.sl.v4410, kernelRun0_A.sl.v4420, kernelRun0_A.sl.v4432, kernelRun0_A.sl.v4444, kernelRun0_A.sl.v4456, kernelRun0_A.sl.v4468, kernelRun0_A.sl.v4480, kernelRun0_A.sl.v4492, kernelRun0_A.sl.v4504, View.readAt_eq_ld, Memref.IsWhole.read_unread, View.readCov_eq_canon', hs1, hs2]
  pointwise [k0_pay624, k0_pay626, k0_pay627, k0_pay628, k0_pay629, k0_pay631, k0_pay632, k0_pay633, k0_pay634, k0_pay636, k0_pay637, k0_pay638, k0_pay639, k0_pay641, k0_pay642, k0_pay643, k0_pay644, k0_pay645, k0_pay647, k0_pay648, k0_pay649, k0_pay650, k0_pay652, k0_pay653, k0_pay654, k0_pay655, k0_pay657, k0_pay658, k0_pay659, k0_pay660, k0_pay662, k0_pay663, k0_pay664, k0_pay665, k0_pay666, k0_pay667, k0_pay669, k0_pay670, k0_pay671, k0_pay672, k0_pay674, k0_pay675, k0_pay676, k0_pay677]
  simp only [at2_eq]
  refine Eq.trans ?_ (chain31 (fun k => at2 x8 k (640 + l.val) * gated i x0 x1 (r.val + k + 2) (640 + l.val)) _)
  iterate 31 refine congrArg₂ (· + ·) ?_ (congrArg₂ (· * ·) rfl (congrArg (fun z => gated i x0 x1 z _) (by omega)))
  rfl

/-- The block's convolution, rows from 192 and columns from 512. -/
theorem piece4 (r : Fin 64) (l : Fin 128) : (k0_pay623 (F := Ideal) (kernelRun0_A.sl.r_319 (F := Ideal) c i arg1 harg1 arg2 harg2 arg9 harg9 arg10 harg10 arg16 arg17 x0 x1 x8 x9) (kernelRun0_A.sl.r_320 (F := Ideal) c arg9 harg9 x8) (kernelRun0_A.sl.v4122 (F := Ideal) c i arg1 harg1 arg2 harg2 arg16 arg17 x0 x1) (View.readAt (Elt Ideal) arg9.view (Rect.unit (s := S32x768) ![30, 512] S1x128.size inb_S32x768_S1x128_30_512).toLoadRect (harg9.unread x8)) (kernelRun0_A.sl.v4133 (F := Ideal) c i arg1 harg1 arg2 harg2 arg16 x0 x1)) (ix2 r l) = conv i x0 x1 x8 x9 (192 + r.val) (512 + l.val) := by
  simp only [kernelRun0_A.sl.r_319, kernelRun0_A.sl.r_316, kernelRun0_A.sl.r_313, kernelRun0_A.sl.r_311, kernelRun0_A.sl.r_309, kernelRun0_A.sl.r_305, kernelRun0_A.sl.r_302, kernelRun0_A.sl.r_299, kernelRun0_A.sl.r_296, kernelRun0_A.sl.r_292, kernelRun0_A.sl.v3780, kernelRun0_A.sl.r_293, kernelRun0_A.sl.v3792, kernelRun0_A.sl.v3804, kernelRun0_A.sl.v3816, kernelRun0_A.sl.r_297, kernelRun0_A.sl.v3828, kernelRun0_A.sl.v3840, kernelRun0_A.sl.v3851, kernelRun0_A.sl.r_300, kernelRun0_A.sl.v3862, kernelRun0_A.sl.v3874, kernelRun0_A.sl.v3886, kernelRun0_A.sl.r_303, kernelRun0_A.sl.v3898, kernelRun0_A.sl.v3910, kernelRun0_A.sl.v3922, kernelRun0_A.sl.r_306, kernelRun0_A.sl.v3934, kernelRun0_A.sl.v3945, kernelRun0_A.sl.v3956, kernelRun0_A.sl.v3968, kernelRun0_A.sl.v3980, kernelRun0_A.sl.v3992, kernelRun0_A.sl.v4004, kernelRun0_A.sl.v4016, kernelRun0_A.sl.v4028, kernelRun0_A.sl.v4039, kernelRun0_A.sl.r_314, kernelRun0_A.sl.v4050, kernelRun0_A.sl.v4062, kernelRun0_A.sl.v4074, kernelRun0_A.sl.r_317, kernelRun0_A.sl.v4086, kernelRun0_A.sl.v4098, kernelRun0_A.sl.v4110, kernelRun0_A.sl.r_320, kernelRun0_A.sl.v4122, kernelRun0_A.sl.v4133, View.readAt_eq_ld, Memref.IsWhole.read_unread, View.readCov_eq_canon', hs1, hs2]
  pointwise [k0_pay566, k0_pay568, k0_pay569, k0_pay571, k0_pay572, k0_pay574, k0_pay575, k0_pay577, k0_pay578, k0_pay579, k0_pay580, k0_pay582, k0_pay583, k0_pay584, k0_pay585, k0_pay587, k0_pay588, k0_pay589, k0_pay590, k0_pay592, k0_pay593, k0_pay594, k0_pay596, k0_pay597, k0_pay598, k0_pay599, k0_pay601, k0_pay602, k0_pay603, k0_pay604, k0_pay606, k0_pay607, k0_pay608, k0_pay609, k0_pay610, k0_pay612, k0_pay613, k0_pay614, k0_pay615, k0_pay616, k0_pay618, k0_pay619, k0_pay620, k0_pay621, k0_pay623]
  simp only [at2_eq]
  refine Eq.trans ?_ (chain31 (fun k => at2 x8 k (512 + l.val) * gated i x0 x1 (192 + r.val + k + 2) (512 + l.val)) _)
  iterate 31 refine congrArg₂ (· + ·) ?_ (congrArg₂ (· * ·) rfl (congrArg (fun z => gated i x0 x1 z _) (by omega)))
  rfl

/-- The block's convolution, rows from 128 and columns from 512. -/
theorem piece5 (r : Fin 64) (l : Fin 128) : (k0_pay622 (F := Ideal) (kernelRun0_A.sl.r_318 (F := Ideal) c i arg1 harg1 arg2 harg2 arg9 harg9 arg10 harg10 arg16 arg17 x0 x1 x8 x9) (kernelRun0_A.sl.r_320 (F := Ideal) c arg9 harg9 x8) (kernelRun0_A.sl.v4118 (F := Ideal) c i arg1 harg1 arg2 harg2 arg16 arg17 x0 x1) (View.readAt (Elt Ideal) arg9.view (Rect.unit (s := S32x768) ![30, 512] S1x128.size inb_S32x768_S1x128_30_512).toLoadRect (harg9.unread x8)) (kernelRun0_A.sl.v4130 (F := Ideal) c i arg1 harg1 arg2 harg2 arg16 x0 x1)) (ix2 r l) = conv i x0 x1 x8 x9 (128 + r.val) (512 + l.val) := by
  simp only [kernelRun0_A.sl.r_318, kernelRun0_A.sl.r_315, kernelRun0_A.sl.r_312, kernelRun0_A.sl.r_310, kernelRun0_A.sl.r_308, kernelRun0_A.sl.r_307, kernelRun0_A.sl.r_304, kernelRun0_A.sl.r_301, kernelRun0_A.sl.r_295, kernelRun0_A.sl.r_291, kernelRun0_A.sl.v3776, kernelRun0_A.sl.r_294, kernelRun0_A.sl.v3788, kernelRun0_A.sl.v3800, kernelRun0_A.sl.v3812, kernelRun0_A.sl.r_298, kernelRun0_A.sl.v3824, kernelRun0_A.sl.v3836, kernelRun0_A.sl.v3848, kernelRun0_A.sl.v3858, kernelRun0_A.sl.v3870, kernelRun0_A.sl.v3882, kernelRun0_A.sl.v3894, kernelRun0_A.sl.v3906, kernelRun0_A.sl.v3918, kernelRun0_A.sl.v3930, kernelRun0_A.sl.v3942, kernelRun0_A.sl.v3952, kernelRun0_A.sl.v3964, kernelRun0_A.sl.v3976, kernelRun0_A.sl.v3988, kernelRun0_A.sl.v4000, kernelRun0_A.sl.v4012, kernelRun0_A.sl.v4024, kernelRun0_A.sl.v4036, kernelRun0_A.sl.r_314, kernelRun0_A.sl.v4046, kernelRun0_A.sl.v4058, kernelRun0_A.sl.v4070, kernelRun0_A.sl.r_317, kernelRun0_A.sl.v4082, kernelRun0_A.sl.v4094, kernelRun0_A.sl.v4106, kernelRun0_A.sl.r_320, kernelRun0_A.sl.v4118, kernelRun0_A.sl.v4130, View.readAt_eq_ld, Memref.IsWhole.read_unread, View.readCov_eq_canon', hs1, hs2]
  pointwise [k0_pay566, k0_pay567, k0_pay569, k0_pay570, k0_pay571, k0_pay572, k0_pay573, k0_pay575, k0_pay576, k0_pay577, k0_pay578, k0_pay580, k0_pay581, k0_pay582, k0_pay583, k0_pay585, k0_pay586, k0_pay587, k0_pay588, k0_pay590, k0_pay591, k0_pay592, k0_pay593, k0_pay594, k0_pay595, k0_pay597, k0_pay598, k0_pay599, k0_pay600, k0_pay602, k0_pay603, k0_pay604, k0_pay605, k0_pay607, k0_pay608, k0_pay609, k0_pay610, k0_pay611, k0_pay613, k0_pay614, k0_pay615, k0_pay616, k0_pay617, k0_pay619, k0_pay620, k0_pay621, k0_pay622]
  simp only [at2_eq]
  refine Eq.trans ?_ (chain31 (fun k => at2 x8 k (512 + l.val) * gated i x0 x1 (128 + r.val + k + 2) (512 + l.val)) _)
  iterate 31 refine congrArg₂ (· + ·) ?_ (congrArg₂ (· * ·) rfl (congrArg (fun z => gated i x0 x1 z _) (by omega)))
  rfl

/-- The block's convolution, rows from 64 and columns from 512. -/
theorem piece6 (r : Fin 64) (l : Fin 128) : (k0_pay565 (F := Ideal) (kernelRun0_A.sl.r_289 (F := Ideal) c i arg1 harg1 arg2 harg2 arg9 harg9 arg10 harg10 arg16 arg17 x0 x1 x8 x9) (kernelRun0_A.sl.r_290 (F := Ideal) c arg9 harg9 x8) (kernelRun0_A.sl.v3759 (F := Ideal) c i arg1 harg1 arg2 harg2 arg16 x0 x1)) (ix2 r l) = conv i x0 x1 x8 x9 (64 + r.val) (512 + l.val) := by
  simp only [kernelRun0_A.sl.r_289, kernelRun0_A.sl.r_286, kernelRun0_A.sl.r_283, kernelRun0_A.sl.r_280, kernelRun0_A.sl.r_277, kernelRun0_A.sl.r_274, kernelRun0_A.sl.r_272, kernelRun0_A.sl.r_270, kernelRun0_A.sl.r_266, kernelRun0_A.sl.r_263, kernelRun0_A.sl.v3406, kernelRun0_A.sl.v3418, kernelRun0_A.sl.r_264, kernelRun0_A.sl.v3430, kernelRun0_A.sl.v3442, kernelRun0_A.sl.v3454, kernelRun0_A.sl.r_267, kernelRun0_A.sl.v3466, kernelRun0_A.sl.v3477, kernelRun0_A.sl.v3488, kernelRun0_A.sl.v3500, kernelRun0_A.sl.v3512, kernelRun0_A.sl.v3524, kernelRun0_A.sl.v3536, kernelRun0_A.sl.v3548, kernelRun0_A.sl.v3560, kernelRun0_A.sl.v3571, kernelRun0_A.sl.r_275, kernelRun0_A.sl.v3582, kernelRun0_A.sl.v3594, kernelRun0_A.sl.v3606, kernelRun0_A.sl.r_278, kernelRun0_A.sl.v3618, kernelRun0_A.sl.v3630, kernelRun0_A.sl.v3642, kernelRun0_A.sl.r_281, kernelRun0_A.sl.v3654, kernelRun0_A.sl.v3665, kernelRun0_A.sl.v3676, kernelRun0_A.sl.r_284, kernelRun0_A.sl.v3688, kernelRun0_A.sl.v3700, kernelRun0_A.sl.v3712, kernelRun0_A.sl.r_287, kernelRun0_A.sl.v3724, kernelRun0_A.sl.v3736, kernelRun0_A.sl.v3748, kernelRun0_A.sl.r_290, kernelRun0_A.sl.v3759, View.readAt_eq_ld, Memref.IsWhole.read_unread, View.readCov_eq_canon', hs1, hs2]
  pointwise [k0_pay510, k0_pay511, k0_pay512, k0_pay513, k0_pay515, k0_pay516, k0_pay517, k0_pay518, k0_pay520, k0_pay521, k0_pay522, k0_pay524, k0_pay525, k0_pay526, k0_pay527, k0_pay529, k0_pay530, k0_pay531, k0_pay532, k0_pay534, k0_pay535, k0_pay536, k0_pay537, k0_pay538, k0_pay540, k0_pay541, k0_pay542, k0_pay543, k0_pay544, k0_pay546, k0_pay547, k0_pay548, k0_pay549, k0_pay550, k0_pay552, k0_pay553, k0_pay554, k0_pay555, k0_pay557, k0_pay558, k0_pay559, k0_pay560, k0_pay562, k0_pay563, k0_pay565]
  simp only [at2_eq]
  refine Eq.trans ?_ (chain31 (fun k => at2 x8 k (512 + l.val) * gated i x0 x1 (64 + r.val + k + 2) (512 + l.val)) _)
  iterate 31 refine congrArg₂ (· + ·) ?_ (congrArg₂ (· * ·) rfl (congrArg (fun z => gated i x0 x1 z _) (by omega)))
  rfl

/-- The block's convolution, rows from 0 and columns from 512. -/
theorem piece7 (r : Fin 64) (l : Fin 128) : (k0_pay564 (F := Ideal) (kernelRun0_A.sl.r_288 (F := Ideal) c i arg1 harg1 arg2 harg2 arg9 harg9 arg10 harg10 arg16 arg17 x0 x1 x8 x9) (kernelRun0_A.sl.r_290 (F := Ideal) c arg9 harg9 x8) (kernelRun0_A.sl.v3756 (F := Ideal) c i arg1 harg1 arg2 harg2 arg16 x0 x1)) (ix2 r l) = conv i x0 x1 x8 x9 (r.val) (512 + l.val) := by
  simp only [kernelRun0_A.sl.r_288, kernelRun0_A.sl.r_285, kernelRun0_A.sl.r_282, kernelRun0_A.sl.r_279, kernelRun0_A.sl.r_276, kernelRun0_A.sl.r_273, kernelRun0_A.sl.r_271, kernelRun0_A.sl.r_269, kernelRun0_A.sl.r_268, kernelRun0_A.sl.r_265, kernelRun0_A.sl.r_262, kernelRun0_A.sl.v3402, kernelRun0_A.sl.v3414, kernelRun0_A.sl.v3426, kernelRun0_A.sl.v3438, kernelRun0_A.sl.v3450, kernelRun0_A.sl.v3462, kernelRun0_A.sl.v3474, kernelRun0_A.sl.v3484, kernelRun0_A.sl.v3496, kernelRun0_A.sl.v3508, kernelRun0_A.sl.v3520, kernelRun0_A.sl.v3532, kernelRun0_A.sl.v3544, kernelRun0_A.sl.v3556, kernelRun0_A.sl.v3568, kernelRun0_A.sl.r_275, kernelRun0_A.sl.v3578, kernelRun0_A.sl.v3590, kernelRun0_A.sl.v3602, kernelRun0_A.sl.r_278, kernelRun0_A.sl.v3614, kernelRun0_A.sl.v3626, kernelRun0_A.sl.v3638, kernelRun0_A.sl.r_281, kernelRun0_A.sl.v3650, kernelRun0_A.sl.v3662, kernelRun0_A.sl.v3672, kernelRun0_A.sl.r_284, kernelRun0_A.sl.v3684, kernelRun0_A.sl.v3696, kernelRun0_A.sl.v3708, kernelRun0_A.sl.r_287, kernelRun0_A.sl.v3720, kernelRun0_A.sl.v3732, kernelRun0_A.sl.v3744, kernelRun0_A.sl.r_290, kernelRun0_A.sl.v3756, View.readAt_eq_ld, Memref.IsWhole.read_unread, View.readCov_eq_canon', hs1, hs2]
  pointwise [k0_pay509, k0_pay510, k0_pay511, k0_pay513, k0_pay514, k0_pay515, k0_pay516, k0_pay518, k0_pay519, k0_pay520, k0_pay521, k0_pay522, k0_pay523, k0_pay525, k0_pay526, k0_pay527, k0_pay528, k0_pay530, k0_pay531, k0_pay532, k0_pay533, k0_pay535, k0_pay536, k0_pay537, k0_pay538, k0_pay539, k0_pay541, k0_pay542, k0_pay543, k0_pay544, k0_pay545, k0_pay547, k0_pay548, k0_pay549, k0_pay550, k0_pay551, k0_pay553, k0_pay554, k0_pay555, k0_pay556, k0_pay558, k0_pay559, k0_pay560, k0_pay561, k0_pay563, k0_pay564]
  simp only [at2_eq]
  refine Eq.trans ?_ (chain31 (fun k => at2 x8 k (512 + l.val) * gated i x0 x1 (r.val + k + 2) (512 + l.val)) _)
  iterate 31 refine congrArg₂ (· + ·) ?_ (congrArg₂ (· * ·) rfl (congrArg (fun z => gated i x0 x1 z _) (by omega)))
  rfl

/-- The block's convolution, rows from 192 and columns from 384. -/
theorem piece8 (r : Fin 64) (l : Fin 128) : (k0_pay508 (F := Ideal) (kernelRun0_A.sl.r_259 (F := Ideal) c i arg1 harg1 arg2 harg2 arg9 harg9 arg10 harg10 arg16 arg17 x0 x1 x8 x9) (kernelRun0_A.sl.r_260 (F := Ideal) c arg9 harg9 x8) (kernelRun0_A.sl.v3362 (F := Ideal) c i arg1 harg1 arg2 harg2 arg16 arg17 x0 x1) (View.readAt (Elt Ideal) arg9.view (Rect.unit (s := S32x768) ![29, 384] S1x128.size inb_S32x768_S1x128_29_384).toLoadRect (harg9.unread x8)) (kernelRun0_A.sl.v3374 (F := Ideal) c i arg1 harg1 arg2 harg2 arg16 arg17 x0 x1) (View.readAt (Elt Ideal) arg9.view (Rect.unit (s := S32x768) ![30, 384] S1x128.size inb_S32x768_S1x128_30_384).toLoadRect (harg9.unread x8)) (kernelRun0_A.sl.v3385 (F := Ideal) c i arg1 harg1 arg2 harg2 arg16 x0 x1)) (ix2 r l) = conv i x0 x1 x8 x9 (192 + r.val) (384 + l.val) := by
  simp only [kernelRun0_A.sl.r_259, kernelRun0_A.sl.r_255, kernelRun0_A.sl.r_252, kernelRun0_A.sl.r_249, kernelRun0_A.sl.r_246, kernelRun0_A.sl.r_243, kernelRun0_A.sl.r_240, kernelRun0_A.sl.r_237, kernelRun0_A.sl.r_235, kernelRun0_A.sl.r_233, kernelRun0_A.sl.v3032, kernelRun0_A.sl.v3044, kernelRun0_A.sl.v3056, kernelRun0_A.sl.v3068, kernelRun0_A.sl.v3080, kernelRun0_A.sl.v3092, kernelRun0_A.sl.v3103, kernelRun0_A.sl.r_238, kernelRun0_A.sl.v3114, kernelRun0_A.sl.v3126, kernelRun0_A.sl.v3138, kernelRun0_A.sl.r_241, kernelRun0_A.sl.v3150, kernelRun0_A.sl.v3162, kernelRun0_A.sl.v3174, kernelRun0_A.sl.r_244, kernelRun0_A.sl.v3186, kernelRun0_A.sl.v3197, kernelRun0_A.sl.v3208, kernelRun0_A.sl.r_247, kernelRun0_A.sl.v3220, kernelRun0_A.sl.v3232, kernelRun0_A.sl.v3244, kernelRun0_A.sl.r_250, kernelRun0_A.sl.v3256, kernelRun0_A.sl.v3268, kernelRun0_A.sl.v3280, kernelRun0_A.sl.r_253, kernelRun0_A.sl.v3291, kernelRun0_A.sl.v3302, kernelRun0_A.sl.v3314, kernelRun0_A.sl.r_256, kernelRun0_A.sl.v3326, kernelRun0_A.sl.v3338, kernelRun0_A.sl.v3350, kernelRun0_A.sl.r_260, kernelRun0_A.sl.v3362, kernelRun0_A.sl.v3374, kernelRun0_A.sl.v3385, View.readAt_eq_ld, Memref.IsWhole.read_unread, View.readCov_eq_canon', hs1, hs2]
  pointwise [k0_pay451, k0_pay453, k0_pay454, k0_pay455, k0_pay456, k0_pay458, k0_pay459, k0_pay460, k0_pay461, k0_pay463, k0_pay464, k0_pay465, k0_pay466, k0_pay467, k0_pay469, k0_pay470, k0_pay471, k0_pay472, k0_pay473, k0_pay475, k0_pay476, k0_pay477, k0_pay478, k0_pay479, k0_pay481, k0_pay482, k0_pay483, k0_pay484, k0_pay486, k0_pay487, k0_pay488, k0_pay489, k0_pay491, k0_pay492, k0_pay493, k0_pay494, k0_pay496, k0_pay497, k0_pay499, k0_pay500, k0_pay502, k0_pay503, k0_pay505, k0_pay506, k0_pay508]
  simp only [at2_eq]
  refine Eq.trans ?_ (chain31 (fun k => at2 x8 k (384 + l.val) * gated i x0 x1 (192 + r.val + k + 2) (384 + l.val)) _)
  iterate 31 refine congrArg₂ (· + ·) ?_ (congrArg₂ (· * ·) rfl (congrArg (fun z => gated i x0 x1 z _) (by omega)))
  rfl

/-- The block's convolution, rows from 128 and columns from 384. -/
theorem piece9 (r : Fin 64) (l : Fin 128) : (k0_pay507 (F := Ideal) (kernelRun0_A.sl.r_258 (F := Ideal) c i arg1 harg1 arg2 harg2 arg9 harg9 arg10 harg10 arg16 arg17 x0 x1 x8 x9) (kernelRun0_A.sl.r_261 (F := Ideal) c i arg1 harg1 arg2 harg2 arg9 harg9 arg16 arg17 x0 x1 x8) (View.readAt (Elt Ideal) arg9.view (Rect.unit (s := S32x768) ![29, 384] S1x128.size inb_S32x768_S1x128_29_384).toLoadRect (harg9.unread x8)) (kernelRun0_A.sl.v3370 (F := Ideal) c i arg1 harg1 arg2 harg2 arg16 arg17 x0 x1) (View.readAt (Elt Ideal) arg9.view (Rect.unit (s := S32x768) ![30, 384] S1x128.size inb_S32x768_S1x128_30_384).toLoadRect (harg9.unread x8)) (kernelRun0_A.sl.v3382 (F := Ideal) c i arg1 harg1 arg2 harg2 arg16 x0 x1)) (ix2 r l) = conv i x0 x1 x8 x9 (128 + r.val) (384 + l.val) := by
  simp only [kernelRun0_A.sl.r_258, kernelRun0_A.sl.r_254, kernelRun0_A.sl.r_251, kernelRun0_A.sl.r_248, kernelRun0_A.sl.r_245, kernelRun0_A.sl.r_242, kernelRun0_A.sl.r_239, kernelRun0_A.sl.r_236, kernelRun0_A.sl.r_234, kernelRun0_A.sl.r_232, kernelRun0_A.sl.v3028, kernelRun0_A.sl.v3040, kernelRun0_A.sl.v3052, kernelRun0_A.sl.v3064, kernelRun0_A.sl.v3076, kernelRun0_A.sl.v3088, kernelRun0_A.sl.v3100, kernelRun0_A.sl.r_238, kernelRun0_A.sl.v3110, kernelRun0_A.sl.v3122, kernelRun0_A.sl.v3134, kernelRun0_A.sl.r_241, kernelRun0_A.sl.v3146, kernelRun0_A.sl.v3158, kernelRun0_A.sl.v3170, kernelRun0_A.sl.r_244, kernelRun0_A.sl.v3182, kernelRun0_A.sl.v3194, kernelRun0_A.sl.v3204, kernelRun0_A.sl.r_247, kernelRun0_A.sl.v3216, kernelRun0_A.sl.v3228, kernelRun0_A.sl.v3240, kernelRun0_A.sl.r_250, kernelRun0_A.sl.v3252, kernelRun0_A.sl.v3264, kernelRun0_A.sl.v3276, kernelRun0_A.sl.r_253, kernelRun0_A.sl.v3288, kernelRun0_A.sl.v3298, kernelRun0_A.sl.v3310, kernelRun0_A.sl.r_257, kernelRun0_A.sl.v3322, kernelRun0_A.sl.v3334, kernelRun0_A.sl.v3346, kernelRun0_A.sl.r_261, kernelRun0_A.sl.v3358, kernelRun0_A.sl.v3370, kernelRun0_A.sl.v3382, View.readAt_eq_ld, Memref.IsWhole.read_unread, View.readCov_eq_canon', hs1, hs2]
  pointwise [k0_pay451, k0_pay452, k0_pay454, k0_pay455, k0_pay456, k0_pay457, k0_pay459, k0_pay460, k0_pay461, k0_pay462, k0_pay464, k0_pay465, k0_pay466, k0_pay467, k0_pay468, k0_pay470, k0_pay471, k0_pay472, k0_pay473, k0_pay474, k0_pay476, k0_pay477, k0_pay478, k0_pay479, k0_pay480, k0_pay482, k0_pay483, k0_pay484, k0_pay485, k0_pay487, k0_pay488, k0_pay489, k0_pay490, k0_pay492, k0_pay493, k0_pay494, k0_pay495, k0_pay497, k0_pay498, k0_pay499, k0_pay500, k0_pay501, k0_pay503, k0_pay504, k0_pay505, k0_pay506, k0_pay507]
  simp only [at2_eq]
  refine Eq.trans ?_ (chain31 (fun k => at2 x8 k (384 + l.val) * gated i x0 x1 (128 + r.val + k + 2) (384 + l.val)) _)
  iterate 31 refine congrArg₂ (· + ·) ?_ (congrArg₂ (· * ·) rfl (congrArg (fun z => gated i x0 x1 z _) (by omega)))
  rfl

/-- The block's convolution, rows from 64 and columns from 384. -/
theorem piece10 (r : Fin 64) (l : Fin 128) : (k0_pay450 (F := Ideal) (kernelRun0_A.sl.r_229 (F := Ideal) c i arg1 harg1 arg2 harg2 arg9 harg9 arg10 harg10 arg16 arg17 x0 x1 x8 x9) (kernelRun0_A.sl.r_230 (F := Ideal) c arg9 harg9 x8) (kernelRun0_A.sl.v3000 (F := Ideal) c i arg1 harg1 arg2 harg2 arg16 arg17 x0 x1) (View.readAt (Elt Ideal) arg9.view (Rect.unit (s := S32x768) ![30, 384] S1x128.size inb_S32x768_S1x128_30_384).toLoadRect (harg9.unread x8)) (kernelRun0_A.sl.v3011 (F := Ideal) c i arg1 harg1 arg2 harg2 arg16 x0 x1)) (ix2 r l) = conv i x0 x1 x8 x9 (64 + r.val) (384 + l.val) := by
  simp only [kernelRun0_A.sl.r_229, kernelRun0_A.sl.r_226, kernelRun0_A.sl.r_223, kernelRun0_A.sl.r_220, kernelRun0_A.sl.r_216, kernelRun0_A.sl.r_213, kernelRun0_A.sl.r_210, kernelRun0_A.sl.r_207, kernelRun0_A.sl.r_204, kernelRun0_A.sl.r_201, kernelRun0_A.sl.v2658, kernelRun0_A.sl.v2670, kernelRun0_A.sl.r_202, kernelRun0_A.sl.v2682, kernelRun0_A.sl.v2694, kernelRun0_A.sl.v2706, kernelRun0_A.sl.r_205, kernelRun0_A.sl.v2718, kernelRun0_A.sl.v2729, kernelRun0_A.sl.v2740, kernelRun0_A.sl.r_208, kernelRun0_A.sl.v2752, kernelRun0_A.sl.v2764, kernelRun0_A.sl.v2776, kernelRun0_A.sl.r_211, kernelRun0_A.sl.v2788, kernelRun0_A.sl.v2800, kernelRun0_A.sl.v2812, kernelRun0_A.sl.r_214, kernelRun0_A.sl.v2823, kernelRun0_A.sl.v2834, kernelRun0_A.sl.v2846, kernelRun0_A.sl.r_217, kernelRun0_A.sl.v2858, kernelRun0_A.sl.v2870, kernelRun0_A.sl.v2882, kernelRun0_A.sl.r_221, kernelRun0_A.sl.v2894, kernelRun0_A.sl.v2906, kernelRun0_A.sl.v2917, kernelRun0_A.sl.r_224, kernelRun0_A.sl.v2928, kernelRun0_A.sl.v2940, kernelRun0_A.sl.v2952, kernelRun0_A.sl.r_227, kernelRun0_A.sl.v2964, kernelRun0_A.sl.v2976, kernelRun0_A.sl.v2988, kernelRun0_A.sl.r_230, kernelRun0_A.sl.v3000, kernelRun0_A.sl.v3011, View.readAt_eq_ld, Memref.IsWhole.read_unread, View.readCov_eq_canon', hs1, hs2]
  pointwise [k0_pay394, k0_pay395, k0_pay397, k0_pay398, k0_pay399, k0_pay400, k0_pay401, k0_pay403, k0_pay404, k0_pay405, k0_pay406, k0_pay407, k0_pay409, k0_pay410, k0_pay411, k0_pay412, k0_pay414, k0_pay415, k0_pay416, k0_pay417, k0_pay419, k0_pay420, k0_pay421, k0_pay422, k0_pay424, k0_pay425, k0_pay427, k0_pay428, k0_pay430, k0_pay431, k0_pay433, k0_pay434, k0_pay435, k0_pay436, k0_pay438, k0_pay439, k0_pay440, k0_pay441, k0_pay443, k0_pay444, k0_pay445, k0_pay446, k0_pay448, k0_pay450]
  simp only [at2_eq]
  refine Eq.trans ?_ (chain31 (fun k => at2 x8 k (384 + l.val) * gated i x0 x1 (64 + r.val + k + 2) (384 + l.val)) _)
  iterate 31 refine congrArg₂ (· + ·) ?_ (congrArg₂ (· * ·) rfl (congrArg (fun z => gated i x0 x1 z _) (by omega)))
  rfl

/-- The block's convolution, rows from 0 and columns from 384. -/
theorem piece11 (r : Fin 64) (l : Fin 128) : (k0_pay449 (F := Ideal) (kernelRun0_A.sl.r_231 (F := Ideal) c i arg1 harg1 arg2 harg2 arg9 harg9 arg10 harg10 arg16 arg17 x0 x1 x8 x9) (View.readAt (Elt Ideal) arg9.view (Rect.unit (s := S32x768) ![30, 384] S1x128.size inb_S32x768_S1x128_30_384).toLoadRect (harg9.unread x8)) (kernelRun0_A.sl.v3008 (F := Ideal) c i arg1 harg1 arg2 harg2 arg16 x0 x1)) (ix2 r l) = conv i x0 x1 x8 x9 (r.val) (384 + l.val) := by
  simp only [kernelRun0_A.sl.r_231, kernelRun0_A.sl.r_228, kernelRun0_A.sl.r_225, kernelRun0_A.sl.r_219, kernelRun0_A.sl.r_215, kernelRun0_A.sl.r_212, kernelRun0_A.sl.r_209, kernelRun0_A.sl.r_206, kernelRun0_A.sl.r_203, kernelRun0_A.sl.r_200, kernelRun0_A.sl.v2654, kernelRun0_A.sl.v2666, kernelRun0_A.sl.r_202, kernelRun0_A.sl.v2678, kernelRun0_A.sl.v2690, kernelRun0_A.sl.v2702, kernelRun0_A.sl.r_205, kernelRun0_A.sl.v2714, kernelRun0_A.sl.v2726, kernelRun0_A.sl.v2736, kernelRun0_A.sl.r_208, kernelRun0_A.sl.v2748, kernelRun0_A.sl.v2760, kernelRun0_A.sl.v2772, kernelRun0_A.sl.r_211, kernelRun0_A.sl.v2784, kernelRun0_A.sl.v2796, kernelRun0_A.sl.v2808, kernelRun0_A.sl.r_214, kernelRun0_A.sl.v2820, kernelRun0_A.sl.v2830, kernelRun0_A.sl.v2842, kernelRun0_A.sl.r_218, kernelRun0_A.sl.v2854, kernelRun0_A.sl.v2866, kernelRun0_A.sl.v2878, kernelRun0_A.sl.r_222, kernelRun0_A.sl.v2890, kernelRun0_A.sl.v2902, kernelRun0_A.sl.v2914, kernelRun0_A.sl.v2924, kernelRun0_A.sl.v2936, kernelRun0_A.sl.v2948, kernelRun0_A.sl.v2960, kernelRun0_A.sl.v2972, kernelRun0_A.sl.v2984, kernelRun0_A.sl.v2996, kernelRun0_A.sl.v3008, View.readAt_eq_ld, Memref.IsWhole.read_unread, View.readCov_eq_canon', hs1, hs2]
  pointwise [k0_pay394, k0_pay395, k0_pay396, k0_pay398, k0_pay399, k0_pay400, k0_pay401, k0_pay402, k0_pay404, k0_pay405, k0_pay406, k0_pay407, k0_pay408, k0_pay410, k0_pay411, k0_pay412, k0_pay413, k0_pay415, k0_pay416, k0_pay417, k0_pay418, k0_pay420, k0_pay421, k0_pay422, k0_pay423, k0_pay425, k0_pay426, k0_pay427, k0_pay428, k0_pay429, k0_pay431, k0_pay432, k0_pay433, k0_pay434, k0_pay436, k0_pay437, k0_pay438, k0_pay439, k0_pay441, k0_pay442, k0_pay443, k0_pay444, k0_pay446, k0_pay447, k0_pay448, k0_pay449]
  simp only [at2_eq]
  refine Eq.trans ?_ (chain31 (fun k => at2 x8 k (384 + l.val) * gated i x0 x1 (r.val + k + 2) (384 + l.val)) _)
  iterate 31 refine congrArg₂ (· + ·) ?_ (congrArg₂ (· * ·) rfl (congrArg (fun z => gated i x0 x1 z _) (by omega)))
  rfl

/-- The block's convolution, rows from 192 and columns from 256. -/
theorem piece12 (r : Fin 64) (l : Fin 128) : (kernelRun0_A.sl.r_199 (F := Ideal) c i arg1 harg1 arg2 harg2 arg9 harg9 arg10 harg10 arg16 arg17 x0 x1 x8 x9) (ix2 r l) = conv i x0 x1 x8 x9 (192 + r.val) (256 + l.val) := by
  simp only [kernelRun0_A.sl.r_199, kernelRun0_A.sl.r_198, kernelRun0_A.sl.r_196, kernelRun0_A.sl.r_192, kernelRun0_A.sl.r_189, kernelRun0_A.sl.r_186, kernelRun0_A.sl.r_183, kernelRun0_A.sl.r_179, kernelRun0_A.sl.r_176, kernelRun0_A.sl.r_173, kernelRun0_A.sl.r_170, kernelRun0_A.sl.r_171, kernelRun0_A.sl.v2284, kernelRun0_A.sl.v2296, kernelRun0_A.sl.v2308, kernelRun0_A.sl.r_174, kernelRun0_A.sl.v2320, kernelRun0_A.sl.v2332, kernelRun0_A.sl.v2344, kernelRun0_A.sl.r_177, kernelRun0_A.sl.v2355, kernelRun0_A.sl.v2366, kernelRun0_A.sl.v2378, kernelRun0_A.sl.r_180, kernelRun0_A.sl.v2390, kernelRun0_A.sl.v2402, kernelRun0_A.sl.v2414, kernelRun0_A.sl.r_184, kernelRun0_A.sl.v2426, kernelRun0_A.sl.v2438, kernelRun0_A.sl.v2449, kernelRun0_A.sl.r_187, kernelRun0_A.sl.v2460, kernelRun0_A.sl.v2472, kernelRun0_A.sl.v2484, kernelRun0_A.sl.r_190, kernelRun0_A.sl.v2496, kernelRun0_A.sl.v2508, kernelRun0_A.sl.v2520, kernelRun0_A.sl.r_193, kernelRun0_A.sl.v2532, kernelRun0_A.sl.v2543, kernelRun0_A.sl.v2554, kernelRun0_A.sl.v2566, kernelRun0_A.sl.v2578, kernelRun0_A.sl.v2590, kernelRun0_A.sl.v2602, kernelRun0_A.sl.v2614, kernelRun0_A.sl.v2626, kernelRun0_A.sl.v2637, View.readAt_eq_ld, Memref.IsWhole.read_unread, View.readCov_eq_canon', hs1, hs2]
  pointwise [k0_pay340, k0_pay341, k0_pay342, k0_pay343, k0_pay345, k0_pay346, k0_pay347, k0_pay348, k0_pay350, k0_pay351, k0_pay352, k0_pay353, k0_pay355, k0_pay356, k0_pay358, k0_pay359, k0_pay361, k0_pay362, k0_pay364, k0_pay365, k0_pay366, k0_pay367, k0_pay369, k0_pay370, k0_pay371, k0_pay372, k0_pay374, k0_pay375, k0_pay376, k0_pay377, k0_pay379, k0_pay380, k0_pay381, k0_pay383, k0_pay384, k0_pay385, k0_pay386, k0_pay388, k0_pay389, k0_pay390, k0_pay391, k0_pay393]
  simp only [at2_eq]
  refine Eq.trans ?_ (chain31 (fun k => at2 x8 k (256 + l.val) * gated i x0 x1 (192 + r.val + k + 2) (256 + l.val)) _)
  iterate 31 refine congrArg₂ (· + ·) ?_ (congrArg₂ (· * ·) rfl (congrArg (fun z => gated i x0 x1 z _) (by omega)))
  rfl

/-- The block's convolution, rows from 128 and columns from 256. -/
theorem piece13 (r : Fin 64) (l : Fin 128) : (k0_pay392 (F := Ideal) (kernelRun0_A.sl.r_197 (F := Ideal) c i arg1 harg1 arg2 harg2 arg9 harg9 arg10 harg10 arg16 arg17 x0 x1 x8 x9) (View.readAt (Elt Ideal) arg9.view (Rect.unit (s := S32x768) ![28, 256] S1x128.size inb_S32x768_S1x128_28_256).toLoadRect (harg9.unread x8)) (kernelRun0_A.sl.v2610 (F := Ideal) c i arg1 harg1 arg2 harg2 arg16 arg17 x0 x1) (View.readAt (Elt Ideal) arg9.view (Rect.unit (s := S32x768) ![29, 256] S1x128.size inb_S32x768_S1x128_29_256).toLoadRect (harg9.unread x8)) (kernelRun0_A.sl.v2622 (F := Ideal) c i arg1 harg1 arg2 harg2 arg16 arg17 x0 x1) (View.readAt (Elt Ideal) arg9.view (Rect.unit (s := S32x768) ![30, 256] S1x128.size inb_S32x768_S1x128_30_256).toLoadRect (harg9.unread x8)) (kernelRun0_A.sl.v2634 (F := Ideal) c i arg1 harg1 arg2 harg2 arg16 x0 x1)) (ix2 r l) = conv i x0 x1 x8 x9 (128 + r.val) (256 + l.val) := by
  simp only [kernelRun0_A.sl.r_197, kernelRun0_A.sl.r_195, kernelRun0_A.sl.r_194, kernelRun0_A.sl.r_191, kernelRun0_A.sl.r_188, kernelRun0_A.sl.r_182, kernelRun0_A.sl.r_178, kernelRun0_A.sl.r_175, kernelRun0_A.sl.r_172, kernelRun0_A.sl.r_169, kernelRun0_A.sl.r_171, kernelRun0_A.sl.v2280, kernelRun0_A.sl.v2292, kernelRun0_A.sl.v2304, kernelRun0_A.sl.r_174, kernelRun0_A.sl.v2316, kernelRun0_A.sl.v2328, kernelRun0_A.sl.v2340, kernelRun0_A.sl.r_177, kernelRun0_A.sl.v2352, kernelRun0_A.sl.v2362, kernelRun0_A.sl.v2374, kernelRun0_A.sl.r_181, kernelRun0_A.sl.v2386, kernelRun0_A.sl.v2398, kernelRun0_A.sl.v2410, kernelRun0_A.sl.r_185, kernelRun0_A.sl.v2422, kernelRun0_A.sl.v2434, kernelRun0_A.sl.v2446, kernelRun0_A.sl.v2456, kernelRun0_A.sl.v2468, kernelRun0_A.sl.v2480, kernelRun0_A.sl.v2492, kernelRun0_A.sl.v2504, kernelRun0_A.sl.v2516, kernelRun0_A.sl.v2528, kernelRun0_A.sl.v2540, kernelRun0_A.sl.v2550, kernelRun0_A.sl.v2562, kernelRun0_A.sl.v2574, kernelRun0_A.sl.v2586, kernelRun0_A.sl.v2598, kernelRun0_A.sl.v2610, kernelRun0_A.sl.v2622, kernelRun0_A.sl.v2634, View.readAt_eq_ld, Memref.IsWhole.read_unread, View.readCov_eq_canon', hs1, hs2]
  pointwise [k0_pay339, k0_pay341, k0_pay342, k0_pay343, k0_pay344, k0_pay346, k0_pay347, k0_pay348, k0_pay349, k0_pay351, k0_pay352, k0_pay353, k0_pay354, k0_pay356, k0_pay357, k0_pay358, k0_pay359, k0_pay360, k0_pay362, k0_pay363, k0_pay364, k0_pay365, k0_pay367, k0_pay368, k0_pay369, k0_pay370, k0_pay372, k0_pay373, k0_pay374, k0_pay375, k0_pay377, k0_pay378, k0_pay379, k0_pay380, k0_pay381, k0_pay382, k0_pay384, k0_pay385, k0_pay386, k0_pay387, k0_pay389, k0_pay390, k0_pay391, k0_pay392]
  simp only [at2_eq]
  refine Eq.trans ?_ (chain31 (fun k => at2 x8 k (256 + l.val) * gated i x0 x1 (128 + r.val + k + 2) (256 + l.val)) _)
  iterate 31 refine congrArg₂ (· + ·) ?_ (congrArg₂ (· * ·) rfl (congrArg (fun z => gated i x0 x1 z _) (by omega)))
  rfl

/-- The block's convolution, rows from 64 and columns from 256. -/
theorem piece14 (r : Fin 64) (l : Fin 128) : (k0_pay338 (F := Ideal) (kernelRun0_A.sl.r_167 (F := Ideal) c i arg1 harg1 arg2 harg2 arg9 harg9 arg10 harg10 arg16 arg17 x0 x1 x8 x9) (kernelRun0_A.sl.r_168 (F := Ideal) c arg9 harg9 x8) (kernelRun0_A.sl.v2252 (F := Ideal) c i arg1 harg1 arg2 harg2 arg16 arg17 x0 x1) (View.readAt (Elt Ideal) arg9.view (Rect.unit (s := S32x768) ![30, 256] S1x128.size inb_S32x768_S1x128_30_256).toLoadRect (harg9.unread x8)) (kernelRun0_A.sl.v2263 (F := Ideal) c i arg1 harg1 arg2 harg2 arg16 x0 x1)) (ix2 r l) = conv i x0 x1 x8 x9 (64 + r.val) (256 + l.val) := by
  simp only [kernelRun0_A.sl.r_167, kernelRun0_A.sl.r_164, kernelRun0_A.sl.r_161, kernelRun0_A.sl.r_159, kernelRun0_A.sl.r_157, kernelRun0_A.sl.r_153, kernelRun0_A.sl.r_150, kernelRun0_A.sl.r_147, kernelRun0_A.sl.r_144, kernelRun0_A.sl.r_140, kernelRun0_A.sl.v1910, kernelRun0_A.sl.r_141, kernelRun0_A.sl.v1922, kernelRun0_A.sl.v1934, kernelRun0_A.sl.v1946, kernelRun0_A.sl.r_145, kernelRun0_A.sl.v1958, kernelRun0_A.sl.v1970, kernelRun0_A.sl.v1981, kernelRun0_A.sl.r_148, kernelRun0_A.sl.v1992, kernelRun0_A.sl.v2004, kernelRun0_A.sl.v2016, kernelRun0_A.sl.r_151, kernelRun0_A.sl.v2028, kernelRun0_A.sl.v2040, kernelRun0_A.sl.v2052, kernelRun0_A.sl.r_154, kernelRun0_A.sl.v2064, kernelRun0_A.sl.v2075, kernelRun0_A.sl.v2086, kernelRun0_A.sl.v2098, kernelRun0_A.sl.v2110, kernelRun0_A.sl.v2122, kernelRun0_A.sl.v2134, kernelRun0_A.sl.v2146, kernelRun0_A.sl.v2158, kernelRun0_A.sl.v2169, kernelRun0_A.sl.r_162, kernelRun0_A.sl.v2180, kernelRun0_A.sl.v2192, kernelRun0_A.sl.v2204, kernelRun0_A.sl.r_165, kernelRun0_A.sl.v2216, kernelRun0_A.sl.v2228, kernelRun0_A.sl.v2240, kernelRun0_A.sl.r_168, kernelRun0_A.sl.v2252, kernelRun0_A.sl.v2263, View.readAt_eq_ld, Memref.IsWhole.read_unread, View.readCov_eq_canon', hs1, hs2]
  pointwise [k0_pay281, k0_pay283, k0_pay284, k0_pay286, k0_pay287, k0_pay289, k0_pay290, k0_pay292, k0_pay293, k0_pay294, k0_pay295, k0_pay297, k0_pay298, k0_pay299, k0_pay300, k0_pay302, k0_pay303, k0_pay304, k0_pay305, k0_pay307, k0_pay308, k0_pay309, k0_pay311, k0_pay312, k0_pay313, k0_pay314, k0_pay316, k0_pay317, k0_pay318, k0_pay319, k0_pay321, k0_pay322, k0_pay323, k0_pay324, k0_pay325, k0_pay327, k0_pay328, k0_pay329, k0_pay330, k0_pay331, k0_pay333, k0_pay334, k0_pay335, k0_pay336, k0_pay338]
  simp only [at2_eq]
  refine Eq.trans ?_ (chain31 (fun k => at2 x8 k (256 + l.val) * gated i x0 x1 (64 + r.val + k + 2) (256 + l.val)) _)
  iterate 31 refine congrArg₂ (· + ·) ?_ (congrArg₂ (· * ·) rfl (congrArg (fun z => gated i x0 x1 z _) (by omega)))
  rfl

/-- The block's convolution, rows from 0 and columns from 256. -/
theorem piece15 (r : Fin 64) (l : Fin 128) : (k0_pay337 (F := Ideal) (kernelRun0_A.sl.r_166 (F := Ideal) c i arg1 harg1 arg2 harg2 arg9 harg9 arg10 harg10 arg16 arg17 x0 x1 x8 x9) (kernelRun0_A.sl.r_168 (F := Ideal) c arg9 harg9 x8) (kernelRun0_A.sl.v2248 (F := Ideal) c i arg1 harg1 arg2 harg2 arg16 arg17 x0 x1) (View.readAt (Elt Ideal) arg9.view (Rect.unit (s := S32x768) ![30, 256] S1x128.size inb_S32x768_S1x128_30_256).toLoadRect (harg9.unread x8)) (kernelRun0_A.sl.v2260 (F := Ideal) c i arg1 harg1 arg2 harg2 arg16 x0 x1)) (ix2 r l) = conv i x0 x1 x8 x9 (r.val) (256 + l.val) := by
  simp only [kernelRun0_A.sl.r_166, kernelRun0_A.sl.r_163, kernelRun0_A.sl.r_160, kernelRun0_A.sl.r_158, kernelRun0_A.sl.r_156, kernelRun0_A.sl.r_155, kernelRun0_A.sl.r_152, kernelRun0_A.sl.r_149, kernelRun0_A.sl.r_143, kernelRun0_A.sl.r_139, kernelRun0_A.sl.v1906, kernelRun0_A.sl.r_142, kernelRun0_A.sl.v1918, kernelRun0_A.sl.v1930, kernelRun0_A.sl.v1942, kernelRun0_A.sl.r_146, kernelRun0_A.sl.v1954, kernelRun0_A.sl.v1966, kernelRun0_A.sl.v1978, kernelRun0_A.sl.v1988, kernelRun0_A.sl.v2000, kernelRun0_A.sl.v2012, kernelRun0_A.sl.v2024, kernelRun0_A.sl.v2036, kernelRun0_A.sl.v2048, kernelRun0_A.sl.v2060, kernelRun0_A.sl.v2072, kernelRun0_A.sl.v2082, kernelRun0_A.sl.v2094, kernelRun0_A.sl.v2106, kernelRun0_A.sl.v2118, kernelRun0_A.sl.v2130, kernelRun0_A.sl.v2142, kernelRun0_A.sl.v2154, kernelRun0_A.sl.v2166, kernelRun0_A.sl.r_162, kernelRun0_A.sl.v2176, kernelRun0_A.sl.v2188, kernelRun0_A.sl.v2200, kernelRun0_A.sl.r_165, kernelRun0_A.sl.v2212, kernelRun0_A.sl.v2224, kernelRun0_A.sl.v2236, kernelRun0_A.sl.r_168, kernelRun0_A.sl.v2248, kernelRun0_A.sl.v2260, View.readAt_eq_ld, Memref.IsWhole.read_unread, View.readCov_eq_canon', hs1, hs2]
  pointwise [k0_pay281, k0_pay282, k0_pay284, k0_pay285, k0_pay286, k0_pay287, k0_pay288, k0_pay290, k0_pay291, k0_pay292, k0_pay293, k0_pay295, k0_pay296, k0_pay297, k0_pay298, k0_pay300, k0_pay301, k0_pay302, k0_pay303, k0_pay305, k0_pay306, k0_pay307, k0_pay308, k0_pay309, k0_pay310, k0_pay312, k0_pay313, k0_pay314, k0_pay315, k0_pay317, k0_pay318, k0_pay319, k0_pay320, k0_pay322, k0_pay323, k0_pay324, k0_pay325, k0_pay326, k0_pay328, k0_pay329, k0_pay330, k0_pay331, k0_pay332, k0_pay334, k0_pay335, k0_pay336, k0_pay337]
  simp only [at2_eq]
  refine Eq.trans ?_ (chain31 (fun k => at2 x8 k (256 + l.val) * gated i x0 x1 (r.val + k + 2) (256 + l.val)) _)
  iterate 31 refine congrArg₂ (· + ·) ?_ (congrArg₂ (· * ·) rfl (congrArg (fun z => gated i x0 x1 z _) (by omega)))
  rfl

/-- The block's convolution, rows from 192 and columns from 128. -/
theorem piece16 (r : Fin 64) (l : Fin 128) : (k0_pay280 (F := Ideal) (kernelRun0_A.sl.r_137 (F := Ideal) c i arg1 harg1 arg2 harg2 arg9 harg9 arg10 harg10 arg16 arg17 x0 x1 x8 x9) (kernelRun0_A.sl.r_138 (F := Ideal) c arg9 harg9 x8) (kernelRun0_A.sl.v1889 (F := Ideal) c i arg1 harg1 arg2 harg2 arg16 x0 x1)) (ix2 r l) = conv i x0 x1 x8 x9 (192 + r.val) (128 + l.val) := by
  simp only [kernelRun0_A.sl.r_137, kernelRun0_A.sl.r_134, kernelRun0_A.sl.r_131, kernelRun0_A.sl.r_128, kernelRun0_A.sl.r_125, kernelRun0_A.sl.r_122, kernelRun0_A.sl.r_120, kernelRun0_A.sl.r_118, kernelRun0_A.sl.r_114, kernelRun0_A.sl.r_111, kernelRun0_A.sl.v1536, kernelRun0_A.sl.v1548, kernelRun0_A.sl.r_112, kernelRun0_A.sl.v1560, kernelRun0_A.sl.v1572, kernelRun0_A.sl.v1584, kernelRun0_A.sl.r_115, kernelRun0_A.sl.v1596, kernelRun0_A.sl.v1607, kernelRun0_A.sl.v1618, kernelRun0_A.sl.v1630, kernelRun0_A.sl.v1642, kernelRun0_A.sl.v1654, kernelRun0_A.sl.v1666, kernelRun0_A.sl.v1678, kernelRun0_A.sl.v1690, kernelRun0_A.sl.v1701, kernelRun0_A.sl.r_123, kernelRun0_A.sl.v1712, kernelRun0_A.sl.v1724, kernelRun0_A.sl.v1736, kernelRun0_A.sl.r_126, kernelRun0_A.sl.v1748, kernelRun0_A.sl.v1760, kernelRun0_A.sl.v1772, kernelRun0_A.sl.r_129, kernelRun0_A.sl.v1784, kernelRun0_A.sl.v1795, kernelRun0_A.sl.v1806, kernelRun0_A.sl.r_132, kernelRun0_A.sl.v1818, kernelRun0_A.sl.v1830, kernelRun0_A.sl.v1842, kernelRun0_A.sl.r_135, kernelRun0_A.sl.v1854, kernelRun0_A.sl.v1866, kernelRun0_A.sl.v1878, kernelRun0_A.sl.r_138, kernelRun0_A.sl.v1889, View.readAt_eq_ld, Memref.IsWhole.read_unread, View.readCov_eq_canon', hs1, hs2]
  pointwise [k0_pay225, k0_pay226, k0_pay227, k0_pay228, k0_pay230, k0_pay231, k0_pay232, k0_pay233, k0_pay235, k0_pay236, k0_pay237, k0_pay239, k0_pay240, k0_pay241, k0_pay242, k0_pay244, k0_pay245, k0_pay246, k0_pay247, k0_pay249, k0_pay250, k0_pay251, k0_pay252, k0_pay253, k0_pay255, k0_pay256, k0_pay257, k0_pay258, k0_pay259, k0_pay261, k0_pay262, k0_pay263, k0_pay264, k0_pay265, k0_pay267, k0_pay268, k0_pay269, k0_pay270, k0_pay272, k0_pay273, k0_pay274, k0_pay275, k0_pay277, k0_pay278, k0_pay280]
  simp only [at2_eq]
  refine Eq.trans ?_ (chain31 (fun k => at2 x8 k (128 + l.val) * gated i x0 x1 (192 + r.val + k + 2) (128 + l.val)) _)
  iterate 31 refine congrArg₂ (· + ·) ?_ (congrArg₂ (· * ·) rfl (congrArg (fun z => gated i x0 x1 z _) (by omega)))
  rfl

/-- The block's convolution, rows from 128 and columns from 128. -/
theorem piece17 (r : Fin 64) (l : Fin 128) : (k0_pay279 (F := Ideal) (kernelRun0_A.sl.r_136 (F := Ideal) c i arg1 harg1 arg2 harg2 arg9 harg9 arg10 harg10 arg16 arg17 x0 x1 x8 x9) (kernelRun0_A.sl.r_138 (F := Ideal) c arg9 harg9 x8) (kernelRun0_A.sl.v1886 (F := Ideal) c i arg1 harg1 arg2 harg2 arg16 x0 x1)) (ix2 r l) = conv i x0 x1 x8 x9 (128 + r.val) (128 + l.val) := by
  simp only [kernelRun0_A.sl.r_136, kernelRun0_A.sl.r_133, kernelRun0_A.sl.r_130, kernelRun0_A.sl.r_127, kernelRun0_A.sl.r_124, kernelRun0_A.sl.r_121, kernelRun0_A.sl.r_119, kernelRun0_A.sl.r_117, kernelRun0_A.sl.r_116, kernelRun0_A.sl.r_113, kernelRun0_A.sl.r_110, kernelRun0_A.sl.v1532, kernelRun0_A.sl.v1544, kernelRun0_A.sl.v1556, kernelRun0_A.sl.v1568, kernelRun0_A.sl.v1580, kernelRun0_A.sl.v1592, kernelRun0_A.sl.v1604, kernelRun0_A.sl.v1614, kernelRun0_A.sl.v1626, kernelRun0_A.sl.v1638, kernelRun0_A.sl.v1650, kernelRun0_A.sl.v1662, kernelRun0_A.sl.v1674, kernelRun0_A.sl.v1686, kernelRun0_A.sl.v1698, kernelRun0_A.sl.r_123, kernelRun0_A.sl.v1708, kernelRun0_A.sl.v1720, kernelRun0_A.sl.v1732, kernelRun0_A.sl.r_126, kernelRun0_A.sl.v1744, kernelRun0_A.sl.v1756, kernelRun0_A.sl.v1768, kernelRun0_A.sl.r_129, kernelRun0_A.sl.v1780, kernelRun0_A.sl.v1792, kernelRun0_A.sl.v1802, kernelRun0_A.sl.r_132, kernelRun0_A.sl.v1814, kernelRun0_A.sl.v1826, kernelRun0_A.sl.v1838, kernelRun0_A.sl.r_135, kernelRun0_A.sl.v1850, kernelRun0_A.sl.v1862, kernelRun0_A.sl.v1874, kernelRun0_A.sl.r_138, kernelRun0_A.sl.v1886, View.readAt_eq_ld, Memref.IsWhole.read_unread, View.readCov_eq_canon', hs1, hs2]
  pointwise [k0_pay224, k0_pay225, k0_pay226, k0_pay228, k0_pay229, k0_pay230, k0_pay231, k0_pay233, k0_pay234, k0_pay235, k0_pay236, k0_pay237, k0_pay238, k0_pay240, k0_pay241, k0_pay242, k0_pay243, k0_pay245, k0_pay246, k0_pay247, k0_pay248, k0_pay250, k0_pay251, k0_pay252, k0_pay253, k0_pay254, k0_pay256, k0_pay257, k0_pay258, k0_pay259, k0_pay260, k0_pay262, k0_pay263, k0_pay264, k0_pay265, k0_pay266, k0_pay268, k0_pay269, k0_pay270, k0_pay271, k0_pay273, k0_pay274, k0_pay275, k0_pay276, k0_pay278, k0_pay279]
  simp only [at2_eq]
  refine Eq.trans ?_ (chain31 (fun k => at2 x8 k (128 + l.val) * gated i x0 x1 (128 + r.val + k + 2) (128 + l.val)) _)
  iterate 31 refine congrArg₂ (· + ·) ?_ (congrArg₂ (· * ·) rfl (congrArg (fun z => gated i x0 x1 z _) (by omega)))
  rfl

/-- The block's convolution, rows from 64 and columns from 128. -/
theorem piece18 (r : Fin 64) (l : Fin 128) : (k0_pay223 (F := Ideal) (kernelRun0_A.sl.r_107 (F := Ideal) c i arg1 harg1 arg2 harg2 arg9 harg9 arg10 harg10 arg16 arg17 x0 x1 x8 x9) (kernelRun0_A.sl.r_108 (F := Ideal) c arg9 harg9 x8) (kernelRun0_A.sl.v1492 (F := Ideal) c i arg1 harg1 arg2 harg2 arg16 arg17 x0 x1) (View.readAt (Elt Ideal) arg9.view (Rect.unit (s := S32x768) ![29, 128] S1x128.size inb_S32x768_S1x128_29_128).toLoadRect (harg9.unread x8)) (kernelRun0_A.sl.v1504 (F := Ideal) c i arg1 harg1 arg2 harg2 arg16 arg17 x0 x1) (View.readAt (Elt Ideal) arg9.view (Rect.unit (s := S32x768) ![30, 128] S1x128.size inb_S32x768_S1x128_30_128).toLoadRect (harg9.unread x8)) (kernelRun0_A.sl.v1515 (F := Ideal) c i arg1 harg1 arg2 harg2 arg16 x0 x1)) (ix2 r l) = conv i x0 x1 x8 x9 (64 + r.val) (128 + l.val) := by
  simp only [kernelRun0_A.sl.r_107, kernelRun0_A.sl.r_103, kernelRun0_A.sl.r_100, kernelRun0_A.sl.r_97, kernelRun0_A.sl.r_94, kernelRun0_A.sl.r_91, kernelRun0_A.sl.r_88, kernelRun0_A.sl.r_85, kernelRun0_A.sl.r_83, kernelRun0_A.sl.r_81, kernelRun0_A.sl.v1162, kernelRun0_A.sl.v1174, kernelRun0_A.sl.v1186, kernelRun0_A.sl.v1198, kernelRun0_A.sl.v1210, kernelRun0_A.sl.v1222, kernelRun0_A.sl.v1233, kernelRun0_A.sl.r_86, kernelRun0_A.sl.v1244, kernelRun0_A.sl.v1256, kernelRun0_A.sl.v1268, kernelRun0_A.sl.r_89, kernelRun0_A.sl.v1280, kernelRun0_A.sl.v1292, kernelRun0_A.sl.v1304, kernelRun0_A.sl.r_92, kernelRun0_A.sl.v1316, kernelRun0_A.sl.v1327, kernelRun0_A.sl.v1338, kernelRun0_A.sl.r_95, kernelRun0_A.sl.v1350, kernelRun0_A.sl.v1362, kernelRun0_A.sl.v1374, kernelRun0_A.sl.r_98, kernelRun0_A.sl.v1386, kernelRun0_A.sl.v1398, kernelRun0_A.sl.v1410, kernelRun0_A.sl.r_101, kernelRun0_A.sl.v1421, kernelRun0_A.sl.v1432, kernelRun0_A.sl.v1444, kernelRun0_A.sl.r_104, kernelRun0_A.sl.v1456, kernelRun0_A.sl.v1468, kernelRun0_A.sl.v1480, kernelRun0_A.sl.r_108, kernelRun0_A.sl.v1492, kernelRun0_A.sl.v1504, kernelRun0_A.sl.v1515, View.readAt_eq_ld, Memref.IsWhole.read_unread, View.readCov_eq_canon', hs1, hs2]
  pointwise [k0_pay166, k0_pay168, k0_pay169, k0_pay170, k0_pay171, k0_pay173, k0_pay174, k0_pay175, k0_pay176, k0_pay178, k0_pay179, k0_pay180, k0_pay181, k0_pay182, k0_pay184, k0_pay185, k0_pay186, k0_pay187, k0_pay188, k0_pay190, k0_pay191, k0_pay192, k0_pay193, k0_pay194, k0_pay196, k0_pay197, k0_pay198, k0_pay199, k0_pay201, k0_pay202, k0_pay203, k0_pay204, k0_pay206, k0_pay207, k0_pay208, k0_pay209, k0_pay211, k0_pay212, k0_pay214, k0_pay215, k0_pay217, k0_pay218, k0_pay220, k0_pay221, k0_pay223]
  simp only [at2_eq]
  refine Eq.trans ?_ (chain31 (fun k => at2 x8 k (128 + l.val) * gated i x0 x1 (64 + r.val + k + 2) (128 + l.val)) _)
  iterate 31 refine congrArg₂ (· + ·) ?_ (congrArg₂ (· * ·) rfl (congrArg (fun z => gated i x0 x1 z _) (by omega)))
  rfl

/-- The block's convolution, rows from 0 and columns from 128. -/
theorem piece19 (r : Fin 64) (l : Fin 128) : (k0_pay222 (F := Ideal) (kernelRun0_A.sl.r_106 (F := Ideal) c i arg1 harg1 arg2 harg2 arg9 harg9 arg10 harg10 arg16 arg17 x0 x1 x8 x9) (kernelRun0_A.sl.r_109 (F := Ideal) c i arg1 harg1 arg2 harg2 arg9 harg9 arg16 arg17 x0 x1 x8) (View.readAt (Elt Ideal) arg9.view (Rect.unit (s := S32x768) ![29, 128] S1x128.size inb_S32x768_S1x128_29_128).toLoadRect (harg9.unread x8)) (kernelRun0_A.sl.v1500 (F := Ideal) c i arg1 harg1 arg2 harg2 arg16 arg17 x0 x1) (View.readAt (Elt Ideal) arg9.view (Rect.unit (s := S32x768) ![30, 128] S1x128.size inb_S32x768_S1x128_30_128).toLoadRect (harg9.unread x8)) (kernelRun0_A.sl.v1512 (F := Ideal) c i arg1 harg1 arg2 harg2 arg16 x0 x1)) (ix2 r l) = conv i x0 x1 x8 x9 (r.val) (128 + l.val) := by
  simp only [kernelRun0_A.sl.r_106, kernelRun0_A.sl.r_102, kernelRun0_A.sl.r_99, kernelRun0_A.sl.r_96, kernelRun0_A.sl.r_93, kernelRun0_A.sl.r_90, kernelRun0_A.sl.r_87, kernelRun0_A.sl.r_84, kernelRun0_A.sl.r_82, kernelRun0_A.sl.r_80, kernelRun0_A.sl.v1158, kernelRun0_A.sl.v1170, kernelRun0_A.sl.v1182, kernelRun0_A.sl.v1194, kernelRun0_A.sl.v1206, kernelRun0_A.sl.v1218, kernelRun0_A.sl.v1230, kernelRun0_A.sl.r_86, kernelRun0_A.sl.v1240, kernelRun0_A.sl.v1252, kernelRun0_A.sl.v1264, kernelRun0_A.sl.r_89, kernelRun0_A.sl.v1276, kernelRun0_A.sl.v1288, kernelRun0_A.sl.v1300, kernelRun0_A.sl.r_92, kernelRun0_A.sl.v1312, kernelRun0_A.sl.v1324, kernelRun0_A.sl.v1334, kernelRun0_A.sl.r_95, kernelRun0_A.sl.v1346, kernelRun0_A.sl.v1358, kernelRun0_A.sl.v1370, kernelRun0_A.sl.r_98, kernelRun0_A.sl.v1382, kernelRun0_A.sl.v1394, kernelRun0_A.sl.v1406, kernelRun0_A.sl.r_101, kernelRun0_A.sl.v1418, kernelRun0_A.sl.v1428, kernelRun0_A.sl.v1440, kernelRun0_A.sl.r_105, kernelRun0_A.sl.v1452, kernelRun0_A.sl.v1464, kernelRun0_A.sl.v1476, kernelRun0_A.sl.r_109, kernelRun0_A.sl.v1488, kernelRun0_A.sl.v1500, kernelRun0_A.sl.v1512, View.readAt_eq_ld, Memref.IsWhole.read_unread, View.readCov_eq_canon', hs1, hs2]
  pointwise [k0_pay166, k0_pay167, k0_pay169, k0_pay170, k0_pay171, k0_pay172, k0_pay174, k0_pay175, k0_pay176, k0_pay177, k0_pay179, k0_pay180, k0_pay181, k0_pay182, k0_pay183, k0_pay185, k0_pay186, k0_pay187, k0_pay188, k0_pay189, k0_pay191, k0_pay192, k0_pay193, k0_pay194, k0_pay195, k0_pay197, k0_pay198, k0_pay199, k0_pay200, k0_pay202, k0_pay203, k0_pay204, k0_pay205, k0_pay207, k0_pay208, k0_pay209, k0_pay210, k0_pay212, k0_pay213, k0_pay214, k0_pay215, k0_pay216, k0_pay218, k0_pay219, k0_pay220, k0_pay221, k0_pay222]
  simp only [at2_eq]
  refine Eq.trans ?_ (chain31 (fun k => at2 x8 k (128 + l.val) * gated i x0 x1 (r.val + k + 2) (128 + l.val)) _)
  iterate 31 refine congrArg₂ (· + ·) ?_ (congrArg₂ (· * ·) rfl (congrArg (fun z => gated i x0 x1 z _) (by omega)))
  rfl

/-- The block's convolution, rows from 192 and columns from 0. -/
theorem piece20 (r : Fin 64) (l : Fin 128) : (k0_pay165 (F := Ideal) (kernelRun0_A.sl.r_77 (F := Ideal) c i arg1 harg1 arg2 harg2 arg9 harg9 arg10 harg10 arg16 arg17 x0 x1 x8 x9) (kernelRun0_A.sl.r_78 (F := Ideal) c arg9 harg9 x8) (kernelRun0_A.sl.v1130 (F := Ideal) c i arg1 harg1 arg2 harg2 arg16 arg17 x0 x1) (View.readAt (Elt Ideal) arg9.view (Rect.unit (s := S32x768) ![30, 0] S1x128.size inb_S32x768_S1x128_30_0).toLoadRect (harg9.unread x8)) (kernelRun0_A.sl.v1141 (F := Ideal) c i arg1 harg1 arg2 harg2 arg16 x0 x1)) (ix2 r l) = conv i x0 x1 x8 x9 (192 + r.val) (l.val) := by
  simp only [kernelRun0_A.sl.r_77, kernelRun0_A.sl.r_74, kernelRun0_A.sl.r_71, kernelRun0_A.sl.r_68, kernelRun0_A.sl.r_64, kernelRun0_A.sl.r_61, kernelRun0_A.sl.r_58, kernelRun0_A.sl.r_55, kernelRun0_A.sl.r_52, kernelRun0_A.sl.r_49, kernelRun0_A.sl.v788, kernelRun0_A.sl.v800, kernelRun0_A.sl.r_50, kernelRun0_A.sl.v812, kernelRun0_A.sl.v824, kernelRun0_A.sl.v836, kernelRun0_A.sl.r_53, kernelRun0_A.sl.v848, kernelRun0_A.sl.v859, kernelRun0_A.sl.v870, kernelRun0_A.sl.r_56, kernelRun0_A.sl.v882, kernelRun0_A.sl.v894, kernelRun0_A.sl.v906, kernelRun0_A.sl.r_59, kernelRun0_A.sl.v918, kernelRun0_A.sl.v930, kernelRun0_A.sl.v942, kernelRun0_A.sl.r_62, kernelRun0_A.sl.v953, kernelRun0_A.sl.v964, kernelRun0_A.sl.v976, kernelRun0_A.sl.r_65, kernelRun0_A.sl.v988, kernelRun0_A.sl.v1000, kernelRun0_A.sl.v1012, kernelRun0_A.sl.r_69, kernelRun0_A.sl.v1024, kernelRun0_A.sl.v1036, kernelRun0_A.sl.v1047, kernelRun0_A.sl.r_72, kernelRun0_A.sl.v1058, kernelRun0_A.sl.v1070, kernelRun0_A.sl.v1082, kernelRun0_A.sl.r_75, kernelRun0_A.sl.v1094, kernelRun0_A.sl.v1106, kernelRun0_A.sl.v1118, kernelRun0_A.sl.r_78, kernelRun0_A.sl.v1130, kernelRun0_A.sl.v1141, View.readAt_eq_ld, Memref.IsWhole.read_unread, View.readCov_eq_canon', hs1, hs2]
  pointwise [k0_pay109, k0_pay110, k0_pay112, k0_pay113, k0_pay114, k0_pay115, k0_pay116, k0_pay118, k0_pay119, k0_pay120, k0_pay121, k0_pay122, k0_pay124, k0_pay125, k0_pay126, k0_pay127, k0_pay129, k0_pay130, k0_pay131, k0_pay132, k0_pay134, k0_pay135, k0_pay136, k0_pay137, k0_pay139, k0_pay140, k0_pay142, k0_pay143, k0_pay145, k0_pay146, k0_pay148, k0_pay149, k0_pay150, k0_pay151, k0_pay153, k0_pay154, k0_pay155, k0_pay156, k0_pay158, k0_pay159, k0_pay160, k0_pay161, k0_pay163, k0_pay165]
  simp only [at2_eq]
  refine Eq.trans ?_ (chain31 (fun k => at2 x8 k (l.val) * gated i x0 x1 (192 + r.val + k + 2) (l.val)) _)
  iterate 31 refine congrArg₂ (· + ·) ?_ (congrArg₂ (· * ·) rfl (congrArg (fun z => gated i x0 x1 z _) (by omega)))
  rfl

/-- The block's convolution, rows from 128 and columns from 0. -/
theorem piece21 (r : Fin 64) (l : Fin 128) : (k0_pay164 (F := Ideal) (kernelRun0_A.sl.r_79 (F := Ideal) c i arg1 harg1 arg2 harg2 arg9 harg9 arg10 harg10 arg16 arg17 x0 x1 x8 x9) (View.readAt (Elt Ideal) arg9.view (Rect.unit (s := S32x768) ![30, 0] S1x128.size inb_S32x768_S1x128_30_0).toLoadRect (harg9.unread x8)) (kernelRun0_A.sl.v1138 (F := Ideal) c i arg1 harg1 arg2 harg2 arg16 x0 x1)) (ix2 r l) = conv i x0 x1 x8 x9 (128 + r.val) (l.val) := by
  simp only [kernelRun0_A.sl.r_79, kernelRun0_A.sl.r_76, kernelRun0_A.sl.r_73, kernelRun0_A.sl.r_67, kernelRun0_A.sl.r_63, kernelRun0_A.sl.r_60, kernelRun0_A.sl.r_57, kernelRun0_A.sl.r_54, kernelRun0_A.sl.r_51, kernelRun0_A.sl.r_48, kernelRun0_A.sl.v784, kernelRun0_A.sl.v796, kernelRun0_A.sl.r_50, kernelRun0_A.sl.v808, kernelRun0_A.sl.v820, kernelRun0_A.sl.v832, kernelRun0_A.sl.r_53, kernelRun0_A.sl.v844, kernelRun0_A.sl.v856, kernelRun0_A.sl.v866, kernelRun0_A.sl.r_56, kernelRun0_A.sl.v878, kernelRun0_A.sl.v890, kernelRun0_A.sl.v902, kernelRun0_A.sl.r_59, kernelRun0_A.sl.v914, kernelRun0_A.sl.v926, kernelRun0_A.sl.v938, kernelRun0_A.sl.r_62, kernelRun0_A.sl.v950, kernelRun0_A.sl.v960, kernelRun0_A.sl.v972, kernelRun0_A.sl.r_66, kernelRun0_A.sl.v984, kernelRun0_A.sl.v996, kernelRun0_A.sl.v1008, kernelRun0_A.sl.r_70, kernelRun0_A.sl.v1020, kernelRun0_A.sl.v1032, kernelRun0_A.sl.v1044, kernelRun0_A.sl.v1054, kernelRun0_A.sl.v1066, kernelRun0_A.sl.v1078, kernelRun0_A.sl.v1090, kernelRun0_A.sl.v1102, kernelRun0_A.sl.v1114, kernelRun0_A.sl.v1126, kernelRun0_A.sl.v1138, View.readAt_eq_ld, Memref.IsWhole.read_unread, View.readCov_eq_canon', hs1, hs2]
  pointwise [k0_pay109, k0_pay110, k0_pay111, k0_pay113, k0_pay114, k0_pay115, k0_pay116, k0_pay117, k0_pay119, k0_pay120, k0_pay121, k0_pay122, k0_pay123, k0_pay125, k0_pay126, k0_pay127, k0_pay128, k0_pay130, k0_pay131, k0_pay132, k0_pay133, k0_pay135, k0_pay136, k0_pay137, k0_pay138, k0_pay140, k0_pay141, k0_pay142, k0_pay143, k0_pay144, k0_pay146, k0_pay147, k0_pay148, k0_pay149, k0_pay151, k0_pay152, k0_pay153, k0_pay154, k0_pay156, k0_pay157, k0_pay158, k0_pay159, k0_pay161, k0_pay162, k0_pay163, k0_pay164]
  simp only [at2_eq]
  refine Eq.trans ?_ (chain31 (fun k => at2 x8 k (l.val) * gated i x0 x1 (128 + r.val + k + 2) (l.val)) _)
  iterate 31 refine congrArg₂ (· + ·) ?_ (congrArg₂ (· * ·) rfl (congrArg (fun z => gated i x0 x1 z _) (by omega)))
  rfl

/-- The block's convolution, rows from 64 and columns from 0. -/
theorem piece22 (r : Fin 64) (l : Fin 128) : (kernelRun0_A.sl.r_47 (F := Ideal) c i arg1 harg1 arg2 harg2 arg9 harg9 arg10 harg10 arg16 arg17 x0 x1 x8 x9) (ix2 r l) = conv i x0 x1 x8 x9 (64 + r.val) (l.val) := by
  simp only [kernelRun0_A.sl.r_47, kernelRun0_A.sl.r_46, kernelRun0_A.sl.r_44, kernelRun0_A.sl.r_40, kernelRun0_A.sl.r_37, kernelRun0_A.sl.r_34, kernelRun0_A.sl.r_31, kernelRun0_A.sl.r_27, kernelRun0_A.sl.r_24, kernelRun0_A.sl.r_21, kernelRun0_A.sl.v401, kernelRun0_A.sl.v400, kernelRun0_A.sl.v399, kernelRun0_A.sl.v409, kernelRun0_A.sl.v408, kernelRun0_A.sl.v407, kernelRun0_A.sl.v414, kernelRun0_A.sl.v426, kernelRun0_A.sl.v438, kernelRun0_A.sl.r_22, kernelRun0_A.sl.v450, kernelRun0_A.sl.v462, kernelRun0_A.sl.v474, kernelRun0_A.sl.r_25, kernelRun0_A.sl.v485, kernelRun0_A.sl.v496, kernelRun0_A.sl.v508, kernelRun0_A.sl.r_28, kernelRun0_A.sl.v520, kernelRun0_A.sl.v532, kernelRun0_A.sl.v544, kernelRun0_A.sl.r_32, kernelRun0_A.sl.v556, kernelRun0_A.sl.v568, kernelRun0_A.sl.v579, kernelRun0_A.sl.r_35, kernelRun0_A.sl.v590, kernelRun0_A.sl.v602, kernelRun0_A.sl.v614, kernelRun0_A.sl.r_38, kernelRun0_A.sl.v626, kernelRun0_A.sl.v638, kernelRun0_A.sl.v650, kernelRun0_A.sl.r_41, kernelRun0_A.sl.v662, kernelRun0_A.sl.v673, kernelRun0_A.sl.v684, kernelRun0_A.sl.v696, kernelRun0_A.sl.v708, kernelRun0_A.sl.v720, kernelRun0_A.sl.v732, kernelRun0_A.sl.v744, kernelRun0_A.sl.v756, kernelRun0_A.sl.v767, View.readAt_eq_ld, Memref.IsWhole.read_unread, View.readCov_eq_canon', hs1, hs2]
  pointwise [k0_pay57, k0_pay58, k0_pay60, k0_pay61, k0_pay62, k0_pay63, k0_pay65, k0_pay66, k0_pay67, k0_pay68, k0_pay70, k0_pay71, k0_pay73, k0_pay74, k0_pay76, k0_pay77, k0_pay79, k0_pay80, k0_pay81, k0_pay82, k0_pay84, k0_pay85, k0_pay86, k0_pay87, k0_pay89, k0_pay90, k0_pay91, k0_pay92, k0_pay94, k0_pay95, k0_pay96, k0_pay98, k0_pay99, k0_pay100, k0_pay101, k0_pay103, k0_pay104, k0_pay105, k0_pay106, k0_pay108]
  simp only [at2_eq]
  refine Eq.trans ?_ (chain31 (fun k => at2 x8 k (l.val) * gated i x0 x1 (64 + r.val + k + 2) (l.val)) _)
  iterate 31 refine congrArg₂ (· + ·) ?_ (congrArg₂ (· * ·) rfl (congrArg (fun z => gated i x0 x1 z _) (by omega)))
  rfl

/-- The block's convolution, rows from 0 and columns from 0. -/
theorem piece23 (r : Fin 64) (l : Fin 128) : (k0_pay107 (F := Ideal) (kernelRun0_A.sl.r_45 (F := Ideal) c i arg1 harg1 arg2 harg2 arg9 harg9 arg10 harg10 arg16 arg17 x0 x1 x8 x9) (View.readAt (Elt Ideal) arg9.view (Rect.unit (s := S32x768) ![28, 0] S1x128.size inb_S32x768_S1x128_28_0).toLoadRect (harg9.unread x8)) (kernelRun0_A.sl.v740 (F := Ideal) c i arg1 harg1 arg2 harg2 arg16 arg17 x0 x1) (View.readAt (Elt Ideal) arg9.view (Rect.unit (s := S32x768) ![29, 0] S1x128.size inb_S32x768_S1x128_29_0).toLoadRect (harg9.unread x8)) (kernelRun0_A.sl.v752 (F := Ideal) c i arg1 harg1 arg2 harg2 arg16 arg17 x0 x1) (View.readAt (Elt Ideal) arg9.view (Rect.unit (s := S32x768) ![30, 0] S1x128.size inb_S32x768_S1x128_30_0).toLoadRect (harg9.unread x8)) (kernelRun0_A.sl.v764 (F := Ideal) c i arg1 harg1 arg2 harg2 arg16 x0 x1)) (ix2 r l) = conv i x0 x1 x8 x9 (r.val) (l.val) := by
  simp only [kernelRun0_A.sl.r_45, kernelRun0_A.sl.r_43, kernelRun0_A.sl.r_42, kernelRun0_A.sl.r_39, kernelRun0_A.sl.r_36, kernelRun0_A.sl.r_30, kernelRun0_A.sl.r_26, kernelRun0_A.sl.r_23, kernelRun0_A.sl.r_20, kernelRun0_A.sl.v401, kernelRun0_A.sl.v400, kernelRun0_A.sl.v399, kernelRun0_A.sl.v409, kernelRun0_A.sl.v408, kernelRun0_A.sl.v407, kernelRun0_A.sl.v410, kernelRun0_A.sl.v422, kernelRun0_A.sl.v434, kernelRun0_A.sl.r_22, kernelRun0_A.sl.v446, kernelRun0_A.sl.v458, kernelRun0_A.sl.v470, kernelRun0_A.sl.r_25, kernelRun0_A.sl.v482, kernelRun0_A.sl.v492, kernelRun0_A.sl.v504, kernelRun0_A.sl.r_29, kernelRun0_A.sl.v516, kernelRun0_A.sl.v528, kernelRun0_A.sl.v540, kernelRun0_A.sl.r_33, kernelRun0_A.sl.v552, kernelRun0_A.sl.v564, kernelRun0_A.sl.v576, kernelRun0_A.sl.v586, kernelRun0_A.sl.v598, kernelRun0_A.sl.v610, kernelRun0_A.sl.v622, kernelRun0_A.sl.v634, kernelRun0_A.sl.v646, kernelRun0_A.sl.v658, kernelRun0_A.sl.v670, kernelRun0_A.sl.v680, kernelRun0_A.sl.v692, kernelRun0_A.sl.v704, kernelRun0_A.sl.v716, kernelRun0_A.sl.v728, kernelRun0_A.sl.v740, kernelRun0_A.sl.v752, kernelRun0_A.sl.v764, View.readAt_eq_ld, Memref.IsWhole.read_unread, View.readCov_eq_canon', hs1, hs2]
  pointwise [k0_pay57, k0_pay58, k0_pay59, k0_pay61, k0_pay62, k0_pay63, k0_pay64, k0_pay66, k0_pay67, k0_pay68, k0_pay69, k0_pay71, k0_pay72, k0_pay73, k0_pay74, k0_pay75, k0_pay77, k0_pay78, k0_pay79, k0_pay80, k0_pay82, k0_pay83, k0_pay84, k0_pay85, k0_pay87, k0_pay88, k0_pay89, k0_pay90, k0_pay92, k0_pay93, k0_pay94, k0_pay95, k0_pay96, k0_pay97, k0_pay99, k0_pay100, k0_pay101, k0_pay102, k0_pay104, k0_pay105, k0_pay106, k0_pay107]
  simp only [at2_eq]
  refine Eq.trans ?_ (chain31 (fun k => at2 x8 k (l.val) * gated i x0 x1 (r.val + k + 2) (l.val)) _)
  iterate 31 refine congrArg₂ (· + ·) ?_ (congrArg₂ (· * ·) rfl (congrArg (fun z => gated i x0 x1 z _) (by omega)))
  rfl

theorem hcv_cover (y : S256x768.Idx) : ∃ pc ∈ kernelRun0_A.sl.H13_24 (F := Ideal) c i arg1 harg1 arg2 harg2 arg9 harg9 arg10 harg10 arg16 arg17 x0 x1 x8 x9, y ∈ pc.1.set :=
  View.cover_of_tiledL (kernelRun0_A.sl.H13_24 (F := Ideal) c i arg1 harg1 arg2 harg2 arg9 harg9 arg10 harg10 arg16 arg17 x0 x1 x8 x9) S64x128.size (by sl_kernel_rfl) y

theorem hcv_pieces : View.PiecesOf (Val := Elt Ideal) (s := S256x768) (e := .f32) (fun y => conv i x0 x1 x8 x9 (y 0).val (y 1).val) (kernelRun0_A.sl.H13_24 c i arg1 harg1 arg2 harg2 arg9 harg9 arg10 harg10 arg16 arg17 x0 x1 x8 x9) := by
  unfold kernelRun0_A.sl.H13_24
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩ <;> idx_vars x <;> simp only [Rect.emb_apply]
  · refine (piece0 c i arg1 harg1 arg2 harg2 arg9 harg9 arg10 harg10 arg16 arg17 _ _ x8 x9 _ _).trans ?_; simp
  · refine (piece1 c i arg1 harg1 arg2 harg2 arg9 harg9 arg10 harg10 arg16 arg17 _ _ x8 x9 _ _).trans ?_; simp
  · refine (piece2 c i arg1 harg1 arg2 harg2 arg9 harg9 arg10 harg10 arg16 arg17 _ _ x8 x9 _ _).trans ?_; simp
  · refine (piece3 c i arg1 harg1 arg2 harg2 arg9 harg9 arg10 harg10 arg16 arg17 _ _ x8 x9 _ _).trans ?_; simp
  · refine (piece4 c i arg1 harg1 arg2 harg2 arg9 harg9 arg10 harg10 arg16 arg17 _ _ x8 x9 _ _).trans ?_; simp
  · refine (piece5 c i arg1 harg1 arg2 harg2 arg9 harg9 arg10 harg10 arg16 arg17 _ _ x8 x9 _ _).trans ?_; simp
  · refine (piece6 c i arg1 harg1 arg2 harg2 arg9 harg9 arg10 harg10 arg16 arg17 _ _ x8 x9 _ _).trans ?_; simp
  · refine (piece7 c i arg1 harg1 arg2 harg2 arg9 harg9 arg10 harg10 arg16 arg17 _ _ x8 x9 _ _).trans ?_; simp
  · refine (piece8 c i arg1 harg1 arg2 harg2 arg9 harg9 arg10 harg10 arg16 arg17 _ _ x8 x9 _ _).trans ?_; simp
  · refine (piece9 c i arg1 harg1 arg2 harg2 arg9 harg9 arg10 harg10 arg16 arg17 _ _ x8 x9 _ _).trans ?_; simp
  · refine (piece10 c i arg1 harg1 arg2 harg2 arg9 harg9 arg10 harg10 arg16 arg17 _ _ x8 x9 _ _).trans ?_; simp
  · refine (piece11 c i arg1 harg1 arg2 harg2 arg9 harg9 arg10 harg10 arg16 arg17 _ _ x8 x9 _ _).trans ?_; simp
  · refine (piece12 c i arg1 harg1 arg2 harg2 arg9 harg9 arg10 harg10 arg16 arg17 _ _ x8 x9 _ _).trans ?_; simp
  · refine (piece13 c i arg1 harg1 arg2 harg2 arg9 harg9 arg10 harg10 arg16 arg17 _ _ x8 x9 _ _).trans ?_; simp
  · refine (piece14 c i arg1 harg1 arg2 harg2 arg9 harg9 arg10 harg10 arg16 arg17 _ _ x8 x9 _ _).trans ?_; simp
  · refine (piece15 c i arg1 harg1 arg2 harg2 arg9 harg9 arg10 harg10 arg16 arg17 _ _ x8 x9 _ _).trans ?_; simp
  · refine (piece16 c i arg1 harg1 arg2 harg2 arg9 harg9 arg10 harg10 arg16 arg17 _ _ x8 x9 _ _).trans ?_; simp
  · refine (piece17 c i arg1 harg1 arg2 harg2 arg9 harg9 arg10 harg10 arg16 arg17 _ _ x8 x9 _ _).trans ?_; simp
  · refine (piece18 c i arg1 harg1 arg2 harg2 arg9 harg9 arg10 harg10 arg16 arg17 _ _ x8 x9 _ _).trans ?_; simp
  · refine (piece19 c i arg1 harg1 arg2 harg2 arg9 harg9 arg10 harg10 arg16 arg17 _ _ x8 x9 _ _).trans ?_; simp
  · refine (piece20 c i arg1 harg1 arg2 harg2 arg9 harg9 arg10 harg10 arg16 arg17 _ _ x8 x9 _ _).trans ?_; simp
  · refine (piece21 c i arg1 harg1 arg2 harg2 arg9 harg9 arg10 harg10 arg16 arg17 _ _ x8 x9 _ _).trans ?_; simp
  · refine (piece22 c i arg1 harg1 arg2 harg2 arg9 harg9 arg10 harg10 arg16 arg17 _ _ x8 x9 _ _).trans ?_; simp
  · refine (piece23 c i arg1 harg1 arg2 harg2 arg9 harg9 arg10 harg10 arg16 arg17 _ _ x8 x9 _ _).trans ?_; simp

theorem hcv (y : S256x768.Idx) :
    View.canon (Val := Elt Ideal) (kernelRun0_A.sl.H13_24 c i arg1 harg1 arg2 harg2 arg9 harg9 arg10 harg10 arg16 arg17 x0 x1 x8 x9) y = conv i x0 x1 x8 x9 (y 0).val (y 1).val :=
  View.canon_apply_of_pieces (Val := Elt Ideal) (S := S256x768) (e := .f32) (fun y => conv i x0 x1 x8 x9 (y 0).val (y 1).val) _
    (View.PiecesOf.mem (hcv_pieces c i arg1 harg1 arg2 harg2 arg9 harg9 arg10 harg10 arg16 arg17 x0 x1 x8 x9)) y
    (hcv_cover c i arg1 harg1 arg2 harg2 arg9 harg9 arg10 harg10 arg16 arg17 x0 x1 x8 x9 y)

end Cert.MixFwdIdeal.Hand

end
-- ==== Proof.MixFwd.Mixed.lean ====
module

public import proofs.«01_k».proof.Proof.Gen.MixFwdIdeal.Value
public import Idealize.ShloMosaic.Lib.Pipeline.ValueKit
public import Idealize.ShloMosaic.Lib.Pipeline.ReadBack
public import proofs.«01_k».proof.Proof.MixFwd.Conv

@[expose] public section

set_option maxRecDepth 16384

noncomputable section

namespace Cert.MixFwdIdeal.Hand

open Idealize.ShloMosaic Idealize.ShloMosaic.TcCoe Idealize.SL.Sem
open Idealize.ShloMosaic.Pipeline (Dat)
open Cert.MixFwdIdeal Cert.MixFwdIdeal.Gen
open Cert.Hand

variable (c : Dev nD) (i : grid0.Coords) (arg1 : Memref sig .tc .vmem S256x3584 .f32) (harg1 : arg1.IsWhole) (arg2 : Memref sig .tc .vmem S32x3584 .f32) (harg2 : arg2.IsWhole)
  (arg9 : Memref sig .tc .vmem S32x768 .f32) (harg9 : arg9.IsWhole) (arg10 : Memref sig .tc .vmem S1x768 .f32) (harg10 : arg10.IsWhole)
  (arg15 : Memref sig .tc .vmem S272x512 .f32) (arg16 : Memref sig .tc .vmem S288x768 .f32) (arg17 : Memref sig .tc .vmem S7x280x768 .f32)
  (x0 : FVec Ideal S256x3584 .f32) (x1 : FVec Ideal S32x3584 .f32) (x8 : FVec Ideal S32x768 .f32) (x9 : FVec Ideal S1x768 .f32)
variable (arg3 : Memref sig .tc .vmem S4x128x128 .f32) (harg3 : arg3.IsWhole) (arg4 : Memref sig .tc .vmem S1x512 .f32) (harg4 : arg4.IsWhole)
  (arg5 : Memref sig .tc .vmem S1x768 .f32) (harg5 : arg5.IsWhole) (arg6 : Memref sig .tc .vmem S1x768 .f32) (harg6 : arg6.IsWhole)
  (arg7 : Memref sig .tc .vmem S6x128x128 .f32) (harg7 : arg7.IsWhole) (arg8 : Memref sig .tc .vmem S6x128x128 .f32) (harg8 : arg8.IsWhole)
  (arg11 : Memref sig .tc .vmem S1x768 .f32) (harg11 : arg11.IsWhole) (arg12 : Memref sig .tc .vmem S1x768 .f32) (harg12 : arg12.IsWhole)
  (arg14 : Memref sig .tc .vmem S256x768 .f32)
  (x2 : FVec Ideal S4x128x128 .f32) (x3 : FVec Ideal S1x512 .f32) (x4 x5 : FVec Ideal S1x768 .f32) (x6 x7 : FVec Ideal S6x128x128 .f32) (x10 x11 : FVec Ideal S1x768 .f32)

/-- Row `e` of a block's pool input, the sixteen rows before the block first. -/
def prow (e l : ℕ) : EReal := if e < 16 then at2 x1 (16 + e) l * k0_pay2 (F := Ideal) i else at2 x0 (e - 16) l

theorem hs0_cover (y : S272x512.Idx) : ∃ pc ∈ kernelRun0_A.sl.HS0_2 (F := Ideal) c i arg1 harg1 arg2 harg2 x0 x1, y ∈ pc.1.set :=
  View.cover_of_tiledBy (kernelRun0_A.sl.HS0_2 (F := Ideal) c i arg1 harg1 arg2 harg2 x0 x1) ![16, 512] (by sl_kernel_rfl) y

theorem hs0_pieces : View.PiecesOf (Val := Elt Ideal) (s := S272x512) (e := .f32) (fun y => prow i x0 x1 (y 0).val (y 1).val) (kernelRun0_A.sl.HS0_2 c i arg1 harg1 arg2 harg2 x0 x1) := by
  unfold kernelRun0_A.sl.HS0_2
  refine ⟨fun x => ?_, fun x => ?_, trivial⟩
  all_goals
    idx_vars x
    simp only [View.readAt_eq_ld, Memref.IsWhole.read_unread, Rect.emb_apply]
    pointwise [k0_pay3, k0_pay4]
    simp [at2_eq, prow]

theorem hs0 (y : S272x512.Idx) :
    View.canon (Val := Elt Ideal) (kernelRun0_A.sl.HS0_2 c i arg1 harg1 arg2 harg2 x0 x1) y = prow i x0 x1 (y 0).val (y 1).val :=
  View.canon_apply_of_pieces (Val := Elt Ideal) (S := S272x512) (e := .f32) (fun y => prow i x0 x1 (y 0).val (y 1).val) _
    (View.PiecesOf.mem (hs0_pieces c i arg1 harg1 arg2 harg2 x0 x1)) y (hs0_cover c i arg1 harg1 arg2 harg2 x0 x1 y)

/-- The number of rows in a block's mean over `n` rows, as the kernel counts it. -/
def cntK (b : BitVec 32) (r : ℕ) : EReal :=
  FloatOps.sitofp (F := Ideal) FTy.f32 (IntOp.minsi (IntOp.addi (IntOp.addi (Scalar.muli (BitVec.ofNat 32 (i 0).val) 256#32) (BitVec.ofNat 32 r)) 1#32) b)

/-- What a point stores in the columns of pool group 3. -/
theorem pool3 (r : Fin 256) (l : Fin 128) : (k0_pay17 (F := Ideal) (kernelRun0_A.sl.r_7 (F := Ideal) c i arg1 harg1 arg2 harg2 arg15 x0 x1) (View.readAt (Elt Ideal) arg3.view (Rect.unit (s := S4x128x128) ![3, 0, 0] S1x128x128.size inb_S4x128x128_S1x128x128_3_0_0).toLoadRect (harg3.unread x2)) (View.readAt (Elt Ideal) arg4.view (Rect.unit (s := S1x512) ![0, 384] S1x128.size inb_S1x512_S1x128_0_384).toLoadRect (harg4.unread x3))) (ix2 r l)
    = poolF 15 3 (prow i x0 x1) (cntK i 16#32 r.val) (at3 x2) (at2 x3 0) r.val l.val := by
  simp only [kernelRun0_A.sl.r_7, kernelRun0_A.sl.v63, kernelRun0_A.sl.r_5, kernelRun0_A.sl.r_4, kernelRun0_A.sl.v64, kernelRun0_A.sl.v66, kernelRun0_A.sl.v68, kernelRun0_A.sl.v70, kernelRun0_A.sl.v72, kernelRun0_A.sl.v74, kernelRun0_A.sl.v76, kernelRun0_A.sl.v78, kernelRun0_A.sl.v80, kernelRun0_A.sl.v82, kernelRun0_A.sl.v84, kernelRun0_A.sl.v86, kernelRun0_A.sl.v88, kernelRun0_A.sl.v90, kernelRun0_A.sl.v92, kernelRun0_A.sl.r_6, View.readAt_eq_ld, Memref.IsWhole.read_unread, View.readCov_eq_canon', hs0]
  pointwise [k0_pay5, k0_pay10, k0_pay11, k0_pay12, k0_pay13, k0_pay17, poolF, wsum]
  simp only [at2_eq, at3_eq]
  refine congrArg₂ (· * ·) (Finset.sum_congr rfl fun k _ => congrArg₂ (· * ·) (congrArg₂ (· - ·) (congrArg₂ Ideal.div ?_ rfl) rfl) rfl) rfl
  iterate 15 refine congrArg₂ (· + ·) ?_ (congrArg (fun z => prow i x0 x1 z _) (by omega))
  rfl

/-- What a point stores in the columns of pool group 2. -/
theorem pool2 (r : Fin 256) (l : Fin 128) : (kernelRun0_A.sl.r_8 (F := Ideal) c i arg1 harg1 arg2 harg2 arg3 harg3 arg4 harg4 arg15 x0 x1 x2 x3) (ix2 r l)
    = poolF 7 2 (prow i x0 x1) (cntK i 8#32 r.val) (at3 x2) (at2 x3 0) r.val l.val := by
  simp only [kernelRun0_A.sl.r_8, kernelRun0_A.sl.r_3, kernelRun0_A.sl.v41, kernelRun0_A.sl.v42, kernelRun0_A.sl.v44, kernelRun0_A.sl.v46, kernelRun0_A.sl.v48, kernelRun0_A.sl.v50, kernelRun0_A.sl.v52, kernelRun0_A.sl.v54, View.readAt_eq_ld, Memref.IsWhole.read_unread, View.readCov_eq_canon', hs0]
  pointwise [k0_pay5, k0_pay9, k0_pay16, poolF, wsum]
  simp only [at2_eq, at3_eq]
  refine congrArg₂ (· * ·) (Finset.sum_congr rfl fun k _ => congrArg₂ (· * ·) (congrArg₂ (· - ·) (congrArg₂ Ideal.div ?_ rfl) rfl) rfl) rfl
  iterate 7 refine congrArg₂ (· + ·) ?_ (congrArg (fun z => prow i x0 x1 z _) (by omega))
  rfl

/-- What a point stores in the columns of pool group 1. -/
theorem pool1 (r : Fin 256) (l : Fin 128) : (k0_pay15 (F := Ideal) (kernelRun0_A.sl.r_2 (F := Ideal) c i arg1 harg1 arg2 harg2 arg15 x0 x1) (View.readAt (Elt Ideal) arg3.view (Rect.unit (s := S4x128x128) ![1, 0, 0] S1x128x128.size inb_S4x128x128_S1x128x128_1_0_0).toLoadRect (harg3.unread x2)) (View.readAt (Elt Ideal) arg4.view (Rect.unit (s := S1x512) ![0, 128] S1x128.size inb_S1x512_S1x128_0_128).toLoadRect (harg4.unread x3))) (ix2 r l)
    = poolF 3 1 (prow i x0 x1) (cntK i 4#32 r.val) (at3 x2) (at2 x3 0) r.val l.val := by
  simp only [kernelRun0_A.sl.r_2, kernelRun0_A.sl.v27, kernelRun0_A.sl.r_1, kernelRun0_A.sl.v28, kernelRun0_A.sl.v30, kernelRun0_A.sl.v32, View.readAt_eq_ld, Memref.IsWhole.read_unread, View.readCov_eq_canon', hs0]
  pointwise [k0_pay5, k0_pay7, k0_pay8, k0_pay15, poolF, wsum]
  simp only [at2_eq, at3_eq]
  refine congrArg₂ (· * ·) (Finset.sum_congr rfl fun k _ => congrArg₂ (· * ·) (congrArg₂ (· - ·) (congrArg₂ Ideal.div ?_ rfl) rfl) rfl) rfl
  iterate 3 refine congrArg₂ (· + ·) ?_ (congrArg (fun z => prow i x0 x1 z _) (by omega))
  rfl

/-- What a point stores in the columns of pool group 0. -/
theorem pool0 (r : Fin 256) (l : Fin 128) : (k0_pay14 (F := Ideal) (kernelRun0_A.sl.r (F := Ideal) c i arg1 harg1 arg2 harg2 arg15 x0 x1) (View.readAt (Elt Ideal) arg3.view (Rect.unit (s := S4x128x128) ![0, 0, 0] S1x128x128.size inb_S4x128x128_S1x128x128_0_0_0).toLoadRect (harg3.unread x2)) (View.readAt (Elt Ideal) arg4.view (Rect.unit (s := S1x512) ![0, 0] S1x128.size inb_S1x512_S1x128_0_0).toLoadRect (harg4.unread x3))) (ix2 r l)
    = poolF 1 0 (prow i x0 x1) (cntK i 2#32 r.val) (at3 x2) (at2 x3 0) r.val l.val := by
  simp only [kernelRun0_A.sl.r, kernelRun0_A.sl.v17, kernelRun0_A.sl.v18, View.readAt_eq_ld, Memref.IsWhole.read_unread, View.readCov_eq_canon', hs0]
  pointwise [k0_pay5, k0_pay6, k0_pay14, poolF, wsum]
  simp only [at2_eq, at3_eq]
  refine congrArg₂ (· * ·) (Finset.sum_congr rfl fun k _ => congrArg₂ (· * ·) (congrArg₂ (· - ·) (congrArg₂ Ideal.div ?_ rfl) rfl) rfl) rfl
  iterate 1 refine congrArg₂ (· + ·) ?_ (congrArg (fun z => prow i x0 x1 z _) (by omega))
  rfl

/-- The gelu of the first half of a block's rows. -/
theorem uword (r : Fin 256) (l : Fin 768) : kernelRun0_A.sl.r_9 (F := Ideal) c arg1 harg1 x0 (ix2 r l) = gelu (at2 x0 r.val (512 + l.val)) := by
  simp only [kernelRun0_A.sl.r_9, View.readAt_eq_ld, Memref.IsWhole.read_unread, View.readCov_eq_canon']
  pointwise [k0_pay18, k0_pay19, gelu]
  simp only [at2_eq, ← Nat.add_assoc, Nat.reduceAdd]

/-- The normalised second half of a block's rows. -/
theorem vword (r : Fin 256) (l : Fin 768) : kernelRun0_A.sl.r_12 (F := Ideal) c arg1 harg1 arg5 harg5 arg6 harg6 x0 x4 x5 (ix2 r l)
    = ln7 (at2 x4 0) (at2 x5 0) (fun j => gelu (at2 x0 r.val (1280 + j))) l.val := by
  simp only [kernelRun0_A.sl.r_12, kernelRun0_A.sl.r_10, kernelRun0_A.sl.r_11, kernelRun0_A.sl.cst_91, View.readAt_eq_ld, Memref.IsWhole.read_unread, View.readCov_eq_canon']
  pointwise [k0_pay18, k0_pay20, k0_pay21, k0_pay22, ln7, mean7, gelu]
  simp only [at2_eq, ← Nat.add_assoc, Nat.reduceAdd]
  try rfl

/-- What a point stores in the columns of the convolution. -/
theorem silu (r : Fin 256) (l : Fin 768) : (k0_pay1 (F := Ideal) (kernelRun0_A.sl.r_384 (F := Ideal) c i arg1 harg1 arg2 harg2 arg9 harg9 arg10 harg10 arg11 harg11 arg14 arg16 arg17 x0 x1 x8 x9 x10) (View.readAt (Elt Ideal) arg12.view (Rect.unit (s := S1x768) ![0, 0] S1x768.size inb_S1x768_S1x768_0_0).toLoadRect (harg12.unread x11))) (ix2 r l)
    = siluF (at2 x10 0) (at2 x11 0) (conv i x0 x1 x8 x9 r.val) l.val := by
  simp only [kernelRun0_A.sl.r_384, kernelRun0_A.sl.v4886,  View.readAt_eq_ld, Memref.IsWhole.read_unread, View.readCov_eq_canon', hcv]
  pointwise [k0_pay1, k0_pay736, siluF, ln7, mean7, sg]
  simp only [at2_eq]
  try rfl

/-- What a point stores in the columns of head 5, rows from 128. -/
theorem sgu5_128 (r l : Fin 128) : (k0_pay42 (F := Ideal) (kernelRun0_A.sl.r_9 (F := Ideal) c arg1 harg1 x0) (kernelRun0_A.sl.r_12 (F := Ideal) c arg1 harg1 arg5 harg5 arg6 harg6 x0 x4 x5) kernelRun0_A.sl.v316 kernelRun0_A.sl.v317 (View.readAt (Elt Ideal) arg7.view (Rect.unit (s := S6x128x128) ![5, 0, 0] S1x128x128.size inb_S6x128x128_S1x128x128_5_0_0).toLoadRect (harg7.unread x6)) (View.readAt (Elt Ideal) arg8.view (Rect.unit (s := S6x128x128) ![5, 0, 0] S1x128x128.size inb_S6x128x128_S1x128x128_5_0_0).toLoadRect (harg8.unread x7))) (ix2 r l)
    = sguF (at2 x0) (at2 x4 0) (at2 x5 0) (at3 x6) (fun h r => at3 x7 h r l.val) 128 r.val 5 l.val := by
  simp only [kernelRun0_A.sl.v316, kernelRun0_A.sl.v317,  View.readAt_eq_ld, Memref.IsWhole.read_unread, View.readCov_eq_canon']
  pointwise [k0_pay40, k0_pay42, sguF]
  simp only [uword, vword, at2_eq x0, at3_eq x6, at3_eq x7, mask_word]
  refine congrArg₂ (· * ·) (by first | rfl | (simp only [← Nat.add_assoc, Nat.reduceAdd]; rfl)) (congrArg₂ (· + ·) (Finset.sum_congr rfl fun k _ => ?_) rfl)
  by_cases e : k.val ≤ r.val
  · rw [if_pos e, if_pos e]; rfl
  · rw [if_neg e, if_neg e]; exact (zero_mul _).symm

/-- What a point stores in the columns of head 5, rows from 0. -/
theorem sgu5_0 (r l : Fin 128) : (k0_pay41 (F := Ideal) (kernelRun0_A.sl.r_9 (F := Ideal) c arg1 harg1 x0) (kernelRun0_A.sl.r_12 (F := Ideal) c arg1 harg1 arg5 harg5 arg6 harg6 x0 x4 x5) kernelRun0_A.sl.v316 kernelRun0_A.sl.v317 (View.readAt (Elt Ideal) arg7.view (Rect.unit (s := S6x128x128) ![5, 0, 0] S1x128x128.size inb_S6x128x128_S1x128x128_5_0_0).toLoadRect (harg7.unread x6)) (View.readAt (Elt Ideal) arg8.view (Rect.unit (s := S6x128x128) ![5, 0, 0] S1x128x128.size inb_S6x128x128_S1x128x128_5_0_0).toLoadRect (harg8.unread x7))) (ix2 r l)
    = sguF (at2 x0) (at2 x4 0) (at2 x5 0) (at3 x6) (fun h r => at3 x7 h r l.val) 0 r.val 5 l.val := by
  simp only [kernelRun0_A.sl.v316, kernelRun0_A.sl.v317,  View.readAt_eq_ld, Memref.IsWhole.read_unread, View.readCov_eq_canon']
  pointwise [k0_pay40, k0_pay41, sguF]
  simp only [uword, vword, at2_eq x0, at3_eq x6, at3_eq x7, mask_word]
  refine congrArg₂ (· * ·) (by first | rfl | (simp only [← Nat.add_assoc, Nat.reduceAdd]; rfl)) (congrArg₂ (· + ·) (Finset.sum_congr rfl fun k _ => ?_) rfl)
  by_cases e : k.val ≤ r.val
  · rw [if_pos e, if_pos e]; rfl
  · rw [if_neg e, if_neg e]; exact (zero_mul _).symm

/-- What a point stores in the columns of head 4, rows from 128. -/
theorem sgu4_128 (r l : Fin 128) : (k0_pay39 (F := Ideal) (kernelRun0_A.sl.r_9 (F := Ideal) c arg1 harg1 x0) (kernelRun0_A.sl.r_12 (F := Ideal) c arg1 harg1 arg5 harg5 arg6 harg6 x0 x4 x5) (View.readAt (Elt Ideal) arg7.view (Rect.unit (s := S6x128x128) ![4, 0, 0] S1x128x128.size inb_S6x128x128_S1x128x128_4_0_0).toLoadRect (harg7.unread x6)) (View.readAt (Elt Ideal) arg8.view (Rect.unit (s := S6x128x128) ![4, 0, 0] S1x128x128.size inb_S6x128x128_S1x128x128_4_0_0).toLoadRect (harg8.unread x7))) (ix2 r l)
    = sguF (at2 x0) (at2 x4 0) (at2 x5 0) (at3 x6) (fun h r => at3 x7 h r l.val) 128 r.val 4 l.val := by
  simp only [ View.readAt_eq_ld, Memref.IsWhole.read_unread, View.readCov_eq_canon']
  pointwise [k0_pay37, k0_pay39, sguF]
  simp only [uword, vword, at2_eq x0, at3_eq x6, at3_eq x7, mask_word]
  refine congrArg₂ (· * ·) (by first | rfl | (simp only [← Nat.add_assoc, Nat.reduceAdd]; rfl)) (congrArg₂ (· + ·) (Finset.sum_congr rfl fun k _ => ?_) rfl)
  by_cases e : k.val ≤ r.val
  · rw [if_pos e, if_pos e]; rfl
  · rw [if_neg e, if_neg e]; exact (zero_mul _).symm

/-- What a point stores in the columns of head 4, rows from 0. -/
theorem sgu4_0 (r l : Fin 128) : (k0_pay38 (F := Ideal) (kernelRun0_A.sl.r_9 (F := Ideal) c arg1 harg1 x0) (kernelRun0_A.sl.r_12 (F := Ideal) c arg1 harg1 arg5 harg5 arg6 harg6 x0 x4 x5) (View.readAt (Elt Ideal) arg7.view (Rect.unit (s := S6x128x128) ![4, 0, 0] S1x128x128.size inb_S6x128x128_S1x128x128_4_0_0).toLoadRect (harg7.unread x6)) (View.readAt (Elt Ideal) arg8.view (Rect.unit (s := S6x128x128) ![4, 0, 0] S1x128x128.size inb_S6x128x128_S1x128x128_4_0_0).toLoadRect (harg8.unread x7))) (ix2 r l)
    = sguF (at2 x0) (at2 x4 0) (at2 x5 0) (at3 x6) (fun h r => at3 x7 h r l.val) 0 r.val 4 l.val := by
  simp only [ View.readAt_eq_ld, Memref.IsWhole.read_unread, View.readCov_eq_canon']
  pointwise [k0_pay37, k0_pay38, sguF]
  simp only [uword, vword, at2_eq x0, at3_eq x6, at3_eq x7, mask_word]
  refine congrArg₂ (· * ·) (by first | rfl | (simp only [← Nat.add_assoc, Nat.reduceAdd]; rfl)) (congrArg₂ (· + ·) (Finset.sum_congr rfl fun k _ => ?_) rfl)
  by_cases e : k.val ≤ r.val
  · rw [if_pos e, if_pos e]; rfl
  · rw [if_neg e, if_neg e]; exact (zero_mul _).symm

/-- What a point stores in the columns of head 3, rows from 128. -/
theorem sgu3_128 (r l : Fin 128) : (k0_pay36 (F := Ideal) (kernelRun0_A.sl.r_9 (F := Ideal) c arg1 harg1 x0) (kernelRun0_A.sl.r_16 (F := Ideal) c arg7 harg7 x6) (kernelRun0_A.sl.r_17 (F := Ideal) c arg1 harg1 arg5 harg5 arg6 harg6 x0 x4 x5) kernelRun0_A.sl.cst_131 (View.readAt (Elt Ideal) arg8.view (Rect.unit (s := S6x128x128) ![3, 0, 0] S1x128x128.size inb_S6x128x128_S1x128x128_3_0_0).toLoadRect (harg8.unread x7))) (ix2 r l)
    = sguF (at2 x0) (at2 x4 0) (at2 x5 0) (at3 x6) (fun h r => at3 x7 h r l.val) 128 r.val 3 l.val := by
  simp only [kernelRun0_A.sl.r_16, kernelRun0_A.sl.r_17, kernelRun0_A.sl.cst_131,  View.readAt_eq_ld, Memref.IsWhole.read_unread, View.readCov_eq_canon']
  pointwise [k0_pay33, k0_pay35, k0_pay36, sguF]
  simp only [uword, vword, at2_eq x0, at3_eq x6, at3_eq x7, mask_word]
  refine congrArg₂ (· * ·) (by first | rfl | (simp only [← Nat.add_assoc, Nat.reduceAdd]; rfl)) (congrArg₂ (· + ·) (Finset.sum_congr rfl fun k _ => ?_) rfl)
  by_cases e : k.val ≤ r.val
  · rw [if_pos e, if_pos e]; rfl
  · rw [if_neg e, if_neg e]; exact (zero_mul _).symm

/-- What a point stores in the columns of head 3, rows from 0. -/
theorem sgu3_0 (r l : Fin 128) : (k0_pay34 (F := Ideal) (kernelRun0_A.sl.r_9 (F := Ideal) c arg1 harg1 x0) (kernelRun0_A.sl.r_12 (F := Ideal) c arg1 harg1 arg5 harg5 arg6 harg6 x0 x4 x5) (View.readAt (Elt Ideal) arg7.view (Rect.unit (s := S6x128x128) ![3, 0, 0] S1x128x128.size inb_S6x128x128_S1x128x128_3_0_0).toLoadRect (harg7.unread x6)) (View.readAt (Elt Ideal) arg8.view (Rect.unit (s := S6x128x128) ![3, 0, 0] S1x128x128.size inb_S6x128x128_S1x128x128_3_0_0).toLoadRect (harg8.unread x7))) (ix2 r l)
    = sguF (at2 x0) (at2 x4 0) (at2 x5 0) (at3 x6) (fun h r => at3 x7 h r l.val) 0 r.val 3 l.val := by
  simp only [ View.readAt_eq_ld, Memref.IsWhole.read_unread, View.readCov_eq_canon']
  pointwise [k0_pay33, k0_pay34, sguF]
  simp only [uword, vword, at2_eq x0, at3_eq x6, at3_eq x7, mask_word]
  refine congrArg₂ (· * ·) (by first | rfl | (simp only [← Nat.add_assoc, Nat.reduceAdd]; rfl)) (congrArg₂ (· + ·) (Finset.sum_congr rfl fun k _ => ?_) rfl)
  by_cases e : k.val ≤ r.val
  · rw [if_pos e, if_pos e]; rfl
  · rw [if_neg e, if_neg e]; exact (zero_mul _).symm

/-- What a point stores in the columns of head 2, rows from 128. -/
theorem sgu2_128 (r l : Fin 128) : (k0_pay32 (F := Ideal) (kernelRun0_A.sl.r_9 (F := Ideal) c arg1 harg1 x0) (kernelRun0_A.sl.r_12 (F := Ideal) c arg1 harg1 arg5 harg5 arg6 harg6 x0 x4 x5) (kernelRun0_A.sl.r_14 (F := Ideal) c arg7 harg7 x6) (View.readAt (Elt Ideal) arg8.view (Rect.unit (s := S6x128x128) ![2, 0, 0] S1x128x128.size inb_S6x128x128_S1x128x128_2_0_0).toLoadRect (harg8.unread x7))) (ix2 r l)
    = sguF (at2 x0) (at2 x4 0) (at2 x5 0) (at3 x6) (fun h r => at3 x7 h r l.val) 128 r.val 2 l.val := by
  simp only [kernelRun0_A.sl.r_14,  View.readAt_eq_ld, Memref.IsWhole.read_unread, View.readCov_eq_canon']
  pointwise [k0_pay29, k0_pay32, sguF]
  simp only [uword, vword, at2_eq x0, at3_eq x6, at3_eq x7, mask_word]
  refine congrArg₂ (· * ·) (by first | rfl | (simp only [← Nat.add_assoc, Nat.reduceAdd]; rfl)) (congrArg₂ (· + ·) (Finset.sum_congr rfl fun k _ => ?_) rfl)
  by_cases e : k.val ≤ r.val
  · rw [if_pos e, if_pos e]; rfl
  · rw [if_neg e, if_neg e]; exact (zero_mul _).symm

/-- What a point stores in the columns of head 2, rows from 0. -/
theorem sgu2_0 (r l : Fin 128) : (k0_pay31 (F := Ideal) (kernelRun0_A.sl.r_9 (F := Ideal) c arg1 harg1 x0) (kernelRun0_A.sl.r_14 (F := Ideal) c arg7 harg7 x6) (kernelRun0_A.sl.r_15 (F := Ideal) c arg1 harg1 arg5 harg5 arg6 harg6 x0 x4 x5) kernelRun0_A.sl.cst_131 (View.readAt (Elt Ideal) arg8.view (Rect.unit (s := S6x128x128) ![2, 0, 0] S1x128x128.size inb_S6x128x128_S1x128x128_2_0_0).toLoadRect (harg8.unread x7))) (ix2 r l)
    = sguF (at2 x0) (at2 x4 0) (at2 x5 0) (at3 x6) (fun h r => at3 x7 h r l.val) 0 r.val 2 l.val := by
  simp only [kernelRun0_A.sl.r_14, kernelRun0_A.sl.r_15, kernelRun0_A.sl.cst_131,  View.readAt_eq_ld, Memref.IsWhole.read_unread, View.readCov_eq_canon']
  pointwise [k0_pay29, k0_pay30, k0_pay31, sguF]
  simp only [uword, vword, at2_eq x0, at3_eq x6, at3_eq x7, mask_word]
  refine congrArg₂ (· * ·) (by first | rfl | (simp only [← Nat.add_assoc, Nat.reduceAdd]; rfl)) (congrArg₂ (· + ·) (Finset.sum_congr rfl fun k _ => ?_) rfl)
  by_cases e : k.val ≤ r.val
  · rw [if_pos e, if_pos e]; rfl
  · rw [if_neg e, if_neg e]; exact (zero_mul _).symm

/-- What a point stores in the columns of head 1, rows from 128. -/
theorem sgu1_128 (r l : Fin 128) : (k0_pay28 (F := Ideal) (kernelRun0_A.sl.r_9 (F := Ideal) c arg1 harg1 x0) (kernelRun0_A.sl.r_12 (F := Ideal) c arg1 harg1 arg5 harg5 arg6 harg6 x0 x4 x5) (View.readAt (Elt Ideal) arg7.view (Rect.unit (s := S6x128x128) ![1, 0, 0] S1x128x128.size inb_S6x128x128_S1x128x128_1_0_0).toLoadRect (harg7.unread x6)) (View.readAt (Elt Ideal) arg8.view (Rect.unit (s := S6x128x128) ![1, 0, 0] S1x128x128.size inb_S6x128x128_S1x128x128_1_0_0).toLoadRect (harg8.unread x7))) (ix2 r l)
    = sguF (at2 x0) (at2 x4 0) (at2 x5 0) (at3 x6) (fun h r => at3 x7 h r l.val) 128 r.val 1 l.val := by
  simp only [ View.readAt_eq_ld, Memref.IsWhole.read_unread, View.readCov_eq_canon']
  pointwise [k0_pay26, k0_pay28, sguF]
  simp only [uword, vword, at2_eq x0, at3_eq x6, at3_eq x7, mask_word]
  refine congrArg₂ (· * ·) (by first | rfl | (simp only [← Nat.add_assoc, Nat.reduceAdd]; rfl)) (congrArg₂ (· + ·) (Finset.sum_congr rfl fun k _ => ?_) rfl)
  by_cases e : k.val ≤ r.val
  · rw [if_pos e, if_pos e]; rfl
  · rw [if_neg e, if_neg e]; exact (zero_mul _).symm

/-- What a point stores in the columns of head 1, rows from 0. -/
theorem sgu1_0 (r l : Fin 128) : (k0_pay27 (F := Ideal) (kernelRun0_A.sl.r_9 (F := Ideal) c arg1 harg1 x0) (kernelRun0_A.sl.r_12 (F := Ideal) c arg1 harg1 arg5 harg5 arg6 harg6 x0 x4 x5) (View.readAt (Elt Ideal) arg7.view (Rect.unit (s := S6x128x128) ![1, 0, 0] S1x128x128.size inb_S6x128x128_S1x128x128_1_0_0).toLoadRect (harg7.unread x6)) (View.readAt (Elt Ideal) arg8.view (Rect.unit (s := S6x128x128) ![1, 0, 0] S1x128x128.size inb_S6x128x128_S1x128x128_1_0_0).toLoadRect (harg8.unread x7))) (ix2 r l)
    = sguF (at2 x0) (at2 x4 0) (at2 x5 0) (at3 x6) (fun h r => at3 x7 h r l.val) 0 r.val 1 l.val := by
  simp only [ View.readAt_eq_ld, Memref.IsWhole.read_unread, View.readCov_eq_canon']
  pointwise [k0_pay26, k0_pay27, sguF]
  simp only [uword, vword, at2_eq x0, at3_eq x6, at3_eq x7, mask_word]
  refine congrArg₂ (· * ·) (by first | rfl | (simp only [← Nat.add_assoc, Nat.reduceAdd]; rfl)) (congrArg₂ (· + ·) (Finset.sum_congr rfl fun k _ => ?_) rfl)
  by_cases e : k.val ≤ r.val
  · rw [if_pos e, if_pos e]; rfl
  · rw [if_neg e, if_neg e]; exact (zero_mul _).symm

/-- What a point stores in the columns of head 0, rows from 128. -/
theorem sgu0_128 (r l : Fin 128) : (kernelRun0_A.sl.r_13 (F := Ideal) c arg1 harg1 arg5 harg5 arg6 harg6 arg7 harg7 arg8 harg8 x0 x4 x5 x6 x7) (ix2 r l)
    = sguF (at2 x0) (at2 x4 0) (at2 x5 0) (at3 x6) (fun h r => at3 x7 h r l.val) 128 r.val 0 l.val := by
  simp only [kernelRun0_A.sl.r_13, kernelRun0_A.sl.r_10, kernelRun0_A.sl.r_11, kernelRun0_A.sl.cst_91,  View.readAt_eq_ld, Memref.IsWhole.read_unread, View.readCov_eq_canon']
  pointwise [k0_pay18, k0_pay20, k0_pay21, k0_pay22, k0_pay23, k0_pay25, sguF]
  simp only [uword, vword, at2_eq x0, at3_eq x6, at3_eq x7, mask_word]
  refine congrArg₂ (· * ·) (by simp only [← Nat.add_assoc, Nat.reduceAdd, Nat.zero_add]; try rfl) (congrArg₂ (· + ·) (Finset.sum_congr rfl fun k _ => ?_) rfl)
  by_cases e : k.val ≤ r.val
  · rw [if_pos e, if_pos e]; first | rfl | (refine congrArg₂ (· * ·) rfl ?_; simp only [ln7, mean7, gelu, at2_eq, ← Nat.add_assoc, Nat.reduceAdd, Nat.zero_add]; first | done | rfl)
  · rw [if_neg e, if_neg e]; exact (zero_mul _).symm

/-- What a point stores in the columns of head 0, rows from 0. -/
theorem sgu0_0 (r l : Fin 128) : (k0_pay24 (F := Ideal) (kernelRun0_A.sl.r_9 (F := Ideal) c arg1 harg1 x0) (kernelRun0_A.sl.r_10 (F := Ideal) c arg1 harg1 x0) (kernelRun0_A.sl.r_11 (F := Ideal) c arg1 harg1 x0) kernelRun0_A.sl.cst_91 (View.readAt (Elt Ideal) arg5.view (Rect.unit (s := S1x768) ![0, 0] S1x768.size inb_S1x768_S1x768_0_0).toLoadRect (harg5.unread x4)) (View.readAt (Elt Ideal) arg6.view (Rect.unit (s := S1x768) ![0, 0] S1x768.size inb_S1x768_S1x768_0_0).toLoadRect (harg6.unread x5)) (View.readAt (Elt Ideal) arg7.view (Rect.unit (s := S6x128x128) ![0, 0, 0] S1x128x128.size inb_S6x128x128_S1x128x128_0_0_0).toLoadRect (harg7.unread x6)) (View.readAt (Elt Ideal) arg8.view (Rect.unit (s := S6x128x128) ![0, 0, 0] S1x128x128.size inb_S6x128x128_S1x128x128_0_0_0).toLoadRect (harg8.unread x7))) (ix2 r l)
    = sguF (at2 x0) (at2 x4 0) (at2 x5 0) (at3 x6) (fun h r => at3 x7 h r l.val) 0 r.val 0 l.val := by
  simp only [kernelRun0_A.sl.r_10, kernelRun0_A.sl.r_11, kernelRun0_A.sl.cst_91,  View.readAt_eq_ld, Memref.IsWhole.read_unread, View.readCov_eq_canon']
  pointwise [k0_pay18, k0_pay20, k0_pay21, k0_pay22, k0_pay23, k0_pay24, sguF]
  simp only [uword, vword, at2_eq x0, at3_eq x6, at3_eq x7, mask_word]
  refine congrArg₂ (· * ·) (by simp only [← Nat.add_assoc, Nat.reduceAdd, Nat.zero_add]; try rfl) (congrArg₂ (· + ·) (Finset.sum_congr rfl fun k _ => ?_) rfl)
  by_cases e : k.val ≤ r.val
  · rw [if_pos e, if_pos e]; first | rfl | (refine congrArg₂ (· * ·) rfl ?_; simp only [ln7, mean7, gelu, at2_eq, ← Nat.add_assoc, Nat.reduceAdd, Nat.zero_add]; first | done | rfl)
  · rw [if_neg e, if_neg e]; exact (zero_mul _).symm

end Cert.MixFwdIdeal.Hand

end
-- ==== Proof.MixFwd.Ref.lean ====
module

public import proofs.«01_k».proof.Proof.Gen.MixFwdRefIdeal.Read
public import proofs.«01_k».proof.Proof.Shared.Mix

@[expose] public section

set_option maxRecDepth 16384

noncomputable section

namespace Cert.MixFwdRefIdeal.Hand

open Idealize.ShloMosaic Cert.Hand

variable (P : FVec Ideal S8192x3584 .f32) (WP : FVec Ideal S4x128x128 .f32) (PS : FVec Ideal S512 .f32)
  (LG LB : FVec Ideal S768 .f32) (WS : FVec Ideal S6x128x128 .f32) (SB : FVec Ideal S6x128 .f32)
  (CW : FVec Ideal S31x768 .f32) (CB CG CN : FVec Ideal S768 .f32)

/-- The whole number zero, as a float, is zero. -/
theorem zero_word : (FloatOps.sitofp (F := Ideal) FTy.f32 0#32 : EReal) = 0 := by
  show (((0#32 : BitVec 32).toInt : ℝ) : EReal) = 0
  simp

/-- The word for one is one. -/
theorem one_eq : Ideal.ofBits .f32 0x3F800000#32 = (1 : EReal) := by
  simp [Ideal.ofBits, Ideal.ieee, -EReal.coe_mul]; norm_num

/-- A difference from zero is the negation. -/
theorem neg_eq (x : EReal) : -x = 0 - x := (zero_sub x).symm

/-- The gated rows of the convolution. -/
theorem gated_ref (q : Fin 8192) (l : Fin 768) :
    Cert.MixFwdRefIdeal.Read.val_main_v177 (F := Ideal) P (ix3 0 q l) = at2 P q.val (2048 + l.val) * sg (at2 P q.val (2816 + l.val)) := by
  pointwise [Cert.MixFwdRefIdeal.Read.val_main_cst_39, Cert.MixFwdRefIdeal.Read.val_main_cst_40, Cert.MixFwdRefIdeal.Read.val_main_v167, Cert.MixFwdRefIdeal.Read.val_main_v168, Cert.MixFwdRefIdeal.Read.val_main_v169, Cert.MixFwdRefIdeal.Read.val_main_v170, Cert.MixFwdRefIdeal.Read.val_main_v171, Cert.MixFwdRefIdeal.Read.val_main_v172, Cert.MixFwdRefIdeal.Read.val_main_v173, Cert.MixFwdRefIdeal.Read.val_main_v174, Cert.MixFwdRefIdeal.Read.val_main_v175, Cert.MixFwdRefIdeal.Read.val_main_v176, Cert.MixFwdRefIdeal.Read.val_main_v177, sg]
  simp only [at2_eq, ← Nat.add_assoc, Nat.reduceAdd, neg_eq]

/-- The gated rows with thirty rows of zeros before them. -/
theorem padded_ref (e : Fin 8222) (l : Fin 768) :
    Cert.MixFwdRefIdeal.Read.val_main_v178 (F := Ideal) P (ix3 0 e l) = ginG (at2 P) (e.val + 2) l.val := by
  unfold ginG
  by_cases h : e.val < 30
  · rw [if_pos (by omega)]
    pointwise [Cert.MixFwdRefIdeal.Read.val_main_c_41, Cert.MixFwdRefIdeal.Read.val_main_call27_v0, Cert.MixFwdRefIdeal.Read.val_main_v178]
    rw [dif_neg (by omega)]; exact zero_word
  · rw [if_neg (by omega)]
    have g := gated_ref P ⟨e.val - 30, by omega⟩ l
    rw [show e.val + 2 - 32 = e.val - 30 by omega, ← g]
    pointwise [Cert.MixFwdRefIdeal.Read.val_main_c_41, Cert.MixFwdRefIdeal.Read.val_main_call27_v0, Cert.MixFwdRefIdeal.Read.val_main_v178]
    rw [dif_pos (by omega)]

/-- The reference's convolution. -/
theorem conv_ref (q : Fin 8192) (l : Fin 768) :
    Cert.MixFwdRefIdeal.Read.val_main_v397 (F := Ideal) P CW CB (ix3 0 q l) = convF (ginG (at2 P)) (at2 CW) (at1 CB) q.val l.val := by
  unfold convF
  pointwise [Cert.MixFwdRefIdeal.Read.val_main_v179, Cert.MixFwdRefIdeal.Read.val_main_v180, Cert.MixFwdRefIdeal.Read.val_main_v181, Cert.MixFwdRefIdeal.Read.val_main_v182, Cert.MixFwdRefIdeal.Read.val_main_v183, Cert.MixFwdRefIdeal.Read.val_main_v184, Cert.MixFwdRefIdeal.Read.val_main_v185, Cert.MixFwdRefIdeal.Read.val_main_v186, Cert.MixFwdRefIdeal.Read.val_main_v187, Cert.MixFwdRefIdeal.Read.val_main_v188, Cert.MixFwdRefIdeal.Read.val_main_v189, Cert.MixFwdRefIdeal.Read.val_main_v190, Cert.MixFwdRefIdeal.Read.val_main_v191, Cert.MixFwdRefIdeal.Read.val_main_v192, Cert.MixFwdRefIdeal.Read.val_main_v193, Cert.MixFwdRefIdeal.Read.val_main_v194, Cert.MixFwdRefIdeal.Read.val_main_v195, Cert.MixFwdRefIdeal.Read.val_main_v196, Cert.MixFwdRefIdeal.Read.val_main_v197, Cert.MixFwdRefIdeal.Read.val_main_v198, Cert.MixFwdRefIdeal.Read.val_main_v199, Cert.MixFwdRefIdeal.Read.val_main_v200, Cert.MixFwdRefIdeal.Read.val_main_v201, Cert.MixFwdRefIdeal.Read.val_main_v202, Cert.MixFwdRefIdeal.Read.val_main_v203, Cert.MixFwdRefIdeal.Read.val_main_v204, Cert.MixFwdRefIdeal.Read.val_main_v205, Cert.MixFwdRefIdeal.Read.val_main_v206, Cert.MixFwdRefIdeal.Read.val_main_v207, Cert.MixFwdRefIdeal.Read.val_main_v208, Cert.MixFwdRefIdeal.Read.val_main_v209, Cert.MixFwdRefIdeal.Read.val_main_v210, Cert.MixFwdRefIdeal.Read.val_main_v211, Cert.MixFwdRefIdeal.Read.val_main_v212, Cert.MixFwdRefIdeal.Read.val_main_v213, Cert.MixFwdRefIdeal.Read.val_main_v214, Cert.MixFwdRefIdeal.Read.val_main_v215, Cert.MixFwdRefIdeal.Read.val_main_v216, Cert.MixFwdRefIdeal.Read.val_main_v217, Cert.MixFwdRefIdeal.Read.val_main_v218, Cert.MixFwdRefIdeal.Read.val_main_v219, Cert.MixFwdRefIdeal.Read.val_main_v220, Cert.MixFwdRefIdeal.Read.val_main_v221, Cert.MixFwdRefIdeal.Read.val_main_v222, Cert.MixFwdRefIdeal.Read.val_main_v223, Cert.MixFwdRefIdeal.Read.val_main_v224, Cert.MixFwdRefIdeal.Read.val_main_v225, Cert.MixFwdRefIdeal.Read.val_main_v226, Cert.MixFwdRefIdeal.Read.val_main_v227, Cert.MixFwdRefIdeal.Read.val_main_v228, Cert.MixFwdRefIdeal.Read.val_main_v229, Cert.MixFwdRefIdeal.Read.val_main_v230, Cert.MixFwdRefIdeal.Read.val_main_v231, Cert.MixFwdRefIdeal.Read.val_main_v232, Cert.MixFwdRefIdeal.Read.val_main_v233, Cert.MixFwdRefIdeal.Read.val_main_v234, Cert.MixFwdRefIdeal.Read.val_main_v235, Cert.MixFwdRefIdeal.Read.val_main_v236, Cert.MixFwdRefIdeal.Read.val_main_v237, Cert.MixFwdRefIdeal.Read.val_main_v238, Cert.MixFwdRefIdeal.Read.val_main_v239, Cert.MixFwdRefIdeal.Read.val_main_v240, Cert.MixFwdRefIdeal.Read.val_main_v241, Cert.MixFwdRefIdeal.Read.val_main_v242, Cert.MixFwdRefIdeal.Read.val_main_v243, Cert.MixFwdRefIdeal.Read.val_main_v244, Cert.MixFwdRefIdeal.Read.val_main_v245, Cert.MixFwdRefIdeal.Read.val_main_v246, Cert.MixFwdRefIdeal.Read.val_main_v247, Cert.MixFwdRefIdeal.Read.val_main_v248, Cert.MixFwdRefIdeal.Read.val_main_v249, Cert.MixFwdRefIdeal.Read.val_main_v250, Cert.MixFwdRefIdeal.Read.val_main_v251, Cert.MixFwdRefIdeal.Read.val_main_v252, Cert.MixFwdRefIdeal.Read.val_main_v253, Cert.MixFwdRefIdeal.Read.val_main_v254, Cert.MixFwdRefIdeal.Read.val_main_v255, Cert.MixFwdRefIdeal.Read.val_main_v256, Cert.MixFwdRefIdeal.Read.val_main_v257, Cert.MixFwdRefIdeal.Read.val_main_v258, Cert.MixFwdRefIdeal.Read.val_main_v259, Cert.MixFwdRefIdeal.Read.val_main_v260, Cert.MixFwdRefIdeal.Read.val_main_v261, Cert.MixFwdRefIdeal.Read.val_main_v262, Cert.MixFwdRefIdeal.Read.val_main_v263, Cert.MixFwdRefIdeal.Read.val_main_v264, Cert.MixFwdRefIdeal.Read.val_main_v265, Cert.MixFwdRefIdeal.Read.val_main_v266, Cert.MixFwdRefIdeal.Read.val_main_v267, Cert.MixFwdRefIdeal.Read.val_main_v268, Cert.MixFwdRefIdeal.Read.val_main_v269, Cert.MixFwdRefIdeal.Read.val_main_v270, Cert.MixFwdRefIdeal.Read.val_main_v271, Cert.MixFwdRefIdeal.Read.val_main_v272, Cert.MixFwdRefIdeal.Read.val_main_v273, Cert.MixFwdRefIdeal.Read.val_main_v274, Cert.MixFwdRefIdeal.Read.val_main_v275, Cert.MixFwdRefIdeal.Read.val_main_v276, Cert.MixFwdRefIdeal.Read.val_main_v277, Cert.MixFwdRefIdeal.Read.val_main_v278, Cert.MixFwdRefIdeal.Read.val_main_v279, Cert.MixFwdRefIdeal.Read.val_main_v280, Cert.MixFwdRefIdeal.Read.val_main_v281, Cert.MixFwdRefIdeal.Read.val_main_v282, Cert.MixFwdRefIdeal.Read.val_main_v283, Cert.MixFwdRefIdeal.Read.val_main_v284, Cert.MixFwdRefIdeal.Read.val_main_v285, Cert.MixFwdRefIdeal.Read.val_main_v286, Cert.MixFwdRefIdeal.Read.val_main_v287, Cert.MixFwdRefIdeal.Read.val_main_v288, Cert.MixFwdRefIdeal.Read.val_main_v289, Cert.MixFwdRefIdeal.Read.val_main_v290, Cert.MixFwdRefIdeal.Read.val_main_v291, Cert.MixFwdRefIdeal.Read.val_main_v292, Cert.MixFwdRefIdeal.Read.val_main_v293, Cert.MixFwdRefIdeal.Read.val_main_v294, Cert.MixFwdRefIdeal.Read.val_main_v295, Cert.MixFwdRefIdeal.Read.val_main_v296, Cert.MixFwdRefIdeal.Read.val_main_v297, Cert.MixFwdRefIdeal.Read.val_main_v298, Cert.MixFwdRefIdeal.Read.val_main_v299, Cert.MixFwdRefIdeal.Read.val_main_v300, Cert.MixFwdRefIdeal.Read.val_main_v301, Cert.MixFwdRefIdeal.Read.val_main_v302, Cert.MixFwdRefIdeal.Read.val_main_v303, Cert.MixFwdRefIdeal.Read.val_main_v304, Cert.MixFwdRefIdeal.Read.val_main_v305, Cert.MixFwdRefIdeal.Read.val_main_v306, Cert.MixFwdRefIdeal.Read.val_main_v307, Cert.MixFwdRefIdeal.Read.val_main_v308, Cert.MixFwdRefIdeal.Read.val_main_v309, Cert.MixFwdRefIdeal.Read.val_main_v310, Cert.MixFwdRefIdeal.Read.val_main_v311, Cert.MixFwdRefIdeal.Read.val_main_v312, Cert.MixFwdRefIdeal.Read.val_main_v313, Cert.MixFwdRefIdeal.Read.val_main_v314, Cert.MixFwdRefIdeal.Read.val_main_v315, Cert.MixFwdRefIdeal.Read.val_main_v316, Cert.MixFwdRefIdeal.Read.val_main_v317, Cert.MixFwdRefIdeal.Read.val_main_v318, Cert.MixFwdRefIdeal.Read.val_main_v319, Cert.MixFwdRefIdeal.Read.val_main_v320, Cert.MixFwdRefIdeal.Read.val_main_v321, Cert.MixFwdRefIdeal.Read.val_main_v322, Cert.MixFwdRefIdeal.Read.val_main_v323, Cert.MixFwdRefIdeal.Read.val_main_v324, Cert.MixFwdRefIdeal.Read.val_main_v325, Cert.MixFwdRefIdeal.Read.val_main_v326, Cert.MixFwdRefIdeal.Read.val_main_v327, Cert.MixFwdRefIdeal.Read.val_main_v328, Cert.MixFwdRefIdeal.Read.val_main_v329, Cert.MixFwdRefIdeal.Read.val_main_v330, Cert.MixFwdRefIdeal.Read.val_main_v331, Cert.MixFwdRefIdeal.Read.val_main_v332, Cert.MixFwdRefIdeal.Read.val_main_v333, Cert.MixFwdRefIdeal.Read.val_main_v334, Cert.MixFwdRefIdeal.Read.val_main_v335, Cert.MixFwdRefIdeal.Read.val_main_v336, Cert.MixFwdRefIdeal.Read.val_main_v337, Cert.MixFwdRefIdeal.Read.val_main_v338, Cert.MixFwdRefIdeal.Read.val_main_v339, Cert.MixFwdRefIdeal.Read.val_main_v340, Cert.MixFwdRefIdeal.Read.val_main_v341, Cert.MixFwdRefIdeal.Read.val_main_v342, Cert.MixFwdRefIdeal.Read.val_main_v343, Cert.MixFwdRefIdeal.Read.val_main_v344, Cert.MixFwdRefIdeal.Read.val_main_v345, Cert.MixFwdRefIdeal.Read.val_main_v346, Cert.MixFwdRefIdeal.Read.val_main_v347, Cert.MixFwdRefIdeal.Read.val_main_v348, Cert.MixFwdRefIdeal.Read.val_main_v349, Cert.MixFwdRefIdeal.Read.val_main_v350, Cert.MixFwdRefIdeal.Read.val_main_v351, Cert.MixFwdRefIdeal.Read.val_main_v352, Cert.MixFwdRefIdeal.Read.val_main_v353, Cert.MixFwdRefIdeal.Read.val_main_v354, Cert.MixFwdRefIdeal.Read.val_main_v355, Cert.MixFwdRefIdeal.Read.val_main_v356, Cert.MixFwdRefIdeal.Read.val_main_v357, Cert.MixFwdRefIdeal.Read.val_main_v358, Cert.MixFwdRefIdeal.Read.val_main_v359, Cert.MixFwdRefIdeal.Read.val_main_v360, Cert.MixFwdRefIdeal.Read.val_main_v361, Cert.MixFwdRefIdeal.Read.val_main_v362, Cert.MixFwdRefIdeal.Read.val_main_v363, Cert.MixFwdRefIdeal.Read.val_main_v364, Cert.MixFwdRefIdeal.Read.val_main_v365, Cert.MixFwdRefIdeal.Read.val_main_v366, Cert.MixFwdRefIdeal.Read.val_main_v367, Cert.MixFwdRefIdeal.Read.val_main_v368, Cert.MixFwdRefIdeal.Read.val_main_v369, Cert.MixFwdRefIdeal.Read.val_main_v370, Cert.MixFwdRefIdeal.Read.val_main_v371, Cert.MixFwdRefIdeal.Read.val_main_v372, Cert.MixFwdRefIdeal.Read.val_main_v373, Cert.MixFwdRefIdeal.Read.val_main_v374, Cert.MixFwdRefIdeal.Read.val_main_v375, Cert.MixFwdRefIdeal.Read.val_main_v376, Cert.MixFwdRefIdeal.Read.val_main_v377, Cert.MixFwdRefIdeal.Read.val_main_v378, Cert.MixFwdRefIdeal.Read.val_main_v379, Cert.MixFwdRefIdeal.Read.val_main_v380, Cert.MixFwdRefIdeal.Read.val_main_v381, Cert.MixFwdRefIdeal.Read.val_main_v382, Cert.MixFwdRefIdeal.Read.val_main_v383, Cert.MixFwdRefIdeal.Read.val_main_v384, Cert.MixFwdRefIdeal.Read.val_main_v385, Cert.MixFwdRefIdeal.Read.val_main_v386, Cert.MixFwdRefIdeal.Read.val_main_v387, Cert.MixFwdRefIdeal.Read.val_main_v388, Cert.MixFwdRefIdeal.Read.val_main_v389, Cert.MixFwdRefIdeal.Read.val_main_v390, Cert.MixFwdRefIdeal.Read.val_main_v391, Cert.MixFwdRefIdeal.Read.val_main_v392, Cert.MixFwdRefIdeal.Read.val_main_v393, Cert.MixFwdRefIdeal.Read.val_main_v394, Cert.MixFwdRefIdeal.Read.val_main_v395, Cert.MixFwdRefIdeal.Read.val_main_v396, Cert.MixFwdRefIdeal.Read.val_main_v397]
  simp only [padded_ref, at2_eq, at1_eq]
  refine Eq.trans ?_ ((chainR (fun k => ginG (at2 P) (q.val + k + 2) l.val * at2 CW k l.val) _).trans (congrArg (· + _) (Finset.sum_congr rfl fun k _ => mul_comm _ _)))
  refine congrArg₂ (· + ·) ?_ rfl
  iterate 30 refine congrArg₂ (· + ·) ?_ (congrArg₂ (· * ·) (congrArg (fun z => ginG (at2 P) z _) (by omega)) rfl)
  rfl

/-- The reference's activation of the normalised convolution. -/
theorem silu_ref (q : Fin 8192) (l : Fin 768) :
    Cert.MixFwdRefIdeal.Read.val_main_v420 (F := Ideal) P CW CB CG CN (ix3 0 q l) = siluF (at1 CG) (at1 CN) (convF (ginG (at2 P)) (at2 CW) (at1 CB) q.val) l.val := by
  unfold siluF ln7 mean7
  simp only [← conv_ref, ← at1_eq]
  pointwise [Cert.MixFwdRefIdeal.Read.val_main_call28_cst, Cert.MixFwdRefIdeal.Read.val_main_call28_cst_0, Cert.MixFwdRefIdeal.Read.val_main_call28_v0, Cert.MixFwdRefIdeal.Read.val_main_call28_v1, Cert.MixFwdRefIdeal.Read.val_main_call28_v2, Cert.MixFwdRefIdeal.Read.val_main_call28_v3, Cert.MixFwdRefIdeal.Read.val_main_call28_v4, Cert.MixFwdRefIdeal.Read.val_main_call28_v5, Cert.MixFwdRefIdeal.Read.val_main_cst_42, Cert.MixFwdRefIdeal.Read.val_main_cst_43, Cert.MixFwdRefIdeal.Read.val_main_cst_44, Cert.MixFwdRefIdeal.Read.val_main_cst_45, Cert.MixFwdRefIdeal.Read.val_main_cst_46, Cert.MixFwdRefIdeal.Read.val_main_v398, Cert.MixFwdRefIdeal.Read.val_main_v399, Cert.MixFwdRefIdeal.Read.val_main_v400, Cert.MixFwdRefIdeal.Read.val_main_v401, Cert.MixFwdRefIdeal.Read.val_main_v402, Cert.MixFwdRefIdeal.Read.val_main_v403, Cert.MixFwdRefIdeal.Read.val_main_v404, Cert.MixFwdRefIdeal.Read.val_main_v405, Cert.MixFwdRefIdeal.Read.val_main_v406, Cert.MixFwdRefIdeal.Read.val_main_v407, Cert.MixFwdRefIdeal.Read.val_main_v408, Cert.MixFwdRefIdeal.Read.val_main_v409, Cert.MixFwdRefIdeal.Read.val_main_v410, Cert.MixFwdRefIdeal.Read.val_main_v411, Cert.MixFwdRefIdeal.Read.val_main_v412, Cert.MixFwdRefIdeal.Read.val_main_v413, Cert.MixFwdRefIdeal.Read.val_main_v414, Cert.MixFwdRefIdeal.Read.val_main_v415, Cert.MixFwdRefIdeal.Read.val_main_v416, Cert.MixFwdRefIdeal.Read.val_main_v417, Cert.MixFwdRefIdeal.Read.val_main_v418, Cert.MixFwdRefIdeal.Read.val_main_v419, Cert.MixFwdRefIdeal.Read.val_main_v420, sg]
  try simp only [one_eq, neg_eq]
  try rfl

/-- The reference's gelu. -/
theorem gelu_ref (q : Fin 8192) (l : Fin 1536) :
    Cert.MixFwdRefIdeal.Read.val_main_v128 (F := Ideal) P (ix3 0 q l) = gelu (at2 P q.val (512 + l.val)) := by
  pointwise [Cert.MixFwdRefIdeal.Read.val_main_cst_29, Cert.MixFwdRefIdeal.Read.val_main_cst_30, Cert.MixFwdRefIdeal.Read.val_main_cst_31, Cert.MixFwdRefIdeal.Read.val_main_cst_32, Cert.MixFwdRefIdeal.Read.val_main_v114, Cert.MixFwdRefIdeal.Read.val_main_v115, Cert.MixFwdRefIdeal.Read.val_main_v116, Cert.MixFwdRefIdeal.Read.val_main_v117, Cert.MixFwdRefIdeal.Read.val_main_v118, Cert.MixFwdRefIdeal.Read.val_main_v119, Cert.MixFwdRefIdeal.Read.val_main_v120, Cert.MixFwdRefIdeal.Read.val_main_v121, Cert.MixFwdRefIdeal.Read.val_main_v122, Cert.MixFwdRefIdeal.Read.val_main_v123, Cert.MixFwdRefIdeal.Read.val_main_v124, Cert.MixFwdRefIdeal.Read.val_main_v125, Cert.MixFwdRefIdeal.Read.val_main_v126, Cert.MixFwdRefIdeal.Read.val_main_v127, Cert.MixFwdRefIdeal.Read.val_main_v128, gelu]
  simp only [at2_eq, one_eq]
  ac_rfl

/-- The reference's normalised rows of the gated mixer. -/
theorem norm_ref (q : Fin 8192) (l : Fin 768) :
    Cert.MixFwdRefIdeal.Read.val_main_v152 (F := Ideal) P LG LB (ix3 0 q l) = ln7 (at1 LG) (at1 LB) (fun j => gelu (at2 P q.val (1280 + j))) l.val := by
  unfold ln7 mean7
  pointwise [Cert.MixFwdRefIdeal.Read.val_main_cst_33, Cert.MixFwdRefIdeal.Read.val_main_cst_34, Cert.MixFwdRefIdeal.Read.val_main_cst_35, Cert.MixFwdRefIdeal.Read.val_main_cst_36, Cert.MixFwdRefIdeal.Read.val_main_cst_37, Cert.MixFwdRefIdeal.Read.val_main_v130, Cert.MixFwdRefIdeal.Read.val_main_v131, Cert.MixFwdRefIdeal.Read.val_main_v132, Cert.MixFwdRefIdeal.Read.val_main_v133, Cert.MixFwdRefIdeal.Read.val_main_v134, Cert.MixFwdRefIdeal.Read.val_main_v135, Cert.MixFwdRefIdeal.Read.val_main_v136, Cert.MixFwdRefIdeal.Read.val_main_v137, Cert.MixFwdRefIdeal.Read.val_main_v138, Cert.MixFwdRefIdeal.Read.val_main_v139, Cert.MixFwdRefIdeal.Read.val_main_v140, Cert.MixFwdRefIdeal.Read.val_main_v141, Cert.MixFwdRefIdeal.Read.val_main_v142, Cert.MixFwdRefIdeal.Read.val_main_v143, Cert.MixFwdRefIdeal.Read.val_main_v144, Cert.MixFwdRefIdeal.Read.val_main_v145, Cert.MixFwdRefIdeal.Read.val_main_v146, Cert.MixFwdRefIdeal.Read.val_main_v147, Cert.MixFwdRefIdeal.Read.val_main_v148, Cert.MixFwdRefIdeal.Read.val_main_v149, Cert.MixFwdRefIdeal.Read.val_main_v150, Cert.MixFwdRefIdeal.Read.val_main_v151, Cert.MixFwdRefIdeal.Read.val_main_v152]
  simp only [gelu_ref, at1_eq, ← Nat.add_assoc, Nat.reduceAdd]

/-- The reference's masked weights. -/
theorem mask_ref (h : Fin 6) (r k : Fin 128) :
    Cert.MixFwdRefIdeal.Read.val_main_v158 (F := Ideal) WS (ix3 h r k) = if k.val ≤ r.val then at3 WS h.val r.val k.val else 0 := by
  pointwise [Cert.MixFwdRefIdeal.Read.val_main_call26_c, Cert.MixFwdRefIdeal.Read.val_main_call26_cst, Cert.MixFwdRefIdeal.Read.val_main_call26_v0, Cert.MixFwdRefIdeal.Read.val_main_call26_v1, Cert.MixFwdRefIdeal.Read.val_main_call26_v2, Cert.MixFwdRefIdeal.Read.val_main_call26_v3, Cert.MixFwdRefIdeal.Read.val_main_call26_v4, Cert.MixFwdRefIdeal.Read.val_main_call26_v5, Cert.MixFwdRefIdeal.Read.val_main_cst_38, Cert.MixFwdRefIdeal.Read.val_main_v154, Cert.MixFwdRefIdeal.Read.val_main_v155, Cert.MixFwdRefIdeal.Read.val_main_v156, Cert.MixFwdRefIdeal.Read.val_main_v157, Cert.MixFwdRefIdeal.Read.val_main_v158]
  refine (congrArg (fun z => Scalar.select z _ _) (congrArg (fun z => IntOp.cmpi CmpIPredicate.sge z _) (BitVec.add_zero _))).trans ?_
  rw [mask_word, at3_eq WS]

/-- The reference's mixed rows, by chunk, row, head and column. -/
theorem mixed_ref (n : Fin 64) (r l : Fin 128) (h : Fin 6) (q : Fin 8192) (j : Fin 768) (hq : q.val = 128 * n.val + r.val) (hj : j.val = 128 * h.val + l.val) :
    Cert.MixFwdRefIdeal.Read.val_main_v165 (F := Ideal) P LG LB WS SB (ix3 0 q j)
      = (∑ k : Fin 128, Cert.MixFwdRefIdeal.Read.val_main_v152 (F := Ideal) P LG LB (ix3 0 ⟨128 * n.val + k.val, by omega⟩ j) * Cert.MixFwdRefIdeal.Read.val_main_v158 (F := Ideal) WS (ix3 h r k)) + SB (ix2 h r) := by
  have h0 : Cert.MixFwdRefIdeal.Read.idx_main_v165 (ix3 0 q j) = (ix5 0 n r h l : S1x64x128x6x128.Idx) := funext fun a => Fin.ext (by
    match a with
    | ⟨0, _⟩ => rfl
    | ⟨1, _⟩ => show ((0 * 8192 + q.val) * 768 + j.val) / 98304 % 64 = n.val; omega
    | ⟨2, _⟩ => show ((0 * 8192 + q.val) * 768 + j.val) / 768 % 128 = r.val; omega
    | ⟨3, _⟩ => show ((0 * 8192 + q.val) * 768 + j.val) / 128 % 6 = h.val; omega
    | ⟨4, _⟩ => show ((0 * 8192 + q.val) * 768 + j.val) % 128 = l.val; omega)
  rw [Cert.MixFwdRefIdeal.Read.val_main_v165_apply, h0, Cert.MixFwdRefIdeal.Read.val_main_v164_apply, Cert.MixFwdRefIdeal.Read.val_main_v160_apply, Cert.MixFwdRefIdeal.Read.val_main_v159_apply, Cert.MixFwdRefIdeal.Read.val_main_v163_apply, Cert.MixFwdRefIdeal.Read.val_main_v162_apply, Cert.MixFwdRefIdeal.Read.val_main_v161_apply]
  refine congrArg₂ (· + ·) (Finset.sum_congr rfl fun k _ => congrArg₂ (· * ·) ?_ (congrArg _ ?_)) (congrArg SB ?_)
  · rw [Cert.MixFwdRefIdeal.Read.val_main_v153_apply]
    refine congrArg _ (funext fun a => Fin.ext ?_)
    match a with
    | ⟨0, _⟩ => rfl
    | ⟨1, _⟩ => show ((((0 * 64 + n.val) * 128 + k.val) * 6 + h.val) * 128 + l.val) / 768 % 8192 = 128 * n.val + k.val; omega
    | ⟨2, _⟩ => show ((((0 * 64 + n.val) * 128 + k.val) * 6 + h.val) * 128 + l.val) % 768 = j.val; omega
  · exact funext fun a => Fin.ext (by match a with
      | ⟨0, _⟩ => rfl
      | ⟨1, _⟩ => rfl
      | ⟨2, _⟩ => rfl)
  · exact funext fun a => Fin.ext (by match a with
      | ⟨0, _⟩ => rfl
      | ⟨1, _⟩ => rfl)

/-- The reference's gated mixer. -/
theorem sgu_ref (n : Fin 64) (r l : Fin 128) (h : Fin 6) (q : Fin 8192) (j : Fin 768) (hq : q.val = 128 * n.val + r.val) (hj : j.val = 128 * h.val + l.val) :
    Cert.MixFwdRefIdeal.Read.val_main_v166 (F := Ideal) P LG LB WS SB (ix3 0 q j) = sguF (at2 P) (at1 LG) (at1 LB) (at3 WS) (at2 SB) (128 * n.val) r.val h.val l.val := by
  unfold sguF
  pointwise [Cert.MixFwdRefIdeal.Read.val_main_v129, Cert.MixFwdRefIdeal.Read.val_main_v166]
  rw [mixed_ref P LG LB WS SB n r l h q j hq hj]
  simp only [gelu_ref, norm_ref, mask_ref, hq, hj, at2_eq]
  simp only [mul_comm (ln7 _ _ _ _)]

/-- The reference's product of the pooled rows, group by group. -/
theorem pooled_ref (g : Fin 4) (l : Fin 128) (q : Fin 8192) (j : Fin 512) (hj : j.val = 128 * g.val + l.val) :
    Cert.MixFwdRefIdeal.Read.val_main_v110 (F := Ideal) P WP (ix3 0 q j) = ∑ k : Fin 128, WP (ix3 g k l) * Cert.MixFwdRefIdeal.Read.val_main_v106 (F := Ideal) P (ix3 0 q ⟨128 * g.val + k.val, by omega⟩) := by
  have h0 : Cert.MixFwdRefIdeal.Read.idx_main_v110 (ix3 0 q j) = (ix4 0 q g l : S1x8192x4x128.Idx) := funext fun a => Fin.ext (by
    match a with
    | ⟨0, _⟩ => rfl
    | ⟨1, _⟩ => show ((0 * 8192 + q.val) * 512 + j.val) / 512 % 8192 = q.val; omega
    | ⟨2, _⟩ => show ((0 * 8192 + q.val) * 512 + j.val) / 128 % 4 = g.val; omega
    | ⟨3, _⟩ => show ((0 * 8192 + q.val) * 512 + j.val) % 128 = l.val; omega)
  rw [Cert.MixFwdRefIdeal.Read.val_main_v110_apply, h0, Cert.MixFwdRefIdeal.Read.val_main_v109_apply, Cert.MixFwdRefIdeal.Read.val_main_v108_apply]
  refine Finset.sum_congr rfl fun k _ => congrArg₂ (· * ·) (congrArg WP ?_) ?_
  · exact funext fun a => Fin.ext (by match a with
      | ⟨0, _⟩ => rfl
      | ⟨1, _⟩ => rfl
      | ⟨2, _⟩ => rfl)
  · rw [Cert.MixFwdRefIdeal.Read.val_main_v107_apply]
    refine congrArg _ (funext fun a => Fin.ext ?_)
    match a with
    | ⟨0, _⟩ => rfl
    | ⟨1, _⟩ => show (((0 * 8192 + q.val) * 4 + g.val) * 128 + k.val) / 512 % 8192 = q.val; omega
    | ⟨2, _⟩ => show (((0 * 8192 + q.val) * 4 + g.val) * 128 + k.val) % 512 = 128 * g.val + k.val; omega

/-- A row moved down by `j`, zeros before the first. -/
theorem pin_pad (q : Fin 8192) (j N : ℕ) (hN : N + j = 8192) (hj : j ≤ 16) (z : ℕ) :
    (if h : j ≤ q.val ∧ q.val - j < N then pinG (at2 P) (16 + (q.val - j)) z else FloatOps.sitofp (F := Ideal) FTy.f32 0#32) = pinG (at2 P) (16 + q.val - j) z := by
  by_cases h : j ≤ q.val
  · rw [dif_pos (by omega)]; exact congrArg (fun w => pinG (at2 P) w z) (by omega)
  · rw [dif_neg (by omega)]; unfold pinG; rw [if_pos (by omega)]; exact zero_word

/-- A count of rows held below a bound, as the reference computes it. -/
theorem cnt_ref (n : ℕ) (b : BitVec 32) (hb : Ideal.ofBits .f32 b = ((n : ℝ) : EReal)) (q : Fin 8192) :
    min (FloatOps.sitofp (F := Ideal) FTy.f32 (IntOp.addi (1#32) (BitVec.ofNat 32 q.val)) : EReal) (Ideal.ofBits .f32 b) = cntF n q.val := by
  have h : (IntOp.addi (1#32) (BitVec.ofNat 32 q.val)).toInt = ((q.val + 1 : ℕ) : ℤ) := by
    show (1#32 + BitVec.ofNat 32 q.val).toInt = _
    have := q.isLt
    rw [BitVec.toInt_eq_toNat_of_lt]
    · simp; omega
    · simp; omega
  have e : (FloatOps.sitofp (F := Ideal) FTy.f32 (IntOp.addi (1#32) (BitVec.ofNat 32 q.val)) : EReal) = (((q.val + 1 : ℕ) : ℝ) : EReal) := by
    show (((IntOp.addi (1#32) (BitVec.ofNat 32 q.val)).toInt : ℝ) : EReal) = _
    rw [h]; push_cast; rfl
  rw [e, hb]; unfold cntF
  rcases le_total (q.val + 1) n with h' | h'
  · rw [min_eq_left (EReal.coe_le_coe_iff.2 (Nat.cast_le.2 h')), min_eq_left h']
  · rw [min_eq_right (EReal.coe_le_coe_iff.2 (Nat.cast_le.2 h')), min_eq_right h']

/-- A row where it is. -/
theorem pin_zero (q : Fin 8192) (z : Fin 3584) : P (ix2 q z) = pinG (at2 P) (16 + q.val) z.val := by
  unfold pinG; rw [if_neg (by omega), at2_eq P]; exact congrArg (fun w => at2 P w _) (by omega)

/-- The reference's mean over 2 rows. -/
theorem mean_ref0 (q : Fin 8192) (l : Fin 128) :
    Cert.MixFwdRefIdeal.Read.val_main_v14 (F := Ideal) P (ix3 0 q l)
      = Ideal.div (wsum (fun j => pinG (at2 P) (16 + q.val - j) (l.val)) 1) (cntF 2 q.val) := by
  pointwise [Cert.MixFwdRefIdeal.Read.val_main_c, Cert.MixFwdRefIdeal.Read.val_main_c_0, Cert.MixFwdRefIdeal.Read.val_main_call0_v0, Cert.MixFwdRefIdeal.Read.val_main_cst, Cert.MixFwdRefIdeal.Read.val_main_v0, Cert.MixFwdRefIdeal.Read.val_main_v1, Cert.MixFwdRefIdeal.Read.val_main_v10, Cert.MixFwdRefIdeal.Read.val_main_v11, Cert.MixFwdRefIdeal.Read.val_main_v12, Cert.MixFwdRefIdeal.Read.val_main_v13, Cert.MixFwdRefIdeal.Read.val_main_v14, Cert.MixFwdRefIdeal.Read.val_main_v2, Cert.MixFwdRefIdeal.Read.val_main_v3, Cert.MixFwdRefIdeal.Read.val_main_v4, Cert.MixFwdRefIdeal.Read.val_main_v5, Cert.MixFwdRefIdeal.Read.val_main_v6, Cert.MixFwdRefIdeal.Read.val_main_v7, Cert.MixFwdRefIdeal.Read.val_main_v8, Cert.MixFwdRefIdeal.Read.val_main_v9, wsum]
  refine congrArg₂ Ideal.div ?_ ?_
  · simp only [pin_pad P q 1 8191 rfl (by decide), pin_zero, Nat.reduceAdd, Nat.sub_zero]
  · exact cnt_ref 2 _ (by simp [Ideal.ofBits, Ideal.ieee, -EReal.coe_mul]; try norm_num) q

/-- The reference's mean over 4 rows. -/
theorem mean_ref1 (q : Fin 8192) (l : Fin 128) :
    Cert.MixFwdRefIdeal.Read.val_main_v28 (F := Ideal) P (ix3 0 q l)
      = Ideal.div (wsum (fun j => pinG (at2 P) (16 + q.val - j) (128 + l.val)) 3) (cntF 4 q.val) := by
  pointwise [Cert.MixFwdRefIdeal.Read.val_main_c, Cert.MixFwdRefIdeal.Read.val_main_c_1, Cert.MixFwdRefIdeal.Read.val_main_c_2, Cert.MixFwdRefIdeal.Read.val_main_c_3, Cert.MixFwdRefIdeal.Read.val_main_call1_v0, Cert.MixFwdRefIdeal.Read.val_main_call2_v0, Cert.MixFwdRefIdeal.Read.val_main_call3_v0, Cert.MixFwdRefIdeal.Read.val_main_cst_4, Cert.MixFwdRefIdeal.Read.val_main_v0, Cert.MixFwdRefIdeal.Read.val_main_v1, Cert.MixFwdRefIdeal.Read.val_main_v15, Cert.MixFwdRefIdeal.Read.val_main_v16, Cert.MixFwdRefIdeal.Read.val_main_v17, Cert.MixFwdRefIdeal.Read.val_main_v18, Cert.MixFwdRefIdeal.Read.val_main_v19, Cert.MixFwdRefIdeal.Read.val_main_v2, Cert.MixFwdRefIdeal.Read.val_main_v20, Cert.MixFwdRefIdeal.Read.val_main_v21, Cert.MixFwdRefIdeal.Read.val_main_v22, Cert.MixFwdRefIdeal.Read.val_main_v23, Cert.MixFwdRefIdeal.Read.val_main_v24, Cert.MixFwdRefIdeal.Read.val_main_v25, Cert.MixFwdRefIdeal.Read.val_main_v26, Cert.MixFwdRefIdeal.Read.val_main_v27, Cert.MixFwdRefIdeal.Read.val_main_v28, Cert.MixFwdRefIdeal.Read.val_main_v3, Cert.MixFwdRefIdeal.Read.val_main_v4, Cert.MixFwdRefIdeal.Read.val_main_v5, Cert.MixFwdRefIdeal.Read.val_main_v6, wsum]
  refine congrArg₂ Ideal.div ?_ ?_
  · simp only [pin_pad P q 1 8191 rfl (by decide), pin_pad P q 2 8190 rfl (by decide), pin_pad P q 3 8189 rfl (by decide), pin_zero, Nat.reduceAdd, Nat.sub_zero]
  · exact cnt_ref 4 _ (by simp [Ideal.ofBits, Ideal.ieee, -EReal.coe_mul]; try norm_num) q

/-- The reference's mean over 8 rows. -/
theorem mean_ref2 (q : Fin 8192) (l : Fin 128) :
    Cert.MixFwdRefIdeal.Read.val_main_v54 (F := Ideal) P (ix3 0 q l)
      = Ideal.div (wsum (fun j => pinG (at2 P) (16 + q.val - j) (256 + l.val)) 7) (cntF 8 q.val) := by
  pointwise [Cert.MixFwdRefIdeal.Read.val_main_c, Cert.MixFwdRefIdeal.Read.val_main_c_10, Cert.MixFwdRefIdeal.Read.val_main_c_11, Cert.MixFwdRefIdeal.Read.val_main_c_5, Cert.MixFwdRefIdeal.Read.val_main_c_6, Cert.MixFwdRefIdeal.Read.val_main_c_7, Cert.MixFwdRefIdeal.Read.val_main_c_8, Cert.MixFwdRefIdeal.Read.val_main_c_9, Cert.MixFwdRefIdeal.Read.val_main_call10_v0, Cert.MixFwdRefIdeal.Read.val_main_call4_v0, Cert.MixFwdRefIdeal.Read.val_main_call5_v0, Cert.MixFwdRefIdeal.Read.val_main_call6_v0, Cert.MixFwdRefIdeal.Read.val_main_call7_v0, Cert.MixFwdRefIdeal.Read.val_main_call8_v0, Cert.MixFwdRefIdeal.Read.val_main_call9_v0, Cert.MixFwdRefIdeal.Read.val_main_cst_12, Cert.MixFwdRefIdeal.Read.val_main_v0, Cert.MixFwdRefIdeal.Read.val_main_v1, Cert.MixFwdRefIdeal.Read.val_main_v2, Cert.MixFwdRefIdeal.Read.val_main_v29, Cert.MixFwdRefIdeal.Read.val_main_v3, Cert.MixFwdRefIdeal.Read.val_main_v30, Cert.MixFwdRefIdeal.Read.val_main_v31, Cert.MixFwdRefIdeal.Read.val_main_v32, Cert.MixFwdRefIdeal.Read.val_main_v33, Cert.MixFwdRefIdeal.Read.val_main_v34, Cert.MixFwdRefIdeal.Read.val_main_v35, Cert.MixFwdRefIdeal.Read.val_main_v36, Cert.MixFwdRefIdeal.Read.val_main_v37, Cert.MixFwdRefIdeal.Read.val_main_v38, Cert.MixFwdRefIdeal.Read.val_main_v39, Cert.MixFwdRefIdeal.Read.val_main_v4, Cert.MixFwdRefIdeal.Read.val_main_v40, Cert.MixFwdRefIdeal.Read.val_main_v41, Cert.MixFwdRefIdeal.Read.val_main_v42, Cert.MixFwdRefIdeal.Read.val_main_v43, Cert.MixFwdRefIdeal.Read.val_main_v44, Cert.MixFwdRefIdeal.Read.val_main_v45, Cert.MixFwdRefIdeal.Read.val_main_v46, Cert.MixFwdRefIdeal.Read.val_main_v47, Cert.MixFwdRefIdeal.Read.val_main_v48, Cert.MixFwdRefIdeal.Read.val_main_v49, Cert.MixFwdRefIdeal.Read.val_main_v5, Cert.MixFwdRefIdeal.Read.val_main_v50, Cert.MixFwdRefIdeal.Read.val_main_v51, Cert.MixFwdRefIdeal.Read.val_main_v52, Cert.MixFwdRefIdeal.Read.val_main_v53, Cert.MixFwdRefIdeal.Read.val_main_v54, Cert.MixFwdRefIdeal.Read.val_main_v6, wsum]
  refine congrArg₂ Ideal.div ?_ ?_
  · simp only [pin_pad P q 1 8191 rfl (by decide), pin_pad P q 2 8190 rfl (by decide), pin_pad P q 3 8189 rfl (by decide), pin_pad P q 4 8188 rfl (by decide), pin_pad P q 5 8187 rfl (by decide), pin_pad P q 6 8186 rfl (by decide), pin_pad P q 7 8185 rfl (by decide), pin_zero, Nat.reduceAdd, Nat.sub_zero]
  · exact cnt_ref 8 _ (by simp [Ideal.ofBits, Ideal.ieee, -EReal.coe_mul]; try norm_num) q

/-- The reference's mean over 16 rows. -/
theorem mean_ref3 (q : Fin 8192) (l : Fin 128) :
    Cert.MixFwdRefIdeal.Read.val_main_v104 (F := Ideal) P (ix3 0 q l)
      = Ideal.div (wsum (fun j => pinG (at2 P) (16 + q.val - j) (384 + l.val)) 15) (cntF 16 q.val) := by
  pointwise [Cert.MixFwdRefIdeal.Read.val_main_c, Cert.MixFwdRefIdeal.Read.val_main_c_13, Cert.MixFwdRefIdeal.Read.val_main_c_14, Cert.MixFwdRefIdeal.Read.val_main_c_15, Cert.MixFwdRefIdeal.Read.val_main_c_16, Cert.MixFwdRefIdeal.Read.val_main_c_17, Cert.MixFwdRefIdeal.Read.val_main_c_18, Cert.MixFwdRefIdeal.Read.val_main_c_19, Cert.MixFwdRefIdeal.Read.val_main_c_20, Cert.MixFwdRefIdeal.Read.val_main_c_21, Cert.MixFwdRefIdeal.Read.val_main_c_22, Cert.MixFwdRefIdeal.Read.val_main_c_23, Cert.MixFwdRefIdeal.Read.val_main_c_24, Cert.MixFwdRefIdeal.Read.val_main_c_25, Cert.MixFwdRefIdeal.Read.val_main_c_26, Cert.MixFwdRefIdeal.Read.val_main_c_27, Cert.MixFwdRefIdeal.Read.val_main_call11_v0, Cert.MixFwdRefIdeal.Read.val_main_call12_v0, Cert.MixFwdRefIdeal.Read.val_main_call13_v0, Cert.MixFwdRefIdeal.Read.val_main_call14_v0, Cert.MixFwdRefIdeal.Read.val_main_call15_v0, Cert.MixFwdRefIdeal.Read.val_main_call16_v0, Cert.MixFwdRefIdeal.Read.val_main_call17_v0, Cert.MixFwdRefIdeal.Read.val_main_call18_v0, Cert.MixFwdRefIdeal.Read.val_main_call19_v0, Cert.MixFwdRefIdeal.Read.val_main_call20_v0, Cert.MixFwdRefIdeal.Read.val_main_call21_v0, Cert.MixFwdRefIdeal.Read.val_main_call22_v0, Cert.MixFwdRefIdeal.Read.val_main_call23_v0, Cert.MixFwdRefIdeal.Read.val_main_call24_v0, Cert.MixFwdRefIdeal.Read.val_main_call25_v0, Cert.MixFwdRefIdeal.Read.val_main_cst_28, Cert.MixFwdRefIdeal.Read.val_main_v0, Cert.MixFwdRefIdeal.Read.val_main_v1, Cert.MixFwdRefIdeal.Read.val_main_v100, Cert.MixFwdRefIdeal.Read.val_main_v101, Cert.MixFwdRefIdeal.Read.val_main_v102, Cert.MixFwdRefIdeal.Read.val_main_v103, Cert.MixFwdRefIdeal.Read.val_main_v104, Cert.MixFwdRefIdeal.Read.val_main_v2, Cert.MixFwdRefIdeal.Read.val_main_v3, Cert.MixFwdRefIdeal.Read.val_main_v4, Cert.MixFwdRefIdeal.Read.val_main_v5, Cert.MixFwdRefIdeal.Read.val_main_v55, Cert.MixFwdRefIdeal.Read.val_main_v56, Cert.MixFwdRefIdeal.Read.val_main_v57, Cert.MixFwdRefIdeal.Read.val_main_v58, Cert.MixFwdRefIdeal.Read.val_main_v59, Cert.MixFwdRefIdeal.Read.val_main_v6, Cert.MixFwdRefIdeal.Read.val_main_v60, Cert.MixFwdRefIdeal.Read.val_main_v61, Cert.MixFwdRefIdeal.Read.val_main_v62, Cert.MixFwdRefIdeal.Read.val_main_v63, Cert.MixFwdRefIdeal.Read.val_main_v64, Cert.MixFwdRefIdeal.Read.val_main_v65, Cert.MixFwdRefIdeal.Read.val_main_v66, Cert.MixFwdRefIdeal.Read.val_main_v67, Cert.MixFwdRefIdeal.Read.val_main_v68, Cert.MixFwdRefIdeal.Read.val_main_v69, Cert.MixFwdRefIdeal.Read.val_main_v70, Cert.MixFwdRefIdeal.Read.val_main_v71, Cert.MixFwdRefIdeal.Read.val_main_v72, Cert.MixFwdRefIdeal.Read.val_main_v73, Cert.MixFwdRefIdeal.Read.val_main_v74, Cert.MixFwdRefIdeal.Read.val_main_v75, Cert.MixFwdRefIdeal.Read.val_main_v76, Cert.MixFwdRefIdeal.Read.val_main_v77, Cert.MixFwdRefIdeal.Read.val_main_v78, Cert.MixFwdRefIdeal.Read.val_main_v79, Cert.MixFwdRefIdeal.Read.val_main_v80, Cert.MixFwdRefIdeal.Read.val_main_v81, Cert.MixFwdRefIdeal.Read.val_main_v82, Cert.MixFwdRefIdeal.Read.val_main_v83, Cert.MixFwdRefIdeal.Read.val_main_v84, Cert.MixFwdRefIdeal.Read.val_main_v85, Cert.MixFwdRefIdeal.Read.val_main_v86, Cert.MixFwdRefIdeal.Read.val_main_v87, Cert.MixFwdRefIdeal.Read.val_main_v88, Cert.MixFwdRefIdeal.Read.val_main_v89, Cert.MixFwdRefIdeal.Read.val_main_v90, Cert.MixFwdRefIdeal.Read.val_main_v91, Cert.MixFwdRefIdeal.Read.val_main_v92, Cert.MixFwdRefIdeal.Read.val_main_v93, Cert.MixFwdRefIdeal.Read.val_main_v94, Cert.MixFwdRefIdeal.Read.val_main_v95, Cert.MixFwdRefIdeal.Read.val_main_v96, Cert.MixFwdRefIdeal.Read.val_main_v97, Cert.MixFwdRefIdeal.Read.val_main_v98, Cert.MixFwdRefIdeal.Read.val_main_v99, wsum]
  refine congrArg₂ Ideal.div ?_ ?_
  · simp only [pin_pad P q 1 8191 rfl (by decide), pin_pad P q 2 8190 rfl (by decide), pin_pad P q 3 8189 rfl (by decide), pin_pad P q 4 8188 rfl (by decide), pin_pad P q 5 8187 rfl (by decide), pin_pad P q 6 8186 rfl (by decide), pin_pad P q 7 8185 rfl (by decide), pin_pad P q 8 8184 rfl (by decide), pin_pad P q 9 8183 rfl (by decide), pin_pad P q 10 8182 rfl (by decide), pin_pad P q 11 8181 rfl (by decide), pin_pad P q 12 8180 rfl (by decide), pin_pad P q 13 8179 rfl (by decide), pin_pad P q 14 8178 rfl (by decide), pin_pad P q 15 8177 rfl (by decide), pin_zero, Nat.reduceAdd, Nat.sub_zero]
  · exact cnt_ref 16 _ (by simp [Ideal.ofBits, Ideal.ieee, -EReal.coe_mul]; try norm_num) q

/-- The reference's pool mixer, group 0. -/
theorem pool_ref0 (q : Fin 8192) (l : Fin 128) (j : Fin 512) (hj : j.val = 0 + l.val) :
    Cert.MixFwdRefIdeal.Read.val_main_v113 (F := Ideal) P WP PS (ix3 0 q j)
      = poolF 1 0 (pinG (at2 P)) (cntF 2 q.val) (at3 WP) (at1 PS) q.val l.val := by
  pointwise [Cert.MixFwdRefIdeal.Read.val_main_v111, Cert.MixFwdRefIdeal.Read.val_main_v112, Cert.MixFwdRefIdeal.Read.val_main_v113]
  rw [pooled_ref P WP 0 l q j hj]
  unfold poolF
  refine congrArg₂ (· * ·) (Finset.sum_congr rfl fun k _ => ?_) ?_
  · rw [mul_comm, at3_eq WP]
    refine congrArg (· * _) ?_
    pointwise [Cert.MixFwdRefIdeal.Read.val_main_v0, Cert.MixFwdRefIdeal.Read.val_main_v1, Cert.MixFwdRefIdeal.Read.val_main_v105, Cert.MixFwdRefIdeal.Read.val_main_v106]
    refine congrArg₂ (· - ·) ?_ (pin_zero P q _)
    skip
    exact (congrArg (fun z => Cert.MixFwdRefIdeal.Read.val_main_v14 (F := Ideal) P (ix3 0 q z)) (Fin.ext (by simp <;> omega) : _ = k)).trans (mean_ref0 P q k)
  · rw [at1_eq PS]; exact congrArg (at1 PS) hj

/-- The reference's pool mixer, group 1. -/
theorem pool_ref1 (q : Fin 8192) (l : Fin 128) (j : Fin 512) (hj : j.val = 128 + l.val) :
    Cert.MixFwdRefIdeal.Read.val_main_v113 (F := Ideal) P WP PS (ix3 0 q j)
      = poolF 3 1 (pinG (at2 P)) (cntF 4 q.val) (at3 WP) (at1 PS) q.val l.val := by
  pointwise [Cert.MixFwdRefIdeal.Read.val_main_v111, Cert.MixFwdRefIdeal.Read.val_main_v112, Cert.MixFwdRefIdeal.Read.val_main_v113]
  rw [pooled_ref P WP 1 l q j hj]
  unfold poolF
  refine congrArg₂ (· * ·) (Finset.sum_congr rfl fun k _ => ?_) ?_
  · rw [mul_comm, at3_eq WP]
    refine congrArg (· * _) ?_
    pointwise [Cert.MixFwdRefIdeal.Read.val_main_v0, Cert.MixFwdRefIdeal.Read.val_main_v1, Cert.MixFwdRefIdeal.Read.val_main_v105, Cert.MixFwdRefIdeal.Read.val_main_v106]
    refine congrArg₂ (· - ·) ?_ (pin_zero P q _)
    skip
    exact (congrArg (fun z => Cert.MixFwdRefIdeal.Read.val_main_v28 (F := Ideal) P (ix3 0 q z)) (Fin.ext (by simp <;> omega) : _ = k)).trans (mean_ref1 P q k)
  · rw [at1_eq PS]; exact congrArg (at1 PS) hj

/-- The reference's pool mixer, group 2. -/
theorem pool_ref2 (q : Fin 8192) (l : Fin 128) (j : Fin 512) (hj : j.val = 256 + l.val) :
    Cert.MixFwdRefIdeal.Read.val_main_v113 (F := Ideal) P WP PS (ix3 0 q j)
      = poolF 7 2 (pinG (at2 P)) (cntF 8 q.val) (at3 WP) (at1 PS) q.val l.val := by
  pointwise [Cert.MixFwdRefIdeal.Read.val_main_v111, Cert.MixFwdRefIdeal.Read.val_main_v112, Cert.MixFwdRefIdeal.Read.val_main_v113]
  rw [pooled_ref P WP 2 l q j hj]
  unfold poolF
  refine congrArg₂ (· * ·) (Finset.sum_congr rfl fun k _ => ?_) ?_
  · rw [mul_comm, at3_eq WP]
    refine congrArg (· * _) ?_
    pointwise [Cert.MixFwdRefIdeal.Read.val_main_v0, Cert.MixFwdRefIdeal.Read.val_main_v1, Cert.MixFwdRefIdeal.Read.val_main_v105, Cert.MixFwdRefIdeal.Read.val_main_v106]
    refine congrArg₂ (· - ·) ?_ (pin_zero P q _)
    rw [dif_neg (by omega), dif_neg (by omega), dif_pos (by omega)]
    exact (congrArg (fun z => Cert.MixFwdRefIdeal.Read.val_main_v54 (F := Ideal) P (ix3 0 q z)) (Fin.ext (by simp <;> omega) : _ = k)).trans (mean_ref2 P q k)
  · rw [at1_eq PS]; exact congrArg (at1 PS) hj

/-- The reference's pool mixer, group 3. -/
theorem pool_ref3 (q : Fin 8192) (l : Fin 128) (j : Fin 512) (hj : j.val = 384 + l.val) :
    Cert.MixFwdRefIdeal.Read.val_main_v113 (F := Ideal) P WP PS (ix3 0 q j)
      = poolF 15 3 (pinG (at2 P)) (cntF 16 q.val) (at3 WP) (at1 PS) q.val l.val := by
  pointwise [Cert.MixFwdRefIdeal.Read.val_main_v111, Cert.MixFwdRefIdeal.Read.val_main_v112, Cert.MixFwdRefIdeal.Read.val_main_v113]
  rw [pooled_ref P WP 3 l q j hj]
  unfold poolF
  refine congrArg₂ (· * ·) (Finset.sum_congr rfl fun k _ => ?_) ?_
  · rw [mul_comm, at3_eq WP]
    refine congrArg (· * _) ?_
    pointwise [Cert.MixFwdRefIdeal.Read.val_main_v0, Cert.MixFwdRefIdeal.Read.val_main_v1, Cert.MixFwdRefIdeal.Read.val_main_v105, Cert.MixFwdRefIdeal.Read.val_main_v106]
    refine congrArg₂ (· - ·) ?_ (pin_zero P q _)
    rw [dif_neg (by omega), dif_neg (by omega), dif_neg (by omega)]
    exact (congrArg (fun z => Cert.MixFwdRefIdeal.Read.val_main_v104 (F := Ideal) P (ix3 0 q z)) (Fin.ext (by simp <;> omega) : _ = k)).trans (mean_ref3 P q k)
  · rw [at1_eq PS]; exact congrArg (at1 PS) hj

/-- The first result of the reference in the columns of pool group 0. -/
theorem out_pool0 (q : Fin 8192) (l : Fin 128) (j : Fin 2048) (hj : j.val = 0 + l.val) :
    Cert.MixFwdRefIdeal.Read.val_main_v423 (F := Ideal) P WP PS LG LB WS SB CW CB CG CN (ix2 q j) = poolF 1 0 (pinG (at2 P)) (cntF 2 q.val) (at3 WP) (at1 PS) q.val l.val := by
  pointwise [Cert.MixFwdRefIdeal.Read.val_main_v421, Cert.MixFwdRefIdeal.Read.val_main_v422, Cert.MixFwdRefIdeal.Read.val_main_v423]
  rw [dif_pos (by omega)]
  exact pool_ref0 P WP PS q l ⟨j.val, by omega⟩ hj

/-- The first result of the reference in the columns of pool group 1. -/
theorem out_pool1 (q : Fin 8192) (l : Fin 128) (j : Fin 2048) (hj : j.val = 128 + l.val) :
    Cert.MixFwdRefIdeal.Read.val_main_v423 (F := Ideal) P WP PS LG LB WS SB CW CB CG CN (ix2 q j) = poolF 3 1 (pinG (at2 P)) (cntF 4 q.val) (at3 WP) (at1 PS) q.val l.val := by
  pointwise [Cert.MixFwdRefIdeal.Read.val_main_v421, Cert.MixFwdRefIdeal.Read.val_main_v422, Cert.MixFwdRefIdeal.Read.val_main_v423]
  rw [dif_pos (by omega)]
  exact pool_ref1 P WP PS q l ⟨j.val, by omega⟩ hj

/-- The first result of the reference in the columns of pool group 2. -/
theorem out_pool2 (q : Fin 8192) (l : Fin 128) (j : Fin 2048) (hj : j.val = 256 + l.val) :
    Cert.MixFwdRefIdeal.Read.val_main_v423 (F := Ideal) P WP PS LG LB WS SB CW CB CG CN (ix2 q j) = poolF 7 2 (pinG (at2 P)) (cntF 8 q.val) (at3 WP) (at1 PS) q.val l.val := by
  pointwise [Cert.MixFwdRefIdeal.Read.val_main_v421, Cert.MixFwdRefIdeal.Read.val_main_v422, Cert.MixFwdRefIdeal.Read.val_main_v423]
  rw [dif_pos (by omega)]
  exact pool_ref2 P WP PS q l ⟨j.val, by omega⟩ hj

/-- The first result of the reference in the columns of pool group 3. -/
theorem out_pool3 (q : Fin 8192) (l : Fin 128) (j : Fin 2048) (hj : j.val = 384 + l.val) :
    Cert.MixFwdRefIdeal.Read.val_main_v423 (F := Ideal) P WP PS LG LB WS SB CW CB CG CN (ix2 q j) = poolF 15 3 (pinG (at2 P)) (cntF 16 q.val) (at3 WP) (at1 PS) q.val l.val := by
  pointwise [Cert.MixFwdRefIdeal.Read.val_main_v421, Cert.MixFwdRefIdeal.Read.val_main_v422, Cert.MixFwdRefIdeal.Read.val_main_v423]
  rw [dif_pos (by omega)]
  exact pool_ref3 P WP PS q l ⟨j.val, by omega⟩ hj

/-- The first result of the reference in the columns of the gated mixer. -/
theorem out_sgu (n : Fin 64) (r l : Fin 128) (h : Fin 6) (q : Fin 8192) (j : Fin 2048) (hq : q.val = 128 * n.val + r.val) (hj : j.val = 512 + (128 * h.val + l.val)) :
    Cert.MixFwdRefIdeal.Read.val_main_v423 (F := Ideal) P WP PS LG LB WS SB CW CB CG CN (ix2 q j) = sguF (at2 P) (at1 LG) (at1 LB) (at3 WS) (at2 SB) (128 * n.val) r.val h.val l.val := by
  pointwise [Cert.MixFwdRefIdeal.Read.val_main_v421, Cert.MixFwdRefIdeal.Read.val_main_v422, Cert.MixFwdRefIdeal.Read.val_main_v423]
  rw [dif_neg (by omega), dif_pos (by omega)]
  exact sgu_ref P LG LB WS SB n r l h q ⟨j.val - 512, by omega⟩ hq (by show j.val - 512 = _; omega)

/-- The first result of the reference in the columns of the convolution. -/
theorem out_silu (q : Fin 8192) (l : Fin 768) (j : Fin 2048) (hj : j.val = 1280 + l.val) :
    Cert.MixFwdRefIdeal.Read.val_main_v423 (F := Ideal) P WP PS LG LB WS SB CW CB CG CN (ix2 q j) = siluF (at1 CG) (at1 CN) (convF (ginG (at2 P)) (at2 CW) (at1 CB) q.val) l.val := by
  pointwise [Cert.MixFwdRefIdeal.Read.val_main_v421, Cert.MixFwdRefIdeal.Read.val_main_v422, Cert.MixFwdRefIdeal.Read.val_main_v423]
  rw [dif_neg (by omega), dif_neg (by omega)]
  refine (congrArg (fun z => Cert.MixFwdRefIdeal.Read.val_main_v420 (F := Ideal) P CW CB CG CN (ix3 0 q z)) (Fin.ext (by show j.val - 512 - 768 = l.val; omega) : _ = l)).trans (silu_ref P CW CB CG CN q l)

/-- The second result of the reference. -/
theorem out_conv (q : Fin 8192) (l : Fin 768) :
    Cert.MixFwdRefIdeal.Read.val_main_v424 (F := Ideal) P CW CB (ix2 q l) = convF (ginG (at2 P)) (at2 CW) (at1 CB) q.val l.val := by
  pointwise [Cert.MixFwdRefIdeal.Read.val_main_v424]
  exact conv_ref P CW CB q l

end Cert.MixFwdRefIdeal.Hand

end
-- ==== Proof.MixFwd.Block.lean ====
module

public import proofs.«01_k».proof.Proof.Gen.MixFwdIdeal.Value
public import Idealize.ShloMosaic.Lib.Pipeline.ValueKit
public import Idealize.ShloMosaic.Lib.Pipeline.ReadBack
public import proofs.«01_k».proof.Proof.MixFwd.Mixed
public import proofs.«01_k».proof.Proof.MixFwd.Ref

@[expose] public section

set_option maxRecDepth 16384

noncomputable section

namespace Cert.MixFwdIdeal.Hand

open Idealize.ShloMosaic Idealize.ShloMosaic.TcCoe Idealize.SL.Sem
open Idealize.ShloMosaic.Pipeline (Dat)
open Cert.MixFwdIdeal Cert.MixFwdIdeal.Gen
open Cert.Hand

/-- Running sums of sequences that agree on their first terms are equal. -/
theorem wsum_congr {f f' : ℕ → EReal} : ∀ n : ℕ, (∀ j : ℕ, j ≤ n → f j = f' j) → wsum f n = wsum f' n
  | 0, h => h 0 (le_refl 0)
  | n + 1, h => congrArg₂ (· + ·) (wsum_congr n fun j hj => h j (Nat.le_succ_of_le hj)) (h (n + 1) (le_refl _))

/-- The pool mixer on rows that agree from row `T` on. -/
theorem poolF_congr {n g T q l : ℕ} {pin pin' : ℕ → ℕ → EReal} {cnt cnt' : EReal} {wp wp' : ℕ → ℕ → ℕ → EReal} {ps ps' : ℕ → EReal}
    (hn : n < 16) (hq : q < 256) (hp : ∀ e k : ℕ, e < 272 → pin e k = pin' (T + e) k) (hc : cnt = cnt') (hw : wp = wp') (hs : ps = ps') :
    poolF n g pin cnt wp ps q l = poolF n g pin' cnt' wp' ps' (T + q) l := by
  subst hc hw hs
  unfold poolF
  refine congrArg₂ (· * ·) (Finset.sum_congr rfl fun k _ => congrArg₂ (· * ·) (congrArg₂ (· - ·) (congrArg₂ Ideal.div ?_ rfl) ?_) rfl) rfl
  · refine wsum_congr n fun j hj => (hp _ _ (by omega)).trans (congrArg (fun z => pin' z _) (by omega))
  · exact (hp _ _ (by omega)).trans (congrArg (fun z => pin' z _) (by omega))

/-- The gated mixer on rows that agree from row `T` on. -/
theorem sguF_congr {T B r h l : ℕ} {raw raw' : ℕ → ℕ → EReal} {lg lg' lb lb' : ℕ → EReal} {ws ws' : ℕ → ℕ → ℕ → EReal} {sb sb' : ℕ → ℕ → EReal}
    (hB : B + 128 ≤ 256) (hr : r < 128) (hp : ∀ e k : ℕ, e < 256 → raw e k = raw' (T + e) k) (hg : lg = lg') (hb : lb = lb') (hw : ws = ws')
    (hs : sb h r = sb' h r) : sguF raw lg lb ws sb B r h l = sguF raw' lg' lb' ws' sb' (T + B) r h l := by
  subst hg hb hw
  have e : ∀ k : ℕ, k < 128 → raw (B + k) = raw' (T + B + k) := fun k hk => funext fun j =>
    (hp _ _ (by omega)).trans (congrArg (fun z => raw' z _) (by omega))
  unfold sguF
  refine congrArg₂ (· * ·) (by rw [e r hr]) (congrArg₂ (· + ·) (Finset.sum_congr rfl fun k _ => ?_) hs)
  rw [e k.val k.isLt]

variable (m : (ℓ : Loc nD τ sig) → Buf (Elt Ideal) ℓ)

/-- Which block each window holds at each point of the grid. -/
theorem idx : ∀ t : Fin cfg0.N, win0_0.index t = ![t.val, 0]
    ∧ win0_1.index t = ![8 * t.val - 1, 0]
    ∧ win0_2.index t = ![0, 0, 0]
    ∧ win0_3.index t = ![0, 0]
    ∧ win0_4.index t = ![0, 0]
    ∧ win0_5.index t = ![0, 0]
    ∧ win0_6.index t = ![0, 0, 0]
    ∧ win0_7.index t = ![0, 0, 0]
    ∧ win0_8.index t = ![0, 0]
    ∧ win0_9.index t = ![0, 0]
    ∧ win0_10.index t = ![0, 0]
    ∧ win0_11.index t = ![0, 0]
    ∧ win0_12.index t = ![t.val, 0]
    ∧ win0_13.index t = ![t.val, 0] :=
  (by decide +kernel : ∀ t : Fin grid0.N, _)

/-- The point's coordinate is its number. -/
theorem coord : ∀ t : Fin cfg0.N, (grid0.coords t 0).val = t.val :=
  (by decide +kernel : ∀ t : Fin grid0.N, (grid0.coords t 0).val = t.val)

/-- The factor of the rows before a block: zero at the first block, one at the others. -/
theorem factor (t : Fin cfg0.N) : k0_pay2 (F := Ideal) (grid0.coords t) = if t.val = 0 then 0 else 1 := by
  have h : ∀ t : Fin grid0.N, (Scalar.extui (Scalar.cmpi .sgt (BitVec.ofNat 32 t.val) 0#32) : BitVec 32) = if t.val = 0 then 0#32 else 1#32 := by
    decide +kernel
  unfold k0_pay2
  rw [coord t]
  show Scalar.sitofp (F := Ideal) .f32 (Scalar.extui (Scalar.cmpi .sgt (BitVec.ofNat 32 t.val) 0#32)) = _
  rw [h t]
  by_cases e : t.val = 0
  · rw [if_pos e, if_pos e]; show (((0#32 : BitVec 32).toInt : ℝ) : EReal) = 0; simp
  · rw [if_neg e, if_neg e]; show (((1#32 : BitVec 32).toInt : ℝ) : EReal) = 1; simp

/-- The count of rows in a mean over 2 rows. -/
theorem count2 (t : Fin cfg0.N) (r : Fin 256) : cntK (grid0.coords t) 2#32 r.val = cntF 2 (t.val * 256 + r.val) := by
  have h : ∀ t : Fin 32, ∀ r : Fin 256, (IntOp.minsi (IntOp.addi (IntOp.addi (Scalar.muli (BitVec.ofNat 32 t.val) 256#32) (BitVec.ofNat 32 r.val)) 1#32) 2#32).toInt
      = ((min (t.val * 256 + r.val + 1) 2 : ℕ) : ℤ) := by decide +kernel
  unfold cntK cntF
  rw [coord t]
  show (((IntOp.minsi _ _).toInt : ℝ) : EReal) = _
  rw [h ⟨t.val, t.isLt⟩ r]
  simp

/-- The count of rows in a mean over 4 rows. -/
theorem count4 (t : Fin cfg0.N) (r : Fin 256) : cntK (grid0.coords t) 4#32 r.val = cntF 4 (t.val * 256 + r.val) := by
  have h : ∀ t : Fin 32, ∀ r : Fin 256, (IntOp.minsi (IntOp.addi (IntOp.addi (Scalar.muli (BitVec.ofNat 32 t.val) 256#32) (BitVec.ofNat 32 r.val)) 1#32) 4#32).toInt
      = ((min (t.val * 256 + r.val + 1) 4 : ℕ) : ℤ) := by decide +kernel
  unfold cntK cntF
  rw [coord t]
  show (((IntOp.minsi _ _).toInt : ℝ) : EReal) = _
  rw [h ⟨t.val, t.isLt⟩ r]
  simp

/-- The count of rows in a mean over 8 rows. -/
theorem count8 (t : Fin cfg0.N) (r : Fin 256) : cntK (grid0.coords t) 8#32 r.val = cntF 8 (t.val * 256 + r.val) := by
  have h : ∀ t : Fin 32, ∀ r : Fin 256, (IntOp.minsi (IntOp.addi (IntOp.addi (Scalar.muli (BitVec.ofNat 32 t.val) 256#32) (BitVec.ofNat 32 r.val)) 1#32) 8#32).toInt
      = ((min (t.val * 256 + r.val + 1) 8 : ℕ) : ℤ) := by decide +kernel
  unfold cntK cntF
  rw [coord t]
  show (((IntOp.minsi _ _).toInt : ℝ) : EReal) = _
  rw [h ⟨t.val, t.isLt⟩ r]
  simp

/-- The count of rows in a mean over 16 rows. -/
theorem count16 (t : Fin cfg0.N) (r : Fin 256) : cntK (grid0.coords t) 16#32 r.val = cntF 16 (t.val * 256 + r.val) := by
  have h : ∀ t : Fin 32, ∀ r : Fin 256, (IntOp.minsi (IntOp.addi (IntOp.addi (Scalar.muli (BitVec.ofNat 32 t.val) 256#32) (BitVec.ofNat 32 r.val)) 1#32) 16#32).toInt
      = ((min (t.val * 256 + r.val + 1) 16 : ℕ) : ℤ) := by decide +kernel
  unfold cntK cntF
  rw [coord t]
  show (((IntOp.minsi _ _).toInt : ℝ) : EReal) = _
  rw [h ⟨t.val, t.isLt⟩ r]
  simp

/-- The block of the input, at an index of the array. -/
theorem blk0 (c : Dev nD) (t : Fin cfg0.N) (r : Fin 256) (l : Fin 3584) (q : Fin 8192) (hq : (q : ℕ) = t.val * 256 + r) :
    (show FVec Ideal S256x3584 .f32 from iblk m c 0 t) (ix2 r l) = (show FVec Ideal S8192x3584 .f32 from m ((c : Thread nD τ).loc main_arg0)) (ix2 q l) := by
  have e : ((cfg0.win 0).blk t).view.emb (ix2 r l : S256x3584.Idx) = (ix2 q l : S8192x3584.Idx) := by
    blk_ext [idx t]
    all_goals omega
  rw [← e]; blk_point [iblk, V, idx t]

/-- The rows before a block, at an index of the array. -/
theorem blk1 (c : Dev nD) (t : Fin cfg0.N) (r : Fin 32) (l : Fin 3584) (q : Fin 8192) (ht : 0 < t.val) (hq : (q : ℕ) = t.val * 256 + r - 32) :
    (show FVec Ideal S32x3584 .f32 from iblk m c 1 t) (ix2 r l) = (show FVec Ideal S8192x3584 .f32 from m ((c : Thread nD τ).loc main_arg0)) (ix2 q l) := by
  have e : ((cfg0.win 1).blk t).view.emb (ix2 r l : S32x3584.Idx) = (ix2 q l : S8192x3584.Idx) := by
    blk_ext [idx t]
    all_goals omega
  rw [← e]; blk_point [iblk, V, idx t]

/-- Window 2 holds its whole array. -/
theorem blk2 (c : Dev nD) (t : Fin cfg0.N) : at3 (show FVec Ideal S4x128x128 .f32 from iblk m c 2 t) = at3 (show FVec Ideal S4x128x128 .f32 from m ((c : Thread nD τ).loc main_arg1)) := by
  funext b r l
  unfold at3
  by_cases h : b < 4 ∧ r < 128 ∧ l < 128
  · rw [dif_pos h, dif_pos h]
    have e : ((cfg0.win 2).blk t).view.emb (ix3 ⟨b, h.1⟩ ⟨r, h.2.1⟩ ⟨l, h.2.2⟩ : S4x128x128.Idx) = (ix3 ⟨b, h.1⟩ ⟨r, h.2.1⟩ ⟨l, h.2.2⟩ : S4x128x128.Idx) := by blk_ext [idx t]
    refine Eq.trans ?_ (congrArg _ e); blk_point [iblk, V, idx t]
  · rw [dif_neg h, dif_neg h]

/-- Window 6 holds its whole array. -/
theorem blk6 (c : Dev nD) (t : Fin cfg0.N) : at3 (show FVec Ideal S6x128x128 .f32 from iblk m c 6 t) = at3 (show FVec Ideal S6x128x128 .f32 from m ((c : Thread nD τ).loc main_arg5)) := by
  funext b r l
  unfold at3
  by_cases h : b < 6 ∧ r < 128 ∧ l < 128
  · rw [dif_pos h, dif_pos h]
    have e : ((cfg0.win 6).blk t).view.emb (ix3 ⟨b, h.1⟩ ⟨r, h.2.1⟩ ⟨l, h.2.2⟩ : S6x128x128.Idx) = (ix3 ⟨b, h.1⟩ ⟨r, h.2.1⟩ ⟨l, h.2.2⟩ : S6x128x128.Idx) := by blk_ext [idx t]
    refine Eq.trans ?_ (congrArg _ e); blk_point [iblk, V, idx t]
  · rw [dif_neg h, dif_neg h]

/-- The row the host code prepares for window 3. -/
theorem entry3 (c : Dev nD) : V m c main_v3 = shapeCast S1x512 (show FVec Ideal S512 .f32 from m ((c : Thread nD τ).loc main_arg2)) shapeCasts_S512_S1x512 := by
  unfold V; after_results; try rfl

/-- The row in window 3. -/
theorem blk3 (c : Dev nD) (t : Fin cfg0.N) : at2 (show FVec Ideal S1x512 .f32 from iblk m c 3 t) 0 = at1 (show FVec Ideal S512 .f32 from m ((c : Thread nD τ).loc main_arg2)) := by
  funext l
  unfold at2 at1
  by_cases h : l < 512
  · rw [dif_pos ⟨Nat.one_pos, h⟩, dif_pos h]
    have e : ((cfg0.win 3).blk t).view.emb (ix2 0 ⟨l, h⟩ : S1x512.Idx) = (ix2 0 ⟨l, h⟩ : S1x512.Idx) := by blk_ext [idx t]
    show V m c main_v3 _ = _
    refine (congrArg _ e).trans ?_
    rw [entry3]; pointwise
  · rw [dif_neg (fun k => h k.2), dif_neg h]

/-- The row the host code prepares for window 4. -/
theorem entry4 (c : Dev nD) : V m c main_v4 = shapeCast S1x768 (show FVec Ideal S768 .f32 from m ((c : Thread nD τ).loc main_arg3)) shapeCasts_S768_S1x768 := by
  unfold V; after_results; try rfl

/-- The row in window 4. -/
theorem blk4 (c : Dev nD) (t : Fin cfg0.N) : at2 (show FVec Ideal S1x768 .f32 from iblk m c 4 t) 0 = at1 (show FVec Ideal S768 .f32 from m ((c : Thread nD τ).loc main_arg3)) := by
  funext l
  unfold at2 at1
  by_cases h : l < 768
  · rw [dif_pos ⟨Nat.one_pos, h⟩, dif_pos h]
    have e : ((cfg0.win 4).blk t).view.emb (ix2 0 ⟨l, h⟩ : S1x768.Idx) = (ix2 0 ⟨l, h⟩ : S1x768.Idx) := by blk_ext [idx t]
    show V m c main_v4 _ = _
    refine (congrArg _ e).trans ?_
    rw [entry4]; pointwise
  · rw [dif_neg (fun k => h k.2), dif_neg h]

/-- The row the host code prepares for window 5. -/
theorem entry5 (c : Dev nD) : V m c main_v5 = shapeCast S1x768 (show FVec Ideal S768 .f32 from m ((c : Thread nD τ).loc main_arg4)) shapeCasts_S768_S1x768 := by
  unfold V; after_results; try rfl

/-- The row in window 5. -/
theorem blk5 (c : Dev nD) (t : Fin cfg0.N) : at2 (show FVec Ideal S1x768 .f32 from iblk m c 5 t) 0 = at1 (show FVec Ideal S768 .f32 from m ((c : Thread nD τ).loc main_arg4)) := by
  funext l
  unfold at2 at1
  by_cases h : l < 768
  · rw [dif_pos ⟨Nat.one_pos, h⟩, dif_pos h]
    have e : ((cfg0.win 5).blk t).view.emb (ix2 0 ⟨l, h⟩ : S1x768.Idx) = (ix2 0 ⟨l, h⟩ : S1x768.Idx) := by blk_ext [idx t]
    show V m c main_v5 _ = _
    refine (congrArg _ e).trans ?_
    rw [entry5]; pointwise
  · rw [dif_neg (fun k => h k.2), dif_neg h]

/-- The row the host code prepares for window 9. -/
theorem entry9 (c : Dev nD) : V m c main_v6 = shapeCast S1x768 (show FVec Ideal S768 .f32 from m ((c : Thread nD τ).loc main_arg8)) shapeCasts_S768_S1x768 := by
  unfold V; after_results; try rfl

/-- The row in window 9. -/
theorem blk9 (c : Dev nD) (t : Fin cfg0.N) : at2 (show FVec Ideal S1x768 .f32 from iblk m c 9 t) 0 = at1 (show FVec Ideal S768 .f32 from m ((c : Thread nD τ).loc main_arg8)) := by
  funext l
  unfold at2 at1
  by_cases h : l < 768
  · rw [dif_pos ⟨Nat.one_pos, h⟩, dif_pos h]
    have e : ((cfg0.win 9).blk t).view.emb (ix2 0 ⟨l, h⟩ : S1x768.Idx) = (ix2 0 ⟨l, h⟩ : S1x768.Idx) := by blk_ext [idx t]
    show V m c main_v6 _ = _
    refine (congrArg _ e).trans ?_
    rw [entry9]; pointwise
  · rw [dif_neg (fun k => h k.2), dif_neg h]

/-- The row the host code prepares for window 10. -/
theorem entry10 (c : Dev nD) : V m c main_v7 = shapeCast S1x768 (show FVec Ideal S768 .f32 from m ((c : Thread nD τ).loc main_arg9)) shapeCasts_S768_S1x768 := by
  unfold V; after_results; try rfl

/-- The row in window 10. -/
theorem blk10 (c : Dev nD) (t : Fin cfg0.N) : at2 (show FVec Ideal S1x768 .f32 from iblk m c 10 t) 0 = at1 (show FVec Ideal S768 .f32 from m ((c : Thread nD τ).loc main_arg9)) := by
  funext l
  unfold at2 at1
  by_cases h : l < 768
  · rw [dif_pos ⟨Nat.one_pos, h⟩, dif_pos h]
    have e : ((cfg0.win 10).blk t).view.emb (ix2 0 ⟨l, h⟩ : S1x768.Idx) = (ix2 0 ⟨l, h⟩ : S1x768.Idx) := by blk_ext [idx t]
    show V m c main_v7 _ = _
    refine (congrArg _ e).trans ?_
    rw [entry10]; pointwise
  · rw [dif_neg (fun k => h k.2), dif_neg h]

/-- The row the host code prepares for window 11. -/
theorem entry11 (c : Dev nD) : V m c main_v8 = shapeCast S1x768 (show FVec Ideal S768 .f32 from m ((c : Thread nD τ).loc main_arg10)) shapeCasts_S768_S1x768 := by
  unfold V; after_results; try rfl

/-- The row in window 11. -/
theorem blk11 (c : Dev nD) (t : Fin cfg0.N) : at2 (show FVec Ideal S1x768 .f32 from iblk m c 11 t) 0 = at1 (show FVec Ideal S768 .f32 from m ((c : Thread nD τ).loc main_arg10)) := by
  funext l
  unfold at2 at1
  by_cases h : l < 768
  · rw [dif_pos ⟨Nat.one_pos, h⟩, dif_pos h]
    have e : ((cfg0.win 11).blk t).view.emb (ix2 0 ⟨l, h⟩ : S1x768.Idx) = (ix2 0 ⟨l, h⟩ : S1x768.Idx) := by blk_ext [idx t]
    show V m c main_v8 _ = _
    refine (congrArg _ e).trans ?_
    rw [entry11]; pointwise
  · rw [dif_neg (fun k => h k.2), dif_neg h]

/-- The tile the host code prepares of the gated mixer's offsets. -/
theorem entry7 (c : Dev nD) : V m c main_v1 = broadcastInDim S6x128x128 ![0, 1, 2] bcast_S6x128x1_S6x128x128_0_1_2 (broadcastInDim S6x128x1 ![0, 1] bcast_S6x128_S6x128x1_0_1 (show FVec Ideal S6x128 .f32 from m ((c : Thread nD τ).loc main_arg6))) := by
  unfold V; after_results; try rfl

/-- The tile of the gated mixer's offsets. -/
theorem blk7 (c : Dev nD) (t : Fin cfg0.N) (b r l : ℕ) (hl : l < 128) : at3 (show FVec Ideal S6x128x128 .f32 from iblk m c 7 t) b r l = at2 (show FVec Ideal S6x128 .f32 from m ((c : Thread nD τ).loc main_arg6)) b r := by
  unfold at3 at2
  by_cases h : b < 6 ∧ r < 128
  · rw [dif_pos ⟨h.1, h.2, hl⟩, dif_pos h]
    have e : ((cfg0.win 7).blk t).view.emb (ix3 ⟨b, h.1⟩ ⟨r, h.2⟩ ⟨l, hl⟩ : S6x128x128.Idx) = (ix3 ⟨b, h.1⟩ ⟨r, h.2⟩ ⟨l, hl⟩ : S6x128x128.Idx) := by blk_ext [idx t]
    show V m c main_v1 _ = _
    refine (congrArg _ e).trans ?_
    rw [entry7]; pointwise
  · rw [dif_neg (fun k => h ⟨k.1, k.2.1⟩), dif_neg h]

/-- The taps the host code prepares, with one row of zeros after them. -/
theorem entry8 (c : Dev nD) : V m c main_v2 = pad S32x768 ![0, 0] ![1, 0] ![0, 0] (show FVec Ideal S31x768 .f32 from m ((c : Thread nD τ).loc main_arg7)) (sitofp (F := Ideal) .f32 (constantI S_ 32 0#32)) pads_S31x768_S32x768_010_000 h_S_ := by
  unfold V
  simp only [hostOps0, hostOps0_1, hostOps0_2, List.flatten_cons, List.flatten_nil, List.append_nil, List.cons_append, List.nil_append]
  after_results
  try rfl

/-- The taps of the convolution. -/
theorem blk8 (c : Dev nD) (t : Fin cfg0.N) (k l : ℕ) (hk : k < 31) : at2 (show FVec Ideal S32x768 .f32 from iblk m c 8 t) k l = at2 (show FVec Ideal S31x768 .f32 from m ((c : Thread nD τ).loc main_arg7)) k l := by
  unfold at2
  by_cases h : l < 768
  · rw [dif_pos ⟨by omega, h⟩, dif_pos ⟨hk, h⟩]
    have e : ((cfg0.win 8).blk t).view.emb (ix2 ⟨k, by omega⟩ ⟨l, h⟩ : S32x768.Idx) = (ix2 ⟨k, by omega⟩ ⟨l, h⟩ : S32x768.Idx) := by blk_ext [idx t]
    show V m c main_v2 _ = _
    refine (congrArg _ e).trans ?_
    rw [entry8]; pointwise
    exact dif_pos ⟨hk, h⟩
  · rw [dif_neg (fun k => h k.2), dif_neg (fun k => h k.2)]

/-- A row of a block is a row of the input. -/
theorem row0 (c : Dev nD) (t : Fin cfg0.N) (r l : ℕ) (hr : r < 256) : at2 (show FVec Ideal S256x3584 .f32 from iblk m c 0 t) r l = at2 (show FVec Ideal S8192x3584 .f32 from m ((c : Thread nD τ).loc main_arg0)) (t.val * 256 + r) l := by
  have ht : t.val < 32 := t.isLt
  unfold at2
  by_cases h : l < 3584
  · rw [dif_pos ⟨hr, h⟩, dif_pos ⟨by omega, h⟩]
    exact blk0 m c t ⟨r, hr⟩ ⟨l, h⟩ ⟨t.val * 256 + r, by omega⟩ rfl
  · rw [dif_neg (fun k => h k.2), dif_neg (fun k => h k.2)]

/-- A row before a block is a row of the input. -/
theorem row1 (c : Dev nD) (t : Fin cfg0.N) (r l : ℕ) (hr : r < 32) (h0 : 0 < t.val) : at2 (show FVec Ideal S32x3584 .f32 from iblk m c 1 t) r l = at2 (show FVec Ideal S8192x3584 .f32 from m ((c : Thread nD τ).loc main_arg0)) (t.val * 256 + r - 32) l := by
  have ht : t.val < 32 := t.isLt
  unfold at2
  by_cases h : l < 3584
  · rw [dif_pos ⟨hr, h⟩, dif_pos ⟨by omega, h⟩]
    exact blk1 m c t ⟨r, hr⟩ ⟨l, h⟩ ⟨t.val * 256 + r - 32, by omega⟩ h0 rfl
  · rw [dif_neg (fun k => h k.2), dif_neg (fun k => h k.2)]

/-- The rows the pool mixer reads in a block. -/
theorem prow_eq (c : Dev nD) (t : Fin cfg0.N) (e k : ℕ) (he : e < 272) : prow (grid0.coords t) (show FVec Ideal S256x3584 .f32 from iblk m c 0 t) (show FVec Ideal S32x3584 .f32 from iblk m c 1 t) e k = pinG (at2 (show FVec Ideal S8192x3584 .f32 from m ((c : Thread nD τ).loc main_arg0))) (t.val * 256 + e) k := by
  unfold prow pinG
  by_cases h : e < 16
  · rw [if_pos h, factor]
    by_cases h0 : t.val = 0
    · rw [if_pos h0, if_pos (by omega), mul_zero]
    · rw [if_neg h0, if_neg (by omega), mul_one, row1 m c t _ _ (by omega) (by omega)]
      exact congrArg (fun z => at2 (show FVec Ideal S8192x3584 .f32 from m ((c : Thread nD τ).loc main_arg0)) z k) (by omega)
  · rw [if_neg h, if_neg (by omega), row0 m c t _ _ (by omega)]
    exact congrArg (fun z => at2 (show FVec Ideal S8192x3584 .f32 from m ((c : Thread nD τ).loc main_arg0)) z k) (by omega)

/-- The gated rows the convolution reads in a block. -/
theorem gated_eq (c : Dev nD) (t : Fin cfg0.N) (e k : ℕ) (he : e < 288) : gated (grid0.coords t) (show FVec Ideal S256x3584 .f32 from iblk m c 0 t) (show FVec Ideal S32x3584 .f32 from iblk m c 1 t) e k = ginG (at2 (show FVec Ideal S8192x3584 .f32 from m ((c : Thread nD τ).loc main_arg0))) (t.val * 256 + e) k := by
  unfold gated ginG
  by_cases h : e < 32
  · rw [if_pos h, factor]
    by_cases h0 : t.val = 0
    · rw [if_pos h0, if_pos (by omega), mul_zero]
    · rw [if_neg h0, if_neg (by omega), mul_one, row1 m c t _ _ (by omega) (by omega), row1 m c t _ _ (by omega) (by omega)]
  · rw [if_neg h, if_neg (by omega), row0 m c t _ _ (by omega), row0 m c t _ _ (by omega)]
    rw [show t.val * 256 + (e - 32) = t.val * 256 + e - 32 by omega]

/-- The convolution in a block. -/
theorem conv_eq (c : Dev nD) (t : Fin cfg0.N) (r l : ℕ) (hr : r < 256) :
    conv (grid0.coords t) (show FVec Ideal S256x3584 .f32 from iblk m c 0 t) (show FVec Ideal S32x3584 .f32 from iblk m c 1 t) (show FVec Ideal S32x768 .f32 from iblk m c 8 t) (show FVec Ideal S1x768 .f32 from iblk m c 9 t) r l = convF (ginG (at2 (show FVec Ideal S8192x3584 .f32 from m ((c : Thread nD τ).loc main_arg0)))) (at2 (show FVec Ideal S31x768 .f32 from m ((c : Thread nD τ).loc main_arg7))) (at1 (show FVec Ideal S768 .f32 from m ((c : Thread nD τ).loc main_arg8))) (t.val * 256 + r) l := by
  unfold conv convF
  refine congrArg₂ (· + ·) (Finset.sum_congr rfl fun k _ => congrArg₂ (· * ·) (blk8 m c t k.val l k.isLt) ?_) (congrFun (blk9 m c t) l)
  refine (gated_eq m c t _ _ (by have := k.isLt; omega)).trans (congrArg (fun z => ginG (at2 (show FVec Ideal S8192x3584 .f32 from m ((c : Thread nD τ).loc main_arg0))) z l) (by omega))

end Cert.MixFwdIdeal.Hand

end
-- ==== Proof.MixFwd.Value.lean ====
module

public import proofs.«01_k».proof.Proof.Gen.MixFwdIdeal.Value
public import Idealize.ShloMosaic.Lib.Pipeline.ValueKit
public import Idealize.ShloMosaic.Lib.Pipeline.ReadBack
public import proofs.«01_k».proof.Proof.MixFwd.Block

@[expose] public section

set_option maxRecDepth 16384

noncomputable section

namespace Cert.MixFwdIdeal.Hand

open Idealize.ShloMosaic Idealize.ShloMosaic.TcCoe Idealize.SL.Sem
open Idealize.ShloMosaic.Pipeline (Dat)
open Cert.MixFwdIdeal Cert.MixFwdIdeal.Gen
open Cert.Hand

variable (c : Dev nD) (i : grid0.Coords) (arg1 : Memref sig .tc .vmem S256x3584 .f32) (harg1 : arg1.IsWhole) (arg2 : Memref sig .tc .vmem S32x3584 .f32) (harg2 : arg2.IsWhole) (arg3 : Memref sig .tc .vmem S4x128x128 .f32) (harg3 : arg3.IsWhole) (arg4 : Memref sig .tc .vmem S1x512 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S6x128x128 .f32) (harg7 : arg7.IsWhole) (arg8 : Memref sig .tc .vmem S6x128x128 .f32) (harg8 : arg8.IsWhole) (arg9 : Memref sig .tc .vmem S32x768 .f32) (harg9 : arg9.IsWhole) (arg10 : Memref sig .tc .vmem S1x768 .f32) (harg10 : arg10.IsWhole) (arg11 : Memref sig .tc .vmem S1x768 .f32) (harg11 : arg11.IsWhole) (arg12 : Memref sig .tc .vmem S1x768 .f32) (harg12 : arg12.IsWhole) (arg13 : Memref sig .tc .vmem S256x2048 .bf16) (harg13 : arg13.IsWhole) (arg14 : Memref sig .tc .vmem S256x768 .f32) (harg14 : arg14.IsWhole) (arg15 : Memref sig .tc .vmem S272x512 .f32) (harg15 : arg15.IsWhole) (arg16 : Memref sig .tc .vmem S288x768 .f32) (harg16 : arg16.IsWhole) (arg17 : Memref sig .tc .vmem S7x280x768 .f32) (harg17 : arg17.IsWhole)
variable (x0 : FVec Ideal S256x3584 .f32) (x1 : FVec Ideal S32x3584 .f32) (x2 : FVec Ideal S4x128x128 .f32) (x3 : FVec Ideal S1x512 .f32) (x4 : FVec Ideal S1x768 .f32) (x5 : FVec Ideal S1x768 .f32) (x6 : FVec Ideal S6x128x128 .f32) (x7 : FVec Ideal S6x128x128 .f32) (x8 : FVec Ideal S32x768 .f32) (x9 : FVec Ideal S1x768 .f32) (x10 : FVec Ideal S1x768 .f32) (x11 : FVec Ideal S1x768 .f32)

/-- The stores into the first output at a point, last first. -/
theorem stores : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).1 =
    [⟨Rect.unit ![0, 1280] ![256, 768] inb_S256x2048_S256x768_0_1280, k0_pay1 (F := Ideal) (kernelRun0_A.sl.r_384 (F := Ideal) c i arg1 harg1 arg2 harg2 arg9 harg9 arg10 harg10 arg11 harg11 arg14 arg16 arg17 x0 x1 x8 x9 x10) (View.readAt (Elt Ideal) arg12.view (Rect.unit (s := S1x768) ![0, 0] S1x768.size inb_S1x768_S1x768_0_0).toLoadRect (harg12.unread x11))⟩,
    ⟨Rect.unit ![128, 1152] S128x128.size inb_S256x2048_S128x128_128_1152, k0_pay42 (F := Ideal) (kernelRun0_A.sl.r_9 (F := Ideal) c arg1 harg1 x0) (kernelRun0_A.sl.r_12 (F := Ideal) c arg1 harg1 arg5 harg5 arg6 harg6 x0 x4 x5) kernelRun0_A.sl.v316 kernelRun0_A.sl.v317 (View.readAt (Elt Ideal) arg7.view (Rect.unit (s := S6x128x128) ![5, 0, 0] S1x128x128.size inb_S6x128x128_S1x128x128_5_0_0).toLoadRect (harg7.unread x6)) (View.readAt (Elt Ideal) arg8.view (Rect.unit (s := S6x128x128) ![5, 0, 0] S1x128x128.size inb_S6x128x128_S1x128x128_5_0_0).toLoadRect (harg8.unread x7))⟩,
    ⟨Rect.unit ![0, 1152] S128x128.size inb_S256x2048_S128x128_0_1152, k0_pay41 (F := Ideal) (kernelRun0_A.sl.r_9 (F := Ideal) c arg1 harg1 x0) (kernelRun0_A.sl.r_12 (F := Ideal) c arg1 harg1 arg5 harg5 arg6 harg6 x0 x4 x5) kernelRun0_A.sl.v316 kernelRun0_A.sl.v317 (View.readAt (Elt Ideal) arg7.view (Rect.unit (s := S6x128x128) ![5, 0, 0] S1x128x128.size inb_S6x128x128_S1x128x128_5_0_0).toLoadRect (harg7.unread x6)) (View.readAt (Elt Ideal) arg8.view (Rect.unit (s := S6x128x128) ![5, 0, 0] S1x128x128.size inb_S6x128x128_S1x128x128_5_0_0).toLoadRect (harg8.unread x7))⟩,
    ⟨Rect.unit ![128, 1024] S128x128.size inb_S256x2048_S128x128_128_1024, k0_pay39 (F := Ideal) (kernelRun0_A.sl.r_9 (F := Ideal) c arg1 harg1 x0) (kernelRun0_A.sl.r_12 (F := Ideal) c arg1 harg1 arg5 harg5 arg6 harg6 x0 x4 x5) (View.readAt (Elt Ideal) arg7.view (Rect.unit (s := S6x128x128) ![4, 0, 0] S1x128x128.size inb_S6x128x128_S1x128x128_4_0_0).toLoadRect (harg7.unread x6)) (View.readAt (Elt Ideal) arg8.view (Rect.unit (s := S6x128x128) ![4, 0, 0] S1x128x128.size inb_S6x128x128_S1x128x128_4_0_0).toLoadRect (harg8.unread x7))⟩,
    ⟨Rect.unit ![0, 1024] S128x128.size inb_S256x2048_S128x128_0_1024, k0_pay38 (F := Ideal) (kernelRun0_A.sl.r_9 (F := Ideal) c arg1 harg1 x0) (kernelRun0_A.sl.r_12 (F := Ideal) c arg1 harg1 arg5 harg5 arg6 harg6 x0 x4 x5) (View.readAt (Elt Ideal) arg7.view (Rect.unit (s := S6x128x128) ![4, 0, 0] S1x128x128.size inb_S6x128x128_S1x128x128_4_0_0).toLoadRect (harg7.unread x6)) (View.readAt (Elt Ideal) arg8.view (Rect.unit (s := S6x128x128) ![4, 0, 0] S1x128x128.size inb_S6x128x128_S1x128x128_4_0_0).toLoadRect (harg8.unread x7))⟩,
    ⟨Rect.unit ![128, 896] S128x128.size inb_S256x2048_S128x128_128_896, k0_pay36 (F := Ideal) (kernelRun0_A.sl.r_9 (F := Ideal) c arg1 harg1 x0) (kernelRun0_A.sl.r_16 (F := Ideal) c arg7 harg7 x6) (kernelRun0_A.sl.r_17 (F := Ideal) c arg1 harg1 arg5 harg5 arg6 harg6 x0 x4 x5) kernelRun0_A.sl.cst_131 (View.readAt (Elt Ideal) arg8.view (Rect.unit (s := S6x128x128) ![3, 0, 0] S1x128x128.size inb_S6x128x128_S1x128x128_3_0_0).toLoadRect (harg8.unread x7))⟩,
    ⟨Rect.unit ![0, 896] S128x128.size inb_S256x2048_S128x128_0_896, k0_pay34 (F := Ideal) (kernelRun0_A.sl.r_9 (F := Ideal) c arg1 harg1 x0) (kernelRun0_A.sl.r_12 (F := Ideal) c arg1 harg1 arg5 harg5 arg6 harg6 x0 x4 x5) (View.readAt (Elt Ideal) arg7.view (Rect.unit (s := S6x128x128) ![3, 0, 0] S1x128x128.size inb_S6x128x128_S1x128x128_3_0_0).toLoadRect (harg7.unread x6)) (View.readAt (Elt Ideal) arg8.view (Rect.unit (s := S6x128x128) ![3, 0, 0] S1x128x128.size inb_S6x128x128_S1x128x128_3_0_0).toLoadRect (harg8.unread x7))⟩,
    ⟨Rect.unit ![128, 768] S128x128.size inb_S256x2048_S128x128_128_768, k0_pay32 (F := Ideal) (kernelRun0_A.sl.r_9 (F := Ideal) c arg1 harg1 x0) (kernelRun0_A.sl.r_12 (F := Ideal) c arg1 harg1 arg5 harg5 arg6 harg6 x0 x4 x5) (kernelRun0_A.sl.r_14 (F := Ideal) c arg7 harg7 x6) (View.readAt (Elt Ideal) arg8.view (Rect.unit (s := S6x128x128) ![2, 0, 0] S1x128x128.size inb_S6x128x128_S1x128x128_2_0_0).toLoadRect (harg8.unread x7))⟩,
    ⟨Rect.unit ![0, 768] S128x128.size inb_S256x2048_S128x128_0_768, k0_pay31 (F := Ideal) (kernelRun0_A.sl.r_9 (F := Ideal) c arg1 harg1 x0) (kernelRun0_A.sl.r_14 (F := Ideal) c arg7 harg7 x6) (kernelRun0_A.sl.r_15 (F := Ideal) c arg1 harg1 arg5 harg5 arg6 harg6 x0 x4 x5) kernelRun0_A.sl.cst_131 (View.readAt (Elt Ideal) arg8.view (Rect.unit (s := S6x128x128) ![2, 0, 0] S1x128x128.size inb_S6x128x128_S1x128x128_2_0_0).toLoadRect (harg8.unread x7))⟩,
    ⟨Rect.unit ![128, 640] S128x128.size inb_S256x2048_S128x128_128_640, k0_pay28 (F := Ideal) (kernelRun0_A.sl.r_9 (F := Ideal) c arg1 harg1 x0) (kernelRun0_A.sl.r_12 (F := Ideal) c arg1 harg1 arg5 harg5 arg6 harg6 x0 x4 x5) (View.readAt (Elt Ideal) arg7.view (Rect.unit (s := S6x128x128) ![1, 0, 0] S1x128x128.size inb_S6x128x128_S1x128x128_1_0_0).toLoadRect (harg7.unread x6)) (View.readAt (Elt Ideal) arg8.view (Rect.unit (s := S6x128x128) ![1, 0, 0] S1x128x128.size inb_S6x128x128_S1x128x128_1_0_0).toLoadRect (harg8.unread x7))⟩,
    ⟨Rect.unit ![0, 640] S128x128.size inb_S256x2048_S128x128_0_640, k0_pay27 (F := Ideal) (kernelRun0_A.sl.r_9 (F := Ideal) c arg1 harg1 x0) (kernelRun0_A.sl.r_12 (F := Ideal) c arg1 harg1 arg5 harg5 arg6 harg6 x0 x4 x5) (View.readAt (Elt Ideal) arg7.view (Rect.unit (s := S6x128x128) ![1, 0, 0] S1x128x128.size inb_S6x128x128_S1x128x128_1_0_0).toLoadRect (harg7.unread x6)) (View.readAt (Elt Ideal) arg8.view (Rect.unit (s := S6x128x128) ![1, 0, 0] S1x128x128.size inb_S6x128x128_S1x128x128_1_0_0).toLoadRect (harg8.unread x7))⟩,
    ⟨Rect.unit ![128, 512] S128x128.size inb_S256x2048_S128x128_128_512, kernelRun0_A.sl.r_13 (F := Ideal) c arg1 harg1 arg5 harg5 arg6 harg6 arg7 harg7 arg8 harg8 x0 x4 x5 x6 x7⟩,
    ⟨Rect.unit ![0, 512] S128x128.size inb_S256x2048_S128x128_0_512, k0_pay24 (F := Ideal) (kernelRun0_A.sl.r_9 (F := Ideal) c arg1 harg1 x0) (kernelRun0_A.sl.r_10 (F := Ideal) c arg1 harg1 x0) (kernelRun0_A.sl.r_11 (F := Ideal) c arg1 harg1 x0) kernelRun0_A.sl.cst_91 (View.readAt (Elt Ideal) arg5.view (Rect.unit (s := S1x768) ![0, 0] S1x768.size inb_S1x768_S1x768_0_0).toLoadRect (harg5.unread x4)) (View.readAt (Elt Ideal) arg6.view (Rect.unit (s := S1x768) ![0, 0] S1x768.size inb_S1x768_S1x768_0_0).toLoadRect (harg6.unread x5)) (View.readAt (Elt Ideal) arg7.view (Rect.unit (s := S6x128x128) ![0, 0, 0] S1x128x128.size inb_S6x128x128_S1x128x128_0_0_0).toLoadRect (harg7.unread x6)) (View.readAt (Elt Ideal) arg8.view (Rect.unit (s := S6x128x128) ![0, 0, 0] S1x128x128.size inb_S6x128x128_S1x128x128_0_0_0).toLoadRect (harg8.unread x7))⟩,
    ⟨Rect.unit ![0, 384] S256x128.size inb_S256x2048_S256x128_0_384, k0_pay17 (F := Ideal) (kernelRun0_A.sl.r_7 (F := Ideal) c i arg1 harg1 arg2 harg2 arg15 x0 x1) (View.readAt (Elt Ideal) arg3.view (Rect.unit (s := S4x128x128) ![3, 0, 0] S1x128x128.size inb_S4x128x128_S1x128x128_3_0_0).toLoadRect (harg3.unread x2)) (View.readAt (Elt Ideal) arg4.view (Rect.unit (s := S1x512) ![0, 384] S1x128.size inb_S1x512_S1x128_0_384).toLoadRect (harg4.unread x3))⟩,
    ⟨Rect.unit ![0, 256] S256x128.size inb_S256x2048_S256x128_0_256, kernelRun0_A.sl.r_8 (F := Ideal) c i arg1 harg1 arg2 harg2 arg3 harg3 arg4 harg4 arg15 x0 x1 x2 x3⟩,
    ⟨Rect.unit ![0, 128] S256x128.size inb_S256x2048_S256x128_0_128, k0_pay15 (F := Ideal) (kernelRun0_A.sl.r_2 (F := Ideal) c i arg1 harg1 arg2 harg2 arg15 x0 x1) (View.readAt (Elt Ideal) arg3.view (Rect.unit (s := S4x128x128) ![1, 0, 0] S1x128x128.size inb_S4x128x128_S1x128x128_1_0_0).toLoadRect (harg3.unread x2)) (View.readAt (Elt Ideal) arg4.view (Rect.unit (s := S1x512) ![0, 128] S1x128.size inb_S1x512_S1x128_0_128).toLoadRect (harg4.unread x3))⟩,
    ⟨Rect.unit ![0, 0] S256x128.size inb_S256x2048_S256x128_0_0, k0_pay14 (F := Ideal) (kernelRun0_A.sl.r (F := Ideal) c i arg1 harg1 arg2 harg2 arg15 x0 x1) (View.readAt (Elt Ideal) arg3.view (Rect.unit (s := S4x128x128) ![0, 0, 0] S1x128x128.size inb_S4x128x128_S1x128x128_0_0_0).toLoadRect (harg3.unread x2)) (View.readAt (Elt Ideal) arg4.view (Rect.unit (s := S1x512) ![0, 0] S1x128.size inb_S1x512_S1x128_0_0).toLoadRect (harg4.unread x3))⟩] := rfl

/-- The stores into the second output at a point, last first. -/
theorem stores13 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).2.1 = kernelRun0_A.sl.H13_24 (F := Ideal) c i arg1 harg1 arg2 harg2 arg9 harg9 arg10 harg10 arg16 arg17 x0 x1 x8 x9 := rfl

/-- A row of a block is a row of the array. -/
theorem rowlt' (t : Fin cfg0.N) (r : ℕ) (hr : r < 256) : t.val * 256 + r < 8192 := by
  have := t.isLt; change t.val < 32 at this; omega

theorem rowlt (t : Fin cfg0.N) (r : Fin 256) : t.val * 256 + r.val < 8192 := rowlt' t r.val r.isLt

/-- Indices of equal coordinates are equal. -/
theorem ix2_of {R C : ℕ} (a a' : Fin R) (b b' : Fin C) (ha : a.val = a'.val) (hb : b.val = b'.val) : (ix2 a b : (⟨2, ![R, C]⟩ : Shape).Idx) = ix2 a' b' := by
  rw [Fin.ext ha, Fin.ext hb]

variable (m : (ℓ : Loc nD τ sig) → Buf (Elt Ideal) ℓ)

/-- The reference's first result over the rows of a block. -/
def rows12 (c : Dev nD) (t : Fin cfg0.N) : S256x2048.Idx → EReal := fun y =>
  Cert.MixFwdRefIdeal.Read.val_main_v423 (F := Ideal) (show FVec Ideal S8192x3584 .f32 from m ((c : Thread nD τ).loc main_arg0)) (show FVec Ideal S4x128x128 .f32 from m ((c : Thread nD τ).loc main_arg1)) (show FVec Ideal S512 .f32 from m ((c : Thread nD τ).loc main_arg2)) (show FVec Ideal S768 .f32 from m ((c : Thread nD τ).loc main_arg3)) (show FVec Ideal S768 .f32 from m ((c : Thread nD τ).loc main_arg4)) (show FVec Ideal S6x128x128 .f32 from m ((c : Thread nD τ).loc main_arg5)) (show FVec Ideal S6x128 .f32 from m ((c : Thread nD τ).loc main_arg6)) (show FVec Ideal S31x768 .f32 from m ((c : Thread nD τ).loc main_arg7)) (show FVec Ideal S768 .f32 from m ((c : Thread nD τ).loc main_arg8)) (show FVec Ideal S768 .f32 from m ((c : Thread nD τ).loc main_arg9)) (show FVec Ideal S768 .f32 from m ((c : Thread nD τ).loc main_arg10)) (ix2 ⟨t.val * 256 + (y 0).val, rowlt t (y 0)⟩ (y 1))

/-- A list of stores that holds a function's values reads back as the function. -/
theorem canon_of {s : Shape} {e : EltTy} {G : s.Idx → Elt Ideal e} {L : List (View.Piece (Elt Ideal) s e)} (hp : View.PiecesOf (Val := Elt Ideal) G L)
    (hc : ∀ y : s.Idx, ∃ pc ∈ L, y ∈ pc.1.set) (y : s.Idx) : View.canon (Val := Elt Ideal) L y = G y :=
  View.canon_apply_of_pieces (Val := Elt Ideal) (S := s) (e := e) G L (View.PiecesOf.mem hp) y (hc y)

/-- Each store into the first output at a point holds the reference's values. -/
theorem stores_eq (t : Fin cfg0.N) : View.PiecesOf (Val := Elt Ideal) (s := S256x2048) (e := .bf16) (rows12 m c t) (kernelRun0_A (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).1 := by
  rw [stores]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩ <;> idx_vars x <;> simp only [Rect.emb_apply, rows12]
  · refine Eq.trans (b := siluF (at2 (show FVec Ideal S1x768 .f32 from iblk m c 10 t) 0) (at2 (show FVec Ideal S1x768 .f32 from iblk m c 11 t) 0) (conv (grid0.coords t) (show FVec Ideal S256x3584 .f32 from iblk m c 0 t) (show FVec Ideal S32x3584 .f32 from iblk m c 1 t) (show FVec Ideal S32x768 .f32 from iblk m c 8 t) (show FVec Ideal S1x768 .f32 from iblk m c 9 t) x0.val) x1.val) (by apply silu) ?_
    rw [blk10 m c t, blk11 m c t, show conv (grid0.coords t) (show FVec Ideal S256x3584 .f32 from iblk m c 0 t) (show FVec Ideal S32x3584 .f32 from iblk m c 1 t) (show FVec Ideal S32x768 .f32 from iblk m c 8 t) (show FVec Ideal S1x768 .f32 from iblk m c 9 t) x0.val = _ from funext fun l => conv_eq m c t x0.val l x0.isLt]
    exact (Cert.MixFwdRefIdeal.Hand.out_silu (show FVec Ideal S8192x3584 .f32 from m ((c : Thread nD τ).loc main_arg0)) (show FVec Ideal S4x128x128 .f32 from m ((c : Thread nD τ).loc main_arg1)) (show FVec Ideal S512 .f32 from m ((c : Thread nD τ).loc main_arg2)) (show FVec Ideal S768 .f32 from m ((c : Thread nD τ).loc main_arg3)) (show FVec Ideal S768 .f32 from m ((c : Thread nD τ).loc main_arg4)) (show FVec Ideal S6x128x128 .f32 from m ((c : Thread nD τ).loc main_arg5)) (show FVec Ideal S6x128 .f32 from m ((c : Thread nD τ).loc main_arg6)) (show FVec Ideal S31x768 .f32 from m ((c : Thread nD τ).loc main_arg7)) (show FVec Ideal S768 .f32 from m ((c : Thread nD τ).loc main_arg8)) (show FVec Ideal S768 .f32 from m ((c : Thread nD τ).loc main_arg9)) (show FVec Ideal S768 .f32 from m ((c : Thread nD τ).loc main_arg10)) ⟨t.val * 256 + x0.val, rowlt t x0⟩ x1 ⟨1280 + x1.val, by omega⟩ rfl).symm.trans (congrArg _ (ix2_of _ _ _ _ (by simp) (by simp)))
  · refine Eq.trans (b := sguF (at2 (show FVec Ideal S256x3584 .f32 from iblk m c 0 t)) (at2 (show FVec Ideal S1x768 .f32 from iblk m c 4 t) 0) (at2 (show FVec Ideal S1x768 .f32 from iblk m c 5 t) 0) (at3 (show FVec Ideal S6x128x128 .f32 from iblk m c 6 t)) (fun h r => at3 (show FVec Ideal S6x128x128 .f32 from iblk m c 7 t) h r x1.val) 128 x0.val 5 x1.val) (by apply sgu5_128) ?_
    rw [sguF_congr (by decide) x0.isLt (fun e k he => row0 m c t e k he) (blk4 m c t) (blk5 m c t) (blk6 m c t) (blk7 m c t 5 x0.val x1.val x1.isLt)]
    refine (congrArg (fun z => sguF _ _ _ _ _ z _ _ _) (by show _ = 128 * (2 * t.val + 1); omega)).trans ((Cert.MixFwdRefIdeal.Hand.out_sgu (show FVec Ideal S8192x3584 .f32 from m ((c : Thread nD τ).loc main_arg0)) (show FVec Ideal S4x128x128 .f32 from m ((c : Thread nD τ).loc main_arg1)) (show FVec Ideal S512 .f32 from m ((c : Thread nD τ).loc main_arg2)) (show FVec Ideal S768 .f32 from m ((c : Thread nD τ).loc main_arg3)) (show FVec Ideal S768 .f32 from m ((c : Thread nD τ).loc main_arg4)) (show FVec Ideal S6x128x128 .f32 from m ((c : Thread nD τ).loc main_arg5)) (show FVec Ideal S6x128 .f32 from m ((c : Thread nD τ).loc main_arg6)) (show FVec Ideal S31x768 .f32 from m ((c : Thread nD τ).loc main_arg7)) (show FVec Ideal S768 .f32 from m ((c : Thread nD τ).loc main_arg8)) (show FVec Ideal S768 .f32 from m ((c : Thread nD τ).loc main_arg9)) (show FVec Ideal S768 .f32 from m ((c : Thread nD τ).loc main_arg10)) ⟨2 * t.val + 1, by have := t.isLt; change t.val < 32 at this; omega⟩ x0 x1 5 ⟨t.val * 256 + (128 + x0.val), rowlt' t _ (by omega)⟩ ⟨1152 + x1.val, by omega⟩ (by show t.val * 256 + (128 + x0.val) = 128 * (2 * t.val + 1) + x0.val; omega) (by show 1152 + x1.val = 512 + (128 * 5 + x1.val); omega)).symm.trans (congrArg _ (ix2_of _ _ _ _ (by simp) (by simp))))
  · refine Eq.trans (b := sguF (at2 (show FVec Ideal S256x3584 .f32 from iblk m c 0 t)) (at2 (show FVec Ideal S1x768 .f32 from iblk m c 4 t) 0) (at2 (show FVec Ideal S1x768 .f32 from iblk m c 5 t) 0) (at3 (show FVec Ideal S6x128x128 .f32 from iblk m c 6 t)) (fun h r => at3 (show FVec Ideal S6x128x128 .f32 from iblk m c 7 t) h r x1.val) 0 x0.val 5 x1.val) (by apply sgu5_0) ?_
    rw [sguF_congr (by decide) x0.isLt (fun e k he => row0 m c t e k he) (blk4 m c t) (blk5 m c t) (blk6 m c t) (blk7 m c t 5 x0.val x1.val x1.isLt)]
    refine (congrArg (fun z => sguF _ _ _ _ _ z _ _ _) (by show _ = 128 * (2 * t.val + 0); omega)).trans ((Cert.MixFwdRefIdeal.Hand.out_sgu (show FVec Ideal S8192x3584 .f32 from m ((c : Thread nD τ).loc main_arg0)) (show FVec Ideal S4x128x128 .f32 from m ((c : Thread nD τ).loc main_arg1)) (show FVec Ideal S512 .f32 from m ((c : Thread nD τ).loc main_arg2)) (show FVec Ideal S768 .f32 from m ((c : Thread nD τ).loc main_arg3)) (show FVec Ideal S768 .f32 from m ((c : Thread nD τ).loc main_arg4)) (show FVec Ideal S6x128x128 .f32 from m ((c : Thread nD τ).loc main_arg5)) (show FVec Ideal S6x128 .f32 from m ((c : Thread nD τ).loc main_arg6)) (show FVec Ideal S31x768 .f32 from m ((c : Thread nD τ).loc main_arg7)) (show FVec Ideal S768 .f32 from m ((c : Thread nD τ).loc main_arg8)) (show FVec Ideal S768 .f32 from m ((c : Thread nD τ).loc main_arg9)) (show FVec Ideal S768 .f32 from m ((c : Thread nD τ).loc main_arg10)) ⟨2 * t.val + 0, by have := t.isLt; change t.val < 32 at this; omega⟩ x0 x1 5 ⟨t.val * 256 + (0 + x0.val), rowlt' t _ (by omega)⟩ ⟨1152 + x1.val, by omega⟩ (by show t.val * 256 + (0 + x0.val) = 128 * (2 * t.val + 0) + x0.val; omega) (by show 1152 + x1.val = 512 + (128 * 5 + x1.val); omega)).symm.trans (congrArg _ (ix2_of _ _ _ _ (by simp) (by simp))))
  · refine Eq.trans (b := sguF (at2 (show FVec Ideal S256x3584 .f32 from iblk m c 0 t)) (at2 (show FVec Ideal S1x768 .f32 from iblk m c 4 t) 0) (at2 (show FVec Ideal S1x768 .f32 from iblk m c 5 t) 0) (at3 (show FVec Ideal S6x128x128 .f32 from iblk m c 6 t)) (fun h r => at3 (show FVec Ideal S6x128x128 .f32 from iblk m c 7 t) h r x1.val) 128 x0.val 4 x1.val) (by apply sgu4_128) ?_
    rw [sguF_congr (by decide) x0.isLt (fun e k he => row0 m c t e k he) (blk4 m c t) (blk5 m c t) (blk6 m c t) (blk7 m c t 4 x0.val x1.val x1.isLt)]
    refine (congrArg (fun z => sguF _ _ _ _ _ z _ _ _) (by show _ = 128 * (2 * t.val + 1); omega)).trans ((Cert.MixFwdRefIdeal.Hand.out_sgu (show FVec Ideal S8192x3584 .f32 from m ((c : Thread nD τ).loc main_arg0)) (show FVec Ideal S4x128x128 .f32 from m ((c : Thread nD τ).loc main_arg1)) (show FVec Ideal S512 .f32 from m ((c : Thread nD τ).loc main_arg2)) (show FVec Ideal S768 .f32 from m ((c : Thread nD τ).loc main_arg3)) (show FVec Ideal S768 .f32 from m ((c : Thread nD τ).loc main_arg4)) (show FVec Ideal S6x128x128 .f32 from m ((c : Thread nD τ).loc main_arg5)) (show FVec Ideal S6x128 .f32 from m ((c : Thread nD τ).loc main_arg6)) (show FVec Ideal S31x768 .f32 from m ((c : Thread nD τ).loc main_arg7)) (show FVec Ideal S768 .f32 from m ((c : Thread nD τ).loc main_arg8)) (show FVec Ideal S768 .f32 from m ((c : Thread nD τ).loc main_arg9)) (show FVec Ideal S768 .f32 from m ((c : Thread nD τ).loc main_arg10)) ⟨2 * t.val + 1, by have := t.isLt; change t.val < 32 at this; omega⟩ x0 x1 4 ⟨t.val * 256 + (128 + x0.val), rowlt' t _ (by omega)⟩ ⟨1024 + x1.val, by omega⟩ (by show t.val * 256 + (128 + x0.val) = 128 * (2 * t.val + 1) + x0.val; omega) (by show 1024 + x1.val = 512 + (128 * 4 + x1.val); omega)).symm.trans (congrArg _ (ix2_of _ _ _ _ (by simp) (by simp))))
  · refine Eq.trans (b := sguF (at2 (show FVec Ideal S256x3584 .f32 from iblk m c 0 t)) (at2 (show FVec Ideal S1x768 .f32 from iblk m c 4 t) 0) (at2 (show FVec Ideal S1x768 .f32 from iblk m c 5 t) 0) (at3 (show FVec Ideal S6x128x128 .f32 from iblk m c 6 t)) (fun h r => at3 (show FVec Ideal S6x128x128 .f32 from iblk m c 7 t) h r x1.val) 0 x0.val 4 x1.val) (by apply sgu4_0) ?_
    rw [sguF_congr (by decide) x0.isLt (fun e k he => row0 m c t e k he) (blk4 m c t) (blk5 m c t) (blk6 m c t) (blk7 m c t 4 x0.val x1.val x1.isLt)]
    refine (congrArg (fun z => sguF _ _ _ _ _ z _ _ _) (by show _ = 128 * (2 * t.val + 0); omega)).trans ((Cert.MixFwdRefIdeal.Hand.out_sgu (show FVec Ideal S8192x3584 .f32 from m ((c : Thread nD τ).loc main_arg0)) (show FVec Ideal S4x128x128 .f32 from m ((c : Thread nD τ).loc main_arg1)) (show FVec Ideal S512 .f32 from m ((c : Thread nD τ).loc main_arg2)) (show FVec Ideal S768 .f32 from m ((c : Thread nD τ).loc main_arg3)) (show FVec Ideal S768 .f32 from m ((c : Thread nD τ).loc main_arg4)) (show FVec Ideal S6x128x128 .f32 from m ((c : Thread nD τ).loc main_arg5)) (show FVec Ideal S6x128 .f32 from m ((c : Thread nD τ).loc main_arg6)) (show FVec Ideal S31x768 .f32 from m ((c : Thread nD τ).loc main_arg7)) (show FVec Ideal S768 .f32 from m ((c : Thread nD τ).loc main_arg8)) (show FVec Ideal S768 .f32 from m ((c : Thread nD τ).loc main_arg9)) (show FVec Ideal S768 .f32 from m ((c : Thread nD τ).loc main_arg10)) ⟨2 * t.val + 0, by have := t.isLt; change t.val < 32 at this; omega⟩ x0 x1 4 ⟨t.val * 256 + (0 + x0.val), rowlt' t _ (by omega)⟩ ⟨1024 + x1.val, by omega⟩ (by show t.val * 256 + (0 + x0.val) = 128 * (2 * t.val + 0) + x0.val; omega) (by show 1024 + x1.val = 512 + (128 * 4 + x1.val); omega)).symm.trans (congrArg _ (ix2_of _ _ _ _ (by simp) (by simp))))
  · refine Eq.trans (b := sguF (at2 (show FVec Ideal S256x3584 .f32 from iblk m c 0 t)) (at2 (show FVec Ideal S1x768 .f32 from iblk m c 4 t) 0) (at2 (show FVec Ideal S1x768 .f32 from iblk m c 5 t) 0) (at3 (show FVec Ideal S6x128x128 .f32 from iblk m c 6 t)) (fun h r => at3 (show FVec Ideal S6x128x128 .f32 from iblk m c 7 t) h r x1.val) 128 x0.val 3 x1.val) (by apply sgu3_128) ?_
    rw [sguF_congr (by decide) x0.isLt (fun e k he => row0 m c t e k he) (blk4 m c t) (blk5 m c t) (blk6 m c t) (blk7 m c t 3 x0.val x1.val x1.isLt)]
    refine (congrArg (fun z => sguF _ _ _ _ _ z _ _ _) (by show _ = 128 * (2 * t.val + 1); omega)).trans ((Cert.MixFwdRefIdeal.Hand.out_sgu (show FVec Ideal S8192x3584 .f32 from m ((c : Thread nD τ).loc main_arg0)) (show FVec Ideal S4x128x128 .f32 from m ((c : Thread nD τ).loc main_arg1)) (show FVec Ideal S512 .f32 from m ((c : Thread nD τ).loc main_arg2)) (show FVec Ideal S768 .f32 from m ((c : Thread nD τ).loc main_arg3)) (show FVec Ideal S768 .f32 from m ((c : Thread nD τ).loc main_arg4)) (show FVec Ideal S6x128x128 .f32 from m ((c : Thread nD τ).loc main_arg5)) (show FVec Ideal S6x128 .f32 from m ((c : Thread nD τ).loc main_arg6)) (show FVec Ideal S31x768 .f32 from m ((c : Thread nD τ).loc main_arg7)) (show FVec Ideal S768 .f32 from m ((c : Thread nD τ).loc main_arg8)) (show FVec Ideal S768 .f32 from m ((c : Thread nD τ).loc main_arg9)) (show FVec Ideal S768 .f32 from m ((c : Thread nD τ).loc main_arg10)) ⟨2 * t.val + 1, by have := t.isLt; change t.val < 32 at this; omega⟩ x0 x1 3 ⟨t.val * 256 + (128 + x0.val), rowlt' t _ (by omega)⟩ ⟨896 + x1.val, by omega⟩ (by show t.val * 256 + (128 + x0.val) = 128 * (2 * t.val + 1) + x0.val; omega) (by show 896 + x1.val = 512 + (128 * 3 + x1.val); omega)).symm.trans (congrArg _ (ix2_of _ _ _ _ (by simp) (by simp))))
  · refine Eq.trans (b := sguF (at2 (show FVec Ideal S256x3584 .f32 from iblk m c 0 t)) (at2 (show FVec Ideal S1x768 .f32 from iblk m c 4 t) 0) (at2 (show FVec Ideal S1x768 .f32 from iblk m c 5 t) 0) (at3 (show FVec Ideal S6x128x128 .f32 from iblk m c 6 t)) (fun h r => at3 (show FVec Ideal S6x128x128 .f32 from iblk m c 7 t) h r x1.val) 0 x0.val 3 x1.val) (by apply sgu3_0) ?_
    rw [sguF_congr (by decide) x0.isLt (fun e k he => row0 m c t e k he) (blk4 m c t) (blk5 m c t) (blk6 m c t) (blk7 m c t 3 x0.val x1.val x1.isLt)]
    refine (congrArg (fun z => sguF _ _ _ _ _ z _ _ _) (by show _ = 128 * (2 * t.val + 0); omega)).trans ((Cert.MixFwdRefIdeal.Hand.out_sgu (show FVec Ideal S8192x3584 .f32 from m ((c : Thread nD τ).loc main_arg0)) (show FVec Ideal S4x128x128 .f32 from m ((c : Thread nD τ).loc main_arg1)) (show FVec Ideal S512 .f32 from m ((c : Thread nD τ).loc main_arg2)) (show FVec Ideal S768 .f32 from m ((c : Thread nD τ).loc main_arg3)) (show FVec Ideal S768 .f32 from m ((c : Thread nD τ).loc main_arg4)) (show FVec Ideal S6x128x128 .f32 from m ((c : Thread nD τ).loc main_arg5)) (show FVec Ideal S6x128 .f32 from m ((c : Thread nD τ).loc main_arg6)) (show FVec Ideal S31x768 .f32 from m ((c : Thread nD τ).loc main_arg7)) (show FVec Ideal S768 .f32 from m ((c : Thread nD τ).loc main_arg8)) (show FVec Ideal S768 .f32 from m ((c : Thread nD τ).loc main_arg9)) (show FVec Ideal S768 .f32 from m ((c : Thread nD τ).loc main_arg10)) ⟨2 * t.val + 0, by have := t.isLt; change t.val < 32 at this; omega⟩ x0 x1 3 ⟨t.val * 256 + (0 + x0.val), rowlt' t _ (by omega)⟩ ⟨896 + x1.val, by omega⟩ (by show t.val * 256 + (0 + x0.val) = 128 * (2 * t.val + 0) + x0.val; omega) (by show 896 + x1.val = 512 + (128 * 3 + x1.val); omega)).symm.trans (congrArg _ (ix2_of _ _ _ _ (by simp) (by simp))))
  · refine Eq.trans (b := sguF (at2 (show FVec Ideal S256x3584 .f32 from iblk m c 0 t)) (at2 (show FVec Ideal S1x768 .f32 from iblk m c 4 t) 0) (at2 (show FVec Ideal S1x768 .f32 from iblk m c 5 t) 0) (at3 (show FVec Ideal S6x128x128 .f32 from iblk m c 6 t)) (fun h r => at3 (show FVec Ideal S6x128x128 .f32 from iblk m c 7 t) h r x1.val) 128 x0.val 2 x1.val) (by apply sgu2_128) ?_
    rw [sguF_congr (by decide) x0.isLt (fun e k he => row0 m c t e k he) (blk4 m c t) (blk5 m c t) (blk6 m c t) (blk7 m c t 2 x0.val x1.val x1.isLt)]
    refine (congrArg (fun z => sguF _ _ _ _ _ z _ _ _) (by show _ = 128 * (2 * t.val + 1); omega)).trans ((Cert.MixFwdRefIdeal.Hand.out_sgu (show FVec Ideal S8192x3584 .f32 from m ((c : Thread nD τ).loc main_arg0)) (show FVec Ideal S4x128x128 .f32 from m ((c : Thread nD τ).loc main_arg1)) (show FVec Ideal S512 .f32 from m ((c : Thread nD τ).loc main_arg2)) (show FVec Ideal S768 .f32 from m ((c : Thread nD τ).loc main_arg3)) (show FVec Ideal S768 .f32 from m ((c : Thread nD τ).loc main_arg4)) (show FVec Ideal S6x128x128 .f32 from m ((c : Thread nD τ).loc main_arg5)) (show FVec Ideal S6x128 .f32 from m ((c : Thread nD τ).loc main_arg6)) (show FVec Ideal S31x768 .f32 from m ((c : Thread nD τ).loc main_arg7)) (show FVec Ideal S768 .f32 from m ((c : Thread nD τ).loc main_arg8)) (show FVec Ideal S768 .f32 from m ((c : Thread nD τ).loc main_arg9)) (show FVec Ideal S768 .f32 from m ((c : Thread nD τ).loc main_arg10)) ⟨2 * t.val + 1, by have := t.isLt; change t.val < 32 at this; omega⟩ x0 x1 2 ⟨t.val * 256 + (128 + x0.val), rowlt' t _ (by omega)⟩ ⟨768 + x1.val, by omega⟩ (by show t.val * 256 + (128 + x0.val) = 128 * (2 * t.val + 1) + x0.val; omega) (by show 768 + x1.val = 512 + (128 * 2 + x1.val); omega)).symm.trans (congrArg _ (ix2_of _ _ _ _ (by simp) (by simp))))
  · refine Eq.trans (b := sguF (at2 (show FVec Ideal S256x3584 .f32 from iblk m c 0 t)) (at2 (show FVec Ideal S1x768 .f32 from iblk m c 4 t) 0) (at2 (show FVec Ideal S1x768 .f32 from iblk m c 5 t) 0) (at3 (show FVec Ideal S6x128x128 .f32 from iblk m c 6 t)) (fun h r => at3 (show FVec Ideal S6x128x128 .f32 from iblk m c 7 t) h r x1.val) 0 x0.val 2 x1.val) (by apply sgu2_0) ?_
    rw [sguF_congr (by decide) x0.isLt (fun e k he => row0 m c t e k he) (blk4 m c t) (blk5 m c t) (blk6 m c t) (blk7 m c t 2 x0.val x1.val x1.isLt)]
    refine (congrArg (fun z => sguF _ _ _ _ _ z _ _ _) (by show _ = 128 * (2 * t.val + 0); omega)).trans ((Cert.MixFwdRefIdeal.Hand.out_sgu (show FVec Ideal S8192x3584 .f32 from m ((c : Thread nD τ).loc main_arg0)) (show FVec Ideal S4x128x128 .f32 from m ((c : Thread nD τ).loc main_arg1)) (show FVec Ideal S512 .f32 from m ((c : Thread nD τ).loc main_arg2)) (show FVec Ideal S768 .f32 from m ((c : Thread nD τ).loc main_arg3)) (show FVec Ideal S768 .f32 from m ((c : Thread nD τ).loc main_arg4)) (show FVec Ideal S6x128x128 .f32 from m ((c : Thread nD τ).loc main_arg5)) (show FVec Ideal S6x128 .f32 from m ((c : Thread nD τ).loc main_arg6)) (show FVec Ideal S31x768 .f32 from m ((c : Thread nD τ).loc main_arg7)) (show FVec Ideal S768 .f32 from m ((c : Thread nD τ).loc main_arg8)) (show FVec Ideal S768 .f32 from m ((c : Thread nD τ).loc main_arg9)) (show FVec Ideal S768 .f32 from m ((c : Thread nD τ).loc main_arg10)) ⟨2 * t.val + 0, by have := t.isLt; change t.val < 32 at this; omega⟩ x0 x1 2 ⟨t.val * 256 + (0 + x0.val), rowlt' t _ (by omega)⟩ ⟨768 + x1.val, by omega⟩ (by show t.val * 256 + (0 + x0.val) = 128 * (2 * t.val + 0) + x0.val; omega) (by show 768 + x1.val = 512 + (128 * 2 + x1.val); omega)).symm.trans (congrArg _ (ix2_of _ _ _ _ (by simp) (by simp))))
  · refine Eq.trans (b := sguF (at2 (show FVec Ideal S256x3584 .f32 from iblk m c 0 t)) (at2 (show FVec Ideal S1x768 .f32 from iblk m c 4 t) 0) (at2 (show FVec Ideal S1x768 .f32 from iblk m c 5 t) 0) (at3 (show FVec Ideal S6x128x128 .f32 from iblk m c 6 t)) (fun h r => at3 (show FVec Ideal S6x128x128 .f32 from iblk m c 7 t) h r x1.val) 128 x0.val 1 x1.val) (by apply sgu1_128) ?_
    rw [sguF_congr (by decide) x0.isLt (fun e k he => row0 m c t e k he) (blk4 m c t) (blk5 m c t) (blk6 m c t) (blk7 m c t 1 x0.val x1.val x1.isLt)]
    refine (congrArg (fun z => sguF _ _ _ _ _ z _ _ _) (by show _ = 128 * (2 * t.val + 1); omega)).trans ((Cert.MixFwdRefIdeal.Hand.out_sgu (show FVec Ideal S8192x3584 .f32 from m ((c : Thread nD τ).loc main_arg0)) (show FVec Ideal S4x128x128 .f32 from m ((c : Thread nD τ).loc main_arg1)) (show FVec Ideal S512 .f32 from m ((c : Thread nD τ).loc main_arg2)) (show FVec Ideal S768 .f32 from m ((c : Thread nD τ).loc main_arg3)) (show FVec Ideal S768 .f32 from m ((c : Thread nD τ).loc main_arg4)) (show FVec Ideal S6x128x128 .f32 from m ((c : Thread nD τ).loc main_arg5)) (show FVec Ideal S6x128 .f32 from m ((c : Thread nD τ).loc main_arg6)) (show FVec Ideal S31x768 .f32 from m ((c : Thread nD τ).loc main_arg7)) (show FVec Ideal S768 .f32 from m ((c : Thread nD τ).loc main_arg8)) (show FVec Ideal S768 .f32 from m ((c : Thread nD τ).loc main_arg9)) (show FVec Ideal S768 .f32 from m ((c : Thread nD τ).loc main_arg10)) ⟨2 * t.val + 1, by have := t.isLt; change t.val < 32 at this; omega⟩ x0 x1 1 ⟨t.val * 256 + (128 + x0.val), rowlt' t _ (by omega)⟩ ⟨640 + x1.val, by omega⟩ (by show t.val * 256 + (128 + x0.val) = 128 * (2 * t.val + 1) + x0.val; omega) (by show 640 + x1.val = 512 + (128 * 1 + x1.val); omega)).symm.trans (congrArg _ (ix2_of _ _ _ _ (by simp) (by simp))))
  · refine Eq.trans (b := sguF (at2 (show FVec Ideal S256x3584 .f32 from iblk m c 0 t)) (at2 (show FVec Ideal S1x768 .f32 from iblk m c 4 t) 0) (at2 (show FVec Ideal S1x768 .f32 from iblk m c 5 t) 0) (at3 (show FVec Ideal S6x128x128 .f32 from iblk m c 6 t)) (fun h r => at3 (show FVec Ideal S6x128x128 .f32 from iblk m c 7 t) h r x1.val) 0 x0.val 1 x1.val) (by apply sgu1_0) ?_
    rw [sguF_congr (by decide) x0.isLt (fun e k he => row0 m c t e k he) (blk4 m c t) (blk5 m c t) (blk6 m c t) (blk7 m c t 1 x0.val x1.val x1.isLt)]
    refine (congrArg (fun z => sguF _ _ _ _ _ z _ _ _) (by show _ = 128 * (2 * t.val + 0); omega)).trans ((Cert.MixFwdRefIdeal.Hand.out_sgu (show FVec Ideal S8192x3584 .f32 from m ((c : Thread nD τ).loc main_arg0)) (show FVec Ideal S4x128x128 .f32 from m ((c : Thread nD τ).loc main_arg1)) (show FVec Ideal S512 .f32 from m ((c : Thread nD τ).loc main_arg2)) (show FVec Ideal S768 .f32 from m ((c : Thread nD τ).loc main_arg3)) (show FVec Ideal S768 .f32 from m ((c : Thread nD τ).loc main_arg4)) (show FVec Ideal S6x128x128 .f32 from m ((c : Thread nD τ).loc main_arg5)) (show FVec Ideal S6x128 .f32 from m ((c : Thread nD τ).loc main_arg6)) (show FVec Ideal S31x768 .f32 from m ((c : Thread nD τ).loc main_arg7)) (show FVec Ideal S768 .f32 from m ((c : Thread nD τ).loc main_arg8)) (show FVec Ideal S768 .f32 from m ((c : Thread nD τ).loc main_arg9)) (show FVec Ideal S768 .f32 from m ((c : Thread nD τ).loc main_arg10)) ⟨2 * t.val + 0, by have := t.isLt; change t.val < 32 at this; omega⟩ x0 x1 1 ⟨t.val * 256 + (0 + x0.val), rowlt' t _ (by omega)⟩ ⟨640 + x1.val, by omega⟩ (by show t.val * 256 + (0 + x0.val) = 128 * (2 * t.val + 0) + x0.val; omega) (by show 640 + x1.val = 512 + (128 * 1 + x1.val); omega)).symm.trans (congrArg _ (ix2_of _ _ _ _ (by simp) (by simp))))
  · refine Eq.trans (b := sguF (at2 (show FVec Ideal S256x3584 .f32 from iblk m c 0 t)) (at2 (show FVec Ideal S1x768 .f32 from iblk m c 4 t) 0) (at2 (show FVec Ideal S1x768 .f32 from iblk m c 5 t) 0) (at3 (show FVec Ideal S6x128x128 .f32 from iblk m c 6 t)) (fun h r => at3 (show FVec Ideal S6x128x128 .f32 from iblk m c 7 t) h r x1.val) 128 x0.val 0 x1.val) (by apply sgu0_128) ?_
    rw [sguF_congr (by decide) x0.isLt (fun e k he => row0 m c t e k he) (blk4 m c t) (blk5 m c t) (blk6 m c t) (blk7 m c t 0 x0.val x1.val x1.isLt)]
    refine (congrArg (fun z => sguF _ _ _ _ _ z _ _ _) (by show _ = 128 * (2 * t.val + 1); omega)).trans ((Cert.MixFwdRefIdeal.Hand.out_sgu (show FVec Ideal S8192x3584 .f32 from m ((c : Thread nD τ).loc main_arg0)) (show FVec Ideal S4x128x128 .f32 from m ((c : Thread nD τ).loc main_arg1)) (show FVec Ideal S512 .f32 from m ((c : Thread nD τ).loc main_arg2)) (show FVec Ideal S768 .f32 from m ((c : Thread nD τ).loc main_arg3)) (show FVec Ideal S768 .f32 from m ((c : Thread nD τ).loc main_arg4)) (show FVec Ideal S6x128x128 .f32 from m ((c : Thread nD τ).loc main_arg5)) (show FVec Ideal S6x128 .f32 from m ((c : Thread nD τ).loc main_arg6)) (show FVec Ideal S31x768 .f32 from m ((c : Thread nD τ).loc main_arg7)) (show FVec Ideal S768 .f32 from m ((c : Thread nD τ).loc main_arg8)) (show FVec Ideal S768 .f32 from m ((c : Thread nD τ).loc main_arg9)) (show FVec Ideal S768 .f32 from m ((c : Thread nD τ).loc main_arg10)) ⟨2 * t.val + 1, by have := t.isLt; change t.val < 32 at this; omega⟩ x0 x1 0 ⟨t.val * 256 + (128 + x0.val), rowlt' t _ (by omega)⟩ ⟨512 + x1.val, by omega⟩ (by show t.val * 256 + (128 + x0.val) = 128 * (2 * t.val + 1) + x0.val; omega) (by show 512 + x1.val = 512 + (128 * 0 + x1.val); omega)).symm.trans (congrArg _ (ix2_of _ _ _ _ (by simp) (by simp))))
  · refine Eq.trans (b := sguF (at2 (show FVec Ideal S256x3584 .f32 from iblk m c 0 t)) (at2 (show FVec Ideal S1x768 .f32 from iblk m c 4 t) 0) (at2 (show FVec Ideal S1x768 .f32 from iblk m c 5 t) 0) (at3 (show FVec Ideal S6x128x128 .f32 from iblk m c 6 t)) (fun h r => at3 (show FVec Ideal S6x128x128 .f32 from iblk m c 7 t) h r x1.val) 0 x0.val 0 x1.val) (by apply sgu0_0) ?_
    rw [sguF_congr (by decide) x0.isLt (fun e k he => row0 m c t e k he) (blk4 m c t) (blk5 m c t) (blk6 m c t) (blk7 m c t 0 x0.val x1.val x1.isLt)]
    refine (congrArg (fun z => sguF _ _ _ _ _ z _ _ _) (by show _ = 128 * (2 * t.val + 0); omega)).trans ((Cert.MixFwdRefIdeal.Hand.out_sgu (show FVec Ideal S8192x3584 .f32 from m ((c : Thread nD τ).loc main_arg0)) (show FVec Ideal S4x128x128 .f32 from m ((c : Thread nD τ).loc main_arg1)) (show FVec Ideal S512 .f32 from m ((c : Thread nD τ).loc main_arg2)) (show FVec Ideal S768 .f32 from m ((c : Thread nD τ).loc main_arg3)) (show FVec Ideal S768 .f32 from m ((c : Thread nD τ).loc main_arg4)) (show FVec Ideal S6x128x128 .f32 from m ((c : Thread nD τ).loc main_arg5)) (show FVec Ideal S6x128 .f32 from m ((c : Thread nD τ).loc main_arg6)) (show FVec Ideal S31x768 .f32 from m ((c : Thread nD τ).loc main_arg7)) (show FVec Ideal S768 .f32 from m ((c : Thread nD τ).loc main_arg8)) (show FVec Ideal S768 .f32 from m ((c : Thread nD τ).loc main_arg9)) (show FVec Ideal S768 .f32 from m ((c : Thread nD τ).loc main_arg10)) ⟨2 * t.val + 0, by have := t.isLt; change t.val < 32 at this; omega⟩ x0 x1 0 ⟨t.val * 256 + (0 + x0.val), rowlt' t _ (by omega)⟩ ⟨512 + x1.val, by omega⟩ (by show t.val * 256 + (0 + x0.val) = 128 * (2 * t.val + 0) + x0.val; omega) (by show 512 + x1.val = 512 + (128 * 0 + x1.val); omega)).symm.trans (congrArg _ (ix2_of _ _ _ _ (by simp) (by simp))))
  · refine Eq.trans (b := poolF 15 3 (prow (grid0.coords t) (show FVec Ideal S256x3584 .f32 from iblk m c 0 t) (show FVec Ideal S32x3584 .f32 from iblk m c 1 t)) (cntK (grid0.coords t) 16#32 x0.val) (at3 (show FVec Ideal S4x128x128 .f32 from iblk m c 2 t)) (at2 (show FVec Ideal S1x512 .f32 from iblk m c 3 t) 0) x0.val x1.val) (by apply pool3) ?_
    rw [poolF_congr (by decide) x0.isLt (prow_eq m c t) (count16 t x0) (blk2 m c t) (blk3 m c t)]
    exact (Cert.MixFwdRefIdeal.Hand.out_pool3 (show FVec Ideal S8192x3584 .f32 from m ((c : Thread nD τ).loc main_arg0)) (show FVec Ideal S4x128x128 .f32 from m ((c : Thread nD τ).loc main_arg1)) (show FVec Ideal S512 .f32 from m ((c : Thread nD τ).loc main_arg2)) (show FVec Ideal S768 .f32 from m ((c : Thread nD τ).loc main_arg3)) (show FVec Ideal S768 .f32 from m ((c : Thread nD τ).loc main_arg4)) (show FVec Ideal S6x128x128 .f32 from m ((c : Thread nD τ).loc main_arg5)) (show FVec Ideal S6x128 .f32 from m ((c : Thread nD τ).loc main_arg6)) (show FVec Ideal S31x768 .f32 from m ((c : Thread nD τ).loc main_arg7)) (show FVec Ideal S768 .f32 from m ((c : Thread nD τ).loc main_arg8)) (show FVec Ideal S768 .f32 from m ((c : Thread nD τ).loc main_arg9)) (show FVec Ideal S768 .f32 from m ((c : Thread nD τ).loc main_arg10)) ⟨t.val * 256 + x0.val, rowlt t x0⟩ x1 ⟨384 + x1.val, by omega⟩ rfl).symm.trans (congrArg _ (ix2_of _ _ _ _ (by simp) (by simp)))
  · refine Eq.trans (b := poolF 7 2 (prow (grid0.coords t) (show FVec Ideal S256x3584 .f32 from iblk m c 0 t) (show FVec Ideal S32x3584 .f32 from iblk m c 1 t)) (cntK (grid0.coords t) 8#32 x0.val) (at3 (show FVec Ideal S4x128x128 .f32 from iblk m c 2 t)) (at2 (show FVec Ideal S1x512 .f32 from iblk m c 3 t) 0) x0.val x1.val) (by apply pool2) ?_
    rw [poolF_congr (by decide) x0.isLt (prow_eq m c t) (count8 t x0) (blk2 m c t) (blk3 m c t)]
    exact (Cert.MixFwdRefIdeal.Hand.out_pool2 (show FVec Ideal S8192x3584 .f32 from m ((c : Thread nD τ).loc main_arg0)) (show FVec Ideal S4x128x128 .f32 from m ((c : Thread nD τ).loc main_arg1)) (show FVec Ideal S512 .f32 from m ((c : Thread nD τ).loc main_arg2)) (show FVec Ideal S768 .f32 from m ((c : Thread nD τ).loc main_arg3)) (show FVec Ideal S768 .f32 from m ((c : Thread nD τ).loc main_arg4)) (show FVec Ideal S6x128x128 .f32 from m ((c : Thread nD τ).loc main_arg5)) (show FVec Ideal S6x128 .f32 from m ((c : Thread nD τ).loc main_arg6)) (show FVec Ideal S31x768 .f32 from m ((c : Thread nD τ).loc main_arg7)) (show FVec Ideal S768 .f32 from m ((c : Thread nD τ).loc main_arg8)) (show FVec Ideal S768 .f32 from m ((c : Thread nD τ).loc main_arg9)) (show FVec Ideal S768 .f32 from m ((c : Thread nD τ).loc main_arg10)) ⟨t.val * 256 + x0.val, rowlt t x0⟩ x1 ⟨256 + x1.val, by omega⟩ rfl).symm.trans (congrArg _ (ix2_of _ _ _ _ (by simp) (by simp)))
  · refine Eq.trans (b := poolF 3 1 (prow (grid0.coords t) (show FVec Ideal S256x3584 .f32 from iblk m c 0 t) (show FVec Ideal S32x3584 .f32 from iblk m c 1 t)) (cntK (grid0.coords t) 4#32 x0.val) (at3 (show FVec Ideal S4x128x128 .f32 from iblk m c 2 t)) (at2 (show FVec Ideal S1x512 .f32 from iblk m c 3 t) 0) x0.val x1.val) (by apply pool1) ?_
    rw [poolF_congr (by decide) x0.isLt (prow_eq m c t) (count4 t x0) (blk2 m c t) (blk3 m c t)]
    exact (Cert.MixFwdRefIdeal.Hand.out_pool1 (show FVec Ideal S8192x3584 .f32 from m ((c : Thread nD τ).loc main_arg0)) (show FVec Ideal S4x128x128 .f32 from m ((c : Thread nD τ).loc main_arg1)) (show FVec Ideal S512 .f32 from m ((c : Thread nD τ).loc main_arg2)) (show FVec Ideal S768 .f32 from m ((c : Thread nD τ).loc main_arg3)) (show FVec Ideal S768 .f32 from m ((c : Thread nD τ).loc main_arg4)) (show FVec Ideal S6x128x128 .f32 from m ((c : Thread nD τ).loc main_arg5)) (show FVec Ideal S6x128 .f32 from m ((c : Thread nD τ).loc main_arg6)) (show FVec Ideal S31x768 .f32 from m ((c : Thread nD τ).loc main_arg7)) (show FVec Ideal S768 .f32 from m ((c : Thread nD τ).loc main_arg8)) (show FVec Ideal S768 .f32 from m ((c : Thread nD τ).loc main_arg9)) (show FVec Ideal S768 .f32 from m ((c : Thread nD τ).loc main_arg10)) ⟨t.val * 256 + x0.val, rowlt t x0⟩ x1 ⟨128 + x1.val, by omega⟩ rfl).symm.trans (congrArg _ (ix2_of _ _ _ _ (by simp) (by simp)))
  · refine Eq.trans (b := poolF 1 0 (prow (grid0.coords t) (show FVec Ideal S256x3584 .f32 from iblk m c 0 t) (show FVec Ideal S32x3584 .f32 from iblk m c 1 t)) (cntK (grid0.coords t) 2#32 x0.val) (at3 (show FVec Ideal S4x128x128 .f32 from iblk m c 2 t)) (at2 (show FVec Ideal S1x512 .f32 from iblk m c 3 t) 0) x0.val x1.val) (by apply pool0) ?_
    rw [poolF_congr (by decide) x0.isLt (prow_eq m c t) (count2 t x0) (blk2 m c t) (blk3 m c t)]
    exact (Cert.MixFwdRefIdeal.Hand.out_pool0 (show FVec Ideal S8192x3584 .f32 from m ((c : Thread nD τ).loc main_arg0)) (show FVec Ideal S4x128x128 .f32 from m ((c : Thread nD τ).loc main_arg1)) (show FVec Ideal S512 .f32 from m ((c : Thread nD τ).loc main_arg2)) (show FVec Ideal S768 .f32 from m ((c : Thread nD τ).loc main_arg3)) (show FVec Ideal S768 .f32 from m ((c : Thread nD τ).loc main_arg4)) (show FVec Ideal S6x128x128 .f32 from m ((c : Thread nD τ).loc main_arg5)) (show FVec Ideal S6x128 .f32 from m ((c : Thread nD τ).loc main_arg6)) (show FVec Ideal S31x768 .f32 from m ((c : Thread nD τ).loc main_arg7)) (show FVec Ideal S768 .f32 from m ((c : Thread nD τ).loc main_arg8)) (show FVec Ideal S768 .f32 from m ((c : Thread nD τ).loc main_arg9)) (show FVec Ideal S768 .f32 from m ((c : Thread nD τ).loc main_arg10)) ⟨t.val * 256 + x0.val, rowlt t x0⟩ x1 ⟨0 + x1.val, by omega⟩ rfl).symm.trans (congrArg _ (ix2_of _ _ _ _ (by simp) (by simp)))

/-- The first output of a point, at an index of the block. -/
theorem out12 (t : Fin cfg0.N) (y : S256x2048.Idx) : out0_A_12 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = rows12 m c t y := by
  unfold out0_A_12
  rw [View.read_writes_junk_eq_canon]
  exact canon_of (stores_eq c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 m t) (cover0_A_12 c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) y

/-- The second output of a point, at an index of the block. -/
theorem out13 (t : Fin cfg0.N) (r : Fin 256) (l : Fin 768) : out0_A_13 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r l)
    = Cert.MixFwdRefIdeal.Read.val_main_v424 (F := Ideal) (show FVec Ideal S8192x3584 .f32 from m ((c : Thread nD τ).loc main_arg0)) (show FVec Ideal S31x768 .f32 from m ((c : Thread nD τ).loc main_arg7)) (show FVec Ideal S768 .f32 from m ((c : Thread nD τ).loc main_arg8)) (ix2 ⟨t.val * 256 + r.val, rowlt t r⟩ l) := by
  unfold out0_A_13
  rw [View.read_writes_junk_eq_canon]
  rw [stores13]
  refine (hcv c (grid0.coords t) arg1 harg1 arg2 harg2 arg9 harg9 arg10 harg10 arg16 arg17 (iblk m c 0 t) (iblk m c 1 t) (iblk m c 8 t) (iblk m c 9 t) (ix2 r l)).trans ?_
  refine (conv_eq m c t r.val l.val r.isLt).trans ?_
  exact (Cert.MixFwdRefIdeal.Hand.out_conv (show FVec Ideal S8192x3584 .f32 from m ((c : Thread nD τ).loc main_arg0)) (show FVec Ideal S31x768 .f32 from m ((c : Thread nD τ).loc main_arg7)) (show FVec Ideal S768 .f32 from m ((c : Thread nD τ).loc main_arg8)) ⟨t.val * 256 + r.val, rowlt t r⟩ l).symm

end Cert.MixFwdIdeal.Hand

end
-- ==== Proof.MixFwd.Final.lean ====
module

public import proofs.«01_k».proof.Proof.Gen.MixFwdIdeal.Value
public import Idealize.ShloMosaic.Lib.Pipeline.ValueKit
public import Idealize.ShloMosaic.Lib.Pipeline.ReadBack
public import proofs.«01_k».proof.Proof.MixFwd.Value

@[expose] public section

set_option maxRecDepth 16384

noncomputable section

namespace Cert.MixFwdIdeal.Hand

open Idealize.ShloMosaic Idealize.ShloMosaic.TcCoe Idealize.SL.Sem
open Idealize.ShloMosaic.Pipeline (Dat)
open Cert.MixFwdIdeal Cert.MixFwdIdeal.Gen
open Cert.Hand

variable (m : (ℓ : Loc nD τ sig) → Buf (Elt Ideal) ℓ)

/-- What the first output holds after a point. -/
theorem after12 (c : Dev nD) (t : Fin cfg0.N) (y : S256x2048.Idx) : (dats m 0 c).after 12 t y = rows12 m c t y := by
  rw [after0_12]; unfold outsAt0
  dsimp only
  exact out12 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) m t y

/-- What the second output holds after a point. -/
theorem after13 (c : Dev nD) (t : Fin cfg0.N) (r : Fin 256) (l : Fin 768) : (dats m 0 c).after 13 t (ix2 r l)
    = Cert.MixFwdRefIdeal.Read.val_main_v424 (F := Ideal) (show FVec Ideal S8192x3584 .f32 from m ((c : Thread nD τ).loc main_arg0)) (show FVec Ideal S31x768 .f32 from m ((c : Thread nD τ).loc main_arg7)) (show FVec Ideal S768 .f32 from m ((c : Thread nD τ).loc main_arg8)) (ix2 ⟨t.val * 256 + r.val, rowlt t r⟩ l) := by
  rw [after0_13]; unfold outsAt0
  dsimp only
  exact out13 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) m t r l

/-- The mixers' outputs that the kernel leaves are the reference's. -/
theorem final12 (c : Dev nD) : (dats m 0 c).arrAt 12 cfg0.N = Cert.MixFwdRefIdeal.Read.val_main_v423 (F := Ideal) (show FVec Ideal S8192x3584 .f32 from m ((c : Thread nD τ).loc main_arg0)) (show FVec Ideal S4x128x128 .f32 from m ((c : Thread nD τ).loc main_arg1)) (show FVec Ideal S512 .f32 from m ((c : Thread nD τ).loc main_arg2)) (show FVec Ideal S768 .f32 from m ((c : Thread nD τ).loc main_arg3)) (show FVec Ideal S768 .f32 from m ((c : Thread nD τ).loc main_arg4)) (show FVec Ideal S6x128x128 .f32 from m ((c : Thread nD τ).loc main_arg5)) (show FVec Ideal S6x128 .f32 from m ((c : Thread nD τ).loc main_arg6)) (show FVec Ideal S31x768 .f32 from m ((c : Thread nD τ).loc main_arg7)) (show FVec Ideal S768 .f32 from m ((c : Thread nD τ).loc main_arg8)) (show FVec Ideal S768 .f32 from m ((c : Thread nD τ).loc main_arg9)) (show FVec Ideal S768 .f32 from m ((c : Thread nD τ).loc main_arg10)) := by
  refine (dats m 0 c).arrAt_eq_of_covers 12 _ (by decide +kernel) fun t hf y => ?_
  blk_simp
  refine (after12 m c t _).trans ?_
  unfold rows12
  refine congrArg _ ?_
  idx_vars y
  blk_ext [idx t]
  all_goals omega

/-- The convolution that the kernel leaves is the reference's. -/
theorem final13 (c : Dev nD) : (dats m 0 c).arrAt 13 cfg0.N = Cert.MixFwdRefIdeal.Read.val_main_v424 (F := Ideal) (show FVec Ideal S8192x3584 .f32 from m ((c : Thread nD τ).loc main_arg0)) (show FVec Ideal S31x768 .f32 from m ((c : Thread nD τ).loc main_arg7)) (show FVec Ideal S768 .f32 from m ((c : Thread nD τ).loc main_arg8)) := by
  refine (dats m 0 c).arrAt_eq_of_covers 13 _ (by decide +kernel) fun t hf y => ?_
  blk_simp
  idx_vars y
  refine (after13 m c t y0 y1).trans ?_
  refine congrArg _ ?_
  blk_ext [idx t]
  all_goals omega

end Cert.MixFwdIdeal.Hand

end
-- ==== Proof.MixFwd.Claim.lean ====
module

public import proofs.«01_k».proof.Defs
public import proofs.«01_k».proof.Proof.Gen.MixFwdRefIdeal.Run
public import proofs.«01_k».proof.Proof.MixFwd.Final

@[expose] public section

noncomputable section

namespace Cert.MixFwdIdeal.Hand

open Idealize.ShloMosaic Idealize.SL.Sem

/-- The reference ends with its arguments kept and every semaphore at zero. -/
theorem frame_ref : Cert.quiescent_MixFwdRefIdeal := fun m ρ _ =>
  (θ_run Cert.MixFwdRefIdeal.defs _ _).mono (fun r h => ⟨fun c => (h c).2.2,
    Idealize.ShloMosaic.sem_eq_zero_of_no_sems (by decide) r.2⟩) (Cert.MixFwdRefIdeal.Value.run m ρ)

/-- On equal arguments the kernel and the reference end with equal results. -/
theorem algebraic : Cert.algebraic_MixFwdIdeal_MixFwdRefIdeal := by
  intro m g m' g' _ hagree
  refine ⟨_, _, (θ_run _ _ _).mono (fun r h c => ⟨(h c).1.trans (Cert.MixFwdIdeal.Hand.final12 m c), (h c).2.1.trans (Cert.MixFwdIdeal.Hand.final13 m c), (h c).2.2⟩)
      (Cert.MixFwdIdeal.Value.run_blocks m g),
    (θ_run _ _ _).mono (fun r h c => ⟨?_, ?_, (h c).2.2⟩) (Cert.MixFwdRefIdeal.Value.run m' g')⟩
  · refine (h c).1.trans ?_
    rw [← (hagree c).1, ← (hagree c).2.1, ← (hagree c).2.2.1, ← (hagree c).2.2.2.1, ← (hagree c).2.2.2.2.1, ← (hagree c).2.2.2.2.2.1, ← (hagree c).2.2.2.2.2.2.1, ← (hagree c).2.2.2.2.2.2.2.1, ← (hagree c).2.2.2.2.2.2.2.2.1, ← (hagree c).2.2.2.2.2.2.2.2.2.1, ← (hagree c).2.2.2.2.2.2.2.2.2.2]
    exact Cert.MixFwdRefIdeal.Read.val_main_v423_eq (F := Ideal) (Idealize.ShloMosaic.StableHlo.launchContents m' c)
  · refine (h c).2.1.trans ?_
    rw [← (hagree c).1, ← (hagree c).2.2.2.2.2.2.2.1, ← (hagree c).2.2.2.2.2.2.2.2.1]
    exact Cert.MixFwdRefIdeal.Read.val_main_v424_eq (F := Ideal) (Idealize.ShloMosaic.StableHlo.launchContents m' c)

end Cert.MixFwdIdeal.Hand

end
-- ==== Proof.AdamwReplicated.Value.lean ====
module

public import proofs.«01_k».proof.Proof.Gen.AdamwReplicatedIdeal.Value
public import proofs.«01_k».proof.Proof.Gen.AdamwReplicatedRefIdeal.Read
public import Idealize.ShloMosaic.Lib.Pipeline.ValueKit
public import proofs.«01_k».proof.Proof.Shared.Adam

@[expose] public section

set_option maxRecDepth 16384

noncomputable section

namespace Cert.AdamwReplicatedIdeal.Hand

open Idealize.ShloMosaic Idealize.ShloMosaic.TcCoe Idealize.SL.Sem
open Idealize.ShloMosaic.Pipeline (Dat)
open Cert.AdamwReplicatedIdeal Cert.AdamwReplicatedIdeal.Gen

/-- The reference's step. -/
theorem ref4 (W G M U : FVec Ideal S3072x128 .f32) (r : Fin 3072) (l : Fin 128) :
    Cert.AdamwReplicatedRefIdeal.Read.val_main_v23 (F := Ideal) W G M U (ix2 r l) = Cert.Hand.step (W (ix2 r l)) (G (ix2 r l)) (M (ix2 r l)) (U (ix2 r l)) := by
  rw [← Cert.AdamwReplicatedRefIdeal.Read.val_main_v23_eq]
  pointwise [Cert.Hand.step, Cert.Hand.newM, Cert.Hand.newV]
  try rfl

/-- The reference's first moment. -/
theorem ref5 (W G M U : FVec Ideal S3072x128 .f32) (r : Fin 3072) (l : Fin 128) :
    Cert.AdamwReplicatedRefIdeal.Read.val_main_v4 (F := Ideal) G M (ix2 r l) = Cert.Hand.newM (G (ix2 r l)) (M (ix2 r l)) := by
  rw [← Cert.AdamwReplicatedRefIdeal.Read.val_main_v4_eq]
  pointwise [Cert.Hand.step, Cert.Hand.newM, Cert.Hand.newV]
  try rfl

/-- The reference's second moment. -/
theorem ref6 (W G M U : FVec Ideal S3072x128 .f32) (r : Fin 3072) (l : Fin 128) :
    Cert.AdamwReplicatedRefIdeal.Read.val_main_v10 (F := Ideal) G U (ix2 r l) = Cert.Hand.newV (G (ix2 r l)) (U (ix2 r l)) := by
  rw [← Cert.AdamwReplicatedRefIdeal.Read.val_main_v10_eq]
  pointwise [Cert.Hand.step, Cert.Hand.newM, Cert.Hand.newV]
  try rfl

variable (m : (ℓ : Loc nD τ sig) → Buf (Elt Ideal) ℓ)

/-- Every window holds its whole array. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- The block of operand 0. -/
theorem blk0 (c : Dev nD) (t : Fin cfg0.N) (r : Fin 3072) (l : Fin 128) :
    (show FVec Ideal S3072x128 .f32 from iblk m c 0 t) (ix2 r l) = (m ((c : Thread nD τ).loc main_arg0)) (ix2 r l) := by
  have e : ((cfg0.win 0).blk t).view.emb (ix2 r l : S3072x128.Idx) = (ix2 r l : S3072x128.Idx) := by blk_ext [idx t]
  show V m c main_arg0 _ = _
  rw [e, V_main_arg0]

/-- The block of operand 1. -/
theorem blk1 (c : Dev nD) (t : Fin cfg0.N) (r : Fin 3072) (l : Fin 128) :
    (show FVec Ideal S3072x128 .f32 from iblk m c 1 t) (ix2 r l) = (m ((c : Thread nD τ).loc main_arg1)) (ix2 r l) := by
  have e : ((cfg0.win 1).blk t).view.emb (ix2 r l : S3072x128.Idx) = (ix2 r l : S3072x128.Idx) := by blk_ext [idx t]
  show V m c main_arg1 _ = _
  rw [e, V_main_arg1]

/-- The block of operand 2. -/
theorem blk2 (c : Dev nD) (t : Fin cfg0.N) (r : Fin 3072) (l : Fin 128) :
    (show FVec Ideal S3072x128 .f32 from iblk m c 2 t) (ix2 r l) = (m ((c : Thread nD τ).loc main_arg2)) (ix2 r l) := by
  have e : ((cfg0.win 2).blk t).view.emb (ix2 r l : S3072x128.Idx) = (ix2 r l : S3072x128.Idx) := by blk_ext [idx t]
  show V m c main_arg2 _ = _
  rw [e, V_main_arg2]

/-- The block of operand 3. -/
theorem blk3 (c : Dev nD) (t : Fin cfg0.N) (r : Fin 3072) (l : Fin 128) :
    (show FVec Ideal S3072x128 .f32 from iblk m c 3 t) (ix2 r l) = (m ((c : Thread nD τ).loc main_arg3)) (ix2 r l) := by
  have e : ((cfg0.win 3).blk t).view.emb (ix2 r l : S3072x128.Idx) = (ix2 r l : S3072x128.Idx) := by blk_ext [idx t]
  show V m c main_arg3 _ = _
  rw [e, V_main_arg3]

/-- The array of the step that the kernel leaves is the reference's. -/
theorem final4 (c : Dev nD) : (dats m 0 c).arrAt 4 cfg0.N
    = Cert.AdamwReplicatedRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]; frame_out
  idx_vars y
  have e : ((cfg0.win 4).blk t).view.emb (ix2 y0 y1 : S3072x128.Idx) = (ix2 y0 y1 : S3072x128.Idx) := by blk_ext [idx t]
  refine Eq.trans ?_ (congrArg _ e).symm
  have h (r : Fin 3072) (l : Fin 128) : (k0_pay3 (F := Ideal) (iblk m c 0 t) (iblk m c 1 t) (iblk m c 2 t) (iblk m c 3 t)) (ix2 r l) = Cert.Hand.step ((show FVec Ideal S3072x128 .f32 from iblk m c 0 t) (ix2 r l)) ((show FVec Ideal S3072x128 .f32 from iblk m c 1 t) (ix2 r l)) ((show FVec Ideal S3072x128 .f32 from iblk m c 2 t) (ix2 r l)) ((show FVec Ideal S3072x128 .f32 from iblk m c 3 t) (ix2 r l)) := by
    pointwise [k0_pay3, k0_pay1, k0_pay2, Cert.Hand.step, Cert.Hand.newM, Cert.Hand.newV]
    try rfl
  rw [h, blk0, blk1, blk2, blk3]
  exact (ref4 (m ((c : Thread nD τ).loc main_arg0)) (m ((c : Thread nD τ).loc main_arg1)) (m ((c : Thread nD τ).loc main_arg2)) (m ((c : Thread nD τ).loc main_arg3)) y0 y1).symm

/-- The array of the first moment that the kernel leaves is the reference's. -/
theorem final5 (c : Dev nD) : (dats m 0 c).arrAt 5 cfg0.N
    = Cert.AdamwReplicatedRefIdeal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]; frame_out
  idx_vars y
  have e : ((cfg0.win 5).blk t).view.emb (ix2 y0 y1 : S3072x128.Idx) = (ix2 y0 y1 : S3072x128.Idx) := by blk_ext [idx t]
  refine Eq.trans ?_ (congrArg _ e).symm
  have h (r : Fin 3072) (l : Fin 128) : (k0_pay1 (F := Ideal) (iblk m c 1 t) (iblk m c 2 t)) (ix2 r l) = Cert.Hand.newM ((show FVec Ideal S3072x128 .f32 from iblk m c 1 t) (ix2 r l)) ((show FVec Ideal S3072x128 .f32 from iblk m c 2 t) (ix2 r l)) := by
    pointwise [k0_pay1, Cert.Hand.step, Cert.Hand.newM, Cert.Hand.newV]
    try rfl
  rw [h, blk1, blk2]
  exact (ref5 (m ((c : Thread nD τ).loc main_arg0)) (m ((c : Thread nD τ).loc main_arg1)) (m ((c : Thread nD τ).loc main_arg2)) (m ((c : Thread nD τ).loc main_arg3)) y0 y1).symm

/-- The array of the second moment that the kernel leaves is the reference's. -/
theorem final6 (c : Dev nD) : (dats m 0 c).arrAt 6 cfg0.N
    = Cert.AdamwReplicatedRefIdeal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]; frame_out
  idx_vars y
  have e : ((cfg0.win 6).blk t).view.emb (ix2 y0 y1 : S3072x128.Idx) = (ix2 y0 y1 : S3072x128.Idx) := by blk_ext [idx t]
  refine Eq.trans ?_ (congrArg _ e).symm
  have h (r : Fin 3072) (l : Fin 128) : (k0_pay2 (F := Ideal) (iblk m c 1 t) (iblk m c 3 t)) (ix2 r l) = Cert.Hand.newV ((show FVec Ideal S3072x128 .f32 from iblk m c 1 t) (ix2 r l)) ((show FVec Ideal S3072x128 .f32 from iblk m c 3 t) (ix2 r l)) := by
    pointwise [k0_pay2, Cert.Hand.step, Cert.Hand.newM, Cert.Hand.newV]
    try rfl
  rw [h, blk1, blk3]
  exact (ref6 (m ((c : Thread nD τ).loc main_arg0)) (m ((c : Thread nD τ).loc main_arg1)) (m ((c : Thread nD τ).loc main_arg2)) (m ((c : Thread nD τ).loc main_arg3)) y0 y1).symm

end Cert.AdamwReplicatedIdeal.Hand

end
-- ==== Proof.AdamwReplicated.Claim.lean ====
module

public import proofs.«01_k».proof.Defs
public import proofs.«01_k».proof.Proof.Gen.AdamwReplicatedRefIdeal.Run
public import proofs.«01_k».proof.Proof.AdamwReplicated.Value

@[expose] public section

noncomputable section

namespace Cert.AdamwReplicatedIdeal.Hand

open Idealize.ShloMosaic Idealize.SL.Sem

/-- The reference ends with its arguments kept and every semaphore at zero. -/
theorem frame_ref : Cert.quiescent_AdamwReplicatedRefIdeal := fun m ρ _ =>
  (θ_run Cert.AdamwReplicatedRefIdeal.defs _ _).mono (fun r h => ⟨fun c => (h c).2.2.2,
    Idealize.ShloMosaic.sem_eq_zero_of_no_sems (by decide) r.2⟩) (Cert.AdamwReplicatedRefIdeal.Value.run m ρ)

/-- On equal arguments the kernel and the reference end with equal results. -/
theorem algebraic : Cert.algebraic_AdamwReplicatedIdeal_AdamwReplicatedRefIdeal := by
  intro m g m' g' _ hagree
  refine ⟨_, _, _, (θ_run _ _ _).mono (fun r h c => ⟨(h c).1.trans (Cert.AdamwReplicatedIdeal.Hand.final4 m c), (h c).2.1.trans (Cert.AdamwReplicatedIdeal.Hand.final5 m c), (h c).2.2.1.trans (Cert.AdamwReplicatedIdeal.Hand.final6 m c), (h c).2.2.2⟩)
      (Cert.AdamwReplicatedIdeal.Value.run_blocks m g),
    (θ_run _ _ _).mono (fun r h c => ⟨?_, ?_, ?_, (h c).2.2.2⟩) (Cert.AdamwReplicatedRefIdeal.Value.run m' g')⟩
  · refine (h c).1.trans ?_
    rw [(hagree c).1, (hagree c).2.1, (hagree c).2.2.1, (hagree c).2.2.2]
    exact Cert.AdamwReplicatedRefIdeal.Read.val_main_v23_eq _ _ _ _
  · refine (h c).2.1.trans ?_
    rw [(hagree c).2.1, (hagree c).2.2.1]
    exact Cert.AdamwReplicatedRefIdeal.Read.val_main_v4_eq _ _
  · refine (h c).2.2.1.trans ?_
    rw [(hagree c).2.1, (hagree c).2.2.2]
    exact Cert.AdamwReplicatedRefIdeal.Read.val_main_v10_eq _ _

end Cert.AdamwReplicatedIdeal.Hand

end
-- ==== Proof.Ln1Bwd.Value.lean ====
module

public import proofs.«01_k».proof.Proof.Gen.Ln1BwdIdeal.Value
public import proofs.«01_k».proof.Proof.Gen.Ln1BwdRefIdeal.Read
public import Idealize.ShloMosaic.Lib.Pipeline.ValueKit
public import proofs.«01_k».proof.Proof.Shared.Norm

@[expose] public section

set_option maxRecDepth 16384

noncomputable section

namespace Cert.Ln1BwdIdeal.Hand

open Idealize.ShloMosaic Idealize.ShloMosaic.TcCoe Idealize.SL.Sem
open Idealize.ShloMosaic.Pipeline (Dat)
open Cert.Ln1BwdIdeal Cert.Ln1BwdIdeal.Gen
open Cert.Hand

/-- The cotangent of a normalised entry: the first one, plus the second scaled. -/
def ct (d e : EReal) : EReal := d + Ideal.ofBits .f32 0x3FB504F3#32 * e

/-- The reference's gradient of the scale: the column sums of the cotangents times the normalised rows. -/
theorem ref6 (X D E : FVec Ideal S8192x2048 .f32) (l : Fin 2048) :
    Cert.Ln1BwdRefIdeal.Read.val_main_v40 (F := Ideal) X D E (ix2 0 l)
      = ∑ r : Fin 8192, ct (D (ix2 r l)) (E (ix2 r l)) * xhat (fun k => X (ix2 r k)) l := by
  rw [← Cert.Ln1BwdRefIdeal.Read.val_main_v40_eq]
  pointwise [ct, xhat, rstd, cen, mean]
  exact Finset.sum_congr rfl fun r _ => mul_comm _ _

/-- The reference's gradient of the shift: the column sums of the cotangents. -/
theorem ref7 (D E : FVec Ideal S8192x2048 .f32) (l : Fin 2048) :
    Cert.Ln1BwdRefIdeal.Read.val_main_v37 (F := Ideal) D E (ix2 0 l) = ∑ r : Fin 8192, ct (D (ix2 r l)) (E (ix2 r l)) := by
  rw [← Cert.Ln1BwdRefIdeal.Read.val_main_v37_eq]
  pointwise [ct]

/-- What a point of the grid adds to the gradient of the scale. -/
theorem pay6 (D E X : FVec Ideal S256x2048 .f32) (l : Fin 2048) :
    k0_pay3 (F := Ideal) (k0_pay9 (F := Ideal) D E) (k0_pay12 (F := Ideal) X) (ix2 0 l)
      = ∑ r : Fin 256, ct (D (ix2 r l)) (E (ix2 r l)) * xhat (fun k => X (ix2 r k)) l := by
  pointwise [k0_pay3, k0_pay9, k0_pay12, k0_pay11, k0_pay10, ct, xhat, rstd, cen, mean]

/-- What a point of the grid adds to the gradient of the shift. -/
theorem pay7 (D E : FVec Ideal S256x2048 .f32) (l : Fin 2048) :
    k0_pay5 (F := Ideal) (k0_pay9 (F := Ideal) D E) (ix2 0 l) = ∑ r : Fin 256, ct (D (ix2 r l)) (E (ix2 r l)) := by
  pointwise [k0_pay5, k0_pay9, ct]

variable (m : (ℓ : Loc nD τ sig) → Buf (Elt Ideal) ℓ)

/-- Which block each window holds at each point of the grid. -/
theorem idx : ∀ t : Fin cfg0.N, win0_0.index t = ![t.val, 0] ∧ win0_1.index t = ![t.val, 0] ∧ win0_2.index t = ![t.val, 0]
    ∧ win0_6.index t = ![0, 0] ∧ win0_7.index t = ![0, 0] :=
  (by decide +kernel : ∀ t : Fin grid0.N, _)

/-- The gradient of the scale that the kernel leaves is the reference's. -/
theorem final6 (c : Dev nD) : (dats m 0 c).arrAt 6 (cfgs 0).N
    = Cert.Ln1BwdRefIdeal.Read.val_main_v40 (F := Ideal) (m ((c : Thread nD τ).loc main_arg0))
        (m ((c : Thread nD τ).loc main_arg3)) (m ((c : Thread nD τ).loc main_arg4)) := by
  refine (dats m 0 c).arrAt_eq_of_covers 6 _ (by decide +kernel) fun t hf y => ?_
  blk_simp
  rw [after0_6, Pipeline.eq_sum_fin_of_reset_step_apply_of_flush (fun n h => (outsAt0 m c n h).2.2.1) 32 (fun _ => 0) _
    (fun t h j => by rw [outsAt0_A m c t h (by have := t.isLt; have : cfg0.N = 32 := rfl; omega) h (by have := t.isLt; have : cfg0.N = 32 := rfl; omega) h (by have := t.isLt; have : cfg0.N = 32 := rfl; omega)]; frame_out; rw [zero_add])
    (fun t h j => by rw [outsAt0_B m c t h (by omega) h (by omega) h (by omega)]; frame_out; pointwise [k0_pay4])
    t ((flush0_6 t).mp hf) _, zero_add]
  idx_vars y
  obtain rfl : y0 = 0 := by omega
  refine Eq.trans (Fin.sum_fin_congr fun s => pay6 _ _ _ y1) (Eq.trans ?_ (congrArg _ (eq_ix2 _)).symm)
  have e : ((win0_6.blk t).view.emb (ix2 0 y1 : S1x2048.Idx)) 0 = (0 : Fin 1) := Subsingleton.elim (α := Fin 1) _ _
  rw [e]
  refine Eq.trans ?_ (ref6 _ _ _ _).symm
  refine Fin.sum_mul_add_congr fun s k hl => ?_
  refine congrArg₂ (· * ·) (congrArg₂ ct ?_ ?_) ?_
  · blk_point [iblk, V, idx t, idx ⟨_, Pipeline.run_point_lt_of_flush t ((flush0_6 t).mp hf) s⟩]
  · blk_point [iblk, V, idx t, idx ⟨_, Pipeline.run_point_lt_of_flush t ((flush0_6 t).mp hf) s⟩]
  refine congrArg₂ xhat (funext fun q => ?_) ?_
  · blk_point [iblk, V, idx t, idx ⟨_, Pipeline.run_point_lt_of_flush t ((flush0_6 t).mp hf) s⟩]
  · refine Fin.ext ?_
    blk_simp [idx t]

/-- The gradient of the shift that the kernel leaves is the reference's. -/
theorem final7 (c : Dev nD) : (dats m 0 c).arrAt 7 (cfgs 0).N
    = Cert.Ln1BwdRefIdeal.Read.val_main_v37 (F := Ideal)
        (m ((c : Thread nD τ).loc main_arg3)) (m ((c : Thread nD τ).loc main_arg4)) := by
  refine (dats m 0 c).arrAt_eq_of_covers 7 _ (by decide +kernel) fun t hf y => ?_
  blk_simp
  rw [after0_7, Pipeline.eq_sum_fin_of_reset_step_apply_of_flush (fun n h => (outsAt0 m c n h).2.2.2.1) 32 (fun _ => 0) _
    (fun t h j => by rw [outsAt0_A m c t h (by have := t.isLt; have : cfg0.N = 32 := rfl; omega) h (by have := t.isLt; have : cfg0.N = 32 := rfl; omega) h (by have := t.isLt; have : cfg0.N = 32 := rfl; omega)]; frame_out; rw [zero_add])
    (fun t h j => by rw [outsAt0_B m c t h (by omega) h (by omega) h (by omega)]; frame_out; pointwise [k0_pay6])
    t ((flush0_7 t).mp hf) _, zero_add]
  idx_vars y
  obtain rfl : y0 = 0 := by omega
  refine Eq.trans (Fin.sum_fin_congr fun s => pay7 _ _ y1) (Eq.trans ?_ (congrArg _ (eq_ix2 _)).symm)
  have e : ((win0_7.blk t).view.emb (ix2 0 y1 : S1x2048.Idx)) 0 = (0 : Fin 1) := Subsingleton.elim (α := Fin 1) _ _
  rw [e]
  refine Eq.trans ?_ (ref7 _ _ _).symm
  refine Fin.sum_mul_add_congr fun s k hl => ?_
  refine congrArg₂ ct ?_ ?_
  · blk_point [iblk, V, idx t, idx ⟨_, Pipeline.run_point_lt_of_flush t ((flush0_7 t).mp hf) s⟩]
  · blk_point [iblk, V, idx t, idx ⟨_, Pipeline.run_point_lt_of_flush t ((flush0_7 t).mp hf) s⟩]

end Cert.Ln1BwdIdeal.Hand

end
-- ==== Proof.Ln1Bwd.Claim.lean ====
module

public import proofs.«01_k».proof.Defs
public import proofs.«01_k».proof.Proof.Gen.On_ln1_bwd_sums
public import proofs.«01_k».proof.Proof.Gen.Ln1BwdRefIdeal.Run
public import proofs.«01_k».proof.Proof.Ln1Bwd.Value

@[expose] public section

noncomputable section

namespace Cert.Ln1BwdIdeal.Hand

open Idealize.ShloMosaic Idealize.ShloMosaic.TcCoe Idealize.SL.Sem
open Cert.Ln1BwdIdeal Cert.Ln1BwdIdeal.Gen

/-- The reference ends with its arguments kept and every semaphore at zero. -/
theorem frame_ref : Cert.quiescent_Ln1BwdRefIdeal := fun m ρ _ =>
  (θ_run Cert.Ln1BwdRefIdeal.defs _ _).mono (fun r h => ⟨fun c => (h c).2.2.2.2.2,
    Idealize.ShloMosaic.sem_eq_zero_of_no_sems (by decide) r.2⟩) (Cert.Ln1BwdRefIdeal.Value.run m ρ)

/-- On equal arguments the kernel and the reference end with the gradients of the scale and the shift equal. -/
theorem algebraic : Cert.algebraic_Ln1BwdIdeal_Ln1BwdRefIdeal_on_ln1_bwd_sums := by
  intro m g m' g' _ hagree
  refine ⟨fun c => m ((c : Thread nD τ).loc main_v1_0), fun c => m ((c : Thread nD τ).loc main_v1_1), fun c => Cert.Ln1BwdRefIdeal.Read.val_main_v40 (F := Ideal) (m ((c : Thread nD τ).loc main_arg0)) (m ((c : Thread nD τ).loc main_arg3)) (m ((c : Thread nD τ).loc main_arg4)), fun c => Cert.Ln1BwdRefIdeal.Read.val_main_v37 (F := Ideal) (m ((c : Thread nD τ).loc main_arg3)) (m ((c : Thread nD τ).loc main_arg4)), fun c => m ((c : Thread nD τ).loc main_v1_4), ?_, ?_⟩
  · exact (θ_run _ _ _).mono (fun r h c => ⟨fun i hi => absurd (show (0#1 : BitVec 1) = 1#1 from hi) (by decide), fun i hi => absurd (show (0#1 : BitVec 1) = 1#1 from hi) (by decide), fun i _ => congrFun ((h c).2.2.1.trans (Cert.Ln1BwdIdeal.Hand.final6 m c)) i, fun i _ => congrFun ((h c).2.2.2.1.trans (Cert.Ln1BwdIdeal.Hand.final7 m c)) i, fun i hi => absurd (show (0#1 : BitVec 1) = 1#1 from hi) (by decide), (h c).2.2.2.2.2⟩)
      (Cert.Ln1BwdIdeal.Value.run_blocks m g)
  refine (θ_run _ _ _).mono (fun r h c => ⟨fun i hi => absurd (show (0#1 : BitVec 1) = 1#1 from hi) (by decide), fun i hi => absurd (show (0#1 : BitVec 1) = 1#1 from hi) (by decide), fun i _ => congrFun ?_ i, fun i _ => congrFun ?_ i, fun i hi => absurd (show (0#1 : BitVec 1) = 1#1 from hi) (by decide), (h c).2.2.2.2.2⟩) (Cert.Ln1BwdRefIdeal.Value.run m' g')
  · refine (h c).2.2.1.trans ?_
    rw [(hagree c).1, (hagree c).2.2.2.1, (hagree c).2.2.2.2.1]
    exact Cert.Ln1BwdRefIdeal.Read.val_main_v40_eq _ _ _
  · refine (h c).2.2.2.1.trans ?_
    rw [(hagree c).2.2.2.1, (hagree c).2.2.2.2.1]
    exact Cert.Ln1BwdRefIdeal.Read.val_main_v37_eq _ _

end Cert.Ln1BwdIdeal.Hand

end
-- ==== Proof.Ln2Last.Ref.lean ====
module

public import proofs.«01_k».proof.Proof.Gen.Ln2LastRefIdeal.Read
public import Idealize.ShloMosaic.Lib.Pipeline.ValueKit
public import proofs.«01_k».proof.Proof.Shared.Norm

@[expose] public section

set_option maxRecDepth 16384

noncomputable section

namespace Cert.Ln2LastIdeal.Hand

open Idealize.ShloMosaic Idealize.ShloMosaic.TcCoe Idealize.SL.Sem
open Idealize.ShloMosaic.Pipeline (Dat)
open Cert.Ln2LastRefIdeal
open Cert.Hand

/-- An entry of the residual sum: the first norm scaled, plus the second summand. -/
def res (g p x y : Fin 2048 → EReal) (l : Fin 2048) : EReal := Ideal.ofBits .f32 0x3FB504F3#32 * ln g p x l + y l

/-- An entry of the difference of the second norm and the target. -/
def diff (h q : Fin 2048 → EReal) (f : Fin 2048 → EReal) (t : EReal) (l : Fin 2048) : EReal := ln h q f l - t

/-- The constant one over the row's length. -/
def inv : EReal := Ideal.ofBits .f32 0x3A000000#32

theorem inv_eq : inv = ((1 / 2048 : ℝ) : EReal) := by
  unfold inv; simp [Ideal.ofBits, Ideal.ieee, -EReal.coe_mul]; norm_num

theorem half_eq : Ideal.ofBits .f32 0x3F000000#32 = ((1 / 2 : ℝ) : EReal) := by
  simp [Ideal.ofBits, Ideal.ieee, -EReal.coe_mul]; norm_num

theorem one_eq : Ideal.ofBits .f32 0x3F800000#32 = ((1 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem len_eq : Ideal.ofBits .f32 0x45000000#32 = ((2048 : ℝ) : EReal) := by
  simp [Ideal.ofBits, Ideal.ieee, -EReal.coe_mul]; norm_num

/-- Division by the row's length is the product with its inverse. -/
theorem div_len (x : EReal) : Ideal.div x (Ideal.ofBits .f32 0x45000000#32) = x * inv := by
  rw [len_eq, inv_eq, Ideal.div_coe (by norm_num)]

/-- The derivative of half the mean square, as the kernel writes it. -/
theorem coef (d : EReal) : Ideal.div (Ideal.ofBits .f32 0x3F000000#32 * Ideal.ofBits .f32 0x3F800000#32) (Ideal.ofBits .f32 0x45000000#32)
    * (Ideal.ofBits .f32 0x40000000#32 * d) = d * inv := by
  rw [div_len, half_eq, one_eq, two_eq, inv_eq, ← mul_assoc, ← EReal.coe_mul, ← EReal.coe_mul, ← EReal.coe_mul, mul_comm]
  norm_num

/-- A half goes into a sum. -/
theorem half_sum {n : ℕ} (f : Fin n → EReal) :
    Ideal.ofBits .f32 0x3F000000#32 * ∑ k, f k = ∑ k, Ideal.ofBits .f32 0x3F000000#32 * f k := by
  have h0 : (0 : EReal) ≤ Ideal.ofBits .f32 0x3F000000#32 := by rw [half_eq]; exact_mod_cast (by norm_num : (0 : ℝ) ≤ 1 / 2)
  have h1 : Ideal.ofBits .f32 0x3F000000#32 ≠ (⊤ : EReal) := by rw [half_eq]; exact EReal.coe_ne_top _
  induction n with
  | zero => simp
  | succ n ih => rw [Fin.sum_univ_succ, EReal.left_distrib_of_nonneg_of_ne_top h0 h1, ih, Fin.sum_univ_succ]

/-- The reference's residual sum. -/
theorem ref31 (X : FVec Ideal S8192x2048 .f32) (G P : FVec Ideal S2048 .f32) (Y : FVec Ideal S8192x2048 .f32) (r : Fin 8192) (l : Fin 2048) :
    Cert.Ln2LastRefIdeal.Read.val_main_v31 (F := Ideal) X G P Y (ix2 r l) = res (fun k => G (ix1 k)) (fun k => P (ix1 k)) (fun k => X (ix2 r k)) (fun k => Y (ix2 r k)) l := by
  pointwise [Cert.Ln2LastRefIdeal.Read.val_main_cst, Cert.Ln2LastRefIdeal.Read.val_main_v0, Cert.Ln2LastRefIdeal.Read.val_main_cst_0, Cert.Ln2LastRefIdeal.Read.val_main_v1, Cert.Ln2LastRefIdeal.Read.val_main_v2, Cert.Ln2LastRefIdeal.Read.val_main_v3, Cert.Ln2LastRefIdeal.Read.val_main_v4, Cert.Ln2LastRefIdeal.Read.val_main_cst_1, Cert.Ln2LastRefIdeal.Read.val_main_v5, Cert.Ln2LastRefIdeal.Read.val_main_v6, Cert.Ln2LastRefIdeal.Read.val_main_cst_2, Cert.Ln2LastRefIdeal.Read.val_main_v7, Cert.Ln2LastRefIdeal.Read.val_main_v8, Cert.Ln2LastRefIdeal.Read.val_main_v9, Cert.Ln2LastRefIdeal.Read.val_main_v10, Cert.Ln2LastRefIdeal.Read.val_main_v11, Cert.Ln2LastRefIdeal.Read.val_main_cst_3, Cert.Ln2LastRefIdeal.Read.val_main_v12, Cert.Ln2LastRefIdeal.Read.val_main_v13, Cert.Ln2LastRefIdeal.Read.val_main_cst_4, Cert.Ln2LastRefIdeal.Read.val_main_v14, Cert.Ln2LastRefIdeal.Read.val_main_v15, Cert.Ln2LastRefIdeal.Read.val_main_cst_5, Cert.Ln2LastRefIdeal.Read.val_main_v16, Cert.Ln2LastRefIdeal.Read.val_main_v17, Cert.Ln2LastRefIdeal.Read.val_main_v18, Cert.Ln2LastRefIdeal.Read.val_main_v19, Cert.Ln2LastRefIdeal.Read.val_main_v20, Cert.Ln2LastRefIdeal.Read.val_main_v21, Cert.Ln2LastRefIdeal.Read.val_main_v22, Cert.Ln2LastRefIdeal.Read.val_main_v23, Cert.Ln2LastRefIdeal.Read.val_main_v24, Cert.Ln2LastRefIdeal.Read.val_main_v25, Cert.Ln2LastRefIdeal.Read.val_main_v26, Cert.Ln2LastRefIdeal.Read.val_main_cst_6, Cert.Ln2LastRefIdeal.Read.val_main_v27, Cert.Ln2LastRefIdeal.Read.val_main_v28, Cert.Ln2LastRefIdeal.Read.val_main_v29, Cert.Ln2LastRefIdeal.Read.val_main_v30, Cert.Ln2LastRefIdeal.Read.val_main_v31, res, ln, xhat, rstd, cen, mean]
  try rfl

/-- The reference's normalised rows of the residual sum. -/
theorem ref52 (X : FVec Ideal S8192x2048 .f32) (G P : FVec Ideal S2048 .f32) (Y : FVec Ideal S8192x2048 .f32) (r : Fin 8192) (l : Fin 2048) :
    Cert.Ln2LastRefIdeal.Read.val_main_v52 (F := Ideal) X G P Y (ix2 r l) = xhat (res (fun k => G (ix1 k)) (fun k => P (ix1 k)) (fun k => X (ix2 r k)) (fun k => Y (ix2 r k))) l := by
  rw [show (res (fun k => G (ix1 k)) (fun k => P (ix1 k)) (fun k => X (ix2 r k)) (fun k => Y (ix2 r k))) = fun k => Cert.Ln2LastRefIdeal.Read.val_main_v31 (F := Ideal) X G P Y (ix2 r k) from funext fun k => (ref31 X G P Y r k).symm]
  pointwise [Cert.Ln2LastRefIdeal.Read.val_main_cst_7, Cert.Ln2LastRefIdeal.Read.val_main_v32, Cert.Ln2LastRefIdeal.Read.val_main_v33, Cert.Ln2LastRefIdeal.Read.val_main_cst_8, Cert.Ln2LastRefIdeal.Read.val_main_v34, Cert.Ln2LastRefIdeal.Read.val_main_v35, Cert.Ln2LastRefIdeal.Read.val_main_v36, Cert.Ln2LastRefIdeal.Read.val_main_v37, Cert.Ln2LastRefIdeal.Read.val_main_v38, Cert.Ln2LastRefIdeal.Read.val_main_cst_10, Cert.Ln2LastRefIdeal.Read.val_main_v41, Cert.Ln2LastRefIdeal.Read.val_main_v42, Cert.Ln2LastRefIdeal.Read.val_main_cst_11, Cert.Ln2LastRefIdeal.Read.val_main_v43, Cert.Ln2LastRefIdeal.Read.val_main_v44, Cert.Ln2LastRefIdeal.Read.val_main_cst_12, Cert.Ln2LastRefIdeal.Read.val_main_v45, Cert.Ln2LastRefIdeal.Read.val_main_v46, Cert.Ln2LastRefIdeal.Read.val_main_v47, Cert.Ln2LastRefIdeal.Read.val_main_v51, Cert.Ln2LastRefIdeal.Read.val_main_v52, xhat, rstd, cen, mean]
  try rfl

/-- The reference's difference of the second norm and the target. -/
theorem ref57 (X : FVec Ideal S8192x2048 .f32) (G P : FVec Ideal S2048 .f32) (Y : FVec Ideal S8192x2048 .f32) (H Q : FVec Ideal S2048 .f32) (T : FVec Ideal S8192x2048 .f32) (r : Fin 8192) (l : Fin 2048) :
    Cert.Ln2LastRefIdeal.Read.val_main_v57 (F := Ideal) X G P Y H Q T (ix2 r l) = diff (fun k => H (ix1 k)) (fun k => Q (ix1 k)) (res (fun k => G (ix1 k)) (fun k => P (ix1 k)) (fun k => X (ix2 r k)) (fun k => Y (ix2 r k))) (T (ix2 r l)) l := by
  unfold diff ln
  rw [← ref52]
  pointwise [Cert.Ln2LastRefIdeal.Read.val_main_v2, Cert.Ln2LastRefIdeal.Read.val_main_v3, Cert.Ln2LastRefIdeal.Read.val_main_v53, Cert.Ln2LastRefIdeal.Read.val_main_v54, Cert.Ln2LastRefIdeal.Read.val_main_v55, Cert.Ln2LastRefIdeal.Read.val_main_v56, Cert.Ln2LastRefIdeal.Read.val_main_v57]
  try rfl

/-- The reference's cotangent of the second norm. -/
theorem ref71 (X : FVec Ideal S8192x2048 .f32) (G P : FVec Ideal S2048 .f32) (Y : FVec Ideal S8192x2048 .f32) (H Q : FVec Ideal S2048 .f32) (T : FVec Ideal S8192x2048 .f32) (r : Fin 8192) (l : Fin 2048) :
    Cert.Ln2LastRefIdeal.Read.val_main_v71 (F := Ideal) X G P Y H Q T (ix2 r l) = diff (fun k => H (ix1 k)) (fun k => Q (ix1 k)) (res (fun k => G (ix1 k)) (fun k => P (ix1 k)) (fun k => X (ix2 r k)) (fun k => Y (ix2 r k))) (T (ix2 r l)) l * inv := by
  rw [← ref57, ← coef]
  pointwise [Cert.Ln2LastRefIdeal.Read.val_main_cst_14, Cert.Ln2LastRefIdeal.Read.val_main_v59, Cert.Ln2LastRefIdeal.Read.val_main_v60, Cert.Ln2LastRefIdeal.Read.val_main_cst_19, Cert.Ln2LastRefIdeal.Read.val_main_cst_20, Cert.Ln2LastRefIdeal.Read.val_main_v66, Cert.Ln2LastRefIdeal.Read.val_main_v67, Cert.Ln2LastRefIdeal.Read.val_main_cst_21, Cert.Ln2LastRefIdeal.Read.val_main_v68, Cert.Ln2LastRefIdeal.Read.val_main_v69, Cert.Ln2LastRefIdeal.Read.val_main_v70, Cert.Ln2LastRefIdeal.Read.val_main_v71]
  try rfl

/-- The reference's gradient of the second norm's shift. -/
theorem ref73 (X : FVec Ideal S8192x2048 .f32) (G P : FVec Ideal S2048 .f32) (Y : FVec Ideal S8192x2048 .f32) (H Q : FVec Ideal S2048 .f32) (T : FVec Ideal S8192x2048 .f32) (l : Fin 2048) :
    Cert.Ln2LastRefIdeal.Read.val_main_v73 (F := Ideal) X G P Y H Q T (ix2 0 l) = ∑ r : Fin 8192, diff (fun k => H (ix1 k)) (fun k => Q (ix1 k)) (res (fun k => G (ix1 k)) (fun k => P (ix1 k)) (fun k => X (ix2 r k)) (fun k => Y (ix2 r k))) (T (ix2 r l)) l * inv := by
  refine Eq.trans ?_ (Finset.sum_congr rfl fun r _ => ref71 X G P Y H Q T r l)
  pointwise [Cert.Ln2LastRefIdeal.Read.val_main_cst_22, Cert.Ln2LastRefIdeal.Read.val_main_v72, Cert.Ln2LastRefIdeal.Read.val_main_v73]
  try rfl

/-- The reference's gradient of the second norm's scale. -/
theorem ref76 (X : FVec Ideal S8192x2048 .f32) (G P : FVec Ideal S2048 .f32) (Y : FVec Ideal S8192x2048 .f32) (H Q : FVec Ideal S2048 .f32) (T : FVec Ideal S8192x2048 .f32) (l : Fin 2048) :
    Cert.Ln2LastRefIdeal.Read.val_main_v76 (F := Ideal) X G P Y H Q T (ix2 0 l) = ∑ r : Fin 8192, diff (fun k => H (ix1 k)) (fun k => Q (ix1 k)) (res (fun k => G (ix1 k)) (fun k => P (ix1 k)) (fun k => X (ix2 r k)) (fun k => Y (ix2 r k))) (T (ix2 r l)) l * inv * xhat (res (fun k => G (ix1 k)) (fun k => P (ix1 k)) (fun k => X (ix2 r k)) (fun k => Y (ix2 r k))) l := by
  refine Eq.trans ?_ (Finset.sum_congr rfl fun r _ => (congrArg₂ (· * ·) (ref52 X G P Y r l) (ref71 X G P Y H Q T r l)).trans (mul_comm _ _))
  pointwise [Cert.Ln2LastRefIdeal.Read.val_main_v74, Cert.Ln2LastRefIdeal.Read.val_main_cst_23, Cert.Ln2LastRefIdeal.Read.val_main_v75, Cert.Ln2LastRefIdeal.Read.val_main_v76]
  try rfl

/-- The reference's loss, in every entry of the tile. -/
theorem ref102 (X : FVec Ideal S8192x2048 .f32) (G P : FVec Ideal S2048 .f32) (Y : FVec Ideal S8192x2048 .f32) (H Q : FVec Ideal S2048 .f32) (T : FVec Ideal S8192x2048 .f32) (j : S8x128.Idx) :
    Cert.Ln2LastRefIdeal.Read.val_main_v102 (F := Ideal) X G P Y H Q T j = ∑ r : Fin 8192, Ideal.ofBits .f32 0x3F000000#32 * ((∑ l : Fin 2048,
      diff (fun k => H (ix1 k)) (fun k => Q (ix1 k)) (res (fun k => G (ix1 k)) (fun k => P (ix1 k)) (fun k => X (ix2 r k)) (fun k => Y (ix2 r k))) (T (ix2 r l)) l * diff (fun k => H (ix1 k)) (fun k => Q (ix1 k)) (res (fun k => G (ix1 k)) (fun k => P (ix1 k)) (fun k => X (ix2 r k)) (fun k => Y (ix2 r k))) (T (ix2 r l)) l) * inv) := by
  rw [← half_sum]
  refine Eq.trans ?_ (congrArg _ (Finset.sum_congr rfl fun r _ => congrArg (· * inv) (Finset.sum_congr rfl fun l _ =>
    congrArg₂ (· * ·) (ref57 X G P Y H Q T r l) (ref57 X G P Y H Q T r l))))
  simp only [← div_len]
  pointwise [Cert.Ln2LastRefIdeal.Read.val_main_v58, Cert.Ln2LastRefIdeal.Read.val_main_cst_15, Cert.Ln2LastRefIdeal.Read.val_main_v61, Cert.Ln2LastRefIdeal.Read.val_main_cst_16, Cert.Ln2LastRefIdeal.Read.val_main_v62, Cert.Ln2LastRefIdeal.Read.val_main_v63, Cert.Ln2LastRefIdeal.Read.val_main_cst_17, Cert.Ln2LastRefIdeal.Read.val_main_v64, Cert.Ln2LastRefIdeal.Read.val_main_cst_18, Cert.Ln2LastRefIdeal.Read.val_main_v65, Cert.Ln2LastRefIdeal.Read.val_main_v102]
  try rfl

end Cert.Ln2LastIdeal.Hand

end
-- ==== Proof.Ln2Last.Value.lean ====
module

public import proofs.«01_k».proof.Proof.Gen.Ln2LastIdeal.Value
public import Idealize.ShloMosaic.Lib.Pipeline.ValueKit
public import proofs.«01_k».proof.Proof.Shared.Norm
public import proofs.«01_k».proof.Proof.Ln2Last.Ref

@[expose] public section

set_option maxRecDepth 16384

noncomputable section

namespace Cert.Ln2LastIdeal.Hand

open Idealize.ShloMosaic Idealize.ShloMosaic.TcCoe Idealize.SL.Sem
open Idealize.ShloMosaic.Pipeline (Dat)
open Cert.Ln2LastIdeal Cert.Ln2LastIdeal.Gen
open Cert.Hand

/-- What a point of the grid computes first: the residual sum, less its mean. -/
theorem stored2 (X : FVec Ideal S256x2048 .f32) (G P : FVec Ideal S1x2048 .f32) (Y : FVec Ideal S256x2048 .f32) (r : Fin 256) (l : Fin 2048) : (k0_pay2 (F := Ideal) X G P Y) (ix2 r l) = cen (res (fun k => G (ix2 0 k)) (fun k => P (ix2 0 k)) (fun k => X (ix2 r k)) (fun k => Y (ix2 r k))) l := by
  pointwise [k0_pay2, res, ln, xhat, rstd, cen, mean]
  try rfl

/-- Its variance. -/
theorem stored3 (X : FVec Ideal S256x2048 .f32) (G P : FVec Ideal S1x2048 .f32) (Y : FVec Ideal S256x2048 .f32) (r : Fin 256) : (k0_pay3 (F := Ideal) X G P Y) (ix2 r 0) = mean (fun k => cen (res (fun k => G (ix2 0 k)) (fun k => P (ix2 0 k)) (fun k => X (ix2 r k)) (fun k => Y (ix2 r k))) k * cen (res (fun k => G (ix2 0 k)) (fun k => P (ix2 0 k)) (fun k => X (ix2 r k)) (fun k => Y (ix2 r k))) k) := by
  simp only [← stored2]
  pointwise [k0_pay3, mean]
  try rfl

/-- The normalised rows of the residual sum. -/
theorem stored5 (X : FVec Ideal S256x2048 .f32) (G P : FVec Ideal S1x2048 .f32) (Y : FVec Ideal S256x2048 .f32) (r : Fin 256) (l : Fin 2048) : k0_pay5 (F := Ideal) (k0_pay2 (F := Ideal) X G P Y) (k0_pay3 (F := Ideal) X G P Y) (FloatOps.ofBits .f32 0x3727C5AC#32) (ix2 r l) = xhat (res (fun k => G (ix2 0 k)) (fun k => P (ix2 0 k)) (fun k => X (ix2 r k)) (fun k => Y (ix2 r k))) l := by
  unfold xhat rstd
  rw [← stored3, ← stored2]
  generalize (k0_pay2 (F := Ideal) X G P Y) = A
  generalize (k0_pay3 (F := Ideal) X G P Y) = B
  pointwise [k0_pay5, k0_pay4]
  try rfl

/-- The difference of the second norm and the target. -/
theorem stored6 (X : FVec Ideal S256x2048 .f32) (G P : FVec Ideal S1x2048 .f32) (Y : FVec Ideal S256x2048 .f32) (H Q : FVec Ideal S1x2048 .f32) (T : FVec Ideal S256x2048 .f32) (r : Fin 256) (l : Fin 2048) : k0_pay6 (F := Ideal) (k0_pay2 (F := Ideal) X G P Y) (k0_pay3 (F := Ideal) X G P Y) (FloatOps.ofBits .f32 0x3727C5AC#32) H Q T (ix2 r l) = diff (fun k => H (ix2 0 k)) (fun k => Q (ix2 0 k)) (res (fun k => G (ix2 0 k)) (fun k => P (ix2 0 k)) (fun k => X (ix2 r k)) (fun k => Y (ix2 r k))) (T (ix2 r l)) l := by
  unfold diff ln
  rw [← stored5]
  pointwise [k0_pay6]
  try rfl

/-- The cotangent of the second norm. -/
theorem stored7 (X : FVec Ideal S256x2048 .f32) (G P : FVec Ideal S1x2048 .f32) (Y : FVec Ideal S256x2048 .f32) (H Q : FVec Ideal S1x2048 .f32) (T : FVec Ideal S256x2048 .f32) (r : Fin 256) (l : Fin 2048) : k0_pay7 (F := Ideal) (k0_pay2 (F := Ideal) X G P Y) (k0_pay3 (F := Ideal) X G P Y) (FloatOps.ofBits .f32 0x3727C5AC#32) H Q T (ix2 r l) = diff (fun k => H (ix2 0 k)) (fun k => Q (ix2 0 k)) (res (fun k => G (ix2 0 k)) (fun k => P (ix2 0 k)) (fun k => X (ix2 r k)) (fun k => Y (ix2 r k))) (T (ix2 r l)) l * inv := by
  rw [← stored6]
  pointwise [k0_pay7, inv]
  try rfl

/-- What a point adds to the gradient of the second norm's scale. -/
theorem pay9 (X : FVec Ideal S256x2048 .f32) (G P : FVec Ideal S1x2048 .f32) (Y : FVec Ideal S256x2048 .f32) (H Q : FVec Ideal S1x2048 .f32) (T : FVec Ideal S256x2048 .f32) (l : Fin 2048) :
    k0_pay14 (F := Ideal) (k0_pay5 (F := Ideal) (k0_pay2 (F := Ideal) X G P Y) (k0_pay3 (F := Ideal) X G P Y) (FloatOps.ofBits .f32 0x3727C5AC#32)) (k0_pay7 (F := Ideal) (k0_pay2 (F := Ideal) X G P Y) (k0_pay3 (F := Ideal) X G P Y) (FloatOps.ofBits .f32 0x3727C5AC#32) H Q T) (ix2 0 l)
      = ∑ r : Fin 256, diff (fun k => H (ix2 0 k)) (fun k => Q (ix2 0 k)) (res (fun k => G (ix2 0 k)) (fun k => P (ix2 0 k)) (fun k => X (ix2 r k)) (fun k => Y (ix2 r k))) (T (ix2 r l)) l * inv * xhat (res (fun k => G (ix2 0 k)) (fun k => P (ix2 0 k)) (fun k => X (ix2 r k)) (fun k => Y (ix2 r k))) l := by
  refine Eq.trans ?_ (Finset.sum_congr rfl fun r _ => congrArg₂ (· * ·) (stored7 X G P Y H Q T r l) (stored5 X G P Y r l))
  pointwise [k0_pay14]
  try rfl

/-- What a point adds to the gradient of the second norm's shift. -/
theorem pay10 (X : FVec Ideal S256x2048 .f32) (G P : FVec Ideal S1x2048 .f32) (Y : FVec Ideal S256x2048 .f32) (H Q : FVec Ideal S1x2048 .f32) (T : FVec Ideal S256x2048 .f32) (l : Fin 2048) :
    k0_pay16 (F := Ideal) (k0_pay7 (F := Ideal) (k0_pay2 (F := Ideal) X G P Y) (k0_pay3 (F := Ideal) X G P Y) (FloatOps.ofBits .f32 0x3727C5AC#32) H Q T) (ix2 0 l) = ∑ r : Fin 256, diff (fun k => H (ix2 0 k)) (fun k => Q (ix2 0 k)) (res (fun k => G (ix2 0 k)) (fun k => P (ix2 0 k)) (fun k => X (ix2 r k)) (fun k => Y (ix2 r k))) (T (ix2 r l)) l * inv := by
  refine Eq.trans ?_ (Finset.sum_congr rfl fun r _ => stored7 X G P Y H Q T r l)
  pointwise [k0_pay16]
  try rfl

/-- What a point adds to the loss. -/
theorem pay12 (X : FVec Ideal S256x2048 .f32) (G P : FVec Ideal S1x2048 .f32) (Y : FVec Ideal S256x2048 .f32) (H Q : FVec Ideal S1x2048 .f32) (T : FVec Ideal S256x2048 .f32) (a : Fin 8) (b : Fin 128) :
    k0_pay8 (F := Ideal) (k0_pay2 (F := Ideal) X G P Y) (k0_pay3 (F := Ideal) X G P Y) (FloatOps.ofBits .f32 0x3727C5AC#32) H Q T (ix2 a b)
      = ∑ r : Fin 256, Ideal.ofBits .f32 0x3F000000#32 * ((∑ l : Fin 2048, diff (fun k => H (ix2 0 k)) (fun k => Q (ix2 0 k)) (res (fun k => G (ix2 0 k)) (fun k => P (ix2 0 k)) (fun k => X (ix2 r k)) (fun k => Y (ix2 r k))) (T (ix2 r l)) l * diff (fun k => H (ix2 0 k)) (fun k => Q (ix2 0 k)) (res (fun k => G (ix2 0 k)) (fun k => P (ix2 0 k)) (fun k => X (ix2 r k)) (fun k => Y (ix2 r k))) (T (ix2 r l)) l) * inv) := by
  rw [← half_sum]
  refine Eq.trans ?_ (congrArg _ (Finset.sum_congr rfl fun r _ => congrArg (· * inv) (Finset.sum_congr rfl fun l _ =>
    congrArg₂ (· * ·) (stored6 X G P Y H Q T r l) (stored6 X G P Y H Q T r l))))
  pointwise [k0_pay8, inv]
  try rfl

variable (m : (ℓ : Loc nD τ sig) → Buf (Elt Ideal) ℓ)

/-- Which block each window holds at each point of the grid. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_9.index t = ![0, 0] ∧ win0_10.index t = ![0, 0] ∧ win0_12.index t = ![0, 0] :=
  (by decide +kernel : ∀ t : Fin grid0.N, _)

/-- The row the host code prepares of the first norm's scale. -/
theorem entry3 (c : Dev nD) : V m c main_v0 = shapeCast S1x2048 (show FVec Ideal S2048 .f32 from m ((c : Thread nD τ).loc main_arg1)) shapeCasts_S2048_S1x2048 := by
  unfold V; after_results; try rfl

/-- The row of the first norm's scale, at an index of the argument. -/
theorem blk3 (c : Dev nD) (t : Fin cfg0.N) (z : Fin 1) (l : Fin 2048) :
    (show FVec Ideal S1x2048 .f32 from iblk m c 3 t) (ix2 z l) = (show FVec Ideal S2048 .f32 from m ((c : Thread nD τ).loc main_arg1)) (ix1 l) := by
  have e : ((cfg0.win 3).blk t).view.emb (ix2 z l : S1x2048.Idx) = (ix2 z l : S1x2048.Idx) := by blk_ext [idx t]
  show V m c main_v0 _ = _; rw [e, entry3]; pointwise

/-- The row the host code prepares of the first norm's shift. -/
theorem entry4 (c : Dev nD) : V m c main_v1 = shapeCast S1x2048 (show FVec Ideal S2048 .f32 from m ((c : Thread nD τ).loc main_arg2)) shapeCasts_S2048_S1x2048 := by
  unfold V; after_results; try rfl

/-- The row of the first norm's shift, at an index of the argument. -/
theorem blk4 (c : Dev nD) (t : Fin cfg0.N) (z : Fin 1) (l : Fin 2048) :
    (show FVec Ideal S1x2048 .f32 from iblk m c 4 t) (ix2 z l) = (show FVec Ideal S2048 .f32 from m ((c : Thread nD τ).loc main_arg2)) (ix1 l) := by
  have e : ((cfg0.win 4).blk t).view.emb (ix2 z l : S1x2048.Idx) = (ix2 z l : S1x2048.Idx) := by blk_ext [idx t]
  show V m c main_v1 _ = _; rw [e, entry4]; pointwise

/-- The row the host code prepares of the second norm's scale. -/
theorem entry6 (c : Dev nD) : V m c main_v3 = shapeCast S1x2048 (show FVec Ideal S2048 .f32 from m ((c : Thread nD τ).loc main_arg4)) shapeCasts_S2048_S1x2048 := by
  unfold V; after_results; try rfl

/-- The row of the second norm's scale, at an index of the argument. -/
theorem blk6 (c : Dev nD) (t : Fin cfg0.N) (z : Fin 1) (l : Fin 2048) :
    (show FVec Ideal S1x2048 .f32 from iblk m c 6 t) (ix2 z l) = (show FVec Ideal S2048 .f32 from m ((c : Thread nD τ).loc main_arg4)) (ix1 l) := by
  have e : ((cfg0.win 6).blk t).view.emb (ix2 z l : S1x2048.Idx) = (ix2 z l : S1x2048.Idx) := by blk_ext [idx t]
  show V m c main_v3 _ = _; rw [e, entry6]; pointwise

/-- The row the host code prepares of the second norm's shift. -/
theorem entry5 (c : Dev nD) : V m c main_v2 = shapeCast S1x2048 (show FVec Ideal S2048 .f32 from m ((c : Thread nD τ).loc main_arg5)) shapeCasts_S2048_S1x2048 := by
  unfold V; after_results; try rfl

/-- The row of the second norm's shift, at an index of the argument. -/
theorem blk5 (c : Dev nD) (t : Fin cfg0.N) (z : Fin 1) (l : Fin 2048) :
    (show FVec Ideal S1x2048 .f32 from iblk m c 5 t) (ix2 z l) = (show FVec Ideal S2048 .f32 from m ((c : Thread nD τ).loc main_arg5)) (ix1 l) := by
  have e : ((cfg0.win 5).blk t).view.emb (ix2 z l : S1x2048.Idx) = (ix2 z l : S1x2048.Idx) := by blk_ext [idx t]
  show V m c main_v2 _ = _; rw [e, entry5]; pointwise

/-- The block of the input, at an index of the array. -/
theorem blk0 (c : Dev nD) (t : Fin cfg0.N) (r : Fin 256) (l : Fin 2048) (q : Fin 8192) (hq : (q : ℕ) = t.val * 256 + r) :
    (show FVec Ideal S256x2048 .f32 from iblk m c 0 t) (ix2 r l) = (show FVec Ideal S8192x2048 .f32 from m ((c : Thread nD τ).loc main_arg0)) (ix2 q l) := by
  have e : ((cfg0.win 0).blk t).view.emb (ix2 r l : S256x2048.Idx) = (ix2 q l : S8192x2048.Idx) := by
    blk_ext [idx t]
    all_goals omega
  rw [← e]; blk_point [iblk, V, idx t]

/-- The block of the second summand, at an index of the array. -/
theorem blk1 (c : Dev nD) (t : Fin cfg0.N) (r : Fin 256) (l : Fin 2048) (q : Fin 8192) (hq : (q : ℕ) = t.val * 256 + r) :
    (show FVec Ideal S256x2048 .f32 from iblk m c 1 t) (ix2 r l) = (show FVec Ideal S8192x2048 .f32 from m ((c : Thread nD τ).loc main_arg3)) (ix2 q l) := by
  have e : ((cfg0.win 1).blk t).view.emb (ix2 r l : S256x2048.Idx) = (ix2 q l : S8192x2048.Idx) := by
    blk_ext [idx t]
    all_goals omega
  rw [← e]; blk_point [iblk, V, idx t]

/-- The block of the target, at an index of the array. -/
theorem blk2 (c : Dev nD) (t : Fin cfg0.N) (r : Fin 256) (l : Fin 2048) (q : Fin 8192) (hq : (q : ℕ) = t.val * 256 + r) :
    (show FVec Ideal S256x2048 .f32 from iblk m c 2 t) (ix2 r l) = (show FVec Ideal S8192x2048 .f32 from m ((c : Thread nD τ).loc main_arg6)) (ix2 q l) := by
  have e : ((cfg0.win 2).blk t).view.emb (ix2 r l : S256x2048.Idx) = (ix2 q l : S8192x2048.Idx) := by
    blk_ext [idx t]
    all_goals omega
  rw [← e]; blk_point [iblk, V, idx t]

/-- The residual sum of a block's row is that of the array's row. -/
theorem row_eq (c : Dev nD) (t : Fin cfg0.N) (r : Fin 256) (q : Fin 8192) (hq : (q : ℕ) = t.val * 256 + r) :
    (res (fun k => (show FVec Ideal S1x2048 .f32 from iblk m c 3 t) (ix2 0 k)) (fun k => (show FVec Ideal S1x2048 .f32 from iblk m c 4 t) (ix2 0 k)) (fun k => (show FVec Ideal S256x2048 .f32 from iblk m c 0 t) (ix2 r k)) (fun k => (show FVec Ideal S256x2048 .f32 from iblk m c 1 t) (ix2 r k))) = (res (fun k => (show FVec Ideal S2048 .f32 from m ((c : Thread nD τ).loc main_arg1)) (ix1 k)) (fun k => (show FVec Ideal S2048 .f32 from m ((c : Thread nD τ).loc main_arg2)) (ix1 k)) (fun k => (show FVec Ideal S8192x2048 .f32 from m ((c : Thread nD τ).loc main_arg0)) (ix2 q k)) (fun k => (show FVec Ideal S8192x2048 .f32 from m ((c : Thread nD τ).loc main_arg3)) (ix2 q k))) := by
  rw [show (fun k => (show FVec Ideal S1x2048 .f32 from iblk m c 3 t) (ix2 0 k)) = _ from funext fun k => blk3 m c t 0 k,
    show (fun k => (show FVec Ideal S1x2048 .f32 from iblk m c 4 t) (ix2 0 k)) = _ from funext fun k => blk4 m c t 0 k,
    show (fun k => (show FVec Ideal S256x2048 .f32 from iblk m c 0 t) (ix2 r k)) = _ from funext fun k => blk0 m c t r k q hq,
    show (fun k => (show FVec Ideal S256x2048 .f32 from iblk m c 1 t) (ix2 r k)) = _ from funext fun k => blk1 m c t r k q hq]

/-- The difference of a block's entry is that of the array's entry. -/
theorem diff_eq (c : Dev nD) (t : Fin cfg0.N) (r : Fin 256) (l : Fin 2048) (q : Fin 8192) (hq : (q : ℕ) = t.val * 256 + r) :
    diff (fun k => (show FVec Ideal S1x2048 .f32 from iblk m c 6 t) (ix2 0 k)) (fun k => (show FVec Ideal S1x2048 .f32 from iblk m c 5 t) (ix2 0 k)) (res (fun k => (show FVec Ideal S1x2048 .f32 from iblk m c 3 t) (ix2 0 k)) (fun k => (show FVec Ideal S1x2048 .f32 from iblk m c 4 t) (ix2 0 k)) (fun k => (show FVec Ideal S256x2048 .f32 from iblk m c 0 t) (ix2 r k)) (fun k => (show FVec Ideal S256x2048 .f32 from iblk m c 1 t) (ix2 r k))) ((show FVec Ideal S256x2048 .f32 from iblk m c 2 t) (ix2 r l)) l
      = diff (fun k => (show FVec Ideal S2048 .f32 from m ((c : Thread nD τ).loc main_arg4)) (ix1 k)) (fun k => (show FVec Ideal S2048 .f32 from m ((c : Thread nD τ).loc main_arg5)) (ix1 k)) (res (fun k => (show FVec Ideal S2048 .f32 from m ((c : Thread nD τ).loc main_arg1)) (ix1 k)) (fun k => (show FVec Ideal S2048 .f32 from m ((c : Thread nD τ).loc main_arg2)) (ix1 k)) (fun k => (show FVec Ideal S8192x2048 .f32 from m ((c : Thread nD τ).loc main_arg0)) (ix2 q k)) (fun k => (show FVec Ideal S8192x2048 .f32 from m ((c : Thread nD τ).loc main_arg3)) (ix2 q k))) ((show FVec Ideal S8192x2048 .f32 from m ((c : Thread nD τ).loc main_arg6)) (ix2 q l)) l := by
  rw [row_eq m c t r q hq, blk2 m c t r l q hq,
    show (fun k => (show FVec Ideal S1x2048 .f32 from iblk m c 6 t) (ix2 0 k)) = _ from funext fun k => blk6 m c t 0 k,
    show (fun k => (show FVec Ideal S1x2048 .f32 from iblk m c 5 t) (ix2 0 k)) = _ from funext fun k => blk5 m c t 0 k]

/-- The gradient of the scale that the kernel leaves is the reference's. -/
theorem final9 (c : Dev nD) : (dats m 0 c).arrAt 9 (cfgs 0).N
    = Cert.Ln2LastRefIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9, Pipeline.eq_sum_fin_of_reset_step_apply_of_flush (fun n h => (outsAt0 m c n h).2.2.1) 32 (fun _ => 0) _
    (fun t h j => by rw [outsAt0_A m c t h (by have := t.isLt; have : cfg0.N = 32 := rfl; omega) h (by have := t.isLt; have : cfg0.N = 32 := rfl; omega) h (by have := t.isLt; have : cfg0.N = 32 := rfl; omega) h (by have := t.isLt; have : cfg0.N = 32 := rfl; omega)]; frame_out; rw [zero_add])
    (fun t h j => by rw [outsAt0_B m c t h (by omega) h (by omega) h (by omega) h (by omega)]; frame_out; pointwise [k0_pay15])
    t ((flush0_9 t).mp hf) _, zero_add]
  idx_vars y
  obtain rfl : y0 = 0 := by omega
  refine Eq.trans (Fin.sum_fin_congr fun s => pay9 _ _ _ _ _ _ _ y1) (Eq.trans ?_ (congrArg _ (eq_ix2 _)).symm)
  have e : ((win0_9.blk t).view.emb (ix2 0 y1 : S1x2048.Idx)) 0 = (0 : Fin 1) := Subsingleton.elim (α := Fin 1) _ _
  have e1 : ((win0_9.blk t).view.emb (ix2 0 y1 : S1x2048.Idx)) 1 = y1 := by refine Fin.ext ?_; blk_simp [idx t]
  rw [e, e1]
  refine Eq.trans ?_ (ref76 _ _ _ _ _ _ _ _).symm
  refine Fin.sum_mul_add_congr fun s k hl => ?_
  have hq : s.val * 256 + k.val = (32 * (t.val / 32) + s.val) * 256 + k.val := by have ht : t.val < 32 := t.isLt; omega
  exact congrArg₂ (· * ·) (congrArg (· * inv) (diff_eq m c ⟨_, Pipeline.run_point_lt_of_flush t ((flush0_9 t).mp hf) s⟩ k y1 _ hq)) (congrArg (xhat · y1) (row_eq m c ⟨_, Pipeline.run_point_lt_of_flush t ((flush0_9 t).mp hf) s⟩ k _ hq))

/-- The gradient of the shift that the kernel leaves is the reference's. -/
theorem final10 (c : Dev nD) : (dats m 0 c).arrAt 10 (cfgs 0).N
    = Cert.Ln2LastRefIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  rw [after0_10, Pipeline.eq_sum_fin_of_reset_step_apply_of_flush (fun n h => (outsAt0 m c n h).2.2.2.1) 32 (fun _ => 0) _
    (fun t h j => by rw [outsAt0_A m c t h (by have := t.isLt; have : cfg0.N = 32 := rfl; omega) h (by have := t.isLt; have : cfg0.N = 32 := rfl; omega) h (by have := t.isLt; have : cfg0.N = 32 := rfl; omega) h (by have := t.isLt; have : cfg0.N = 32 := rfl; omega)]; frame_out; rw [zero_add])
    (fun t h j => by rw [outsAt0_B m c t h (by omega) h (by omega) h (by omega) h (by omega)]; frame_out; pointwise [k0_pay17])
    t ((flush0_10 t).mp hf) _, zero_add]
  idx_vars y
  obtain rfl : y0 = 0 := by omega
  refine Eq.trans (Fin.sum_fin_congr fun s => pay10 _ _ _ _ _ _ _ y1) (Eq.trans ?_ (congrArg _ (eq_ix2 _)).symm)
  have e : ((win0_10.blk t).view.emb (ix2 0 y1 : S1x2048.Idx)) 0 = (0 : Fin 1) := Subsingleton.elim (α := Fin 1) _ _
  have e1 : ((win0_10.blk t).view.emb (ix2 0 y1 : S1x2048.Idx)) 1 = y1 := by refine Fin.ext ?_; blk_simp [idx t]
  rw [e, e1]
  refine Eq.trans ?_ (ref73 _ _ _ _ _ _ _ _).symm
  refine Fin.sum_mul_add_congr fun s k hl => ?_
  have hq : s.val * 256 + k.val = (32 * (t.val / 32) + s.val) * 256 + k.val := by have ht : t.val < 32 := t.isLt; omega
  exact congrArg (· * inv) (diff_eq m c ⟨_, Pipeline.run_point_lt_of_flush t ((flush0_10 t).mp hf) s⟩ k y1 _ hq)

/-- The loss that the kernel leaves is the reference's. -/
theorem final12 (c : Dev nD) : (dats m 0 c).arrAt 12 (cfgs 0).N
    = Cert.Ln2LastRefIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t hf y => ?_
  blk_simp
  rw [after0_12, Pipeline.eq_sum_fin_of_reset_step_apply_of_flush (fun n h => (outsAt0 m c n h).2.2.2.2.2) 32 (fun _ => 0) _
    (fun t h j => by rw [outsAt0_A m c t h (by have := t.isLt; have : cfg0.N = 32 := rfl; omega) h (by have := t.isLt; have : cfg0.N = 32 := rfl; omega) h (by have := t.isLt; have : cfg0.N = 32 := rfl; omega) h (by have := t.isLt; have : cfg0.N = 32 := rfl; omega)]; frame_out; rw [zero_add])
    (fun t h j => by rw [outsAt0_B m c t h (by omega) h (by omega) h (by omega) h (by omega)]; frame_out; pointwise [k0_pay9])
    t ((flush0_12 t).mp hf) _, zero_add]
  idx_vars y
  refine Eq.trans (Fin.sum_fin_congr fun s => pay12 _ _ _ _ _ _ _ y0 y1) ?_
  refine Eq.trans ?_ (ref102 _ _ _ _ _ _ _ _).symm
  refine Fin.sum_mul_add_congr fun s k hl => ?_
  have hq : s.val * 256 + k.val = (32 * (t.val / 32) + s.val) * 256 + k.val := by have ht : t.val < 32 := t.isLt; omega
  exact congrArg (_ * ·) (congrArg (· * inv) (Finset.sum_congr rfl fun l _ =>
    congrArg₂ (· * ·) (diff_eq m c ⟨_, Pipeline.run_point_lt_of_flush t ((flush0_12 t).mp hf) s⟩ k l _ hq) (diff_eq m c ⟨_, Pipeline.run_point_lt_of_flush t ((flush0_12 t).mp hf) s⟩ k l _ hq)))

end Cert.Ln2LastIdeal.Hand

end
-- ==== Proof.Ln2Last.Claim.lean ====
module

public import proofs.«01_k».proof.Defs
public import proofs.«01_k».proof.Proof.Gen.On_ln2_last_sums
public import proofs.«01_k».proof.Proof.Gen.Ln2LastRefIdeal.Run
public import proofs.«01_k».proof.Proof.Ln2Last.Value

@[expose] public section

noncomputable section

namespace Cert.Ln2LastIdeal.Hand

open Idealize.ShloMosaic Idealize.ShloMosaic.TcCoe Idealize.SL.Sem
open Cert.Ln2LastIdeal Cert.Ln2LastIdeal.Gen

/-- The reference ends with its arguments kept and every semaphore at zero. -/
theorem frame_ref : Cert.quiescent_Ln2LastRefIdeal := fun m ρ _ =>
  (θ_run Cert.Ln2LastRefIdeal.defs _ _).mono (fun r h => ⟨fun c => (h c).2.2.2.2.2.2,
    Idealize.ShloMosaic.sem_eq_zero_of_no_sems (by decide) r.2⟩) (Cert.Ln2LastRefIdeal.Value.run m ρ)

/-- On equal arguments the kernel and the reference end with the gradients of the scale and the shift and the loss equal. -/
theorem algebraic : Cert.algebraic_Ln2LastIdeal_Ln2LastRefIdeal_on_ln2_last_sums := by
  intro m g m' g' _ hagree
  refine ⟨fun c => m ((c : Thread nD τ).loc main_v4_0), fun c => m ((c : Thread nD τ).loc main_v4_1), fun c => Cert.Ln2LastRefIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), fun c => Cert.Ln2LastRefIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), fun c => m ((c : Thread nD τ).loc main_v4_4), fun c => Cert.Ln2LastRefIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), ?_, ?_⟩
  · exact (θ_run _ _ _).mono (fun r h c => ⟨fun i hi => absurd (show (0#1 : BitVec 1) = 1#1 from hi) (by decide), fun i hi => absurd (show (0#1 : BitVec 1) = 1#1 from hi) (by decide), fun i _ => congrFun ((h c).2.2.1.trans (Cert.Ln2LastIdeal.Hand.final9 m c)) i, fun i _ => congrFun ((h c).2.2.2.1.trans (Cert.Ln2LastIdeal.Hand.final10 m c)) i, fun i hi => absurd (show (0#1 : BitVec 1) = 1#1 from hi) (by decide), fun i _ => congrFun ((h c).2.2.2.2.2.1.trans (Cert.Ln2LastIdeal.Hand.final12 m c)) i, (h c).2.2.2.2.2.2⟩)
      (Cert.Ln2LastIdeal.Value.run_blocks m g)
  refine (θ_run _ _ _).mono (fun r h c => ⟨fun i hi => absurd (show (0#1 : BitVec 1) = 1#1 from hi) (by decide), fun i hi => absurd (show (0#1 : BitVec 1) = 1#1 from hi) (by decide), fun i _ => congrFun ?_ i, fun i _ => congrFun ?_ i, fun i hi => absurd (show (0#1 : BitVec 1) = 1#1 from hi) (by decide), fun i _ => congrFun ?_ i, (h c).2.2.2.2.2.2⟩) (Cert.Ln2LastRefIdeal.Value.run m' g')
  · refine (h c).2.2.1.trans ?_
    rw [← (hagree c).1, ← (hagree c).2.1, ← (hagree c).2.2.1, ← (hagree c).2.2.2.1, ← (hagree c).2.2.2.2.1, ← (hagree c).2.2.2.2.2.1, ← (hagree c).2.2.2.2.2.2]
    exact Cert.Ln2LastRefIdeal.Read.val_main_v76_eq (F := Ideal) (Idealize.ShloMosaic.StableHlo.launchContents m' c)
  · refine (h c).2.2.2.1.trans ?_
    rw [← (hagree c).1, ← (hagree c).2.1, ← (hagree c).2.2.1, ← (hagree c).2.2.2.1, ← (hagree c).2.2.2.2.1, ← (hagree c).2.2.2.2.2.1, ← (hagree c).2.2.2.2.2.2]
    exact Cert.Ln2LastRefIdeal.Read.val_main_v73_eq (F := Ideal) (Idealize.ShloMosaic.StableHlo.launchContents m' c)
  · refine (h c).2.2.2.2.2.1.trans ?_
    rw [← (hagree c).1, ← (hagree c).2.1, ← (hagree c).2.2.1, ← (hagree c).2.2.2.1, ← (hagree c).2.2.2.2.1, ← (hagree c).2.2.2.2.2.1, ← (hagree c).2.2.2.2.2.2]
    exact Cert.Ln2LastRefIdeal.Read.val_main_v102_eq (F := Ideal) (Idealize.ShloMosaic.StableHlo.launchContents m' c)

end Cert.Ln2LastIdeal.Hand

end
-- ==== Proof.Ln2Bwd.Value.lean ====
module

public import proofs.«01_k».proof.Proof.Gen.Ln2BwdIdeal.Value
public import proofs.«01_k».proof.Proof.Gen.Ln2BwdRefIdeal.Read
public import Idealize.ShloMosaic.Lib.Pipeline.ValueKit
public import proofs.«01_k».proof.Proof.Shared.Norm

@[expose] public section

set_option maxRecDepth 16384

noncomputable section

namespace Cert.Ln2BwdIdeal.Hand

open Idealize.ShloMosaic Idealize.ShloMosaic.TcCoe Idealize.SL.Sem
open Idealize.ShloMosaic.Pipeline (Dat)
open Cert.Ln2BwdIdeal Cert.Ln2BwdIdeal.Gen
open Cert.Hand

/-- The cotangent of a normalised entry: the first one, plus the second scaled. -/
def ct (d e : EReal) : EReal := d + Ideal.ofBits .f32 0x3FB504F3#32 * e

/-- The reference's gradient of the scale: the column sums of the cotangents times the normalised rows. -/
theorem ref6 (X D E : FVec Ideal S8192x2048 .f32) (l : Fin 2048) :
    Cert.Ln2BwdRefIdeal.Read.val_main_v40 (F := Ideal) X D E (ix2 0 l)
      = ∑ r : Fin 8192, ct (D (ix2 r l)) (E (ix2 r l)) * xhat (fun k => X (ix2 r k)) l := by
  rw [← Cert.Ln2BwdRefIdeal.Read.val_main_v40_eq]
  pointwise [ct, xhat, rstd, cen, mean]
  exact Finset.sum_congr rfl fun r _ => mul_comm _ _

/-- The reference's gradient of the shift: the column sums of the cotangents. -/
theorem ref7 (D E : FVec Ideal S8192x2048 .f32) (l : Fin 2048) :
    Cert.Ln2BwdRefIdeal.Read.val_main_v37 (F := Ideal) D E (ix2 0 l) = ∑ r : Fin 8192, ct (D (ix2 r l)) (E (ix2 r l)) := by
  rw [← Cert.Ln2BwdRefIdeal.Read.val_main_v37_eq]
  pointwise [ct]

/-- What a point of the grid adds to the gradient of the scale. -/
theorem pay6 (D E X : FVec Ideal S256x2048 .f32) (l : Fin 2048) :
    k0_pay3 (F := Ideal) (k0_pay9 (F := Ideal) D E) (k0_pay12 (F := Ideal) X) (ix2 0 l)
      = ∑ r : Fin 256, ct (D (ix2 r l)) (E (ix2 r l)) * xhat (fun k => X (ix2 r k)) l := by
  pointwise [k0_pay3, k0_pay9, k0_pay12, k0_pay11, k0_pay10, ct, xhat, rstd, cen, mean]

/-- What a point of the grid adds to the gradient of the shift. -/
theorem pay7 (D E : FVec Ideal S256x2048 .f32) (l : Fin 2048) :
    k0_pay5 (F := Ideal) (k0_pay9 (F := Ideal) D E) (ix2 0 l) = ∑ r : Fin 256, ct (D (ix2 r l)) (E (ix2 r l)) := by
  pointwise [k0_pay5, k0_pay9, ct]

variable (m : (ℓ : Loc nD τ sig) → Buf (Elt Ideal) ℓ)

/-- Which block each window holds at each point of the grid. -/
theorem idx : ∀ t : Fin cfg0.N, win0_0.index t = ![t.val, 0] ∧ win0_1.index t = ![t.val, 0] ∧ win0_2.index t = ![t.val, 0]
    ∧ win0_6.index t = ![0, 0] ∧ win0_7.index t = ![0, 0] :=
  (by decide +kernel : ∀ t : Fin grid0.N, _)

/-- The gradient of the scale that the kernel leaves is the reference's. -/
theorem final6 (c : Dev nD) : (dats m 0 c).arrAt 6 (cfgs 0).N
    = Cert.Ln2BwdRefIdeal.Read.val_main_v40 (F := Ideal) (m ((c : Thread nD τ).loc main_arg0))
        (m ((c : Thread nD τ).loc main_arg3)) (m ((c : Thread nD τ).loc main_arg4)) := by
  refine (dats m 0 c).arrAt_eq_of_covers 6 _ (by decide +kernel) fun t hf y => ?_
  blk_simp
  rw [after0_6, Pipeline.eq_sum_fin_of_reset_step_apply_of_flush (fun n h => (outsAt0 m c n h).2.2.1) 32 (fun _ => 0) _
    (fun t h j => by rw [outsAt0_A m c t h (by have := t.isLt; have : cfg0.N = 32 := rfl; omega) h (by have := t.isLt; have : cfg0.N = 32 := rfl; omega) h (by have := t.isLt; have : cfg0.N = 32 := rfl; omega)]; frame_out; rw [zero_add])
    (fun t h j => by rw [outsAt0_B m c t h (by omega) h (by omega) h (by omega)]; frame_out; pointwise [k0_pay4])
    t ((flush0_6 t).mp hf) _, zero_add]
  idx_vars y
  obtain rfl : y0 = 0 := by omega
  refine Eq.trans (Fin.sum_fin_congr fun s => pay6 _ _ _ y1) (Eq.trans ?_ (congrArg _ (eq_ix2 _)).symm)
  have e : ((win0_6.blk t).view.emb (ix2 0 y1 : S1x2048.Idx)) 0 = (0 : Fin 1) := Subsingleton.elim (α := Fin 1) _ _
  rw [e]
  refine Eq.trans ?_ (ref6 _ _ _ _).symm
  refine Fin.sum_mul_add_congr fun s k hl => ?_
  refine congrArg₂ (· * ·) (congrArg₂ ct ?_ ?_) ?_
  · blk_point [iblk, V, idx t, idx ⟨_, Pipeline.run_point_lt_of_flush t ((flush0_6 t).mp hf) s⟩]
  · blk_point [iblk, V, idx t, idx ⟨_, Pipeline.run_point_lt_of_flush t ((flush0_6 t).mp hf) s⟩]
  refine congrArg₂ xhat (funext fun q => ?_) ?_
  · blk_point [iblk, V, idx t, idx ⟨_, Pipeline.run_point_lt_of_flush t ((flush0_6 t).mp hf) s⟩]
  · refine Fin.ext ?_
    blk_simp [idx t]

/-- The gradient of the shift that the kernel leaves is the reference's. -/
theorem final7 (c : Dev nD) : (dats m 0 c).arrAt 7 (cfgs 0).N
    = Cert.Ln2BwdRefIdeal.Read.val_main_v37 (F := Ideal)
        (m ((c : Thread nD τ).loc main_arg3)) (m ((c : Thread nD τ).loc main_arg4)) := by
  refine (dats m 0 c).arrAt_eq_of_covers 7 _ (by decide +kernel) fun t hf y => ?_
  blk_simp
  rw [after0_7, Pipeline.eq_sum_fin_of_reset_step_apply_of_flush (fun n h => (outsAt0 m c n h).2.2.2.1) 32 (fun _ => 0) _
    (fun t h j => by rw [outsAt0_A m c t h (by have := t.isLt; have : cfg0.N = 32 := rfl; omega) h (by have := t.isLt; have : cfg0.N = 32 := rfl; omega) h (by have := t.isLt; have : cfg0.N = 32 := rfl; omega)]; frame_out; rw [zero_add])
    (fun t h j => by rw [outsAt0_B m c t h (by omega) h (by omega) h (by omega)]; frame_out; pointwise [k0_pay6])
    t ((flush0_7 t).mp hf) _, zero_add]
  idx_vars y
  obtain rfl : y0 = 0 := by omega
  refine Eq.trans (Fin.sum_fin_congr fun s => pay7 _ _ y1) (Eq.trans ?_ (congrArg _ (eq_ix2 _)).symm)
  have e : ((win0_7.blk t).view.emb (ix2 0 y1 : S1x2048.Idx)) 0 = (0 : Fin 1) := Subsingleton.elim (α := Fin 1) _ _
  rw [e]
  refine Eq.trans ?_ (ref7 _ _ _).symm
  refine Fin.sum_mul_add_congr fun s k hl => ?_
  refine congrArg₂ ct ?_ ?_
  · blk_point [iblk, V, idx t, idx ⟨_, Pipeline.run_point_lt_of_flush t ((flush0_7 t).mp hf) s⟩]
  · blk_point [iblk, V, idx t, idx ⟨_, Pipeline.run_point_lt_of_flush t ((flush0_7 t).mp hf) s⟩]

end Cert.Ln2BwdIdeal.Hand

end
-- ==== Proof.Ln2Bwd.Claim.lean ====
module

public import proofs.«01_k».proof.Defs
public import proofs.«01_k».proof.Proof.Gen.On_ln2_bwd_sums
public import proofs.«01_k».proof.Proof.Gen.Ln2BwdRefIdeal.Run
public import proofs.«01_k».proof.Proof.Ln2Bwd.Value

@[expose] public section

noncomputable section

namespace Cert.Ln2BwdIdeal.Hand

open Idealize.ShloMosaic Idealize.ShloMosaic.TcCoe Idealize.SL.Sem
open Cert.Ln2BwdIdeal Cert.Ln2BwdIdeal.Gen

/-- The reference ends with its arguments kept and every semaphore at zero. -/
theorem frame_ref : Cert.quiescent_Ln2BwdRefIdeal := fun m ρ _ =>
  (θ_run Cert.Ln2BwdRefIdeal.defs _ _).mono (fun r h => ⟨fun c => (h c).2.2.2.2.2,
    Idealize.ShloMosaic.sem_eq_zero_of_no_sems (by decide) r.2⟩) (Cert.Ln2BwdRefIdeal.Value.run m ρ)

/-- On equal arguments the kernel and the reference end with the gradients of the scale and the shift equal. -/
theorem algebraic : Cert.algebraic_Ln2BwdIdeal_Ln2BwdRefIdeal_on_ln2_bwd_sums := by
  intro m g m' g' _ hagree
  refine ⟨fun c => m ((c : Thread nD τ).loc main_v1_0), fun c => m ((c : Thread nD τ).loc main_v1_1), fun c => Cert.Ln2BwdRefIdeal.Read.val_main_v40 (F := Ideal) (m ((c : Thread nD τ).loc main_arg0)) (m ((c : Thread nD τ).loc main_arg3)) (m ((c : Thread nD τ).loc main_arg4)), fun c => Cert.Ln2BwdRefIdeal.Read.val_main_v37 (F := Ideal) (m ((c : Thread nD τ).loc main_arg3)) (m ((c : Thread nD τ).loc main_arg4)), fun c => m ((c : Thread nD τ).loc main_v1_4), ?_, ?_⟩
  · exact (θ_run _ _ _).mono (fun r h c => ⟨fun i hi => absurd (show (0#1 : BitVec 1) = 1#1 from hi) (by decide), fun i hi => absurd (show (0#1 : BitVec 1) = 1#1 from hi) (by decide), fun i _ => congrFun ((h c).2.2.1.trans (Cert.Ln2BwdIdeal.Hand.final6 m c)) i, fun i _ => congrFun ((h c).2.2.2.1.trans (Cert.Ln2BwdIdeal.Hand.final7 m c)) i, fun i hi => absurd (show (0#1 : BitVec 1) = 1#1 from hi) (by decide), (h c).2.2.2.2.2⟩)
      (Cert.Ln2BwdIdeal.Value.run_blocks m g)
  refine (θ_run _ _ _).mono (fun r h c => ⟨fun i hi => absurd (show (0#1 : BitVec 1) = 1#1 from hi) (by decide), fun i hi => absurd (show (0#1 : BitVec 1) = 1#1 from hi) (by decide), fun i _ => congrFun ?_ i, fun i _ => congrFun ?_ i, fun i hi => absurd (show (0#1 : BitVec 1) = 1#1 from hi) (by decide), (h c).2.2.2.2.2⟩) (Cert.Ln2BwdRefIdeal.Value.run m' g')
  · refine (h c).2.2.1.trans ?_
    rw [(hagree c).1, (hagree c).2.2.2.1, (hagree c).2.2.2.2]
    exact Cert.Ln2BwdRefIdeal.Read.val_main_v40_eq _ _ _
  · refine (h c).2.2.2.1.trans ?_
    rw [(hagree c).2.2.2.1, (hagree c).2.2.2.2]
    exact Cert.Ln2BwdRefIdeal.Read.val_main_v37_eq _ _

end Cert.Ln2BwdIdeal.Hand

end
-- ==== Proof.lean ====
module

public import proofs.«01_k».proof.Defs
public import proofs.«01_k».proof.Proof.Gen.HostGradX
public import proofs.«01_k».proof.Proof.Gen.HostGradX.Skeleton
public import proofs.«01_k».proof.Proof.Gen.HostGradX.Launch
public import proofs.«01_k».proof.Proof.Gen.HostGradX.Points
public import proofs.«01_k».proof.Proof.Gen.HostGradX.Frame
public import proofs.«01_k».proof.Proof.Gen.HostGradXIdeal
public import proofs.«01_k».proof.Proof.Gen.HostGradXIdeal.Skeleton
public import proofs.«01_k».proof.Proof.Gen.HostGradXIdeal.Launch
public import proofs.«01_k».proof.Proof.Gen.HostGradXIdeal.Points
public import proofs.«01_k».proof.Proof.Gen.HostGradXIdeal.Frame
public import proofs.«01_k».proof.Proof.Gen.HostGradXIdeal.Value
public import proofs.«01_k».proof.Proof.Gen.HostGradXRefIdeal
public import proofs.«01_k».proof.Proof.Gen.HostGradXRefIdeal.Run
public import proofs.«01_k».proof.Proof.Gen.HostGradXRefIdeal.Read
public import proofs.«01_k».proof.Proof.Gen.HostProj
public import proofs.«01_k».proof.Proof.Gen.HostProj.Skeleton
public import proofs.«01_k».proof.Proof.Gen.HostProj.Launch
public import proofs.«01_k».proof.Proof.Gen.HostProj.Points
public import proofs.«01_k».proof.Proof.Gen.HostProj.Frame
public import proofs.«01_k».proof.Proof.Gen.HostProjIdeal
public import proofs.«01_k».proof.Proof.Gen.HostProjIdeal.Skeleton
public import proofs.«01_k».proof.Proof.Gen.HostProjIdeal.Launch
public import proofs.«01_k».proof.Proof.Gen.HostProjIdeal.Points
public import proofs.«01_k».proof.Proof.Gen.HostProjIdeal.Frame
public import proofs.«01_k».proof.Proof.Gen.HostProjIdeal.Value
public import proofs.«01_k».proof.Proof.Gen.HostProjRefIdeal
public import proofs.«01_k».proof.Proof.Gen.HostProjRefIdeal.Run
public import proofs.«01_k».proof.Proof.Gen.HostProjRefIdeal.Read
public import proofs.«01_k».proof.Proof.Gen.On_host_proj_last
public import proofs.«01_k».proof.Proof.Gen.HostFf2
public import proofs.«01_k».proof.Proof.Gen.HostFf2.Skeleton
public import proofs.«01_k».proof.Proof.Gen.HostFf2.Launch
public import proofs.«01_k».proof.Proof.Gen.HostFf2.Points
public import proofs.«01_k».proof.Proof.Gen.HostFf2.Frame
public import proofs.«01_k».proof.Proof.Gen.HostFf2Ideal
public import proofs.«01_k».proof.Proof.Gen.HostFf2Ideal.Skeleton
public import proofs.«01_k».proof.Proof.Gen.HostFf2Ideal.Launch
public import proofs.«01_k».proof.Proof.Gen.HostFf2Ideal.Points
public import proofs.«01_k».proof.Proof.Gen.HostFf2Ideal.Frame
public import proofs.«01_k».proof.Proof.Gen.HostFf2Ideal.Value
public import proofs.«01_k».proof.Proof.Gen.HostFf2RefIdeal
public import proofs.«01_k».proof.Proof.Gen.HostFf2RefIdeal.Run
public import proofs.«01_k».proof.Proof.Gen.HostFf2RefIdeal.Read
public import proofs.«01_k».proof.Proof.Gen.On_host_ff2_last
public import proofs.«01_k».proof.Proof.Gen.DffHidden
public import proofs.«01_k».proof.Proof.Gen.DffHidden.Skeleton
public import proofs.«01_k».proof.Proof.Gen.DffHidden.Launch
public import proofs.«01_k».proof.Proof.Gen.DffHidden.Points
public import proofs.«01_k».proof.Proof.Gen.DffHidden.Frame
public import proofs.«01_k».proof.Proof.Gen.DffHiddenIdeal
public import proofs.«01_k».proof.Proof.Gen.DffHiddenIdeal.Skeleton
public import proofs.«01_k».proof.Proof.Gen.DffHiddenIdeal.Launch
public import proofs.«01_k».proof.Proof.Gen.DffHiddenIdeal.Points
public import proofs.«01_k».proof.Proof.Gen.DffHiddenIdeal.Frame
public import proofs.«01_k».proof.Proof.Gen.DffHiddenIdeal.Value
public import proofs.«01_k».proof.Proof.Gen.DffHiddenRefIdeal
public import proofs.«01_k».proof.Proof.Gen.DffHiddenRefIdeal.Run
public import proofs.«01_k».proof.Proof.Gen.DffHiddenRefIdeal.Read
public import proofs.«01_k».proof.Proof.Gen.HostMix
public import proofs.«01_k».proof.Proof.Gen.HostMix.Skeleton
public import proofs.«01_k».proof.Proof.Gen.HostMix.Launch
public import proofs.«01_k».proof.Proof.Gen.HostMix.Points
public import proofs.«01_k».proof.Proof.Gen.HostMix.Frame
public import proofs.«01_k».proof.Proof.Gen.HostMixIdeal
public import proofs.«01_k».proof.Proof.Gen.HostMixIdeal.Skeleton
public import proofs.«01_k».proof.Proof.Gen.HostMixIdeal.Launch
public import proofs.«01_k».proof.Proof.Gen.HostMixIdeal.Points
public import proofs.«01_k».proof.Proof.Gen.HostMixIdeal.Frame
public import proofs.«01_k».proof.Proof.Gen.HostMixIdeal.Value
public import proofs.«01_k».proof.Proof.Gen.HostMixRefIdeal
public import proofs.«01_k».proof.Proof.Gen.HostMixRefIdeal.Run
public import proofs.«01_k».proof.Proof.Gen.HostMixRefIdeal.Read
public import proofs.«01_k».proof.Proof.Gen.On_host_mix_last
public import proofs.«01_k».proof.Proof.Gen.MixOutBwd
public import proofs.«01_k».proof.Proof.Gen.MixOutBwd.Skeleton
public import proofs.«01_k».proof.Proof.Gen.MixOutBwd.Launch
public import proofs.«01_k».proof.Proof.Gen.MixOutBwd.Points
public import proofs.«01_k».proof.Proof.Gen.MixOutBwd.Frame
public import proofs.«01_k».proof.Proof.Gen.MixOutBwdIdeal
public import proofs.«01_k».proof.Proof.Gen.MixOutBwdIdeal.Skeleton
public import proofs.«01_k».proof.Proof.Gen.MixOutBwdIdeal.Launch
public import proofs.«01_k».proof.Proof.Gen.MixOutBwdIdeal.Points
public import proofs.«01_k».proof.Proof.Gen.MixOutBwdIdeal.Frame
public import proofs.«01_k».proof.Proof.Gen.MixOutBwdIdeal.Value
public import proofs.«01_k».proof.Proof.Gen.MixOutBwdRefIdeal
public import proofs.«01_k».proof.Proof.Gen.MixOutBwdRefIdeal.Run
public import proofs.«01_k».proof.Proof.Gen.MixOutBwdRefIdeal.Read
public import proofs.«01_k».proof.Proof.Gen.DwFf2
public import proofs.«01_k».proof.Proof.Gen.DwFf2.Skeleton
public import proofs.«01_k».proof.Proof.Gen.DwFf2.Launch
public import proofs.«01_k».proof.Proof.Gen.DwFf2.Points
public import proofs.«01_k».proof.Proof.Gen.DwFf2.Frame
public import proofs.«01_k».proof.Proof.Gen.DwFf2Ideal
public import proofs.«01_k».proof.Proof.Gen.DwFf2Ideal.Skeleton
public import proofs.«01_k».proof.Proof.Gen.DwFf2Ideal.Launch
public import proofs.«01_k».proof.Proof.Gen.DwFf2Ideal.Points
public import proofs.«01_k».proof.Proof.Gen.DwFf2Ideal.Frame
public import proofs.«01_k».proof.Proof.Gen.DwFf2Ideal.Value
public import proofs.«01_k».proof.Proof.Gen.DwFf2RefIdeal
public import proofs.«01_k».proof.Proof.Gen.DwFf2RefIdeal.Run
public import proofs.«01_k».proof.Proof.Gen.DwFf2RefIdeal.Read
public import proofs.«01_k».proof.Proof.Gen.DwFf1
public import proofs.«01_k».proof.Proof.Gen.DwFf1.Skeleton
public import proofs.«01_k».proof.Proof.Gen.DwFf1.Launch
public import proofs.«01_k».proof.Proof.Gen.DwFf1.Points
public import proofs.«01_k».proof.Proof.Gen.DwFf1.Frame
public import proofs.«01_k».proof.Proof.Gen.DwFf1Ideal
public import proofs.«01_k».proof.Proof.Gen.DwFf1Ideal.Skeleton
public import proofs.«01_k».proof.Proof.Gen.DwFf1Ideal.Launch
public import proofs.«01_k».proof.Proof.Gen.DwFf1Ideal.Points
public import proofs.«01_k».proof.Proof.Gen.DwFf1Ideal.Frame
public import proofs.«01_k».proof.Proof.Gen.DwFf1Ideal.Value
public import proofs.«01_k».proof.Proof.Gen.DwFf1RefIdeal
public import proofs.«01_k».proof.Proof.Gen.DwFf1RefIdeal.Run
public import proofs.«01_k».proof.Proof.Gen.DwFf1RefIdeal.Read
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwOutRefIdeal.Read
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.Gen.DwInRefIdeal.Read
public import proofs.«01_k».proof.Proof.Gen.Ff1Bwd
public import proofs.«01_k».proof.Proof.Gen.Ff1Bwd.Skeleton
public import proofs.«01_k».proof.Proof.Gen.Ff1Bwd.Launch
public import proofs.«01_k».proof.Proof.Gen.Ff1Bwd.Points
public import proofs.«01_k».proof.Proof.Gen.Ff1Bwd.Frame
public import proofs.«01_k».proof.Proof.Gen.Ff1BwdIdeal
public import proofs.«01_k».proof.Proof.Gen.Ff1BwdIdeal.Skeleton
public import proofs.«01_k».proof.Proof.Gen.Ff1BwdIdeal.Launch
public import proofs.«01_k».proof.Proof.Gen.Ff1BwdIdeal.Points
public import proofs.«01_k».proof.Proof.Gen.Ff1BwdIdeal.Frame
public import proofs.«01_k».proof.Proof.Gen.Ff1BwdIdeal.Value
public import proofs.«01_k».proof.Proof.Gen.Ff1BwdRefIdeal
public import proofs.«01_k».proof.Proof.Gen.Ff1BwdRefIdeal.Run
public import proofs.«01_k».proof.Proof.Gen.Ff1BwdRefIdeal.Read
public import proofs.«01_k».proof.Proof.Gen.MixOut0
public import proofs.«01_k».proof.Proof.Gen.MixOut0.Skeleton
public import proofs.«01_k».proof.Proof.Gen.MixOut0.Launch
public import proofs.«01_k».proof.Proof.Gen.MixOut0.Points
public import proofs.«01_k».proof.Proof.Gen.MixOut0.Frame
public import proofs.«01_k».proof.Proof.Gen.MixOut0Ideal
public import proofs.«01_k».proof.Proof.Gen.MixOut0Ideal.Skeleton
public import proofs.«01_k».proof.Proof.Gen.MixOut0Ideal.Launch
public import proofs.«01_k».proof.Proof.Gen.MixOut0Ideal.Points
public import proofs.«01_k».proof.Proof.Gen.MixOut0Ideal.Frame
public import proofs.«01_k».proof.Proof.Gen.MixOut0Ideal.Value
public import proofs.«01_k».proof.Proof.Gen.MixOut0RefIdeal
public import proofs.«01_k».proof.Proof.Gen.MixOut0RefIdeal.Run
public import proofs.«01_k».proof.Proof.Gen.MixOut0RefIdeal.Read
public import proofs.«01_k».proof.Proof.Gen.MixOut1
public import proofs.«01_k».proof.Proof.Gen.MixOut1.Skeleton
public import proofs.«01_k».proof.Proof.Gen.MixOut1.Launch
public import proofs.«01_k».proof.Proof.Gen.MixOut1.Points
public import proofs.«01_k».proof.Proof.Gen.MixOut1.Frame
public import proofs.«01_k».proof.Proof.Gen.MixOut1Ideal
public import proofs.«01_k».proof.Proof.Gen.MixOut1Ideal.Skeleton
public import proofs.«01_k».proof.Proof.Gen.MixOut1Ideal.Launch
public import proofs.«01_k».proof.Proof.Gen.MixOut1Ideal.Points
public import proofs.«01_k».proof.Proof.Gen.MixOut1Ideal.Frame
public import proofs.«01_k».proof.Proof.Gen.MixOut1Ideal.Value
public import proofs.«01_k».proof.Proof.Gen.MixOut1RefIdeal
public import proofs.«01_k».proof.Proof.Gen.MixOut1RefIdeal.Run
public import proofs.«01_k».proof.Proof.Gen.MixOut1RefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Ff1
public import proofs.«01_k».proof.Proof.Gen.Ff1.Skeleton
public import proofs.«01_k».proof.Proof.Gen.Ff1.Launch
public import proofs.«01_k».proof.Proof.Gen.Ff1.Points
public import proofs.«01_k».proof.Proof.Gen.Ff1.Frame
public import proofs.«01_k».proof.Proof.Gen.Ff1Ideal
public import proofs.«01_k».proof.Proof.Gen.Ff1Ideal.Skeleton
public import proofs.«01_k».proof.Proof.Gen.Ff1Ideal.Launch
public import proofs.«01_k».proof.Proof.Gen.Ff1Ideal.Points
public import proofs.«01_k».proof.Proof.Gen.Ff1Ideal.Frame
public import proofs.«01_k».proof.Proof.Gen.Ff1Ideal.Value
public import proofs.«01_k».proof.Proof.Gen.Ff1RefIdeal
public import proofs.«01_k».proof.Proof.Gen.Ff1RefIdeal.Run
public import proofs.«01_k».proof.Proof.Gen.Ff1RefIdeal.Read
public import proofs.«01_k».proof.Proof.Gen.Ff2
public import proofs.«01_k».proof.Proof.Gen.Ff2.Skeleton
public import proofs.«01_k».proof.Proof.Gen.Ff2.Launch
public import proofs.«01_k».proof.Proof.Gen.Ff2.Points
public import proofs.«01_k».proof.Proof.Gen.Ff2.Frame
public import proofs.«01_k».proof.Proof.Gen.Ff2Ideal
public import proofs.«01_k».proof.Proof.Gen.Ff2Ideal.Skeleton
public import proofs.«01_k».proof.Proof.Gen.Ff2Ideal.Launch
public import proofs.«01_k».proof.Proof.Gen.Ff2Ideal.Points
public import proofs.«01_k».proof.Proof.Gen.Ff2Ideal.Frame
public import proofs.«01_k».proof.Proof.Gen.Ff2Ideal.Value
public import proofs.«01_k».proof.Proof.Gen.Ff2RefIdeal
public import proofs.«01_k».proof.Proof.Gen.Ff2RefIdeal.Run
public import proofs.«01_k».proof.Proof.Gen.Ff2RefIdeal.Read
public import proofs.«01_k».proof.Proof.Gen.Ln2
public import proofs.«01_k».proof.Proof.Gen.Ln2.Skeleton
public import proofs.«01_k».proof.Proof.Gen.Ln2.Launch
public import proofs.«01_k».proof.Proof.Gen.Ln2.Points
public import proofs.«01_k».proof.Proof.Gen.Ln2.Frame
public import proofs.«01_k».proof.Proof.Gen.Ln2Ideal
public import proofs.«01_k».proof.Proof.Gen.Ln2Ideal.Skeleton
public import proofs.«01_k».proof.Proof.Gen.Ln2Ideal.Launch
public import proofs.«01_k».proof.Proof.Gen.Ln2Ideal.Points
public import proofs.«01_k».proof.Proof.Gen.Ln2Ideal.Frame
public import proofs.«01_k».proof.Proof.Gen.Ln2Ideal.Value
public import proofs.«01_k».proof.Proof.Gen.Ln2RefIdeal
public import proofs.«01_k».proof.Proof.Gen.Ln2RefIdeal.Run
public import proofs.«01_k».proof.Proof.Gen.Ln2RefIdeal.Read
public import proofs.«01_k».proof.Proof.Gen.AdamwOut1
public import proofs.«01_k».proof.Proof.Gen.AdamwOut1.Skeleton
public import proofs.«01_k».proof.Proof.Gen.AdamwOut1.Launch
public import proofs.«01_k».proof.Proof.Gen.AdamwOut1.Points
public import proofs.«01_k».proof.Proof.Gen.AdamwOut1.Frame
public import proofs.«01_k».proof.Proof.Gen.AdamwOut1Ideal
public import proofs.«01_k».proof.Proof.Gen.AdamwOut1Ideal.Skeleton
public import proofs.«01_k».proof.Proof.Gen.AdamwOut1Ideal.Launch
public import proofs.«01_k».proof.Proof.Gen.AdamwOut1Ideal.Points
public import proofs.«01_k».proof.Proof.Gen.AdamwOut1Ideal.Frame
public import proofs.«01_k».proof.Proof.Gen.AdamwOut1Ideal.Value
public import proofs.«01_k».proof.Proof.Gen.AdamwOut1RefIdeal
public import proofs.«01_k».proof.Proof.Gen.AdamwOut1RefIdeal.Run
public import proofs.«01_k».proof.Proof.Gen.AdamwOut1RefIdeal.Read
public import proofs.«01_k».proof.Proof.Gen.On_adamw_out1_last
public import proofs.«01_k».proof.Proof.Gen.AdamwOut0
public import proofs.«01_k».proof.Proof.Gen.AdamwOut0.Skeleton
public import proofs.«01_k».proof.Proof.Gen.AdamwOut0.Launch
public import proofs.«01_k».proof.Proof.Gen.AdamwOut0.Points
public import proofs.«01_k».proof.Proof.Gen.AdamwOut0.Frame
public import proofs.«01_k».proof.Proof.Gen.AdamwOut0Ideal
public import proofs.«01_k».proof.Proof.Gen.AdamwOut0Ideal.Skeleton
public import proofs.«01_k».proof.Proof.Gen.AdamwOut0Ideal.Launch
public import proofs.«01_k».proof.Proof.Gen.AdamwOut0Ideal.Points
public import proofs.«01_k».proof.Proof.Gen.AdamwOut0Ideal.Frame
public import proofs.«01_k».proof.Proof.Gen.AdamwOut0Ideal.Value
public import proofs.«01_k».proof.Proof.Gen.AdamwOut0RefIdeal
public import proofs.«01_k».proof.Proof.Gen.AdamwOut0RefIdeal.Run
public import proofs.«01_k».proof.Proof.Gen.AdamwOut0RefIdeal.Read
public import proofs.«01_k».proof.Proof.Gen.AdamwFf2
public import proofs.«01_k».proof.Proof.Gen.AdamwFf2.Skeleton
public import proofs.«01_k».proof.Proof.Gen.AdamwFf2.Launch
public import proofs.«01_k».proof.Proof.Gen.AdamwFf2.Points
public import proofs.«01_k».proof.Proof.Gen.AdamwFf2.Frame
public import proofs.«01_k».proof.Proof.Gen.AdamwFf2Ideal
public import proofs.«01_k».proof.Proof.Gen.AdamwFf2Ideal.Skeleton
public import proofs.«01_k».proof.Proof.Gen.AdamwFf2Ideal.Launch
public import proofs.«01_k».proof.Proof.Gen.AdamwFf2Ideal.Points
public import proofs.«01_k».proof.Proof.Gen.AdamwFf2Ideal.Frame
public import proofs.«01_k».proof.Proof.Gen.AdamwFf2Ideal.Value
public import proofs.«01_k».proof.Proof.Gen.AdamwFf2RefIdeal
public import proofs.«01_k».proof.Proof.Gen.AdamwFf2RefIdeal.Run
public import proofs.«01_k».proof.Proof.Gen.AdamwFf2RefIdeal.Read
public import proofs.«01_k».proof.Proof.Gen.AdamwIn0
public import proofs.«01_k».proof.Proof.Gen.AdamwIn0.Skeleton
public import proofs.«01_k».proof.Proof.Gen.AdamwIn0.Launch
public import proofs.«01_k».proof.Proof.Gen.AdamwIn0.Points
public import proofs.«01_k».proof.Proof.Gen.AdamwIn0.Frame
public import proofs.«01_k».proof.Proof.Gen.AdamwIn0Ideal
public import proofs.«01_k».proof.Proof.Gen.AdamwIn0Ideal.Skeleton
public import proofs.«01_k».proof.Proof.Gen.AdamwIn0Ideal.Launch
public import proofs.«01_k».proof.Proof.Gen.AdamwIn0Ideal.Points
public import proofs.«01_k».proof.Proof.Gen.AdamwIn0Ideal.Frame
public import proofs.«01_k».proof.Proof.Gen.AdamwIn0Ideal.Value
public import proofs.«01_k».proof.Proof.Gen.AdamwIn0RefIdeal
public import proofs.«01_k».proof.Proof.Gen.AdamwIn0RefIdeal.Run
public import proofs.«01_k».proof.Proof.Gen.AdamwIn0RefIdeal.Read
public import proofs.«01_k».proof.Proof.Gen.AdamwConv
public import proofs.«01_k».proof.Proof.Gen.AdamwConv.Skeleton
public import proofs.«01_k».proof.Proof.Gen.AdamwConv.Launch
public import proofs.«01_k».proof.Proof.Gen.AdamwConv.Points
public import proofs.«01_k».proof.Proof.Gen.AdamwConv.Frame
public import proofs.«01_k».proof.Proof.Gen.AdamwConvIdeal
public import proofs.«01_k».proof.Proof.Gen.AdamwConvIdeal.Skeleton
public import proofs.«01_k».proof.Proof.Gen.AdamwConvIdeal.Launch
public import proofs.«01_k».proof.Proof.Gen.AdamwConvIdeal.Points
public import proofs.«01_k».proof.Proof.Gen.AdamwConvIdeal.Frame
public import proofs.«01_k».proof.Proof.Gen.AdamwConvIdeal.Value
public import proofs.«01_k».proof.Proof.Gen.AdamwConvRefIdeal
public import proofs.«01_k».proof.Proof.Gen.AdamwConvRefIdeal.Run
public import proofs.«01_k».proof.Proof.Gen.AdamwConvRefIdeal.Read
public import proofs.«01_k».proof.Proof.Gen.MixFwd
public import proofs.«01_k».proof.Proof.Gen.MixFwd.Skeleton
public import proofs.«01_k».proof.Proof.Gen.MixFwd.Launch
public import proofs.«01_k».proof.Proof.Gen.MixFwd.Points
public import proofs.«01_k».proof.Proof.Gen.MixFwd.Frame
public import proofs.«01_k».proof.Proof.Gen.MixFwdIdeal
public import proofs.«01_k».proof.Proof.Gen.MixFwdIdeal.Skeleton
public import proofs.«01_k».proof.Proof.Gen.MixFwdIdeal.Launch
public import proofs.«01_k».proof.Proof.Gen.MixFwdIdeal.Points
public import proofs.«01_k».proof.Proof.Gen.MixFwdIdeal.Frame
public import proofs.«01_k».proof.Proof.Gen.MixFwdIdeal.Value
public import proofs.«01_k».proof.Proof.Gen.MixFwdRefIdeal
public import proofs.«01_k».proof.Proof.Gen.MixFwdRefIdeal.Run
public import proofs.«01_k».proof.Proof.Gen.MixFwdRefIdeal.Read
public import proofs.«01_k».proof.Proof.Gen.AdamwReplicated
public import proofs.«01_k».proof.Proof.Gen.AdamwReplicated.Skeleton
public import proofs.«01_k».proof.Proof.Gen.AdamwReplicated.Launch
public import proofs.«01_k».proof.Proof.Gen.AdamwReplicated.Points
public import proofs.«01_k».proof.Proof.Gen.AdamwReplicated.Frame
public import proofs.«01_k».proof.Proof.Gen.AdamwReplicatedIdeal
public import proofs.«01_k».proof.Proof.Gen.AdamwReplicatedIdeal.Skeleton
public import proofs.«01_k».proof.Proof.Gen.AdamwReplicatedIdeal.Launch
public import proofs.«01_k».proof.Proof.Gen.AdamwReplicatedIdeal.Points
public import proofs.«01_k».proof.Proof.Gen.AdamwReplicatedIdeal.Frame
public import proofs.«01_k».proof.Proof.Gen.AdamwReplicatedIdeal.Value
public import proofs.«01_k».proof.Proof.Gen.AdamwReplicatedRefIdeal
public import proofs.«01_k».proof.Proof.Gen.AdamwReplicatedRefIdeal.Run
public import proofs.«01_k».proof.Proof.Gen.AdamwReplicatedRefIdeal.Read
public import proofs.«01_k».proof.Proof.Gen.Ln1Bwd
public import proofs.«01_k».proof.Proof.Gen.Ln1Bwd.Skeleton
public import proofs.«01_k».proof.Proof.Gen.Ln1Bwd.Launch
public import proofs.«01_k».proof.Proof.Gen.Ln1Bwd.Points
public import proofs.«01_k».proof.Proof.Gen.Ln1Bwd.Frame
public import proofs.«01_k».proof.Proof.Gen.Ln1BwdIdeal
public import proofs.«01_k».proof.Proof.Gen.Ln1BwdIdeal.Skeleton
public import proofs.«01_k».proof.Proof.Gen.Ln1BwdIdeal.Launch
public import proofs.«01_k».proof.Proof.Gen.Ln1BwdIdeal.Points
public import proofs.«01_k».proof.Proof.Gen.Ln1BwdIdeal.Frame
public import proofs.«01_k».proof.Proof.Gen.Ln1BwdIdeal.Value
public import proofs.«01_k».proof.Proof.Gen.Ln1BwdRefIdeal
public import proofs.«01_k».proof.Proof.Gen.Ln1BwdRefIdeal.Run
public import proofs.«01_k».proof.Proof.Gen.Ln1BwdRefIdeal.Read
public import proofs.«01_k».proof.Proof.Gen.On_ln1_bwd_sums
public import proofs.«01_k».proof.Proof.Gen.Ln2Last
public import proofs.«01_k».proof.Proof.Gen.Ln2Last.Skeleton
public import proofs.«01_k».proof.Proof.Gen.Ln2Last.Launch
public import proofs.«01_k».proof.Proof.Gen.Ln2Last.Points
public import proofs.«01_k».proof.Proof.Gen.Ln2Last.Frame
public import proofs.«01_k».proof.Proof.Gen.Ln2LastIdeal
public import proofs.«01_k».proof.Proof.Gen.Ln2LastIdeal.Skeleton
public import proofs.«01_k».proof.Proof.Gen.Ln2LastIdeal.Launch
public import proofs.«01_k».proof.Proof.Gen.Ln2LastIdeal.Points
public import proofs.«01_k».proof.Proof.Gen.Ln2LastIdeal.Frame
public import proofs.«01_k».proof.Proof.Gen.Ln2LastIdeal.Value
public import proofs.«01_k».proof.Proof.Gen.Ln2LastRefIdeal
public import proofs.«01_k».proof.Proof.Gen.Ln2LastRefIdeal.Run
public import proofs.«01_k».proof.Proof.Gen.Ln2LastRefIdeal.Read
public import proofs.«01_k».proof.Proof.Gen.On_ln2_last_sums
public import proofs.«01_k».proof.Proof.Gen.Ln2Bwd
public import proofs.«01_k».proof.Proof.Gen.Ln2Bwd.Skeleton
public import proofs.«01_k».proof.Proof.Gen.Ln2Bwd.Launch
public import proofs.«01_k».proof.Proof.Gen.Ln2Bwd.Points
public import proofs.«01_k».proof.Proof.Gen.Ln2Bwd.Frame
public import proofs.«01_k».proof.Proof.Gen.Ln2BwdIdeal
public import proofs.«01_k».proof.Proof.Gen.Ln2BwdIdeal.Skeleton
public import proofs.«01_k».proof.Proof.Gen.Ln2BwdIdeal.Launch
public import proofs.«01_k».proof.Proof.Gen.Ln2BwdIdeal.Points
public import proofs.«01_k».proof.Proof.Gen.Ln2BwdIdeal.Frame
public import proofs.«01_k».proof.Proof.Gen.Ln2BwdIdeal.Value
public import proofs.«01_k».proof.Proof.Gen.Ln2BwdRefIdeal
public import proofs.«01_k».proof.Proof.Gen.Ln2BwdRefIdeal.Run
public import proofs.«01_k».proof.Proof.Gen.Ln2BwdRefIdeal.Read
public import proofs.«01_k».proof.Proof.Gen.On_ln2_bwd_sums
public import proofs.«01_k».proof.Proof.HostGradX.Claim
public import proofs.«01_k».proof.Proof.HostProj.Claim
public import proofs.«01_k».proof.Proof.HostFf2.Claim
public import proofs.«01_k».proof.Proof.DffHidden.Claim
public import proofs.«01_k».proof.Proof.HostMix.Claim
public import proofs.«01_k».proof.Proof.MixOutBwd.Claim
public import proofs.«01_k».proof.Proof.DwFf2.Claim
public import proofs.«01_k».proof.Proof.DwFf1.Claim
public import proofs.«01_k».proof.Proof.DwOut.Claim
public import proofs.«01_k».proof.Proof.DwIn.Claim
public import proofs.«01_k».proof.Proof.Ff1Bwd.Claim
public import proofs.«01_k».proof.Proof.MixOut0.Claim
public import proofs.«01_k».proof.Proof.MixOut1.Claim
public import proofs.«01_k».proof.Proof.Proj.Claim
public import proofs.«01_k».proof.Proof.Ff1.Claim
public import proofs.«01_k».proof.Proof.Ff2.Claim
public import proofs.«01_k».proof.Proof.Ln2.Claim
public import proofs.«01_k».proof.Proof.AdamwOut1.Claim
public import proofs.«01_k».proof.Proof.AdamwOut0.Claim
public import proofs.«01_k».proof.Proof.AdamwFf2.Claim
public import proofs.«01_k».proof.Proof.AdamwIn0.Claim
public import proofs.«01_k».proof.Proof.AdamwConv.Claim
public import proofs.«01_k».proof.Proof.MixFwd.Claim
public import proofs.«01_k».proof.Proof.AdamwReplicated.Claim
public import proofs.«01_k».proof.Proof.Ln1Bwd.Claim
public import proofs.«01_k».proof.Proof.Ln2Last.Claim
public import proofs.«01_k».proof.Proof.Ln2Bwd.Claim
public import Idealize.ShloMosaic.Lib.Claim
public import Idealize.ShloMosaic.Adequacy
public import Idealize.ShloMosaic.Init

@[expose] public section

noncomputable section

namespace Cert.Proof

open Idealize.ShloMosaic Idealize.SL.Sem

/-- All claims: the stated facts of the programs, their frames, and each kernel against its reference. -/
theorem claim : Cert.Claim := ⟨
  Cert.HostGradX.Gen.facts, Cert.HostGradXIdeal.Gen.facts, Cert.HostGradXRefIdeal.Gen.facts,
  Cert.HostProj.Gen.facts, Cert.HostProjIdeal.Gen.facts, Cert.HostProjRefIdeal.Gen.facts,
  Cert.HostFf2.Gen.facts, Cert.HostFf2Ideal.Gen.facts, Cert.HostFf2RefIdeal.Gen.facts,
  Cert.DffHidden.Gen.facts, Cert.DffHiddenIdeal.Gen.facts, Cert.DffHiddenRefIdeal.Gen.facts,
  Cert.HostMix.Gen.facts, Cert.HostMixIdeal.Gen.facts, Cert.HostMixRefIdeal.Gen.facts,
  Cert.MixOutBwd.Gen.facts, Cert.MixOutBwdIdeal.Gen.facts, Cert.MixOutBwdRefIdeal.Gen.facts,
  Cert.DwFf2.Gen.facts, Cert.DwFf2Ideal.Gen.facts, Cert.DwFf2RefIdeal.Gen.facts,
  Cert.DwFf1.Gen.facts, Cert.DwFf1Ideal.Gen.facts, Cert.DwFf1RefIdeal.Gen.facts,
  Cert.DwOut.Gen.facts, Cert.DwOutIdeal.Gen.facts, Cert.DwOutRefIdeal.Gen.facts,
  Cert.DwIn.Gen.facts, Cert.DwInIdeal.Gen.facts, Cert.DwInRefIdeal.Gen.facts,
  Cert.Ff1Bwd.Gen.facts, Cert.Ff1BwdIdeal.Gen.facts, Cert.Ff1BwdRefIdeal.Gen.facts,
  Cert.MixOut0.Gen.facts, Cert.MixOut0Ideal.Gen.facts, Cert.MixOut0RefIdeal.Gen.facts,
  Cert.MixOut1.Gen.facts, Cert.MixOut1Ideal.Gen.facts, Cert.MixOut1RefIdeal.Gen.facts,
  Cert.Proj.Gen.facts, Cert.ProjIdeal.Gen.facts, Cert.ProjRefIdeal.Gen.facts,
  Cert.Ff1.Gen.facts, Cert.Ff1Ideal.Gen.facts, Cert.Ff1RefIdeal.Gen.facts,
  Cert.Ff2.Gen.facts, Cert.Ff2Ideal.Gen.facts, Cert.Ff2RefIdeal.Gen.facts,
  Cert.Ln2.Gen.facts, Cert.Ln2Ideal.Gen.facts, Cert.Ln2RefIdeal.Gen.facts,
  Cert.AdamwOut1.Gen.facts, Cert.AdamwOut1Ideal.Gen.facts, Cert.AdamwOut1RefIdeal.Gen.facts,
  Cert.AdamwOut0.Gen.facts, Cert.AdamwOut0Ideal.Gen.facts, Cert.AdamwOut0RefIdeal.Gen.facts,
  Cert.AdamwFf2.Gen.facts, Cert.AdamwFf2Ideal.Gen.facts, Cert.AdamwFf2RefIdeal.Gen.facts,
  Cert.AdamwIn0.Gen.facts, Cert.AdamwIn0Ideal.Gen.facts, Cert.AdamwIn0RefIdeal.Gen.facts,
  Cert.AdamwConv.Gen.facts, Cert.AdamwConvIdeal.Gen.facts, Cert.AdamwConvRefIdeal.Gen.facts,
  Cert.MixFwd.Gen.facts, Cert.MixFwdIdeal.Gen.facts, Cert.MixFwdRefIdeal.Gen.facts,
  Cert.AdamwReplicated.Gen.facts, Cert.AdamwReplicatedIdeal.Gen.facts, Cert.AdamwReplicatedRefIdeal.Gen.facts,
  Cert.Ln1Bwd.Gen.facts, Cert.Ln1BwdIdeal.Gen.facts, Cert.Ln1BwdRefIdeal.Gen.facts,
  Cert.Ln2Last.Gen.facts, Cert.Ln2LastIdeal.Gen.facts, Cert.Ln2LastRefIdeal.Gen.facts,
  Cert.Ln2Bwd.Gen.facts, Cert.Ln2BwdIdeal.Gen.facts, Cert.Ln2BwdRefIdeal.Gen.facts,
  Cert.On_host_proj_last.Gen.facts,
  Cert.On_host_ff2_last.Gen.facts,
  Cert.On_host_mix_last.Gen.facts,
  Cert.On_adamw_out1_last.Gen.facts,
  Cert.On_ln1_bwd_sums.Gen.facts,
  Cert.On_ln2_last_sums.Gen.facts,
  Cert.On_ln2_bwd_sums.Gen.facts,
  fun m ρ _ => Cert.HostGradX.Gen.frame m ρ, fun m ρ _ => Cert.HostGradXIdeal.Gen.frame m ρ, Cert.HostGradXIdeal.Hand.frame_ref,
  fun m ρ _ => Cert.HostProj.Gen.frame m ρ, fun m ρ _ => Cert.HostProjIdeal.Gen.frame m ρ, Cert.HostProjIdeal.Hand.frame_ref,
  fun m ρ _ => Cert.HostFf2.Gen.frame m ρ, fun m ρ _ => Cert.HostFf2Ideal.Gen.frame m ρ, Cert.HostFf2Ideal.Hand.frame_ref,
  fun m ρ _ => Cert.DffHidden.Gen.frame m ρ, fun m ρ _ => Cert.DffHiddenIdeal.Gen.frame m ρ, Cert.DffHiddenIdeal.Hand.frame_ref,
  fun m ρ _ => Cert.HostMix.Gen.frame m ρ, fun m ρ _ => Cert.HostMixIdeal.Gen.frame m ρ, Cert.HostMixIdeal.Hand.frame_ref,
  fun m ρ _ => Cert.MixOutBwd.Gen.frame m ρ, fun m ρ _ => Cert.MixOutBwdIdeal.Gen.frame m ρ, Cert.MixOutBwdIdeal.Hand.frame_ref,
  fun m ρ _ => Cert.DwFf2.Gen.frame m ρ, fun m ρ _ => Cert.DwFf2Ideal.Gen.frame m ρ, Cert.DwFf2Ideal.Hand.frame_ref,
  fun m ρ _ => Cert.DwFf1.Gen.frame m ρ, fun m ρ _ => Cert.DwFf1Ideal.Gen.frame m ρ, Cert.DwFf1Ideal.Hand.frame_ref,
  fun m ρ _ => Cert.DwOut.Gen.frame m ρ, fun m ρ _ => Cert.DwOutIdeal.Gen.frame m ρ, Cert.DwOutIdeal.Hand.frame_ref,
  fun m ρ _ => Cert.DwIn.Gen.frame m ρ, fun m ρ _ => Cert.DwInIdeal.Gen.frame m ρ, Cert.DwInIdeal.Hand.frame_ref,
  fun m ρ _ => Cert.Ff1Bwd.Gen.frame m ρ, fun m ρ _ => Cert.Ff1BwdIdeal.Gen.frame m ρ, Cert.Ff1BwdIdeal.Hand.frame_ref,
  fun m ρ _ => Cert.MixOut0.Gen.frame m ρ, fun m ρ _ => Cert.MixOut0Ideal.Gen.frame m ρ, Cert.MixOut0Ideal.Hand.frame_ref,
  fun m ρ _ => Cert.MixOut1.Gen.frame m ρ, fun m ρ _ => Cert.MixOut1Ideal.Gen.frame m ρ, Cert.MixOut1Ideal.Hand.frame_ref,
  fun m ρ _ => Cert.Proj.Gen.frame m ρ, fun m ρ _ => Cert.ProjIdeal.Gen.frame m ρ, Cert.ProjIdeal.Hand.frame_ref,
  fun m ρ _ => Cert.Ff1.Gen.frame m ρ, fun m ρ _ => Cert.Ff1Ideal.Gen.frame m ρ, Cert.Ff1Ideal.Hand.frame_ref,
  fun m ρ _ => Cert.Ff2.Gen.frame m ρ, fun m ρ _ => Cert.Ff2Ideal.Gen.frame m ρ, Cert.Ff2Ideal.Hand.frame_ref,
  fun m ρ _ => Cert.Ln2.Gen.frame m ρ, fun m ρ _ => Cert.Ln2Ideal.Gen.frame m ρ, Cert.Ln2Ideal.Hand.frame_ref,
  fun m ρ _ => Cert.AdamwOut1.Gen.frame m ρ, fun m ρ _ => Cert.AdamwOut1Ideal.Gen.frame m ρ, Cert.AdamwOut1Ideal.Hand.frame_ref,
  fun m ρ _ => Cert.AdamwOut0.Gen.frame m ρ, fun m ρ _ => Cert.AdamwOut0Ideal.Gen.frame m ρ, Cert.AdamwOut0Ideal.Hand.frame_ref,
  fun m ρ _ => Cert.AdamwFf2.Gen.frame m ρ, fun m ρ _ => Cert.AdamwFf2Ideal.Gen.frame m ρ, Cert.AdamwFf2Ideal.Hand.frame_ref,
  fun m ρ _ => Cert.AdamwIn0.Gen.frame m ρ, fun m ρ _ => Cert.AdamwIn0Ideal.Gen.frame m ρ, Cert.AdamwIn0Ideal.Hand.frame_ref,
  fun m ρ _ => Cert.AdamwConv.Gen.frame m ρ, fun m ρ _ => Cert.AdamwConvIdeal.Gen.frame m ρ, Cert.AdamwConvIdeal.Hand.frame_ref,
  fun m ρ _ => Cert.MixFwd.Gen.frame m ρ, fun m ρ _ => Cert.MixFwdIdeal.Gen.frame m ρ, Cert.MixFwdIdeal.Hand.frame_ref,
  fun m ρ _ => Cert.AdamwReplicated.Gen.frame m ρ, fun m ρ _ => Cert.AdamwReplicatedIdeal.Gen.frame m ρ, Cert.AdamwReplicatedIdeal.Hand.frame_ref,
  fun m ρ _ => Cert.Ln1Bwd.Gen.frame m ρ, fun m ρ _ => Cert.Ln1BwdIdeal.Gen.frame m ρ, Cert.Ln1BwdIdeal.Hand.frame_ref,
  fun m ρ _ => Cert.Ln2Last.Gen.frame m ρ, fun m ρ _ => Cert.Ln2LastIdeal.Gen.frame m ρ, Cert.Ln2LastIdeal.Hand.frame_ref,
  fun m ρ _ => Cert.Ln2Bwd.Gen.frame m ρ, fun m ρ _ => Cert.Ln2BwdIdeal.Gen.frame m ρ, Cert.Ln2BwdIdeal.Hand.frame_ref,
  trivial, Cert.HostGradXIdeal.Hand.algebraic,
  trivial, Cert.HostProjIdeal.Hand.algebraic,
  trivial, Cert.HostFf2Ideal.Hand.algebraic,
  trivial, Cert.DffHiddenIdeal.Hand.algebraic,
  trivial, Cert.HostMixIdeal.Hand.algebraic,
  trivial, Cert.MixOutBwdIdeal.Hand.algebraic,
  trivial, Cert.DwFf2Ideal.Hand.algebraic,
  trivial, Cert.DwFf1Ideal.Hand.algebraic,
  trivial, Cert.DwOutIdeal.Hand.algebraic,
  trivial, Cert.DwInIdeal.Hand.algebraic,
  trivial, Cert.Ff1BwdIdeal.Hand.algebraic,
  trivial, Cert.MixOut0Ideal.Hand.algebraic,
  trivial, Cert.MixOut1Ideal.Hand.algebraic,
  trivial, Cert.ProjIdeal.Hand.algebraic,
  trivial, Cert.Ff1Ideal.Hand.algebraic,
  trivial, Cert.Ff2Ideal.Hand.algebraic,
  trivial, Cert.Ln2Ideal.Hand.algebraic,
  trivial, Cert.AdamwOut1Ideal.Hand.algebraic,
  trivial, Cert.AdamwOut0Ideal.Hand.algebraic,
  trivial, Cert.AdamwFf2Ideal.Hand.algebraic,
  trivial, Cert.AdamwIn0Ideal.Hand.algebraic,
  trivial, Cert.AdamwConvIdeal.Hand.algebraic,
  trivial, Cert.MixFwdIdeal.Hand.algebraic,
  trivial, Cert.AdamwReplicatedIdeal.Hand.algebraic,
  trivial, Cert.Ln1BwdIdeal.Hand.algebraic,
  trivial, Cert.Ln2LastIdeal.Hand.algebraic,
  trivial, Cert.Ln2BwdIdeal.Hand.algebraic⟩

end Cert.Proof

end
